-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite_qkv [hPre_finite_qkv : Cert.Pre_finite_qkv.Facts] (m : (ℓ : Loc Cert.RetIdeal.nD Cert.RetIdeal.τ Cert.RetIdeal.sig) → Buf (Elt Ideal) ℓ) : Prop :=
  ∀ c : Dev Cert.RetIdeal.nD,
    (Cert.Pre_finite_qkv.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite_qkv [hPre_finite_qkv : Cert.Pre_finite_qkv.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite_qkv.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1))) = (fun _ => 1#1)

def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaIdeal_finite_scores [hPre_finite_scores : Cert.Pre_finite_scores.Facts] (m : (ℓ : Loc Cert.XaIdeal.nD Cert.XaIdeal.τ Cert.XaIdeal.sig) → Buf (Elt Ideal) ℓ) : Prop :=
  ∀ c : Dev Cert.XaIdeal.nD,
    (Cert.Pre_finite_scores.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3)) (m ((c.tc : Thread Cert.XaIdeal.nD Cert.XaIdeal.τ).loc Cert.XaIdeal.main_arg4))) = (fun _ => 1#1)

def Pre_XaRefIdeal (m : (ℓ : Loc Cert.XaRefIdeal.nD Cert.XaRefIdeal.τ Cert.XaRefIdeal.sig) → Buf (Elt Ideal) ℓ) : Prop :=
  True

def Pre_XaRefIdeal_finite_scores [hPre_finite_scores : Cert.Pre_finite_scores.Facts] (m : (ℓ : Loc Cert.XaRefIdeal.nD Cert.XaRefIdeal.τ Cert.XaRefIdeal.sig) → Buf (Elt Ideal) ℓ) : Prop :=
  ∀ c : Dev Cert.XaRefIdeal.nD,
    (Cert.Pre_finite_scores.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3)) (m ((c.tc : Thread Cert.XaRefIdeal.nD Cert.XaRefIdeal.τ).loc Cert.XaRefIdeal.main_arg4))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_ssd [hPre_finite_ssd : Cert.Pre_finite_ssd.Facts] (m : (ℓ : Loc Cert.SsdIdeal.nD Cert.SsdIdeal.τ Cert.SsdIdeal.sig) → Buf (Elt Ideal) ℓ) : Prop :=
  ∀ c : Dev Cert.SsdIdeal.nD,
    (Cert.Pre_finite_ssd.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_ssd [hPre_finite_ssd : Cert.Pre_finite_ssd.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7))) = (fun _ => 1#1)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetIdeal_pre_finite_qkv [hRetIdeal : Cert.RetIdeal.Facts] [hPre_finite_qkv : Cert.Pre_finite_qkv.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite_qkv m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_RetRefIdeal_pre_finite_qkv [hRetRefIdeal : Cert.RetRefIdeal.Facts] [hPre_finite_qkv : Cert.Pre_finite_qkv.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite_qkv m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2)
      ∧ r.2.mem ((c.tc : Thread Cert.Xa.nD Cert.Xa.τ).loc Cert.Xa.main_arg3) = m ((c.tc : Thread Cert.Xa.nD Cert.Xa.τ).loc Cert.Xa.main_arg3)
      ∧ r.2.mem ((c.tc : Thread Cert.Xa.nD Cert.Xa.τ).loc Cert.Xa.main_arg4) = m ((c.tc : Thread Cert.Xa.nD Cert.Xa.τ).loc Cert.Xa.main_arg4))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4))
      ∧ r.2.sem = fun _ => 0)

def quiescent_XaIdeal_pre_finite_scores [hXaIdeal : Cert.XaIdeal.Facts] [hPre_finite_scores : Cert.Pre_finite_scores.Facts] : Prop :=
  ∀ (m : (ℓ : Loc Cert.XaIdeal.nD Cert.XaIdeal.τ Cert.XaIdeal.sig) → Buf (Elt Ideal) ℓ) (g : Dev Cert.XaIdeal.nD → PrngReg), Pre_XaIdeal_finite_scores m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4))
      ∧ r.2.sem = fun _ => 0)

def quiescent_XaRefIdeal_pre_finite_scores [hXaRefIdeal : Cert.XaRefIdeal.Facts] [hPre_finite_scores : Cert.Pre_finite_scores.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal_finite_scores m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdIdeal_pre_finite_ssd [hSsdIdeal : Cert.SsdIdeal.Facts] [hPre_finite_ssd : Cert.Pre_finite_ssd.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_ssd m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def quiescent_SsdRefIdeal_pre_finite_ssd [hSsdRefIdeal : Cert.SsdRefIdeal.Facts] [hPre_finite_ssd : Cert.Pre_finite_ssd.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_ssd m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def preserves_Ret_RetIdeal : Prop :=
  IdealRules.named_const.Statement Cert.RetIdeal.κ "lg0" .f32 0xBD020AEC#32 ((Real.log (31 / 32) : ℝ) : EReal)
  ∧ IdealRules.named_const.Statement Cert.RetIdeal.κ "lg1" .f32 0xBC8102B3#32 ((Real.log (63 / 64) : ℝ) : EReal)
  ∧ IdealRules.named_const.Statement Cert.RetIdeal.κ "lg2" .f32 0xBC0080AC#32 ((Real.log (127 / 128) : ℝ) : EReal)
  ∧ IdealRules.named_const.Statement Cert.RetIdeal.κ "lg3" .f32 0xBB80402B#32 ((Real.log (255 / 256) : ℝ) : EReal)
  ∧ IdealRules.named_const.Statement Cert.RetIdeal.κ "gc0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.RetIdeal.κ "gc1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.RetIdeal.κ "gc2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.RetIdeal.κ "gc3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_RetIdeal_RetRefIdeal_pre_finite_qkv [hRetIdeal : Cert.RetIdeal.Facts] [hRetRefIdeal : Cert.RetRefIdeal.Facts] [hPre_finite_qkv : Cert.Pre_finite_qkv.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite_qkv m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v18)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v18) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v114) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Xa_XaIdeal : Prop :=
  True

def algebraic_XaIdeal_XaRefIdeal_pre_finite_scores [hXaIdeal : Cert.XaIdeal.Facts] [hXaRefIdeal : Cert.XaRefIdeal.Facts] [hPre_finite_scores : Cert.Pre_finite_scores.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaIdeal_finite_scores m →
    (∀ c : Dev Cert.XaIdeal.nD,
      m' ((c.tc : Thread Cert.XaRefIdeal.nD Cert.XaRefIdeal.τ).loc Cert.XaRefIdeal.main_arg0) = m ((c.tc : Thread Cert.XaIdeal.nD Cert.XaIdeal.τ).loc Cert.XaIdeal.main_arg0)
      ∧ m' ((c.tc : Thread Cert.XaRefIdeal.nD Cert.XaRefIdeal.τ).loc Cert.XaRefIdeal.main_arg1) = m ((c.tc : Thread Cert.XaIdeal.nD Cert.XaIdeal.τ).loc Cert.XaIdeal.main_arg1)
      ∧ m' ((c.tc : Thread Cert.XaRefIdeal.nD Cert.XaRefIdeal.τ).loc Cert.XaRefIdeal.main_arg2) = m ((c.tc : Thread Cert.XaIdeal.nD Cert.XaIdeal.τ).loc Cert.XaIdeal.main_arg2)
      ∧ m' ((c.tc : Thread Cert.XaRefIdeal.nD Cert.XaRefIdeal.τ).loc Cert.XaRefIdeal.main_arg3) = m ((c.tc : Thread Cert.XaIdeal.nD Cert.XaIdeal.τ).loc Cert.XaIdeal.main_arg3)
      ∧ m' ((c.tc : Thread Cert.XaRefIdeal.nD Cert.XaRefIdeal.τ).loc Cert.XaRefIdeal.main_arg4) = m ((c.tc : Thread Cert.XaIdeal.nD Cert.XaIdeal.τ).loc Cert.XaIdeal.main_arg4)) →
    ∃ (v0 : (c : Dev Cert.XaIdeal.nD) → Buf (Elt Ideal) ((c.tc : Thread Cert.XaIdeal.nD Cert.XaIdeal.τ).loc Cert.XaIdeal.main_v1)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v1) = v0 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
          ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
          ∧ r.2.mem ((c.tc : Thread Cert.XaIdeal.nD Cert.XaIdeal.τ).loc Cert.XaIdeal.main_arg4) = m ((c.tc : Thread Cert.XaIdeal.nD Cert.XaIdeal.τ).loc Cert.XaIdeal.main_arg4))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v45) = v0 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2)
          ∧ r.2.mem ((c.tc : Thread Cert.XaRefIdeal.nD Cert.XaRefIdeal.τ).loc Cert.XaRefIdeal.main_arg3) = m' ((c.tc : Thread Cert.XaRefIdeal.nD Cert.XaRefIdeal.τ).loc Cert.XaRefIdeal.main_arg3)
          ∧ r.2.mem ((c.tc : Thread Cert.XaRefIdeal.nD Cert.XaRefIdeal.τ).loc Cert.XaRefIdeal.main_arg4) = m' ((c.tc : Thread Cert.XaRefIdeal.nD Cert.XaRefIdeal.τ).loc Cert.XaRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v17) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v17) = v0 c
          ∧ r.2.mem ((c.tc : Thread Cert.InRefIdeal.nD Cert.InRefIdeal.τ).loc Cert.InRefIdeal.main_v21) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v51) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v5)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v64) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6))

def preserves_Ssd_SsdIdeal : Prop :=
  True

def algebraic_SsdIdeal_SsdRefIdeal_pre_finite_ssd [hSsdIdeal : Cert.SsdIdeal.Facts] [hSsdRefIdeal : Cert.SsdRefIdeal.Facts] [hPre_finite_ssd : Cert.Pre_finite_ssd.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite_ssd m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)) →
    ∃ (v0 : (c : Dev Cert.SsdIdeal.nD) → Buf (Elt Ideal) ((c.tc : Thread Cert.SsdIdeal.nD Cert.SsdIdeal.τ).loc Cert.SsdIdeal.main_v9)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v9) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v106) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7))

def Claim : Prop :=
  ∃ (hRet : Cert.Ret.Facts) (hRetIdeal : Cert.RetIdeal.Facts) (hRetRefIdeal : Cert.RetRefIdeal.Facts) (hXa : Cert.Xa.Facts) (hXaIdeal : Cert.XaIdeal.Facts) (hXaRefIdeal : Cert.XaRefIdeal.Facts) (hOut : Cert.Out.Facts) (hOutIdeal : Cert.OutIdeal.Facts) (hOutRefIdeal : Cert.OutRefIdeal.Facts) (hKv : Cert.Kv.Facts) (hKvIdeal : Cert.KvIdeal.Facts) (hKvRefIdeal : Cert.KvRefIdeal.Facts) (hIn : Cert.In.Facts) (hInIdeal : Cert.InIdeal.Facts) (hInRefIdeal : Cert.InRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hSsd : Cert.Ssd.Facts) (hSsdIdeal : Cert.SsdIdeal.Facts) (hSsdRefIdeal : Cert.SsdRefIdeal.Facts) (hPre_finite_qkv : Cert.Pre_finite_qkv.Facts) (hPre_finite_scores : Cert.Pre_finite_scores.Facts) (hPre_finite_ssd : Cert.Pre_finite_ssd.Facts),
    quiescent_Ret (hRet := hRet)
    ∧ quiescent_RetIdeal (hRetIdeal := hRetIdeal)
    ∧ quiescent_RetIdeal_pre_finite_qkv (hRetIdeal := hRetIdeal) (hPre_finite_qkv := hPre_finite_qkv)
    ∧ quiescent_RetRefIdeal (hRetRefIdeal := hRetRefIdeal)
    ∧ quiescent_RetRefIdeal_pre_finite_qkv (hRetRefIdeal := hRetRefIdeal) (hPre_finite_qkv := hPre_finite_qkv)
    ∧ quiescent_Xa (hXa := hXa)
    ∧ quiescent_XaIdeal (hXaIdeal := hXaIdeal)
    ∧ quiescent_XaIdeal_pre_finite_scores (hXaIdeal := hXaIdeal) (hPre_finite_scores := hPre_finite_scores)
    ∧ quiescent_XaRefIdeal (hXaRefIdeal := hXaRefIdeal)
    ∧ quiescent_XaRefIdeal_pre_finite_scores (hXaRefIdeal := hXaRefIdeal) (hPre_finite_scores := hPre_finite_scores)
    ∧ quiescent_Out (hOut := hOut)
    ∧ quiescent_OutIdeal (hOutIdeal := hOutIdeal)
    ∧ quiescent_OutRefIdeal (hOutRefIdeal := hOutRefIdeal)
    ∧ quiescent_Kv (hKv := hKv)
    ∧ quiescent_KvIdeal (hKvIdeal := hKvIdeal)
    ∧ quiescent_KvRefIdeal (hKvRefIdeal := hKvRefIdeal)
    ∧ quiescent_In (hIn := hIn)
    ∧ quiescent_InIdeal (hInIdeal := hInIdeal)
    ∧ quiescent_InRefIdeal (hInRefIdeal := hInRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Ssd (hSsd := hSsd)
    ∧ quiescent_SsdIdeal (hSsdIdeal := hSsdIdeal)
    ∧ quiescent_SsdIdeal_pre_finite_ssd (hSsdIdeal := hSsdIdeal) (hPre_finite_ssd := hPre_finite_ssd)
    ∧ quiescent_SsdRefIdeal (hSsdRefIdeal := hSsdRefIdeal)
    ∧ quiescent_SsdRefIdeal_pre_finite_ssd (hSsdRefIdeal := hSsdRefIdeal) (hPre_finite_ssd := hPre_finite_ssd)
    ∧ preserves_Ret_RetIdeal
    ∧ algebraic_RetIdeal_RetRefIdeal_pre_finite_qkv (hRetIdeal := hRetIdeal) (hRetRefIdeal := hRetRefIdeal) (hPre_finite_qkv := hPre_finite_qkv)
    ∧ preserves_Xa_XaIdeal
    ∧ algebraic_XaIdeal_XaRefIdeal_pre_finite_scores (hXaIdeal := hXaIdeal) (hXaRefIdeal := hXaRefIdeal) (hPre_finite_scores := hPre_finite_scores)
    ∧ preserves_Out_OutIdeal
    ∧ algebraic_OutIdeal_OutRefIdeal (hOutIdeal := hOutIdeal) (hOutRefIdeal := hOutRefIdeal)
    ∧ preserves_Kv_KvIdeal
    ∧ algebraic_KvIdeal_KvRefIdeal (hKvIdeal := hKvIdeal) (hKvRefIdeal := hKvRefIdeal)
    ∧ preserves_In_InIdeal
    ∧ algebraic_InIdeal_InRefIdeal (hInIdeal := hInIdeal) (hInRefIdeal := hInRefIdeal)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Ssd_SsdIdeal
    ∧ algebraic_SsdIdeal_SsdRefIdeal_pre_finite_ssd (hSsdIdeal := hSsdIdeal) (hSsdRefIdeal := hSsdRefIdeal) (hPre_finite_ssd := hPre_finite_ssd)
-- ==== Pre_finite_qkv.lean ====
abbrev S32768x6656 : Shape := ⟨2, ![32768, 6656]⟩
abbrev S512 : Shape := ⟨1, ![512]⟩
abbrev S_ : Shape := ⟨0, ![]⟩

class Facts : Prop where
  bitsLt_bf16_f32 : FTy.bits .bf16 < FTy.bits .f32
  bcast_S_S32768x6656 : S_.BroadcastsInDim S32768x6656 (![] : Fin 0 → Fin S32768x6656.rank)

variable [Facts]

def fn {F : FTy → Type} [FloatOps F] (main_arg0 : FVec F S32768x6656 .bf16) (main_arg1 : FVec F S512 .f32) : IVec S32768x6656 1 :=
  let main_v0 : FVec F S32768x6656 .f32 := (extf .f32 · bitsLt_bf16_f32) main_arg0
  let main_v1 : IVec S32768x6656 32 := iotaInDim S32768x6656 32 1
  let main_c : IVec S_ 32 := constantI S_ 32 4608#32
  let main_v2 : IVec S32768x6656 32 := broadcastInDim S32768x6656 ![] bcast_S_S32768x6656 main_c
  let main_v3 : IVec S32768x6656 1 := cmpi .slt main_v1 main_v2
  let main_c_0 : IVec S_ 32 := constantI S_ 32 6144#32
  let main_v4 : IVec S32768x6656 32 := broadcastInDim S32768x6656 ![] bcast_S_S32768x6656 main_c_0
  let main_v5 : IVec S32768x6656 1 := cmpi .sge main_v1 main_v4
  let main_v6 : IVec S32768x6656 1 := ori main_v3 main_v5
  let main_v7 : FVec F S32768x6656 .f32 := Host.absf main_v0
  let main_cst : FVec F S_ .f32 := constant S_ .f32 0x7F800000#32
  let main_v8 : FVec F S32768x6656 .f32 := broadcastInDim S32768x6656 ![] bcast_S_S32768x6656 main_cst
  let main_v9 : IVec S32768x6656 1 := cmpf .olt main_v7 main_v8
  let main_v10 : IVec S32768x6656 1 := ori main_v6 main_v9
  main_v10
-- ==== Pre_finite_scores.lean ====
abbrev S32768x2048 : Shape := ⟨2, ![32768, 2048]⟩
abbrev S2048 : Shape := ⟨1, ![2048]⟩
abbrev S4x2048x512 : Shape := ⟨3, ![4, 2048, 512]⟩
abbrev S2048x1024 : Shape := ⟨2, ![2048, 1024]⟩
abbrev S4x512x2048 : Shape := ⟨3, ![4, 512, 2048]⟩
abbrev S1x2048x512 : Shape := ⟨3, ![1, 2048, 512]⟩
abbrev S2048x512 : Shape := ⟨2, ![2048, 512]⟩
abbrev S2048x1 : Shape := ⟨2, ![2048, 1]⟩
abbrev S_ : Shape := ⟨0, ![]⟩

class Facts : Prop where
  slices_S4x2048x512_S1x2048x512_0_0_0 : S4x2048x512.Slices ![0, 0, 0] S1x2048x512
  shapeCasts_S1x2048x512_S2048x512 : S1x2048x512.ShapeCasts S2048x512
  bitsLt_bf16_f32 : FTy.bits .bf16 < FTy.bits .f32
  concatenates_S2048x512_S2048x512_S2048x1024_d1 : Shape.Concatenates [S2048x512, S2048x512] S2048x1024 1
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x1024 : S_.BroadcastsInDim S2048x1024 (![] : Fin 0 → Fin S2048x1024.rank)
  bcast_S2048x1_S2048x1024_0_1 : S2048x1.BroadcastsInDim S2048x1024 (![0, 1] : Fin 2 → Fin S2048x1024.rank)

variable [Facts]

def fn_part1 {F : FTy → Type} [FloatOps F] (main_v13 : IVec S2048x1024 1) (main_v15 : IVec S2048x1024 1) (main_v19 : IVec S2048x1024 1) : IVec S2048x1024 1 :=
  let main_v20 : IVec S2048x1024 1 := ori main_v15 main_v19
  let main_v21 : IVec S2048x1024 1 := andi main_v13 main_v20
  main_v21

def fn {F : FTy → Type} [FloatOps F] (main_arg0 : FVec F S32768x2048 .f32) (main_arg1 : FVec F S2048 .f32) (main_arg2 : FVec F S4x2048x512 .bf16) (main_arg3 : FVec F S2048x1024 .bf16) (main_arg4 : FVec F S4x512x2048 .bf16) : IVec S2048x1024 1 :=
  let main_v0 : IVec S2048x1024 32 := iotaInDim S2048x1024 32 1
  let main_v1 : FVec F S1x2048x512 .bf16 := (extractStridedSlice S1x2048x512 ![0, 0, 0] · slices_S4x2048x512_S1x2048x512_0_0_0) main_arg2
  let main_v2 : FVec F S2048x512 .bf16 := shapeCast S2048x512 main_v1 shapeCasts_S1x2048x512_S2048x512
  let main_v3 : FVec F S2048x512 .f32 := (extf .f32 · bitsLt_bf16_f32) main_v2
  let main_v4 : FVec F S2048x1024 .f32 := (fun a b => concatenate S2048x1024 1 [⟨S2048x512, a⟩, ⟨S2048x512, b⟩] concatenates_S2048x512_S2048x512_S2048x1024_d1) main_v3 main_v3
  let main_v5 : FVec F S2048 .f32 := Host.absf main_arg1
  let main_v6 : FVec F S2048x1 .f32 := broadcastInDim S2048x1 ![0] bcast_S2048_S2048x1_0 main_v5
  let main_cst : FVec F S_ .f32 := constant S_ .f32 0x7F800000#32
  let main_v7 : FVec F S2048x1 .f32 := broadcastInDim S2048x1 ![] bcast_S_S2048x1 main_cst
  let main_v8 : IVec S2048x1 1 := cmpf .olt main_v6 main_v7
  let main_v9 : FVec F S2048x1024 .f32 := Host.absf main_v4
  let main_cst_0 : FVec F S_ .f32 := constant S_ .f32 0x7F800000#32
  let main_v10 : FVec F S2048x1024 .f32 := broadcastInDim S2048x1024 ![] bcast_S_S2048x1024 main_cst_0
  let main_v11 : IVec S2048x1024 1 := cmpf .olt main_v9 main_v10
  let main_v12 : IVec S2048x1024 1 := broadcastInDim S2048x1024 ![0, 1] bcast_S2048x1_S2048x1024_0_1 main_v8
  let main_v13 : IVec S2048x1024 1 := andi main_v12 main_v11
  let main_c : IVec S_ 32 := constantI S_ 32 512#32
  let main_v14 : IVec S2048x1024 32 := broadcastInDim S2048x1024 ![] bcast_S_S2048x1024 main_c
  let main_v15 : IVec S2048x1024 1 := cmpi .sge main_v0 main_v14
  let main_v16 : FVec F S2048x1024 .f32 := (extf .f32 · bitsLt_bf16_f32) main_arg3
  let main_v17 : FVec F S2048x1024 .f32 := Host.absf main_v16
  let main_cst_1 : FVec F S_ .f32 := constant S_ .f32 0x7F800000#32
  let main_v18 : FVec F S2048x1024 .f32 := broadcastInDim S2048x1024 ![] bcast_S_S2048x1024 main_cst_1
  let main_v19 : IVec S2048x1024 1 := cmpf .olt main_v17 main_v18
  fn_part1 (F := F) main_v13 main_v15 main_v19
-- ==== Pre_finite_ssd.lean ====
abbrev S32768x6656 : Shape := ⟨2, ![32768, 6656]⟩
abbrev S32768x640 : Shape := ⟨2, ![32768, 640]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S32768x16 : Shape := ⟨2, ![32768, 16]⟩
abbrev S_ : Shape := ⟨0, ![]⟩
abbrev S32768x2048 : Shape := ⟨2, ![32768, 2048]⟩
abbrev S1x2048 : Shape := ⟨2, ![1, 2048]⟩

class Facts : Prop where
  slices_S32768x640_S32768x16_0_512 : S32768x640.Slices ![0, 512] S32768x16
  pads_S32768x16_S32768x2048_000_020320 : S32768x16.Pads (![0, 0] : Fin 2 → Nat) ![0, 2032] ![0, 0] S32768x2048
  h_S_ : 0 < S_.numel
  pads_S16_S2048_020320 : S16.Pads (![0] : Fin 1 → Nat) ![2032] ![0] S2048
  slices_S4x2048_S1x2048_0_0 : S4x2048.Slices ![0, 0] S1x2048
  shapeCasts_S1x2048_S2048 : S1x2048.ShapeCasts S2048
  slices_S4x2048_S1x2048_1_0 : S4x2048.Slices ![1, 0] S1x2048
  slices_S4x2048_S1x2048_2_0 : S4x2048.Slices ![2, 0] S1x2048
  slices_S4x2048_S1x2048_3_0 : S4x2048.Slices ![3, 0] S1x2048
  slices_S32768x6656_S32768x2048_0_0 : S32768x6656.Slices ![0, 0] S32768x2048
  bitsLt_bf16_f32 : FTy.bits .bf16 < FTy.bits .f32
  bcast_S_S32768x2048 : S_.BroadcastsInDim S32768x2048 (![] : Fin 0 → Fin S32768x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)

variable [Facts]

def fn_pad {F : FTy → Type} [FloatOps F] (arg0 : FVec F S32768x16 .f32) (arg1 : IVec S_ 32) : FVec F S32768x2048 .f32 :=
  let v0 : FVec F S_ .f32 := sitofp .f32 arg1
  let v1 : FVec F S32768x2048 .f32 := (fun x v => pad S32768x2048 ![0, 0] ![0, 2032] ![0, 0] x v pads_S32768x16_S32768x2048_000_020320 h_S_) arg0 v0
  v1

def fn_pad_0 {F : FTy → Type} [FloatOps F] (arg0 : FVec F S16 .f32) (arg1 : IVec S_ 32) : FVec F S2048 .f32 :=
  let v0 : FVec F S_ .f32 := sitofp .f32 arg1
  let v1 : FVec F S2048 .f32 := (fun x v => pad S2048 ![0] ![2032] ![0] x v pads_S16_S2048_020320 h_S_) arg0 v0
  v1

def fn_part1 {F : FTy → Type} [FloatOps F] (main_arg0 : FVec F S32768x6656 .bf16) (main_arg3 : FVec F S2048 .f32) (main_v2 : FVec F S32768x2048 .f32) (main_v6 : FVec F S2048 .f32) (main_v21 : FVec F S2048 .f32) : IVec S32768x2048 1 :=
  let main_v22 : FVec F S32768x2048 .bf16 := (extractStridedSlice S32768x2048 ![0, 0] · slices_S32768x6656_S32768x2048_0_0) main_arg0
  let main_v23 : FVec F S32768x2048 .f32 := (extf .f32 · bitsLt_bf16_f32) main_v22
  let main_v24 : FVec F S32768x2048 .f32 := Host.absf main_v23
  let main_cst : FVec F S_ .f32 := constant S_ .f32 0x7F800000#32
  let main_v25 : FVec F S32768x2048 .f32 := broadcastInDim S32768x2048 ![] bcast_S_S32768x2048 main_cst
  let main_v26 : IVec S32768x2048 1 := cmpf .olt main_v24 main_v25
  let main_cst_1 : FVec F S_ .f32 := constant S_ .f32 0x7F800000#32
  let main_v27 : FVec F S32768x2048 .f32 := broadcastInDim S32768x2048 ![] bcast_S_S32768x2048 main_cst_1
  let main_v28 : IVec S32768x2048 1 := cmpf .olt main_v2 main_v27
  let main_v29 : IVec S32768x2048 1 := andi main_v26 main_v28
  let main_v30 : FVec F S2048 .f32 := Host.absf main_arg3
  let main_v31 : FVec F S2048 .f32 := maximumf main_v21 main_v30
  let main_v32 : FVec F S2048 .f32 := maximumf main_v31 main_v6
  let main_cst_2 : FVec F S_ .f32 := constant S_ .f32 0x7F800000#32
  let main_v33 : FVec F S2048 .f32 := broadcastInDim S2048 ![] bcast_S_S2048 main_cst_2
  let main_v34 : IVec S2048 1 := cmpf .olt main_v32 main_v33
  let main_v35 : IVec S1x2048 1 := broadcastInDim S1x2048 ![1] bcast_S2048_S1x2048_1 main_v34
  let main_v36 : IVec S32768x2048 1 := broadcastInDim S32768x2048 ![0, 1] bcast_S1x2048_S32768x2048_0_1 main_v35
  let main_v37 : IVec S32768x2048 1 := andi main_v29 main_v36
  main_v37

def fn {F : FTy → Type} [FloatOps F] (main_arg0 : FVec F S32768x6656 .bf16) (main_arg1 : FVec F S32768x640 .f32) (main_arg2 : FVec F S4x2048 .f32) (main_arg3 : FVec F S2048 .f32) (main_arg4 : FVec F S16 .f32) (main_arg5 : FVec F S16 .f32) (main_arg6 : FVec F S16 .f32) (main_arg7 : FVec F S1024 .f32) : IVec S32768x2048 1 :=
  let main_v0 : FVec F S32768x16 .f32 := (extractStridedSlice S32768x16 ![0, 512] · slices_S32768x640_S32768x16_0_512) main_arg1
  let main_v1 : FVec F S32768x16 .f32 := Host.absf main_v0
  let main_c : IVec S_ 32 := constantI S_ 32 0#32
  let main_v2 : FVec F S32768x2048 .f32 := fn_pad (F := F) main_v1 main_c
  let main_v3 : FVec F S16 .f32 := Host.absf main_arg4
  let main_v4 : FVec F S16 .f32 := Host.absf main_arg5
  let main_v5 : FVec F S16 .f32 := maximumf main_v3 main_v4
  let main_c_0 : IVec S_ 32 := constantI S_ 32 0#32
  let main_v6 : FVec F S2048 .f32 := fn_pad_0 (F := F) main_v5 main_c_0
  let main_v7 : FVec F S1x2048 .f32 := (extractStridedSlice S1x2048 ![0, 0] · slices_S4x2048_S1x2048_0_0) main_arg2
  let main_v8 : FVec F S2048 .f32 := shapeCast S2048 main_v7 shapeCasts_S1x2048_S2048
  let main_v9 : FVec F S2048 .f32 := Host.absf main_v8
  let main_v10 : FVec F S1x2048 .f32 := (extractStridedSlice S1x2048 ![1, 0] · slices_S4x2048_S1x2048_1_0) main_arg2
  let main_v11 : FVec F S2048 .f32 := shapeCast S2048 main_v10 shapeCasts_S1x2048_S2048
  let main_v12 : FVec F S2048 .f32 := Host.absf main_v11
  let main_v13 : FVec F S2048 .f32 := maximumf main_v9 main_v12
  let main_v14 : FVec F S1x2048 .f32 := (extractStridedSlice S1x2048 ![2, 0] · slices_S4x2048_S1x2048_2_0) main_arg2
  let main_v15 : FVec F S2048 .f32 := shapeCast S2048 main_v14 shapeCasts_S1x2048_S2048
  let main_v16 : FVec F S2048 .f32 := Host.absf main_v15
  let main_v17 : FVec F S1x2048 .f32 := (extractStridedSlice S1x2048 ![3, 0] · slices_S4x2048_S1x2048_3_0) main_arg2
  let main_v18 : FVec F S2048 .f32 := shapeCast S2048 main_v17 shapeCasts_S1x2048_S2048
  let main_v19 : FVec F S2048 .f32 := Host.absf main_v18
  let main_v20 : FVec F S2048 .f32 := maximumf main_v16 main_v19
  let main_v21 : FVec F S2048 .f32 := maximumf main_v13 main_v20
  fn_part1 (F := F) main_arg0 main_arg3 main_v2 main_v6 main_v21
-- ==== Ret.lean ====
abbrev S32768x6656 : Shape := ⟨2, ![32768, 6656]⟩
abbrev S512 : Shape := ⟨1, ![512]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x512 : Shape := ⟨2, ![1, 512]⟩
abbrev S32768x512 : Shape := ⟨2, ![32768, 512]⟩
abbrev S256x512 : Shape := ⟨2, ![256, 512]⟩
abbrev S256x128 : Shape := ⟨2, ![256, 128]⟩
abbrev S4x128x128 : Shape := ⟨3, ![4, 128, 128]⟩
abbrev S256x256 : Shape := ⟨2, ![256, 256]⟩
abbrev S1x128x128 : Shape := ⟨3, ![1, 128, 128]⟩
abbrev S128x128 : Shape := ⟨2, ![128, 128]⟩
abbrev S1x128 : Shape := ⟨2, ![1, 128]⟩
abbrev S256 : Shape := ⟨1, ![256]⟩
abbrev S256x1 : Shape := ⟨2, ![256, 1]⟩

abbrev nBuf : Space → Nat
  | .hbm => 23
  | .vmem => 16
  | .smem => 0
  | _ => 0

abbrev bufTy : (tb : Table) → Fin (tcTables nBuf tb) → BufTy
  | .hbm, ⟨0, _⟩ => ⟨S32768x6656, .bf16⟩
  | .hbm, ⟨1, _⟩ => ⟨S512, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S4096, .f32⟩
  | .hbm, ⟨11, _⟩ => ⟨S4096x1, .f32⟩
  | .hbm, ⟨12, _⟩ => ⟨S1x64, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x128, .f32⟩
  | .hbm, ⟨19, _⟩ => ⟨S4096x64, .f32⟩
  | .hbm, ⟨20, _⟩ => ⟨S4096x128, .f32⟩
  | .hbm, ⟨21, _⟩ => ⟨S1x512, .f32⟩
  | .hbm, ⟨22, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x512, .f32⟩
  | .local _ .vmem, ⟨13, _⟩ => ⟨S256x512, .bf16⟩
  | .local _ .vmem, ⟨14, _⟩ => ⟨S256x512, .bf16⟩
  | .local _ .vmem, ⟨15, _⟩ => ⟨S4x128x128, .f32⟩
  | _, _ => ⟨S32768x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c10_i32 : BitVec 32 := 10#32
  let c0_i32 : BitVec 32 := 0#32
  ![v1.toNat, c10_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c11_i32 : BitVec 32 := 11#32
  let c0_i32 : BitVec 32 := 0#32
  ![v1.toNat, c11_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c12_i32 : BitVec 32 := 12#32
  let c0_i32 : BitVec 32 := 0#32
  ![v1.toNat, c12_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetIdeal.lean ====
variable {F : FTy → Type} [FloatOps F] [Named F]
def κ : String → Option EReal := fun
  | "gc0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gc1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gc2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gc3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== RetRefIdeal.lean ====
abbrev S32768x6656 : Shape := ⟨2, ![32768, 6656]⟩
abbrev S512 : Shape := ⟨1, ![512]⟩
abbrev S32768x512 : Shape := ⟨2, ![32768, 512]⟩
abbrev S8x4096x4x128 : Shape := ⟨4, ![8, 4096, 4, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S8x4096x4x64 : Shape := ⟨4, ![8, 4096, 4, 64]⟩
abbrev S4 : Shape := ⟨1, ![4]⟩
abbrev S4x4096x4096 : Shape := ⟨3, ![4, 4096, 4096]⟩
abbrev S4x1x1 : Shape := ⟨3, ![4, 1, 1]⟩
abbrev S8x4x4096x4096 : Shape := ⟨4, ![8, 4, 4096, 4096]⟩
abbrev S1x4x4096x4096 : Shape := ⟨4, ![1, 4, 4096, 4096]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S4x128 : Shape := ⟨2, ![4, 128]⟩
abbrev S1x1x4x128 : Shape := ⟨4, ![1, 1, 4, 128]⟩

abbrev nBuf : Space → Nat
  | .hbm => 137
  | .vmem => 0
  | .smem => 0
  | _ => 0

abbrev hbmTy0_0 (i : Nat) : BufTy := match i % 128 with
  | 0 => ⟨S32768x6656, .bf16⟩
  | 1 => ⟨S512, .f32⟩
  | 2 => ⟨S32768x512, .bf16⟩
  | 3 => ⟨S32768x512, .f32⟩
  | 4 => ⟨S32768x512, .bf16⟩
  | 5 => ⟨S32768x512, .f32⟩
  | 6 => ⟨S32768x512, .bf16⟩
  | 7 => ⟨S32768x512, .f32⟩
  | 8 => ⟨S32768x512, .bf16⟩
  | 9 => ⟨S32768x512, .f32⟩
  | 10 => ⟨S8x4096x4x128, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4096, .f32⟩
  | 20 => ⟨S4096x1, .f32⟩
  | 21 => ⟨S1x64, .f32⟩
  | 22 => ⟨S4096x64, .f32⟩
  | 23 => ⟨S4096x64, .f32⟩
  | 24 => ⟨S4096x64, .f32⟩
  | 25 => ⟨S4096x64, .f32⟩
  | 26 => ⟨S1x4096x1x64, .f32⟩
  | 27 => ⟨S4096x64, .f32⟩
  | 28 => ⟨S1x4096x1x64, .f32⟩
  | 29 => ⟨S8x4096x4x64, .f32⟩
  | 30 => ⟨S8x4096x4x64, .f32⟩
  | 31 => ⟨S8x4096x4x64, .f32⟩
  | 32 => ⟨S8x4096x4x64, .f32⟩
  | 33 => ⟨S8x4096x4x64, .f32⟩
  | 34 => ⟨S8x4096x4x64, .f32⟩
  | 35 => ⟨S8x4096x4x64, .f32⟩
  | 36 => ⟨S8x4096x4x64, .f32⟩
  | 37 => ⟨S8x4096x4x64, .f32⟩
  | 38 => ⟨S8x4096x4x64, .f32⟩
  | 39 => ⟨S8x4096x4x64, .f32⟩
  | 40 => ⟨S8x4096x4x64, .f32⟩
  | 41 => ⟨S8x4096x4x128, .f32⟩
  | 42 => ⟨S8x4096x4x128, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S4096, .f32⟩
  | 52 => ⟨S4096x1, .f32⟩
  | 53 => ⟨S1x64, .f32⟩
  | 54 => ⟨S4096x64, .f32⟩
  | 55 => ⟨S4096x64, .f32⟩
  | 56 => ⟨S4096x64, .f32⟩
  | 57 => ⟨S4096x64, .f32⟩
  | 58 => ⟨S1x4096x1x64, .f32⟩
  | 59 => ⟨S4096x64, .f32⟩
  | 60 => ⟨S1x4096x1x64, .f32⟩
  | 61 => ⟨S8x4096x4x64, .f32⟩
  | 62 => ⟨S8x4096x4x64, .f32⟩
  | 63 => ⟨S8x4096x4x64, .f32⟩
  | 64 => ⟨S8x4096x4x64, .f32⟩
  | 65 => ⟨S8x4096x4x64, .f32⟩
  | 66 => ⟨S8x4096x4x64, .f32⟩
  | 67 => ⟨S8x4096x4x64, .f32⟩
  | 68 => ⟨S8x4096x4x64, .f32⟩
  | 69 => ⟨S8x4096x4x64, .f32⟩
  | 70 => ⟨S8x4096x4x64, .f32⟩
  | 71 => ⟨S8x4096x4x64, .f32⟩
  | 72 => ⟨S8x4096x4x64, .f32⟩
  | 73 => ⟨S8x4096x4x128, .f32⟩
  | 74 => ⟨S_, .f32⟩
  | 75 => ⟨S8x4096x4x128, .f32⟩
  | 76 => ⟨S8x4096x4x128, .f32⟩
  | 77 => ⟨S8x4096x4x128, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S4x4096x4096, .i32⟩
  | 90 => ⟨S4x4096x4096, .i32⟩
  | 91 => ⟨S4x4096x4096, .i1⟩
  | 92 => ⟨S4x4096x4096, .i32⟩
  | 93 => ⟨S4x4096x4096, .f32⟩
  | 94 => ⟨S4x1x1, .f32⟩
  | 95 => ⟨S4x4096x4096, .f32⟩
  | 96 => ⟨S4x4096x4096, .f32⟩
  | 97 => ⟨S_, .f32⟩
  | 98 => ⟨S4x4096x4096, .f32⟩
  | 99 => ⟨S4x4096x4096, .f32⟩
  | 100 => ⟨S4x4096x4096, .f32⟩
  | 101 => ⟨S8x4x4096x4096, .f32⟩
  | 102 => ⟨S1x4x4096x4096, .f32⟩
  | 103 => ⟨S8x4x4096x4096, .f32⟩
  | 104 => ⟨S8x4x4096x4096, .f32⟩
  | 105 => ⟨S8x4x128x4096, .f32⟩
  | 106 => ⟨S8x4096x4x128, .f32⟩
  | 107 => ⟨S8x4096x4x128, .f32⟩
  | 108 => ⟨S_, .f32⟩
  | 109 => ⟨S8x4096x4, .f32⟩
  | 110 => ⟨S8x4096x4x1, .f32⟩
  | 111 => ⟨S_, .f32⟩
  | 112 => ⟨S8x4096x4x1, .f32⟩
  | 113 => ⟨S8x4096x4x1, .f32⟩
  | 114 => ⟨S_, .f32⟩
  | 115 => ⟨S8x4096x4x1, .f32⟩
  | 116 => ⟨S8x4096x4x1, .f32⟩
  | 117 => ⟨S8x4096x4x1, .f32⟩
  | 118 => ⟨S8x4096x4x128, .f32⟩
  | 119 => ⟨S8x4096x4x128, .f32⟩
  | 120 => ⟨S8x4096x4x128, .f32⟩
  | 121 => ⟨S4x128, .f32⟩
  | 122 => ⟨S1x1x4x128, .f32⟩
  | 123 => ⟨S8x4096x4x128, .f32⟩
  | 124 => ⟨S8x4096x4x128, .f32⟩
  | 125 => ⟨S8x4096x4x128, .f32⟩
  | 126 => ⟨S8x4096x4x128, .f32⟩
  | 127 => ⟨S_, .f32⟩
  | _ => ⟨S32768x6656, .bf16⟩

abbrev hbmTy0_1 (i : Nat) : BufTy := match i % 128 with
  | 0 => ⟨S8x4096x4x128, .f32⟩
  | 1 => ⟨S8x4096x4x128, .f32⟩
  | 2 => ⟨S_, .f32⟩
  | 3 => ⟨S8x4096x4x128, .f32⟩
  | 4 => ⟨S8x4096x4x128, .f32⟩
  | 5 => ⟨S8x4096x4x128, .f32⟩
  | 6 => ⟨S8x4096x4x128, .f32⟩
  | 7 => ⟨S32768x512, .f32⟩
  | 8 => ⟨S32768x512, .bf16⟩
  | _ => ⟨S32768x6656, .bf16⟩

abbrev hbmTy (i : Nat) : BufTy := match i / 128 with
  | 0 => hbmTy0_0 i
  | 1 => hbmTy0_1 i
  | _ => ⟨S32768x6656, .bf16⟩

abbrev bufTy : (tb : Table) → Fin (tcTables nBuf tb) → BufTy
  | .hbm, ⟨i, _⟩ => hbmTy i
  | _, _ => ⟨S32768x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_1 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_cst_3 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_4 : Ref sig .tc := ⟨.hbm, 79, rfl⟩
abbrev main_v72 : Ref sig .tc := ⟨.hbm, 80, rfl⟩
abbrev main_v73 : Ref sig .tc := ⟨.hbm, 81, rfl⟩
abbrev main_cst_5 : Ref sig .tc := ⟨.hbm, 82, rfl⟩
abbrev main_v74 : Ref sig .tc := ⟨.hbm, 83, rfl⟩
abbrev main_v75 : Ref sig .tc := ⟨.hbm, 84, rfl⟩
abbrev main_cst_6 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_7 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_cst_8 : Ref sig .tc := ⟨.hbm, 108, rfl⟩
abbrev main_v97 : Ref sig .tc := ⟨.hbm, 109, rfl⟩
abbrev main_v98 : Ref sig .tc := ⟨.hbm, 110, rfl⟩
abbrev main_cst_9 : Ref sig .tc := ⟨.hbm, 111, rfl⟩
abbrev main_v99 : Ref sig .tc := ⟨.hbm, 112, rfl⟩
abbrev main_v100 : Ref sig .tc := ⟨.hbm, 113, rfl⟩
abbrev main_cst_10 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_call0_v0 : Ref sig .tc := ⟨.hbm, 125, rfl⟩
abbrev main_call0_v1 : Ref sig .tc := ⟨.hbm, 126, rfl⟩
abbrev main_call0_cst : Ref sig .tc := ⟨.hbm, 127, rfl⟩
abbrev main_call0_v2 : Ref sig .tc := ⟨.hbm, 128, rfl⟩
abbrev main_call0_v3 : Ref sig .tc := ⟨.hbm, 129, rfl⟩
abbrev main_call0_cst_0 : Ref sig .tc := ⟨.hbm, 130, rfl⟩
abbrev main_call0_v4 : Ref sig .tc := ⟨.hbm, 131, rfl⟩
abbrev main_call0_v5 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩

abbrev nD : Nat := 1
abbrev τ : Topo := Topo.v7x

variable {F : FTy → Type} [FloatOps F]
-- ==== Xa.lean ====
abbrev S32768x2048 : Shape := ⟨2, ![32768, 2048]⟩
abbrev S2048 : Shape := ⟨1, ![2048]⟩
abbrev S4x2048x512 : Shape := ⟨3, ![4, 2048, 512]⟩
abbrev S2048x1024 : Shape := ⟨2, ![2048, 1024]⟩
abbrev S4x512x2048 : Shape := ⟨3, ![4, 512, 2048]⟩
abbrev S1x2048 : Shape := ⟨2, ![1, 2048]⟩
abbrev S512x2048 : Shape := ⟨2, ![512, 2048]⟩
abbrev S1x2048x512 : Shape := ⟨3, ![1, 2048, 512]⟩
abbrev S256x1024 : Shape := ⟨2, ![256, 1024]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 7
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x2048x512, .bf16⟩
  | .hbm, ⟨3, _⟩ => ⟨S2048x1024, .bf16⟩
  | .hbm, ⟨4, _⟩ => ⟨S4x512x2048, .bf16⟩
  | .hbm, ⟨5, _⟩ => ⟨S1x2048, .f32⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S256x1024, .bf16⟩
  | .local _ .vmem, ⟨5, _⟩ => ⟨S256x1024, .bf16⟩
  | .local _ .vmem, ⟨6, _⟩ => ⟨S1x512x2048, .bf16⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== XaRefIdeal.lean ====
abbrev S32768x2048 : Shape := ⟨2, ![32768, 2048]⟩
abbrev S2048 : Shape := ⟨1, ![2048]⟩
abbrev S4x2048x512 : Shape := ⟨3, ![4, 2048, 512]⟩
abbrev S2048x1024 : Shape := ⟨2, ![2048, 1024]⟩
abbrev S4x512x2048 : Shape := ⟨3, ![4, 512, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S1x2048x512 : Shape := ⟨3, ![1, 2048, 512]⟩
abbrev S2048x512 : Shape := ⟨2, ![2048, 512]⟩
abbrev S32768x512 : Shape := ⟨2, ![32768, 512]⟩
abbrev S8x4096x4x128 : Shape := ⟨4, ![8, 4096, 4, 128]⟩
abbrev S8x256x1024 : Shape := ⟨3, ![8, 256, 1024]⟩
abbrev S8x256x512 : Shape := ⟨3, ![8, 256, 512]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S1x512x2048 : Shape := ⟨3, ![1, 512, 2048]⟩
abbrev S512x2048 : Shape := ⟨2, ![512, 2048]⟩

abbrev nBuf : Space → Nat
  | .hbm => 58
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x2048x512, .bf16⟩
  | .hbm, ⟨3, _⟩ => ⟨S2048x1024, .bf16⟩
  | .hbm, ⟨4, _⟩ => ⟨S4x512x2048, .bf16⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x512, .bf16⟩
  | .hbm, ⟨22, _⟩ => ⟨S2048x512, .bf16⟩
  | .hbm, ⟨23, _⟩ => ⟨S2048x512, .f32⟩
  | .hbm, ⟨24, _⟩ => ⟨S32768x512, .f32⟩
  | .hbm, ⟨25, _⟩ => ⟨S8x4096x4x128, .f32⟩
  | .hbm, ⟨26, _⟩ => ⟨S2048x1024, .f32⟩
  | .hbm, ⟨27, _⟩ => ⟨S8x256x1024, .f32⟩
  | .hbm, ⟨28, _⟩ => ⟨S8x256x512, .f32⟩
  | .hbm, ⟨29, _⟩ => ⟨S8x256x4x128, .f32⟩
  | .hbm, ⟨30, _⟩ => ⟨S8x256x512, .f32⟩
  | .hbm, ⟨31, _⟩ => ⟨S8x256x4x128, .f32⟩
  | .hbm, ⟨32, _⟩ => ⟨S8x4x4096x256, .f32⟩
  | .hbm, ⟨33, _⟩ => ⟨S_, .f32⟩
  | .hbm, ⟨34, _⟩ => ⟨S8x4x4096x256, .f32⟩
  | .hbm, ⟨35, _⟩ => ⟨S8x4x4096x256, .f32⟩
  | .hbm, ⟨36, _⟩ => ⟨S_, .f32⟩
  | .hbm, ⟨37, _⟩ => ⟨S8x4x4096, .f32⟩
  | .hbm, ⟨38, _⟩ => ⟨S_, .f32⟩
  | .hbm, ⟨39, _⟩ => ⟨S8x4x4096, .f32⟩
  | .hbm, ⟨40, _⟩ => ⟨S8x4x4096, .f32⟩
  | .hbm, ⟨41, _⟩ => ⟨S8x4x4096x1, .f32⟩
  | .hbm, ⟨42, _⟩ => ⟨S8x4x4096x256, .f32⟩
  | .hbm, ⟨43, _⟩ => ⟨S8x4x4096x256, .f32⟩
  | .hbm, ⟨44, _⟩ => ⟨S8x4x4096x256, .f32⟩
  | .hbm, ⟨45, _⟩ => ⟨S_, .f32⟩
  | .hbm, ⟨46, _⟩ => ⟨S8x4x4096, .f32⟩
  | .hbm, ⟨47, _⟩ => ⟨S8x4x4096x1, .f32⟩
  | .hbm, ⟨48, _⟩ => ⟨S8x4x4096x256, .f32⟩
  | .hbm, ⟨49, _⟩ => ⟨S8x4x4096x256, .f32⟩
  | .hbm, ⟨50, _⟩ => ⟨S8x4x128x4096, .f32⟩
  | .hbm, ⟨51, _⟩ => ⟨S8x4096x4x128, .f32⟩
  | .hbm, ⟨52, _⟩ => ⟨S32768x512, .f32⟩
  | .hbm, ⟨53, _⟩ => ⟨S1x512x2048, .bf16⟩
  | .hbm, ⟨54, _⟩ => ⟨S512x2048, .bf16⟩
  | .hbm, ⟨55, _⟩ => ⟨S512x2048, .f32⟩
  | .hbm, ⟨56, _⟩ => ⟨S32768x2048, .f32⟩
  | .hbm, ⟨57, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Out.lean ====
abbrev S32768x2048 : Shape := ⟨2, ![32768, 2048]⟩
abbrev S32768x512 : Shape := ⟨2, ![32768, 512]⟩
abbrev S32768x1024 : Shape := ⟨2, ![32768, 1024]⟩
abbrev S4x2048x2048 : Shape := ⟨3, ![4, 2048, 2048]⟩
abbrev S512x2048 : Shape := ⟨2, ![512, 2048]⟩
abbrev S512x512 : Shape := ⟨2, ![512, 512]⟩
abbrev S512x1024 : Shape := ⟨2, ![512, 1024]⟩
abbrev S1x2048x2048 : Shape := ⟨3, ![1, 2048, 2048]⟩
abbrev S1x512x2048 : Shape := ⟨3, ![1, 512, 2048]⟩
abbrev S1x1024x2048 : Shape := ⟨3, ![1, 1024, 2048]⟩
abbrev S1024x2048 : Shape := ⟨2, ![1024, 2048]⟩

abbrev nBuf : Space → Nat
  | .hbm => 6
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x512, .bf16⟩
  | .hbm, ⟨2, _⟩ => ⟨S32768x512, .bf16⟩
  | .hbm, ⟨3, _⟩ => ⟨S32768x1024, .bf16⟩
  | .hbm, ⟨4, _⟩ => ⟨S4x2048x2048, .bf16⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S32768x2048 : Shape := ⟨2, ![32768, 2048]⟩
abbrev S32768x512 : Shape := ⟨2, ![32768, 512]⟩
abbrev S32768x1024 : Shape := ⟨2, ![32768, 1024]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x512, .bf16⟩
  | .hbm, ⟨2, _⟩ => ⟨S32768x512, .bf16⟩
  | .hbm, ⟨3, _⟩ => ⟨S32768x1024, .bf16⟩
  | .hbm, ⟨4, _⟩ => ⟨S4x2048x2048, .bf16⟩
  | .hbm, ⟨5, _⟩ => ⟨S32768x2048, .bf16⟩
  | .hbm, ⟨6, _⟩ => ⟨S32768x2048, .f32⟩
  | .hbm, ⟨7, _⟩ => ⟨S1x2048x2048, .bf16⟩
  | .hbm, ⟨8, _⟩ => ⟨S2048x2048, .bf16⟩
  | .hbm, ⟨9, _⟩ => ⟨S2048x2048, .f32⟩
  | .hbm, ⟨10, _⟩ => ⟨S32768x2048, .f32⟩
  | .hbm, ⟨11, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kv.lean ====
abbrev S2048x2048 : Shape := ⟨2, ![2048, 2048]⟩
abbrev S2048 : Shape := ⟨1, ![2048]⟩
abbrev S4x2048x1024 : Shape := ⟨3, ![4, 2048, 1024]⟩
abbrev S1x2048 : Shape := ⟨2, ![1, 2048]⟩
abbrev S2048x1024 : Shape := ⟨2, ![2048, 1024]⟩
abbrev S256x2048 : Shape := ⟨2, ![256, 2048]⟩
abbrev S1x2048x1024 : Shape := ⟨3, ![1, 2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S4x2048x1024, .bf16⟩
  | .hbm, ⟨3, _⟩ => ⟨S1x2048, .f32⟩
  | .hbm, ⟨4, _⟩ => ⟨S2048x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S2048x2048 : Shape := ⟨2, ![2048, 2048]⟩
abbrev S2048 : Shape := ⟨1, ![2048]⟩
abbrev S4x2048x1024 : Shape := ⟨3, ![4, 2048, 1024]⟩
abbrev S_ : Shape := ⟨0, ![]⟩
abbrev S2048x1 : Shape := ⟨2, ![2048, 1]⟩
abbrev S1x2048 : Shape := ⟨2, ![1, 2048]⟩
abbrev S1x2048x1024 : Shape := ⟨3, ![1, 2048, 1024]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S4x2048x1024, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S1x2048x1024, .bf16⟩
  | .hbm, ⟨20, _⟩ => ⟨S2048x1024, .bf16⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== In.lean ====
abbrev S32768x2048 : Shape := ⟨2, ![32768, 2048]⟩
abbrev S2048 : Shape := ⟨1, ![2048]⟩
abbrev S4x2048x6656 : Shape := ⟨3, ![4, 2048, 6656]⟩
abbrev S4x2048x640 : Shape := ⟨3, ![4, 2048, 640]⟩
abbrev S1x2048 : Shape := ⟨2, ![1, 2048]⟩
abbrev S32768x6656 : Shape := ⟨2, ![32768, 6656]⟩
abbrev S32768x640 : Shape := ⟨2, ![32768, 640]⟩
abbrev S512x2048 : Shape := ⟨2, ![512, 2048]⟩
abbrev S1x2048x3328 : Shape := ⟨3, ![1, 2048, 3328]⟩
abbrev S1x2048x640 : Shape := ⟨3, ![1, 2048, 640]⟩
abbrev S512x3328 : Shape := ⟨2, ![512, 3328]⟩
abbrev S512x640 : Shape := ⟨2, ![512, 640]⟩
abbrev S512 : Shape := ⟨1, ![512]⟩
abbrev S512x1 : Shape := ⟨2, ![512, 1]⟩
abbrev S2048x3328 : Shape := ⟨2, ![2048, 3328]⟩
abbrev S2048x640 : Shape := ⟨2, ![2048, 640]⟩

abbrev nBuf : Space → Nat
  | .hbm => 7
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x2048x6656, .bf16⟩
  | .hbm, ⟨3, _⟩ => ⟨S4x2048x640, .bf16⟩
  | .hbm, ⟨4, _⟩ => ⟨S1x2048, .f32⟩
  | .hbm, ⟨5, _⟩ => ⟨S32768x6656, .bf16⟩
  | .hbm, ⟨6, _⟩ => ⟨S32768x640, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x3328, .bf16⟩
  | .local _ .vmem, ⟨4, _⟩ => ⟨S1x2048x3328, .bf16⟩
  | .local _ .vmem, ⟨5, _⟩ => ⟨S1x2048x640, .bf16⟩
  | .local _ .vmem, ⟨6, _⟩ => ⟨S512x3328, .bf16⟩
  | .local _ .vmem, ⟨7, _⟩ => ⟨S512x3328, .bf16⟩
  | .local _ .vmem, ⟨8, _⟩ => ⟨S512x640, .f32⟩
  | .local _ .vmem, ⟨9, _⟩ => ⟨S512x640, .f32⟩
  | .local _ .vmem, ⟨10, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 3], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .eq arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .eq v10 c0_i32_4
  let c1_i32_5 : BitVec 32 := 1#32
  let v12 : BitVec 32 := Scalar.subi c1_i32_5 v0
  let v13 : BitVec 32 := Scalar.select v11 v0 v12
  let c0_i32_6 : BitVec 32 := 0#32
  let c0_i32_7 : BitVec 32 := 0#32
  let c0_i32_8 : BitVec 32 := 0#32
  ![c0_i32_6.toNat, c0_i32_7.toNat, v13.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .eq v10 c0_i32_4
  let c1_i32_5 : BitVec 32 := 1#32
  let v12 : BitVec 32 := Scalar.subi c1_i32_5 v0
  let v13 : BitVec 32 := Scalar.select v11 v0 v12
  let c0_i32_6 : BitVec 32 := 0#32
  ![arg0.toNat, v13.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3328 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InRefIdeal.lean ====
abbrev S32768x2048 : Shape := ⟨2, ![32768, 2048]⟩
abbrev S2048 : Shape := ⟨1, ![2048]⟩
abbrev S4x2048x6656 : Shape := ⟨3, ![4, 2048, 6656]⟩
abbrev S4x2048x640 : Shape := ⟨3, ![4, 2048, 640]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S1x2048x6656 : Shape := ⟨3, ![1, 2048, 6656]⟩
abbrev S2048x6656 : Shape := ⟨2, ![2048, 6656]⟩
abbrev S32768x6656 : Shape := ⟨2, ![32768, 6656]⟩
abbrev S1x2048x640 : Shape := ⟨3, ![1, 2048, 640]⟩
abbrev S2048x640 : Shape := ⟨2, ![2048, 640]⟩
abbrev S32768x640 : Shape := ⟨2, ![32768, 640]⟩

abbrev nBuf : Space → Nat
  | .hbm => 29
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x2048x6656, .bf16⟩
  | .hbm, ⟨3, _⟩ => ⟨S4x2048x640, .bf16⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S1x2048x6656, .bf16⟩
  | .hbm, ⟨21, _⟩ => ⟨S2048x6656, .bf16⟩
  | .hbm, ⟨22, _⟩ => ⟨S2048x6656, .f32⟩
  | .hbm, ⟨23, _⟩ => ⟨S32768x6656, .f32⟩
  | .hbm, ⟨24, _⟩ => ⟨S32768x6656, .bf16⟩
  | .hbm, ⟨25, _⟩ => ⟨S1x2048x640, .bf16⟩
  | .hbm, ⟨26, _⟩ => ⟨S2048x640, .bf16⟩
  | .hbm, ⟨27, _⟩ => ⟨S2048x640, .f32⟩
  | .hbm, ⟨28, _⟩ => ⟨S32768x640, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Ffn.lean ====
abbrev S32768x2048 : Shape := ⟨2, ![32768, 2048]⟩
abbrev S2048 : Shape := ⟨1, ![2048]⟩
abbrev S4x2048x11264 : Shape := ⟨3, ![4, 2048, 11264]⟩
abbrev S3x11264 : Shape := ⟨2, ![3, 11264]⟩
abbrev S11264 : Shape := ⟨1, ![11264]⟩
abbrev S4x5632x2048 : Shape := ⟨3, ![4, 5632, 2048]⟩
abbrev S3x22x512 : Shape := ⟨3, ![3, 22, 512]⟩
abbrev S22x3x512 : Shape := ⟨3, ![22, 3, 512]⟩
abbrev S22x1x512 : Shape := ⟨3, ![22, 1, 512]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S2x520x512 : Shape := ⟨3, ![2, 520, 512]⟩
abbrev S2x11x8x512 : Shape := ⟨4, ![2, 11, 8, 512]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x1x8x512 : Shape := ⟨4, ![1, 1, 8, 512]⟩
abbrev S8x512 : Shape := ⟨2, ![8, 512]⟩
abbrev S1x8x512 : Shape := ⟨3, ![1, 8, 512]⟩
abbrev S1x256x512 : Shape := ⟨3, ![1, 256, 512]⟩
abbrev S512x512 : Shape := ⟨2, ![512, 512]⟩
abbrev S1x512x512 : Shape := ⟨3, ![1, 512, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩

abbrev nBuf : Space → Nat
  | .hbm => 13
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S4x2048x11264, .bf16⟩
  | .hbm, ⟨4, _⟩ => ⟨S3x11264, .f32⟩
  | .hbm, ⟨5, _⟩ => ⟨S11264, .f32⟩
  | .hbm, ⟨6, _⟩ => ⟨S4x5632x2048, .bf16⟩
  | .hbm, ⟨7, _⟩ => ⟨S3x22x512, .f32⟩
  | .hbm, ⟨8, _⟩ => ⟨S22x3x512, .f32⟩
  | .hbm, ⟨9, _⟩ => ⟨S22x1x512, .f32⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S22x3x512, .f32⟩
  | .local _ .vmem, ⟨9, _⟩ => ⟨S22x1x512, .f32⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S2x520x512, .f32⟩
  | .local _ .vmem, ⟨16, _⟩ => ⟨S2x520x512, .f32⟩
  | .local _ .vmem, ⟨17, _⟩ => ⟨S2x11x8x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![64, 12], ![false, false]⟩

def k0_cond3 (i : grid0.Coords) : BitVec 1 :=
  let arg1 : BitVec 32 := BitVec.ofNat 32 (i 1).val
  let c0_i32_6 : BitVec 32 := 0#32
  let v14 : BitVec 1 := Scalar.cmpi .sgt arg1 c0_i32_6
  let c11_i32 : BitVec 32 := 11#32
  let v15 : BitVec 1 := Scalar.cmpi .slt arg1 c11_i32
  let v16 : BitVec 1 := Scalar.andi v14 v15
  let c2_i32 : BitVec 32 := 2#32
  let c0_i32_7 : BitVec 32 := 0#32
  let v17 : BitVec 1 := Scalar.cmpi .eq c2_i32 c0_i32_7
  let c1_i32_8 : BitVec 32 := 1#32
  let v18 : BitVec 32 := Scalar.select v17 c1_i32_8 c2_i32
  let v19 : BitVec 32 := Scalar.remsi arg1 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c0_i32_12 : BitVec 32 := 0#32
  let v27 : BitVec 1 := Scalar.cmpi .eq v26 c0_i32_12
  let v28 : BitVec 1 := Scalar.andi v16 v27
  let v29 : BitVec 32 := Scalar.extui v28
  let c0_i32_13 : BitVec 32 := 0#32
  let v30 : BitVec 1 := Scalar.cmpi .ne v29 c0_i32_13
  v30

def k0_off1 (i : grid0.Coords) : Fin 4 → Nat :=
  let c0_28 : Index := 0#32
  let arg1 : BitVec 32 := BitVec.ofNat 32 (i 1).val
  let v52 : Index := Scalar.indexCast arg1
  let c0_29 : Index := 0#32
  let c0_30 : Index := 0#32
  ![0, v52.toNat, 0, 0]
def k0_off2 (i : grid0.Coords) : Fin 4 → Nat :=
  let c1 : Index := 1#32
  let arg1 : BitVec 32 := BitVec.ofNat 32 (i 1).val
  let v71 : Index := Scalar.indexCast arg1
  let c0_44 : Index := 0#32
  let c0_45 : Index := 0#32
  ![1, v71.toNat, 0, 0]
def k0_off3 (i : grid0.Coords) (c0_i32_57 : BitVec 32) : Fin 3 → Nat :=
  let arg1 : BitVec 32 := BitVec.ofNat 32 (i 1).val
  let c1_i32_56 : BitVec 32 := 1#32
  let v87 : BitVec 32 := Scalar.subi arg1 c1_i32_56
  let v88 : BitVec 32 := Scalar.addi c0_i32_57 v87
  let v89 : Index := Scalar.indexCast v88
  let c0_58 : Index := 0#32
  let c0_59 : Index := 0#32
  ![v89.toNat, 0, 0]
def k0_off4 (i : grid0.Coords) (c0_i32_60 : BitVec 32) : Fin 3 → Nat :=
  let arg1 : BitVec 32 := BitVec.ofNat 32 (i 1).val
  let c1_i32_56 : BitVec 32 := 1#32
  let v87 : BitVec 32 := Scalar.subi arg1 c1_i32_56
  let v92 : BitVec 32 := Scalar.addi c0_i32_60 v87
  let v93 : Index := Scalar.indexCast v92
  let c0_61 : Index := 0#32
  let c0_62 : Index := 0#32
  ![v93.toNat, 0, 0]
def k0_cond4 (i : grid0.Coords) : BitVec 1 :=
  let arg1 : BitVec 32 := BitVec.ofNat 32 (i 1).val
  let c0_i32_6 : BitVec 32 := 0#32
  let v14 : BitVec 1 := Scalar.cmpi .sgt arg1 c0_i32_6
  let c11_i32 : BitVec 32 := 11#32
  let v15 : BitVec 1 := Scalar.cmpi .slt arg1 c11_i32
  let v16 : BitVec 1 := Scalar.andi v14 v15
  let c2_i32_14 : BitVec 32 := 2#32
  let c0_i32_15 : BitVec 32 := 0#32
  let v31 : BitVec 1 := Scalar.cmpi .eq c2_i32_14 c0_i32_15
  let c1_i32_16 : BitVec 32 := 1#32
  let v32 : BitVec 32 := Scalar.select v31 c1_i32_16 c2_i32_14
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let c1_i32_20 : BitVec 32 := 1#32
  let v41 : BitVec 1 := Scalar.cmpi .eq v40 c1_i32_20
  let v42 : BitVec 1 := Scalar.andi v16 v41
  let v43 : BitVec 32 := Scalar.extui v42
  let c0_i32_21 : BitVec 32 := 0#32
  let v44 : BitVec 1 := Scalar.cmpi .ne v43 c0_i32_21
  v44

def k0_off5 (i : grid0.Coords) : Fin 4 → Nat :=
  let c0_28 : Index := 0#32
  let arg1 : BitVec 32 := BitVec.ofNat 32 (i 1).val
  let v52 : Index := Scalar.indexCast arg1
  let c0_29 : Index := 0#32
  let c0_30 : Index := 0#32
  ![0, v52.toNat, 0, 0]
def k0_off6 (i : grid0.Coords) : Fin 4 → Nat :=
  let c1 : Index := 1#32
  let arg1 : BitVec 32 := BitVec.ofNat 32 (i 1).val
  let v71 : Index := Scalar.indexCast arg1
  let c0_44 : Index := 0#32
  let c0_45 : Index := 0#32
  ![1, v71.toNat, 0, 0]
def k0_off7 (i : grid0.Coords) (c0_i32_57 : BitVec 32) : Fin 3 → Nat :=
  let arg1 : BitVec 32 := BitVec.ofNat 32 (i 1).val
  let c1_i32_56 : BitVec 32 := 1#32
  let v87 : BitVec 32 := Scalar.subi arg1 c1_i32_56
  let v88 : BitVec 32 := Scalar.addi c0_i32_57 v87
  let v89 : Index := Scalar.indexCast v88
  let c0_58 : Index := 0#32
  let c0_59 : Index := 0#32
  ![v89.toNat, 0, 0]
def k0_off8 (i : grid0.Coords) (c0_i32_60 : BitVec 32) : Fin 3 → Nat :=
  let arg1 : BitVec 32 := BitVec.ofNat 32 (i 1).val
  let c1_i32_56 : BitVec 32 := 1#32
  let v87 : BitVec 32 := Scalar.subi arg1 c1_i32_56
  let v92 : BitVec 32 := Scalar.addi c0_i32_60 v87
  let v93 : Index := Scalar.indexCast v92
  let c0_61 : Index := 0#32
  let c0_62 : Index := 0#32
  ![v93.toNat, 0, 0]
def k0_cond1 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_cond5 (i : grid0.Coords) : BitVec 1 :=
  let arg1 : BitVec 32 := BitVec.ofNat 32 (i 1).val
  let c11_i32_22 : BitVec 32 := 11#32
  let v45 : BitVec 1 := Scalar.cmpi .eq arg1 c11_i32_22
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S22x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S22x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S32768x2048 : Shape := ⟨2, ![32768, 2048]⟩
abbrev S2048 : Shape := ⟨1, ![2048]⟩
abbrev S4x2048x11264 : Shape := ⟨3, ![4, 2048, 11264]⟩
abbrev S3x11264 : Shape := ⟨2, ![3, 11264]⟩
abbrev S11264 : Shape := ⟨1, ![11264]⟩
abbrev S4x5632x2048 : Shape := ⟨3, ![4, 5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S1x2048x11264 : Shape := ⟨3, ![1, 2048, 11264]⟩
abbrev S2048x11264 : Shape := ⟨2, ![2048, 11264]⟩
abbrev S32768x11264 : Shape := ⟨2, ![32768, 11264]⟩
abbrev S8x4096x11264 : Shape := ⟨3, ![8, 4096, 11264]⟩
abbrev S8x4098x11264 : Shape := ⟨3, ![8, 4098, 11264]⟩
abbrev S1x11264 : Shape := ⟨2, ![1, 11264]⟩
abbrev S1x1x11264 : Shape := ⟨3, ![1, 1, 11264]⟩
abbrev S8x4096x5632 : Shape := ⟨3, ![8, 4096, 5632]⟩
abbrev S32768x5632 : Shape := ⟨2, ![32768, 5632]⟩
abbrev S1x5632x2048 : Shape := ⟨3, ![1, 5632, 2048]⟩
abbrev S5632x2048 : Shape := ⟨2, ![5632, 2048]⟩

abbrev nBuf : Space → Nat
  | .hbm => 72
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S4x2048x11264, .bf16⟩
  | .hbm, ⟨4, _⟩ => ⟨S3x11264, .f32⟩
  | .hbm, ⟨5, _⟩ => ⟨S11264, .f32⟩
  | .hbm, ⟨6, _⟩ => ⟨S4x5632x2048, .bf16⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S1x2048x11264, .bf16⟩
  | .hbm, ⟨24, _⟩ => ⟨S2048x11264, .bf16⟩
  | .hbm, ⟨25, _⟩ => ⟨S2048x11264, .f32⟩
  | .hbm, ⟨26, _⟩ => ⟨S32768x11264, .f32⟩
  | .hbm, ⟨27, _⟩ => ⟨S8x4096x11264, .f32⟩
  | .hbm, ⟨28, _⟩ => ⟨S_, .i32⟩
  | .hbm, ⟨29, _⟩ => ⟨S_, .f32⟩
  | .hbm, ⟨30, _⟩ => ⟨S8x4098x11264, .f32⟩
  | .hbm, ⟨31, _⟩ => ⟨S1x11264, .f32⟩
  | .hbm, ⟨32, _⟩ => ⟨S11264, .f32⟩
  | .hbm, ⟨33, _⟩ => ⟨S8x4096x11264, .f32⟩
  | .hbm, ⟨34, _⟩ => ⟨S1x1x11264, .f32⟩
  | .hbm, ⟨35, _⟩ => ⟨S8x4096x11264, .f32⟩
  | .hbm, ⟨36, _⟩ => ⟨S8x4096x11264, .f32⟩
  | .hbm, ⟨37, _⟩ => ⟨S1x1x11264, .f32⟩
  | .hbm, ⟨38, _⟩ => ⟨S8x4096x11264, .f32⟩
  | .hbm, ⟨39, _⟩ => ⟨S8x4096x11264, .f32⟩
  | .hbm, ⟨40, _⟩ => ⟨S1x11264, .f32⟩
  | .hbm, ⟨41, _⟩ => ⟨S11264, .f32⟩
  | .hbm, ⟨42, _⟩ => ⟨S8x4096x11264, .f32⟩
  | .hbm, ⟨43, _⟩ => ⟨S1x1x11264, .f32⟩
  | .hbm, ⟨44, _⟩ => ⟨S8x4096x11264, .f32⟩
  | .hbm, ⟨45, _⟩ => ⟨S8x4096x11264, .f32⟩
  | .hbm, ⟨46, _⟩ => ⟨S8x4096x11264, .f32⟩
  | .hbm, ⟨47, _⟩ => ⟨S1x11264, .f32⟩
  | .hbm, ⟨48, _⟩ => ⟨S11264, .f32⟩
  | .hbm, ⟨49, _⟩ => ⟨S8x4096x11264, .f32⟩
  | .hbm, ⟨50, _⟩ => ⟨S1x1x11264, .f32⟩
  | .hbm, ⟨51, _⟩ => ⟨S8x4096x11264, .f32⟩
  | .hbm, ⟨52, _⟩ => ⟨S8x4096x11264, .f32⟩
  | .hbm, ⟨53, _⟩ => ⟨S8x4096x11264, .f32⟩
  | .hbm, ⟨54, _⟩ => ⟨S8x4096x5632, .f32⟩
  | .hbm, ⟨55, _⟩ => ⟨S8x4096x5632, .f32⟩
  | .hbm, ⟨56, _⟩ => ⟨S8x4096x5632, .f32⟩
  | .hbm, ⟨57, _⟩ => ⟨S8x4096x5632, .f32⟩
  | .hbm, ⟨58, _⟩ => ⟨S_, .f32⟩
  | .hbm, ⟨59, _⟩ => ⟨S8x4096x5632, .f32⟩
  | .hbm, ⟨60, _⟩ => ⟨S8x4096x5632, .f32⟩
  | .hbm, ⟨61, _⟩ => ⟨S_, .f32⟩
  | .hbm, ⟨62, _⟩ => ⟨S8x4096x5632, .f32⟩
  | .hbm, ⟨63, _⟩ => ⟨S8x4096x5632, .f32⟩
  | .hbm, ⟨64, _⟩ => ⟨S8x4096x5632, .f32⟩
  | .hbm, ⟨65, _⟩ => ⟨S8x4096x5632, .f32⟩
  | .hbm, ⟨66, _⟩ => ⟨S32768x5632, .f32⟩
  | .hbm, ⟨67, _⟩ => ⟨S1x5632x2048, .bf16⟩
  | .hbm, ⟨68, _⟩ => ⟨S5632x2048, .bf16⟩
  | .hbm, ⟨69, _⟩ => ⟨S5632x2048, .f32⟩
  | .hbm, ⟨70, _⟩ => ⟨S32768x2048, .f32⟩
  | .hbm, ⟨71, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Last.lean ====
abbrev S32768x2048 : Shape := ⟨2, ![32768, 2048]⟩
abbrev S2048 : Shape := ⟨1, ![2048]⟩
abbrev S4x2048x11264 : Shape := ⟨3, ![4, 2048, 11264]⟩
abbrev S3x11264 : Shape := ⟨2, ![3, 11264]⟩
abbrev S11264 : Shape := ⟨1, ![11264]⟩
abbrev S4x5632x2048 : Shape := ⟨3, ![4, 5632, 2048]⟩
abbrev S3x22x512 : Shape := ⟨3, ![3, 22, 512]⟩
abbrev S22x3x512 : Shape := ⟨3, ![22, 3, 512]⟩
abbrev S22x1x512 : Shape := ⟨3, ![22, 1, 512]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S2x520x512 : Shape := ⟨3, ![2, 520, 512]⟩
abbrev S2x11x8x512 : Shape := ⟨4, ![2, 11, 8, 512]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x1x8x512 : Shape := ⟨4, ![1, 1, 8, 512]⟩
abbrev S8x512 : Shape := ⟨2, ![8, 512]⟩
abbrev S1x8x512 : Shape := ⟨3, ![1, 8, 512]⟩
abbrev S1x256x512 : Shape := ⟨3, ![1, 256, 512]⟩
abbrev S512x512 : Shape := ⟨2, ![512, 512]⟩
abbrev S1x512x512 : Shape := ⟨3, ![1, 512, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩

abbrev nBuf : Space → Nat
  | .hbm => 13
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S4x2048x11264, .bf16⟩
  | .hbm, ⟨4, _⟩ => ⟨S3x11264, .f32⟩
  | .hbm, ⟨5, _⟩ => ⟨S11264, .f32⟩
  | .hbm, ⟨6, _⟩ => ⟨S4x5632x2048, .bf16⟩
  | .hbm, ⟨7, _⟩ => ⟨S3x22x512, .f32⟩
  | .hbm, ⟨8, _⟩ => ⟨S22x3x512, .f32⟩
  | .hbm, ⟨9, _⟩ => ⟨S22x1x512, .f32⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S22x3x512, .f32⟩
  | .local _ .vmem, ⟨9, _⟩ => ⟨S22x1x512, .f32⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S2x520x512, .f32⟩
  | .local _ .vmem, ⟨16, _⟩ => ⟨S2x520x512, .f32⟩
  | .local _ .vmem, ⟨17, _⟩ => ⟨S2x11x8x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![64, 12], ![false, false]⟩

def k0_cond3 (i : grid0.Coords) : BitVec 1 :=
  let arg1 : BitVec 32 := BitVec.ofNat 32 (i 1).val
  let c0_i32_6 : BitVec 32 := 0#32
  let v14 : BitVec 1 := Scalar.cmpi .sgt arg1 c0_i32_6
  let c11_i32 : BitVec 32 := 11#32
  let v15 : BitVec 1 := Scalar.cmpi .slt arg1 c11_i32
  let v16 : BitVec 1 := Scalar.andi v14 v15
  let c2_i32 : BitVec 32 := 2#32
  let c0_i32_7 : BitVec 32 := 0#32
  let v17 : BitVec 1 := Scalar.cmpi .eq c2_i32 c0_i32_7
  let c1_i32_8 : BitVec 32 := 1#32
  let v18 : BitVec 32 := Scalar.select v17 c1_i32_8 c2_i32
  let v19 : BitVec 32 := Scalar.remsi arg1 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c0_i32_12 : BitVec 32 := 0#32
  let v27 : BitVec 1 := Scalar.cmpi .eq v26 c0_i32_12
  let v28 : BitVec 1 := Scalar.andi v16 v27
  let v29 : BitVec 32 := Scalar.extui v28
  let c0_i32_13 : BitVec 32 := 0#32
  let v30 : BitVec 1 := Scalar.cmpi .ne v29 c0_i32_13
  v30

def k0_off1 (i : grid0.Coords) : Fin 4 → Nat :=
  let c0_28 : Index := 0#32
  let arg1 : BitVec 32 := BitVec.ofNat 32 (i 1).val
  let v52 : Index := Scalar.indexCast arg1
  let c0_29 : Index := 0#32
  let c0_30 : Index := 0#32
  ![0, v52.toNat, 0, 0]
def k0_off2 (i : grid0.Coords) : Fin 4 → Nat :=
  let c1 : Index := 1#32
  let arg1 : BitVec 32 := BitVec.ofNat 32 (i 1).val
  let v71 : Index := Scalar.indexCast arg1
  let c0_44 : Index := 0#32
  let c0_45 : Index := 0#32
  ![1, v71.toNat, 0, 0]
def k0_off3 (i : grid0.Coords) (c0_i32_57 : BitVec 32) : Fin 3 → Nat :=
  let arg1 : BitVec 32 := BitVec.ofNat 32 (i 1).val
  let c1_i32_56 : BitVec 32 := 1#32
  let v87 : BitVec 32 := Scalar.subi arg1 c1_i32_56
  let v88 : BitVec 32 := Scalar.addi c0_i32_57 v87
  let v89 : Index := Scalar.indexCast v88
  let c0_58 : Index := 0#32
  let c0_59 : Index := 0#32
  ![v89.toNat, 0, 0]
def k0_off4 (i : grid0.Coords) (c0_i32_60 : BitVec 32) : Fin 3 → Nat :=
  let arg1 : BitVec 32 := BitVec.ofNat 32 (i 1).val
  let c1_i32_56 : BitVec 32 := 1#32
  let v87 : BitVec 32 := Scalar.subi arg1 c1_i32_56
  let v92 : BitVec 32 := Scalar.addi c0_i32_60 v87
  let v93 : Index := Scalar.indexCast v92
  let c0_61 : Index := 0#32
  let c0_62 : Index := 0#32
  ![v93.toNat, 0, 0]
def k0_cond4 (i : grid0.Coords) : BitVec 1 :=
  let arg1 : BitVec 32 := BitVec.ofNat 32 (i 1).val
  let c0_i32_6 : BitVec 32 := 0#32
  let v14 : BitVec 1 := Scalar.cmpi .sgt arg1 c0_i32_6
  let c11_i32 : BitVec 32 := 11#32
  let v15 : BitVec 1 := Scalar.cmpi .slt arg1 c11_i32
  let v16 : BitVec 1 := Scalar.andi v14 v15
  let c2_i32_14 : BitVec 32 := 2#32
  let c0_i32_15 : BitVec 32 := 0#32
  let v31 : BitVec 1 := Scalar.cmpi .eq c2_i32_14 c0_i32_15
  let c1_i32_16 : BitVec 32 := 1#32
  let v32 : BitVec 32 := Scalar.select v31 c1_i32_16 c2_i32_14
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let c1_i32_20 : BitVec 32 := 1#32
  let v41 : BitVec 1 := Scalar.cmpi .eq v40 c1_i32_20
  let v42 : BitVec 1 := Scalar.andi v16 v41
  let v43 : BitVec 32 := Scalar.extui v42
  let c0_i32_21 : BitVec 32 := 0#32
  let v44 : BitVec 1 := Scalar.cmpi .ne v43 c0_i32_21
  v44

def k0_off5 (i : grid0.Coords) : Fin 4 → Nat :=
  let c0_28 : Index := 0#32
  let arg1 : BitVec 32 := BitVec.ofNat 32 (i 1).val
  let v52 : Index := Scalar.indexCast arg1
  let c0_29 : Index := 0#32
  let c0_30 : Index := 0#32
  ![0, v52.toNat, 0, 0]
def k0_off6 (i : grid0.Coords) : Fin 4 → Nat :=
  let c1 : Index := 1#32
  let arg1 : BitVec 32 := BitVec.ofNat 32 (i 1).val
  let v71 : Index := Scalar.indexCast arg1
  let c0_44 : Index := 0#32
  let c0_45 : Index := 0#32
  ![1, v71.toNat, 0, 0]
def k0_off7 (i : grid0.Coords) (c0_i32_57 : BitVec 32) : Fin 3 → Nat :=
  let arg1 : BitVec 32 := BitVec.ofNat 32 (i 1).val
  let c1_i32_56 : BitVec 32 := 1#32
  let v87 : BitVec 32 := Scalar.subi arg1 c1_i32_56
  let v88 : BitVec 32 := Scalar.addi c0_i32_57 v87
  let v89 : Index := Scalar.indexCast v88
  let c0_58 : Index := 0#32
  let c0_59 : Index := 0#32
  ![v89.toNat, 0, 0]
def k0_off8 (i : grid0.Coords) (c0_i32_60 : BitVec 32) : Fin 3 → Nat :=
  let arg1 : BitVec 32 := BitVec.ofNat 32 (i 1).val
  let c1_i32_56 : BitVec 32 := 1#32
  let v87 : BitVec 32 := Scalar.subi arg1 c1_i32_56
  let v92 : BitVec 32 := Scalar.addi c0_i32_60 v87
  let v93 : Index := Scalar.indexCast v92
  let c0_61 : Index := 0#32
  let c0_62 : Index := 0#32
  ![v93.toNat, 0, 0]
def k0_cond1 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_cond5 (i : grid0.Coords) : BitVec 1 :=
  let arg1 : BitVec 32 := BitVec.ofNat 32 (i 1).val
  let c11_i32_22 : BitVec 32 := 11#32
  let v45 : BitVec 1 := Scalar.cmpi .eq arg1 c11_i32_22
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c3_i32 : BitVec 32 := 3#32
  let c0_i32 : BitVec 32 := 0#32
  let c0_i32_0 : BitVec 32 := 0#32
  ![c3_i32.toNat, c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let c0_i32_0 : BitVec 32 := 0#32
  let c0_i32_1 : BitVec 32 := 0#32
  ![c3_i32.toNat, v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S22x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S22x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== LastRefIdeal.lean ====
abbrev S32768x2048 : Shape := ⟨2, ![32768, 2048]⟩
abbrev S2048 : Shape := ⟨1, ![2048]⟩
abbrev S4x2048x11264 : Shape := ⟨3, ![4, 2048, 11264]⟩
abbrev S3x11264 : Shape := ⟨2, ![3, 11264]⟩
abbrev S11264 : Shape := ⟨1, ![11264]⟩
abbrev S4x5632x2048 : Shape := ⟨3, ![4, 5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S1x2048x11264 : Shape := ⟨3, ![1, 2048, 11264]⟩
abbrev S2048x11264 : Shape := ⟨2, ![2048, 11264]⟩
abbrev S32768x11264 : Shape := ⟨2, ![32768, 11264]⟩
abbrev S8x4096x11264 : Shape := ⟨3, ![8, 4096, 11264]⟩
abbrev S8x4098x11264 : Shape := ⟨3, ![8, 4098, 11264]⟩
abbrev S1x11264 : Shape := ⟨2, ![1, 11264]⟩
abbrev S1x1x11264 : Shape := ⟨3, ![1, 1, 11264]⟩
abbrev S8x4096x5632 : Shape := ⟨3, ![8, 4096, 5632]⟩
abbrev S32768x5632 : Shape := ⟨2, ![32768, 5632]⟩
abbrev S1x5632x2048 : Shape := ⟨3, ![1, 5632, 2048]⟩
abbrev S5632x2048 : Shape := ⟨2, ![5632, 2048]⟩

abbrev nBuf : Space → Nat
  | .hbm => 88
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S4x2048x11264, .bf16⟩
  | .hbm, ⟨4, _⟩ => ⟨S3x11264, .f32⟩
  | .hbm, ⟨5, _⟩ => ⟨S11264, .f32⟩
  | .hbm, ⟨6, _⟩ => ⟨S4x5632x2048, .bf16⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S1x2048x11264, .bf16⟩
  | .hbm, ⟨24, _⟩ => ⟨S2048x11264, .bf16⟩
  | .hbm, ⟨25, _⟩ => ⟨S2048x11264, .f32⟩
  | .hbm, ⟨26, _⟩ => ⟨S32768x11264, .f32⟩
  | .hbm, ⟨27, _⟩ => ⟨S8x4096x11264, .f32⟩
  | .hbm, ⟨28, _⟩ => ⟨S_, .i32⟩
  | .hbm, ⟨29, _⟩ => ⟨S_, .f32⟩
  | .hbm, ⟨30, _⟩ => ⟨S8x4098x11264, .f32⟩
  | .hbm, ⟨31, _⟩ => ⟨S1x11264, .f32⟩
  | .hbm, ⟨32, _⟩ => ⟨S11264, .f32⟩
  | .hbm, ⟨33, _⟩ => ⟨S8x4096x11264, .f32⟩
  | .hbm, ⟨34, _⟩ => ⟨S1x1x11264, .f32⟩
  | .hbm, ⟨35, _⟩ => ⟨S8x4096x11264, .f32⟩
  | .hbm, ⟨36, _⟩ => ⟨S8x4096x11264, .f32⟩
  | .hbm, ⟨37, _⟩ => ⟨S1x1x11264, .f32⟩
  | .hbm, ⟨38, _⟩ => ⟨S8x4096x11264, .f32⟩
  | .hbm, ⟨39, _⟩ => ⟨S8x4096x11264, .f32⟩
  | .hbm, ⟨40, _⟩ => ⟨S1x11264, .f32⟩
  | .hbm, ⟨41, _⟩ => ⟨S11264, .f32⟩
  | .hbm, ⟨42, _⟩ => ⟨S8x4096x11264, .f32⟩
  | .hbm, ⟨43, _⟩ => ⟨S1x1x11264, .f32⟩
  | .hbm, ⟨44, _⟩ => ⟨S8x4096x11264, .f32⟩
  | .hbm, ⟨45, _⟩ => ⟨S8x4096x11264, .f32⟩
  | .hbm, ⟨46, _⟩ => ⟨S8x4096x11264, .f32⟩
  | .hbm, ⟨47, _⟩ => ⟨S1x11264, .f32⟩
  | .hbm, ⟨48, _⟩ => ⟨S11264, .f32⟩
  | .hbm, ⟨49, _⟩ => ⟨S8x4096x11264, .f32⟩
  | .hbm, ⟨50, _⟩ => ⟨S1x1x11264, .f32⟩
  | .hbm, ⟨51, _⟩ => ⟨S8x4096x11264, .f32⟩
  | .hbm, ⟨52, _⟩ => ⟨S8x4096x11264, .f32⟩
  | .hbm, ⟨53, _⟩ => ⟨S8x4096x11264, .f32⟩
  | .hbm, ⟨54, _⟩ => ⟨S8x4096x5632, .f32⟩
  | .hbm, ⟨55, _⟩ => ⟨S8x4096x5632, .f32⟩
  | .hbm, ⟨56, _⟩ => ⟨S8x4096x5632, .f32⟩
  | .hbm, ⟨57, _⟩ => ⟨S8x4096x5632, .f32⟩
  | .hbm, ⟨58, _⟩ => ⟨S_, .f32⟩
  | .hbm, ⟨59, _⟩ => ⟨S8x4096x5632, .f32⟩
  | .hbm, ⟨60, _⟩ => ⟨S8x4096x5632, .f32⟩
  | .hbm, ⟨61, _⟩ => ⟨S_, .f32⟩
  | .hbm, ⟨62, _⟩ => ⟨S8x4096x5632, .f32⟩
  | .hbm, ⟨63, _⟩ => ⟨S8x4096x5632, .f32⟩
  | .hbm, ⟨64, _⟩ => ⟨S8x4096x5632, .f32⟩
  | .hbm, ⟨65, _⟩ => ⟨S8x4096x5632, .f32⟩
  | .hbm, ⟨66, _⟩ => ⟨S32768x5632, .f32⟩
  | .hbm, ⟨67, _⟩ => ⟨S1x5632x2048, .bf16⟩
  | .hbm, ⟨68, _⟩ => ⟨S5632x2048, .bf16⟩
  | .hbm, ⟨69, _⟩ => ⟨S5632x2048, .f32⟩
  | .hbm, ⟨70, _⟩ => ⟨S32768x2048, .f32⟩
  | .hbm, ⟨71, _⟩ => ⟨S32768x2048, .f32⟩
  | .hbm, ⟨72, _⟩ => ⟨S32768x2048, .f32⟩
  | .hbm, ⟨73, _⟩ => ⟨S_, .f32⟩
  | .hbm, ⟨74, _⟩ => ⟨S32768, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S32768x1, .f32⟩
  | .hbm, ⟨83, _⟩ => ⟨S32768x2048, .f32⟩
  | .hbm, ⟨84, _⟩ => ⟨S32768x2048, .f32⟩
  | .hbm, ⟨85, _⟩ => ⟨S1x2048, .f32⟩
  | .hbm, ⟨86, _⟩ => ⟨S32768x2048, .f32⟩
  | .hbm, ⟨87, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_2 : Ref sig .tc := ⟨.hbm, 73, rfl⟩
abbrev main_v53 : Ref sig .tc := ⟨.hbm, 74, rfl⟩
abbrev main_v54 : Ref sig .tc := ⟨.hbm, 75, rfl⟩
abbrev main_cst_3 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Ssd.lean ====
abbrev S32768x6656 : Shape := ⟨2, ![32768, 6656]⟩
abbrev S32768x640 : Shape := ⟨2, ![32768, 640]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S1x2048 : Shape := ⟨2, ![1, 2048]⟩
abbrev S1x16 : Shape := ⟨2, ![1, 16]⟩
abbrev S_ : Shape := ⟨0, ![]⟩
abbrev S1x128 : Shape := ⟨2, ![1, 128]⟩
abbrev S16x64 : Shape := ⟨2, ![16, 64]⟩
abbrev S1x1024 : Shape := ⟨2, ![1, 1024]⟩
abbrev S32768x1024 : Shape := ⟨2, ![32768, 1024]⟩
abbrev S256x2048 : Shape := ⟨2, ![256, 2048]⟩
abbrev S256x1024 : Shape := ⟨2, ![256, 1024]⟩
abbrev S256x128 : Shape := ⟨2, ![256, 128]⟩
abbrev S16x2048 : Shape := ⟨2, ![16, 2048]⟩
abbrev S8x2048 : Shape := ⟨2, ![8, 2048]⟩
abbrev S4x128x256 : Shape := ⟨3, ![4, 128, 256]⟩
abbrev S256x256 : Shape := ⟨2, ![256, 256]⟩
abbrev S256x512 : Shape := ⟨2, ![256, 512]⟩
abbrev S1x512 : Shape := ⟨2, ![1, 512]⟩
abbrev S8x512 : Shape := ⟨2, ![8, 512]⟩
abbrev S128x256 : Shape := ⟨2, ![128, 256]⟩
abbrev S128x1024 : Shape := ⟨2, ![128, 1024]⟩
abbrev S1x128x256 : Shape := ⟨3, ![1, 128, 256]⟩
abbrev S1x256 : Shape := ⟨2, ![1, 256]⟩
abbrev S256x1 : Shape := ⟨2, ![256, 1]⟩
abbrev S1024x256 : Shape := ⟨2, ![1024, 256]⟩
abbrev S256 : Shape := ⟨1, ![256]⟩

abbrev nBuf : Space → Nat
  | .hbm => 22
  | .vmem => 18
  | .smem => 0
  | _ => 0

abbrev bufTy : (tb : Table) → Fin (tcTables nBuf tb) → BufTy
  | .hbm, ⟨0, _⟩ => ⟨S32768x6656, .bf16⟩
  | .hbm, ⟨1, _⟩ => ⟨S32768x640, .f32⟩
  | .hbm, ⟨2, _⟩ => ⟨S4x2048, .f32⟩
  | .hbm, ⟨3, _⟩ => ⟨S2048, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S1x2048, .f32⟩
  | .hbm, ⟨9, _⟩ => ⟨S1x16, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S1x16, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S32768x1024, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x128, .f32⟩
  | .local _ .vmem, ⟨5, _⟩ => ⟨S256x128, .f32⟩
  | .local _ .vmem, ⟨6, _⟩ => ⟨S4x2048, .f32⟩
  | .local _ .vmem, ⟨7, _⟩ => ⟨S1x2048, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S16x2048, .f32⟩
  | .local _ .vmem, ⟨15, _⟩ => ⟨S8x2048, .f32⟩
  | .local _ .vmem, ⟨16, _⟩ => ⟨S256x2048, .f32⟩
  | .local _ .vmem, ⟨17, _⟩ => ⟨S4x128x256, .f32⟩
  | _, _ => ⟨S32768x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SsdRefIdeal.lean ====
abbrev S32768x6656 : Shape := ⟨2, ![32768, 6656]⟩
abbrev S32768x640 : Shape := ⟨2, ![32768, 640]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S32768x2048 : Shape := ⟨2, ![32768, 2048]⟩
abbrev S8x4096x2048 : Shape := ⟨3, ![8, 4096, 2048]⟩
abbrev S_ : Shape := ⟨0, ![]⟩
abbrev S8x4099x2048 : Shape := ⟨3, ![8, 4099, 2048]⟩
abbrev S1x2048 : Shape := ⟨2, ![1, 2048]⟩
abbrev S1x1x2048 : Shape := ⟨3, ![1, 1, 2048]⟩
abbrev S8x4096x1024 : Shape := ⟨3, ![8, 4096, 1024]⟩
abbrev S8x4096x4x4x64 : Shape := ⟨5, ![8, 4096, 4, 4, 64]⟩
abbrev S8x4096x512 : Shape := ⟨3, ![8, 4096, 512]⟩
abbrev S8x4096x4x128 : Shape := ⟨4, ![8, 4096, 4, 128]⟩
abbrev S32768x16 : Shape := ⟨2, ![32768, 16]⟩
abbrev S1x16 : Shape := ⟨2, ![1, 16]⟩
abbrev S8x4096x4x4 : Shape := ⟨4, ![8, 4096, 4, 4]⟩
abbrev S4x4 : Shape := ⟨2, ![4, 4]⟩
abbrev S1x1x4x4 : Shape := ⟨4, ![1, 1, 4, 4]⟩
abbrev S4096x4096 : Shape := ⟨2, ![4096, 4096]⟩
abbrev S8x4x4x4096 : Shape := ⟨4, ![8, 4, 4, 4096]⟩
abbrev S8x4x4x4096x1 : Shape := ⟨5, ![8, 4, 4, 4096, 1]⟩
abbrev S8x4x4x1x4096 : Shape := ⟨5, ![8, 4, 4, 1, 4096]⟩
abbrev S8x4x4x4096x4096 : Shape := ⟨5, ![8, 4, 4, 4096, 4096]⟩
abbrev S8x4x4096x4096 : Shape := ⟨4, ![8, 4, 4096, 4096]⟩
abbrev S8x4x1x4096x4096 : Shape := ⟨5, ![8, 4, 1, 4096, 4096]⟩
abbrev S8x4096x4x4x1 : Shape := ⟨5, ![8, 4096, 4, 4, 1]⟩
abbrev S8x4x4x64x4096 : Shape := ⟨5, ![8, 4, 4, 64, 4096]⟩
abbrev S4x4x1 : Shape := ⟨3, ![4, 4, 1]⟩
abbrev S1x1x4x4x1 : Shape := ⟨5, ![1, 1, 4, 4, 1]⟩
abbrev S32768x1024 : Shape := ⟨2, ![32768, 1024]⟩
abbrev S32768x4x256 : Shape := ⟨3, ![32768, 4, 256]⟩
abbrev S32768x4 : Shape := ⟨2, ![32768, 4]⟩
abbrev S32768x4x1 : Shape := ⟨3, ![32768, 4, 1]⟩
abbrev S4x256 : Shape := ⟨2, ![4, 256]⟩
abbrev S1x4x256 : Shape := ⟨3, ![1, 4, 256]⟩

abbrev nBuf : Space → Nat
  | .hbm => 142
  | .vmem => 0
  | .smem => 0
  | _ => 0

abbrev hbmTy0_0 (i : Nat) : BufTy := match i % 128 with
  | 0 => ⟨S32768x6656, .bf16⟩
  | 1 => ⟨S32768x640, .f32⟩
  | 2 => ⟨S4x2048, .f32⟩
  | 3 => ⟨S2048, .f32⟩
  | 4 => ⟨S16, .f32⟩
  | 5 => ⟨S16, .f32⟩
  | 6 => ⟨S16, .f32⟩
  | 7 => ⟨S1024, .f32⟩
  | 8 => ⟨S32768x2048, .bf16⟩
  | 9 => ⟨S32768x2048, .f32⟩
  | 10 => ⟨S8x4096x2048, .f32⟩
  | 11 => ⟨S_, .i32⟩
  | 12 => ⟨S_, .f32⟩
  | 13 => ⟨S8x4099x2048, .f32⟩
  | 14 => ⟨S1x2048, .f32⟩
  | 15 => ⟨S2048, .f32⟩
  | 16 => ⟨S8x4096x2048, .f32⟩
  | 17 => ⟨S1x1x2048, .f32⟩
  | 18 => ⟨S8x4096x2048, .f32⟩
  | 19 => ⟨S8x4096x2048, .f32⟩
  | 20 => ⟨S_, .f32⟩
  | 21 => ⟨S8x4096x2048, .f32⟩
  | 22 => ⟨S8x4096x2048, .f32⟩
  | 23 => ⟨S1x2048, .f32⟩
  | 24 => ⟨S2048, .f32⟩
  | 25 => ⟨S8x4096x2048, .f32⟩
  | 26 => ⟨S1x1x2048, .f32⟩
  | 27 => ⟨S8x4096x2048, .f32⟩
  | 28 => ⟨S8x4096x2048, .f32⟩
  | 29 => ⟨S8x4096x2048, .f32⟩
  | 30 => ⟨S1x2048, .f32⟩
  | 31 => ⟨S2048, .f32⟩
  | 32 => ⟨S8x4096x2048, .f32⟩
  | 33 => ⟨S1x1x2048, .f32⟩
  | 34 => ⟨S8x4096x2048, .f32⟩
  | 35 => ⟨S8x4096x2048, .f32⟩
  | 36 => ⟨S8x4096x2048, .f32⟩
  | 37 => ⟨S1x2048, .f32⟩
  | 38 => ⟨S2048, .f32⟩
  | 39 => ⟨S8x4096x2048, .f32⟩
  | 40 => ⟨S1x1x2048, .f32⟩
  | 41 => ⟨S8x4096x2048, .f32⟩
  | 42 => ⟨S8x4096x2048, .f32⟩
  | 43 => ⟨S8x4096x2048, .f32⟩
  | 44 => ⟨S1x1x2048, .f32⟩
  | 45 => ⟨S8x4096x2048, .f32⟩
  | 46 => ⟨S8x4096x2048, .f32⟩
  | 47 => ⟨S8x4096x2048, .f32⟩
  | 48 => ⟨S8x4096x2048, .f32⟩
  | 49 => ⟨S_, .f32⟩
  | 50 => ⟨S8x4096x2048, .f32⟩
  | 51 => ⟨S8x4096x2048, .f32⟩
  | 52 => ⟨S_, .f32⟩
  | 53 => ⟨S8x4096x2048, .f32⟩
  | 54 => ⟨S8x4096x2048, .f32⟩
  | 55 => ⟨S8x4096x2048, .f32⟩
  | 56 => ⟨S8x4096x1024, .f32⟩
  | 57 => ⟨S8x4096x4x4x64, .f32⟩
  | 58 => ⟨S8x4096x512, .f32⟩
  | 59 => ⟨S8x4096x4x128, .f32⟩
  | 60 => ⟨S8x4096x512, .f32⟩
  | 61 => ⟨S8x4096x4x128, .f32⟩
  | 62 => ⟨S32768x16, .f32⟩
  | 63 => ⟨S1x16, .f32⟩
  | 64 => ⟨S32768x16, .f32⟩
  | 65 => ⟨S32768x16, .f32⟩
  | 66 => ⟨S32768x16, .f32⟩
  | 67 => ⟨S_, .f32⟩
  | 68 => ⟨S32768x16, .f32⟩
  | 69 => ⟨S32768x16, .f32⟩
  | 70 => ⟨S32768x16, .f32⟩
  | 71 => ⟨S8x4096x4x4, .f32⟩
  | 72 => ⟨S16, .f32⟩
  | 73 => ⟨S4x4, .f32⟩
  | 74 => ⟨S4x4, .f32⟩
  | 75 => ⟨S1x1x4x4, .f32⟩
  | 76 => ⟨S8x4096x4x4, .f32⟩
  | 77 => ⟨S8x4096x4x4, .f32⟩
  | 78 => ⟨S4096x4096, .i32⟩
  | 79 => ⟨S4096x4096, .i32⟩
  | 80 => ⟨S4096x4096, .i1⟩
  | 81 => ⟨S4096x4096, .f32⟩
  | 82 => ⟨S8x4x4x4096, .f32⟩
  | 83 => ⟨S4096x4096, .i1⟩
  | 84 => ⟨S8x4x4x4096x1, .f32⟩
  | 85 => ⟨S8x4x4x1x4096, .f32⟩
  | 86 => ⟨S8x4x4x4096x4096, .f32⟩
  | 87 => ⟨S8x4x4x4096x4096, .f32⟩
  | 88 => ⟨S8x4x4x4096x4096, .f32⟩
  | 89 => ⟨S8x4x4x4096x4096, .f32⟩
  | 90 => ⟨S_, .f32⟩
  | 91 => ⟨S_, .f32⟩
  | 92 => ⟨S8x4x4x4096x4096, .i1⟩
  | 93 => ⟨S8x4x4x4096x4096, .f32⟩
  | 94 => ⟨S8x4x4x4096x4096, .f32⟩
  | 95 => ⟨S8x4x4096x4096, .f32⟩
  | 96 => ⟨S8x4x1x4096x4096, .f32⟩
  | 97 => ⟨S8x4x4x4096x4096, .f32⟩
  | 98 => ⟨S8x4x4x4096x4096, .f32⟩
  | 99 => ⟨S8x4096x4x4x1, .f32⟩
  | 100 => ⟨S8x4096x4x4x64, .f32⟩
  | 101 => ⟨S8x4096x4x4x64, .f32⟩
  | 102 => ⟨S8x4x4x64x4096, .f32⟩
  | 103 => ⟨S8x4096x4x4x64, .f32⟩
  | 104 => ⟨S4x4x1, .f32⟩
  | 105 => ⟨S1x1x4x4x1, .f32⟩
  | 106 => ⟨S8x4096x4x4x64, .f32⟩
  | 107 => ⟨S8x4096x4x4x64, .f32⟩
  | 108 => ⟨S8x4096x4x4x64, .f32⟩
  | 109 => ⟨S32768x1024, .f32⟩
  | 110 => ⟨S32768x1024, .bf16⟩
  | 111 => ⟨S32768x1024, .f32⟩
  | 112 => ⟨S32768x1024, .f32⟩
  | 113 => ⟨S32768x1024, .f32⟩
  | 114 => ⟨S_, .f32⟩
  | 115 => ⟨S32768x1024, .f32⟩
  | 116 => ⟨S32768x1024, .f32⟩
  | 117 => ⟨S_, .f32⟩
  | 118 => ⟨S32768x1024, .f32⟩
  | 119 => ⟨S32768x1024, .f32⟩
  | 120 => ⟨S32768x1024, .f32⟩
  | 121 => ⟨S32768x1024, .f32⟩
  | 122 => ⟨S32768x4x256, .f32⟩
  | 123 => ⟨S32768x4x256, .f32⟩
  | 124 => ⟨S_, .f32⟩
  | 125 => ⟨S32768x4, .f32⟩
  | 126 => ⟨S32768x4x1, .f32⟩
  | 127 => ⟨S_, .f32⟩
  | _ => ⟨S32768x6656, .bf16⟩

abbrev hbmTy0_1 (i : Nat) : BufTy := match i % 128 with
  | 0 => ⟨S32768x4x1, .f32⟩
  | 1 => ⟨S32768x4x1, .f32⟩
  | 2 => ⟨S_, .f32⟩
  | 3 => ⟨S32768x4x1, .f32⟩
  | 4 => ⟨S32768x4x1, .f32⟩
  | 5 => ⟨S32768x4x1, .f32⟩
  | 6 => ⟨S32768x4x256, .f32⟩
  | 7 => ⟨S32768x4x256, .f32⟩
  | 8 => ⟨S4x256, .f32⟩
  | 9 => ⟨S1x4x256, .f32⟩
  | 10 => ⟨S32768x4x256, .f32⟩
  | 11 => ⟨S32768x4x256, .f32⟩
  | 12 => ⟨S32768x1024, .f32⟩
  | 13 => ⟨S32768x1024, .bf16⟩
  | _ => ⟨S32768x6656, .bf16⟩

abbrev hbmTy (i : Nat) : BufTy := match i / 128 with
  | 0 => hbmTy0_0 i
  | 1 => hbmTy0_1 i
  | _ => ⟨S32768x6656, .bf16⟩

abbrev bufTy : (tb : Table) → Fin (tcTables nBuf tb) → BufTy
  | .hbm, ⟨i, _⟩ => hbmTy i
  | _, _ => ⟨S32768x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_1 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_2 : Ref sig .tc := ⟨.hbm, 124, rfl⟩
abbrev main_v92 : Ref sig .tc := ⟨.hbm, 125, rfl⟩
abbrev main_v93 : Ref sig .tc := ⟨.hbm, 126, rfl⟩
abbrev main_cst_3 : Ref sig .tc := ⟨.hbm, 127, rfl⟩
abbrev main_v94 : Ref sig .tc := ⟨.hbm, 128, rfl⟩
abbrev main_v95 : Ref sig .tc := ⟨.hbm, 129, rfl⟩
abbrev main_cst_4 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩

abbrev nD : Nat := 1
abbrev τ : Topo := Topo.v7x

variable {F : FTy → Type} [FloatOps F]
-- ==== Proof.Real.lean ====
module

public import Idealize.ShloMosaic.Lib.Pointwise
public import Idealize.ShloMosaic.Lib.Claim
public import Idealize.ShloMosaic.Lib.Pipeline.CanonAppend
public import Idealize.ShloMosaic.Lib.Pipeline.Value
public import Idealize.ShloMosaic.Lib.Tactic
public import Idealize.ShloMosaic.Lib.IdealHost

@[expose] public section

noncomputable section

open Idealize.ShloMosaic
open scoped BigOperators

namespace Cert.Proof

/-! # Extended reals that are real numbers -/

/-- `x` is a real number. -/
def Fin1 (x : EReal) : Prop := ∃ r : ℝ, x = r

theorem Fin1.mul {x y : EReal} (hx : Fin1 x) (hy : Fin1 y) : Fin1 (x * y) := by
  obtain ⟨a, rfl⟩ := hx; obtain ⟨b, rfl⟩ := hy; exact ⟨a * b, (EReal.coe_mul a b).symm⟩

theorem Fin1.add {x y : EReal} (hx : Fin1 x) (hy : Fin1 y) : Fin1 (x + y) := by
  obtain ⟨a, rfl⟩ := hx; obtain ⟨b, rfl⟩ := hy; exact ⟨a + b, (EReal.coe_add a b).symm⟩

theorem Fin1.sub {x y : EReal} (hx : Fin1 x) (hy : Fin1 y) : Fin1 (x - y) := by
  obtain ⟨a, rfl⟩ := hx; obtain ⟨b, rfl⟩ := hy; exact ⟨a - b, (EReal.coe_sub a b).symm⟩

theorem Fin1.sum {ι : Type*} (s : Finset ι) (f : ι → EReal) (h : ∀ i, Fin1 (f i)) : Fin1 (∑ i ∈ s, f i) := by
  classical
  induction s using Finset.induction_on with
  | empty => exact ⟨0, by simp⟩
  | insert a s ha ih => rw [Finset.sum_insert ha]; exact (h a).add ih

theorem fin1_of_ne {x : EReal} (h1 : x ≠ ⊤) (h2 : x ≠ ⊥) : Fin1 x := ⟨x.toReal, (EReal.coe_toReal h1 h2).symm⟩

theorem Fin1.exp {x : EReal} (hx : Fin1 x) : ∃ r : ℝ, 0 < r ∧ Ideal.exp x = r := by
  obtain ⟨a, rfl⟩ := hx; exact ⟨Real.exp a, Real.exp_pos a, rfl⟩

/-- A sum with a real factor on the right. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a weighted sum by the sum of its positive real weights is the sum weighted by the quotients. -/
theorem div_sum {n : Nat} [NeZero n] (e v : Fin n → EReal) (he : ∀ s, ∃ r : ℝ, 0 < r ∧ e s = r) :
    Ideal.div (∑ s, e s * v s) (∑ s, e s) = ∑ s, v s * Ideal.div (e s) (∑ s, e s) := by
  choose r hr hre using he
  have hs : ∑ s, e s = ((∑ s, r s : ℝ) : EReal) := by
    rw [coe_sum]; exact Finset.sum_congr rfl fun s _ => hre s
  have hp : 0 < ∑ s, r s := Finset.sum_pos (fun s _ => hr s) Finset.univ_nonempty
  rw [hs, Ideal.div_coe hp.ne', sum_mul_real _ _ _ (by positivity)]
  refine Finset.sum_congr rfl fun s _ => ?_
  rw [Ideal.div_coe hp.ne', mul_assoc, mul_left_comm]

theorem negInf_eq : Ideal.ofBits .f32 0xFF800000#32 = ⊥ := by
  simp [Ideal.ofBits, Ideal.ieee]

theorem posInf_eq : Ideal.ofBits .f32 0x7F800000#32 = ⊤ := by
  simp [Ideal.ofBits, Ideal.ieee]

/-- The largest of finitely many values, from minus infinity. -/
def mx {n : Nat} (f : Fin n → EReal) : EReal := Finset.fold max (Ideal.ofBits .f32 0xFF800000#32) f Finset.univ

theorem max_mx {n : Nat} (f : Fin n → EReal) : max (Ideal.ofBits .f32 0xFF800000#32) (mx f) = mx f :=
  max_eq_right ((Finset.le_fold_max _).mpr (Or.inl le_rfl))

theorem mx_fin {n : Nat} [NeZero n] (f : Fin n → EReal) (h : ∀ i, Fin1 (f i)) : Fin1 (mx f) := by
  refine fin1_of_ne (ne_of_lt ?_) (ne_of_gt ?_)
  · refine (Finset.fold_max_lt _).mpr ⟨?_, fun i _ => ?_⟩
    · rw [negInf_eq]; exact bot_lt_top
    · obtain ⟨r, hr⟩ := h i; rw [hr]; exact EReal.coe_lt_top r
  · obtain ⟨r, hr⟩ := h 0
    refine lt_of_lt_of_le (EReal.bot_lt_coe r) ?_
    rw [← hr]
    exact (Finset.le_fold_max _).mpr (Or.inr ⟨0, Finset.mem_univ _, le_rfl⟩)

theorem c2048 : Ideal.ofBits .f32 0x45000000#32 = ((2048 : ℝ) : EReal) := by
  simp [Ideal.ofBits, Ideal.ieee, -EReal.coe_mul]; norm_num

theorem ceps : ∃ r : ℝ, 0 < r ∧ Ideal.ofBits .f32 0x358637BD#32 = r := by
  refine ⟨_, ?_, by simp [Ideal.ofBits, Ideal.ieee, -EReal.coe_mul]; rfl⟩
  norm_num

theorem cscale : Fin1 (Ideal.ofBits .f32 0x3DB504F3#32) := by
  refine ⟨_, by simp [Ideal.ofBits, Ideal.ieee, -EReal.coe_mul]; rfl⟩

/-- A root mean square scales every row to real numbers, whatever the row holds. -/
theorem rms_fin {n : Nat} (x : Fin n → EReal) (N : ℝ) (hN : 0 < N) (eps : ℝ) (he : 0 < eps) (k : Fin n) :
    Fin1 (x k * Ideal.rsqrt (Ideal.div (∑ j, x j * x j) (N : EReal) + (eps : EReal))) := by
  by_cases h : ∀ j, Fin1 (x j)
  · choose r hr using h
    have hs : ∑ j, x j * x j = ((∑ j, r j * r j : ℝ) : EReal) := by
      rw [coe_sum]; exact Finset.sum_congr rfl fun s _ => by rw [hr s, EReal.coe_mul]
    have hp : 0 ≤ ∑ j, r j * r j := Finset.sum_nonneg fun j _ => mul_self_nonneg _
    rw [hs, Ideal.div_coe hN.ne', ← EReal.coe_mul, ← EReal.coe_add]
    have hq : 0 < (∑ j, r j * r j) * (1 / N) + eps := by positivity
    rw [hr k]
    refine Fin1.mul ⟨_, rfl⟩ ⟨(Real.sqrt ((∑ j, r j * r j) * (1 / N) + eps))⁻¹, ?_⟩
    show (if _ < (0 : ℝ) then _ else if _ = (0 : ℝ) then _ else _) = _
    rw [if_neg (not_lt.mpr hq.le), if_neg hq.ne']
  · obtain ⟨j, hj⟩ := not_forall.mp h
    have hjj : x j * x j = ⊤ := by
      induction hx : x j with
      | bot => rfl
      | top => rfl
      | coe r => exact absurd ⟨r, hx⟩ hj
    have hs : ∑ j, x j * x j = ⊤ := by
      refine top_le_iff.mp ?_
      rw [← hjj]
      refine Finset.single_le_sum (f := fun j => x j * x j) (fun i _ => ?_) (Finset.mem_univ j)
      induction x i with
      | bot => exact le_top
      | top => exact le_top
      | coe r => rw [← EReal.coe_mul]; exact_mod_cast mul_self_nonneg r
    rw [hs, Ideal.div_coe hN.ne', EReal.top_mul_coe_of_pos (by positivity), EReal.top_add_coe]
    exact ⟨0, by show x k * 0 = _; simp⟩

theorem and_one : ∀ a b : BitVec 1, IntOp.andi a b = 1#1 → a = 1#1 ∧ b = 1#1 := by decide

theorem or_one : ∀ a b : BitVec 1, IntOp.ori a b = 1#1 → a = 0#1 → b = 1#1 := by decide

/-- A value whose size compares below plus infinity is a real number. -/
theorem fin_of_lt {a : EReal} (h : BitVec.ofBool (decide ((FloatOps.absf (F := Ideal) (φ := .f32) a : EReal) < Ideal.ofBits .f32 0x7F800000#32)) = 1#1) : Fin1 a := by
  have h' : (FloatOps.absf (F := Ideal) (φ := .f32) a : EReal) < Ideal.ofBits .f32 0x7F800000#32 := by
    by_contra hn
    rw [decide_eq_false hn] at h
    exact absurd h (by decide)
  rw [posInf_eq] at h'
  induction a with
  | bot => exact absurd h' (lt_irrefl _)
  | top => exact absurd h' (lt_irrefl _)
  | coe r => exact ⟨r, rfl⟩

/-- A row scaled by its root mean square and the gain. -/
def nrm (x g : Fin 2048 → EReal) (k : Fin 2048) : EReal :=
  x k * Ideal.rsqrt (Ideal.div (∑ j, x j * x j) (Ideal.ofBits .f32 0x45000000#32) + Ideal.ofBits .f32 0x358637BD#32) * g k

end Cert.Proof

end
-- ==== Proof.RetKer.lean ====
module

public import proofs.«01_k».proof.Defs
public import proofs.«01_k».proof.Proof.Real
public import proofs.«01_k».proof.Proof.Gen.RetIdeal.Value

@[expose] public section

set_option maxRecDepth 16384

noncomputable section

open Idealize.ShloMosaic Idealize.ShloMosaic.TcCoe Idealize.SL.Sem
open Idealize.ShloMosaic.Pipeline (Dat)
open scoped BigOperators

namespace Cert.RetIdeal.Spec

open Cert.RetIdeal Cert.RetIdeal.Gen Cert.Proof

/-! Short names for the types of the arrays. -/
abbrev TR0 := Vec Ideal S256x512 .bf16
abbrev TR1 := Vec Ideal S256x128 .f32
abbrev TR2 := Vec Ideal S1x512 .f32
abbrev TR3 := Vec Ideal S4x128x128 .f32

theorem hz : (![0, 0] : Fin 2 → Nat) = fun _ => 0 := funext fun a => by fin_cases a <;> rfl
theorem hz3 : (![0, 0, 0] : Fin 3 → Nat) = fun _ => 0 := funext fun a => by fin_cases a <;> rfl

/-- The logarithm of each head's decay. -/
def LG : Fin 4 → EReal := ![Named.named (F := Ideal) (φ := .f32) κ "lg0" 0xBD020AEC#32, Named.named (F := Ideal) (φ := .f32) κ "lg1" 0xBC8102B3#32,
  Named.named (F := Ideal) (φ := .f32) κ "lg2" 0xBC0080AC#32, Named.named (F := Ideal) (φ := .f32) κ "lg3" 0xBB80402B#32]

/-- Each head's decay over one tile of 256 positions. -/
def GC : Fin 4 → EReal := ![Named.named (F := Ideal) (φ := .f32) κ "gc0" 0x399ACCA1#32, Named.named (F := Ideal) (φ := .f32) κ "gc1" 0x3C9160A5#32,
  Named.named (F := Ideal) (φ := .f32) κ "gc2" 0x3E097FCE#32, Named.named (F := Ideal) (φ := .f32) κ "gc3" 0x3EBBFC5D#32]

/-- A head's column of the four heads side by side. -/
def col (h : Fin 4) (d : Fin 128) : Fin 512 := ⟨h.val * 128 + d.val, by omega⟩

/-- The row of a block turned by its angles. -/
def RT (x : TR0) (x4 x5 : TR1) (h : Fin 4) (r : Fin 256) (d : Fin 128) : EReal :=
  x (ix2 r (col h d)) * x4 (ix2 r d) + x (ix2 r (col h ⟨(d.val + 128 - 64) % 128, Nat.mod_lt _ (by decide)⟩)) * x5 (ix2 r d)

/-- The keys, turned and scaled. -/
def KK (x : TR0) (x4 x5 : TR1) (h : Fin 4) (r : Fin 256) (d : Fin 128) : EReal :=
  RT x x4 x5 h r d * Ideal.ofBits .f32 0x3DB504F3#32

/-- What the state kept from earlier tiles gives to a row. -/
def kinter (lg : EReal) (q : Fin 256 → Fin 128 → EReal) (S : Fin 128 → Fin 128 → EReal) (r : Fin 256) (d : Fin 128) : EReal :=
  ∑ x, q r x * Ideal.exp ((FloatOps.sitofp (F := Ideal) .f32 (BitVec.ofNat 32 r.val) + 1) * lg) * S x d

/-- What the tile's own rows give to a row. -/
def kintra (lg : EReal) (q k v : Fin 256 → Fin 128 → EReal) (r : Fin 256) (d : Fin 128) : EReal :=
  ∑ x : Fin 256, Scalar.select (IntOp.cmpi .sge (BitVec.ofNat 32 r.val) (BitVec.ofNat 32 x.val))
    ((∑ y, q r y * k x y) * Ideal.exp (FloatOps.sitofp (F := Ideal) .f32 (IntOp.subi (BitVec.ofNat 32 r.val) (BitVec.ofNat 32 x.val)) * lg) * v x d) 0

/-- The state after a tile. -/
def knew (lg gc : EReal) (k v : Fin 256 → Fin 128 → EReal) (S : Fin 128 → Fin 128 → EReal) (a d : Fin 128) : EReal :=
  S a d * gc + ∑ x : Fin 256, k x a * Ideal.exp ((Ideal.ofBits .f32 0x437F0000#32 - FloatOps.sitofp (F := Ideal) .f32 (BitVec.ofNat 32 x.val)) * lg) * v x d

/-- A head's row, scaled by its root mean square and the gain and gated. -/
def kfin (o gn g : Fin 128 → EReal) (d : Fin 128) : EReal :=
  o d * Ideal.rsqrt (Ideal.div (∑ x, o x * o x) (Ideal.ofBits .f32 0x43000000#32) + Ideal.ofBits .f32 0x358637BD#32) * gn d
    * (g d * Ideal.div 1 (1 + Ideal.exp (0 - g d)))

/-- The four heads' states after a tile. -/
def KS (x1 x2 : TR0) (x4 x5 : TR1) (S : Fin 4 → Fin 128 → Fin 128 → EReal) : S4x128x128.Idx → EReal := fun y =>
  knew (LG (y 0)) (GC (y 0)) (KK x1 x4 x5 (y 0)) (fun r d => x2 (ix2 r (col (y 0) d))) (S (y 0)) (y 1) (y 2)

theorem KS_ix (x1 x2 : TR0) (x4 x5 : TR1) (S : Fin 4 → Fin 128 → Fin 128 → EReal) (h : Fin 4) (k d : Fin 128) :
    KS x1 x2 x4 x5 S (ix3 h k d) = knew (LG h) (GC h) (KK x1 x4 x5 h) (fun r d => x2 (ix2 r (col h d))) (S h) k d := rfl

/-- One head's rows of the result. -/
def KOh (x0 x1 x2 x3 : TR0) (x4 x5 : TR1) (x6 : TR2) (S : Fin 4 → Fin 128 → Fin 128 → EReal)
    (r : Fin 256) (h : Fin 4) (d : Fin 128) : EReal :=
  kfin (fun d => kintra (LG h) (RT x0 x4 x5 h) (KK x1 x4 x5 h) (fun r d => x2 (ix2 r (col h d))) r d + kinter (LG h) (RT x0 x4 x5 h) (S h) r d)
    (fun d => x6 (ix2 0 (col h d))) (fun d => x3 (ix2 r (col h d))) d

/-- The tile's rows of the result. -/
def KO (x0 x1 x2 x3 : TR0) (x4 x5 : TR1) (x6 : TR2) (S : Fin 4 → Fin 128 → Fin 128 → EReal) :
    S256x512.Idx → EReal := fun y =>
  KOh x0 x1 x2 x3 x4 x5 x6 S (y 0) ⟨(y 1).val / 128, by have h : (y 1).val < 512 := (y 1).isLt; omega⟩ ⟨(y 1).val % 128, Nat.mod_lt _ (by decide)⟩

theorem KO_col (x0 x1 x2 x3 : TR0) (x4 x5 : TR1) (x6 : TR2) (S : Fin 4 → Fin 128 → Fin 128 → EReal)
    (r : Fin 256) (h : Fin 4) (d : Fin 128) : KO x0 x1 x2 x3 x4 x5 x6 S (ix2 r (col h d)) = KOh x0 x1 x2 x3 x4 x5 x6 S r h d := by
  have e1 : (⟨(h.val * 128 + d.val) / 128, by omega⟩ : Fin 4) = h := Fin.ext (by show (h.val * 128 + d.val) / 128 = h.val; omega)
  have e2 : (⟨(h.val * 128 + d.val) % 128, by omega⟩ : Fin 128) = d := Fin.ext (by show (h.val * 128 + d.val) % 128 = d.val; omega)
  show KOh x0 x1 x2 x3 x4 x5 x6 S r ⟨(h.val * 128 + d.val) / 128, _⟩ ⟨(h.val * 128 + d.val) % 128, _⟩ = _
  rw [e1, e2]

theorem emb_o (h : Fin 4) (o : Nat) (ho : o = h.val * 128) (inb : ∀ a, ![0, o] a + S256x128.size a ≤ S256x512.size a) (r : Fin 256) (d : Fin 128) :
    (Rect.unit (s := S256x512) ![0, o] S256x128.size inb).emb (ix2 r d) = (ix2 r (col h d) : S256x512.Idx) := by
  subst ho
  funext a
  apply Fin.ext
  match a with
  | ⟨0, _⟩ => show 0 + 1 * r.val = r.val; omega
  | ⟨1, _⟩ => show h.val * 128 + 1 * d.val = h.val * 128 + d.val; omega

theorem emb_g (h : Fin 4) (o : Nat) (ho : o = h.val * 128) (inb : ∀ a, ![0, o] a + S1x128.size a ≤ S1x512.size a) (d : Fin 128) :
    (Rect.unit (s := S1x512) ![0, o] S1x128.size inb).emb (ix2 0 d) = (ix2 0 (col h d) : S1x512.Idx) := by
  subst ho
  funext a
  apply Fin.ext
  match a with
  | ⟨0, _⟩ => rfl
  | ⟨1, _⟩ => show h.val * 128 + 1 * d.val = h.val * 128 + d.val; omega

theorem emb_s (h : Fin 4) (o : Nat) (ho : o = h.val) (inb : ∀ a, ![o, 0, 0] a + S1x128x128.size a ≤ S4x128x128.size a) (k d : Fin 128) :
    (Rect.unit (s := S4x128x128) ![o, 0, 0] S1x128x128.size inb).emb (ix3 0 k d) = (ix3 h k d : S4x128x128.Idx) := by
  subst ho
  funext a
  apply Fin.ext
  match a with
  | ⟨0, _⟩ => show h.val + 1 * 0 = h.val; omega
  | ⟨1, _⟩ => show 0 + 1 * k.val = k.val; omega
  | ⟨2, _⟩ => show 0 + 1 * d.val = d.val; omega

theorem ld_o0 (x : TR0) (inb : ∀ a, ![0, 0] a + S256x128.size a ≤ S256x512.size a) (r : Fin 256) (d : Fin 128) :
    (View.ld x (Rect.unit (s := S256x512) ![0, 0] S256x128.size inb) : Vec Ideal S256x128 .bf16) (ix2 r d) = x (ix2 r (col 0 d)) := congrArg x (emb_o 0 _ rfl inb r d)
theorem ld_g0 (x : TR2) (inb : ∀ a, ![0, 0] a + S1x128.size a ≤ S1x512.size a) (d : Fin 128) :
    (View.ld x (Rect.unit (s := S1x512) ![0, 0] S1x128.size inb) : Vec Ideal S1x128 .f32) (ix2 0 d) = x (ix2 0 (col 0 d)) := congrArg x (emb_g 0 _ rfl inb d)
theorem ld_s0 (x : TR3) (inb : ∀ a, ![0, 0, 0] a + S1x128x128.size a ≤ S4x128x128.size a) (k d : Fin 128) :
    (View.ld x (Rect.unit (s := S4x128x128) ![0, 0, 0] S1x128x128.size inb) : Vec Ideal S1x128x128 .f32) (ix3 0 k d) = x (ix3 0 k d) := congrArg x (emb_s 0 _ rfl inb k d)

theorem ld_o1 (x : TR0) (inb : ∀ a, ![0, 128] a + S256x128.size a ≤ S256x512.size a) (r : Fin 256) (d : Fin 128) :
    (View.ld x (Rect.unit (s := S256x512) ![0, 128] S256x128.size inb) : Vec Ideal S256x128 .bf16) (ix2 r d) = x (ix2 r (col 1 d)) := congrArg x (emb_o 1 _ rfl inb r d)
theorem ld_g1 (x : TR2) (inb : ∀ a, ![0, 128] a + S1x128.size a ≤ S1x512.size a) (d : Fin 128) :
    (View.ld x (Rect.unit (s := S1x512) ![0, 128] S1x128.size inb) : Vec Ideal S1x128 .f32) (ix2 0 d) = x (ix2 0 (col 1 d)) := congrArg x (emb_g 1 _ rfl inb d)
theorem ld_s1 (x : TR3) (inb : ∀ a, ![1, 0, 0] a + S1x128x128.size a ≤ S4x128x128.size a) (k d : Fin 128) :
    (View.ld x (Rect.unit (s := S4x128x128) ![1, 0, 0] S1x128x128.size inb) : Vec Ideal S1x128x128 .f32) (ix3 0 k d) = x (ix3 1 k d) := congrArg x (emb_s 1 _ rfl inb k d)

theorem ld_o2 (x : TR0) (inb : ∀ a, ![0, 256] a + S256x128.size a ≤ S256x512.size a) (r : Fin 256) (d : Fin 128) :
    (View.ld x (Rect.unit (s := S256x512) ![0, 256] S256x128.size inb) : Vec Ideal S256x128 .bf16) (ix2 r d) = x (ix2 r (col 2 d)) := congrArg x (emb_o 2 _ rfl inb r d)
theorem ld_g2 (x : TR2) (inb : ∀ a, ![0, 256] a + S1x128.size a ≤ S1x512.size a) (d : Fin 128) :
    (View.ld x (Rect.unit (s := S1x512) ![0, 256] S1x128.size inb) : Vec Ideal S1x128 .f32) (ix2 0 d) = x (ix2 0 (col 2 d)) := congrArg x (emb_g 2 _ rfl inb d)
theorem ld_s2 (x : TR3) (inb : ∀ a, ![2, 0, 0] a + S1x128x128.size a ≤ S4x128x128.size a) (k d : Fin 128) :
    (View.ld x (Rect.unit (s := S4x128x128) ![2, 0, 0] S1x128x128.size inb) : Vec Ideal S1x128x128 .f32) (ix3 0 k d) = x (ix3 2 k d) := congrArg x (emb_s 2 _ rfl inb k d)

theorem ld_o3 (x : TR0) (inb : ∀ a, ![0, 384] a + S256x128.size a ≤ S256x512.size a) (r : Fin 256) (d : Fin 128) :
    (View.ld x (Rect.unit (s := S256x512) ![0, 384] S256x128.size inb) : Vec Ideal S256x128 .bf16) (ix2 r d) = x (ix2 r (col 3 d)) := congrArg x (emb_o 3 _ rfl inb r d)
theorem ld_g3 (x : TR2) (inb : ∀ a, ![0, 384] a + S1x128.size a ≤ S1x512.size a) (d : Fin 128) :
    (View.ld x (Rect.unit (s := S1x512) ![0, 384] S1x128.size inb) : Vec Ideal S1x128 .f32) (ix2 0 d) = x (ix2 0 (col 3 d)) := congrArg x (emb_g 3 _ rfl inb d)
theorem ld_s3 (x : TR3) (inb : ∀ a, ![3, 0, 0] a + S1x128x128.size a ≤ S4x128x128.size a) (k d : Fin 128) :
    (View.ld x (Rect.unit (s := S4x128x128) ![3, 0, 0] S1x128x128.size inb) : Vec Ideal S1x128x128 .f32) (ix3 0 k d) = x (ix3 3 k d) := congrArg x (emb_s 3 _ rfl inb k d)

theorem col0 (d : Fin 128) : col 0 d = ⟨d.val, by omega⟩ := Fin.ext (by show 0 * 128 + d.val = d.val; omega)

theorem z3 (z : S1x128x128.Idx) : ∃ (k d : Fin 128), z = ix3 0 k d := by
  refine ⟨z 1, z 2, funext fun a => Fin.ext ?_⟩
  match a with
  | ⟨0, _⟩ => show (z 0).val = 0; have h : (z 0).val < 1 := (z 0).isLt; omega
  | ⟨1, _⟩ => rfl
  | ⟨2, _⟩ => rfl

/-- A state of zeros. -/
theorem pay2_zero (y : S4x128x128.Idx) : (k0_pay2 (F := Ideal) y : EReal) = 0 := by
  obtain ⟨h, k, d, rfl⟩ : ∃ (h : Fin 4) (k d : Fin 128), y = ix3 h k d := ⟨y 0, y 1, y 2, eq_ix3 y⟩
  unfold k0_pay2
  pointwise

theorem sout_B (c : Dev nD) (i : grid0.Coords) (a2 : Memref sig .tc .vmem S256x512 .bf16) (h2 : a2.IsWhole) (a3 : Memref sig .tc .vmem S256x512 .bf16) (h3 : a3.IsWhole) (a4 : Memref sig .tc .vmem S256x512 .bf16) (h4 : a4.IsWhole) (a5 : Memref sig .tc .vmem S256x512 .bf16) (h5 : a5.IsWhole) (a6 : Memref sig .tc .vmem S256x128 .f32) (h6 : a6.IsWhole) (a7 : Memref sig .tc .vmem S256x128 .f32) (h7 : a7.IsWhole) (a8 : Memref sig .tc .vmem S1x512 .f32) (h8 : a8.IsWhole) (a9 : Memref sig .tc .vmem S256x512 .bf16) (h9 : a9.IsWhole) (a10 : Memref sig .tc .vmem S4x128x128 .f32) (h10 : a10.IsWhole) (hc : ¬cond0_0 i) (x0 x1 x2 x3 : TR0) (x4 x5 : TR1) (x6 : TR2) (xs0 : TR3) :
    sout0_B_0 c i a2 h2 a3 h3 a4 h4 a5 h5 a6 h6 a7 h7 a8 h8 a9 h9 a10 h10 hc x0 x1 x2 x3 x4 x5 x6 xs0 = KS x1 x2 x4 x5 (fun h k d => xs0 (ix3 h k d)) := by
  funext y
  unfold sout0_B_0
  rw [View.read_writes_eq_canon _ _ _ (scover0_B_0 c i a2 h2 a3 h3 a4 h4 a5 h5 a6 h6 a7 h7 a8 h8 a9 h9 a10 h10 hc x0 x1 x2 x3 x4 x5 x6 xs0)]
  unfold kernelRun0_B
  dsimp only
  sl_unfold_words
  simp only [View.readAt_eq_ld, h2.read_unread, h3.read_unread, h4.read_unread, h5.read_unread, h6.read_unread, h7.read_unread, h8.read_unread, h10.read_unread, View.ld_unit_zero (S := S256x128) hz]
  refine View.canon_append_of_pieces (Val := Elt Ideal) (e := .f32) (KS x1 x2 x4 x5 (fun h k d => xs0 (ix3 h k d))) _ [_, _, _, _] ?_ y (View.cover_of_tiledBy _ ![1, 128, 128] (by sl_kernel_rfl) y)
  intro p hp
  simp only [List.mem_cons, List.not_mem_nil, or_false] at hp
  rcases hp with rfl | rfl | rfl | rfl
  · intro z
    obtain ⟨k, d, rfl⟩ := z3 z
    refine Eq.trans ?_ ((congrArg _ (emb_s 3 3 rfl inb_S4x128x128_S1x128x128_3_0_0 k d)).trans (KS_ix _ _ _ _ _ 3 k d)).symm
    unfold k0_pay33 k0_pay24 k0_pay15 k0_pay5 k0_pay6 k0_pay7
    pointwise
    try simp only [ld_o0, ld_o1, ld_o2, ld_o3, ld_g0, ld_g1, ld_g2, ld_g3, ld_s0, ld_s1, ld_s2, ld_s3]
    rfl
  · intro z
    obtain ⟨k, d, rfl⟩ := z3 z
    refine Eq.trans ?_ ((congrArg _ (emb_s 2 2 rfl inb_S4x128x128_S1x128x128_2_0_0 k d)).trans (KS_ix _ _ _ _ _ 2 k d)).symm
    unfold k0_pay32 k0_pay23 k0_pay14 k0_pay5 k0_pay6 k0_pay7
    pointwise
    try simp only [ld_o0, ld_o1, ld_o2, ld_o3, ld_g0, ld_g1, ld_g2, ld_g3, ld_s0, ld_s1, ld_s2, ld_s3]
    rfl
  · intro z
    obtain ⟨k, d, rfl⟩ := z3 z
    refine Eq.trans ?_ ((congrArg _ (emb_s 1 1 rfl inb_S4x128x128_S1x128x128_1_0_0 k d)).trans (KS_ix _ _ _ _ _ 1 k d)).symm
    unfold k0_pay31 k0_pay30 k0_pay22 k0_pay13 k0_pay5 k0_pay6 k0_pay7
    pointwise
    try simp only [ld_o0, ld_o1, ld_o2, ld_o3, ld_g0, ld_g1, ld_g2, ld_g3, ld_s0, ld_s1, ld_s2, ld_s3]
    rfl
  · intro z
    obtain ⟨k, d, rfl⟩ := z3 z
    refine Eq.trans ?_ ((congrArg _ (emb_s 0 0 rfl inb_S4x128x128_S1x128x128_0_0_0 k d)).trans (KS_ix _ _ _ _ _ 0 k d)).symm
    unfold k0_pay29 k0_pay21 k0_pay12 k0_pay5 k0_pay6 k0_pay7
    pointwise
    try simp only [ld_o0, ld_o1, ld_o2, ld_o3, ld_g0, ld_g1, ld_g2, ld_g3, ld_s0, ld_s1, ld_s2, ld_s3]
    unfold knew KK RT; simp only [col0]; rfl

theorem out_B (c : Dev nD) (i : grid0.Coords) (a2 : Memref sig .tc .vmem S256x512 .bf16) (h2 : a2.IsWhole) (a3 : Memref sig .tc .vmem S256x512 .bf16) (h3 : a3.IsWhole) (a4 : Memref sig .tc .vmem S256x512 .bf16) (h4 : a4.IsWhole) (a5 : Memref sig .tc .vmem S256x512 .bf16) (h5 : a5.IsWhole) (a6 : Memref sig .tc .vmem S256x128 .f32) (h6 : a6.IsWhole) (a7 : Memref sig .tc .vmem S256x128 .f32) (h7 : a7.IsWhole) (a8 : Memref sig .tc .vmem S1x512 .f32) (h8 : a8.IsWhole) (a9 : Memref sig .tc .vmem S256x512 .bf16) (h9 : a9.IsWhole) (a10 : Memref sig .tc .vmem S4x128x128 .f32) (h10 : a10.IsWhole) (hc : ¬cond0_0 i) (x0 x1 x2 x3 : TR0) (x4 x5 : TR1) (x6 : TR2) (xs0 : TR3) :
    out0_B_7 c i a2 h2 a3 h3 a4 h4 a5 h5 a6 h6 a7 h7 a8 h8 a9 h9 a10 h10 hc x0 x1 x2 x3 x4 x5 x6 xs0 = KO x0 x1 x2 x3 x4 x5 x6 (fun h k d => xs0 (ix3 h k d)) := by
  funext y
  unfold out0_B_7
  rw [View.read_writes_eq_canon _ _ _ (cover0_B_7 c i a2 h2 a3 h3 a4 h4 a5 h5 a6 h6 a7 h7 a8 h8 a9 h9 a10 h10 hc x0 x1 x2 x3 x4 x5 x6 xs0)]
  unfold kernelRun0_B
  dsimp only
  sl_unfold_words
  simp only [View.readAt_eq_ld, h2.read_unread, h3.read_unread, h4.read_unread, h5.read_unread, h6.read_unread, h7.read_unread, h8.read_unread, h10.read_unread, View.ld_unit_zero (S := S256x128) hz]
  refine View.canon_append_of_pieces (Val := Elt Ideal) (e := .bf16) (KO x0 x1 x2 x3 x4 x5 x6 (fun h k d => xs0 (ix3 h k d))) _ [_, _, _, _] ?_ y (View.cover_of_tiledL _ ![256, 128] (by sl_kernel_rfl) y)
  intro p hp
  simp only [List.mem_cons, List.not_mem_nil, or_false] at hp
  rcases hp with rfl | rfl | rfl | rfl
  · intro z
    obtain ⟨r, d, rfl⟩ : ∃ (r : Fin 256) (d : Fin 128), z = ix2 r d := ⟨z 0, z 1, eq_ix2 z⟩
    refine Eq.trans ?_ ((congrArg _ (emb_o 3 384 rfl inb_S256x512_S256x128_0_384 r d)).trans (KO_col _ _ _ _ _ _ _ _ r 3 d)).symm
    unfold k0_pay1 k0_pay43 k0_pay44 k0_pay45 k0_pay37 k0_pay28 k0_pay24 k0_pay20 k0_pay11 k0_pay6 k0_pay7 k0_pay15 k0_pay3 k0_pay4 k0_pay5
    pointwise
    try simp only [ld_o0, ld_o1, ld_o2, ld_o3, ld_g0, ld_g1, ld_g2, ld_g3, ld_s0, ld_s1, ld_s2, ld_s3]
    rfl
  · intro z
    obtain ⟨r, d, rfl⟩ : ∃ (r : Fin 256) (d : Fin 128), z = ix2 r d := ⟨z 0, z 1, eq_ix2 z⟩
    refine Eq.trans ?_ ((congrArg _ (emb_o 2 256 rfl inb_S256x512_S256x128_0_256 r d)).trans (KO_col _ _ _ _ _ _ _ _ r 2 d)).symm
    unfold k0_pay42 k0_pay36 k0_pay27 k0_pay23 k0_pay19 k0_pay10 k0_pay6 k0_pay7 k0_pay14 k0_pay3 k0_pay4 k0_pay5
    pointwise
    try simp only [ld_o0, ld_o1, ld_o2, ld_o3, ld_g0, ld_g1, ld_g2, ld_g3, ld_s0, ld_s1, ld_s2, ld_s3]
    rfl
  · intro z
    obtain ⟨r, d, rfl⟩ : ∃ (r : Fin 256) (d : Fin 128), z = ix2 r d := ⟨z 0, z 1, eq_ix2 z⟩
    refine Eq.trans ?_ ((congrArg _ (emb_o 1 128 rfl inb_S256x512_S256x128_0_128 r d)).trans (KO_col _ _ _ _ _ _ _ _ r 1 d)).symm
    unfold k0_pay41 k0_pay35 k0_pay26 k0_pay22 k0_pay18 k0_pay9 k0_pay6 k0_pay7 k0_pay13 k0_pay3 k0_pay4 k0_pay5
    pointwise
    try simp only [ld_o0, ld_o1, ld_o2, ld_o3, ld_g0, ld_g1, ld_g2, ld_g3, ld_s0, ld_s1, ld_s2, ld_s3]
    rfl
  · intro z
    obtain ⟨r, d, rfl⟩ : ∃ (r : Fin 256) (d : Fin 128), z = ix2 r d := ⟨z 0, z 1, eq_ix2 z⟩
    refine Eq.trans ?_ ((congrArg _ (emb_o 0 0 rfl inb_S256x512_S256x128_0_0 r d)).trans (KO_col _ _ _ _ _ _ _ _ r 0 d)).symm
    unfold k0_pay40 k0_pay38 k0_pay39 k0_pay34 k0_pay25 k0_pay21 k0_pay16 k0_pay17 k0_pay8 k0_pay6 k0_pay7 k0_pay12 k0_pay3 k0_pay4 k0_pay5
    pointwise
    try simp only [ld_o0, ld_o1, ld_o2, ld_o3, ld_g0, ld_g1, ld_g2, ld_g3, ld_s0, ld_s1, ld_s2, ld_s3]
    unfold KOh kfin kintra kinter KK RT; simp only [col0]; rfl

theorem sout_A (c : Dev nD) (i : grid0.Coords) (a2 : Memref sig .tc .vmem S256x512 .bf16) (h2 : a2.IsWhole) (a3 : Memref sig .tc .vmem S256x512 .bf16) (h3 : a3.IsWhole) (a4 : Memref sig .tc .vmem S256x512 .bf16) (h4 : a4.IsWhole) (a5 : Memref sig .tc .vmem S256x512 .bf16) (h5 : a5.IsWhole) (a6 : Memref sig .tc .vmem S256x128 .f32) (h6 : a6.IsWhole) (a7 : Memref sig .tc .vmem S256x128 .f32) (h7 : a7.IsWhole) (a8 : Memref sig .tc .vmem S1x512 .f32) (h8 : a8.IsWhole) (a9 : Memref sig .tc .vmem S256x512 .bf16) (h9 : a9.IsWhole) (a10 : Memref sig .tc .vmem S4x128x128 .f32) (h10 : a10.IsWhole) (hc : cond0_0 i) (x0 x1 x2 x3 : TR0) (x4 x5 : TR1) (x6 : TR2) :
    sout0_A_0 c i a2 h2 a3 h3 a4 h4 a5 h5 a6 h6 a7 h7 a8 h8 a9 h9 a10 h10 hc x0 x1 x2 x3 x4 x5 x6 = KS x1 x2 x4 x5 (fun _ _ _ => 0) := by
  funext y
  unfold sout0_A_0
  rw [View.read_writes_eq_canon _ _ _ (scover0_A_0 c i a2 h2 a3 h3 a4 h4 a5 h5 a6 h6 a7 h7 a8 h8 a9 h9 a10 h10 hc x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h10.read_unread, View.ld_unit_zero (S := S256x128) hz, View.readCov_eq_canon', View.canon_unit_zero (S := S4x128x128) hz3]
  refine View.canon_append_of_pieces (Val := Elt Ideal) (e := .f32) (KS x1 x2 x4 x5 (fun _ _ _ => 0)) _ [_, _, _, _] ?_ y (View.cover_of_tiledBy _ ![1, 128, 128] (by sl_kernel_rfl) y)
  intro p hp
  simp only [List.mem_cons, List.not_mem_nil, or_false] at hp
  rcases hp with rfl | rfl | rfl | rfl
  · intro z
    obtain ⟨k, d, rfl⟩ := z3 z
    refine Eq.trans ?_ ((congrArg _ (emb_s 3 3 rfl inb_S4x128x128_S1x128x128_3_0_0 k d)).trans (KS_ix _ _ _ _ _ 3 k d)).symm
    unfold k0_pay33 k0_pay24 k0_pay15 k0_pay5 k0_pay6 k0_pay7
    pointwise
    try simp only [ld_o0, ld_o1, ld_o2, ld_o3, ld_g0, ld_g1, ld_g2, ld_g3, ld_s0, ld_s1, ld_s2, ld_s3, pay2_zero]
    rfl
  · intro z
    obtain ⟨k, d, rfl⟩ := z3 z
    refine Eq.trans ?_ ((congrArg _ (emb_s 2 2 rfl inb_S4x128x128_S1x128x128_2_0_0 k d)).trans (KS_ix _ _ _ _ _ 2 k d)).symm
    unfold k0_pay32 k0_pay23 k0_pay14 k0_pay5 k0_pay6 k0_pay7
    pointwise
    try simp only [ld_o0, ld_o1, ld_o2, ld_o3, ld_g0, ld_g1, ld_g2, ld_g3, ld_s0, ld_s1, ld_s2, ld_s3, pay2_zero]
    rfl
  · intro z
    obtain ⟨k, d, rfl⟩ := z3 z
    refine Eq.trans ?_ ((congrArg _ (emb_s 1 1 rfl inb_S4x128x128_S1x128x128_1_0_0 k d)).trans (KS_ix _ _ _ _ _ 1 k d)).symm
    unfold k0_pay31 k0_pay30 k0_pay22 k0_pay13 k0_pay5 k0_pay6 k0_pay7
    pointwise
    try simp only [ld_o0, ld_o1, ld_o2, ld_o3, ld_g0, ld_g1, ld_g2, ld_g3, ld_s0, ld_s1, ld_s2, ld_s3, pay2_zero]
    rfl
  · intro z
    obtain ⟨k, d, rfl⟩ := z3 z
    refine Eq.trans ?_ ((congrArg _ (emb_s 0 0 rfl inb_S4x128x128_S1x128x128_0_0_0 k d)).trans (KS_ix _ _ _ _ _ 0 k d)).symm
    unfold k0_pay29 k0_pay21 k0_pay12 k0_pay5 k0_pay6 k0_pay7
    pointwise
    try simp only [ld_o0, ld_o1, ld_o2, ld_o3, ld_g0, ld_g1, ld_g2, ld_g3, ld_s0, ld_s1, ld_s2, ld_s3, pay2_zero]
    unfold knew KK RT; simp only [col0]; rfl

theorem out_A (c : Dev nD) (i : grid0.Coords) (a2 : Memref sig .tc .vmem S256x512 .bf16) (h2 : a2.IsWhole) (a3 : Memref sig .tc .vmem S256x512 .bf16) (h3 : a3.IsWhole) (a4 : Memref sig .tc .vmem S256x512 .bf16) (h4 : a4.IsWhole) (a5 : Memref sig .tc .vmem S256x512 .bf16) (h5 : a5.IsWhole) (a6 : Memref sig .tc .vmem S256x128 .f32) (h6 : a6.IsWhole) (a7 : Memref sig .tc .vmem S256x128 .f32) (h7 : a7.IsWhole) (a8 : Memref sig .tc .vmem S1x512 .f32) (h8 : a8.IsWhole) (a9 : Memref sig .tc .vmem S256x512 .bf16) (h9 : a9.IsWhole) (a10 : Memref sig .tc .vmem S4x128x128 .f32) (h10 : a10.IsWhole) (hc : cond0_0 i) (x0 x1 x2 x3 : TR0) (x4 x5 : TR1) (x6 : TR2) :
    out0_A_7 c i a2 h2 a3 h3 a4 h4 a5 h5 a6 h6 a7 h7 a8 h8 a9 h9 a10 h10 hc x0 x1 x2 x3 x4 x5 x6 = KO x0 x1 x2 x3 x4 x5 x6 (fun _ _ _ => 0) := by
  funext y
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h10.read_unread, View.ld_unit_zero (S := S256x128) hz, View.readCov_eq_canon', View.canon_unit_zero (S := S4x128x128) hz3]
  refine View.canon_append_of_pieces (Val := Elt Ideal) (e := .bf16) (KO x0 x1 x2 x3 x4 x5 x6 (fun _ _ _ => 0)) _ [_, _, _, _] ?_ y (View.cover_of_tiledL _ ![256, 128] (by sl_kernel_rfl) y)
  intro p hp
  simp only [List.mem_cons, List.not_mem_nil, or_false] at hp
  rcases hp with rfl | rfl | rfl | rfl
  · intro z
    obtain ⟨r, d, rfl⟩ : ∃ (r : Fin 256) (d : Fin 128), z = ix2 r d := ⟨z 0, z 1, eq_ix2 z⟩
    refine Eq.trans ?_ ((congrArg _ (emb_o 3 384 rfl inb_S256x512_S256x128_0_384 r d)).trans (KO_col _ _ _ _ _ _ _ _ r 3 d)).symm
    unfold k0_pay1 k0_pay43 k0_pay44 k0_pay45 k0_pay37 k0_pay28 k0_pay24 k0_pay20 k0_pay11 k0_pay6 k0_pay7 k0_pay15 k0_pay3 k0_pay4 k0_pay5
    pointwise
    try simp only [ld_o0, ld_o1, ld_o2, ld_o3, ld_g0, ld_g1, ld_g2, ld_g3, ld_s0, ld_s1, ld_s2, ld_s3, pay2_zero]
    rfl
  · intro z
    obtain ⟨r, d, rfl⟩ : ∃ (r : Fin 256) (d : Fin 128), z = ix2 r d := ⟨z 0, z 1, eq_ix2 z⟩
    refine Eq.trans ?_ ((congrArg _ (emb_o 2 256 rfl inb_S256x512_S256x128_0_256 r d)).trans (KO_col _ _ _ _ _ _ _ _ r 2 d)).symm
    unfold k0_pay42 k0_pay36 k0_pay27 k0_pay23 k0_pay19 k0_pay10 k0_pay6 k0_pay7 k0_pay14 k0_pay3 k0_pay4 k0_pay5
    pointwise
    try simp only [ld_o0, ld_o1, ld_o2, ld_o3, ld_g0, ld_g1, ld_g2, ld_g3, ld_s0, ld_s1, ld_s2, ld_s3, pay2_zero]
    rfl
  · intro z
    obtain ⟨r, d, rfl⟩ : ∃ (r : Fin 256) (d : Fin 128), z = ix2 r d := ⟨z 0, z 1, eq_ix2 z⟩
    refine Eq.trans ?_ ((congrArg _ (emb_o 1 128 rfl inb_S256x512_S256x128_0_128 r d)).trans (KO_col _ _ _ _ _ _ _ _ r 1 d)).symm
    unfold k0_pay41 k0_pay35 k0_pay26 k0_pay22 k0_pay18 k0_pay9 k0_pay6 k0_pay7 k0_pay13 k0_pay3 k0_pay4 k0_pay5
    pointwise
    try simp only [ld_o0, ld_o1, ld_o2, ld_o3, ld_g0, ld_g1, ld_g2, ld_g3, ld_s0, ld_s1, ld_s2, ld_s3, pay2_zero]
    rfl
  · intro z
    obtain ⟨r, d, rfl⟩ : ∃ (r : Fin 256) (d : Fin 128), z = ix2 r d := ⟨z 0, z 1, eq_ix2 z⟩
    refine Eq.trans ?_ ((congrArg _ (emb_o 0 0 rfl inb_S256x512_S256x128_0_0 r d)).trans (KO_col _ _ _ _ _ _ _ _ r 0 d)).symm
    unfold k0_pay40 k0_pay38 k0_pay39 k0_pay34 k0_pay25 k0_pay21 k0_pay16 k0_pay17 k0_pay8 k0_pay6 k0_pay7 k0_pay12 k0_pay3 k0_pay4 k0_pay5
    pointwise
    try simp only [ld_o0, ld_o1, ld_o2, ld_o3, ld_g0, ld_g1, ld_g2, ld_g3, ld_s0, ld_s1, ld_s2, ld_s3, pay2_zero]
    unfold KOh kfin kintra kinter KK RT; simp only [col0]; rfl

end Cert.RetIdeal.Spec

end
-- ==== Proof.RetReal.lean ====
module

public import proofs.«01_k».proof.Defs
public import proofs.«01_k».proof.Proof.Real
public import proofs.«01_k».proof.Proof.RetKer

@[expose] public section

set_option maxRecDepth 16384

noncomputable section

open Idealize.ShloMosaic Idealize.ShloMosaic.TcCoe Idealize.SL.Sem
open Idealize.ShloMosaic.Pipeline (Dat)
open scoped BigOperators

namespace Cert.Proof.Ret

open Cert.Proof

/-! ## The recurrence over the reals -/

/-- The state kept before tile `n`: every earlier position's key and value, decayed to the tile's edge. -/
def St (L : ℝ) (k v : ℕ → Fin 128 → ℝ) (n : ℕ) (a d : Fin 128) : ℝ :=
  ∑ s ∈ Finset.range (256 * n), k s a * Real.exp ((256 * (n : ℝ) - 1 - s) * L) * v s d

/-- All positions up to `p`, each decayed by its distance. -/
def Oall (L : ℝ) (q k v : ℕ → Fin 128 → ℝ) (p : ℕ) (d : Fin 128) : ℝ :=
  ∑ s ∈ Finset.range 4096, if s ≤ p then (∑ y, q p y * k s y) * Real.exp (((p : ℝ) - s) * L) * v s d else 0

theorem St_zero (L : ℝ) (k v : ℕ → Fin 128 → ℝ) (a d : Fin 128) : St L k v 0 a d = 0 := by simp [St]

theorem St_succ (L : ℝ) (k v : ℕ → Fin 128 → ℝ) (n : ℕ) (a d : Fin 128) :
    St L k v (n + 1) a d = St L k v n a d * Real.exp (256 * L)
      + ∑ x : Fin 256, k (256 * n + x.val) a * Real.exp ((255 - (x.val : ℝ)) * L) * v (256 * n + x.val) d := by
  unfold St
  rw [show 256 * (n + 1) = 256 * n + 256 by ring, Finset.sum_range_add, Finset.sum_mul,
    Fin.sum_univ_eq_sum_range (fun x => k (256 * n + x) a * Real.exp ((255 - (x : ℝ)) * L) * v (256 * n + x) d) 256]
  refine congrArg₂ (· + ·) (Finset.sum_congr rfl fun s _ => ?_) (Finset.sum_congr rfl fun x _ => ?_)
  · rw [show (256 * ((n + 1 : ℕ) : ℝ) - 1 - s) * L = (256 * (n : ℝ) - 1 - s) * L + 256 * L by push_cast; ring, Real.exp_add]
    ring
  · rw [show (256 * ((n + 1 : ℕ) : ℝ) - 1 - ((256 * n + x : ℕ) : ℝ)) * L = (255 - (x : ℝ)) * L by push_cast; ring]

theorem O_split (L : ℝ) (q k v : ℕ → Fin 128 → ℝ) (n r : ℕ) (hn : n < 16) (hr : r < 256) (d : Fin 128) :
    Oall L q k v (256 * n + r) d
      = (∑ x : Fin 256, if x.val ≤ r then (∑ y, q (256 * n + r) y * k (256 * n + x.val) y) * Real.exp (((r : ℝ) - x.val) * L) * v (256 * n + x.val) d else 0)
        + ∑ a, q (256 * n + r) a * Real.exp (((r : ℝ) + 1) * L) * St L k v n a d := by
  unfold Oall
  rw [show (4096 : ℕ) = 256 * n + 256 + (4096 - (256 * n + 256)) by omega, Finset.sum_range_add, Finset.sum_range_add]
  have h3 : ∑ x ∈ Finset.range (4096 - (256 * n + 256)), (if 256 * n + 256 + x ≤ 256 * n + r then
      (∑ y, q (256 * n + r) y * k (256 * n + 256 + x) y) * Real.exp ((((256 * n + r : ℕ) : ℝ) - ((256 * n + 256 + x : ℕ) : ℝ)) * L) * v (256 * n + 256 + x) d else 0) = 0 :=
    Finset.sum_eq_zero fun x _ => if_neg (by omega)
  rw [h3, add_zero, add_comm]
  refine congrArg₂ (· + ·) ?_ ?_
  · rw [Fin.sum_univ_eq_sum_range (fun x => if x ≤ r then (∑ y, q (256 * n + r) y * k (256 * n + x) y) * Real.exp (((r : ℝ) - x) * L) * v (256 * n + x) d else 0) 256]
    refine Finset.sum_congr rfl fun x _ => ?_
    by_cases hx : x ≤ r
    · rw [if_pos hx, if_pos (by omega)]
      rw [show (((256 * n + r : ℕ) : ℝ) - ((256 * n + x : ℕ) : ℝ)) * L = ((r : ℝ) - x) * L by push_cast; ring]
    · rw [if_neg hx, if_neg (by omega)]
  · unfold St
    simp only [Finset.mul_sum]
    rw [Finset.sum_comm]
    refine Finset.sum_congr rfl fun s hs => ?_
    have hs' := Finset.mem_range.mp hs
    rw [if_pos (by omega), Finset.sum_mul, Finset.sum_mul]
    refine Finset.sum_congr rfl fun a _ => ?_
    rw [show (((256 * n + r : ℕ) : ℝ) - s) * L = ((r : ℝ) + 1) * L + (256 * (n : ℝ) - 1 - s) * L by push_cast; ring, Real.exp_add]
    ring

/-! ## Positions as machine numbers -/

theorem toInt_small (n : ℕ) (h : n < 2 ^ 31) : (BitVec.ofNat 32 n).toInt = n := by
  rw [BitVec.toInt_eq_toNat_of_lt (by rw [BitVec.toNat_ofNat]; omega), BitVec.toNat_ofNat]
  omega

theorem toInt_diff (a b : ℕ) (ha : a < 4096) (hb : b < 4096) : (IntOp.subi (BitVec.ofNat 32 a) (BitVec.ofNat 32 b)).toInt = (a : ℤ) - b := by
  show (BitVec.ofNat 32 a - BitVec.ofNat 32 b).toInt = _
  rw [BitVec.toInt_sub, toInt_small a (by omega), toInt_small b (by omega), Int.bmod_eq_of_le (by omega) (by omega)]

theorem sitofp_small (n : ℕ) (h : n < 2 ^ 31) : (FloatOps.sitofp (F := Ideal) .f32 (BitVec.ofNat 32 n) : EReal) = ((n : ℝ) : EReal) := by
  show (((BitVec.ofNat 32 n).toInt : ℝ) : EReal) = _
  rw [toInt_small n h]
  simp

theorem sitofp_diff (a b : ℕ) (ha : a < 4096) (hb : b < 4096) :
    (FloatOps.sitofp (F := Ideal) .f32 (IntOp.subi (BitVec.ofNat 32 a) (BitVec.ofNat 32 b)) : EReal) = (((a : ℝ) - b : ℝ) : EReal) := by
  show (((IntOp.subi (BitVec.ofNat 32 a) (BitVec.ofNat 32 b)).toInt : ℝ) : EReal) = _
  rw [toInt_diff a b ha hb]
  push_cast
  rfl

theorem select_le {α : Type} (a b : ℕ) (ha : a < 4096) (hb : b < 4096) (x y : α) :
    Scalar.select (IntOp.cmpi .sge (BitVec.ofNat 32 a) (BitVec.ofNat 32 b)) x y = if b ≤ a then x else y := by
  have hs : IntOp.cmpi .sge (BitVec.ofNat 32 a) (BitVec.ofNat 32 b) = BitVec.ofBool (decide (b ≤ a)) := by
    show BitVec.ofBool ((BitVec.ofNat 32 b).sle (BitVec.ofNat 32 a)) = _
    rw [BitVec.sle_eq_decide, toInt_small a (by omega), toInt_small b (by omega)]
    simp
  rw [hs]
  by_cases h : b ≤ a
  · rw [if_pos h, decide_eq_true h]; rfl
  · rw [if_neg h, decide_eq_false h]; rfl

/-! ## The decays -/

/-- The logarithm of each head's decay. -/
def lgR : Fin 4 → ℝ := ![Real.log (31 / 32), Real.log (63 / 64), Real.log (127 / 128), Real.log (255 / 256)]

theorem exp_pow (x : ℝ) (hx : 0 < x) : Real.exp (256 * Real.log x) = x ^ 256 := by
  have h := Real.exp_nat_mul (Real.log x) 256
  rw [Real.exp_log hx] at h
  rw [← h]
  norm_num

theorem LG_eq (h : Fin 4) : RetIdeal.Spec.LG h = ((lgR h : ℝ) : EReal) := by
  fin_cases h
  · exact IdealRules.named_const.ideal_named_scalar RetIdeal.κ "lg0" (φ := .f32) 0xBD020AEC#32 _ rfl
  · exact IdealRules.named_const.ideal_named_scalar RetIdeal.κ "lg1" (φ := .f32) 0xBC8102B3#32 _ rfl
  · exact IdealRules.named_const.ideal_named_scalar RetIdeal.κ "lg2" (φ := .f32) 0xBC0080AC#32 _ rfl
  · exact IdealRules.named_const.ideal_named_scalar RetIdeal.κ "lg3" (φ := .f32) 0xBB80402B#32 _ rfl

theorem GC_eq (h : Fin 4) : RetIdeal.Spec.GC h = ((Real.exp (256 * lgR h) : ℝ) : EReal) := by
  fin_cases h
  · refine (IdealRules.named_const.ideal_named_scalar RetIdeal.κ "gc0" (φ := .f32) 0x399ACCA1#32 _ rfl).trans (congrArg _ ?_)
    exact Eq.trans (by norm_num) (exp_pow (31 / 32) (by norm_num)).symm
  · refine (IdealRules.named_const.ideal_named_scalar RetIdeal.κ "gc1" (φ := .f32) 0x3C9160A5#32 _ rfl).trans (congrArg _ ?_)
    exact Eq.trans (by norm_num) (exp_pow (63 / 64) (by norm_num)).symm
  · refine (IdealRules.named_const.ideal_named_scalar RetIdeal.κ "gc2" (φ := .f32) 0x3E097FCE#32 _ rfl).trans (congrArg _ ?_)
    exact Eq.trans (by norm_num) (exp_pow (127 / 128) (by norm_num)).symm
  · refine (IdealRules.named_const.ideal_named_scalar RetIdeal.κ "gc3" (φ := .f32) 0x3EBBFC5D#32 _ rfl).trans (congrArg _ ?_)
    exact Eq.trans (by norm_num) (exp_pow (255 / 256) (by norm_num)).symm

theorem c255 : Ideal.ofBits .f32 0x437F0000#32 = ((255 : ℝ) : EReal) := by
  simp [Ideal.ofBits, Ideal.ieee, -EReal.coe_mul]; norm_num

/-! ## One tile over the reals -/

open RetIdeal.Spec in
theorem knew_real (h : Fin 4) (k v : ℕ → Fin 128 → ℝ) (n : ℕ) (kE vE : Fin 256 → Fin 128 → EReal) (S : Fin 128 → Fin 128 → EReal)
    (hk : ∀ r d, kE r d = ((k (256 * n + r.val) d : ℝ) : EReal)) (hv : ∀ r d, vE r d = ((v (256 * n + r.val) d : ℝ) : EReal))
    (hS : ∀ a d, S a d = ((St (lgR h) k v n a d : ℝ) : EReal)) (a d : Fin 128) :
    knew (LG h) (GC h) kE vE S a d = ((St (lgR h) k v (n + 1) a d : ℝ) : EReal) := by
  unfold knew
  rw [St_succ, LG_eq, GC_eq, hS, EReal.coe_add, EReal.coe_mul, coe_sum]
  refine congrArg₂ (· + ·) rfl (Finset.sum_congr rfl fun x _ => ?_)
  rw [hk, hv, c255, sitofp_small _ (by omega), ← EReal.coe_sub, ← EReal.coe_mul, EReal.coe_mul, EReal.coe_mul]
  rfl

open RetIdeal.Spec in
theorem kout_real (h : Fin 4) (q k v : ℕ → Fin 128 → ℝ) (n : ℕ) (hn : n < 16) (qE kE vE : Fin 256 → Fin 128 → EReal) (S : Fin 128 → Fin 128 → EReal)
    (hq : ∀ r d, qE r d = ((q (256 * n + r.val) d : ℝ) : EReal))
    (hk : ∀ r d, kE r d = ((k (256 * n + r.val) d : ℝ) : EReal)) (hv : ∀ r d, vE r d = ((v (256 * n + r.val) d : ℝ) : EReal))
    (hS : ∀ a d, S a d = ((St (lgR h) k v n a d : ℝ) : EReal)) (r : Fin 256) (d : Fin 128) :
    kintra (LG h) qE kE vE r d + kinter (LG h) qE S r d = ((Oall (lgR h) q k v (256 * n + r.val) d : ℝ) : EReal) := by
  unfold kintra kinter
  rw [O_split _ _ _ _ _ _ hn r.isLt, LG_eq, EReal.coe_add, coe_sum, coe_sum]
  refine congrArg₂ (· + ·) (Finset.sum_congr rfl fun x _ => ?_) (Finset.sum_congr rfl fun x _ => ?_)
  · rw [select_le _ _ (by omega) (by omega)]
    by_cases hx : x.val ≤ r.val
    · rw [if_pos hx, if_pos hx, EReal.coe_mul, EReal.coe_mul, coe_sum, hv, sitofp_diff _ _ (by omega) (by omega), ← EReal.coe_mul]
      refine congrArg₂ (· * ·) (congrArg₂ (· * ·) (Finset.sum_congr rfl fun y _ => ?_) rfl) rfl
      rw [hq, hk, EReal.coe_mul]
    · rw [if_neg hx, if_neg hx]; rfl
  · rw [hq, hS, sitofp_small _ (by omega), EReal.coe_mul, EReal.coe_mul]
    rw [show (((r.val : ℝ) : EReal) + 1) * ((lgR h : ℝ) : EReal) = ((((r.val : ℝ) + 1) * lgR h : ℝ) : EReal) by rw [EReal.coe_mul, EReal.coe_add]; rfl]
    rfl

end Cert.Proof.Ret

namespace Cert.Proof.RetClaims

theorem preserves : Cert.preserves_Ret_RetIdeal :=
  ⟨IdealRules.named_const.statement _ _ _ _ _ rfl, IdealRules.named_const.statement _ _ _ _ _ rfl, IdealRules.named_const.statement _ _ _ _ _ rfl,
   IdealRules.named_const.statement _ _ _ _ _ rfl, IdealRules.named_const.statement _ _ _ _ _ rfl, IdealRules.named_const.statement _ _ _ _ _ rfl,
   IdealRules.named_const.statement _ _ _ _ _ rfl, IdealRules.named_const.statement _ _ _ _ _ rfl⟩

end Cert.Proof.RetClaims

end
-- ==== Proof.RetMid.lean ====
module

public import proofs.«01_k».proof.Defs
public import proofs.«01_k».proof.Proof.Real
public import proofs.«01_k».proof.Proof.RetReal

@[expose] public section

set_option maxRecDepth 16384

noncomputable section

open Idealize.ShloMosaic Idealize.ShloMosaic.TcCoe Idealize.SL.Sem
open Idealize.ShloMosaic.Pipeline (Dat)
open scoped BigOperators

namespace Cert.Proof.Ret

open Cert.Proof Cert.RetIdeal.Spec

/-- The angle of a position in a pair of columns. -/
def ang (p d : ℕ) : EReal :=
  FloatOps.sitofp (F := Ideal) .f32 (BitVec.ofNat 32 p)
    * Ideal.pow (Ideal.ofBits .f32 0x461C4000#32) (Ideal.div (-FloatOps.sitofp (F := Ideal) .f32 (BitVec.ofNat 32 d)) (Ideal.ofBits .f32 0x42800000#32))

/-- The cosines, both halves of a row alike. -/
def CT (p : ℕ) (d : Fin 128) : EReal := if d.val < 64 then Ideal.cos (ang p d.val) else Ideal.cos (ang p (d.val - 64))

/-- The sines, negated in the first half of a row. -/
def SN (p : ℕ) (d : Fin 128) : EReal := if d.val < 64 then -Ideal.sin (ang p d.val) else Ideal.sin (ang p (d.val - 64))

theorem c10000 : Fin1 (Ideal.ofBits .f32 0x461C4000#32) := by
  refine ⟨_, by simp [Ideal.ofBits, Ideal.ieee, -EReal.coe_mul]; rfl⟩

theorem c64 : Ideal.ofBits .f32 0x42800000#32 = ((64 : ℝ) : EReal) := by
  simp [Ideal.ofBits, Ideal.ieee, -EReal.coe_mul]; norm_num

theorem ang_fin (p d : ℕ) (hp : p < 4096) (hd : d < 128) : Fin1 (ang p d) := by
  unfold ang
  obtain ⟨z, hz⟩ := c10000
  rw [sitofp_small p (by omega), sitofp_small d (by omega), hz, c64, Ideal.div_coe (by norm_num), ← EReal.coe_neg, ← EReal.coe_mul, Ideal.pow_coe_coe]
  exact Fin1.mul ⟨_, rfl⟩ ⟨_, rfl⟩

theorem cos_fin {x : EReal} (h : Fin1 x) : Fin1 (Ideal.cos x) := by obtain ⟨r, rfl⟩ := h; exact ⟨_, rfl⟩
theorem sin_fin {x : EReal} (h : Fin1 x) : Fin1 (Ideal.sin x) := by obtain ⟨r, rfl⟩ := h; exact ⟨_, rfl⟩
theorem neg_fin {x : EReal} (h : Fin1 x) : Fin1 (-x) := by obtain ⟨r, rfl⟩ := h; exact ⟨-r, rfl⟩

theorem CT_fin (p : ℕ) (hp : p < 4096) (d : Fin 128) : Fin1 (CT p d) := by
  unfold CT
  split
  · exact cos_fin (ang_fin _ _ hp (by omega))
  · exact cos_fin (ang_fin _ _ hp (by omega))

theorem SN_fin (p : ℕ) (hp : p < 4096) (d : Fin 128) : Fin1 (SN p d) := by
  unfold SN
  split
  · exact neg_fin (sin_fin (ang_fin _ _ hp (by omega)))
  · exact sin_fin (ang_fin _ _ hp (by omega))

/-- A position of a sequence as a row of the array. -/
def rowI (b : Fin 8) (p : Fin 4096) : Fin 32768 := ⟨b.val * 4096 + p.val, by omega⟩

/-- A head's column of the array, from the first column of its group. -/
def cX (off : Fin 6145) (h : Fin 4) (d : Fin 128) : Fin 6656 := ⟨off.val + (col h d).val, by have := (col h d).isLt; omega⟩

/-- The other column of a pair. -/
def oth (d : Fin 128) : Fin 128 := ⟨(d.val + 128 - 64) % 128, Nat.mod_lt _ (by decide)⟩

variable (X : (⟨2, ![32768, 6656]⟩ : Shape).Idx → EReal)

/-- A row of a group, turned by its position's angles. -/
def TE (off : Fin 6145) (b : Fin 8) (h : Fin 4) (p : Fin 4096) (d : Fin 128) : EReal :=
  X (ix2 (rowI b p) (cX off h d)) * CT p.val d + X (ix2 (rowI b p) (cX off h (oth d))) * SN p.val d

def QE (b : Fin 8) (h : Fin 4) (p : Fin 4096) (d : Fin 128) : EReal := TE X 4608 b h p d
def KE (b : Fin 8) (h : Fin 4) (p : Fin 4096) (d : Fin 128) : EReal := TE X 5120 b h p d * Ideal.ofBits .f32 0x3DB504F3#32
def VE (b : Fin 8) (h : Fin 4) (p : Fin 4096) (d : Fin 128) : EReal := X (ix2 (rowI b p) (cX 5632 h d))

/-- Rows by position as real numbers, zero past the sequence. -/
def lift (f : Fin 4096 → Fin 128 → EReal) (p : ℕ) (d : Fin 128) : ℝ := if hp : p < 4096 then (f ⟨p, hp⟩ d).toReal else 0

theorem lift_coe (f : Fin 4096 → Fin 128 → EReal) (hf : ∀ p d, Fin1 (f p d)) (p : ℕ) (hp : p < 4096) (d : Fin 128) :
    f ⟨p, hp⟩ d = ((lift f p d : ℝ) : EReal) := by
  unfold lift
  rw [dif_pos hp]
  obtain ⟨r, hr⟩ := hf ⟨p, hp⟩ d
  rw [hr]
  rfl

/-- The queries, keys and values are real numbers. -/
def FinX : Prop := ∀ (r : Fin 32768) (k : Fin 6656), 4608 ≤ k.val → k.val < 6144 → Fin1 (X (ix2 r k))

variable {X}

theorem TE_fin (hX : FinX X) (off : Fin 6145) (h1 : 4608 ≤ off.val) (h2 : off.val ≤ 5632) (b : Fin 8) (h : Fin 4) (p : Fin 4096) (d : Fin 128) : Fin1 (TE X off b h p d) := by
  have hc : ∀ d, Fin1 (X (ix2 (rowI b p) (cX off h d))) := fun d => hX _ _ (by show 4608 ≤ off.val + _; omega)
    (by have := (col h d).isLt; show off.val + (col h d).val < 6144; omega)
  exact Fin1.add ((hc d).mul (CT_fin _ p.isLt d)) ((hc _).mul (SN_fin _ p.isLt d))

theorem QE_fin (hX : FinX X) (b : Fin 8) (h : Fin 4) (p : Fin 4096) (d : Fin 128) : Fin1 (QE X b h p d) := TE_fin hX 4608 (by decide) (by decide) b h p d
theorem KE_fin (hX : FinX X) (b : Fin 8) (h : Fin 4) (p : Fin 4096) (d : Fin 128) : Fin1 (KE X b h p d) := (TE_fin hX 5120 (by decide) (by decide) b h p d).mul cscale
theorem VE_fin (hX : FinX X) (b : Fin 8) (h : Fin 4) (p : Fin 4096) (d : Fin 128) : Fin1 (VE X b h p d) :=
  hX _ _ (by show 4608 ≤ 5632 + _; omega) (by have := (col h d).isLt; show 5632 + (col h d).val < 6144; omega)

variable (X)

/-- The retained values of a position, over the reals. -/
def OR (b : Fin 8) (h : Fin 4) (p : ℕ) (d : Fin 128) : ℝ := Oall (lgR h) (lift (QE X b h)) (lift (KE X b h)) (lift (VE X b h)) p d

/-- A row of a head of the result. -/
def resh (g : (⟨1, ![512]⟩ : Shape).Idx → EReal) (b : Fin 8) (p : Fin 4096) (h : Fin 4) (d : Fin 128) : EReal :=
  kfin (fun d => ((OR X b h p.val d : ℝ) : EReal)) (fun d => g (ix1 (col h d))) (fun d => X (ix2 (rowI b p) (cX 6144 h d))) d

/-- The result. -/
def spec (g : (⟨1, ![512]⟩ : Shape).Idx → EReal) : (⟨2, ![32768, 512]⟩ : Shape).Idx → EReal := fun i =>
  resh X g ⟨(i 0).val / 4096, by have h : (i 0).val < 32768 := (i 0).isLt; omega⟩ ⟨(i 0).val % 4096, Nat.mod_lt _ (by decide)⟩
    ⟨(i 1).val / 128, by have h : (i 1).val < 512 := (i 1).isLt; omega⟩ ⟨(i 1).val % 128, Nat.mod_lt _ (by decide)⟩

theorem spec_ix (g : (⟨1, ![512]⟩ : Shape).Idx → EReal) (b : Fin 8) (p : Fin 4096) (h : Fin 4) (d : Fin 128) :
    spec X g (ix2 (rowI b p) (col h d)) = resh X g b p h d := by
  have e1 : (⟨(b.val * 4096 + p.val) / 4096, by omega⟩ : Fin 8) = b := Fin.ext (by show (b.val * 4096 + p.val) / 4096 = b.val; omega)
  have e2 : (⟨(b.val * 4096 + p.val) % 4096, by omega⟩ : Fin 4096) = p := Fin.ext (by show (b.val * 4096 + p.val) % 4096 = p.val; omega)
  have e3 : (⟨(h.val * 128 + d.val) / 128, by omega⟩ : Fin 4) = h := Fin.ext (by show (h.val * 128 + d.val) / 128 = h.val; omega)
  have e4 : (⟨(h.val * 128 + d.val) % 128, by omega⟩ : Fin 128) = d := Fin.ext (by show (h.val * 128 + d.val) % 128 = d.val; omega)
  show resh X g ⟨(b.val * 4096 + p.val) / 4096, _⟩ ⟨(b.val * 4096 + p.val) % 4096, _⟩ ⟨(h.val * 128 + d.val) / 128, _⟩ ⟨(h.val * 128 + d.val) % 128, _⟩ = _
  rw [e1, e2, e3, e4]

theorem col_of (n : Fin 512) : ∃ (h : Fin 4) (d : Fin 128), n = col h d :=
  ⟨⟨n.val / 128, by omega⟩, ⟨n.val % 128, Nat.mod_lt _ (by decide)⟩, Fin.ext (by show n.val = n.val / 128 * 128 + n.val % 128; omega)⟩

theorem row_of (r : Fin 32768) : ∃ (b : Fin 8) (p : Fin 4096), r = rowI b p :=
  ⟨⟨r.val / 4096, by omega⟩, ⟨r.val % 4096, Nat.mod_lt _ (by decide)⟩, Fin.ext (by show r.val = r.val / 4096 * 4096 + r.val % 4096; omega)⟩

end Cert.Proof.Ret

namespace Cert.RetIdeal.Spec

open Cert.RetIdeal Cert.RetIdeal.Gen Cert.Proof Cert.Proof.Ret

variable (m : (ℓ : Loc nD τ sig) → Buf (Elt Ideal) ℓ)

theorem t14 (c : Dev nD) (p : Fin 4096) (d : Fin 128) : ((V m c main_v14 : Vec Ideal S4096x128 .f32) (ix2 p d) : EReal) = CT p.val d := by
  entry_read
  pointwise
  rfl

theorem t16 (c : Dev nD) (p : Fin 4096) (d : Fin 128) : ((V m c main_v16 : Vec Ideal S4096x128 .f32) (ix2 p d) : EReal) = SN p.val d := by
  entry_read
  pointwise
  rfl

theorem t17 (c : Dev nD) (d : Fin 512) : ((V m c main_v17 : Vec Ideal S1x512 .f32) (ix2 0 d) : EReal) = m ((c : Thread nD τ).loc main_arg1) (ix1 d) := by
  entry_read
  pointwise

/-- Where each window's block lies at each grid point. -/
theorem idx : ∀ t : Fin grid0.N,
    (win0_0.index t 0 = t.val ∧ win0_0.index t 1 = 9) ∧ (win0_1.index t 0 = t.val ∧ win0_1.index t 1 = 10)
    ∧ (win0_2.index t 0 = t.val ∧ win0_2.index t 1 = 11) ∧ (win0_3.index t 0 = t.val ∧ win0_3.index t 1 = 12)
    ∧ (win0_4.index t 0 = t.val % 16 ∧ win0_4.index t 1 = 0) ∧ (win0_5.index t 0 = t.val % 16 ∧ win0_5.index t 1 = 0)
    ∧ (win0_6.index t 0 = 0 ∧ win0_6.index t 1 = 0) ∧ (win0_7.index t 0 = t.val ∧ win0_7.index t 1 = 0) := by decide +kernel

/-- The sequence of a grid point. -/
def bt (t : Fin cfg0.N) : Fin 8 := ⟨t.val / 16, by have h := t.isLt; have hN : cfg0.N = 128 := N_0; omega⟩

/-- The position of a tile's row in its sequence. -/
def pt (t : Fin cfg0.N) (r : Fin 256) : Fin 4096 := ⟨256 * (t.val % 16) + r.val, by omega⟩

theorem iblk0 (c : Dev nD) (t : Fin cfg0.N) (r : Fin 256) (h : Fin 4) (d : Fin 128) :
    ((iblk m c 0 t : Vec Ideal S256x512 .bf16) (ix2 r (col h d)) : EReal) = m ((c : Thread nD τ).loc main_arg0) (ix2 (rowI (bt t) (pt t r)) (cX 4608 h d)) := by
  have e := (idx t).1
  unfold iblk
  rw [View.read_apply]
  show V m c main_arg0 _ = _
  rw [V_main_arg0]
  congr 1
  funext a
  apply Fin.ext
  match a with
  | ⟨0, _⟩ => show win0_0.index t 0 * 256 + 1 * r.val = t.val / 16 * 4096 + (256 * (t.val % 16) + r.val); rw [e.1]; omega
  | ⟨1, _⟩ => show win0_0.index t 1 * 512 + 1 * (col h d).val = 4608 + (col h d).val; rw [e.2]; omega

theorem iblk1 (c : Dev nD) (t : Fin cfg0.N) (r : Fin 256) (h : Fin 4) (d : Fin 128) :
    ((iblk m c 1 t : Vec Ideal S256x512 .bf16) (ix2 r (col h d)) : EReal) = m ((c : Thread nD τ).loc main_arg0) (ix2 (rowI (bt t) (pt t r)) (cX 5120 h d)) := by
  have e := (idx t).2.1
  unfold iblk
  rw [View.read_apply]
  show V m c main_arg0 _ = _
  rw [V_main_arg0]
  congr 1
  funext a
  apply Fin.ext
  match a with
  | ⟨0, _⟩ => show win0_1.index t 0 * 256 + 1 * r.val = t.val / 16 * 4096 + (256 * (t.val % 16) + r.val); rw [e.1]; omega
  | ⟨1, _⟩ => show win0_1.index t 1 * 512 + 1 * (col h d).val = 5120 + (col h d).val; rw [e.2]; omega

theorem iblk2 (c : Dev nD) (t : Fin cfg0.N) (r : Fin 256) (h : Fin 4) (d : Fin 128) :
    ((iblk m c 2 t : Vec Ideal S256x512 .bf16) (ix2 r (col h d)) : EReal) = m ((c : Thread nD τ).loc main_arg0) (ix2 (rowI (bt t) (pt t r)) (cX 5632 h d)) := by
  have e := (idx t).2.2.1
  unfold iblk
  rw [View.read_apply]
  show V m c main_arg0 _ = _
  rw [V_main_arg0]
  congr 1
  funext a
  apply Fin.ext
  match a with
  | ⟨0, _⟩ => show win0_2.index t 0 * 256 + 1 * r.val = t.val / 16 * 4096 + (256 * (t.val % 16) + r.val); rw [e.1]; omega
  | ⟨1, _⟩ => show win0_2.index t 1 * 512 + 1 * (col h d).val = 5632 + (col h d).val; rw [e.2]; omega

theorem iblk3 (c : Dev nD) (t : Fin cfg0.N) (r : Fin 256) (h : Fin 4) (d : Fin 128) :
    ((iblk m c 3 t : Vec Ideal S256x512 .bf16) (ix2 r (col h d)) : EReal) = m ((c : Thread nD τ).loc main_arg0) (ix2 (rowI (bt t) (pt t r)) (cX 6144 h d)) := by
  have e := (idx t).2.2.2.1
  unfold iblk
  rw [View.read_apply]
  show V m c main_arg0 _ = _
  rw [V_main_arg0]
  congr 1
  funext a
  apply Fin.ext
  match a with
  | ⟨0, _⟩ => show win0_3.index t 0 * 256 + 1 * r.val = t.val / 16 * 4096 + (256 * (t.val % 16) + r.val); rw [e.1]; omega
  | ⟨1, _⟩ => show win0_3.index t 1 * 512 + 1 * (col h d).val = 6144 + (col h d).val; rw [e.2]; omega

theorem iblk4 (c : Dev nD) (t : Fin cfg0.N) (r : Fin 256) (d : Fin 128) :
    ((iblk m c 4 t : Vec Ideal S256x128 .f32) (ix2 r d) : EReal) = CT (pt t r).val d := by
  have e := (idx t).2.2.2.2.1
  unfold iblk
  rw [View.read_apply]
  show V m c main_v14 _ = _
  refine Eq.trans ?_ (t14 m c (pt t r) d)
  refine congrArg (V m c main_v14) ?_
  funext a
  apply Fin.ext
  match a with
  | ⟨0, _⟩ => show win0_4.index t 0 * 256 + 1 * r.val = 256 * (t.val % 16) + r.val; rw [e.1]; omega
  | ⟨1, _⟩ => show win0_4.index t 1 * 128 + 1 * d.val = d.val; rw [e.2]; omega

theorem iblk5 (c : Dev nD) (t : Fin cfg0.N) (r : Fin 256) (d : Fin 128) :
    ((iblk m c 5 t : Vec Ideal S256x128 .f32) (ix2 r d) : EReal) = SN (pt t r).val d := by
  have e := (idx t).2.2.2.2.2.1
  unfold iblk
  rw [View.read_apply]
  show V m c main_v16 _ = _
  refine Eq.trans ?_ (t16 m c (pt t r) d)
  refine congrArg (V m c main_v16) ?_
  funext a
  apply Fin.ext
  match a with
  | ⟨0, _⟩ => show win0_5.index t 0 * 256 + 1 * r.val = 256 * (t.val % 16) + r.val; rw [e.1]; omega
  | ⟨1, _⟩ => show win0_5.index t 1 * 128 + 1 * d.val = d.val; rw [e.2]; omega

theorem iblk6 (c : Dev nD) (t : Fin cfg0.N) (d : Fin 512) :
    ((iblk m c 6 t : Vec Ideal S1x512 .f32) (ix2 0 d) : EReal) = m ((c : Thread nD τ).loc main_arg1) (ix1 d) := by
  have e := (idx t).2.2.2.2.2.2.1
  unfold iblk
  rw [View.read_apply]
  show V m c main_v17 _ = _
  refine Eq.trans ?_ (t17 m c d)
  refine congrArg (V m c main_v17) ?_
  funext a
  apply Fin.ext
  match a with
  | ⟨0, _⟩ => show win0_6.index t 0 * 1 + 1 * 0 = 0; rw [e.1]
  | ⟨1, _⟩ => show win0_6.index t 1 * 512 + 1 * d.val = d.val; rw [e.2]; omega

/-- The rows' argument. -/
abbrev AX (c : Dev nD) : (⟨2, ![32768, 6656]⟩ : Shape).Idx → EReal := m ((c : Thread nD τ).loc main_arg0)

variable {m} in
theorem q_real (c : Dev nD) (hX : FinX (AX m c)) (t : Fin cfg0.N) (h : Fin 4) (r : Fin 256) (d : Fin 128) :
    RT (iblk m c 0 t) (iblk m c 4 t) (iblk m c 5 t) h r d = ((lift (QE (AX m c) (bt t) h) (256 * (t.val % 16) + r.val) d : ℝ) : EReal) := by
  refine Eq.trans ?_ (lift_coe _ (QE_fin hX (bt t) h) _ (pt t r).isLt d)
  unfold RT
  rw [iblk0, iblk0, iblk4, iblk5]
  rfl

variable {m} in
theorem k_real (c : Dev nD) (hX : FinX (AX m c)) (t : Fin cfg0.N) (h : Fin 4) (r : Fin 256) (d : Fin 128) :
    KK (iblk m c 1 t) (iblk m c 4 t) (iblk m c 5 t) h r d = ((lift (KE (AX m c) (bt t) h) (256 * (t.val % 16) + r.val) d : ℝ) : EReal) := by
  refine Eq.trans ?_ (lift_coe _ (KE_fin hX (bt t) h) _ (pt t r).isLt d)
  unfold KK RT
  rw [iblk1, iblk1, iblk4, iblk5]
  rfl

variable {m} in
theorem v_real (c : Dev nD) (hX : FinX (AX m c)) (t : Fin cfg0.N) (h : Fin 4) (r : Fin 256) (d : Fin 128) :
    ((iblk m c 2 t : Vec Ideal S256x512 .bf16) (ix2 r (col h d)) : EReal) = ((lift (VE (AX m c) (bt t) h) (256 * (t.val % 16) + r.val) d : ℝ) : EReal) := by
  refine Eq.trans ?_ (lift_coe _ (VE_fin hX (bt t) h) _ (pt t r).isLt d)
  exact iblk2 m c t r h d

/-- The state a sequence's tiles before `n` leave. -/
abbrev STn (c : Dev nD) (b : Fin 8) (n : ℕ) (h : Fin 4) (k d : Fin 128) : ℝ := St (lgR h) (lift (KE (AX m c) b h)) (lift (VE (AX m c) b h)) n k d

variable {m} in
/-- The kept state after each grid point. -/
theorem state_eq (c : Dev nD) (hX : FinX (AX m c)) : ∀ (n : ℕ) (hn : n < cfg0.N) (h : Fin 4) (k d : Fin 128),
    ((outsAt0 m c n hn).2 (ix3 h k d) : EReal) = ((STn m c (bt ⟨n, hn⟩) (n % 16 + 1) h k d : ℝ) : EReal) := by
  intro n
  induction n with
  | zero =>
    intro hn h k d
    have e := outsAt0_A m c ⟨0, hn⟩ rfl
    rw [show outsAt0 m c 0 hn = _ from e]
    dsimp only
    rw [sout_A, KS_ix]
    refine knew_real h _ _ 0 _ _ _ (fun r d => k_real c hX ⟨0, hn⟩ h r d) (fun r d => v_real c hX ⟨0, hn⟩ h r d) (fun a d => ?_) k d
    rw [St_zero]; rfl
  | succ n ih =>
    intro hn h k d
    by_cases h0 : (n + 1) % 16 = 0
    · have e := outsAt0_A m c ⟨n + 1, hn⟩ h0
      rw [show outsAt0 m c (n + 1) hn = _ from e]
      dsimp only
      rw [sout_A, KS_ix]
      refine knew_real h _ _ _ _ _ _ (fun r d => k_real c hX ⟨n + 1, hn⟩ h r d) (fun r d => v_real c hX ⟨n + 1, hn⟩ h r d) (fun a d => ?_) k d
      rw [h0, St_zero]; rfl
    · have e := outsAt0_B m c ⟨n + 1, hn⟩ h0
      rw [show outsAt0 m c (n + 1) hn = _ from e]
      dsimp only
      rw [sout_B, KS_ix]
      refine knew_real h _ _ _ _ _ _ (fun r d => k_real c hX ⟨n + 1, hn⟩ h r d) (fun r d => v_real c hX ⟨n + 1, hn⟩ h r d) (fun a d => ?_) k d
      refine (ih (by omega) h a d).trans ?_
      have eb : bt ⟨n, by omega⟩ = bt ⟨n + 1, hn⟩ := Fin.ext (by show n / 16 = (n + 1) / 16; omega)
      rw [eb, show n % 16 + 1 = (n + 1) % 16 by omega]

/-- The result as a function of the launched arguments. -/
abbrev G (c : Dev nD) : Buf (Elt Ideal) ((c : Thread nD τ).loc main_v18) :=
  spec (AX m c) (m ((c : Thread nD τ).loc main_arg1))

/-- Where block `t` of the result lies in the array. -/
theorem emb7 (t : Fin cfg0.N) (r : Fin 256) (n : Fin 512) :
    ((cfg0.win 7).blk t).view.emb (ix2 r n) = (ix2 (rowI (bt t) (pt t r)) n : S32768x512.Idx) := by
  have e := (idx t).2.2.2.2.2.2.2
  funext a
  apply Fin.ext
  match a with
  | ⟨0, _⟩ => show win0_7.index t 0 * 256 + 1 * r.val = t.val / 16 * 4096 + (256 * (t.val % 16) + r.val); rw [e.1]; omega
  | ⟨1, _⟩ => show win0_7.index t 1 * 512 + 1 * n.val = n.val; rw [e.2]; omega

variable {m} in
theorem KO_real (c : Dev nD) (hX : FinX (AX m c)) (t : Fin cfg0.N) (S : Fin 4 → Fin 128 → Fin 128 → EReal)
    (hS : ∀ h a d, S h a d = ((STn m c (bt t) (t.val % 16) h a d : ℝ) : EReal)) (r : Fin 256) (h : Fin 4) (d : Fin 128) :
    KO (iblk m c 0 t) (iblk m c 1 t) (iblk m c 2 t) (iblk m c 3 t) (iblk m c 4 t) (iblk m c 5 t) (iblk m c 6 t) S (ix2 r (col h d))
      = resh (AX m c) (m ((c : Thread nD τ).loc main_arg1)) (bt t) (pt t r) h d := by
  rw [KO_col]
  unfold KOh resh
  have e1 : ∀ d, kintra (LG h) (RT (iblk m c 0 t) (iblk m c 4 t) (iblk m c 5 t) h) (KK (iblk m c 1 t) (iblk m c 4 t) (iblk m c 5 t) h)
      (fun r d => (iblk m c 2 t : Vec Ideal S256x512 .bf16) (ix2 r (col h d))) r d + kinter (LG h) (RT (iblk m c 0 t) (iblk m c 4 t) (iblk m c 5 t) h) (S h) r d
      = ((OR (AX m c) (bt t) h (pt t r).val d : ℝ) : EReal) := fun d =>
    kout_real h _ _ _ (t.val % 16) (Nat.mod_lt _ (by decide)) _ _ _ _ (q_real c hX t h) (k_real c hX t h) (v_real c hX t h) (hS h) r d
  rw [funext e1]
  refine congrArg₂ (fun a b => kfin _ a b d) (funext fun d => iblk6 m c t (col h d)) (funext fun d => iblk3 m c t r h d)

variable {m} in
theorem flushed_eq (c : Dev nD) (hX : FinX (AX m c)) (t : Fin cfg0.N) :
    (dats m 0 c).flushed 7 t = ((cfg0.win 7).blk t).view.read (Elt Ideal) (G m c) := by
  funext (j : S256x512.Idx)
  obtain ⟨r, n, rfl⟩ : ∃ (r : Fin 256) (n : Fin 512), j = ix2 r n := ⟨j 0, j 1, eq_ix2 j⟩
  obtain ⟨h, d, rfl⟩ := col_of n
  rw [View.read_apply]
  rw [emb7 t r (col h d)]
  refine Eq.trans ?_ (spec_ix (AX m c) (m ((c : Thread nD τ).loc main_arg1)) (bt t) (pt t r) h d).symm
  by_cases h0 : t.val % 16 = 0
  · rw [Value.flushed7_A m c t h0, out_A]
    refine KO_real c hX t _ (fun h a d => ?_) r h d
    rw [h0]
    exact congrArg (fun x : ℝ => (x : EReal)) (St_zero _ _ _ _ _).symm
  · rw [Value.flushed7_B m c t h0, out_B]
    refine KO_real c hX t _ (fun h a d => ?_) r h d
    have hlt := t.isLt
    refine (state_eq c hX (t.val - 1) (by omega) h a d).trans ?_
    have eb : bt ⟨t.val - 1, by omega⟩ = bt t := Fin.ext (by show (t.val - 1) / 16 = t.val / 16; omega)
    rw [eb, show (t.val - 1) % 16 + 1 = t.val % 16 by omega]

theorem cover (i : S32768x512.Idx) :
    ∃ t : Fin cfg0.N, (cfg0.win 7).flush t = true ∧ i ∈ ((cfg0.win 7).blk t).view.set := by
  have h0 : (i 0 : Nat) < 32768 := (i 0).isLt
  have hN : cfg0.N = 128 := N_0
  let t : Fin cfg0.N := ⟨(i 0 : Nat) / 256, by omega⟩
  refine ⟨t, flush0_7 _, ?_⟩
  have hm : (i 0 : Nat) % 256 < 256 := by omega
  have hi : i = (ix2 (rowI (bt t) (pt t ⟨(i 0 : Nat) % 256, hm⟩)) (i 1) : S32768x512.Idx) := by
    refine (eq_ix2 (n0 := 32768) (n1 := 512) i).trans ?_
    refine congrArg (fun a => ix2 a (i 1)) (Fin.ext ?_)
    show (i 0 : Nat) = (i 0 : Nat) / 256 / 16 * 4096 + (256 * ((i 0 : Nat) / 256 % 16) + (i 0 : Nat) % 256)
    omega
  rw [hi, ← emb7 t ⟨(i 0 : Nat) % 256, hm⟩ (i 1)]
  exact View.emb_mem_set _ _

variable {m} in
theorem final (c : Dev nD) (hX : FinX (AX m c)) : (dats m 0 c).arrAt 7 cfg0.N = G m c :=
  (dats m 0 c).arrAt_eq_of_cover 7 (G m c) (fun t _ => flushed_eq c hX t) cover

end Cert.RetIdeal.Spec

end
-- ==== Proof.RetVal.lean ====
module

public import proofs.«01_k».proof.Defs
public import proofs.«01_k».proof.Proof.Real
public import proofs.«01_k».proof.Proof.RetMid
public import proofs.«01_k».proof.Proof.Gen.Pre_finite_qkv
public import proofs.«01_k».proof.Proof.Gen.RetRefIdeal.Run

@[expose] public section

set_option maxRecDepth 16384

noncomputable section

open Idealize.ShloMosaic Idealize.ShloMosaic.TcCoe Idealize.SL.Sem
open Idealize.ShloMosaic.Pipeline (Dat)
open scoped BigOperators

namespace Cert.RetRefIdeal.Spec

open Cert.RetRefIdeal Cert.RetRefIdeal.Gen Cert.Proof Cert.Proof.Ret Cert.RetIdeal.Spec

/-! Short names for the types of the arrays. -/
abbrev TT0 := FVec Ideal S8x4096x4x128 .f32
abbrev TT1 := FVec Ideal S32768x6656 .bf16

/-- The angles of the positions. -/
def refAng : FVec Ideal S4096x64 .f32 :=
  mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

theorem refAng_apply (p : Fin 4096) (d : Fin 64) : (refAng (ix2 p d) : EReal) = ang p.val d.val := by
  unfold refAng ang
  pointwise

/-- The columns from 4608 on, by sequence and head. -/
def refX4608 (A0 : TT1) : TT0 :=
  shapeCast _ (extf .f32 (extractStridedSlice S32768x512 ![0, 4608] A0 slices_S32768x6656_S32768x512_0_4608) bitsLt_bf16_f32) shapeCasts_S32768x512_S8x4096x4x128

theorem refX4608_apply (A0 : TT1) (b : Fin 8) (p : Fin 4096) (h : Fin 4) (d : Fin 128) :
    (refX4608 A0 (ix4 b p h d) : EReal) = A0 (ix2 (rowI b p) (cX 4608 h d)) := by
  unfold refX4608
  pointwise
  rfl

/-- The columns from 5120 on, by sequence and head. -/
def refX5120 (A0 : TT1) : TT0 :=
  shapeCast _ (extf .f32 (extractStridedSlice S32768x512 ![0, 5120] A0 slices_S32768x6656_S32768x512_0_5120) bitsLt_bf16_f32) shapeCasts_S32768x512_S8x4096x4x128

theorem refX5120_apply (A0 : TT1) (b : Fin 8) (p : Fin 4096) (h : Fin 4) (d : Fin 128) :
    (refX5120 A0 (ix4 b p h d) : EReal) = A0 (ix2 (rowI b p) (cX 5120 h d)) := by
  unfold refX5120
  pointwise
  rfl

/-- The columns from 5632 on, by sequence and head. -/
def refX5632 (A0 : TT1) : TT0 :=
  shapeCast _ (extf .f32 (extractStridedSlice S32768x512 ![0, 5632] A0 slices_S32768x6656_S32768x512_0_5632) bitsLt_bf16_f32) shapeCasts_S32768x512_S8x4096x4x128

theorem refX5632_apply (A0 : TT1) (b : Fin 8) (p : Fin 4096) (h : Fin 4) (d : Fin 128) :
    (refX5632 A0 (ix4 b p h d) : EReal) = A0 (ix2 (rowI b p) (cX 5632 h d)) := by
  unfold refX5632
  pointwise
  rfl

/-- The columns from 6144 on, by sequence and head. -/
def refX6144 (A0 : TT1) : TT0 :=
  shapeCast _ (extf .f32 (extractStridedSlice S32768x512 ![0, 6144] A0 slices_S32768x6656_S32768x512_0_6144) bitsLt_bf16_f32) shapeCasts_S32768x512_S8x4096x4x128

theorem refX6144_apply (A0 : TT1) (b : Fin 8) (p : Fin 4096) (h : Fin 4) (d : Fin 128) :
    (refX6144 A0 (ix4 b p h d) : EReal) = A0 (ix2 (rowI b p) (cX 6144 h d)) := by
  unfold refX6144
  pointwise
  rfl

/-- Each row turned by its position's angles. -/
def refT (Y : TT0) (A : FVec Ideal S4096x64 .f32) : TT0 :=
  concatenate S8x4096x4x128 3 [⟨S8x4096x4x64, subf (mulf (extractStridedSlice S8x4096x4x64 ![0, 0, 0, 0] Y slices_S8x4096x4x128_S8x4096x4x64_0_0_0_0) (broadcastInDim S8x4096x4x64 ![0, 1, 2, 3] bcast_S1x4096x1x64_S8x4096x4x64_0_1_2_3 (broadcastInDim S1x4096x1x64 ![1, 3] bcast_S4096x64_S1x4096x1x64_1_3 (Host.cos A)))) (mulf (extractStridedSlice S8x4096x4x64 ![0, 0, 0, 64] Y slices_S8x4096x4x128_S8x4096x4x64_0_0_0_64) (broadcastInDim S8x4096x4x64 ![0, 1, 2, 3] bcast_S1x4096x1x64_S8x4096x4x64_0_1_2_3 (broadcastInDim S1x4096x1x64 ![1, 3] bcast_S4096x64_S1x4096x1x64_1_3 (Host.sin A))))⟩, ⟨S8x4096x4x64, addf (mulf (extractStridedSlice S8x4096x4x64 ![0, 0, 0, 0] Y slices_S8x4096x4x128_S8x4096x4x64_0_0_0_0) (broadcastInDim S8x4096x4x64 ![0, 1, 2, 3] bcast_S1x4096x1x64_S8x4096x4x64_0_1_2_3 (broadcastInDim S1x4096x1x64 ![1, 3] bcast_S4096x64_S1x4096x1x64_1_3 (Host.sin A)))) (mulf (extractStridedSlice S8x4096x4x64 ![0, 0, 0, 64] Y slices_S8x4096x4x128_S8x4096x4x64_0_0_0_64) (broadcastInDim S8x4096x4x64 ![0, 1, 2, 3] bcast_S1x4096x1x64_S8x4096x4x64_0_1_2_3 (broadcastInDim S1x4096x1x64 ![1, 3] bcast_S4096x64_S1x4096x1x64_1_3 (Host.cos A))))⟩] concatenates_S8x4096x4x64_S8x4096x4x64_S8x4096x4x128_d3

theorem refT_apply (Y : TT0) (A : FVec Ideal S4096x64 .f32) (b : Fin 8) (p : Fin 4096) (h : Fin 4) (d : Fin 128) :
    (refT Y A (ix4 b p h d) : EReal) = if hd : d.val < 64
      then Y (ix4 b p h d) * Ideal.cos (A (ix2 p ⟨d.val, hd⟩)) - Y (ix4 b p h ⟨64 + d.val, by omega⟩) * Ideal.sin (A (ix2 p ⟨d.val, hd⟩))
      else Y (ix4 b p h ⟨d.val - 64, by omega⟩) * Ideal.sin (A (ix2 p ⟨d.val - 64, by omega⟩)) + Y (ix4 b p h d) * Ideal.cos (A (ix2 p ⟨d.val - 64, by omega⟩)) := by
  unfold refT
  pointwise
  by_cases hd : d.val < 64
  · rw [dif_pos hd, dif_pos hd]
  · have e : (⟨64 + (d.val - 64), by omega⟩ : Fin 128) = d := Fin.ext (by show 64 + (d.val - 64) = d.val; omega)
    rw [dif_neg hd, dif_neg hd, e]

/-- The turned rows. -/
theorem turn (X : TT1) (off : Fin 6145) (Y : TT0)
    (hY : ∀ b p h d, (Y (ix4 b p h d) : EReal) = X (ix2 (rowI b p) (cX off h d))) (b : Fin 8) (p : Fin 4096) (h : Fin 4) (d : Fin 128) :
    (refT Y refAng (ix4 b p h d) : EReal) = TE X off b h p d := by
  rw [refT_apply]
  unfold TE CT SN
  by_cases hd : d.val < 64
  · have e : oth d = ⟨64 + d.val, by omega⟩ := Fin.ext (by show (d.val + 128 - 64) % 128 = 64 + d.val; omega)
    rw [dif_pos hd, if_pos hd, if_pos hd, hY, hY, refAng_apply, e, mul_neg, ← sub_eq_add_neg]
  · have e : oth d = ⟨d.val - 64, by omega⟩ := Fin.ext (by show (d.val + 128 - 64) % 128 = d.val - 64; omega)
    rw [dif_neg hd, if_neg hd, if_neg hd, hY, hY, refAng_apply, e, add_comm]

/-- The keys' scale. -/
def refK (Y : TT0) : TT0 :=
  mulf Y (broadcastInDim S8x4096x4x128 ![] bcast_S_S8x4096x4x128 (constant S_ .f32 0x3DB504F3#32))

theorem refK_apply (Y : TT0) (b : Fin 8) (p : Fin 4096) (h : Fin 4) (d : Fin 128) :
    (refK Y (ix4 b p h d) : EReal) = Y (ix4 b p h d) * Ideal.ofBits .f32 0x3DB504F3#32 := by
  unfold refK
  pointwise

/-- The decay between two positions. -/
def refD : FVec Ideal S4x4096x4096 .f32 :=
  Host.exp (select (cmpi .sge (iotaInDim S4x4096x4096 32 1) (iotaInDim S4x4096x4096 32 2)) (mulf (sitofp .f32 (subi (iotaInDim S4x4096x4096 32 1) (iotaInDim S4x4096x4096 32 2))) (broadcastInDim S4x4096x4096 ![0, 1, 2] bcast_S4x1x1_S4x4096x4096_0_1_2 (broadcastInDim S4x1x1 ![0] bcast_S4_S4x1x1_0 (Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0))))))))) (broadcastInDim S4x4096x4096 ![] bcast_S_S4x4096x4096 (constant S_ .f32 0xFF800000#32)))

theorem two_f : (Ideal.ofBits .f32 0x40000000#32 : EReal) = ((2 : ℝ) : EReal) := by
  simp [Ideal.ofBits, Ideal.ieee, -EReal.coe_mul]; norm_num
theorem m5_f : (Ideal.ofBits .f32 0xC0A00000#32 : EReal) = ((-5 : ℝ) : EReal) := by
  simp [Ideal.ofBits, Ideal.ieee, -EReal.coe_mul]; norm_num

/-- A head's decay, from its formula. -/
theorem log_lg (h : Fin 4) : Ideal.log (1 - Ideal.pow (Ideal.ofBits .f32 0x40000000#32) (Ideal.ofBits .f32 0xC0A00000#32 - FloatOps.sitofp (F := Ideal) .f32 (BitVec.ofNat 32 h.val))) = ((lgR h : ℝ) : EReal) := by
  rw [← EReal.coe_one, two_f, m5_f, sitofp_small h.val (by omega), ← EReal.coe_sub, Ideal.pow_coe_coe, ← EReal.coe_sub]
  have e : (1 : ℝ) - Real.rpow 2 (-5 - (h.val : ℝ)) = 1 - 1 / (2 : ℝ) ^ (5 + h.val) := by
    congr 1
    show (2 : ℝ) ^ (-5 - (h.val : ℝ)) = _
    rw [show (-5 - (h.val : ℝ)) = -((5 + h.val : ℕ) : ℝ) by push_cast; ring, Real.rpow_neg (by norm_num), Real.rpow_natCast, one_div]
  rw [e]
  have hpos : ¬ (1 : ℝ) - 1 / (2 : ℝ) ^ (5 + h.val) ≤ 0 := by
    fin_cases h <;> norm_num
  show (if _ then _ else _) = _
  rw [if_neg hpos]
  congr 1
  fin_cases h <;> norm_num [lgR]

theorem refD_apply (h : Fin 4) (p s : Fin 4096) :
    (refD (ix3 h p s) : EReal) = if s.val ≤ p.val then ((Real.exp (((p.val : ℝ) - s.val) * lgR h) : ℝ) : EReal) else 0 := by
  unfold refD
  pointwise
  rw [log_lg, select_le _ _ p.isLt s.isLt]
  split
  · rw [sitofp_diff _ _ p.isLt s.isLt, ← EReal.coe_mul]
    rfl
  · rw [negInf_eq]
    rfl

/-- The scores of the positions before each one, decayed. -/
def refW (Q K : TT0) (D : FVec Ideal S4x4096x4096 .f32) : FVec Ideal S8x4x4096x4096 .f32 :=
  mulf (Host.dotGeneral dot_S8x4096x4x128_S8x4096x4x128_S8x4x4096x4096_3_3_1_1_02_02 none Q K) (broadcastInDim S8x4x4096x4096 ![0, 1, 2, 3] bcast_S1x4x4096x4096_S8x4x4096x4096_0_1_2_3 (broadcastInDim S1x4x4096x4096 ![1, 2, 3] bcast_S4x4096x4096_S1x4x4096x4096_1_2_3 D))

theorem refW_apply (Q K : TT0) (D : FVec Ideal S4x4096x4096 .f32) (b : Fin 8) (h : Fin 4) (p s : Fin 4096) :
    (refW Q K D (ix4 b h p s) : EReal) = (∑ d : Fin 128, Q (ix4 b p h d) * K (ix4 b s h d)) * D (ix3 h p s) := by
  unfold refW
  pointwise

/-- The retained values. -/
def refO (V : TT0) (W : FVec Ideal S8x4x4096x4096 .f32) : TT0 :=
  transpose S8x4096x4x128 [0, 3, 1, 2] (Host.dotGeneral dot_S8x4096x4x128_S8x4x4096x4096_S8x4x128x4096_1_3_3_2_02_01 none V W) transposes_S8x4x128x4096_S8x4096x4x128_0_3_1_2

theorem refO_apply (V : TT0) (W : FVec Ideal S8x4x4096x4096 .f32) (b : Fin 8) (p : Fin 4096) (h : Fin 4) (d : Fin 128) :
    (refO V W (ix4 b p h d) : EReal) = ∑ s : Fin 4096, V (ix4 b s h d) * W (ix4 b h p s) := by
  unfold refO
  pointwise

/-- Normalised by head, and gated. -/
def refY (O G : TT0) (g : FVec Ideal S512 .f32) : FVec Ideal S32768x512 .bf16 :=
  truncf .bf16 (shapeCast _ (mulf (mulf (mulf O (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf O O) (constant S_ .f32 0x00000000#32) reducesTo_S8x4096x4x128_S8x4096x4_d3 h_S_)) (broadcastInDim S8x4096x4x1 ![] bcast_S_S8x4096x4x1 (constant S_ .f32 0x43000000#32))) (broadcastInDim S8x4096x4x1 ![] bcast_S_S8x4096x4x1 (constant S_ .f32 0x358637BD#32)))))) (broadcastInDim S8x4096x4x128 ![0, 1, 2, 3] bcast_S1x1x4x128_S8x4096x4x128_0_1_2_3 (broadcastInDim S1x1x4x128 ![2, 3] bcast_S4x128_S1x1x4x128_2_3 (shapeCast _ g shapeCasts_S512_S4x128)))) (mulf G (Host.divf (broadcastInDim S8x4096x4x128 ![] bcast_S_S8x4096x4x128 (constant S_ .f32 0x3F800000#32)) (addf (broadcastInDim S8x4096x4x128 ![] bcast_S_S8x4096x4x128 (constant S_ .f32 0x3F800000#32)) (Host.exp (Host.negf G)))))) shapeCasts_S8x4096x4x128_S32768x512) bitsLt_bf16_f32

theorem refY_apply (O G : TT0) (g : FVec Ideal S512 .f32) (b : Fin 8) (p : Fin 4096) (h : Fin 4) (d : Fin 128) :
    (refY O G g (ix2 (rowI b p) (col h d)) : EReal) = kfin (fun d => O (ix4 b p h d)) (fun d => g (ix1 (col h d))) (fun d => G (ix4 b p h d)) d := by
  unfold refY kfin
  pointwise
  have e1 : ∀ H, (⟨(rowI b p).val / 4096, H⟩ : Fin 8) = b := fun _ => Fin.ext (by show (b.val * 4096 + p.val) / 4096 = b.val; omega)
  have e2 : ∀ H, (⟨(rowI b p).val % 4096, H⟩ : Fin 4096) = p := fun _ => Fin.ext (by show (b.val * 4096 + p.val) % 4096 = p.val; omega)
  have e3 : ∀ H, (⟨(col h d).val / 128, H⟩ : Fin 4) = h := fun _ => Fin.ext (by show (h.val * 128 + d.val) / 128 = h.val; omega)
  have e4 : ∀ H, (⟨(col h d).val % 128, H⟩ : Fin 128) = d := fun _ => Fin.ext (by show (h.val * 128 + d.val) % 128 = d.val; omega)
  simp only [e1, e2, e3, e4, zero_sub]

theorem res_eq (m : (ℓ : Loc nD τ sig) → Buf (Elt Ideal) ℓ) (c : Dev nD) :
    Value.res_main_v114 m c = refY (refO (refX5632 (m ((c.tc : Thread nD τ).loc main_arg0)))
        (refW (refT (refX4608 (m ((c.tc : Thread nD τ).loc main_arg0))) refAng) (refK (refT (refX5120 (m ((c.tc : Thread nD τ).loc main_arg0))) refAng)) refD))
      (refX6144 (m ((c.tc : Thread nD τ).loc main_arg0))) (m ((c.tc : Thread nD τ).loc main_arg1)) := by
  unfold Value.res_main_v114 refY refO refW refK refT refD refAng refX4608 refX5120 refX5632 refX6144
  rfl

theorem lc (f : Fin 4096 → Fin 128 → EReal) (hf : ∀ p d, Fin1 (f p d)) (p : Fin 4096) (d : Fin 128) : f p d = ((lift f p.val d : ℝ) : EReal) :=
  lift_coe f hf p.val p.isLt d

/-- The retained values of the reference are the real sum over the positions before. -/
theorem o_eq (X : TT1) (hX : FinX X) (b : Fin 8) (p : Fin 4096) (h : Fin 4) (d : Fin 128) :
    (refO (refX5632 X) (refW (refT (refX4608 X) refAng) (refK (refT (refX5120 X) refAng)) refD) (ix4 b p h d) : EReal) = ((OR X b h p.val d : ℝ) : EReal) := by
  have hq : ∀ (p : Fin 4096) (d : Fin 128), (refT (refX4608 X) refAng (ix4 b p h d) : EReal) = ((lift (QE X b h) p.val d : ℝ) : EReal) := fun p d =>
    (turn X 4608 _ (refX4608_apply X) b p h d).trans (lc _ (QE_fin hX b h) p d)
  have hk : ∀ (p : Fin 4096) (d : Fin 128), (refK (refT (refX5120 X) refAng) (ix4 b p h d) : EReal) = ((lift (KE X b h) p.val d : ℝ) : EReal) := fun p d => by
    rw [refK_apply, turn X 5120 _ (refX5120_apply X) b p h d]
    exact lc _ (KE_fin hX b h) p d
  have hv : ∀ (p : Fin 4096) (d : Fin 128), (refX5632 X (ix4 b p h d) : EReal) = ((lift (VE X b h) p.val d : ℝ) : EReal) := fun p d =>
    (refX5632_apply X b p h d).trans (lc _ (VE_fin hX b h) p d)
  rw [refO_apply]
  unfold OR Oall
  rw [← Fin.sum_univ_eq_sum_range (fun s => if s ≤ p.val then (∑ y, lift (QE X b h) p.val y * lift (KE X b h) s y) * Real.exp (((p.val : ℝ) - s) * lgR h) * lift (VE X b h) s d else 0) 4096, coe_sum]
  refine Finset.sum_congr rfl fun s _ => ?_
  rw [refW_apply, hv, refD_apply]
  simp only [hq, hk, ← EReal.coe_mul]
  rw [← coe_sum]
  split
  · rw [← EReal.coe_mul, ← EReal.coe_mul, mul_comm]
  · rw [mul_zero, mul_zero]; rfl

theorem ref_eq (X : TT1) (g : FVec Ideal S512 .f32) (hX : FinX X) :
    refY (refO (refX5632 X) (refW (refT (refX4608 X) refAng) (refK (refT (refX5120 X) refAng)) refD)) (refX6144 X) g = spec X g := by
  funext (i : S32768x512.Idx)
  obtain ⟨r, n, rfl⟩ : ∃ (r : Fin 32768) (n : Fin 512), i = ix2 r n := ⟨i 0, i 1, eq_ix2 i⟩
  obtain ⟨b, p, rfl⟩ := row_of r
  obtain ⟨h, d, rfl⟩ := col_of n
  refine (refY_apply _ _ g b p h d).trans (Eq.trans ?_ (spec_ix X g b p h d).symm)
  unfold resh
  rw [funext fun d => o_eq X hX b p h d]
  exact congrArg (fun a => kfin _ _ a d) (funext fun d => refX6144_apply X b p h d)

/-- What the precondition says of the arguments. -/
theorem pre_of (x : TT1) (g : FVec Ideal S512 .f32) (h : Cert.Pre_finite_qkv.fn (F := Ideal) x g = fun _ => 1#1) : FinX x := by
  intro r k h1 h2
  have h' : ∀ (r : Fin 32768) (k : Fin 6656), Cert.Pre_finite_qkv.fn (F := Ideal) x g (ix2 r k) = 1#1 := fun r k => congrFun h _
  unfold Cert.Pre_finite_qkv.fn at h'
  pointwise at h'
  have hlt : ∀ n : Fin 6656, 4608 ≤ n.val → IntOp.cmpi .slt (BitVec.ofNat 32 n.val) 4608#32 = 0#1 := by decide +kernel
  have hge : ∀ n : Fin 6656, n.val < 6144 → IntOp.cmpi .sge (BitVec.ofNat 32 n.val) 6144#32 = 0#1 := by decide +kernel
  have hz := h' r k
  rw [hlt k h1, hge k h2] at hz
  exact fin_of_lt (or_one _ _ hz (by decide))

end Cert.RetRefIdeal.Spec

namespace Cert.Proof.RetClaims

theorem algebraic : Cert.algebraic_RetIdeal_RetRefIdeal_pre_finite_qkv := fun m ρ m' ρ' hpre hag =>
  ⟨fun c => RetIdeal.Spec.G m c,
   (θ_run _ _ _).mono (fun _ h c => ⟨(h c).1.trans (RetIdeal.Spec.final c (RetRefIdeal.Spec.pre_of _ _ (hpre c))), (h c).2⟩) (RetIdeal.Value.run_blocks m ρ),
   (θ_run _ _ _).mono (fun _ h c => ⟨(h c).1.trans (by
      rw [RetRefIdeal.Spec.res_eq m' c]
      obtain ⟨e0, e1⟩ := hag c
      rw [e0, e1]
      exact RetRefIdeal.Spec.ref_eq _ _ (RetRefIdeal.Spec.pre_of _ _ (hpre c))), (h c).2⟩) (RetRefIdeal.Value.run m' ρ')⟩

end Cert.Proof.RetClaims

end
-- ==== Proof.XaKer.lean ====
module

public import proofs.«01_k».proof.Defs
public import proofs.«01_k».proof.Proof.Real
public import proofs.«01_k».proof.Proof.Gen.Pre_finite_scores
public import proofs.«01_k».proof.Proof.Gen.XaIdeal.Value
public import proofs.«01_k».proof.Proof.Gen.XaRefIdeal.Run

@[expose] public section

set_option maxRecDepth 16384

noncomputable section

open Idealize.ShloMosaic Idealize.ShloMosaic.TcCoe Idealize.SL.Sem
open Idealize.ShloMosaic.Pipeline (Dat)
open scoped BigOperators

namespace Cert.Proof.Xa

open Cert.Proof

/-- One row's queries: the row scaled by its root mean square and the gain, times the query weight. -/
def qrow (x g : Fin 2048 → EReal) (w : Fin 2048 → Fin 512 → EReal) (n : Fin 512) : EReal :=
  ∑ k, x k * Ideal.rsqrt (Ideal.div (∑ j, x j * x j) (Ideal.ofBits .f32 0x45000000#32) + Ideal.ofBits .f32 0x358637BD#32)
    * g k * w k n

/-- The score of one row against memory row `s` in head `h`. -/
def score (q : Fin 512 → EReal) (kv : Fin 256 → Fin 1024 → EReal) (h : Fin 4) (s : Fin 256) : EReal :=
  (∑ d : Fin 128, q ⟨h.val * 128 + d.val, by omega⟩ * kv s ⟨h.val * 128 + d.val, by omega⟩) * Ideal.ofBits .f32 0x3DB504F3#32

/-- The weight before normalisation. -/
def wgt (q : Fin 512 → EReal) (kv : Fin 256 → Fin 1024 → EReal) (h : Fin 4) (s : Fin 256) : EReal :=
  Ideal.exp (score q kv h s - mx (score q kv h))

/-- One row's attention at a column. -/
def att (q : Fin 512 → EReal) (kv : Fin 256 → Fin 1024 → EReal) (n : Fin 512) : EReal :=
  Ideal.div (∑ s, wgt q kv ⟨n.val / 128, by omega⟩ s * kv s ⟨512 + n.val, by omega⟩) (∑ s, wgt q kv ⟨n.val / 128, by omega⟩ s)

/-- One row of the call's result. -/
def row (x g : Fin 2048 → EReal) (w : Fin 2048 → Fin 512 → EReal) (kv : Fin 256 → Fin 1024 → EReal)
    (wo : Fin 512 → Fin 2048 → EReal) (n : Fin 2048) : EReal :=
  x n + ∑ k, att (qrow x g w) kv k * wo k n

theorem qrow_fin (x g : Fin 2048 → EReal) (w : Fin 2048 → Fin 512 → EReal) (hg : ∀ k, Fin1 (g k)) (hw : ∀ k n, Fin1 (w k n))
    (n : Fin 512) : Fin1 (qrow x g w n) := by
  obtain ⟨e, he, hee⟩ := ceps
  refine Fin1.sum _ _ fun k => ?_
  rw [hee, c2048]
  exact ((rms_fin x 2048 (by norm_num) e he k).mul (hg k)).mul (hw k n)

theorem wgt_pos (q : Fin 512 → EReal) (kv : Fin 256 → Fin 1024 → EReal) (hq : ∀ n, Fin1 (q n))
    (hk : ∀ s (n : Fin 1024), n.val < 512 → Fin1 (kv s n)) (h : Fin 4) (s : Fin 256) : ∃ r : ℝ, 0 < r ∧ wgt q kv h s = r := by
  have hs : ∀ s, Fin1 (score q kv h s) := fun s =>
    (Fin1.sum _ _ fun d => (hq _).mul (hk s _ (by show h.val * 128 + d.val < 512; omega))).mul cscale
  exact ((hs s).sub (mx_fin _ hs)).exp

/-- With real scores the weights may be normalised before they meet the values. -/
theorem att_eq (q : Fin 512 → EReal) (kv : Fin 256 → Fin 1024 → EReal) (hq : ∀ n, Fin1 (q n))
    (hk : ∀ s (n : Fin 1024), n.val < 512 → Fin1 (kv s n)) (n : Fin 512) :
    att q kv n = ∑ s, kv s ⟨512 + n.val, by omega⟩
      * Ideal.div (wgt q kv ⟨n.val / 128, by omega⟩ s) (∑ s, wgt q kv ⟨n.val / 128, by omega⟩ s) :=
  div_sum _ _ (wgt_pos q kv hq hk _)

end Cert.Proof.Xa

namespace Cert.XaIdeal.Spec

open Cert.XaIdeal Cert.XaIdeal.Gen Cert.Proof Cert.Proof.Xa

theorem hz : (![0, 0] : Fin 2 → Nat) = fun _ => 0 := funext fun a => by fin_cases a <;> rfl
theorem hz3 : (![0, 0, 0] : Fin 3 → Nat) = fun _ => 0 := funext fun a => by fin_cases a <;> rfl

/-- A head's keys or values are columns of the block. -/
theorem ld_kv (x3 : Vec Ideal S256x1024 .bf16) (o : Nat) (inb : ∀ a, ![0, o] a + S256x128.size a ≤ S256x1024.size a)
    (s : Fin 256) (d : Fin 128) (h : o + d.val < 1024) :
    (View.ld x3 (Rect.unit (s := S256x1024) ![0, o] S256x128.size inb) : Vec Ideal S256x128 .bf16) (ix2 s d) = x3 (ix2 s ⟨o + d.val, h⟩) := by
  refine congrArg x3 ?_
  funext a
  apply Fin.ext
  match a with
  | ⟨0, _⟩ => show 0 + 1 * s.val = s.val; omega
  | ⟨1, _⟩ => show o + 1 * d.val = o + d.val; omega

theorem pay2_apply (v0 : Vec Ideal S512x2048 .f32) (v1 : Vec Ideal S1x2048 .f32) (v16 : Vec Ideal S1x2048x512 .bf16) (r : Fin 512)
    (n : Fin 512) : k0_pay2 v0 v1 v16 (ix2 r n)
      = qrow (fun k => v0 (ix2 r k)) (fun k => v1 (ix2 0 k)) (fun k n => v16 (ix3 0 k n)) n := by
  unfold k0_pay2
  pointwise
  rfl

theorem pay3_apply (v0 : Vec Ideal S512x2048 .f32) (v1 : Vec Ideal S1x2048 .f32) (v16 : Vec Ideal S1x2048x512 .bf16)
    (v : Vec Ideal S256x128 .bf16) (r : Fin 512) (s : Fin 256) : k0_pay3 v0 v1 v16 v (ix2 r s)
      = (∑ d : Fin 128, k0_pay2 v0 v1 v16 (ix2 r ⟨0 * 128 + d.val, by omega⟩) * v (ix2 s d)) * Ideal.ofBits .f32 0x3DB504F3#32 := by
  unfold k0_pay3
  pointwise

theorem pay4_apply (v0 : Vec Ideal S512x2048 .f32) (v1 : Vec Ideal S1x2048 .f32) (v16 : Vec Ideal S1x2048x512 .bf16)
    (v : Vec Ideal S256x128 .bf16) (r : Fin 512) (s : Fin 256) : k0_pay4 v0 v1 v16 v (ix2 r s)
      = (∑ d : Fin 128, k0_pay2 v0 v1 v16 (ix2 r ⟨1 * 128 + d.val, by omega⟩) * v (ix2 s d)) * Ideal.ofBits .f32 0x3DB504F3#32 := by
  unfold k0_pay4
  pointwise

theorem pay5_apply (v0 : Vec Ideal S512x2048 .f32) (v1 : Vec Ideal S1x2048 .f32) (v16 : Vec Ideal S1x2048x512 .bf16)
    (v : Vec Ideal S256x128 .bf16) (r : Fin 512) (s : Fin 256) : k0_pay5 v0 v1 v16 v (ix2 r s)
      = (∑ d : Fin 128, k0_pay2 v0 v1 v16 (ix2 r ⟨2 * 128 + d.val, by omega⟩) * v (ix2 s d)) * Ideal.ofBits .f32 0x3DB504F3#32 := by
  unfold k0_pay5
  pointwise

theorem pay6_apply (v0 : Vec Ideal S512x2048 .f32) (v1 : Vec Ideal S1x2048 .f32) (v16 : Vec Ideal S1x2048x512 .bf16)
    (r : Fin 512) (d : Fin 128) : k0_pay6 v0 v1 v16 (ix2 r d) = k0_pay2 v0 v1 v16 (ix2 r ⟨3 * 128 + d.val, by omega⟩) := by
  unfold k0_pay6
  pointwise

theorem pay7_apply (v : FVec Ideal S512x256 .f32) (r : Fin 512) (s : Fin 256) :
    k0_pay7 v (ix2 r s) = Ideal.exp (v (ix2 r s) - mx fun s => v (ix2 r s)) := by
  unfold k0_pay7
  pointwise
  rfl

theorem pay8_apply (v : FVec Ideal S512x256 .f32) (r : Fin 512) (s : Fin 256) :
    k0_pay8 v (ix2 r s) = Ideal.exp (v (ix2 r s) - mx fun s => v (ix2 r s)) := by
  unfold k0_pay8
  pointwise
  rfl

theorem pay9_apply (v : FVec Ideal S512x256 .f32) (r : Fin 512) (s : Fin 256) :
    k0_pay9 v (ix2 r s) = Ideal.exp (v (ix2 r s) - mx fun s => v (ix2 r s)) := by
  unfold k0_pay9
  pointwise
  rfl

theorem pay10_apply (v : FVec Ideal S512x128 .bf16) (k : Vec Ideal S256x128 .bf16) (r : Fin 512) (s : Fin 256) :
    k0_pay10 v k (ix2 r s) = Ideal.exp ((∑ d, v (ix2 r d) * k (ix2 s d)) * Ideal.ofBits .f32 0x3DB504F3#32
      - mx fun s => (∑ d, v (ix2 r d) * k (ix2 s d)) * Ideal.ofBits .f32 0x3DB504F3#32) := by
  unfold k0_pay10
  pointwise
  rfl

theorem pay11_apply (v : FVec Ideal S512x256 .f32) (w : Vec Ideal S256x128 .bf16) (r : Fin 512) (d : Fin 128) :
    k0_pay11 v w (ix2 r d) = ∑ s, k0_pay7 v (ix2 r s) * w (ix2 s d) := by
  unfold k0_pay11
  pointwise

theorem pay12_apply (v : FVec Ideal S512x256 .f32) (w : Vec Ideal S256x128 .bf16) (r : Fin 512) (d : Fin 128) :
    k0_pay12 v w (ix2 r d) = ∑ s, k0_pay8 v (ix2 r s) * w (ix2 s d) := by
  unfold k0_pay12
  pointwise

theorem pay13_apply (v : FVec Ideal S512x256 .f32) (w : Vec Ideal S256x128 .bf16) (r : Fin 512) (d : Fin 128) :
    k0_pay13 v w (ix2 r d) = ∑ s, k0_pay9 v (ix2 r s) * w (ix2 s d) := by
  unfold k0_pay13
  pointwise

theorem pay14_apply (v : FVec Ideal S512x128 .bf16) (k w : Vec Ideal S256x128 .bf16) (r : Fin 512) (d : Fin 128) :
    k0_pay14 v k w (ix2 r d) = ∑ s, k0_pay10 v k (ix2 r s) * w (ix2 s d) := by
  unfold k0_pay14
  pointwise

theorem pay15_apply (v : FVec Ideal S512x256 .f32) (r : Fin 512) (d : Fin 128) :
    k0_pay15 v (ix2 r d) = ∑ s, k0_pay7 v (ix2 r s) := by
  unfold k0_pay15
  pointwise

/-- The four heads' quotients side by side, times the output weight, on top of the row. -/
theorem pay1_apply (v0 : Vec Ideal S512x2048 .f32) (v49 v54 v59 : FVec Ideal S512x256 .f32) (v62 v65 v68 v71 v74 : FVec Ideal S512x128 .f32)
    (v93 : Vec Ideal S1x512x2048 .bf16) (r : Fin 512) (n : Fin 2048) :
    k0_pay1 v0 v49 v54 v59 v62 v65 v68 v71 v74 v93 (ix2 r n) = v0 (ix2 r n) +
      ∑ x : Fin 512, (if h : x.val < 128 then Ideal.div (v62 (ix2 r ⟨x.val, h⟩)) (v74 (ix2 r ⟨x.val, h⟩))
        else if h : x.val - 128 < 128 then Ideal.div (v65 (ix2 r ⟨x.val - 128, h⟩)) (∑ s, v49 (ix2 r s))
        else if h : x.val - 128 - 128 < 128 then Ideal.div (v68 (ix2 r ⟨x.val - 128 - 128, h⟩)) (∑ s, v54 (ix2 r s))
        else Ideal.div (v71 (ix2 r ⟨x.val - 128 - 128 - 128, by omega⟩)) (∑ s, v59 (ix2 r s))) * v93 (ix3 0 x n) := by
  unfold k0_pay1
  pointwise

section
variable (x0 : Vec Ideal S512x2048 .f32) (x1 : Vec Ideal S1x2048 .f32) (x2 : Vec Ideal S1x2048x512 .bf16)
  (x3 : Vec Ideal S256x1024 .bf16) (x4 : Vec Ideal S1x512x2048 .bf16) (r : Fin 512)

abbrev Q : Fin 512 → EReal := qrow (fun k => x0 (ix2 r k)) (fun k => x1 (ix2 0 k)) (fun k n => x2 (ix3 0 k n))
abbrev KV : Fin 256 → Fin 1024 → EReal := fun s n => x3 (ix2 s n)

theorem sc0 (s : Fin 256) : k0_pay16 x0 x1 x2 x3 x4 (ix2 r s) = score (Q x0 x1 x2 r) (KV x3) 0 s := by
  unfold k0_pay16
  rw [View.ld_unit_zero hz, View.ld_unit_zero hz, View.ld_unit_zero hz3, pay3_apply]
  refine congrArg₂ (· * ·) (Finset.sum_congr rfl fun d _ => congrArg₂ (· * ·) (pay2_apply _ _ _ _ _) ((ld_kv x3 0 _ s d (by omega)).trans ?_)) rfl
  refine congrArg x3 (congrArg (ix2 s) (Fin.ext ?_)); show 0 + d.val = 0 * 128 + d.val; omega

theorem e0 (s : Fin 256) : k0_pay7 (k0_pay16 x0 x1 x2 x3 x4) (ix2 r s) = wgt (Q x0 x1 x2 r) (KV x3) 0 s := by
  rw [pay7_apply]
  simp only [sc0]
  rfl

theorem o0 (d : Fin 128) : k0_pay11 (k0_pay16 x0 x1 x2 x3 x4) (View.ld x3 r0_7) (ix2 r d)
    = ∑ s, wgt (Q x0 x1 x2 r) (KV x3) 0 s * KV x3 s ⟨512 + d.val, by omega⟩ := by
  rw [pay11_apply]
  exact Finset.sum_congr rfl fun s _ => congrArg₂ (· * ·) (e0 x0 x1 x2 x3 x4 r s) (ld_kv x3 512 _ s d (by omega))

theorem sc1 (s : Fin 256) : k0_pay17 x0 x1 x2 x3 x4 (ix2 r s) = score (Q x0 x1 x2 r) (KV x3) 1 s := by
  unfold k0_pay17
  rw [View.ld_unit_zero hz, View.ld_unit_zero hz, View.ld_unit_zero hz3, pay4_apply]
  refine congrArg₂ (· * ·) (Finset.sum_congr rfl fun d _ => congrArg₂ (· * ·) (pay2_apply _ _ _ _ _) ((ld_kv x3 128 _ s d (by omega)).trans ?_)) rfl
  rfl

theorem e1 (s : Fin 256) : k0_pay8 (k0_pay17 x0 x1 x2 x3 x4) (ix2 r s) = wgt (Q x0 x1 x2 r) (KV x3) 1 s := by
  rw [pay8_apply]
  simp only [sc1]
  rfl

theorem o1 (d : Fin 128) : k0_pay12 (k0_pay17 x0 x1 x2 x3 x4) (View.ld x3 r0_8) (ix2 r d)
    = ∑ s, wgt (Q x0 x1 x2 r) (KV x3) 1 s * KV x3 s ⟨640 + d.val, by omega⟩ := by
  rw [pay12_apply]
  exact Finset.sum_congr rfl fun s _ => congrArg₂ (· * ·) (e1 x0 x1 x2 x3 x4 r s) (ld_kv x3 640 _ s d (by omega))

theorem sc2 (s : Fin 256) : k0_pay18 x0 x1 x2 x3 x4 (ix2 r s) = score (Q x0 x1 x2 r) (KV x3) 2 s := by
  unfold k0_pay18
  rw [View.ld_unit_zero hz, View.ld_unit_zero hz, View.ld_unit_zero hz3, pay5_apply]
  refine congrArg₂ (· * ·) (Finset.sum_congr rfl fun d _ => congrArg₂ (· * ·) (pay2_apply _ _ _ _ _) ((ld_kv x3 256 _ s d (by omega)).trans ?_)) rfl
  rfl

theorem e2 (s : Fin 256) : k0_pay9 (k0_pay18 x0 x1 x2 x3 x4) (ix2 r s) = wgt (Q x0 x1 x2 r) (KV x3) 2 s := by
  rw [pay9_apply]
  simp only [sc2]
  rfl

theorem o2 (d : Fin 128) : k0_pay13 (k0_pay18 x0 x1 x2 x3 x4) (View.ld x3 r0_9) (ix2 r d)
    = ∑ s, wgt (Q x0 x1 x2 r) (KV x3) 2 s * KV x3 s ⟨768 + d.val, by omega⟩ := by
  rw [pay13_apply]
  exact Finset.sum_congr rfl fun s _ => congrArg₂ (· * ·) (e2 x0 x1 x2 x3 x4 r s) (ld_kv x3 768 _ s d (by omega))

theorem e3 (s : Fin 256) : k0_pay10 (k0_pay19 x0 x1 x2 x3 x4) (View.ld x3 r0_6) (ix2 r s) = wgt (Q x0 x1 x2 r) (KV x3) 3 s := by
  have hs : ∀ s : Fin 256, (∑ d : Fin 128, k0_pay19 x0 x1 x2 x3 x4 (ix2 r d) * (View.ld x3 r0_6 : Vec Ideal S256x128 .bf16) (ix2 s d))
      * Ideal.ofBits .f32 0x3DB504F3#32 = score (Q x0 x1 x2 r) (KV x3) 3 s := fun s => by
    refine congrArg₂ (· * ·) (Finset.sum_congr rfl fun d _ => congrArg₂ (· * ·) ?_ (ld_kv x3 384 _ s d (by omega))) rfl
    unfold k0_pay19
    rw [View.ld_unit_zero hz, View.ld_unit_zero hz, View.ld_unit_zero hz3, pay6_apply]
    exact pay2_apply _ _ _ _ _
  rw [pay10_apply]
  simp only [hs]
  rfl

theorem o3 (d : Fin 128) : k0_pay14 (k0_pay19 x0 x1 x2 x3 x4) (View.ld x3 r0_6) (View.ld x3 r0_10) (ix2 r d)
    = ∑ s, wgt (Q x0 x1 x2 r) (KV x3) 3 s * KV x3 s ⟨896 + d.val, by omega⟩ := by
  rw [pay14_apply]
  exact Finset.sum_congr rfl fun s _ => congrArg₂ (· * ·) (e3 x0 x1 x2 x3 x4 r s) (ld_kv x3 896 _ s d (by omega))

theorem att_of (h : Fin 4) (d : Fin 128) (n : Fin 512) (hn : n.val = h.val * 128 + d.val) (o : Nat) (ho : o + d.val < 1024)
    (hoo : o = 512 + h.val * 128) :
    Ideal.div (∑ s, wgt (Q x0 x1 x2 r) (KV x3) h s * KV x3 s ⟨o + d.val, ho⟩) (∑ s, wgt (Q x0 x1 x2 r) (KV x3) h s)
      = att (Q x0 x1 x2 r) (KV x3) n := by
  have e : (⟨n.val / 128, by omega⟩ : Fin 4) = h := Fin.ext (by show n.val / 128 = h.val; omega)
  have e' : (⟨o + d.val, ho⟩ : Fin 1024) = ⟨512 + n.val, by omega⟩ := Fin.ext (by show o + d.val = 512 + n.val; omega)
  unfold att
  rw [e, e']

/-- What the body leaves in the result's staging buffer, read at a row and a column. -/
theorem out_apply (n : Fin 2048) : out0_5 x0 x1 x2 x3 x4 (ix2 r n)
    = row (fun k => x0 (ix2 r k)) (fun k => x1 (ix2 0 k)) (fun k n => x2 (ix3 0 k n)) (fun s n => x3 (ix2 s n)) (fun k n => x4 (ix3 0 k n)) n := by
  unfold out0_5
  rw [View.canon_unit_zero hz]
  refine (pay1_apply _ _ _ _ _ _ _ _ _ _ r n).trans ?_
  rw [View.ld_unit_zero hz, View.ld_unit_zero hz3]
  refine congrArg₂ (· + ·) rfl (Finset.sum_congr rfl fun k _ => congrArg₂ (· * ·) ?_ rfl)
  by_cases h0 : k.val < 128
  · rw [dif_pos h0, o0, pay15_apply]
    simp only [e0]
    exact att_of x0 x1 x2 x3 r 0 ⟨k.val, h0⟩ k (by show k.val = 0 * 128 + k.val; omega) 512 (by omega) rfl
  rw [dif_neg h0]
  by_cases h1 : k.val - 128 < 128
  · rw [dif_pos h1, o1]
    simp only [e1]
    exact att_of x0 x1 x2 x3 r 1 ⟨k.val - 128, h1⟩ k (by show k.val = 1 * 128 + (k.val - 128); omega) 640 (by omega) rfl
  rw [dif_neg h1]
  by_cases h2 : k.val - 128 - 128 < 128
  · rw [dif_pos h2, o2]
    simp only [e2]
    exact att_of x0 x1 x2 x3 r 2 ⟨k.val - 128 - 128, h2⟩ k (by show k.val = 2 * 128 + (k.val - 128 - 128); omega) 768 (by omega) rfl
  rw [dif_neg h2, o3]
  simp only [e3]
  exact att_of x0 x1 x2 x3 r 3 ⟨k.val - 128 - 128 - 128, by omega⟩ k (by show k.val = 3 * 128 + (k.val - 128 - 128 - 128); omega) 896 (by show 896 + (k.val - 128 - 128 - 128) < 1024; omega) rfl

end

variable (m : (ℓ : Loc nD τ sig) → Buf (Elt Ideal) ℓ)

/-- Where each window's block lies at each grid point. -/
theorem idx : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = t.val / 8 ∧ win0_3.index t 1 = 0)
    ∧ (win0_4.index t 0 = 0 ∧ win0_4.index t 1 = 0 ∧ win0_4.index t 2 = 0)
    ∧ (win0_5.index t 0 = t.val ∧ win0_5.index t 1 = 0) := by decide +kernel

theorem iblk0 (c : Dev nD) (t : Fin cfg0.N) (r : Fin 512) (k : Fin 2048) (h : t.val * 512 + r.val < 32768) :
    (iblk m c 0 t : Vec Ideal S512x2048 .f32) (ix2 r k) = m ((c : Thread nD τ).loc main_arg0) (ix2 ⟨t.val * 512 + r.val, h⟩ k) := by
  have e := (idx t).1
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [e.1]; omega
  | ⟨1, _⟩ => show win0_0.index t 1 * 2048 + 1 * k.val = k.val; rw [e.2]; omega

theorem iblk1 (c : Dev nD) (t : Fin cfg0.N) (k : Fin 2048) :
    (iblk m c 1 t : Vec Ideal S1x2048 .f32) (ix2 0 k) = m ((c : Thread nD τ).loc main_arg1) (ix1 k) := by
  have e := (idx t).2.1
  unfold iblk
  rw [View.read_apply]
  show V m c main_v0 _ = _
  have hV : (V m c main_v0 : Vec Ideal S1x2048 .f32) = shapeCast S1x2048 (m ((c : Thread nD τ).loc main_arg1) : Vec Ideal S2048 .f32) shapeCasts_S2048_S1x2048 := by
    entry_read
    rfl
  have hi : ((cfg0.win 1).blk t).view.emb (ix2 0 k) = (ix2 0 k : S1x2048.Idx) := by
    funext a
    apply Fin.ext
    match a with
    | ⟨0, _⟩ => show win0_1.index t 0 * 1 + 1 * 0 = 0; rw [e.1]
    | ⟨1, _⟩ => show win0_1.index t 1 * 2048 + 1 * k.val = k.val; rw [e.2]; omega
  rw [hi, hV]
  pointwise

theorem iblk2 (c : Dev nD) (t : Fin cfg0.N) (k : Fin 2048) (n : Fin 512) :
    (iblk m c 2 t : Vec Ideal S1x2048x512 .bf16) (ix3 0 k n) = m ((c : Thread nD τ).loc main_arg2) (ix3 0 k n) := by
  have e := (idx t).2.2.1
  unfold iblk
  rw [View.read_apply]
  show V m c main_arg2 _ = _
  rw [V_main_arg2]
  congr 1
  funext a
  apply Fin.ext
  match a with
  | ⟨0, _⟩ => show win0_2.index t 0 * 1 + 1 * 0 = 0; rw [e.1]
  | ⟨1, _⟩ => show win0_2.index t 1 * 2048 + 1 * k.val = k.val; rw [e.2.1]; omega
  | ⟨2, _⟩ => show win0_2.index t 2 * 512 + 1 * n.val = n.val; rw [e.2.2]; omega

theorem iblk3 (c : Dev nD) (t : Fin cfg0.N) (s : Fin 256) (n : Fin 1024) (h : t.val / 8 * 256 + s.val < 2048) :
    (iblk m c 3 t : Vec Ideal S256x1024 .bf16) (ix2 s n) = m ((c : Thread nD τ).loc main_arg3) (ix2 ⟨t.val / 8 * 256 + s.val, h⟩ n) := by
  have e := (idx t).2.2.2.1
  unfold iblk
  rw [View.read_apply]
  show V m c main_arg3 _ = _
  rw [V_main_arg3]
  congr 1
  funext a
  apply Fin.ext
  match a with
  | ⟨0, _⟩ => show win0_3.index t 0 * 256 + 1 * s.val = t.val / 8 * 256 + s.val; rw [e.1]; omega
  | ⟨1, _⟩ => show win0_3.index t 1 * 1024 + 1 * n.val = n.val; rw [e.2]; omega

theorem iblk4 (c : Dev nD) (t : Fin cfg0.N) (k : Fin 512) (n : Fin 2048) :
    (iblk m c 4 t : Vec Ideal S1x512x2048 .bf16) (ix3 0 k n) = m ((c : Thread nD τ).loc main_arg4) (ix3 0 k n) := by
  have e := (idx t).2.2.2.2.1
  unfold iblk
  rw [View.read_apply]
  show V m c main_arg4 _ = _
  rw [V_main_arg4]
  congr 1
  funext a
  apply Fin.ext
  match a with
  | ⟨0, _⟩ => show win0_4.index t 0 * 1 + 1 * 0 = 0; rw [e.1]
  | ⟨1, _⟩ => show win0_4.index t 1 * 512 + 1 * k.val = k.val; rw [e.2.1]; omega
  | ⟨2, _⟩ => show win0_4.index t 2 * 2048 + 1 * n.val = n.val; rw [e.2.2]; omega

/-- The call's result, row by row. -/
def spec (x : S32768x2048.Idx → EReal) (g : S2048.Idx → EReal) (w : S4x2048x512.Idx → EReal) (kv : S2048x1024.Idx → EReal)
    (wo : S4x512x2048.Idx → EReal) : S32768x2048.Idx → EReal := fun i =>
  row (fun k => x (ix2 (i 0) k)) (fun k => g (ix1 k)) (fun k n => w (ix3 0 k n))
    (fun s n => kv (ix2 ⟨(i 0).val / 4096 * 256 + s.val, by have : (i 0).val < 32768 := (i 0).isLt; omega⟩ n)) (fun k n => wo (ix3 0 k n)) (i 1)

/-- The result as a function of the launched arguments. -/
abbrev G (c : Dev nD) : Buf (Elt Ideal) ((c : Thread nD τ).loc main_v1) :=
  spec (m ((c : Thread nD τ).loc main_arg0)) (m ((c : Thread nD τ).loc main_arg1)) (m ((c : Thread nD τ).loc main_arg2))
    (m ((c : Thread nD τ).loc main_arg3)) (m ((c : Thread nD τ).loc main_arg4))

/-- Where block `t` of the result lies in the array. -/
theorem emb5 (t : Fin cfg0.N) (r : Fin 512) (n : Fin 2048) (h : t.val * 512 + r.val < 32768) :
    ((cfg0.win 5).blk t).view.emb (ix2 r n) = (ix2 ⟨t.val * 512 + r.val, h⟩ n : S32768x2048.Idx) := by
  have e := (idx t).2.2.2.2.2
  funext a
  apply Fin.ext
  match a with
  | ⟨0, _⟩ => show win0_5.index t 0 * 512 + 1 * r.val = t.val * 512 + r.val; rw [e.1]; omega
  | ⟨1, _⟩ => show win0_5.index t 1 * 2048 + 1 * n.val = n.val; rw [e.2]; omega

theorem flushed_eq (c : Dev nD) (t : Fin cfg0.N) :
    (dats m 0 c).flushed 5 t = ((cfg0.win 5).blk t).view.read (Elt Ideal) (G m c) := by
  have hN : cfg0.N = 64 := N_0
  have ht := t.isLt
  funext (j : S512x2048.Idx)
  obtain ⟨r, n, rfl⟩ : ∃ (r : Fin 512) (n : Fin 2048), j = ix2 r n := ⟨j 0, j 1, eq_ix2 j⟩
  have h : t.val * 512 + r.val < 32768 := by omega
  rw [Value.flushed5, View.read_apply]
  refine (out_apply _ _ _ _ _ r n).trans ?_
  rw [emb5 t r n h]
  show _ = spec _ _ _ _ _ (ix2 _ _)
  unfold spec
  simp only [iblk0 m c t r _ h, iblk1, iblk2, iblk4]
  refine congrArg (fun f => row _ _ _ f _ _) ?_
  funext s n
  rw [iblk3 m c t s n (by omega)]
  refine congrArg (fun a => m ((c : Thread nD τ).loc main_arg3) (ix2 a n)) (Fin.ext ?_)
  show t.val / 8 * 256 + s.val = (t.val * 512 + r.val) / 4096 * 256 + s.val
  omega

theorem cover (i : S32768x2048.Idx) :
    ∃ t : Fin cfg0.N, (cfg0.win 5).flush t = true ∧ i ∈ ((cfg0.win 5).blk t).view.set := by
  have h0 : (i 0 : Nat) < 32768 := (i 0).isLt
  have hN : cfg0.N = 64 := N_0
  let t : Fin cfg0.N := ⟨(i 0 : Nat) / 512, by omega⟩
  refine ⟨t, flush0_5 _, ?_⟩
  have hm : (i 0 : Nat) % 512 < 512 := by omega
  have hs : t.val * 512 + (i 0 : Nat) % 512 < 32768 := by show (i 0 : Nat) / 512 * 512 + (i 0 : Nat) % 512 < 32768; omega
  have hi : i = (ix2 ⟨t.val * 512 + (i 0 : Nat) % 512, hs⟩ (i 1) : S32768x2048.Idx) := by
    refine (eq_ix2 (n0 := 32768) (n1 := 2048) i).trans ?_
    refine congrArg (fun a => ix2 a (i 1)) (Fin.ext ?_)
    show (i 0 : Nat) = (i 0 : Nat) / 512 * 512 + (i 0 : Nat) % 512
    omega
  rw [hi, ← emb5 t ⟨(i 0 : Nat) % 512, hm⟩ (i 1) hs]
  exact View.emb_mem_set _ _

theorem final (c : Dev nD) : (dats m 0 c).arrAt 5 cfg0.N = G m c :=
  (dats m 0 c).arrAt_eq_of_cover 5 (G m c) (fun t _ => flushed_eq m c t) cover

end Cert.XaIdeal.Spec

end
-- ==== Proof.XaVal.lean ====
module

public import proofs.«01_k».proof.Defs
public import proofs.«01_k».proof.Proof.XaKer
public import proofs.«01_k».proof.Proof.Gen.Pre_finite_scores
public import proofs.«01_k».proof.Proof.Gen.XaIdeal.Value
public import proofs.«01_k».proof.Proof.Gen.XaRefIdeal.Run

@[expose] public section

set_option maxRecDepth 16384

noncomputable section

open Idealize.ShloMosaic Idealize.ShloMosaic.TcCoe Idealize.SL.Sem
open Idealize.ShloMosaic.Pipeline (Dat)
open scoped BigOperators

namespace Cert.XaRefIdeal.Spec

open Cert.XaRefIdeal Cert.XaRefIdeal.Gen Cert.Proof Cert.Proof.Xa

/-! Short names for the types of the arrays. -/
abbrev TY0 := FVec Ideal S8x4x4096x256 .f32
abbrev TY1 := FVec Ideal S32768x2048 .f32
abbrev TY2 := FVec Ideal S32768x512 .f32
abbrev TY3 := FVec Ideal S2048x1024 .bf16
abbrev TY4 := FVec Ideal S8x4x4096 .f32

/-- The queries. -/
def refQ (A0 : TY1) (A1 : FVec Ideal S2048 .f32) (A2 : FVec Ideal S4x2048x512 .bf16) : TY2 :=
  Host.dotGeneral dot_S32768x2048_S2048x512_S32768x512_1_0_0_1_n_n none (mulf (mulf A0 (broadcastInDim S32768x2048 ![0, 1] bcast_S32768x1_S32768x2048_0_1 (Host.rsqrt (addf (Host.divf (broadcastInDim S32768x1 ![0] bcast_S32768_S32768x1_0 (Host.reduceAdd (mulf A0 A0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 A1))) (extf .f32 (shapeCast _ (extractStridedSlice S1x2048x512 ![0, 0, 0] A2 slices_S4x2048x512_S1x2048x512_0_0_0) shapeCasts_S1x2048x512_S2048x512) bitsLt_bf16_f32)

theorem refQ_apply (A0 : TY1) (A1 : FVec Ideal S2048 .f32) (A2 : FVec Ideal S4x2048x512 .bf16) (r : Fin 32768) (n : Fin 512) :
    refQ A0 A1 A2 (ix2 r n) = qrow (fun k => A0 (ix2 r k)) (fun k => A1 (ix1 k)) (fun k n => A2 (ix3 0 k n)) n := by
  unfold refQ
  pointwise
  rfl

/-- The scaled scores. -/
def refS (q : TY2) (A3 : TY3) : TY0 :=
  mulf (Host.dotGeneral dot_S8x4096x4x128_S8x256x4x128_S8x4x4096x256_3_3_1_1_02_02 none (shapeCast _ q shapeCasts_S32768x512_S8x4096x4x128) (shapeCast _ (extractStridedSlice S8x256x512 ![0, 0, 0] (shapeCast _ (extf .f32 A3 bitsLt_bf16_f32) shapeCasts_S2048x1024_S8x256x1024) slices_S8x256x1024_S8x256x512_0_0_0) shapeCasts_S8x256x512_S8x256x4x128)) (broadcastInDim S8x4x4096x256 ![] bcast_S_S8x4x4096x256 (constant S_ .f32 0x3DB504F3#32))

theorem refS_apply (q : TY2) (A3 : TY3) (b : Fin 8) (h : Fin 4) (t : Fin 4096) (s : Fin 256) :
    refS q A3 (ix4 b h t s) = (∑ d : Fin 128, q (ix2 ⟨b.val * 4096 + t.val, by omega⟩ ⟨h.val * 128 + d.val, by omega⟩) * A3 (ix2 ⟨b.val * 256 + s.val, by omega⟩ ⟨h.val * 128 + d.val, by omega⟩)) * Ideal.ofBits .f32 0x3DB504F3#32 := by
  unfold refS
  pointwise

/-- The rows' largest scores. -/
def refM (s : TY0) : TY4 :=
  maximumf (broadcastInDim S8x4x4096 ![] bcast_S_S8x4x4096 (constant S_ .f32 0xFF800000#32)) (Host.reduce FloatOps.maximumf s (constant S_ .f32 0xFF800000#32) reducesTo_S8x4x4096x256_S8x4x4096_d3 h_S_)

theorem reduces_scores : S8x4x4096x256.Reduces [3] S8x4x4096 := by decide

theorem lift_scores (b : Fin 8) (h : Fin 4) (t : Fin 4096) (j : Fin 256) : reduces_scores.lift (ix3 b h t) j = ix4 b h t j := by
  funext a
  match a with
  | ⟨0, _⟩ => rfl
  | ⟨1, _⟩ => rfl
  | ⟨2, _⟩ => rfl
  | ⟨3, _⟩ => rfl

theorem reduce_max (s : TY0) (i : S8x4x4096.Idx) :
    (Host.reduce FloatOps.maximumf s (constant S_ .f32 0xFF800000#32) reducesTo_S8x4x4096x256_S8x4x4096_d3 h_S_ : TY4) i
      = Finset.fold FloatOps.maximumf (Ideal.ofBits .f32 0xFF800000#32) (s ∘ reduces_scores.lift i) Finset.univ :=
  Host.reduce_eq_fold_single FloatOps.maximumf s (constant (F := Ideal) S_ .f32 0xFF800000#32) reducesTo_S8x4x4096x256_S8x4x4096_d3
    reduces_scores h_S_ i

theorem fold_scores (s : TY0) (b : Fin 8) (h : Fin 4) (t : Fin 4096) :
    Finset.fold FloatOps.maximumf (Ideal.ofBits .f32 0xFF800000#32) (s ∘ reduces_scores.lift (ix3 b h t)) Finset.univ
      = mx fun j => s (ix4 b h t j) :=
  congrArg (fun f => Finset.fold max _ f Finset.univ) (funext fun j => congrArg s (lift_scores b h t j))

theorem refM_at (s : TY0) (i : S8x4x4096.Idx) : refM s i = max (Ideal.ofBits .f32 0xFF800000#32)
    ((Host.reduce FloatOps.maximumf s (constant S_ .f32 0xFF800000#32) reducesTo_S8x4x4096x256_S8x4x4096_d3 h_S_ : TY4) i) := by
  unfold refM
  rw [maximumf_apply]
  refine congrArg₂ max ?_ rfl
  rfl

theorem refM_apply (s : TY0) (b : Fin 8) (h : Fin 4) (t : Fin 4096) : refM s (ix3 b h t) = mx fun j => s (ix4 b h t j) := by
  rw [refM_at, reduce_max, fold_scores, max_mx]

/-- The weights before normalisation. -/
def refE (s : TY0) (mm : TY4) : TY0 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 mm)))

theorem refE_apply (s : TY0) (mm : TY4) (b : Fin 8) (h : Fin 4) (t : Fin 4096) (j : Fin 256) :
    refE s mm (ix4 b h t j) = Ideal.exp (s (ix4 b h t j) - mm (ix3 b h t)) := by
  unfold refE
  pointwise

/-- The normalised weights. -/
def refP (e : TY0) : TY0 :=
  Host.divf e (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd e (constant S_ .f32 0x00000000#32) reducesTo_S8x4x4096x256_S8x4x4096_d3 h_S_)))

theorem refP_apply (e : TY0) (b : Fin 8) (h : Fin 4) (t : Fin 4096) (j : Fin 256) :
    refP e (ix4 b h t j) = Ideal.div (e (ix4 b h t j)) (∑ j, e (ix4 b h t j)) := by
  unfold refP
  pointwise

/-- The heads' values side by side. -/
def refO (p : TY0) (A3 : TY3) : TY2 :=
  shapeCast _ (transpose S8x4096x4x128 [0, 3, 1, 2] (Host.dotGeneral dot_S8x256x4x128_S8x4x4096x256_S8x4x128x4096_1_3_3_2_02_01 none (shapeCast _ (extractStridedSlice S8x256x512 ![0, 0, 512] (shapeCast _ (extf .f32 A3 bitsLt_bf16_f32) shapeCasts_S2048x1024_S8x256x1024) slices_S8x256x1024_S8x256x512_0_0_512) shapeCasts_S8x256x512_S8x256x4x128) p) transposes_S8x4x128x4096_S8x4096x4x128_0_3_1_2) shapeCasts_S8x4096x4x128_S32768x512

theorem refO_apply (p : TY0) (A3 : TY3) (r : Fin 32768) (n : Fin 512) :
    refO p A3 (ix2 r n) = ∑ s : Fin 256, A3 (ix2 ⟨r.val / 4096 * 256 + s.val, by omega⟩ ⟨512 + n.val, by omega⟩) * p (ix4 ⟨r.val / 4096, by omega⟩ ⟨n.val / 128, by omega⟩ ⟨r.val % 4096, by omega⟩ s) := by
  unfold refO
  pointwise

/-- The result. -/
def refY (A0 : TY1) (o : TY2) (A4 : FVec Ideal S4x512x2048 .bf16) : TY1 :=
  addf A0 (Host.dotGeneral dot_S32768x512_S512x2048_S32768x2048_1_0_0_1_n_n none o (extf .f32 (shapeCast _ (extractStridedSlice S1x512x2048 ![0, 0, 0] A4 slices_S4x512x2048_S1x512x2048_0_0_0) shapeCasts_S1x512x2048_S512x2048) bitsLt_bf16_f32))

theorem refY_apply (A0 : TY1) (o : TY2) (A4 : FVec Ideal S4x512x2048 .bf16) (r : Fin 32768) (n : Fin 2048) :
    refY A0 o A4 (ix2 r n) = A0 (ix2 r n) + ∑ k : Fin 512, o (ix2 r k) * A4 (ix3 0 k n) := by
  unfold refY
  pointwise

theorem res_eq (m : (ℓ : Loc nD τ sig) → Buf (Elt Ideal) ℓ) (c : Dev nD) (S : TY0)
    (hS : S = refS (refQ (m ((c.tc : Thread nD τ).loc main_arg0)) (m ((c.tc : Thread nD τ).loc main_arg1)) (m ((c.tc : Thread nD τ).loc main_arg2))) (m ((c.tc : Thread nD τ).loc main_arg3))) :
    Value.res_main_v45 m c = refY (m ((c.tc : Thread nD τ).loc main_arg0)) (refO (refP (refE S (refM S))) (m ((c.tc : Thread nD τ).loc main_arg3)))
      (m ((c.tc : Thread nD τ).loc main_arg4)) := by
  rw [hS]
  unfold Value.res_main_v45 refY refO refP refE refM refS refQ
  rfl

/-- The staged reference is the row-wise result, where the scores are real numbers. -/
theorem ref_eq (x : TY1) (g : FVec Ideal S2048 .f32) (w : FVec Ideal S4x2048x512 .bf16)
    (kv : TY3) (wo : FVec Ideal S4x512x2048 .bf16) (hg : ∀ k : Fin 2048, Fin1 (g (ix1 k)))
    (hw : ∀ (k : Fin 2048) (n : Fin 512), Fin1 (w (ix3 0 k n)))
    (hk : ∀ (s : Fin 2048) (n : Fin 1024), n.val < 512 → Fin1 (kv (ix2 s n)))
    (S : TY0) (hS : S = refS (refQ x g w) kv) :
    refY x (refO (refP (refE S (refM S))) kv) wo = XaIdeal.Spec.spec x g w kv wo := by
  funext i
  obtain ⟨r, n, rfl⟩ : ∃ (r : Fin 32768) (n : Fin 2048), i = ix2 r n := ⟨i 0, i 1, eq_ix2 i⟩
  rw [refY_apply]
  show _ = row (fun k => x (ix2 r k)) (fun k => g (ix1 k)) (fun k n => w (ix3 0 k n))
    (fun s n => kv (ix2 ⟨r.val / 4096 * 256 + s.val, by omega⟩ n)) (fun k n => wo (ix3 0 k n)) n
  unfold row
  refine congrArg₂ (· + ·) rfl (Finset.sum_congr rfl fun k _ => congrArg₂ (· * ·) ?_ rfl)
  rw [refO_apply, att_eq _ _ (qrow_fin _ _ _ hg hw) (fun s n hn => hk _ n hn)]
  have hs : ∀ s : Fin 256, S (ix4 ⟨r.val / 4096, by omega⟩ ⟨k.val / 128, by omega⟩ ⟨r.val % 4096, by omega⟩ s)
      = score (qrow (fun k => x (ix2 r k)) (fun k => g (ix1 k)) (fun k n => w (ix3 0 k n)))
        (fun s n => kv (ix2 ⟨r.val / 4096 * 256 + s.val, by omega⟩ n)) ⟨k.val / 128, by omega⟩ s := fun s => by
    have hr : (⟨r.val / 4096 * 4096 + r.val % 4096, by omega⟩ : Fin 32768) = r := Fin.ext (by show r.val / 4096 * 4096 + r.val % 4096 = r.val; omega)
    rw [hS, refS_apply]
    refine congrArg₂ (· * ·) (Finset.sum_congr rfl fun d _ => congrArg₂ (· * ·) ?_ rfl) rfl
    refine (refQ_apply x g w _ _).trans ?_
    show qrow (fun k => x (ix2 ⟨r.val / 4096 * 4096 + r.val % 4096, _⟩ k)) _ _ _ = _
    rw [hr]
  have he : ∀ s : Fin 256, refE S (refM S) (ix4 ⟨r.val / 4096, by omega⟩ ⟨k.val / 128, by omega⟩ ⟨r.val % 4096, by omega⟩ s)
      = wgt (qrow (fun k => x (ix2 r k)) (fun k => g (ix1 k)) (fun k n => w (ix3 0 k n)))
        (fun s n => kv (ix2 ⟨r.val / 4096 * 256 + s.val, by omega⟩ n)) ⟨k.val / 128, by omega⟩ s := fun s => by
    rw [refE_apply, refM_apply]
    simp only [hs]
    rfl
  refine Finset.sum_congr rfl fun s _ => congrArg₂ (· * ·) rfl ?_
  rw [refP_apply]
  simp only [he]

/-- What the precondition says of the arguments. -/
theorem pre_of (x : TY1) (g : FVec Ideal S2048 .f32) (w : FVec Ideal S4x2048x512 .bf16)
    (kv : TY3) (wo : FVec Ideal S4x512x2048 .bf16) (h : Cert.Pre_finite_scores.fn (F := Ideal) x g w kv wo = fun _ => 1#1) :
    (∀ k : Fin 2048, Fin1 (g (ix1 k))) ∧ (∀ (k : Fin 2048) (n : Fin 512), Fin1 (w (ix3 0 k n)))
    ∧ (∀ (s : Fin 2048) (n : Fin 1024), n.val < 512 → Fin1 (kv (ix2 s n))) := by
  have h' : ∀ (k : Fin 2048) (n : Fin 1024), Cert.Pre_finite_scores.fn (F := Ideal) x g w kv wo (ix2 k n) = 1#1 := fun k n => congrFun h _
  unfold Cert.Pre_finite_scores.fn Cert.Pre_finite_scores.fn_part1 at h'
  pointwise at h'
  have hge : ∀ n : Fin 1024, n.val < 512 → IntOp.cmpi .sge (BitVec.ofNat 32 n.val) 512#32 = 0#1 := by decide +kernel
  refine ⟨fun k => fin_of_lt (and_one _ _ (and_one _ _ (h' k 0)).1).1, fun k n => ?_, fun s n hn => ?_⟩
  · have h1 := (and_one _ _ (and_one _ _ (h' k ⟨n.val, by omega⟩)).1).2
    rw [dif_pos n.isLt] at h1
    exact fin_of_lt h1
  · exact fin_of_lt (or_one _ _ (and_one _ _ (h' s n)).2 (hge n hn))

end Cert.XaRefIdeal.Spec

namespace Cert.Proof.XaClaims

theorem algebraic : Cert.algebraic_XaIdeal_XaRefIdeal_pre_finite_scores := fun m ρ m' ρ' hpre hag =>
  ⟨fun c => XaIdeal.Spec.G m c,
   (θ_run _ _ _).mono (fun _ h c => ⟨(h c).1.trans (XaIdeal.Spec.final m c), (h c).2⟩) (XaIdeal.Value.run_blocks m ρ),
   (θ_run _ _ _).mono (fun _ h c => ⟨(h c).1.trans (by
      obtain ⟨hg, hw, hk⟩ := XaRefIdeal.Spec.pre_of _ _ _ _ _ (hpre c)
      rw [XaRefIdeal.Spec.res_eq m' c _ rfl]
      obtain ⟨e0, e1, e2, e3, e4⟩ := hag c
      rw [e0, e1, e2, e3, e4]
      exact XaRefIdeal.Spec.ref_eq _ _ _ _ _ hg hw hk _ rfl), (h c).2⟩) (XaRefIdeal.Value.run m' ρ')⟩

end Cert.Proof.XaClaims

end
-- ==== Proof.OutVal.lean ====
module

public import proofs.«01_k».proof.Defs
public import proofs.«01_k».proof.Proof.Gen.OutIdeal.Value
public import proofs.«01_k».proof.Proof.Gen.OutRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open scoped BigOperators

namespace Cert.OutIdeal.Spec

open Cert.OutIdeal Cert.OutIdeal.Gen

/-- The output projection at one row and column: the residual plus the three head groups' products with their rows of
    the layer's weight. -/
def spec (x : S32768x2048.Idx → EReal) (a0 a1 : S32768x512.Idx → EReal) (a2 : S32768x1024.Idx → EReal)
    (w : S4x2048x2048.Idx → EReal) : S32768x2048.Idx → EReal := fun i =>
  x i + ∑ k : Fin 512, a0 (ix2 (i 0) k) * w (ix3 0 ⟨k.val, by omega⟩ (i 1))
    + ∑ k : Fin 512, a1 (ix2 (i 0) k) * w (ix3 0 ⟨512 + k.val, by omega⟩ (i 1))
    + ∑ k : Fin 1024, a2 (ix2 (i 0) k) * w (ix3 0 ⟨1024 + k.val, by omega⟩ (i 1))

variable (m : (ℓ : Loc nD τ sig) → Buf (Elt Ideal) ℓ)

/-- Where each window's block lies at each grid point. -/
theorem idx : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0 ∧ win0_4.index t 2 = 0)
    ∧ (win0_5.index t 0 = t.val ∧ win0_5.index t 1 = 0) := by decide +kernel

theorem iblk0 (c : Dev nD) (t : Fin cfg0.N) (r : Fin 512) (k : Fin 2048) (h : t.val * 512 + r.val < 32768) :
    (iblk m c 0 t : Vec Ideal S512x2048 .f32) (ix2 r k) = m ((c : Thread nD τ).loc main_arg0) (ix2 ⟨t.val * 512 + r.val, h⟩ k) := by
  have e := (idx t).1
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [e.1]; omega
  | ⟨1, _⟩ => show win0_0.index t 1 * 2048 + 1 * k.val = k.val; rw [e.2]; omega

theorem iblk1 (c : Dev nD) (t : Fin cfg0.N) (r : Fin 512) (k : Fin 512) (h : t.val * 512 + r.val < 32768) :
    (iblk m c 1 t : Vec Ideal S512x512 .bf16) (ix2 r k) = m ((c : Thread nD τ).loc main_arg1) (ix2 ⟨t.val * 512 + r.val, h⟩ k) := by
  have e := (idx t).2.1
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [e.1]; omega
  | ⟨1, _⟩ => show win0_1.index t 1 * 512 + 1 * k.val = k.val; rw [e.2]; omega

theorem iblk2 (c : Dev nD) (t : Fin cfg0.N) (r : Fin 512) (k : Fin 512) (h : t.val * 512 + r.val < 32768) :
    (iblk m c 2 t : Vec Ideal S512x512 .bf16) (ix2 r k) = m ((c : Thread nD τ).loc main_arg2) (ix2 ⟨t.val * 512 + r.val, h⟩ k) := by
  have e := (idx t).2.2.1
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [e.1]; omega
  | ⟨1, _⟩ => show win0_2.index t 1 * 512 + 1 * k.val = k.val; rw [e.2]; omega

theorem iblk3 (c : Dev nD) (t : Fin cfg0.N) (r : Fin 512) (k : Fin 1024) (h : t.val * 512 + r.val < 32768) :
    (iblk m c 3 t : Vec Ideal S512x1024 .bf16) (ix2 r k) = m ((c : Thread nD τ).loc main_arg3) (ix2 ⟨t.val * 512 + r.val, h⟩ k) := by
  have e := (idx t).2.2.2.1
  unfold iblk
  rw [View.read_apply]
  show V m c main_arg3 _ = _
  rw [V_main_arg3]
  congr 1
  funext a
  apply Fin.ext
  match a with
  | ⟨0, _⟩ => show win0_3.index t 0 * 512 + 1 * r.val = t.val * 512 + r.val; rw [e.1]; omega
  | ⟨1, _⟩ => show win0_3.index t 1 * 1024 + 1 * k.val = k.val; rw [e.2]; omega

theorem iblk4 (c : Dev nD) (t : Fin cfg0.N) (j : S1x2048x2048.Idx) :
    (iblk m c 4 t : Vec Ideal S1x2048x2048 .bf16) j = m ((c : Thread nD τ).loc main_arg4) (ix3 0 (j 1) (j 2)) := by
  have e := (idx t).2.2.2.2.1
  have h0 : (j 0).val < 1 := (j 0).isLt
  unfold iblk
  rw [View.read_apply]
  show V m c main_arg4 _ = _
  rw [V_main_arg4]
  congr 1
  funext a
  apply Fin.ext
  match a with
  | ⟨0, _⟩ => show win0_4.index t 0 * 1 + 1 * (j 0).val = 0; rw [e.1]; omega
  | ⟨1, _⟩ => show win0_4.index t 1 * 2048 + 1 * (j 1).val = (j 1).val; rw [e.2.1]; omega
  | ⟨2, _⟩ => show win0_4.index t 2 * 2048 + 1 * (j 2).val = (j 2).val; rw [e.2.2]; omega

theorem hz : (![0, 0] : Fin 2 → Nat) = fun _ => 0 := funext fun a => by fin_cases a <;> rfl

/-- What the body leaves in the result's staging buffer, read at a row and a column. -/
theorem out_apply (x0 : Vec Ideal S512x2048 .f32) (x1 x2 : Vec Ideal S512x512 .bf16) (x3 : Vec Ideal S512x1024 .bf16)
    (x4 : Vec Ideal S1x2048x2048 .bf16) (r : Fin 512) (n : Fin 2048) :
    out0_5 x0 x1 x2 x3 x4 (ix2 r n) = x0 (ix2 r n) + ∑ k : Fin 512, x1 (ix2 r k) * x4 (ix3 0 ⟨k.val, by omega⟩ n)
      + ∑ k : Fin 512, x2 (ix2 r k) * x4 (ix3 0 ⟨512 + k.val, by omega⟩ n)
      + ∑ k : Fin 1024, x3 (ix2 r k) * x4 (ix3 0 ⟨1024 + k.val, by omega⟩ n) := by
  unfold out0_5
  rw [View.canon_unit_zero hz]
  unfold k0_pay1
  rw [View.ld_unit_zero hz, View.ld_unit_zero hz, View.ld_unit_zero hz, View.ld_unit_zero hz]
  pointwise

/-- The result as a function of the launched arguments. -/
abbrev G (c : Dev nD) : Buf (Elt Ideal) ((c : Thread nD τ).loc main_v0) :=
  spec (m ((c : Thread nD τ).loc main_arg0)) (m ((c : Thread nD τ).loc main_arg1)) (m ((c : Thread nD τ).loc main_arg2))
    (m ((c : Thread nD τ).loc main_arg3)) (m ((c : Thread nD τ).loc main_arg4))

/-- Where block `t` of the result lies in the array. -/
theorem emb5 (t : Fin cfg0.N) (r : Fin 512) (n : Fin 2048) (h : t.val * 512 + r.val < 32768) :
    ((cfg0.win 5).blk t).view.emb (ix2 r n) = (ix2 ⟨t.val * 512 + r.val, h⟩ n : S32768x2048.Idx) := by
  have e := (idx t).2.2.2.2.2
  funext a
  apply Fin.ext
  match a with
  | ⟨0, _⟩ => show win0_5.index t 0 * 512 + 1 * r.val = t.val * 512 + r.val; rw [e.1]; omega
  | ⟨1, _⟩ => show win0_5.index t 1 * 2048 + 1 * n.val = n.val; rw [e.2]; omega

theorem flushed_eq (c : Dev nD) (t : Fin cfg0.N) :
    (dats m 0 c).flushed 5 t = ((cfg0.win 5).blk t).view.read (Elt Ideal) (G m c) := by
  have hN : cfg0.N = 64 := N_0
  have ht := t.isLt
  funext (j : S512x2048.Idx)
  obtain ⟨r, n, rfl⟩ : ∃ (r : Fin 512) (n : Fin 2048), j = ix2 r n := ⟨j 0, j 1, eq_ix2 j⟩
  have h : t.val * 512 + r.val < 32768 := by omega
  rw [Value.flushed5, View.read_apply]
  refine (out_apply _ _ _ _ _ r n).trans ?_
  rw [emb5 t r n h]
  show _ = spec _ _ _ _ _ (ix2 _ _)
  unfold spec
  rw [iblk0 m c t r n h]
  simp only [iblk1 m c t r _ h, iblk2 m c t r _ h, iblk3 m c t r _ h, iblk4]
  rfl

theorem cover (i : S32768x2048.Idx) :
    ∃ t : Fin cfg0.N, (cfg0.win 5).flush t = true ∧ i ∈ ((cfg0.win 5).blk t).view.set := by
  have h0 : (i 0 : Nat) < 32768 := (i 0).isLt
  have hN : cfg0.N = 64 := N_0
  let t : Fin cfg0.N := ⟨(i 0 : Nat) / 512, by omega⟩
  refine ⟨t, flush0_5 _, ?_⟩
  have hm : (i 0 : Nat) % 512 < 512 := by omega
  have hs : t.val * 512 + (i 0 : Nat) % 512 < 32768 := by show (i 0 : Nat) / 512 * 512 + (i 0 : Nat) % 512 < 32768; omega
  have hi : i = (ix2 ⟨t.val * 512 + (i 0 : Nat) % 512, hs⟩ (i 1) : S32768x2048.Idx) := by
    refine (eq_ix2 (n0 := 32768) (n1 := 2048) i).trans ?_
    refine congrArg (fun a => ix2 a (i 1)) (Fin.ext ?_)
    show (i 0 : Nat) = (i 0 : Nat) / 512 * 512 + (i 0 : Nat) % 512
    omega
  rw [hi, ← emb5 t ⟨(i 0 : Nat) % 512, hm⟩ (i 1) hs]
  exact View.emb_mem_set _ _

theorem final (c : Dev nD) : (dats m 0 c).arrAt 5 cfg0.N = G m c :=
  (dats m 0 c).arrAt_eq_of_cover 5 (G m c) (fun t _ => flushed_eq m c t) cover

end Cert.OutIdeal.Spec

namespace Cert.OutRefIdeal.Spec

open Cert.OutRefIdeal Cert.OutRefIdeal.Gen

theorem sum_cut (f : Fin 2048 → EReal) : ∑ k, f k = ∑ k : Fin 512, f ⟨k.val, by omega⟩
    + ∑ k : Fin 512, f ⟨512 + k.val, by omega⟩ + ∑ k : Fin 1024, f ⟨1024 + k.val, by omega⟩ := by
  refine (Fin.sum_univ_add (a := 1024) (b := 1024) f).trans ?_
  refine congrArg₂ (· + ·) ?_ rfl
  exact Fin.sum_univ_add (a := 512) (b := 512) fun i => f (Fin.castAdd 1024 i)

/-- The reference's composed term, read at a row and a column. -/
theorem ref_apply (x : Vec Ideal S32768x2048 .f32) (a0 a1 : Vec Ideal S32768x512 .bf16) (a2 : Vec Ideal S32768x1024 .bf16)
    (w : Vec Ideal S4x2048x2048 .bf16) :
    (addf x (Host.dotGeneral dot_S32768x2048_S2048x2048_S32768x2048_1_0_0_1_n_n none (extf .f32 ((concatenate S32768x2048 1 [⟨S32768x512, (a0 : (⟨S32768x512, .bf16⟩ : BufTy).Contents (Elt Ideal))⟩, ⟨S32768x512, (a1 : (⟨S32768x512, .bf16⟩ : BufTy).Contents (Elt Ideal))⟩, ⟨S32768x1024, (a2 : (⟨S32768x1024, .bf16⟩ : BufTy).Contents (Elt Ideal))⟩] concatenates_S32768x512_S32768x512_S32768x1024_S32768x2048_d1 : (⟨S32768x2048, .bf16⟩ : BufTy).Contents (Elt Ideal))) bitsLt_bf16_f32) (extf .f32 (shapeCast _ (extractStridedSlice S1x2048x2048 ![0, 0, 0] w slices_S4x2048x2048_S1x2048x2048_0_0_0) shapeCasts_S1x2048x2048_S2048x2048) bitsLt_bf16_f32)) : FVec Ideal S32768x2048 .f32)
      = OutIdeal.Spec.spec x a0 a1 a2 w := by
  funext j
  obtain ⟨r, n, rfl⟩ : ∃ (r : Fin 32768) (n : Fin 2048), j = ix2 r n := ⟨j 0, j 1, eq_ix2 j⟩
  pointwise
  rw [sum_cut, ← add_assoc, ← add_assoc]
  unfold OutIdeal.Spec.spec
  refine congrArg₂ (· + ·) (congrArg₂ (· + ·) (congrArg₂ (· + ·) rfl ?_) ?_) ?_
  · refine Finset.sum_congr rfl fun k _ => ?_
    rw [dif_pos k.isLt]
    rfl
  · refine Finset.sum_congr rfl fun k _ => ?_
    have h1 : ¬(512 + k.val < 512) := by omega
    have h2 : 512 + k.val - 512 < 512 := by omega
    rw [dif_neg h1, dif_pos h2]
    refine congrArg₂ (· * ·) (congrArg a1 (congrArg (ix2 r) (Fin.ext ?_))) rfl
    show 512 + k.val - 512 = k.val; omega
  · refine Finset.sum_congr rfl fun k _ => ?_
    have h1 : ¬(1024 + k.val < 512) := by omega
    have h2 : ¬(1024 + k.val - 512 < 512) := by omega
    rw [dif_neg h1, dif_neg h2]
    refine congrArg₂ (· * ·) (congrArg a2 (congrArg (ix2 r) (Fin.ext ?_))) rfl
    show 1024 + k.val - 512 - 512 = k.val; omega

end Cert.OutRefIdeal.Spec

namespace Cert.Proof.OutClaims

theorem algebraic : Cert.algebraic_OutIdeal_OutRefIdeal := fun m ρ m' ρ' _ hag =>
  ⟨fun c => OutIdeal.Spec.G m c,
   (θ_run _ _ _).mono (fun _ h c => ⟨(h c).1.trans (OutIdeal.Spec.final m c), (h c).2⟩) (OutIdeal.Value.run_blocks m ρ),
   (θ_run _ _ _).mono (fun _ h c => ⟨(h c).1.trans (by
      rw [OutRefIdeal.Spec.ref_apply]
      obtain ⟨e0, e1, e2, e3, e4⟩ := hag c
      rw [e0, e1, e2, e3, e4]), (h c).2⟩) (OutRefIdeal.Value.run m' ρ')⟩

end Cert.Proof.OutClaims

end
-- ==== Proof.KvVal.lean ====
module

public import proofs.«01_k».proof.Defs
public import proofs.«01_k».proof.Proof.Real
public import proofs.«01_k».proof.Proof.Gen.KvIdeal.Value
public import proofs.«01_k».proof.Proof.Gen.KvRefIdeal.Run

@[expose] public section

set_option maxRecDepth 16384

noncomputable section

open Idealize.ShloMosaic Idealize.ShloMosaic.TcCoe Idealize.SL.Sem
open Idealize.ShloMosaic.Pipeline (Dat)
open scoped BigOperators

namespace Cert.KvIdeal.Spec

open Cert.KvIdeal Cert.KvIdeal.Gen Cert.Proof

theorem hz : (![0, 0] : Fin 2 → Nat) = fun _ => 0 := funext fun a => by fin_cases a <;> rfl
theorem hz3 : (![0, 0, 0] : Fin 3 → Nat) = fun _ => 0 := funext fun a => by fin_cases a <;> rfl

/-- The normalised product at one row and column. -/
def spec (x : S2048x2048.Idx → EReal) (g : S2048.Idx → EReal) (w : S4x2048x1024.Idx → EReal) : S2048x1024.Idx → EReal := fun i =>
  ∑ k, nrm (fun k => x (ix2 (i 0) k)) (fun k => g (ix1 k)) k * w (ix3 0 k (i 1))

theorem out_apply (c : Dev nD) (i : grid0.Coords) (a2 : Memref sig .tc .vmem S256x2048 .f32) (h2 : a2.IsWhole) (a3 : Memref sig .tc .vmem S1x2048 .f32)
    (h3 : a3.IsWhole) (a4 : Memref sig .tc .vmem S1x2048x1024 .bf16) (h4 : a4.IsWhole) (a5 : Memref sig .tc .vmem S256x1024 .bf16) (h5 : a5.IsWhole)
    (a6 : Memref sig .tc .vmem S256x2048 .bf16) (h6 : a6.IsWhole) (hc : cond0_0 i) (x0 : Vec Ideal S256x2048 .f32) (x1 : Vec Ideal S1x2048 .f32)
    (x2 : Vec Ideal S1x2048x1024 .bf16) (r : Fin 256) (n : Fin 1024) :
    out0_A_3 c i a2 h2 a3 h3 a4 h4 a5 h5 a6 h6 hc x0 x1 x2 (ix2 r n)
      = ∑ k, nrm (fun k => x0 (ix2 r k)) (fun k => x1 (ix2 0 k)) k * x2 (ix3 0 k n) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero _ hz]
  unfold k0_pay2 k0_pay1
  simp only [View.readAt_eq_ld, h2.read_unread, h3.read_unread, h4.read_unread, View.ld_unit_zero (S := S256x2048) hz, View.ld_unit_zero (S := S1x2048) hz, View.ld_unit_zero (S := S1x2048x1024) hz3]
  pointwise
  rfl

variable (m : (ℓ : Loc nD τ sig) → Buf (Elt Ideal) ℓ)

/-- Where each window's block lies at each grid point. -/
theorem idx : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0)
    ∧ (win0_3.index t 0 = t.val ∧ win0_3.index t 1 = 0) := by decide +kernel

theorem iblk0 (c : Dev nD) (t : Fin cfg0.N) (r : Fin 256) (k : Fin 2048) (h : t.val * 256 + r.val < 2048) :
    (iblk m c 0 t : Vec Ideal S256x2048 .f32) (ix2 r k) = m ((c : Thread nD τ).loc main_arg0) (ix2 ⟨t.val * 256 + r.val, h⟩ k) := by
  have e := (idx t).1
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 2048 + 1 * k.val = k.val; rw [e.2]; omega

theorem iblk1 (c : Dev nD) (t : Fin cfg0.N) (k : Fin 2048) :
    (iblk m c 1 t : Vec Ideal S1x2048 .f32) (ix2 0 k) = m ((c : Thread nD τ).loc main_arg1) (ix1 k) := by
  have e := (idx t).2.1
  unfold iblk
  rw [View.read_apply]
  show V m c main_v0 _ = _
  have hV : (V m c main_v0 : Vec Ideal S1x2048 .f32) = shapeCast S1x2048 (m ((c : Thread nD τ).loc main_arg1) : Vec Ideal S2048 .f32) shapeCasts_S2048_S1x2048 := by
    entry_read
    rfl
  have hi : ((cfg0.win 1).blk t).view.emb (ix2 0 k) = (ix2 0 k : S1x2048.Idx) := by
    funext a
    apply Fin.ext
    match a with
    | ⟨0, _⟩ => show win0_1.index t 0 * 1 + 1 * 0 = 0; rw [e.1]
    | ⟨1, _⟩ => show win0_1.index t 1 * 2048 + 1 * k.val = k.val; rw [e.2]; omega
  rw [hi, hV]
  pointwise

theorem iblk2 (c : Dev nD) (t : Fin cfg0.N) (k : Fin 2048) (n : Fin 1024) :
    (iblk m c 2 t : Vec Ideal S1x2048x1024 .bf16) (ix3 0 k n) = m ((c : Thread nD τ).loc main_arg2) (ix3 0 k n) := by
  have e := (idx t).2.2.1
  unfold iblk
  rw [View.read_apply]
  show V m c main_arg2 _ = _
  rw [V_main_arg2]
  congr 1
  funext a
  apply Fin.ext
  match a with
  | ⟨0, _⟩ => show win0_2.index t 0 * 1 + 1 * 0 = 0; rw [e.1]
  | ⟨1, _⟩ => show win0_2.index t 1 * 2048 + 1 * k.val = k.val; rw [e.2.1]; omega
  | ⟨2, _⟩ => show win0_2.index t 2 * 1024 + 1 * n.val = n.val; rw [e.2.2]; omega

/-- The result as a function of the launched arguments. -/
abbrev G (c : Dev nD) : Buf (Elt Ideal) ((c : Thread nD τ).loc main_v1) :=
  spec (m ((c : Thread nD τ).loc main_arg0)) (m ((c : Thread nD τ).loc main_arg1)) (m ((c : Thread nD τ).loc main_arg2))

/-- Where block `t` of the result lies in the array. -/
theorem emb3 (t : Fin cfg0.N) (r : Fin 256) (n : Fin 1024) (h : t.val * 256 + r.val < 2048) :
    ((cfg0.win 3).blk t).view.emb (ix2 r n) = (ix2 ⟨t.val * 256 + r.val, h⟩ n : S2048x1024.Idx) := by
  have e := (idx t).2.2.2
  funext a
  apply Fin.ext
  match a with
  | ⟨0, _⟩ => show win0_3.index t 0 * 256 + 1 * r.val = t.val * 256 + r.val; rw [e.1]; omega
  | ⟨1, _⟩ => show win0_3.index t 1 * 1024 + 1 * n.val = n.val; rw [e.2]; omega

theorem flushed_eq (c : Dev nD) (t : Fin cfg0.N) :
    (dats m 0 c).flushed 3 t = ((cfg0.win 3).blk t).view.read (Elt Ideal) (G m c) := by
  have hN : cfg0.N = 8 := N_0
  have ht := t.isLt
  funext (j : S256x1024.Idx)
  obtain ⟨r, n, rfl⟩ : ∃ (r : Fin 256) (n : Fin 1024), j = ix2 r n := ⟨j 0, j 1, eq_ix2 j⟩
  have h : t.val * 256 + r.val < 2048 := by omega
  rw [Value.flushed3_A, View.read_apply]
  refine (out_apply c _ _ _ _ _ _ _ _ _ _ _ _ _ _ _ r n).trans ?_
  rw [emb3 t r n h]
  show _ = spec _ _ _ (ix2 _ _)
  unfold spec
  simp only [iblk0 m c t r _ h, iblk1, iblk2]
  rfl

theorem cover (i : S2048x1024.Idx) :
    ∃ t : Fin cfg0.N, (cfg0.win 3).flush t = true ∧ i ∈ ((cfg0.win 3).blk t).view.set := by
  have h0 : (i 0 : Nat) < 2048 := (i 0).isLt
  have hN : cfg0.N = 8 := N_0
  let t : Fin cfg0.N := ⟨(i 0 : Nat) / 256, by omega⟩
  refine ⟨t, flush0_3 _, ?_⟩
  have hm : (i 0 : Nat) % 256 < 256 := by omega
  have hs : t.val * 256 + (i 0 : Nat) % 256 < 2048 := by show (i 0 : Nat) / 256 * 256 + (i 0 : Nat) % 256 < 2048; omega
  have hi : i = (ix2 ⟨t.val * 256 + (i 0 : Nat) % 256, hs⟩ (i 1) : S2048x1024.Idx) := by
    refine (eq_ix2 (n0 := 2048) (n1 := 1024) i).trans ?_
    refine congrArg (fun a => ix2 a (i 1)) (Fin.ext ?_)
    show (i 0 : Nat) = (i 0 : Nat) / 256 * 256 + (i 0 : Nat) % 256
    omega
  rw [hi, ← emb3 t ⟨(i 0 : Nat) % 256, hm⟩ (i 1) hs]
  exact View.emb_mem_set _ _

theorem final (c : Dev nD) : (dats m 0 c).arrAt 3 cfg0.N = G m c :=
  (dats m 0 c).arrAt_eq_of_cover 3 (G m c) (fun t _ => flushed_eq m c t) cover

end Cert.KvIdeal.Spec

namespace Cert.KvRefIdeal.Spec

open Cert.KvRefIdeal Cert.KvRefIdeal.Gen Cert.Proof

/-- The reference's composed term, read at a row and a column. -/
theorem ref_apply (x : FVec Ideal S2048x2048 .f32) (g : FVec Ideal S2048 .f32) (w : FVec Ideal S4x2048x1024 .bf16) :
    (truncf .bf16 (Host.dotGeneral dot_S2048x2048_S2048x1024_S2048x1024_1_0_0_1_n_n none (mulf (mulf x (broadcastInDim S2048x2048 ![0, 1] bcast_S2048x1_S2048x2048_0_1 (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 g))) (extf .f32 (shapeCast _ (extractStridedSlice S1x2048x1024 ![0, 0, 0] w slices_S4x2048x1024_S1x2048x1024_0_0_0) shapeCasts_S1x2048x1024_S2048x1024) bitsLt_bf16_f32)) bitsLt_bf16_f32 : FVec Ideal S2048x1024 .bf16) = KvIdeal.Spec.spec x g w := by
  funext j
  obtain ⟨r, n, rfl⟩ : ∃ (r : Fin 2048) (n : Fin 1024), j = ix2 r n := ⟨j 0, j 1, eq_ix2 j⟩
  pointwise
  rfl

end Cert.KvRefIdeal.Spec

namespace Cert.Proof.KvClaims

theorem algebraic : Cert.algebraic_KvIdeal_KvRefIdeal := fun m ρ m' ρ' _ hag =>
  ⟨fun c => KvIdeal.Spec.G m c,
   (θ_run _ _ _).mono (fun _ h c => ⟨(h c).1.trans (KvIdeal.Spec.final m c), (h c).2⟩) (KvIdeal.Value.run_blocks m ρ),
   (θ_run _ _ _).mono (fun _ h c => ⟨(h c).1.trans (by
      obtain ⟨e0, e1, e2⟩ := hag c
      rw [e0, e1, e2]
      exact KvRefIdeal.Spec.ref_apply _ _ _), (h c).2⟩) (KvRefIdeal.Value.run m' ρ')⟩

end Cert.Proof.KvClaims

end
-- ==== Proof.InIdealHand.lean ====
module

public import proofs.«01_k».proof.Proof.Gen.InIdeal.Frame
public import proofs.«01_k».proof.Proof.Gen.InIdeal.Skeleton
public import Idealize.ShloMosaic.Lib.Claim
public import Idealize.ShloMosaic.Lib.Pipeline.Value

@[expose] public section

set_option maxRecDepth 16384

/-! # The run of the input projections

The kernel runs over 64 row tiles and, within a tile, three steps.  The first step normalizes the tile's rows into a
buffer and multiplies them by one half of the wide weight; the second multiplies the kept rows by the other half; the
third multiplies them by the narrow weight.  The halves alternate their order from one row tile to the next. -/

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held whole, with its contents. -/
abbrev ow (c : Dev nD) {sh : Shape} {e : EltTy} (a : Memref sig .tc .vmem sh e) (X : sh.Idx → Elt F e) : sProp 𝕄 := owns (c : Thread nD τ) a fullShare X

variable (m : (ℓ : Loc nD τ sig) → Buf (Elt F) ℓ) (ρ : Dev nD → PrngReg)

/-! ## The step of a point -/

/-- The body's first condition: the point is its row tile's first step. -/
abbrev cond0_0 (i : grid0.Coords) : Prop := (Scalar.cmpi .ne (Scalar.extui (Scalar.cmpi .eq (BitVec.ofNat 32 (i 1).val) 0#32)) 0#32) = 1#1

theorem coord1 (t : Fin cfg0.N) : (grid0.coords t 1).val = t.val % 3 := by
  have e1 : (grid0.coords t 1).val = t.val / 1 % 3 := Pipeline.Grid.coords_val t 1 (by decide) rfl
  rw [e1, Nat.div_one]

theorem hcond0_0 (t : Fin cfg0.N) : cond0_0 (grid0.coords t) ↔ t.val % 3 = 0 := by
  have ht : t.val < 192 := Nat.lt_of_lt_of_eq t.isLt N_0
  have e1 := coord1 t
  simp only [cond0_0, e1]
  word_cmp

theorem hcond0_1 (t : Fin cfg0.N) : k0_cond2 (grid0.coords t) = 1#1 ↔ t.val % 3 < 2 := by
  have ht : t.val < 192 := Nat.lt_of_lt_of_eq t.isLt N_0
  have e1 := coord1 t
  simp only [k0_cond2, e1]
  word_cmp

theorem hcond0_2 (t : Fin cfg0.N) : k0_cond3 (grid0.coords t) = 1#1 ↔ t.val % 3 = 2 := by
  have ht : t.val < 192 := Nat.lt_of_lt_of_eq t.isLt N_0
  have e1 := coord1 t
  simp only [k0_cond3, e1]
  word_cmp

/-- Window 4 is written back at the points whose step is not the second. -/
theorem flush0_4 : ∀ t : Fin cfg0.N, (cfg0.win 4).flush t = true ↔ t.val % 3 ≠ 1 :=
  (by decide +kernel : ∀ t : Fin grid0.N, win0_4.flush t = true ↔ t.val % 3 ≠ 1)

/-! ## The body on whole buffers, case by case -/

section
variable (c : Dev nD) (i : grid0.Coords) (a2 : Memref sig .tc .vmem S512x2048 .f32) (p2 : a2.IsWhole) (a3 : Memref sig .tc .vmem S1x2048 .f32) (p3 : a3.IsWhole) (a4 : Memref sig .tc .vmem S1x2048x3328 .bf16) (p4 : a4.IsWhole) (a5 : Memref sig .tc .vmem S1x2048x640 .bf16) (p5 : a5.IsWhole) (a6 : Memref sig .tc .vmem S512x3328 .bf16) (p6 : a6.IsWhole) (a7 : Memref sig .tc .vmem S512x640 .f32) (p7 : a7.IsWhole) (a8 : Memref sig .tc .vmem S512x2048 .bf16) (p8 : a8.IsWhole)

theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- The first step: normalize, keep the rows, multiply them by the wide weight's block. -/
theorem run_A
    (hc0 : cond0_0 i) (hc1 : k0_cond2 i = 1#1) (hc2 : ¬ k0_cond3 i = 1#1)
    (x0 : Vec F S512x2048 .f32) (x1 : Vec F S1x2048 .f32) (x2 : Vec F S1x2048x3328 .bf16) (E : Set ℕ) (K : PUnit → sProp 𝕄) :
    iprop(ow c a2 x0 ∗ ow c a3 x1 ∗ ow c a4 x2
        ∗ (∃ d, ow c a6 d) ∗ (∃ d, ow c a8 d)
        ∗ (iprop(ow c a2 x0 ∗ ow c a3 x1 ∗ ow c a4 x2
            ∗ ow c a6 (k0_pay2 (k0_pay1 x0 x1) x2) ∗ ow c a8 (k0_pay1 x0 x1)) -∗ K ⟨⟩))
      ⊢ wp frame (wpE (defs₀ (F := F)) Variants.none c none) E (cc0_in_proj i a2 p2 a3 p3 a4 p4 a5 p5 a6 p6 a7 p7 a8 p8) K := by
  simp only [cc0_in_proj_eq_skeleton]; unfold cc0_in_proj_skel
  unfold ow owns
  iintro ⟨⟨%f0, %hf0, H0⟩, ⟨%f1, %hf1, H1⟩, ⟨%f2, %hf2, H2⟩, ⟨%d4, %f4, -, H4⟩, ⟨%ds, %fs, -, HS⟩, Hk⟩
  obtain rfl := p2.eq_unread hf0; obtain rfl := p3.eq_unread hf1; obtain rfl := p4.eq_unread hf2
  sl_exec (disch := first | sl_exact hc0 | sl_exact hc1 | sl_exact hc2)
  sl_step
  iapply Hk
  isplitl [H0]
  · iexists _; isplitr; · ipureintro; exact p2.read_unread _
    iexact H0
  isplitl [H1]
  · iexists _; isplitr; · ipureintro; exact p3.read_unread _
    iexact H1
  isplitl [H2]
  · iexists _; isplitr; · ipureintro; exact p4.read_unread _
    iexact H2
  isplitl [H4]
  · iexists _; isplitr
    swap; · iexact H4
    ipureintro
    rw [View.read_writes_eq_canon _ _ _ (View.cover_of_tiledL _ S512x3328.size (by sl_kernel_rfl))]
    sl_unfold_words
    rw [View.canon_unit_zero hz2, View.readCov_unit_zero _ hz2]
    simp only [View.readAt_eq_ld, Memref.IsWhole.read_unread, View.ld_unit_zero (S := S512x2048) hz2, View.ld_unit_zero (S := S1x2048) hz2, View.ld_unit_zero (S := S1x2048x3328) hz3]
  · iexists _; isplitr
    swap; · iexact HS
    ipureintro
    rw [View.read_writes_eq_canon _ _ _ (View.cover_of_tiledL _ S512x2048.size (by sl_kernel_rfl))]
    sl_unfold_words
    rw [View.canon_unit_zero hz2]
    simp only [View.readAt_eq_ld, Memref.IsWhole.read_unread, View.ld_unit_zero (S := S512x2048) hz2, View.ld_unit_zero (S := S1x2048) hz2]

set_option maxHeartbeats 1000000 in
/-- The second step: multiply the kept rows by the wide weight's other block. -/
theorem run_B
    (hc0 : ¬ cond0_0 i) (hc1 : k0_cond2 i = 1#1) (hc2 : ¬ k0_cond3 i = 1#1)
    (x2 : Vec F S1x2048x3328 .bf16) (h : Vec F S512x2048 .bf16) (E : Set ℕ) (K : PUnit → sProp 𝕄) :
    iprop(ow c a4 x2
        ∗ (∃ d, ow c a6 d) ∗ ow c a8 h
        ∗ (iprop(ow c a4 x2
            ∗ ow c a6 (k0_pay2 h x2) ∗ ow c a8 h) -∗ K ⟨⟩))
      ⊢ wp frame (wpE (defs₀ (F := F)) Variants.none c none) E (cc0_in_proj i a2 p2 a3 p3 a4 p4 a5 p5 a6 p6 a7 p7 a8 p8) K := by
  simp only [cc0_in_proj_eq_skeleton]; unfold cc0_in_proj_skel
  unfold ow owns
  iintro ⟨⟨%f2, %hf2, H2⟩, ⟨%d4, %f4, -, H4⟩, ⟨%fs, %hfs, HS⟩, Hk⟩
  obtain rfl := p4.eq_unread hf2; obtain rfl := p8.eq_unread hfs
  sl_exec (disch := first | sl_exact hc0 | sl_exact hc1 | sl_exact hc2)
  sl_step
  iapply Hk
  isplitl [H2]
  · iexists _; isplitr; · ipureintro; exact p4.read_unread _
    iexact H2
  isplitl [H4]
  · iexists _; isplitr
    swap; · iexact H4
    ipureintro
    rw [View.read_writes_eq_canon _ _ _ (View.cover_of_tiledL _ S512x3328.size (by sl_kernel_rfl))]
    try sl_unfold_words
    rw [View.canon_unit_zero hz2]
    simp only [View.readAt_eq_ld, Memref.IsWhole.read_unread, View.ld_unit_zero (S := S512x2048) hz2, View.ld_unit_zero (S := S1x2048x3328) hz3]
  · iexists _; isplitr; · ipureintro; exact p8.read_unread _
    iexact HS

set_option maxHeartbeats 1000000 in
/-- The third step: multiply the kept rows by the narrow weight. -/
theorem run_C
    (hc0 : ¬ cond0_0 i) (hc1 : ¬ k0_cond2 i = 1#1) (hc2 : k0_cond3 i = 1#1)
    (x3 : Vec F S1x2048x640 .bf16) (h : Vec F S512x2048 .bf16) (E : Set ℕ) (K : PUnit → sProp 𝕄) :
    iprop(ow c a5 x3
        ∗ (∃ d, ow c a7 d) ∗ ow c a8 h
        ∗ (iprop(ow c a5 x3
            ∗ ow c a7 (k0_pay3 h x3) ∗ ow c a8 h) -∗ K ⟨⟩))
      ⊢ wp frame (wpE (defs₀ (F := F)) Variants.none c none) E (cc0_in_proj i a2 p2 a3 p3 a4 p4 a5 p5 a6 p6 a7 p7 a8 p8) K := by
  simp only [cc0_in_proj_eq_skeleton]; unfold cc0_in_proj_skel
  unfold ow owns
  iintro ⟨⟨%f3, %hf3, H3⟩, ⟨%d5, %f5, -, H5⟩, ⟨%fs, %hfs, HS⟩, Hk⟩
  obtain rfl := p5.eq_unread hf3; obtain rfl := p8.eq_unread hfs
  sl_exec (disch := first | sl_exact hc0 | sl_exact hc1 | sl_exact hc2)
  sl_step
  iapply Hk
  isplitl [H3]
  · iexists _; isplitr; · ipureintro; exact p5.read_unread _
    iexact H3
  isplitl [H5]
  · iexists _; isplitr
    swap; · iexact H5
    ipureintro
    rw [View.read_writes_eq_canon _ _ _ (View.cover_of_tiledL _ S512x640.size (by sl_kernel_rfl))]
    try sl_unfold_words
    rw [View.canon_unit_zero hz2]
    simp only [View.readAt_eq_ld, Memref.IsWhole.read_unread, View.ld_unit_zero (S := S512x2048) hz2, View.ld_unit_zero (S := S1x2048x640) hz3]
  · iexists _; isplitr; · ipureintro; exact p8.read_unread _
    iexact HS

end

/-! ## What the buffers hold after each point -/

/-- The first step of the point's row tile. -/
def rowPt (t : Fin cfg0.N) : Fin cfg0.N := ⟨t.val - t.val % 3, lt_of_le_of_lt (Nat.sub_le _ _) t.isLt⟩

/-- The point that last wrote the wide result's buffer. -/
def omPt (t : Fin cfg0.N) : Fin cfg0.N := ⟨if t.val % 3 = 2 then t.val - 1 else t.val, by
  split
  · exact lt_of_le_of_lt (Nat.sub_le _ _) t.isLt
  · exact t.isLt⟩

/-- The normalized rows kept for the point's row tile. -/
def hAt (c : Dev nD) (t : Fin cfg0.N) : Vec F S512x2048 .bf16 := k0_pay1 (iblk m c 0 (rowPt t)) (iblk m c 1 (rowPt t))
/-- The wide result's buffer after the point. -/
def omAt (c : Dev nD) (t : Fin cfg0.N) : Vec F S512x3328 .bf16 := k0_pay2 (hAt m c t) (iblk m c 2 (omPt t))
/-- The narrow result's buffer after a third step. -/
def ogAt (c : Dev nD) (t : Fin cfg0.N) : Vec F S512x640 .f32 := k0_pay3 (hAt m c t) (iblk m c 3 t)

theorem hAt_prev (c : Dev nD) (t : Fin cfg0.N) (h : t.val % 3 ≠ 0) (hp : t.val - 1 < cfg0.N) :
    hAt m c ⟨t.val - 1, hp⟩ = hAt m c t := by
  have : rowPt ⟨t.val - 1, hp⟩ = rowPt t := Fin.ext (by unfold rowPt; dsimp only; omega)
  unfold hAt; rw [this]

theorem hAt_first (c : Dev nD) (t : Fin cfg0.N) (h : t.val % 3 = 0) :
    hAt m c t = k0_pay1 (iblk m c 0 t) (iblk m c 1 t) := by
  have : rowPt t = t := Fin.ext (by unfold rowPt; dsimp only; omega)
  unfold hAt; rw [this]

theorem omAt_live (c : Dev nD) (t : Fin cfg0.N) (h : t.val % 3 ≠ 2) :
    omAt m c t = k0_pay2 (hAt m c t) (iblk m c 2 t) := by
  have : omPt t = t := Fin.ext (by unfold omPt; dsimp only; rw [if_neg h])
  unfold omAt; rw [this]

theorem omAt_prev (c : Dev nD) (t : Fin cfg0.N) (h : t.val % 3 = 2) (hp : t.val - 1 < cfg0.N) :
    omAt m c ⟨t.val - 1, hp⟩ = omAt m c t := by
  have : omPt ⟨t.val - 1, hp⟩ = omPt t := Fin.ext (by unfold omPt; dsimp only; rw [if_pos h, if_neg (by omega)])
  unfold omAt; rw [this, hAt_prev m c t (by omega) hp]

/-! ## The pipeline's proof data -/

/-- The kept rows' buffer. -/
abbrev scM0_0 : Memref sig .tc .vmem S512x2048 .bf16 := Memref.whole cc0_scratch0

theorem PhiA0_eq (c : Dev nD) :
    (Pipeline.ΦA spec0 c : sProp 𝕄)
      = iprop(iprop((∃ d, ow c scM0_0 d)) ∗ (∃ r, prngReg c r)) := by
  unfold Pipeline.ΦA; rw [scopedRest0_eq]; simp only [scM0_0, owns_whole]; try rfl

/-- Between points: before the first, anything; afterwards the kept rows of the point before. -/
def PhiS (c : Dev nD) : (n : ℕ) → n ≤ cfg0.N → sProp 𝕄
  | 0, _ => Pipeline.ΦA spec0 c
  | n + 1, hn => iprop(iprop(ow c scM0_0 (hAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(ow c scM0_0 (hAt m c ⟨n, hn⟩)) ∗ (∃ r, prngReg c r)) := rfl

theorem PhiS_pos (c : Dev nD) (n : ℕ) (h : n ≤ cfg0.N) (hz : n ≠ 0) :
    PhiS m c n h = iprop(iprop(ow c scM0_0 (hAt m c ⟨n - 1, by omega⟩)) ∗ (∃ r, prngReg c r)) := by
  cases n with
  | zero => exact absurd rfl hz
  | succ n => rfl

/-- Whatever the point, the invariant holds the kept rows' buffer at something. -/
theorem PhiS_any (c : Dev nD) (n : ℕ) (h : n ≤ cfg0.N) : PhiS m c n h ⊢ Pipeline.ΦA spec0 c := by
  by_cases hz : n = 0
  · rw [PhiS_zero m c n h hz]; try exact Idealize.SL.BI.Entails.refl _
  · rw [PhiS_pos m c n h hz, PhiA0_eq]
    iintro ⟨HS0, Hg⟩
    isplitl [HS0]
    · iexists _; iexact HS0
    iexact Hg

/-- The proof data of the pipeline: inputs stay at their blocks, the results' buffers as stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => omAt m c t
    | ⟨5, _⟩ => ogAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = omAt m c t := by dsimp only [dats]
theorem after0_5 (c : Dev nD) (t : Fin cfg0.N) : (dats m 0 c).after 5 t = ogAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a third step the wide result's buffer is found as the second step left it. -/
theorem before0_4 (c : Dev nD) (t : Fin cfg0.N) (h : t.val % 3 = 2) (d) : (dats m 0 c).before 4 t d = omAt m c t := by
  have hz : t.val ≠ 0 := by omega
  have hp : t.val - 1 < cfg0.N := lt_of_le_of_lt (Nat.sub_le _ _) t.isLt
  have hfl : (cfg0.win 4).flush ⟨t.val - 1, hp⟩ = false := by
    rw [Bool.eq_false_iff]; intro hf
    exact (flush0_4 ⟨t.val - 1, hp⟩).mp hf (by show (t.val - 1) % 3 = 1; omega)
  have hlive : cfg0.idle 4 (cfg0.grid.coords ⟨t.val - 1, hp⟩) = false := by
    have := (hcond0_1 ⟨t.val - 1, hp⟩).mpr (by show (t.val - 1) % 3 < 2; omega)
    show (!(k0_cond2 (grid0.coords ⟨t.val - 1, hp⟩) == 1#1)) = false
    rw [this]; rfl
  rw [(dats m 0 c).before_of_pos 4 t hz ((cfg0.win 4).fetch_out rfl t), hfl, if_neg Bool.false_ne_true]
  unfold Dat.left; rw [hlive]
  unfold Dat.kept
  dsimp only
  rw [Pipeline.fill_of_clip_none (cfg := cfg0) 4 _ (fun _ => rfl) d ((dats m 0 c).after 4 ⟨t.val - 1, hp⟩), Window.fill_cut, after0_4]
  exact omAt_prev m c t h hp

theorem leaves0_4_live (c : Dev nD) (t : Fin cfg0.N) (h : t.val % 3 < 2) :
    (dats m 0 c).leavesExact 4 t = ow c ((cfg0.win 4).stage (cfg0.slots t 4)) (omAt m c t) := by
  have hi : cfg0.idle 4 (cfg0.grid.coords t) = false := by
    show (!(k0_cond2 (grid0.coords t) == 1#1)) = false
    rw [(hcond0_1 t).mpr h]; rfl
  unfold Dat.leavesExact; rw [hi, after0_4]

theorem leaves0_4_idle (c : Dev nD) (t : Fin cfg0.N) (h : t.val % 3 = 2) :
    (dats m 0 c).leavesExact 4 t = ow c ((cfg0.win 4).stage (cfg0.slots t 4)) (omAt m c t) := by
  have hf : (cfg0.win 4).flush t = true := (flush0_4 t).mpr (by omega)
  unfold Dat.leavesExact; rw [hf, after0_4]
  split <;> rfl

theorem leaves0_5_live (c : Dev nD) (t : Fin cfg0.N) (h : t.val % 3 = 2) :
    (dats m 0 c).leavesExact 5 t = ow c ((cfg0.win 5).stage (cfg0.slots t 5)) (ogAt m c t) := by
  have hf : (cfg0.win 5).flush t = true := (flush0_5 t).mpr h
  unfold Dat.leavesExact; rw [hf, after0_5]
  split <;> rfl

theorem leaves0_5_idle (c : Dev nD) (t : Fin cfg0.N) (h : t.val % 3 < 2) :
    (dats m 0 c).leavesExact 5 t = iprop(∃ d, ow c ((cfg0.win 5).stage (cfg0.slots t 5)) ((dats m 0 c).before 5 t d)) := by
  have hi : cfg0.idle 5 (cfg0.grid.coords t) = true := by
    show (!(k0_cond3 (grid0.coords t) == 1#1)) = true
    have : ¬ k0_cond3 (grid0.coords t) = 1#1 := fun hh => by have := (hcond0_2 t).mp hh; omega
    rw [Bool.not_eq_true', beq_eq_false_iff_ne]; exact this
  have hf : (cfg0.win 5).flush t = false := by
    rw [Bool.eq_false_iff]; intro hf; have := (flush0_5 t).mp hf; omega
  exact (dats m 0 c).leavesExact_idle 5 t hi hf

/-! ## The body obligation -/

abbrev ms0_0 (t : Fin cfg0.N) : Memref sig .tc .vmem S512x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x2048x3328 .bf16 := win0_2.stage (cfg0.slots t 2)
abbrev ms0_3 (t : Fin cfg0.N) : Memref sig .tc .vmem S1x2048x640 .bf16 := win0_3.stage (cfg0.slots t 3)
abbrev ms0_4 (t : Fin cfg0.N) : Memref sig .tc .vmem S512x3328 .bf16 := win0_4.stage (cfg0.slots t 4)
abbrev ms0_5 (t : Fin cfg0.N) : Memref sig .tc .vmem S512x640 .f32 := win0_5.stage (cfg0.slots t 5)

/-- What the body is called with at a point. -/
def bodyPre (c : Dev nD) (t : Fin cfg0.N) : sProp 𝕄 :=
  iprop((dats m 0 c).Φ t.castSucc ∗ (dats m 0 c).owesAt () t.castSucc
    ∗ (∃ d, ow c (ms0_0 t) ((dats m 0 c).before 0 t d))
    ∗ (∃ d, ow c (ms0_1 t) ((dats m 0 c).before 1 t d))
    ∗ (∃ d, ow c (ms0_2 t) ((dats m 0 c).before 2 t d))
    ∗ (∃ d, ow c (ms0_3 t) ((dats m 0 c).before 3 t d))
    ∗ (∃ d, ow c (ms0_4 t) ((dats m 0 c).before 4 t d))
    ∗ (∃ d, ow c (ms0_5 t) ((dats m 0 c).before 5 t d)))

/-- What it returns. -/
def bodyPost (c : Dev nD) (t : Fin cfg0.N) : sProp 𝕄 :=
  iprop((dats m 0 c).Φ t.succ ∗ (dats m 0 c).owesAt () t.succ
    ∗ ow c (ms0_0 t) ((dats m 0 c).after 0 t)
    ∗ ow c (ms0_1 t) ((dats m 0 c).after 1 t)
    ∗ ow c (ms0_2 t) ((dats m 0 c).after 2 t)
    ∗ ow c (ms0_3 t) ((dats m 0 c).after 3 t)
    ∗ (dats m 0 c).leavesExact 4 t
    ∗ (dats m 0 c).leavesExact 5 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ, PhiS_castSucc m c t]
  rcases (by omega : t.val % 3 = 0 ∨ t.val % 3 = 1 ∨ t.val % 3 = 2) with h0 | h0 | h0
  · rw [leaves0_4_live m c t (by omega), leaves0_5_idle m c t (by omega), omAt_live m c t (by omega), hAt_first m c t h0]
    refine (sep_mono_left (PhiS_any m c _ _)).trans ?_
    rw [PhiA0_eq]
    iintro ⟨⟨HS0, Hg⟩, Ho, ⟨%d0, H0⟩, ⟨%d1, H1⟩, ⟨%d2, H2⟩, ⟨%d3, H3⟩, ⟨%d4, H4⟩, H5⟩
    iapply (run_A c (grid0.coords t) _ _ _ _ _ _ _ _ _ _ _ _ _ _ ((hcond0_0 t).mpr h0) ((hcond0_1 t).mpr (by omega)) (fun h => by have := (hcond0_2 t).mp h; omega) (iblk m c 0 t) (iblk m c 1 t) (iblk m c 2 t) Set.univ _)
    isplitl [H0]; iexact H0; isplitl [H1]; iexact H1; isplitl [H2]; iexact H2; isplitl [H4]; · iexists _; iexact H4
    isplitl [HS0]; · iexact HS0
    iintro ⟨H0, H1, H2, H4, HS0⟩
    isplitl [HS0 Hg]
    · isplitl [HS0]; iexact HS0; iexact Hg
    isplitl [Ho]; iexact Ho; isplitl [H0]; iexact H0; isplitl [H1]; iexact H1; isplitl [H2]; iexact H2; isplitl [H3]; iexact H3; isplitl [H4]; iexact H4; iexact H5
  · rw [leaves0_4_live m c t (by omega), leaves0_5_idle m c t (by omega), omAt_live m c t (by omega),
      PhiS_pos m c _ _ (by omega), hAt_prev m c t (by omega)]
    iintro ⟨⟨HS0, Hg⟩, Ho, ⟨%d0, H0⟩, ⟨%d1, H1⟩, ⟨%d2, H2⟩, ⟨%d3, H3⟩, ⟨%d4, H4⟩, H5⟩
    iapply (run_B c (grid0.coords t) _ _ _ _ _ _ _ _ _ _ _ _ _ _ (fun h => by have := (hcond0_0 t).mp h; omega) ((hcond0_1 t).mpr (by omega)) (fun h => by have := (hcond0_2 t).mp h; omega) (iblk m c 2 t) (hAt m c t) Set.univ _)
    isplitl [H2]; iexact H2; isplitl [H4]; · iexists _; iexact H4
    isplitl [HS0]; · iexact HS0
    iintro ⟨H2, H4, HS0⟩
    isplitl [HS0 Hg]
    · isplitl [HS0]; iexact HS0; iexact Hg
    isplitl [Ho]; iexact Ho; isplitl [H0]; iexact H0; isplitl [H1]; iexact H1; isplitl [H2]; iexact H2; isplitl [H3]; iexact H3; isplitl [H4]; iexact H4; iexact H5
  · simp only [before0_4 m c t h0]
    rw [leaves0_4_idle m c t h0, leaves0_5_live m c t h0,
      PhiS_pos m c _ _ (by omega), hAt_prev m c t (by omega)]
    unfold ogAt
    iintro ⟨⟨HS0, Hg⟩, Ho, ⟨%d0, H0⟩, ⟨%d1, H1⟩, ⟨%d2, H2⟩, ⟨%d3, H3⟩, ⟨%d4, H4⟩, ⟨%d5, H5⟩⟩
    iapply (run_C c (grid0.coords t) _ _ _ _ _ _ _ _ _ _ _ _ _ _ (fun h => by have := (hcond0_0 t).mp h; omega) (fun h => by have := (hcond0_1 t).mp h; omega) ((hcond0_2 t).mpr h0) (iblk m c 3 t) (hAt m c t) Set.univ _)
    isplitl [H3]; iexact H3; isplitl [H5]; · iexists _; iexact H5
    isplitl [HS0]; · iexact HS0
    iintro ⟨H3, H5, HS0⟩
    isplitl [HS0 Hg]
    · isplitl [HS0]; iexact HS0; iexact Hg
    isplitl [Ho]; iexact Ho; isplitl [H0]; iexact H0; isplitl [H1]; iexact H1; isplitl [H2]; iexact H2; isplitl [H3]; iexact H3; isplitl [H4]; iexact H4; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InIdeal.Hand

end
-- ==== Proof.InVal.lean ====
module

public import proofs.«01_k».proof.Defs
public import proofs.«01_k».proof.Proof.Real
public import proofs.«01_k».proof.Proof.InIdealHand
public import proofs.«01_k».proof.Proof.Gen.InRefIdeal.Run

@[expose] public section

set_option maxRecDepth 16384

noncomputable section

open Idealize.ShloMosaic Idealize.ShloMosaic.TcCoe Idealize.SL.Sem
open Idealize.ShloMosaic.Pipeline (Dat)
open scoped BigOperators

namespace Cert.InIdeal.Spec

open Cert.InIdeal Cert.InIdeal.Gen Cert.InIdeal.Hand Cert.Proof

/-- The normalized rows times the wide weight, at one row and column. -/
def specM (x : S32768x2048.Idx → EReal) (g : S2048.Idx → EReal) (w : S4x2048x6656.Idx → EReal) : S32768x6656.Idx → EReal := fun i =>
  ∑ k, nrm (fun k => x (ix2 (i 0) k)) (fun k => g (ix1 k)) k * w (ix3 0 k (i 1))

/-- The normalized rows times the narrow weight, at one row and column. -/
def specG (x : S32768x2048.Idx → EReal) (g : S2048.Idx → EReal) (w : S4x2048x640.Idx → EReal) : S32768x640.Idx → EReal := fun i =>
  ∑ k, nrm (fun k => x (ix2 (i 0) k)) (fun k => g (ix1 k)) k * w (ix3 0 k (i 1))

theorem pay1_apply (x0 : Vec Ideal S512x2048 .f32) (x1 : Vec Ideal S1x2048 .f32) (r : Fin 512) (k : Fin 2048) :
    k0_pay1 x0 x1 (ix2 r k) = nrm (fun k => x0 (ix2 r k)) (fun k => x1 (ix2 0 k)) k := by
  unfold k0_pay1
  pointwise
  rfl

theorem pay2_apply (h : Vec Ideal S512x2048 .bf16) (w : Vec Ideal S1x2048x3328 .bf16) (r : Fin 512) (n : Fin 3328) :
    k0_pay2 h w (ix2 r n) = ∑ k, h (ix2 r k) * w (ix3 0 k n) := by
  unfold k0_pay2
  pointwise

theorem pay3_apply (h : Vec Ideal S512x2048 .bf16) (w : Vec Ideal S1x2048x640 .bf16) (r : Fin 512) (n : Fin 640) :
    k0_pay3 h w (ix2 r n) = ∑ k, h (ix2 r k) * w (ix3 0 k n) := by
  unfold k0_pay3
  pointwise

variable (m : (ℓ : Loc nD τ sig) → Buf (Elt Ideal) ℓ)

/-- Which half of the wide weight a point works on. -/
def half (t : ℕ) : ℕ := if t / 3 % 2 = 0 then min (t % 3) 1 else 1 - min (t % 3) 1

theorem half_lt (t : ℕ) : half t < 2 := by unfold half; split <;> omega

/-- Where each window's block lies at each grid point. -/
theorem idx : ∀ t : Fin grid0.N,
    (win0_0.index t 0 = t.val / 3 ∧ win0_0.index t 1 = 0) ∧ (win0_1.index t 0 = 0 ∧ win0_1.index t 1 = 0)
    ∧ (win0_2.index t 0 = 0 ∧ win0_2.index t 1 = 0 ∧ win0_2.index t 2 = half t.val)
    ∧ (win0_3.index t 0 = 0 ∧ win0_3.index t 1 = 0 ∧ win0_3.index t 2 = 0)
    ∧ (win0_4.index t 0 = t.val / 3 ∧ win0_4.index t 1 = half t.val)
    ∧ (win0_5.index t 0 = t.val / 3 ∧ win0_5.index t 1 = 0) := by decide +kernel

theorem iblk0 (c : Dev nD) (t : Fin cfg0.N) (r : Fin 512) (k : Fin 2048) (h : t.val / 3 * 512 + r.val < 32768) :
    (iblk m c 0 t : Vec Ideal S512x2048 .f32) (ix2 r k) = m ((c : Thread nD τ).loc main_arg0) (ix2 ⟨t.val / 3 * 512 + r.val, h⟩ k) := by
  have e := (idx t).1
  unfold iblk
  rw [View.read_apply]
  show V m c main_arg0 _ = _
  rw [V_main_arg0]
  congr 1
  funext a
  apply Fin.ext
  match a with
  | ⟨0, _⟩ => show win0_0.index t 0 * 512 + 1 * r.val = t.val / 3 * 512 + r.val; rw [e.1]; omega
  | ⟨1, _⟩ => show win0_0.index t 1 * 2048 + 1 * k.val = k.val; rw [e.2]; omega

theorem iblk1 (c : Dev nD) (t : Fin cfg0.N) (k : Fin 2048) :
    (iblk m c 1 t : Vec Ideal S1x2048 .f32) (ix2 0 k) = m ((c : Thread nD τ).loc main_arg1) (ix1 k) := by
  have e := (idx t).2.1
  unfold iblk
  rw [View.read_apply]
  show V m c main_v0 _ = _
  have hV : (V m c main_v0 : Vec Ideal S1x2048 .f32) = shapeCast S1x2048 (m ((c : Thread nD τ).loc main_arg1) : Vec Ideal S2048 .f32) shapeCasts_S2048_S1x2048 := by
    entry_read
    rfl
  have hi : ((cfg0.win 1).blk t).view.emb (ix2 0 k) = (ix2 0 k : S1x2048.Idx) := by
    funext a
    apply Fin.ext
    match a with
    | ⟨0, _⟩ => show win0_1.index t 0 * 1 + 1 * 0 = 0; rw [e.1]
    | ⟨1, _⟩ => show win0_1.index t 1 * 2048 + 1 * k.val = k.val; rw [e.2]; omega
  rw [hi, hV]
  pointwise

theorem iblk2 (c : Dev nD) (t : Fin cfg0.N) (k : Fin 2048) (n : Fin 3328) (h : half t.val * 3328 + n.val < 6656) :
    (iblk m c 2 t : Vec Ideal S1x2048x3328 .bf16) (ix3 0 k n) = m ((c : Thread nD τ).loc main_arg2) (ix3 0 k ⟨half t.val * 3328 + n.val, h⟩) := by
  have e := (idx t).2.2.1
  unfold iblk
  rw [View.read_apply]
  show V m c main_arg2 _ = _
  rw [V_main_arg2]
  congr 1
  funext a
  apply Fin.ext
  match a with
  | ⟨0, _⟩ => show win0_2.index t 0 * 1 + 1 * 0 = 0; rw [e.1]
  | ⟨1, _⟩ => show win0_2.index t 1 * 2048 + 1 * k.val = k.val; rw [e.2.1]; omega
  | ⟨2, _⟩ => show win0_2.index t 2 * 3328 + 1 * n.val = half t.val * 3328 + n.val; rw [e.2.2]; omega

theorem iblk3 (c : Dev nD) (t : Fin cfg0.N) (k : Fin 2048) (n : Fin 640) :
    (iblk m c 3 t : Vec Ideal S1x2048x640 .bf16) (ix3 0 k n) = m ((c : Thread nD τ).loc main_arg3) (ix3 0 k n) := by
  have e := (idx t).2.2.2.1
  unfold iblk
  rw [View.read_apply]
  show V m c main_arg3 _ = _
  rw [V_main_arg3]
  congr 1
  funext a
  apply Fin.ext
  match a with
  | ⟨0, _⟩ => show win0_3.index t 0 * 1 + 1 * 0 = 0; rw [e.1]
  | ⟨1, _⟩ => show win0_3.index t 1 * 2048 + 1 * k.val = k.val; rw [e.2.1]; omega
  | ⟨2, _⟩ => show win0_3.index t 2 * 640 + 1 * n.val = n.val; rw [e.2.2]; omega

/-- The rows kept for a point's row tile. -/
theorem hAt_apply (c : Dev nD) (t : Fin cfg0.N) (r : Fin 512) (k : Fin 2048) (h : t.val / 3 * 512 + r.val < 32768) :
    hAt m c t (ix2 r k) = nrm (fun k => m ((c : Thread nD τ).loc main_arg0) (ix2 ⟨t.val / 3 * 512 + r.val, h⟩ k))
      (fun k => m ((c : Thread nD τ).loc main_arg1) (ix1 k)) k := by
  have e : (rowPt t).val / 3 = t.val / 3 := by show (t.val - t.val % 3) / 3 = _; omega
  have h' : (rowPt t).val / 3 * 512 + r.val < 32768 := by rw [e]; exact h
  unfold hAt
  rw [pay1_apply]
  have h0 : (fun k => (iblk m c 0 (rowPt t) : Vec Ideal S512x2048 .f32) (ix2 r k)) = fun k => m ((c : Thread nD τ).loc main_arg0) (ix2 ⟨t.val / 3 * 512 + r.val, h⟩ k) := by
    funext k
    rw [iblk0 m c (rowPt t) r k h']
    simp only [e]
  have h1 : (fun k => (iblk m c 1 (rowPt t) : Vec Ideal S1x2048 .f32) (ix2 0 k)) = fun k => m ((c : Thread nD τ).loc main_arg1) (ix1 k) :=
    funext fun k => iblk1 m c (rowPt t) k
  exact congrArg₂ (fun x g => nrm x g k) h0 h1

/-- The results as functions of the launched arguments. -/
abbrev GM (c : Dev nD) : Buf (Elt Ideal) ((c : Thread nD τ).loc main_v1_0) :=
  specM (m ((c : Thread nD τ).loc main_arg0)) (m ((c : Thread nD τ).loc main_arg1)) (m ((c : Thread nD τ).loc main_arg2))
abbrev GG (c : Dev nD) : Buf (Elt Ideal) ((c : Thread nD τ).loc main_v1_1) :=
  specG (m ((c : Thread nD τ).loc main_arg0)) (m ((c : Thread nD τ).loc main_arg1)) (m ((c : Thread nD τ).loc main_arg3))

theorem emb4 (t : Fin cfg0.N) (r : Fin 512) (n : Fin 3328) (h : t.val / 3 * 512 + r.val < 32768) (h' : half t.val * 3328 + n.val < 6656) :
    ((cfg0.win 4).blk t).view.emb (ix2 r n) = (ix2 ⟨t.val / 3 * 512 + r.val, h⟩ ⟨half t.val * 3328 + n.val, h'⟩ : S32768x6656.Idx) := by
  have e := (idx t).2.2.2.2.1
  funext a
  apply Fin.ext
  match a with
  | ⟨0, _⟩ => show win0_4.index t 0 * 512 + 1 * r.val = t.val / 3 * 512 + r.val; rw [e.1]; omega
  | ⟨1, _⟩ => show win0_4.index t 1 * 3328 + 1 * n.val = half t.val * 3328 + n.val; rw [e.2]; omega

theorem emb5 (t : Fin cfg0.N) (r : Fin 512) (n : Fin 640) (h : t.val / 3 * 512 + r.val < 32768) :
    ((cfg0.win 5).blk t).view.emb (ix2 r n) = (ix2 ⟨t.val / 3 * 512 + r.val, h⟩ n : S32768x640.Idx) := by
  have e := (idx t).2.2.2.2.2
  funext a
  apply Fin.ext
  match a with
  | ⟨0, _⟩ => show win0_5.index t 0 * 512 + 1 * r.val = t.val / 3 * 512 + r.val; rw [e.1]; omega
  | ⟨1, _⟩ => show win0_5.index t 1 * 640 + 1 * n.val = n.val; rw [e.2]; omega

theorem flushed4 (c : Dev nD) (t : Fin cfg0.N) :
    (dats m 0 c).flushed 4 t = ((cfg0.win 4).blk t).view.read (Elt Ideal) (GM m c) := by
  have hN : cfg0.N = 192 := N_0
  have ht := t.isLt
  funext (j : S512x3328.Idx)
  obtain ⟨r, n, rfl⟩ : ∃ (r : Fin 512) (n : Fin 3328), j = ix2 r n := ⟨j 0, j 1, eq_ix2 j⟩
  have h : t.val / 3 * 512 + r.val < 32768 := by omega
  have h' : half t.val * 3328 + n.val < 6656 := by have := half_lt t.val; omega
  have eo : half (omPt t).val = half t.val := by
    show half (if t.val % 3 = 2 then t.val - 1 else t.val) = _
    split
    · unfold half
      rw [show (t.val - 1) / 3 = t.val / 3 by omega, show min ((t.val - 1) % 3) 1 = min (t.val % 3) 1 by omega]
    · rfl
  rw [View.read_apply, emb4 t r n h h']
  show (dats m 0 c).after 4 t (ix2 r n) = specM _ _ _ (ix2 _ _)
  rw [after0_4]
  show (omAt m c t : S512x3328.Idx → EReal) (ix2 r n) = (_ : EReal)
  unfold omAt specM
  rw [pay2_apply]
  refine Finset.sum_congr rfl fun k _ => ?_
  rw [hAt_apply m c t r k h, iblk2 m c (omPt t) k n (by rw [eo]; exact h')]
  simp only [eo]
  rfl

theorem flushed5 (c : Dev nD) (t : Fin cfg0.N) :
    (dats m 0 c).flushed 5 t = ((cfg0.win 5).blk t).view.read (Elt Ideal) (GG m c) := by
  have hN : cfg0.N = 192 := N_0
  have ht := t.isLt
  funext (j : S512x640.Idx)
  obtain ⟨r, n, rfl⟩ : ∃ (r : Fin 512) (n : Fin 640), j = ix2 r n := ⟨j 0, j 1, eq_ix2 j⟩
  have h : t.val / 3 * 512 + r.val < 32768 := by omega
  rw [View.read_apply, emb5 t r n h]
  show (dats m 0 c).after 5 t (ix2 r n) = specG _ _ _ (ix2 _ _)
  rw [after0_5]
  show (ogAt m c t : S512x640.Idx → EReal) (ix2 r n) = (_ : EReal)
  unfold ogAt specG
  rw [pay3_apply]
  refine Finset.sum_congr rfl fun k _ => ?_
  rw [hAt_apply m c t r k h, iblk3 m c t k n]
  rfl

theorem cover4 (i : S32768x6656.Idx) :
    ∃ t : Fin cfg0.N, (cfg0.win 4).flush t = true ∧ i ∈ ((cfg0.win 4).blk t).view.set := by
  have h0 : (i 0 : Nat) < 32768 := (i 0).isLt
  have h1 : (i 1 : Nat) < 6656 := (i 1).isLt
  have hN : cfg0.N = 192 := N_0
  obtain ⟨t, htq, hth, htf⟩ : ∃ t : Fin cfg0.N, t.val / 3 = (i 0 : Nat) / 512 ∧ half t.val = (i 1 : Nat) / 3328 ∧ t.val % 3 ≠ 1 := by
    have hq : (i 0 : Nat) / 512 < 64 := by omega
    have hb : (i 1 : Nat) / 3328 = 0 ∨ (i 1 : Nat) / 3328 = 1 := by omega
    by_cases hc : ((i 0 : Nat) / 512) % 2 = (i 1 : Nat) / 3328
    · refine ⟨⟨3 * ((i 0 : Nat) / 512), by omega⟩, by dsimp only; omega, ?_, by dsimp only; omega⟩
      unfold half; dsimp only
      rw [show 3 * ((i 0 : Nat) / 512) / 3 = (i 0 : Nat) / 512 by omega, show min (3 * ((i 0 : Nat) / 512) % 3) 1 = 0 by omega]
      split <;> omega
    · refine ⟨⟨3 * ((i 0 : Nat) / 512) + 2, by omega⟩, by dsimp only; omega, ?_, by dsimp only; omega⟩
      unfold half; dsimp only
      rw [show (3 * ((i 0 : Nat) / 512) + 2) / 3 = (i 0 : Nat) / 512 by omega, show min ((3 * ((i 0 : Nat) / 512) + 2) % 3) 1 = 1 by omega]
      split <;> omega
  refine ⟨t, (flush0_4 t).mpr htf, ?_⟩
  have hm : (i 0 : Nat) % 512 < 512 := by omega
  have hn : (i 1 : Nat) % 3328 < 3328 := by omega
  have hs : t.val / 3 * 512 + (i 0 : Nat) % 512 < 32768 := by omega
  have hs' : half t.val * 3328 + (i 1 : Nat) % 3328 < 6656 := by omega
  have hi : i = (ix2 ⟨t.val / 3 * 512 + (i 0 : Nat) % 512, hs⟩ ⟨half t.val * 3328 + (i 1 : Nat) % 3328, hs'⟩ : S32768x6656.Idx) := by
    refine (eq_ix2 (n0 := 32768) (n1 := 6656) i).trans ?_
    refine congrArg₂ ix2 (Fin.ext ?_) (Fin.ext ?_)
    · show (i 0 : Nat) = t.val / 3 * 512 + (i 0 : Nat) % 512; omega
    · show (i 1 : Nat) = half t.val * 3328 + (i 1 : Nat) % 3328; omega
  rw [hi, ← emb4 t ⟨(i 0 : Nat) % 512, hm⟩ ⟨(i 1 : Nat) % 3328, hn⟩ hs hs']
  exact View.emb_mem_set _ _

theorem cover5 (i : S32768x640.Idx) :
    ∃ t : Fin cfg0.N, (cfg0.win 5).flush t = true ∧ i ∈ ((cfg0.win 5).blk t).view.set := by
  have h0 : (i 0 : Nat) < 32768 := (i 0).isLt
  have hN : cfg0.N = 192 := N_0
  let t : Fin cfg0.N := ⟨3 * ((i 0 : Nat) / 512) + 2, by omega⟩
  have ht : t.val / 3 = (i 0 : Nat) / 512 := by show (3 * ((i 0 : Nat) / 512) + 2) / 3 = _; omega
  refine ⟨t, (flush0_5 t).mpr (by show (3 * ((i 0 : Nat) / 512) + 2) % 3 = 2; omega), ?_⟩
  have hm : (i 0 : Nat) % 512 < 512 := by omega
  have hs : t.val / 3 * 512 + (i 0 : Nat) % 512 < 32768 := by omega
  have hi : i = (ix2 ⟨t.val / 3 * 512 + (i 0 : Nat) % 512, hs⟩ (i 1) : S32768x640.Idx) := by
    refine (eq_ix2 (n0 := 32768) (n1 := 640) i).trans ?_
    refine congrArg (fun a => ix2 a (i 1)) (Fin.ext ?_)
    show (i 0 : Nat) = t.val / 3 * 512 + (i 0 : Nat) % 512
    omega
  rw [hi, ← emb5 t ⟨(i 0 : Nat) % 512, hm⟩ (i 1) hs]
  exact View.emb_mem_set _ _

theorem final4 (c : Dev nD) : (dats m 0 c).arrAt 4 cfg0.N = GM m c :=
  (dats m 0 c).arrAt_eq_of_cover 4 (GM m c) (fun t _ => flushed4 m c t) cover4

theorem final5 (c : Dev nD) : (dats m 0 c).arrAt 5 cfg0.N = GG m c :=
  (dats m 0 c).arrAt_eq_of_cover 5 (GG m c) (fun t _ => flushed5 m c t) cover5

/-- Every run ends with the two results at their values and the arguments as they were. -/
theorem run (ρ : Dev nD → PrngReg) : θ_run defs (onTc (τ := τ) (main (F := Ideal))) ⟨m, fun _ => 0, ρ⟩ fun r => ∀ c : Dev nD,
      r.2.mem ((c : Thread nD τ).loc main_v1_0) = GM m c
      ∧ r.2.mem ((c : Thread nD τ).loc main_v1_1) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final4 m c), ((h.1 c).1 5).trans (final5 m c), h.2 c⟩)
    (θ_run_and (run_main m ρ) (frame_of m ρ (dats m) (A_eq m) (run_main m ρ)))

end Cert.InIdeal.Spec

namespace Cert.InRefIdeal.Spec

open Cert.InRefIdeal Cert.InRefIdeal.Gen Cert.Proof

/-- The reference's normalized rows. -/
abbrev rows (x : FVec Ideal S32768x2048 .f32) (g : FVec Ideal S2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))

theorem refM_apply (x : FVec Ideal S32768x2048 .f32) (g : FVec Ideal S2048 .f32) (w : FVec Ideal S4x2048x6656 .bf16) :
    (truncf .bf16 (Host.dotGeneral dot_S32768x2048_S2048x6656_S32768x6656_1_0_0_1_n_n none (rows x g) (extf .f32 (shapeCast _ (extractStridedSlice S1x2048x6656 ![0, 0, 0] w slices_S4x2048x6656_S1x2048x6656_0_0_0) shapeCasts_S1x2048x6656_S2048x6656) bitsLt_bf16_f32)) bitsLt_bf16_f32 : FVec Ideal S32768x6656 .bf16) = InIdeal.Spec.specM x g w := by
  funext j
  obtain ⟨r, n, rfl⟩ : ∃ (r : Fin 32768) (n : Fin 6656), j = ix2 r n := ⟨j 0, j 1, eq_ix2 j⟩
  pointwise
  rfl

theorem refG_apply (x : FVec Ideal S32768x2048 .f32) (g : FVec Ideal S2048 .f32) (w : FVec Ideal S4x2048x640 .bf16) :
    (Host.dotGeneral dot_S32768x2048_S2048x640_S32768x640_1_0_0_1_n_n none (rows x g) (extf .f32 (shapeCast _ (extractStridedSlice S1x2048x640 ![0, 0, 0] w slices_S4x2048x640_S1x2048x640_0_0_0) shapeCasts_S1x2048x640_S2048x640) bitsLt_bf16_f32) : FVec Ideal S32768x640 .f32) = InIdeal.Spec.specG x g w := by
  funext j
  obtain ⟨r, n, rfl⟩ : ∃ (r : Fin 32768) (n : Fin 640), j = ix2 r n := ⟨j 0, j 1, eq_ix2 j⟩
  pointwise
  rfl

end Cert.InRefIdeal.Spec

namespace Cert.Proof.InClaims

theorem algebraic : Cert.algebraic_InIdeal_InRefIdeal := fun m ρ m' ρ' _ hag =>
  ⟨fun c => InIdeal.Spec.GM m c, fun c => InIdeal.Spec.GG m c,
   InIdeal.Spec.run m ρ,
   (θ_run _ _ _).mono (fun _ h c => ⟨(h c).1.trans (by
      obtain ⟨e0, e1, e2, e3⟩ := hag c
      rw [e0, e1, e2]
      exact InRefIdeal.Spec.refM_apply _ _ _), (h c).2.1.trans (by
      obtain ⟨e0, e1, e2, e3⟩ := hag c
      rw [e0, e1, e3]
      exact InRefIdeal.Spec.refG_apply _ _ _), (h c).2.2⟩) (InRefIdeal.Value.run m' ρ')⟩

end Cert.Proof.InClaims

end
-- ==== Proof.InHand.lean ====
module

public import proofs.«01_k».proof.Defs
public import proofs.«01_k».proof.Proof.Gen.In
public import proofs.«01_k».proof.Proof.InIdealHand

@[expose] public section

/-! # The run of the input projection as printed

The two printings are the same program: every body and every statement is one term, over any floats.  So the run shown
for the one is a run of the other. -/

namespace Cert.In.Hand

open Idealize.ShloMosaic Idealize.SL.Sem

attribute [local instance] Cert.In.Gen.facts

set_option backward.isDefEq.respectTransparency false
set_option backward.isDefEq.respectTransparency.types false

theorem defs₀_eq : Cert.In.defs₀ (F := Bits) = Cert.InIdeal.defs₀ (F := Bits) := by
  unfold Cert.In.defs₀ Cert.InIdeal.defs₀
  refine congrArg (Defs.onTc (nD := Cert.In.nD) (τ := Cert.In.τ) (sig := Cert.In.sig)) ?_
  funext l x
  match l, x with
  | 0, (t, s) => rfl

theorem defs_eq : Cert.In.defs (F := Bits) = Cert.InIdeal.defs (F := Bits) :=
  congrArg (Pipeline.defs (Cert.InIdeal.pcfgs (F := Bits))) defs₀_eq

theorem frame : @Cert.quiescent_In Cert.In.Gen.facts := fun m ρ _ => by
  rw [defs_eq]
  exact Cert.InIdeal.Hand.frame (F := Bits) m ρ

end Cert.In.Hand

end
-- ==== Proof.FfnIdealHand.lean ====
module

public import proofs.«01_k».proof.Proof.Gen.FfnIdeal.Frame
public import proofs.«01_k».proof.Proof.Gen.FfnIdeal.Skeleton
public import Idealize.ShloMosaic.Lib.Claim
public import Idealize.ShloMosaic.Lib.Pipeline.Value
public import Idealize.ShloMosaic.Lib.VecWindow
public import Idealize.ShloMosaic.Lib.Pointwise

@[expose] public section

set_option maxRecDepth 16384

/-! # The run of the gated feed-forward layer

The kernel runs over 64 row tiles and, within a tile, twelve steps.  The first step normalizes the tile's rows, starts
the result with the rows themselves, and multiplies the normalized rows by the first columns of the two weights; each
later step multiplies them by the next columns and, meanwhile, convolves, gates and folds into the result the columns
of the step before; the last step only folds.  The products of a tile's last eight rows are kept for the next tile. -/

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Short names for the types of the arrays. -/
abbrev TH0 (F : FTy → Type) := Vec F S512x2048 .f32
abbrev TH1 (F : FTy → Type) := Vec F S2x11x8x512 .f32
abbrev TH2 (F : FTy → Type) := Vec F S1x2048x512 .bf16
abbrev TH3 (F : FTy → Type) := Vec F S2x520x512 .f32
abbrev TH4 (F : FTy → Type) := Vec F S22x3x512 .f32
abbrev TH5 (F : FTy → Type) := Vec F S22x1x512 .f32
abbrev TH6 (F : FTy → Type) := Vec F S1x512x2048 .bf16

variable {F : FTy → Type} [FloatOps F]

local notation "𝕄" => MT nD τ sig Unit (Elt F) ℕ (UR sig nD τ) ℕ

/-- A buffer held whole, with its contents. -/
abbrev ow (c : Dev nD) {sh : Shape} {e : EltTy} (a : Memref sig .tc .vmem sh e) (X : sh.Idx → Elt F e) : sProp 𝕄 := owns (c : Thread nD τ) a fullShare X

variable (m : (ℓ : Loc nD τ sig) → Buf (Elt F) ℓ) (ρ : Dev nD → PrngReg)

theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

/-! ## What one step leaves, as functions of what it finds -/

/-- The body's condition that the row tile is the first of all. -/
abbrev condI (i : grid0.Coords) : Prop := (Scalar.cmpi .ne (Scalar.extui (Scalar.cmpi .eq (BitVec.ofNat 32 (i 0).val) 0#32)) 0#32) = 1#1

/-- Whether the row tile starts a sequence. -/
def fst (i : grid0.Coords) : BitVec 1 :=
  let a0 : BitVec 32 := BitVec.ofNat 32 (i 0).val
  let v0 : BitVec 1 := Scalar.cmpi .eq 8#32 0#32
  let v1 : BitVec 32 := Scalar.select v0 1#32 8#32
  let v2 : BitVec 32 := Scalar.remsi a0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 0#32

/-- One slot of the kept products: eight rows of one of the two products, for one step. -/
def ldT (tl : TH1 F) (a : Fin 2) (jj : Fin 11) : Vec F S1x1x8x512 .f32 := fun y => tl (ix4 a jj (y 2) (y 3))
/-- One step's convolution weights. -/
def ldC (cw : TH4 F) (k : Fin 22) : Vec F S1x3x512 .f32 := fun y => cw (ix3 k (y 1) (y 2))
/-- One step's convolution bias. -/
def ldB (cb : TH5 F) (k : Fin 22) : Vec F S1x1x512 .f32 := fun y => cb (ix3 k (y 1) (y 2))

theorem ld4 (tl : TH1 F) (a : Fin 2) (jj : Fin 11) {off : Fin 4 → ℕ} (h : off = ![a.val, jj.val, 0, 0])
    {inb : ∀ a, off a + S1x1x8x512.size a ≤ S2x11x8x512.size a} :
    View.ld tl (Rect.unit (s := S2x11x8x512) off S1x1x8x512.size inb) = ldT tl a jj := by
  subst h
  funext y
  refine congrArg tl (funext fun b => Fin.ext ?_)
  have h0 : (y 0).val = 0 := Nat.lt_one_iff.mp (y 0).isLt
  have h1 : (y 1).val = 0 := Nat.lt_one_iff.mp (y 1).isLt
  fin_cases b
  · show a.val + 1 * (y 0).val = a.val; omega
  · show jj.val + 1 * (y 1).val = jj.val; omega
  · show 0 + 1 * (y 2).val = (y 2).val; omega
  · show 0 + 1 * (y 3).val = (y 3).val; omega

theorem ld3 (cw : TH4 F) (k : Fin 22) {off : Fin 3 → ℕ} (h : off = ![k.val, 0, 0])
    {inb : ∀ a, off a + S1x3x512.size a ≤ S22x3x512.size a} :
    View.ld cw (Rect.unit (s := S22x3x512) off S1x3x512.size inb) = ldC cw k := by
  subst h
  funext y
  refine congrArg cw (funext fun b => Fin.ext ?_)
  have h0 : (y 0).val = 0 := Nat.lt_one_iff.mp (y 0).isLt
  fin_cases b
  · show k.val + 1 * (y 0).val = k.val; omega
  · show 0 + 1 * (y 1).val = (y 1).val; omega
  · show 0 + 1 * (y 2).val = (y 2).val; omega

theorem ld3b (cb : TH5 F) (k : Fin 22) {off : Fin 3 → ℕ} (h : off = ![k.val, 0, 0])
    {inb : ∀ a, off a + S1x1x512.size a ≤ S22x1x512.size a} :
    View.ld cb (Rect.unit (s := S22x1x512) off S1x1x512.size inb) = ldB cb k := by
  subst h
  funext y
  refine congrArg cb (funext fun b => Fin.ext ?_)
  have h0 : (y 0).val = 0 := Nat.lt_one_iff.mp (y 0).isLt
  fin_cases b
  · show k.val + 1 * (y 0).val = k.val; omega
  · show 0 + 1 * (y 1).val = (y 1).val; omega
  · show 0 + 1 * (y 2).val = (y 2).val; omega

/-- The upper and the lower half of a tile's rows. -/
def x0 (x : TH0 F) : Vec F S256x2048 .f32 := View.ld x (Rect.unit _ _ inb_S512x2048_S256x2048_0_0)
def x1 (x : TH0 F) : Vec F S256x2048 .f32 := View.ld x (Rect.unit _ _ inb_S512x2048_S256x2048_256_0)
/-- The normalized rows, half by half. -/
def h0 (x : TH0 F) (g : Vec F S1x2048 .f32) : Vec F S256x2048 .bf16 := k0_pay4 (x0 x) g
def h1 (x : TH0 F) (g : Vec F S1x2048 .f32) : Vec F S256x2048 .bf16 := k0_pay13 (x1 x) (k0_pay11 g) (k0_pay12 (x1 x))

/-- After a tile's first step: the result's rows, the normalized rows, the two products and the kept products. -/
def oA (x : TH0 F) : TH0 F :=
  View.canon (Val := Elt F) (s := S512x2048) (e := .f32) [⟨(Rect.unit _ _ inb_S512x2048_S256x2048_256_0), x1 x⟩, ⟨(Rect.unit _ _ inb_S512x2048_S256x2048_0_0), x0 x⟩]
def hA (x : TH0 F) (g : Vec F S1x2048 .f32) : Vec F S512x2048 .bf16 :=
  View.canon (Val := Elt F) (s := S512x2048) (e := .bf16) [⟨(Rect.unit _ _ inb_S512x2048_S256x2048_256_0), h1 x g⟩, ⟨(Rect.unit _ _ inb_S512x2048_S256x2048_0_0), h0 x g⟩]
def uA (v : BitVec 1) (x : TH0 F) (g : Vec F S1x2048 .f32) (wg wu : TH2 F) (tl : TH1 F) : TH3 F :=
  View.canon (Val := Elt F) (s := S2x520x512) (e := .f32)
    [⟨(Rect.unit _ _ inb_S2x520x512_S1x256x512_1_264_0), k0_pay18 (h1 x g) wu⟩,
     ⟨(Rect.unit _ _ inb_S2x520x512_S1x256x512_0_264_0), k0_pay15 (h1 x g) wg⟩,
     ⟨(Rect.unit _ _ inb_S2x520x512_S1x256x512_1_8_0), k0_pay10 (h0 x g) wu⟩,
     ⟨(Rect.unit _ _ inb_S2x520x512_S1x8x512_1_0_0), k0_pay9 v (ldT tl 1 0)⟩,
     ⟨(Rect.unit _ _ inb_S2x520x512_S1x256x512_0_8_0), k0_pay8 (k0_pay5 (h0 x g) wg)⟩,
     ⟨(Rect.unit _ _ inb_S2x520x512_S1x8x512_0_0_0), k0_pay7 (k0_pay6 v (ldT tl 0 0))⟩]
def tA (x : TH0 F) (g : Vec F S1x2048 .f32) (wg wu : TH2 F) (tl : TH1 F) : TH1 F :=
  VecWindow.put (VecWindow.put tl ![0, 0, 0, 0] S1x1x8x512.size (k0_pay16 (h1 x g) wg)) ![1, 0, 0, 0] S1x1x8x512.size (k0_pay59 (k0_pay19 (h1 x g) wu))

/-- After a middle step: the two products, the kept products and the result's rows. -/
def uM (v : BitVec 1) (h : Vec F S512x2048 .bf16) (wg wu : TH2 F) (tl : TH1 F) (jj : Fin 11) : TH3 F :=
  View.canon (Val := Elt F) (s := S2x520x512) (e := .f32)
    [⟨(Rect.unit _ _ inb_S2x520x512_S1x512x512_1_8_0), k0_pay27 (k0_pay24 h wu)⟩,
     ⟨(Rect.unit _ _ inb_S2x520x512_S1x8x512_1_0_0), k0_pay26 (k0_pay25 v (ldT tl 1 jj))⟩,
     ⟨(Rect.unit _ _ inb_S2x520x512_S1x512x512_0_8_0), k0_pay22 h wg⟩,
     ⟨(Rect.unit _ _ inb_S2x520x512_S1x8x512_0_0_0), k0_pay21 v (ldT tl 0 jj)⟩]
def tM (h : Vec F S512x2048 .bf16) (wg wu : TH2 F) (tl : TH1 F) (jj : Fin 11) : TH1 F :=
  VecWindow.put (VecWindow.put tl ![0, jj.val, 0, 0] S1x1x8x512.size (k0_pay23 h wg)) ![1, jj.val, 0, 0] S1x1x8x512.size (k0_pay28 (k0_pay24 h wu))
def oM (o : TH0 F) (u : TH3 F) (cw : TH4 F) (cb : TH5 F) (jp : Fin 11) (wd : TH6 F) : TH0 F :=
  k0_pay60 (k0_pay32 (k0_pay30 (ldC cw ⟨jp.val, by omega⟩) (ldB cb ⟨jp.val, by omega⟩) (View.ld u (Rect.unit _ _ inb_S2x520x512_S1x512x512_0_8_0)) (View.ld u (Rect.unit _ _ inb_S2x520x512_S1x512x512_0_6_0)))
      (k0_pay31 (ldC cw ⟨jp.val, by omega⟩)) (View.ld u (Rect.unit _ _ inb_S2x520x512_S1x512x512_0_7_0)) (ldC cw ⟨11 + jp.val, by omega⟩) (ldB cb ⟨11 + jp.val, by omega⟩)
      (View.ld u (Rect.unit _ _ inb_S2x520x512_S1x512x512_1_8_0)) (View.ld u (Rect.unit _ _ inb_S2x520x512_S1x512x512_1_6_0)) (View.ld u (Rect.unit _ _ inb_S2x520x512_S1x512x512_1_7_0))) o wd

/-- After a tile's last step: the result's rows, half by half. -/
def oZ0 (o : TH0 F) (u : TH3 F) (cw : TH4 F) (cb : TH5 F) (wd : TH6 F) : Vec F S256x2048 .f32 :=
  k0_pay50 (k0_pay46 (ldC cw 10) (ldB cb 10) (View.ld u (Rect.unit _ _ inb_S2x520x512_S1x256x512_0_8_0)) (View.ld u (Rect.unit _ _ inb_S2x520x512_S1x256x512_0_6_0)) (View.ld u (Rect.unit _ _ inb_S2x520x512_S1x256x512_0_7_0)))
    (k0_pay47 (ldC cw 21)) (k0_pay48 (ldB cb 21)) (k0_pay49 (ldC cw 21))
    (View.ld u (Rect.unit _ _ inb_S2x520x512_S1x256x512_1_8_0)) (View.ld u (Rect.unit _ _ inb_S2x520x512_S1x256x512_1_6_0)) (View.ld u (Rect.unit _ _ inb_S2x520x512_S1x256x512_1_7_0))
    (View.ld o (Rect.unit _ _ inb_S512x2048_S256x2048_0_0)) wd
def oZ1 (o : TH0 F) (u : TH3 F) (cw : TH4 F) (cb : TH5 F) (wd : TH6 F) : Vec F S256x2048 .f32 :=
  k0_pay2 (k0_pay54 (k0_pay51 (ldC cw 10)) (k0_pay52 (ldB cb 10)) (k0_pay53 (ldC cw 10)) (View.ld u (Rect.unit _ _ inb_S2x520x512_S1x256x512_0_264_0)) (View.ld u (Rect.unit _ _ inb_S2x520x512_S1x256x512_0_262_0)) (View.ld u (Rect.unit _ _ inb_S2x520x512_S1x256x512_0_263_0)))
    (k0_pay55 (ldC cw 21)) (k0_pay56 (ldC cw 21) (ldB cb 21) (View.ld u (Rect.unit _ _ inb_S2x520x512_S1x256x512_1_264_0))) (k0_pay57 (ldC cw 21))
    (k0_pay58 (View.ld u (Rect.unit _ _ inb_S2x520x512_S1x256x512_1_262_0))) (View.ld u (Rect.unit _ _ inb_S2x520x512_S1x256x512_1_263_0))
    (View.ld o (Rect.unit _ _ inb_S512x2048_S256x2048_256_0)) wd
def oZ (o : TH0 F) (u : TH3 F) (cw : TH4 F) (cb : TH5 F) (wd : TH6 F) : TH0 F :=
  View.canon (Val := Elt F) (s := S512x2048) (e := .f32) [⟨(Rect.unit _ _ inb_S512x2048_S256x2048_256_0), oZ1 o u cw cb wd⟩, ⟨(Rect.unit _ _ inb_S512x2048_S256x2048_0_0), oZ0 o u cw cb wd⟩]

/-! ## The body on whole buffers, case by case -/

section
variable (c : Dev nD) (i : grid0.Coords) (a2 : Memref sig .tc .vmem S512x2048 .f32) (p2 : a2.IsWhole) (a3 : Memref sig .tc .vmem S1x2048 .f32) (p3 : a3.IsWhole) (a4 : Memref sig .tc .vmem S1x2048 .f32) (p4 : a4.IsWhole) (a5 : Memref sig .tc .vmem S1x2048x512 .bf16) (p5 : a5.IsWhole) (a6 : Memref sig .tc .vmem S1x2048x512 .bf16) (p6 : a6.IsWhole) (a7 : Memref sig .tc .vmem S22x3x512 .f32) (p7 : a7.IsWhole) (a8 : Memref sig .tc .vmem S22x1x512 .f32) (p8 : a8.IsWhole) (a9 : Memref sig .tc .vmem S1x512x2048 .bf16) (p9 : a9.IsWhole) (a10 : Memref sig .tc .vmem S512x2048 .f32) (p10 : a10.IsWhole) (a11 : Memref sig .tc .vmem S512x2048 .bf16) (p11 : a11.IsWhole) (a12 : Memref sig .tc .vmem S2x520x512 .f32) (p12 : a12.IsWhole) (a13 : Memref sig .tc .vmem S2x520x512 .f32) (p13 : a13.IsWhole) (a14 : Memref sig .tc .vmem S2x11x8x512 .f32) (p14 : a14.IsWhole)

set_option maxHeartbeats 1000000 in
/-- A middle step of even number: the step's columns into one buffer, and the other buffer's columns folded into the result. -/
theorem run_M0
    (hc1 : ¬ k0_cond1 i = 1#1) (hc3 : k0_cond3 i = 1#1) (hc4 : ¬ k0_cond4 i = 1#1) (hc5 : ¬ k0_cond5 i = 1#1)
    (jj : Fin 11) (jp : Fin 11) (ho1 : k0_off1 i = ![0, jj.val, 0, 0]) (ho2 : k0_off2 i = ![1, jj.val, 0, 0])
    (ho3 : k0_off3 i 0#32 = ![jp.val, 0, 0]) (ho3' : k0_off3 i 11#32 = ![11 + jp.val, 0, 0]) (ho4 : k0_off4 i 0#32 = ![jp.val, 0, 0]) (ho4' : k0_off4 i 11#32 = ![11 + jp.val, 0, 0])
    (wg : TH2 F) (wu : TH2 F) (cw : TH4 F) (cb : TH5 F) (wd : TH6 F) (o : TH0 F) (h : Vec F S512x2048 .bf16) (ub : TH3 F) (tl : TH1 F) (E : Set ℕ) (K : PUnit → sProp 𝕄) :
    iprop(ow c a5 wg
        ∗ ow c a6 wu
        ∗ ow c a7 cw
        ∗ ow c a8 cb
        ∗ ow c a9 wd
        ∗ ow c a10 o
        ∗ ow c a11 h
        ∗ (∃ d, ow c a12 d)
        ∗ ow c a13 ub
        ∗ ow c a14 tl
        ∗ (iprop(ow c a5 wg
        ∗ ow c a6 wu
        ∗ ow c a7 cw
        ∗ ow c a8 cb
        ∗ ow c a9 wd
        ∗ ow c a10 (oM o ub cw cb jp wd)
        ∗ ow c a11 h
        ∗ ow c a12 (uM (fst i) h wg wu tl jj)
        ∗ ow c a13 ub
        ∗ ow c a14 (tM h wg wu tl jj)) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part4_eq_skeleton, k0_part5_eq_skeleton, k0_part6_eq_skeleton]
  unfold ow owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, Hk⟩
  obtain rfl := p5.eq_unread hf5
  obtain rfl := p6.eq_unread hf6
  obtain rfl := p7.eq_unread hf7
  obtain rfl := p8.eq_unread hf8
  obtain rfl := p9.eq_unread hf9
  obtain rfl := p10.eq_unread hf10
  obtain rfl := p11.eq_unread hf11
  obtain rfl := p13.eq_unread hf13
  obtain rfl := p14.eq_unread hf14
  sl_exec (disch := first | sl_exact hc1 | sl_exact hc3 | sl_exact hc4 | sl_exact hc5)
  sl_step
  iapply Hk
  isplitl [H5]
  · iexists _; isplitr; · ipureintro; exact p5.read_unread _
    iexact H5
  isplitl [H6]
  · iexists _; isplitr; · ipureintro; exact p6.read_unread _
    iexact H6
  isplitl [H7]
  · iexists _; isplitr; · ipureintro; exact p7.read_unread _
    iexact H7
  isplitl [H8]
  · iexists _; isplitr; · ipureintro; exact p8.read_unread _
    iexact H8
  isplitl [H9]
  · iexists _; isplitr; · ipureintro; exact p9.read_unread _
    iexact H9
  isplitl [H10]
  · iexists _; isplitr
    swap; · iexact H10
    ipureintro
    rw [View.read_writes_eq_canon _ _ _ (View.cover_of_tiledL _ ![512, 2048] (by sl_kernel_rfl))]
    unfold oM
    rw [← ld3 cw (⟨jp.val, by omega⟩ : Fin 22) ho3 (inb := k0_off3_inb i hc3 0), ← ld3 cw (⟨11 + jp.val, by omega⟩ : Fin 22) ho3' (inb := k0_off3_inb i hc3 1), ← ld3b cb (⟨jp.val, by omega⟩ : Fin 22) ho4 (inb := k0_off4_inb i hc3 0), ← ld3b cb (⟨11 + jp.val, by omega⟩ : Fin 22) ho4' (inb := k0_off4_inb i hc3 1)]
    try sl_unfold_words
    rw [View.canon_unit_zero hz2]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H11]
  · iexists _; isplitr; · ipureintro; exact p11.read_unread _
    iexact H11
  isplitl [H12]
  · iexists _; isplitr
    swap; · iexact H12
    ipureintro
    rw [View.read_writes_eq_canon _ _ _ (View.cover_of_tiledBy _ ![1, 8, 512] (by sl_kernel_rfl))]
    unfold uM
    rw [← ld4 tl 0 jj ho1 (inb := k0_off1_inb i hc3), ← ld4 tl 1 jj ho2 (inb := k0_off2_inb i hc3)]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H13]
  · iexists _; isplitr; · ipureintro; exact p13.read_unread _
    iexact H13
  · iexists _; isplitr
    swap; · iexact H14
    ipureintro
    rw [View.read_writes_cons_put _ _ _ _ _ ho2, View.read_writes_cons_put _ _ _ _ _ ho1, View.writes_nil, p14.read_unread]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl

set_option maxHeartbeats 1000000 in
/-- A middle step of odd number: the step's columns into one buffer, and the other buffer's columns folded into the result. -/
theorem run_M1
    (hc1 : ¬ k0_cond1 i = 1#1) (hc3 : ¬ k0_cond3 i = 1#1) (hc4 : k0_cond4 i = 1#1) (hc5 : ¬ k0_cond5 i = 1#1)
    (jj : Fin 11) (jp : Fin 11) (ho1 : k0_off5 i = ![0, jj.val, 0, 0]) (ho2 : k0_off6 i = ![1, jj.val, 0, 0])
    (ho3 : k0_off7 i 0#32 = ![jp.val, 0, 0]) (ho3' : k0_off7 i 11#32 = ![11 + jp.val, 0, 0]) (ho4 : k0_off8 i 0#32 = ![jp.val, 0, 0]) (ho4' : k0_off8 i 11#32 = ![11 + jp.val, 0, 0])
    (wg : TH2 F) (wu : TH2 F) (cw : TH4 F) (cb : TH5 F) (wd : TH6 F) (o : TH0 F) (h : Vec F S512x2048 .bf16) (ua : TH3 F) (tl : TH1 F) (E : Set ℕ) (K : PUnit → sProp 𝕄) :
    iprop(ow c a5 wg
        ∗ ow c a6 wu
        ∗ ow c a7 cw
        ∗ ow c a8 cb
        ∗ ow c a9 wd
        ∗ ow c a10 o
        ∗ ow c a11 h
        ∗ ow c a12 ua
        ∗ (∃ d, ow c a13 d)
        ∗ ow c a14 tl
        ∗ (iprop(ow c a5 wg
        ∗ ow c a6 wu
        ∗ ow c a7 cw
        ∗ ow c a8 cb
        ∗ ow c a9 wd
        ∗ ow c a10 (oM o ua cw cb jp wd)
        ∗ ow c a11 h
        ∗ ow c a12 ua
        ∗ ow c a13 (uM (fst i) h wg wu tl jj)
        ∗ ow c a14 (tM h wg wu tl jj)) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part7_eq_skeleton, k0_part8_eq_skeleton, k0_part9_eq_skeleton]
  unfold ow owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  obtain rfl := p5.eq_unread hf5
  obtain rfl := p6.eq_unread hf6
  obtain rfl := p7.eq_unread hf7
  obtain rfl := p8.eq_unread hf8
  obtain rfl := p9.eq_unread hf9
  obtain rfl := p10.eq_unread hf10
  obtain rfl := p11.eq_unread hf11
  obtain rfl := p12.eq_unread hf12
  obtain rfl := p14.eq_unread hf14
  sl_exec (disch := first | sl_exact hc1 | sl_exact hc3 | sl_exact hc4 | sl_exact hc5)
  sl_step
  iapply Hk
  isplitl [H5]
  · iexists _; isplitr; · ipureintro; exact p5.read_unread _
    iexact H5
  isplitl [H6]
  · iexists _; isplitr; · ipureintro; exact p6.read_unread _
    iexact H6
  isplitl [H7]
  · iexists _; isplitr; · ipureintro; exact p7.read_unread _
    iexact H7
  isplitl [H8]
  · iexists _; isplitr; · ipureintro; exact p8.read_unread _
    iexact H8
  isplitl [H9]
  · iexists _; isplitr; · ipureintro; exact p9.read_unread _
    iexact H9
  isplitl [H10]
  · iexists _; isplitr
    swap; · iexact H10
    ipureintro
    rw [View.read_writes_eq_canon _ _ _ (View.cover_of_tiledL _ ![512, 2048] (by sl_kernel_rfl))]
    unfold oM
    rw [← ld3 cw (⟨jp.val, by omega⟩ : Fin 22) ho3 (inb := k0_off7_inb i hc4 0), ← ld3 cw (⟨11 + jp.val, by omega⟩ : Fin 22) ho3' (inb := k0_off7_inb i hc4 1), ← ld3b cb (⟨jp.val, by omega⟩ : Fin 22) ho4 (inb := k0_off8_inb i hc4 0), ← ld3b cb (⟨11 + jp.val, by omega⟩ : Fin 22) ho4' (inb := k0_off8_inb i hc4 1)]
    try sl_unfold_words
    rw [View.canon_unit_zero hz2]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H11]
  · iexists _; isplitr; · ipureintro; exact p11.read_unread _
    iexact H11
  isplitl [H12]
  · iexists _; isplitr; · ipureintro; exact p12.read_unread _
    iexact H12
  isplitl [H13]
  · iexists _; isplitr
    swap; · iexact H13
    ipureintro
    rw [View.read_writes_eq_canon _ _ _ (View.cover_of_tiledBy _ ![1, 8, 512] (by sl_kernel_rfl))]
    unfold uM
    rw [← ld4 tl 0 jj ho1 (inb := k0_off5_inb i hc4), ← ld4 tl 1 jj ho2 (inb := k0_off6_inb i hc4)]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  · iexists _; isplitr
    swap; · iexact H14
    ipureintro
    rw [View.read_writes_cons_put _ _ _ _ _ ho2, View.read_writes_cons_put _ _ _ _ _ ho1, View.writes_nil, p14.read_unread]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl

set_option maxHeartbeats 1000000 in
/-- A tile's first step, for the first tile: the kept products start at zero. -/
theorem run_A0
    (hcI : condI i) (hc1 : k0_cond1 i = 1#1) (hc3 : ¬ k0_cond3 i = 1#1) (hc4 : ¬ k0_cond4 i = 1#1) (hc5 : ¬ k0_cond5 i = 1#1)
    (x : TH0 F) (g : Vec F S1x2048 .f32) (wg : TH2 F) (wu : TH2 F) (E : Set ℕ) (K : PUnit → sProp 𝕄) :
    iprop(ow c a2 x
        ∗ ow c a3 g
        ∗ ow c a5 wg
        ∗ ow c a6 wu
        ∗ (∃ d, ow c a10 d)
        ∗ (∃ d, ow c a11 d)
        ∗ (∃ d, ow c a12 d)
        ∗ (∃ d, ow c a14 d)
        ∗ (iprop(ow c a2 x
        ∗ ow c a3 g
        ∗ ow c a5 wg
        ∗ ow c a6 wu
        ∗ ow c a10 (oA x)
        ∗ ow c a11 (hA x g)
        ∗ ow c a12 (uA (fst i) x g wg wu (k0_pay3 (F := F)))
        ∗ ow c a14 (tA x g wg wu (k0_pay3 (F := F)))) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part1_eq_skeleton, k0_part2_eq_skeleton, k0_part3_eq_skeleton]
  unfold ow owns
  iintro ⟨⟨%f2, %hf2, H2⟩, ⟨%f3, %hf3, H3⟩, ⟨%f5, %hf5, H5⟩, ⟨%f6, %hf6, H6⟩, ⟨%d10, %f10, -, H10⟩, ⟨%d11, %f11, -, H11⟩, ⟨%d12, %f12, -, H12⟩, ⟨%d14, %f14, -, H14⟩, Hk⟩
  obtain rfl := p2.eq_unread hf2
  obtain rfl := p3.eq_unread hf3
  obtain rfl := p5.eq_unread hf5
  obtain rfl := p6.eq_unread hf6
  sl_exec (disch := first | sl_exact hcI | sl_exact hc1 | sl_exact hc3 | sl_exact hc4 | sl_exact hc5)
  sl_step
  iapply Hk
  isplitl [H2]
  · iexists _; isplitr; · ipureintro; exact p2.read_unread _
    iexact H2
  isplitl [H3]
  · iexists _; isplitr; · ipureintro; exact p3.read_unread _
    iexact H3
  isplitl [H5]
  · iexists _; isplitr; · ipureintro; exact p5.read_unread _
    iexact H5
  isplitl [H6]
  · iexists _; isplitr; · ipureintro; exact p6.read_unread _
    iexact H6
  isplitl [H10]
  · iexists _; isplitr
    swap; · iexact H10
    ipureintro
    rw [View.read_writes_eq_canon _ _ _ (View.cover_of_tiledL _ ![256, 2048] (by sl_kernel_rfl))]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H11]
  · iexists _; isplitr
    swap; · iexact H11
    ipureintro
    rw [View.read_writes_eq_canon _ _ _ (View.cover_of_tiledL _ ![256, 2048] (by sl_kernel_rfl))]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H12]
  · iexists _; isplitr
    swap; · iexact H12
    ipureintro
    rw [View.read_writes_eq_canon _ _ _ (View.cover_of_tiledBy _ ![1, 8, 512] (by sl_kernel_rfl))]
    unfold uA
    rw [← ld4 (k0_pay3 (F := F)) 0 0 rfl (inb := inb_S2x11x8x512_S1x1x8x512_0_0_0_0), ← ld4 (k0_pay3 (F := F)) 1 0 rfl (inb := inb_S2x11x8x512_S1x1x8x512_1_0_0_0)]
    try sl_unfold_words
    simp only [View.readCov_cons_toLoadRect]
    simp only [View.readCov_eq_canon', View.canon_unit_zero (S := S2x11x8x512) hz4]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  · iexists _; isplitr
    swap; · iexact H14
    ipureintro
    rw [View.read_writes_cons_put _ _ _ _ _ rfl, View.read_writes_cons_put _ _ _ _ _ rfl]
    rw [View.read_writes_eq_canon _ _ _ (View.cover_of_tiledL _ S2x11x8x512.size (by sl_kernel_rfl))]
    try sl_unfold_words
    rw [View.canon_unit_zero (S := S2x11x8x512) hz4]
    simp only [View.readCov_cons_toLoadRect]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl

set_option maxHeartbeats 1000000 in
/-- A tile's first step (not the first tile's). -/
theorem run_A
    (hcI : ¬ condI i) (hc1 : k0_cond1 i = 1#1) (hc3 : ¬ k0_cond3 i = 1#1) (hc4 : ¬ k0_cond4 i = 1#1) (hc5 : ¬ k0_cond5 i = 1#1)
    (x : TH0 F) (g : Vec F S1x2048 .f32) (wg : TH2 F) (wu : TH2 F) (tl : TH1 F) (E : Set ℕ) (K : PUnit → sProp 𝕄) :
    iprop(ow c a2 x
        ∗ ow c a3 g
        ∗ ow c a5 wg
        ∗ ow c a6 wu
        ∗ (∃ d, ow c a10 d)
        ∗ (∃ d, ow c a11 d)
        ∗ (∃ d, ow c a12 d)
        ∗ ow c a14 tl
        ∗ (iprop(ow c a2 x
        ∗ ow c a3 g
        ∗ ow c a5 wg
        ∗ ow c a6 wu
        ∗ ow c a10 (oA x)
        ∗ ow c a11 (hA x g)
        ∗ ow c a12 (uA (fst i) x g wg wu tl)
        ∗ ow c a14 (tA x g wg wu tl)) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part1_eq_skeleton, k0_part2_eq_skeleton, k0_part3_eq_skeleton]
  unfold ow owns
  iintro ⟨⟨%f2, %hf2, H2⟩, ⟨%f3, %hf3, H3⟩, ⟨%f5, %hf5, H5⟩, ⟨%f6, %hf6, H6⟩, ⟨%d10, %f10, -, H10⟩, ⟨%d11, %f11, -, H11⟩, ⟨%d12, %f12, -, H12⟩, ⟨%f14, %hf14, H14⟩, Hk⟩
  obtain rfl := p2.eq_unread hf2
  obtain rfl := p3.eq_unread hf3
  obtain rfl := p5.eq_unread hf5
  obtain rfl := p6.eq_unread hf6
  obtain rfl := p14.eq_unread hf14
  sl_exec (disch := first | sl_exact hcI | sl_exact hc1 | sl_exact hc3 | sl_exact hc4 | sl_exact hc5)
  sl_step
  iapply Hk
  isplitl [H2]
  · iexists _; isplitr; · ipureintro; exact p2.read_unread _
    iexact H2
  isplitl [H3]
  · iexists _; isplitr; · ipureintro; exact p3.read_unread _
    iexact H3
  isplitl [H5]
  · iexists _; isplitr; · ipureintro; exact p5.read_unread _
    iexact H5
  isplitl [H6]
  · iexists _; isplitr; · ipureintro; exact p6.read_unread _
    iexact H6
  isplitl [H10]
  · iexists _; isplitr
    swap; · iexact H10
    ipureintro
    rw [View.read_writes_eq_canon _ _ _ (View.cover_of_tiledL _ ![256, 2048] (by sl_kernel_rfl))]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H11]
  · iexists _; isplitr
    swap; · iexact H11
    ipureintro
    rw [View.read_writes_eq_canon _ _ _ (View.cover_of_tiledL _ ![256, 2048] (by sl_kernel_rfl))]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H12]
  · iexists _; isplitr
    swap; · iexact H12
    ipureintro
    rw [View.read_writes_eq_canon _ _ _ (View.cover_of_tiledBy _ ![1, 8, 512] (by sl_kernel_rfl))]
    unfold uA
    rw [← ld4 tl 0 0 rfl (inb := inb_S2x11x8x512_S1x1x8x512_0_0_0_0), ← ld4 tl 1 0 rfl (inb := inb_S2x11x8x512_S1x1x8x512_1_0_0_0)]
    try sl_unfold_words
    simp only [View.readCov_cons_toLoadRect]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  · iexists _; isplitr
    swap; · iexact H14
    ipureintro
    rw [View.read_writes_cons_put _ _ _ _ _ rfl, View.read_writes_cons_put _ _ _ _ _ rfl]
    rw [View.writes_nil, p14.read_unread]
    try sl_unfold_words
    simp only [View.readCov_cons_toLoadRect]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl

set_option maxHeartbeats 1000000 in
/-- A tile's last step: the last columns folded into the result. -/
theorem run_Z
    (hc1 : ¬ k0_cond1 i = 1#1) (hc3 : ¬ k0_cond3 i = 1#1) (hc4 : ¬ k0_cond4 i = 1#1) (hc5 : k0_cond5 i = 1#1)
    (cw : TH4 F) (cb : TH5 F) (wd : TH6 F) (o : TH0 F) (ua : TH3 F) (E : Set ℕ) (K : PUnit → sProp 𝕄) :
    iprop(ow c a7 cw
        ∗ ow c a8 cb
        ∗ ow c a9 wd
        ∗ ow c a10 o
        ∗ ow c a12 ua
        ∗ (iprop(ow c a7 cw
        ∗ ow c a8 cb
        ∗ ow c a9 wd
        ∗ ow c a10 (oZ o ua cw cb wd)
        ∗ ow c a12 ua) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part10_eq_skeleton, k0_part11_eq_skeleton, k0_part12_eq_skeleton]
  unfold ow owns
  iintro ⟨⟨%f7, %hf7, H7⟩, ⟨%f8, %hf8, H8⟩, ⟨%f9, %hf9, H9⟩, ⟨%f10, %hf10, H10⟩, ⟨%f12, %hf12, H12⟩, Hk⟩
  obtain rfl := p7.eq_unread hf7
  obtain rfl := p8.eq_unread hf8
  obtain rfl := p9.eq_unread hf9
  obtain rfl := p10.eq_unread hf10
  obtain rfl := p12.eq_unread hf12
  sl_exec (disch := first | sl_exact hc1 | sl_exact hc3 | sl_exact hc4 | sl_exact hc5)
  sl_step
  iapply Hk
  isplitl [H7]
  · iexists _; isplitr; · ipureintro; exact p7.read_unread _
    iexact H7
  isplitl [H8]
  · iexists _; isplitr; · ipureintro; exact p8.read_unread _
    iexact H8
  isplitl [H9]
  · iexists _; isplitr; · ipureintro; exact p9.read_unread _
    iexact H9
  isplitl [H10]
  · iexists _; isplitr
    swap; · iexact H10
    ipureintro
    rw [View.read_writes_eq_canon _ _ _ (View.cover_of_tiledL _ ![256, 2048] (by sl_kernel_rfl))]
    unfold oZ oZ0 oZ1
    rw [← ld3 cw (10 : Fin 22) rfl (inb := inb_S22x3x512_S1x3x512_10_0_0), ← ld3 cw (21 : Fin 22) rfl (inb := inb_S22x3x512_S1x3x512_21_0_0), ← ld3b cb (10 : Fin 22) rfl (inb := inb_S22x1x512_S1x1x512_10_0_0), ← ld3b cb (21 : Fin 22) rfl (inb := inb_S22x1x512_S1x1x512_21_0_0)]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  · iexists _; isplitr; · ipureintro; exact p12.read_unread _
    iexact H12

end

/-! ## The step of a point -/

theorem coord0 (t : Fin cfg0.N) : (grid0.coords t 0).val = t.val / 12 := by
  have ht : t.val < 768 := Nat.lt_of_lt_of_eq t.isLt N_0
  have e1 : (grid0.coords t 0).val = t.val / 12 % 64 := Pipeline.Grid.coords_val t 0 (by decide) rfl
  rw [e1]; omega

theorem hcondI (t : Fin cfg0.N) : condI (grid0.coords t) ↔ t.val / 12 = 0 := by
  have ht : t.val < 768 := Nat.lt_of_lt_of_eq t.isLt N_0
  have e1 := coord0 t
  simp only [condI, e1]
  word_cmp

theorem hcond1 : ∀ t : Fin cfg0.N, k0_cond1 (grid0.coords t) = 1#1 ↔ t.val % 12 = 0 :=
  (by decide +kernel : ∀ t : Fin grid0.N, k0_cond1 (grid0.coords t) = 1#1 ↔ t.val % 12 = 0)
theorem hcond3 : ∀ t : Fin cfg0.N, k0_cond3 (grid0.coords t) = 1#1 ↔ (t.val % 12 ≠ 0 ∧ t.val % 12 ≠ 11 ∧ t.val % 2 = 0) :=
  (by decide +kernel : ∀ t : Fin grid0.N, k0_cond3 (grid0.coords t) = 1#1 ↔ (t.val % 12 ≠ 0 ∧ t.val % 12 ≠ 11 ∧ t.val % 2 = 0))
theorem hcond4 : ∀ t : Fin cfg0.N, k0_cond4 (grid0.coords t) = 1#1 ↔ (t.val % 12 ≠ 0 ∧ t.val % 12 ≠ 11 ∧ t.val % 2 = 1) :=
  (by decide +kernel : ∀ t : Fin grid0.N, k0_cond4 (grid0.coords t) = 1#1 ↔ (t.val % 12 ≠ 0 ∧ t.val % 12 ≠ 11 ∧ t.val % 2 = 1))
theorem hcond5 : ∀ t : Fin cfg0.N, k0_cond5 (grid0.coords t) = 1#1 ↔ t.val % 12 = 11 :=
  (by decide +kernel : ∀ t : Fin grid0.N, k0_cond5 (grid0.coords t) = 1#1 ↔ t.val % 12 = 11)

/-- The step's own columns, and the columns of the step before. -/
def jj (t : Fin cfg0.N) : Fin 11 := ⟨t.val % 12 % 11, Nat.mod_lt _ (by decide)⟩
def jp (t : Fin cfg0.N) : Fin 11 := ⟨t.val % 12 - 1, by have : t.val % 12 < 12 := Nat.mod_lt _ (by decide); omega⟩

theorem hoff1 : ∀ t : Fin cfg0.N, t.val % 12 ≠ 11 → k0_off1 (grid0.coords t) = ![0, (jj t).val, 0, 0] :=
  (by decide +kernel : ∀ t : Fin grid0.N, t.val % 12 ≠ 11 → k0_off1 (grid0.coords t) = ![0, t.val % 12 % 11, 0, 0])
theorem hoff2 : ∀ t : Fin cfg0.N, t.val % 12 ≠ 11 → k0_off2 (grid0.coords t) = ![1, (jj t).val, 0, 0] :=
  (by decide +kernel : ∀ t : Fin grid0.N, t.val % 12 ≠ 11 → k0_off2 (grid0.coords t) = ![1, t.val % 12 % 11, 0, 0])
theorem hoff3 : ∀ t : Fin cfg0.N, t.val % 12 ≠ 0 → k0_off3 (grid0.coords t) 0#32 = ![(jp t).val, 0, 0] :=
  (by decide +kernel : ∀ t : Fin grid0.N, t.val % 12 ≠ 0 → k0_off3 (grid0.coords t) 0#32 = ![t.val % 12 - 1, 0, 0])
theorem hoff3' : ∀ t : Fin cfg0.N, t.val % 12 ≠ 0 → k0_off3 (grid0.coords t) 11#32 = ![11 + (jp t).val, 0, 0] :=
  (by decide +kernel : ∀ t : Fin grid0.N, t.val % 12 ≠ 0 → k0_off3 (grid0.coords t) 11#32 = ![11 + (t.val % 12 - 1), 0, 0])
theorem hoff4 : ∀ t : Fin cfg0.N, t.val % 12 ≠ 0 → k0_off4 (grid0.coords t) 0#32 = ![(jp t).val, 0, 0] :=
  (by decide +kernel : ∀ t : Fin grid0.N, t.val % 12 ≠ 0 → k0_off4 (grid0.coords t) 0#32 = ![t.val % 12 - 1, 0, 0])
theorem hoff4' : ∀ t : Fin cfg0.N, t.val % 12 ≠ 0 → k0_off4 (grid0.coords t) 11#32 = ![11 + (jp t).val, 0, 0] :=
  (by decide +kernel : ∀ t : Fin grid0.N, t.val % 12 ≠ 0 → k0_off4 (grid0.coords t) 11#32 = ![11 + (t.val % 12 - 1), 0, 0])

/-! ## What the buffers hold after each point -/

/-- The result's rows, the normalized rows, the two buffers of products and the kept products. -/
structure St (F : FTy → Type) [FloatOps F] where
  o : TH0 F
  h : Vec F S512x2048 .bf16
  ua : TH3 F
  ub : TH3 F
  tl : TH1 F

/-- What a point makes of the buffers. -/
def step (c : Dev nD) (t : Fin cfg0.N) (s : St F) : St F :=
  if t.val % 12 = 0 then
    ⟨oA (iblk m c 0 t), hA (iblk m c 0 t) (iblk m c 1 t),
      uA (fst (grid0.coords t)) (iblk m c 0 t) (iblk m c 1 t) (iblk m c 3 t) (iblk m c 4 t) (if t.val = 0 then k0_pay3 (F := F) else s.tl), s.ub,
      tA (iblk m c 0 t) (iblk m c 1 t) (iblk m c 3 t) (iblk m c 4 t) (if t.val = 0 then k0_pay3 (F := F) else s.tl)⟩
  else if t.val % 12 = 11 then
    ⟨oZ s.o s.ua (iblk m c 5 t) (iblk m c 6 t) (iblk m c 7 t), s.h, s.ua, s.ub, s.tl⟩
  else if t.val % 2 = 0 then
    ⟨oM s.o s.ub (iblk m c 5 t) (iblk m c 6 t) (jp t) (iblk m c 7 t), s.h,
      uM (fst (grid0.coords t)) s.h (iblk m c 3 t) (iblk m c 4 t) s.tl (jj t), s.ub,
      tM s.h (iblk m c 3 t) (iblk m c 4 t) s.tl (jj t)⟩
  else
    ⟨oM s.o s.ua (iblk m c 5 t) (iblk m c 6 t) (jp t) (iblk m c 7 t), s.h, s.ua,
      uM (fst (grid0.coords t)) s.h (iblk m c 3 t) (iblk m c 4 t) s.tl (jj t),
      tM s.h (iblk m c 3 t) (iblk m c 4 t) s.tl (jj t)⟩

/-- The buffers before point `n`. -/
def stAt (c : Dev nD) : ℕ → St F
  | 0 => ⟨constant S512x2048 .f32 0x00000000#32, constant S512x2048 .bf16 0x0000#16, constant S2x520x512 .f32 0x00000000#32, constant S2x520x512 .f32 0x00000000#32, constant S2x11x8x512 .f32 0x00000000#32⟩
  | n + 1 => if h : n < cfg0.N then step m c ⟨n, h⟩ (stAt c n) else stAt c n

theorem stAt_succ (c : Dev nD) (t : Fin cfg0.N) : stAt m c (t.val + 1) = step m c t (stAt m c t.val) := by
  show (if h : t.val < cfg0.N then step m c ⟨t.val, h⟩ (stAt m c t.val) else stAt m c t.val) = _
  rw [dif_pos t.isLt]

theorem stAt_first (c : Dev nD) (t : Fin cfg0.N) (h : t.val % 12 = 0) : stAt m c (t.val + 1) =
    ⟨oA (iblk m c 0 t), hA (iblk m c 0 t) (iblk m c 1 t),
      uA (fst (grid0.coords t)) (iblk m c 0 t) (iblk m c 1 t) (iblk m c 3 t) (iblk m c 4 t) (if t.val = 0 then k0_pay3 (F := F) else (stAt m c t.val).tl), (stAt m c t.val).ub,
      tA (iblk m c 0 t) (iblk m c 1 t) (iblk m c 3 t) (iblk m c 4 t) (if t.val = 0 then k0_pay3 (F := F) else (stAt m c t.val).tl)⟩ := by
  rw [stAt_succ]; unfold step; rw [if_pos h]

theorem stAt_last (c : Dev nD) (t : Fin cfg0.N) (h : t.val % 12 = 11) : stAt m c (t.val + 1) =
    ⟨oZ (stAt m c t.val).o (stAt m c t.val).ua (iblk m c 5 t) (iblk m c 6 t) (iblk m c 7 t), (stAt m c t.val).h, (stAt m c t.val).ua, (stAt m c t.val).ub, (stAt m c t.val).tl⟩ := by
  rw [stAt_succ]; unfold step; rw [if_neg (by omega), if_pos h]

theorem stAt_even (c : Dev nD) (t : Fin cfg0.N) (h0 : t.val % 12 ≠ 0) (h11 : t.val % 12 ≠ 11) (h : t.val % 2 = 0) : stAt m c (t.val + 1) =
    ⟨oM (stAt m c t.val).o (stAt m c t.val).ub (iblk m c 5 t) (iblk m c 6 t) (jp t) (iblk m c 7 t), (stAt m c t.val).h,
      uM (fst (grid0.coords t)) (stAt m c t.val).h (iblk m c 3 t) (iblk m c 4 t) (stAt m c t.val).tl (jj t), (stAt m c t.val).ub,
      tM (stAt m c t.val).h (iblk m c 3 t) (iblk m c 4 t) (stAt m c t.val).tl (jj t)⟩ := by
  rw [stAt_succ]; unfold step; rw [if_neg h0, if_neg h11, if_pos h]

theorem stAt_odd (c : Dev nD) (t : Fin cfg0.N) (h0 : t.val % 12 ≠ 0) (h11 : t.val % 12 ≠ 11) (h : t.val % 2 = 1) : stAt m c (t.val + 1) =
    ⟨oM (stAt m c t.val).o (stAt m c t.val).ua (iblk m c 5 t) (iblk m c 6 t) (jp t) (iblk m c 7 t), (stAt m c t.val).h, (stAt m c t.val).ua,
      uM (fst (grid0.coords t)) (stAt m c t.val).h (iblk m c 3 t) (iblk m c 4 t) (stAt m c t.val).tl (jj t),
      tM (stAt m c t.val).h (iblk m c 3 t) (iblk m c 4 t) (stAt m c t.val).tl (jj t)⟩ := by
  rw [stAt_succ]; unfold step; rw [if_neg h0, if_neg h11, if_neg (by omega)]

/-! ## The pipeline's proof data -/

abbrev scM0_0 : Memref sig .tc .vmem S512x2048 .bf16 := Memref.whole cc0_scratch0
abbrev scM0_1 : Memref sig .tc .vmem S2x520x512 .f32 := Memref.whole cc0_scratch1
abbrev scM0_2 : Memref sig .tc .vmem S2x520x512 .f32 := Memref.whole cc0_scratch2
abbrev scM0_3 : Memref sig .tc .vmem S2x11x8x512 .f32 := Memref.whole cc0_scratch3

theorem PhiA0_eq (c : Dev nD) :
    (Pipeline.ΦA spec0 c : sProp 𝕄)
      = iprop(iprop((∃ d, ow c scM0_0 d) ∗ (∃ d, ow c scM0_1 d)
          ∗ (∃ d, ow c scM0_2 d) ∗ (∃ d, ow c scM0_3 d)) ∗ (∃ r, prngReg c r)) := by
  unfold Pipeline.ΦA; rw [scopedRest0_eq]; simp only [scM0_0, scM0_1, scM0_2, scM0_3, owns_whole]; try rfl

/-- The second buffer of products: nothing is known of it before the second point has run. -/
def UB (c : Dev nD) (n : ℕ) : sProp 𝕄 :=
  if n ≤ 1 then iprop(∃ d, ow c scM0_2 d) else ow c scM0_2 (stAt m c n).ub

theorem UB_early (c : Dev nD) (n : ℕ) (h : n ≤ 1) : UB m c n = iprop(∃ d, ow c scM0_2 d) := if_pos h
theorem UB_late (c : Dev nD) (n : ℕ) (h : ¬ n ≤ 1) : UB m c n = ow c scM0_2 (stAt m c n).ub := if_neg h
theorem UB_any (c : Dev nD) (n : ℕ) : UB m c n ⊢ iprop(∃ d, ow c scM0_2 d) := by
  by_cases h : n ≤ 1
  · rw [UB_early m c n h]; try exact Idealize.SL.BI.Entails.refl _
  · rw [UB_late m c n h]
    iintro H
    iexists _; iexact H

/-- Between points: before the first, anything; afterwards what the points so far have left. -/
def PhiS (c : Dev nD) : (n : ℕ) → n ≤ cfg0.N → sProp 𝕄
  | 0, _ => Pipeline.ΦA spec0 c
  | n + 1, _ => iprop(iprop(ow c scM0_0 (stAt m c (n + 1)).h ∗ ow c scM0_1 (stAt m c (n + 1)).ua
      ∗ UB m c (n + 1) ∗ ow c scM0_3 (stAt m c (n + 1)).tl) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(ow c scM0_0 (stAt m c n).h ∗ ow c scM0_1 (stAt m c n).ua
      ∗ UB m c n ∗ ow c scM0_3 (stAt m c n).tl) ∗ (∃ r, prngReg c r)) := by
  cases n with
  | zero => exact absurd rfl hz
  | succ n => rfl

theorem PhiS_any (c : Dev nD) (n : ℕ) (h : n ≤ cfg0.N) : PhiS m c n h ⊢ Pipeline.ΦA spec0 c := by
  by_cases hz : n = 0
  · rw [PhiS_zero m c n h hz]; try exact Idealize.SL.BI.Entails.refl _
  · rw [PhiS_pos m c n h hz, PhiA0_eq]
    iintro ⟨⟨H0, H1, H2, H3⟩, Hg⟩
    isplitr [Hg]
    · isplitl [H0]; · iexists _; iexact H0
      isplitl [H1]; · iexists _; iexact H1
      isplitl [H2]; · iapply (UB_any m c n); iexact H2
      iexists _; iexact H3
    iexact Hg

/-- The proof data of the pipeline: inputs stay at their blocks, the result's buffer as stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c (t.val + 1)).o
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (stAt m c (t.val + 1)).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Every point stores into the result's buffer. -/
theorem live8 : ∀ i : grid0.Coords, cfg0.idle 8 i = false :=
  (by decide +kernel : ∀ i : grid0.Coords, idle0 8 i = false)

theorem leaves0_8 (c : Dev nD) (t : Fin cfg0.N) :
    (dats m 0 c).leavesExact 8 t = ow c ((cfg0.win 8).stage (cfg0.slots t 8)) (stAt m c (t.val + 1)).o := by
  have hi : cfg0.idle 8 (cfg0.grid.coords t) = false := live8 _
  unfold Dat.leavesExact; rw [hi, after0_8]

/-- Past a tile's first step the result's buffer is found as the step before left it. -/
theorem before0_8 (c : Dev nD) (t : Fin cfg0.N) (h : t.val % 12 ≠ 0) (d) : (dats m 0 c).before 8 t d = (stAt m c t.val).o := by
  have hz : t.val ≠ 0 := by omega
  have hp : t.val - 1 < cfg0.N := lt_of_le_of_lt (Nat.sub_le _ _) t.isLt
  have hfl : (cfg0.win 8).flush ⟨t.val - 1, hp⟩ = false := by
    rw [Bool.eq_false_iff]; intro hf
    have := (flush0_8 ⟨t.val - 1, hp⟩).mp hf
    dsimp only at this
    omega
  rw [(dats m 0 c).before_out_kept 8 rfl t hz hfl live8 (fun _ _ => rfl) d, after0_8]
  dsimp only
  rw [Nat.sub_add_cancel (Nat.pos_of_ne_zero hz)]

/-! ## The body obligation -/

abbrev ms0_0 (t : Fin cfg0.N) : Memref sig .tc .vmem S512x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1x2048x512 .bf16 := win0_3.stage (cfg0.slots t 3)
abbrev ms0_4 (t : Fin cfg0.N) : Memref sig .tc .vmem S1x2048x512 .bf16 := win0_4.stage (cfg0.slots t 4)
abbrev ms0_5 (t : Fin cfg0.N) : Memref sig .tc .vmem S22x3x512 .f32 := win0_5.stage (cfg0.slots t 5)
abbrev ms0_6 (t : Fin cfg0.N) : Memref sig .tc .vmem S22x1x512 .f32 := win0_6.stage (cfg0.slots t 6)
abbrev ms0_7 (t : Fin cfg0.N) : Memref sig .tc .vmem S1x512x2048 .bf16 := win0_7.stage (cfg0.slots t 7)
abbrev ms0_8 (t : Fin cfg0.N) : Memref sig .tc .vmem S512x2048 .f32 := win0_8.stage (cfg0.slots t 8)

/-- What the body is called with at a point. -/
def bodyPre (c : Dev nD) (t : Fin cfg0.N) : sProp 𝕄 :=
  iprop((dats m 0 c).Φ t.castSucc ∗ (dats m 0 c).owesAt () t.castSucc
    ∗ (∃ d, ow c (ms0_0 t) ((dats m 0 c).before 0 t d))
    ∗ (∃ d, ow c (ms0_1 t) ((dats m 0 c).before 1 t d))
    ∗ (∃ d, ow c (ms0_2 t) ((dats m 0 c).before 2 t d))
    ∗ (∃ d, ow c (ms0_3 t) ((dats m 0 c).before 3 t d))
    ∗ (∃ d, ow c (ms0_4 t) ((dats m 0 c).before 4 t d))
    ∗ (∃ d, ow c (ms0_5 t) ((dats m 0 c).before 5 t d))
    ∗ (∃ d, ow c (ms0_6 t) ((dats m 0 c).before 6 t d))
    ∗ (∃ d, ow c (ms0_7 t) ((dats m 0 c).before 7 t d))
    ∗ (∃ d, ow c (ms0_8 t) ((dats m 0 c).before 8 t d)))

/-- What it returns. -/
def bodyPost (c : Dev nD) (t : Fin cfg0.N) : sProp 𝕄 :=
  iprop((dats m 0 c).Φ t.succ ∗ (dats m 0 c).owesAt () t.succ
    ∗ ow c (ms0_0 t) ((dats m 0 c).after 0 t)
    ∗ ow c (ms0_1 t) ((dats m 0 c).after 1 t)
    ∗ ow c (ms0_2 t) ((dats m 0 c).after 2 t)
    ∗ ow c (ms0_3 t) ((dats m 0 c).after 3 t)
    ∗ ow c (ms0_4 t) ((dats m 0 c).after 4 t)
    ∗ ow c (ms0_5 t) ((dats m 0 c).after 5 t)
    ∗ ow c (ms0_6 t) ((dats m 0 c).after 6 t)
    ∗ ow c (ms0_7 t) ((dats m 0 c).after 7 t)
    ∗ (dats m 0 c).leavesExact 8 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, leaves0_8]
  rw [show (dats m 0 c).Φ t.succ = PhiS m c (t.val + 1) t.isLt from rfl, PhiS_pos m c (t.val + 1) _ (Nat.succ_ne_zero _), PhiS_castSucc m c t]
  by_cases h0 : t.val % 12 = 0
  · by_cases hz : t.val = 0
    · rw [PhiS_zero m c _ _ hz, PhiA0_eq, UB_early m c (t.val + 1) (by omega), stAt_first m c t h0, if_pos hz]
      dsimp only
      iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_A0 c (grid0.coords t) _ _ _ _ _ _ _ _ _ _ _ _ _ _ _ _ _ _ _ _ _ _ _ _ _ _ ((hcondI t).mpr (by omega)) ((hcond1 t).mpr h0) (fun h => by have := (hcond3 t).mp h; omega) (fun h => by have := (hcond4 t).mp h; omega) (fun h => by have := (hcond5 t).mp h; omega) (iblk m c 0 t) (iblk m c 1 t) (iblk m c 3 t) (iblk m c 4 t) Set.univ _)
      isplitl [H0]; iexact H0; isplitl [H1]; iexact H1; isplitl [H3]; iexact H3; isplitl [H4]; iexact H4; isplitl [H8]; · iexists _; iexact H8
      isplitl [S0]; iexact S0; isplitl [S1]; iexact S1; isplitl [S3]; · iexact S3
      iintro ⟨H0, H1, H3, H4, H8, S0, S1, S3⟩
      isplitl [S0 S1 S2 S3 Hg]
      · isplitr [Hg]
        · isplitl [S0]; iexact S0; isplitl [S1]; iexact S1; isplitl [S2]; iexact S2; iexact S3
        iexact Hg
      isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8
    · rw [PhiS_pos m c _ _ hz, UB_late m c t.val (by omega), UB_late m c (t.val + 1) (by omega), stAt_first m c t h0, if_neg hz]
      dsimp only
      iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_A c (grid0.coords t) _ _ _ _ _ _ _ _ _ _ _ _ _ _ _ _ _ _ _ _ _ _ _ _ _ _ (fun h => by have := (hcondI t).mp h; omega) ((hcond1 t).mpr h0) (fun h => by have := (hcond3 t).mp h; omega) (fun h => by have := (hcond4 t).mp h; omega) (fun h => by have := (hcond5 t).mp h; omega) (iblk m c 0 t) (iblk m c 1 t) (iblk m c 3 t) (iblk m c 4 t) (stAt m c t.val).tl Set.univ _)
      isplitl [H0]; iexact H0; isplitl [H1]; iexact H1; isplitl [H3]; iexact H3; isplitl [H4]; iexact H4; isplitl [H8]; · iexists _; iexact H8
      isplitl [S0]; · iexists _; iexact S0
      isplitl [S1]; · iexists _; iexact S1
      isplitl [S3]; · iexact S3
      iintro ⟨H0, H1, H3, H4, H8, S0, S1, S3⟩
      isplitl [S0 S1 S2 S3 Hg]
      · isplitr [Hg]
        · isplitl [S0]; iexact S0; isplitl [S1]; iexact S1; isplitl [S2]; iexact S2; iexact S3
        iexact Hg
      isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8
  · simp only [before0_8 m c t h0]
    have hz : t.val ≠ 0 := by omega
    rw [PhiS_pos m c _ _ hz, UB_late m c (t.val + 1) (by omega)]
    by_cases h11 : t.val % 12 = 11
    · rw [UB_late m c t.val (by omega), stAt_last m c t h11]
      dsimp only
      iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_Z c (grid0.coords t) _ _ _ _ _ _ _ _ _ _ _ _ _ _ _ _ _ _ _ _ _ _ _ _ _ _ (fun h => h0 ((hcond1 t).mp h)) (fun h => by have := (hcond3 t).mp h; omega) (fun h => by have := (hcond4 t).mp h; omega) ((hcond5 t).mpr h11) (iblk m c 5 t) (iblk m c 6 t) (iblk m c 7 t) (stAt m c t.val).o (stAt m c t.val).ua Set.univ _)
      isplitl [H5]; iexact H5; isplitl [H6]; iexact H6; isplitl [H7]; iexact H7; isplitl [H8]; iexact H8; isplitl [S1]; · iexact S1
      iintro ⟨H5, H6, H7, H8, S1⟩
      isplitl [S0 S1 S2 S3 Hg]
      · isplitr [Hg]
        · isplitl [S0]; iexact S0; isplitl [S1]; iexact S1; isplitl [S2]; iexact S2; iexact S3
        iexact Hg
      isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8
    · by_cases hp : t.val % 2 = 0
      · rw [UB_late m c t.val (by omega), stAt_even m c t h0 h11 hp]
        dsimp only
        iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_M0 c (grid0.coords t) _ _ _ _ _ _ _ _ _ _ _ _ _ _ _ _ _ _ _ _ _ _ _ _ _ _ (fun h => h0 ((hcond1 t).mp h)) ((hcond3 t).mpr ⟨h0, h11, hp⟩) (fun h => by have := (hcond4 t).mp h; omega) (fun h => h11 ((hcond5 t).mp h)) (jj t) (jp t) (hoff1 t h11) (hoff2 t h11) (hoff3 t h0) (hoff3' t h0) (hoff4 t h0) (hoff4' t h0) (iblk m c 3 t) (iblk m c 4 t) (iblk m c 5 t) (iblk m c 6 t) (iblk m c 7 t) (stAt m c t.val).o (stAt m c t.val).h (stAt m c t.val).ub (stAt m c t.val).tl Set.univ _)
        isplitl [H3]; iexact H3; isplitl [H4]; iexact H4; isplitl [H5]; iexact H5; isplitl [H6]; iexact H6; isplitl [H7]; iexact H7; isplitl [H8]; iexact H8; isplitl [S0]; iexact S0; isplitl [S1]; · iexists _; iexact S1
        isplitl [S2]; iexact S2; isplitl [S3]; · iexact S3
        iintro ⟨H3, H4, H5, H6, H7, H8, S0, S1, S2, S3⟩
        isplitl [S0 S1 S2 S3 Hg]
        · isplitr [Hg]
          · isplitl [S0]; iexact S0; isplitl [S1]; iexact S1; isplitl [S2]; iexact S2; iexact S3
          iexact Hg
        isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8
      · refine (sep_mono_left (sep_mono_left (sep_mono_right (sep_mono_right (sep_mono_left (UB_any m c t.val)))))).trans ?_
        rw [stAt_odd m c t h0 h11 (by omega)]
        dsimp only
        iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_M1 c (grid0.coords t) _ _ _ _ _ _ _ _ _ _ _ _ _ _ _ _ _ _ _ _ _ _ _ _ _ _ (fun h => h0 ((hcond1 t).mp h)) (fun h => by have := (hcond3 t).mp h; omega) ((hcond4 t).mpr ⟨h0, h11, by omega⟩) (fun h => h11 ((hcond5 t).mp h)) (jj t) (jp t) (hoff1 t h11) (hoff2 t h11) (hoff3 t h0) (hoff3' t h0) (hoff4 t h0) (hoff4' t h0) (iblk m c 3 t) (iblk m c 4 t) (iblk m c 5 t) (iblk m c 6 t) (iblk m c 7 t) (stAt m c t.val).o (stAt m c t.val).h (stAt m c t.val).ua (stAt m c t.val).tl Set.univ _)
        isplitl [H3]; iexact H3; isplitl [H4]; iexact H4; isplitl [H5]; iexact H5; isplitl [H6]; iexact H6; isplitl [H7]; iexact H7; isplitl [H8]; iexact H8; isplitl [S0]; iexact S0; isplitl [S1]; iexact S1; isplitl [S2]; iexact S2; isplitl [S3]; · iexact S3
        iintro ⟨H3, H4, H5, H6, H7, H8, S0, S1, S2, S3⟩
        isplitl [S0 S1 S2 S3 Hg]
        · isplitr [Hg]
          · isplitl [S0]; iexact S0; isplitl [S1]; iexact S1; isplitl [S2]; iexact S2; iexact S3
          iexact Hg
        isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnIdeal.Hand

end
-- ==== Proof.FfnKer.lean ====
module

public import proofs.«01_k».proof.Defs
public import proofs.«01_k».proof.Proof.Real
public import proofs.«01_k».proof.Proof.FfnIdealHand
public import proofs.«01_k».proof.Proof.Gen.FfnRefIdeal.Run

@[expose] public section

set_option maxRecDepth 16384

noncomputable section

open Idealize.ShloMosaic Idealize.ShloMosaic.TcCoe Idealize.SL.Sem
open Idealize.ShloMosaic.Pipeline (Dat)
open scoped BigOperators

namespace Cert.FfnIdeal.Spec

open Cert.FfnIdeal Cert.FfnIdeal.Gen Cert.FfnIdeal.Hand Cert.Proof

/-! Short names for the types of the arrays as functions. -/
abbrev UFk0 := S32768x2048.Idx → EReal

/-! Short names for the types of the arrays. -/
abbrev TK0 := Vec Ideal S1x2048x512 .bf16
abbrev TK1 := Vec Ideal S512x2048 .f32
abbrev TK2 := Vec Ideal S512x2048 .bf16
abbrev TK3 := Vec Ideal S1x2048 .f32
abbrev TK4 := Vec Ideal S2x11x8x512 .f32
abbrev TK5 := Vec Ideal S1x512x2048 .bf16
abbrev TK6 := Vec Ideal S22x3x512 .f32
abbrev TK7 := Vec Ideal S22x1x512 .f32
abbrev TK8 := Vec Ideal S2x520x512 .f32
abbrev TK9 := Vec Ideal S256x2048 .bf16
abbrev TK10 := Vec Ideal S1x1x8x512 .f32

/-! ## The body's operations, entry by entry -/

/-- The gate: `z / (1 + exp (-z))`. -/
def sil (z : EReal) : EReal := z * Ideal.div 1 (1 + Ideal.exp (0 - z))

theorem pay4_apply (x : Vec Ideal S256x2048 .f32) (g : TK3) (r : Fin 256) (k : Fin 2048) :
    k0_pay4 x g (ix2 r k) = nrm (fun k => x (ix2 r k)) (fun k => g (ix2 0 k)) k := by
  unfold k0_pay4
  pointwise
  rfl

theorem pay13_apply (x : Vec Ideal S256x2048 .f32) (g : TK3) (r : Fin 256) (k : Fin 2048) :
    k0_pay13 x (k0_pay11 g) (k0_pay12 x) (ix2 r k) = nrm (fun k => x (ix2 r k)) (fun k => g (ix2 0 k)) k := by
  unfold k0_pay13 k0_pay11 k0_pay12
  pointwise
  rfl

theorem pay8_apply (h : TK9) (w : TK0) (r : Fin 256) (n : Fin 512) :
    k0_pay8 (k0_pay5 h w) (ix3 0 r n) = ∑ k, h (ix2 r k) * w (ix3 0 k n) := by
  unfold k0_pay8 k0_pay5
  pointwise

theorem pay10_apply (h : TK9) (w : TK0) (r : Fin 256) (n : Fin 512) :
    k0_pay10 h w (ix3 0 r n) = ∑ k, h (ix2 r k) * w (ix3 0 k n) := by
  unfold k0_pay10
  pointwise

theorem pay15_apply (h : TK9) (w : TK0) (r : Fin 256) (n : Fin 512) :
    k0_pay15 h w (ix3 0 r n) = ∑ k, h (ix2 r k) * w (ix3 0 k n) := by
  unfold k0_pay15 k0_pay14
  pointwise

theorem pay18_apply (h : TK9) (w : TK0) (r : Fin 256) (n : Fin 512) :
    k0_pay18 h w (ix3 0 r n) = ∑ k, h (ix2 r k) * w (ix3 0 k n) := by
  unfold k0_pay18 k0_pay17
  pointwise

theorem pay16_apply (h : TK9) (w : TK0) (r : Fin 8) (n : Fin 512) :
    k0_pay16 h w (ix4 0 0 r n) = ∑ k, h (ix2 ⟨248 + r.val, by omega⟩ k) * w (ix3 0 k n) := by
  unfold k0_pay16 k0_pay14
  pointwise

theorem pay59_apply (h : TK9) (w : TK0) (r : Fin 8) (n : Fin 512) :
    k0_pay59 (k0_pay19 h w) (ix4 0 0 r n) = ∑ k, h (ix2 ⟨248 + r.val, by omega⟩ k) * w (ix3 0 k n) := by
  unfold k0_pay59 k0_pay19 k0_pay17
  pointwise

theorem pay22_apply (h : TK2) (w : TK0) (r : Fin 512) (n : Fin 512) :
    k0_pay22 h w (ix3 0 r n) = ∑ k, h (ix2 r k) * w (ix3 0 k n) := by
  unfold k0_pay22 k0_pay20
  pointwise

theorem pay27_apply (h : TK2) (w : TK0) (r : Fin 512) (n : Fin 512) :
    k0_pay27 (k0_pay24 h w) (ix3 0 r n) = ∑ k, h (ix2 r k) * w (ix3 0 k n) := by
  unfold k0_pay27 k0_pay24
  pointwise

theorem pay23_apply (h : TK2) (w : TK0) (r : Fin 8) (n : Fin 512) :
    k0_pay23 h w (ix4 0 0 r n) = ∑ k, h (ix2 ⟨504 + r.val, by omega⟩ k) * w (ix3 0 k n) := by
  unfold k0_pay23 k0_pay20
  pointwise

theorem pay28_apply (h : TK2) (w : TK0) (r : Fin 8) (n : Fin 512) :
    k0_pay28 (k0_pay24 h w) (ix4 0 0 r n) = ∑ k, h (ix2 ⟨504 + r.val, by omega⟩ k) * w (ix3 0 k n) := by
  unfold k0_pay28 k0_pay24
  pointwise

theorem pay7_apply (v : BitVec 1) (x : TK10) (s : Fin 8) (n : Fin 512) :
    k0_pay7 (k0_pay6 v x) (ix3 0 s n) = if v = 1#1 then 0 else x (ix4 0 0 s n) := by
  unfold k0_pay7 k0_pay6
  by_cases h : v = 1#1
  · subst h; rw [if_pos rfl]; simp only [Scalar.select]; pointwise; rfl
  · have h' : ¬ v = 1 := h
    simp only [Scalar.select, if_neg h, if_neg h']; pointwise

theorem pay9_apply (v : BitVec 1) (x : TK10) (s : Fin 8) (n : Fin 512) :
    k0_pay9 v x (ix3 0 s n) = if v = 1#1 then 0 else x (ix4 0 0 s n) := by
  unfold k0_pay9
  by_cases h : v = 1#1
  · subst h; rw [if_pos rfl]; simp only [Scalar.select]; pointwise; rfl
  · have h' : ¬ v = 1 := h
    simp only [Scalar.select, if_neg h, if_neg h']; pointwise

theorem pay21_apply (v : BitVec 1) (x : TK10) (s : Fin 8) (n : Fin 512) :
    k0_pay21 v x (ix3 0 s n) = if v = 1#1 then 0 else x (ix4 0 0 s n) := by
  unfold k0_pay21
  by_cases h : v = 1#1
  · subst h; rw [if_pos rfl]; simp only [Scalar.select]; pointwise; rfl
  · have h' : ¬ v = 1 := h
    simp only [Scalar.select, if_neg h, if_neg h']; pointwise

theorem pay26_apply (v : BitVec 1) (x : TK10) (s : Fin 8) (n : Fin 512) :
    k0_pay26 (k0_pay25 v x) (ix3 0 s n) = if v = 1#1 then 0 else x (ix4 0 0 s n) := by
  unfold k0_pay26 k0_pay25
  by_cases h : v = 1#1
  · subst h; rw [if_pos rfl]; simp only [Scalar.select]; pointwise; rfl
  · have h' : ¬ v = 1 := h
    simp only [Scalar.select, if_neg h, if_neg h']; pointwise

/-- One entry of the convolution: the bias and the three weighted rows. -/
def cv (w0 w1 w2 b p q s : EReal) : EReal := b + w2 * p + w0 * q + w1 * s

theorem payM_apply (w w' : Vec Ideal S1x3x512 .f32) (b b' : Vec Ideal S1x1x512 .f32) (p q s p' q' s' : Vec Ideal S1x512x512 .f32)
    (o : TK1) (wd : TK5) (r : Fin 512) (d : Fin 2048) :
    k0_pay60 (k0_pay32 (k0_pay30 w b p q) (k0_pay31 w) s w' b' p' q' s') o wd (ix2 r d)
      = o (ix2 r d) + ∑ k : Fin 512, (sil (cv (w (ix3 0 0 k)) (w (ix3 0 1 k)) (w (ix3 0 2 k)) (b (ix3 0 0 k)) (p (ix3 0 r k)) (q (ix3 0 r k)) (s (ix3 0 r k)))
          * cv (w' (ix3 0 0 k)) (w' (ix3 0 1 k)) (w' (ix3 0 2 k)) (b' (ix3 0 0 k)) (p' (ix3 0 r k)) (q' (ix3 0 r k)) (s' (ix3 0 r k))) * wd (ix3 0 k d) := by
  unfold k0_pay60 k0_pay32 k0_pay30 k0_pay31 k0_pay29
  pointwise
  rfl

theorem payZ0_apply (w w' : Vec Ideal S1x3x512 .f32) (b b' : Vec Ideal S1x1x512 .f32) (p q s p' q' s' : Vec Ideal S1x256x512 .f32)
    (o : Vec Ideal S256x2048 .f32) (wd : TK5) (r : Fin 256) (d : Fin 2048) :
    k0_pay50 (k0_pay46 w b p q s) (k0_pay47 w') (k0_pay48 b') (k0_pay49 w') p' q' s' o wd (ix2 r d)
      = o (ix2 r d) + ∑ k : Fin 512, (sil (cv (w (ix3 0 0 k)) (w (ix3 0 1 k)) (w (ix3 0 2 k)) (b (ix3 0 0 k)) (p (ix3 0 r k)) (q (ix3 0 r k)) (s (ix3 0 r k)))
          * cv (w' (ix3 0 0 k)) (w' (ix3 0 1 k)) (w' (ix3 0 2 k)) (b' (ix3 0 0 k)) (p' (ix3 0 r k)) (q' (ix3 0 r k)) (s' (ix3 0 r k))) * wd (ix3 0 k d) := by
  unfold k0_pay50 k0_pay46 k0_pay49 k0_pay47 k0_pay48
  pointwise
  rfl

theorem payZ1_apply (w w' : Vec Ideal S1x3x512 .f32) (b b' : Vec Ideal S1x1x512 .f32) (p q s p' q' s' : Vec Ideal S1x256x512 .f32)
    (o : Vec Ideal S256x2048 .f32) (wd : TK5) (r : Fin 256) (d : Fin 2048) :
    k0_pay2 (k0_pay54 (k0_pay51 w) (k0_pay52 b) (k0_pay53 w) p q s) (k0_pay55 w') (k0_pay56 w' b' p') (k0_pay57 w') (k0_pay58 q') s' o wd (ix2 r d)
      = o (ix2 r d) + ∑ k : Fin 512, (sil (cv (w (ix3 0 0 k)) (w (ix3 0 1 k)) (w (ix3 0 2 k)) (b (ix3 0 0 k)) (p (ix3 0 r k)) (q (ix3 0 r k)) (s (ix3 0 r k)))
          * cv (w' (ix3 0 0 k)) (w' (ix3 0 1 k)) (w' (ix3 0 2 k)) (b' (ix3 0 0 k)) (p' (ix3 0 r k)) (q' (ix3 0 r k)) (s' (ix3 0 r k))) * wd (ix3 0 k d) := by
  unfold k0_pay2 k0_pay54 k0_pay53 k0_pay51 k0_pay52 k0_pay56 k0_pay57 k0_pay55 k0_pay58
  pointwise
  rfl

/-! ## Where the body's rectangles lie -/

theorem ldu (u : Vec Ideal S2x520x512 .f32) {R : Rect S2x520x512} {z} {w : S2x520x512.Idx} (h : R.emb z = w) : View.ld u R z = u w := congrArg u h

theorem emb3 {K a o : ℕ} (inb : ∀ b, (![a, o, 0] : Fin 3 → ℕ) b + (![1, K, 512] : Fin 3 → ℕ) b ≤ S2x520x512.size b) (r : Fin K) (n : Fin 512) (a' : Fin 2) (z : Fin 520) (ha : a'.val = a) (hz : z.val = o + r.val) :
    (Rect.unit (s := S2x520x512) ![a, o, 0] ![1, K, 512] inb).emb (ix3 0 r n) = (ix3 a' z n : S2x520x512.Idx) := by
  funext b; apply Fin.ext
  fin_cases b
  · show a + 1 * 0 = a'.val; omega
  · show o + 1 * r.val = z.val; omega
  · show 0 + 1 * n.val = n.val; omega

theorem emb_u0_t (s : Fin 8) (n : Fin 512) :
    (Rect.unit _ _ inb_S2x520x512_S1x8x512_0_0_0).emb (ix3 0 s n) = (ix3 0 ⟨s.val, by omega⟩ n : S2x520x512.Idx) := emb3 _ s n _ _ rfl (by dsimp only <;> omega)

theorem emb_u0_m (r : Fin 512) (n : Fin 512) :
    (Rect.unit _ _ inb_S2x520x512_S1x512x512_0_8_0).emb (ix3 0 r n) = (ix3 0 ⟨8 + r.val, by omega⟩ n : S2x520x512.Idx) := emb3 _ r n _ _ rfl (by dsimp only <;> omega)

theorem emb_u0_h8_0 (r : Fin 256) (n : Fin 512) :
    (Rect.unit _ _ inb_S2x520x512_S1x256x512_0_8_0).emb (ix3 0 r n) = (ix3 0 ⟨8 + (0 + r.val), by omega⟩ n : S2x520x512.Idx) := emb3 _ r n _ _ rfl (by dsimp only <;> omega)

theorem emb_u0_h8_256 (r : Fin 256) (n : Fin 512) :
    (Rect.unit _ _ inb_S2x520x512_S1x256x512_0_264_0).emb (ix3 0 r n) = (ix3 0 ⟨8 + (256 + r.val), by omega⟩ n : S2x520x512.Idx) := emb3 _ r n _ _ rfl (by dsimp only <;> omega)

theorem emb_u0_m7 (r : Fin 512) (n : Fin 512) :
    (Rect.unit _ _ inb_S2x520x512_S1x512x512_0_7_0).emb (ix3 0 r n) = (ix3 0 ⟨7 + r.val, by omega⟩ n : S2x520x512.Idx) := emb3 _ r n _ _ rfl (by dsimp only <;> omega)

theorem emb_u0_h7_0 (r : Fin 256) (n : Fin 512) :
    (Rect.unit _ _ inb_S2x520x512_S1x256x512_0_7_0).emb (ix3 0 r n) = (ix3 0 ⟨7 + (0 + r.val), by omega⟩ n : S2x520x512.Idx) := emb3 _ r n _ _ rfl (by dsimp only <;> omega)

theorem emb_u0_h7_256 (r : Fin 256) (n : Fin 512) :
    (Rect.unit _ _ inb_S2x520x512_S1x256x512_0_263_0).emb (ix3 0 r n) = (ix3 0 ⟨7 + (256 + r.val), by omega⟩ n : S2x520x512.Idx) := emb3 _ r n _ _ rfl (by dsimp only <;> omega)

theorem emb_u0_m6 (r : Fin 512) (n : Fin 512) :
    (Rect.unit _ _ inb_S2x520x512_S1x512x512_0_6_0).emb (ix3 0 r n) = (ix3 0 ⟨6 + r.val, by omega⟩ n : S2x520x512.Idx) := emb3 _ r n _ _ rfl (by dsimp only <;> omega)

theorem emb_u0_h6_0 (r : Fin 256) (n : Fin 512) :
    (Rect.unit _ _ inb_S2x520x512_S1x256x512_0_6_0).emb (ix3 0 r n) = (ix3 0 ⟨6 + (0 + r.val), by omega⟩ n : S2x520x512.Idx) := emb3 _ r n _ _ rfl (by dsimp only <;> omega)

theorem emb_u0_h6_256 (r : Fin 256) (n : Fin 512) :
    (Rect.unit _ _ inb_S2x520x512_S1x256x512_0_262_0).emb (ix3 0 r n) = (ix3 0 ⟨6 + (256 + r.val), by omega⟩ n : S2x520x512.Idx) := emb3 _ r n _ _ rfl (by dsimp only <;> omega)

theorem emb_u1_t (s : Fin 8) (n : Fin 512) :
    (Rect.unit _ _ inb_S2x520x512_S1x8x512_1_0_0).emb (ix3 0 s n) = (ix3 1 ⟨s.val, by omega⟩ n : S2x520x512.Idx) := emb3 _ s n _ _ rfl (by dsimp only <;> omega)

theorem emb_u1_m (r : Fin 512) (n : Fin 512) :
    (Rect.unit _ _ inb_S2x520x512_S1x512x512_1_8_0).emb (ix3 0 r n) = (ix3 1 ⟨8 + r.val, by omega⟩ n : S2x520x512.Idx) := emb3 _ r n _ _ rfl (by dsimp only <;> omega)

theorem emb_u1_h8_0 (r : Fin 256) (n : Fin 512) :
    (Rect.unit _ _ inb_S2x520x512_S1x256x512_1_8_0).emb (ix3 0 r n) = (ix3 1 ⟨8 + (0 + r.val), by omega⟩ n : S2x520x512.Idx) := emb3 _ r n _ _ rfl (by dsimp only <;> omega)

theorem emb_u1_h8_256 (r : Fin 256) (n : Fin 512) :
    (Rect.unit _ _ inb_S2x520x512_S1x256x512_1_264_0).emb (ix3 0 r n) = (ix3 1 ⟨8 + (256 + r.val), by omega⟩ n : S2x520x512.Idx) := emb3 _ r n _ _ rfl (by dsimp only <;> omega)

theorem emb_u1_m7 (r : Fin 512) (n : Fin 512) :
    (Rect.unit _ _ inb_S2x520x512_S1x512x512_1_7_0).emb (ix3 0 r n) = (ix3 1 ⟨7 + r.val, by omega⟩ n : S2x520x512.Idx) := emb3 _ r n _ _ rfl (by dsimp only <;> omega)

theorem emb_u1_h7_0 (r : Fin 256) (n : Fin 512) :
    (Rect.unit _ _ inb_S2x520x512_S1x256x512_1_7_0).emb (ix3 0 r n) = (ix3 1 ⟨7 + (0 + r.val), by omega⟩ n : S2x520x512.Idx) := emb3 _ r n _ _ rfl (by dsimp only <;> omega)

theorem emb_u1_h7_256 (r : Fin 256) (n : Fin 512) :
    (Rect.unit _ _ inb_S2x520x512_S1x256x512_1_263_0).emb (ix3 0 r n) = (ix3 1 ⟨7 + (256 + r.val), by omega⟩ n : S2x520x512.Idx) := emb3 _ r n _ _ rfl (by dsimp only <;> omega)

theorem emb_u1_m6 (r : Fin 512) (n : Fin 512) :
    (Rect.unit _ _ inb_S2x520x512_S1x512x512_1_6_0).emb (ix3 0 r n) = (ix3 1 ⟨6 + r.val, by omega⟩ n : S2x520x512.Idx) := emb3 _ r n _ _ rfl (by dsimp only <;> omega)

theorem emb_u1_h6_0 (r : Fin 256) (n : Fin 512) :
    (Rect.unit _ _ inb_S2x520x512_S1x256x512_1_6_0).emb (ix3 0 r n) = (ix3 1 ⟨6 + (0 + r.val), by omega⟩ n : S2x520x512.Idx) := emb3 _ r n _ _ rfl (by dsimp only <;> omega)

theorem emb_u1_h6_256 (r : Fin 256) (n : Fin 512) :
    (Rect.unit _ _ inb_S2x520x512_S1x256x512_1_262_0).emb (ix3 0 r n) = (ix3 1 ⟨6 + (256 + r.val), by omega⟩ n : S2x520x512.Idx) := emb3 _ r n _ _ rfl (by dsimp only <;> omega)

theorem emb_x_0 (r : Fin 256) (n : Fin 2048) :
    (Rect.unit _ _ inb_S512x2048_S256x2048_0_0).emb (ix2 r n) = (ix2 ⟨0 + r.val, by omega⟩ n : S512x2048.Idx) := by
  funext b; apply Fin.ext
  fin_cases b
  · show 0 + 1 * (r.val) = 0 + r.val; omega
  · show 0 + 1 * (n.val) = n.val; omega

theorem emb_x_256 (r : Fin 256) (n : Fin 2048) :
    (Rect.unit _ _ inb_S512x2048_S256x2048_256_0).emb (ix2 r n) = (ix2 ⟨256 + r.val, by omega⟩ n : S512x2048.Idx) := by
  funext b; apply Fin.ext
  fin_cases b
  · show 256 + 1 * (r.val) = 256 + r.val; omega
  · show 0 + 1 * (n.val) = n.val; omega

theorem ix3_of (n1 n2 : ℕ) (y : (⟨3, ![1, n1, n2]⟩ : Shape).Idx) : ∃ (r : Fin n1) (n : Fin n2), y = ix3 0 r n :=
  ⟨y 1, y 2, (eq_ix3 y).trans (congrArg (fun a => ix3 a (y 1) (y 2)) (Subsingleton.elim (α := Fin 1) _ _))⟩

/-! ## The buffers after a step, entry by entry -/

/-- A normalized row times a column of a weight block. -/
def dotp (h : TK2) (w : TK0) (r : Fin 512) (n : Fin 512) : EReal :=
  ∑ k, h (ix2 r k) * w (ix3 0 k n)

/-- A step's two products, with the rows kept from the tile before on top. -/
def GU (v : BitVec 1) (h : TK2) (wg wu : TK0) (tl : TK4) (j : Fin 11) : S2x520x512.Idx → EReal := fun y =>
  if hs : (y 1).val < 8 then (if v = 1#1 then 0 else tl (ix4 (y 0) j ⟨(y 1).val, hs⟩ (y 2)))
  else dotp h (if (y 0).val = 0 then wg else wu) ⟨(y 1).val - 8, by have : (y 1).val < 520 := (y 1).isLt; omega⟩ (y 2)

theorem GU_top (v : BitVec 1) (h : TK2) (wg wu : TK0) (tl : TK4) (j : Fin 11)
    (a : Fin 2) (s : Fin 8) (hs : s.val < 520) (n : Fin 512) : GU v h wg wu tl j (ix3 a ⟨s.val, hs⟩ n) = if v = 1#1 then 0 else tl (ix4 a j s n) := by
  unfold GU
  exact dif_pos s.isLt

theorem GU_main (v : BitVec 1) (h : TK2) (wg wu : TK0) (tl : TK4) (j : Fin 11)
    (a : Fin 2) (r : Fin 512) (q : Fin 520) (hq : q.val = 8 + r.val) (n : Fin 512) :
    GU v h wg wu tl j (ix3 a q n) = dotp h (if a.val = 0 then wg else wu) r n := by
  unfold GU
  have hn : ¬ ((ix3 a q n : S2x520x512.Idx) 1).val < 8 := by show ¬ q.val < 8; omega
  rw [dif_neg hn]
  refine congrArg (fun r' => dotp h (if a.val = 0 then wg else wu) r' n) (Fin.ext ?_)
  show q.val - 8 = r.val
  omega

theorem uM_eq (v : BitVec 1) (h : TK2) (wg wu : TK0) (tl : TK4) (j : Fin 11) :
    uM v h wg wu tl j = GU v h wg wu tl j := by
  funext y
  unfold uM
  refine View.canon_apply_of_pieces (Val := Elt Ideal) (e := .f32) (GU v h wg wu tl j) _ ?_ y (View.cover_of_tiledBy _ ![1, 8, 512] (by sl_kernel_rfl) y)
  intro p hp
  simp only [List.mem_cons, List.not_mem_nil, or_false] at hp
  rcases hp with rfl | rfl | rfl | rfl
  · intro x
    obtain ⟨r, n, rfl⟩ := ix3_of 512 512 x
    exact (pay27_apply h wu r n).trans ((congrArg _ (emb_u1_m r n)).trans (GU_main v h wg wu tl j 1 r _ rfl n)).symm
  · intro x
    obtain ⟨r, n, rfl⟩ := ix3_of 8 512 x
    exact (pay26_apply v _ r n).trans ((congrArg _ (emb_u1_t r n)).trans (GU_top v h wg wu tl j 1 r _ n)).symm
  · intro x
    obtain ⟨r, n, rfl⟩ := ix3_of 512 512 x
    exact (pay22_apply h wg r n).trans ((congrArg _ (emb_u0_m r n)).trans (GU_main v h wg wu tl j 0 r _ rfl n)).symm
  · intro x
    obtain ⟨r, n, rfl⟩ := ix3_of 8 512 x
    exact (pay21_apply v _ r n).trans ((congrArg _ (emb_u0_t r n)).trans (GU_top v h wg wu tl j 0 r _ n)).symm

/-- The normalized rows of a tile. -/
def GH (x : TK1) (g : TK3) : S512x2048.Idx → EReal := fun y => nrm (fun k => x (ix2 (y 0) k)) (fun k => g (ix2 0 k)) (y 1)

theorem x0_apply (x : TK1) (r : Fin 256) (n : Fin 2048) : x0 x (ix2 r n) = x (ix2 ⟨0 + r.val, by omega⟩ n) := congrArg x (emb_x_0 r n)
theorem x1_apply (x : TK1) (r : Fin 256) (n : Fin 2048) : x1 x (ix2 r n) = x (ix2 ⟨256 + r.val, by omega⟩ n) := congrArg x (emb_x_256 r n)

theorem h0_apply (x : TK1) (g : TK3) (r : Fin 256) (n : Fin 2048) : h0 x g (ix2 r n) = GH x g (ix2 ⟨0 + r.val, by omega⟩ n) := by
  unfold h0
  rw [pay4_apply]
  simp only [x0_apply]
  rfl
theorem h1_apply (x : TK1) (g : TK3) (r : Fin 256) (n : Fin 2048) : h1 x g (ix2 r n) = GH x g (ix2 ⟨256 + r.val, by omega⟩ n) := by
  unfold h1
  rw [pay13_apply]
  simp only [x1_apply]
  rfl

theorem oA_eq (x : TK1) : oA x = x := by
  funext y
  unfold oA
  refine View.canon_apply_of_pieces (Val := Elt Ideal) (e := .f32) x _ ?_ y (View.cover_of_tiledL _ ![256, 2048] (by sl_kernel_rfl) y)
  intro p hp
  simp only [List.mem_cons, List.not_mem_nil, or_false] at hp
  rcases hp with rfl | rfl
  · intro z; rfl
  · intro z; rfl

theorem hA_eq (x : TK1) (g : TK3) : hA x g = GH x g := by
  funext y
  unfold hA
  refine View.canon_apply_of_pieces (Val := Elt Ideal) (e := .bf16) (GH x g) _ ?_ y (View.cover_of_tiledL _ ![256, 2048] (by sl_kernel_rfl) y)
  intro p hp
  simp only [List.mem_cons, List.not_mem_nil, or_false] at hp
  rcases hp with rfl | rfl
  · intro z
    obtain ⟨r, n, rfl⟩ : ∃ (r : Fin 256) (n : Fin 2048), z = ix2 r n := ⟨z 0, z 1, eq_ix2 z⟩
    exact (h1_apply x g r n).trans (congrArg _ (emb_x_256 r n)).symm
  · intro z
    obtain ⟨r, n, rfl⟩ : ∃ (r : Fin 256) (n : Fin 2048), z = ix2 r n := ⟨z 0, z 1, eq_ix2 z⟩
    exact (h0_apply x g r n).trans (congrArg _ (emb_x_0 r n)).symm

theorem dot0 (x : TK1) (g : TK3) (w : TK0) (r : Fin 256) (n : Fin 512) :
    (∑ k, h0 x g (ix2 r k) * w (ix3 0 k n)) = dotp (GH x g) w ⟨0 + r.val, by omega⟩ n := by
  simp only [h0_apply]; rfl
theorem dot1 (x : TK1) (g : TK3) (w : TK0) (r : Fin 256) (n : Fin 512) :
    (∑ k, h1 x g (ix2 r k) * w (ix3 0 k n)) = dotp (GH x g) w ⟨256 + r.val, by omega⟩ n := by
  simp only [h1_apply]; rfl

theorem uA_eq (v : BitVec 1) (x : TK1) (g : TK3) (wg wu : TK0) (tl : TK4) :
    uA v x g wg wu tl = GU v (GH x g) wg wu tl 0 := by
  funext y
  unfold uA
  refine View.canon_apply_of_pieces (Val := Elt Ideal) (e := .f32) (GU v (GH x g) wg wu tl 0) _ ?_ y (View.cover_of_tiledBy _ ![1, 8, 512] (by sl_kernel_rfl) y)
  intro p hp
  simp only [List.mem_cons, List.not_mem_nil, or_false] at hp
  rcases hp with rfl | rfl | rfl | rfl | rfl | rfl
  · intro z
    obtain ⟨r, n, rfl⟩ := ix3_of 256 512 z
    exact ((pay18_apply _ wu r n).trans (dot1 x g wu r n)).trans ((congrArg _ (emb_u1_h8_256 r n)).trans (GU_main v _ wg wu tl 0 1 ⟨256 + r.val, by omega⟩ _ rfl n)).symm
  · intro z
    obtain ⟨r, n, rfl⟩ := ix3_of 256 512 z
    exact ((pay15_apply _ wg r n).trans (dot1 x g wg r n)).trans ((congrArg _ (emb_u0_h8_256 r n)).trans (GU_main v _ wg wu tl 0 0 ⟨256 + r.val, by omega⟩ _ rfl n)).symm
  · intro z
    obtain ⟨r, n, rfl⟩ := ix3_of 256 512 z
    exact ((pay10_apply _ wu r n).trans (dot0 x g wu r n)).trans ((congrArg _ (emb_u1_h8_0 r n)).trans (GU_main v _ wg wu tl 0 1 ⟨0 + r.val, by omega⟩ _ rfl n)).symm
  · intro z
    obtain ⟨r, n, rfl⟩ := ix3_of 8 512 z
    exact (pay9_apply v _ r n).trans ((congrArg _ (emb_u1_t r n)).trans (GU_top v _ wg wu tl 0 1 r _ n)).symm
  · intro z
    obtain ⟨r, n, rfl⟩ := ix3_of 256 512 z
    exact ((pay8_apply _ wg r n).trans (dot0 x g wg r n)).trans ((congrArg _ (emb_u0_h8_0 r n)).trans (GU_main v _ wg wu tl 0 0 ⟨0 + r.val, by omega⟩ _ rfl n)).symm
  · intro z
    obtain ⟨r, n, rfl⟩ := ix3_of 8 512 z
    exact (pay7_apply v _ r n).trans ((congrArg _ (emb_u0_t r n)).trans (GU_top v _ wg wu tl 0 0 r _ n)).symm

/-- One slot of the kept products replaced. -/
theorem put_apply (tl : TK4) (a0 : Fin 2) (j0 : Fin 11) {off : Fin 4 → ℕ} (ho : off = ![a0.val, j0.val, 0, 0]) (w : TK10) (a : Fin 2) (j : Fin 11) (s : Fin 8) (n : Fin 512) :
    (VecWindow.put tl off S1x1x8x512.size w (ix4 a j s n) : EReal) = if a = a0 ∧ j = j0 then w (ix4 0 0 s n) else tl (ix4 a j s n) := by
  subst ho
  unfold VecWindow.put
  by_cases hc : a = a0 ∧ j = j0
  · rw [if_pos hc]
    obtain ⟨rfl, rfl⟩ := hc
    have hm : ∀ b, (![a.val, j.val, 0, 0] : Fin 4 → ℕ) b ≤ ((ix4 a j s n : S2x11x8x512.Idx) b).val ∧ ((ix4 a j s n : S2x11x8x512.Idx) b).val < (![a.val, j.val, 0, 0] : Fin 4 → ℕ) b + S1x1x8x512.size b := by
      intro b
      fin_cases b
      · show a.val ≤ a.val ∧ a.val < a.val + 1; omega
      · show j.val ≤ j.val ∧ j.val < j.val + 1; omega
      · show 0 ≤ s.val ∧ s.val < 0 + 8; omega
      · show 0 ≤ n.val ∧ n.val < 0 + 512; omega
    rw [dif_pos hm]
    refine congrArg w (funext fun b => Fin.ext ?_)
    fin_cases b
    · show a.val - a.val = 0; omega
    · show j.val - j.val = 0; omega
    · show s.val - 0 = s.val; omega
    · show n.val - 0 = n.val; omega
  · rw [if_neg hc, dif_neg]
    intro hm
    have h0 : a0.val ≤ a.val ∧ a.val < a0.val + 1 := hm 0
    have h1 : j0.val ≤ j.val ∧ j.val < j0.val + 1 := hm 1
    exact hc ⟨Fin.ext (by omega), Fin.ext (by omega)⟩

/-- The kept products with a step's own last rows put in. -/
def GT (h : TK2) (wg wu : TK0) (tl : TK4) (j0 : Fin 11) (a : Fin 2) (j : Fin 11) (s : Fin 8) (n : Fin 512) : EReal :=
  if j = j0 then dotp h (if a.val = 0 then wg else wu) ⟨504 + s.val, by omega⟩ n else tl (ix4 a j s n)

theorem tM_apply (h : TK2) (wg wu : TK0) (tl : TK4) (j0 : Fin 11) (a : Fin 2) (j : Fin 11) (s : Fin 8) (n : Fin 512) :
    tM h wg wu tl j0 (ix4 a j s n) = GT h wg wu tl j0 a j s n := by
  unfold tM GT
  refine (put_apply _ 1 j0 rfl _ a j s n).trans ?_
  rw [put_apply tl 0 j0 (off := ![0, j0.val, 0, 0]) rfl _ a j s n, pay28_apply, pay23_apply]
  by_cases hj : j = j0
  · rw [if_pos hj]
    fin_cases a
    · exact (if_neg (by simp)).trans (if_pos ⟨rfl, hj⟩)
    · exact if_pos ⟨rfl, hj⟩
  · rw [if_neg (fun h => hj h.2), if_neg (fun h => hj h.2), if_neg hj]

theorem tA_apply (x : TK1) (g : TK3) (wg wu : TK0) (tl : TK4) (a : Fin 2) (j : Fin 11) (s : Fin 8) (n : Fin 512) :
    tA x g wg wu tl (ix4 a j s n) = GT (GH x g) wg wu tl 0 a j s n := by
  unfold tA GT
  refine (put_apply _ 1 0 rfl _ a j s n).trans ?_
  rw [put_apply tl 0 0 (off := ![0, 0, 0, 0]) rfl _ a j s n, pay59_apply, pay16_apply, dot1, dot1]
  by_cases hj : j = 0
  · rw [if_pos hj]
    have e : (⟨256 + (⟨248 + s.val, by omega⟩ : Fin 256).val, by show 256 + (248 + s.val) < 512; omega⟩ : Fin 512) = ⟨504 + s.val, by omega⟩ := Fin.ext (by show 256 + (248 + s.val) = 504 + s.val; omega)
    rw [e]
    fin_cases a
    · exact (if_neg (by simp)).trans (if_pos ⟨rfl, hj⟩)
    · exact if_pos ⟨rfl, hj⟩
  · rw [if_neg (fun h => hj h.2), if_neg (fun h => hj h.2), if_neg hj]

/-- One entry of a step's convolution, from a buffer of products. -/
def cvB (cw : TK6) (cb : TK7) (u : TK8) (kk : Fin 22) (a : Fin 2) (r n : Fin 512) : EReal :=
  cv (cw (ix3 kk 0 n)) (cw (ix3 kk 1 n)) (cw (ix3 kk 2 n)) (cb (ix3 kk 0 n)) (u (ix3 a ⟨8 + r.val, by omega⟩ n)) (u (ix3 a ⟨6 + r.val, by omega⟩ n)) (u (ix3 a ⟨7 + r.val, by omega⟩ n))

/-- The result's rows with the columns of a step folded in. -/
def GO (o : TK1) (u : TK8) (cw : TK6) (cb : TK7) (j : Fin 11) (wd : TK5) : S512x2048.Idx → EReal := fun y =>
  o (ix2 (y 0) (y 1)) + ∑ n : Fin 512, (sil (cvB cw cb u ⟨j.val, by omega⟩ 0 (y 0) n) * cvB cw cb u ⟨11 + j.val, by omega⟩ 1 (y 0) n) * wd (ix3 0 n (y 1))

theorem oM_eq (o : TK1) (u : TK8) (cw : TK6) (cb : TK7) (j : Fin 11) (wd : TK5) :
    oM o u cw cb j wd = GO o u cw cb j wd := by
  funext y
  obtain ⟨r, d, rfl⟩ : ∃ (r : Fin 512) (d : Fin 2048), y = ix2 r d := ⟨y 0, y 1, eq_ix2 y⟩
  unfold oM
  rw [payM_apply]
  refine congrArg (fun z => o (ix2 r d) + z) (Finset.sum_congr rfl fun n _ => ?_)
  have e08 := ldu u (emb_u0_m r n)
  have e18 := ldu u (emb_u1_m r n)
  have e06 := ldu u (emb_u0_m6 r n)
  have e16 := ldu u (emb_u1_m6 r n)
  have e07 := ldu u (emb_u0_m7 r n)
  have e17 := ldu u (emb_u1_m7 r n)
  rw [e08, e18, e06, e16, e07, e17]
  rfl

theorem oZ0_apply (o : TK1) (u : TK8) (cw : TK6) (cb : TK7) (wd : TK5) (r : Fin 256) (d : Fin 2048) :
    oZ0 o u cw cb wd (ix2 r d) = GO o u cw cb 10 wd (ix2 ⟨0 + r.val, by omega⟩ d) := by
  unfold oZ0
  rw [payZ0_apply]
  have eo : View.ld o (Rect.unit _ _ inb_S512x2048_S256x2048_0_0) (ix2 r d) = o (ix2 ⟨0 + r.val, by omega⟩ d) := congrArg o (emb_x_0 r d)
  rw [eo]
  refine congrArg (fun q => o (ix2 ⟨0 + r.val, by omega⟩ d) + q) (Finset.sum_congr rfl fun n _ => ?_)
  have e08 := ldu u (emb_u0_h8_0 r n)
  have e06 := ldu u (emb_u0_h6_0 r n)
  have e07 := ldu u (emb_u0_h7_0 r n)
  have e18 := ldu u (emb_u1_h8_0 r n)
  have e16 := ldu u (emb_u1_h6_0 r n)
  have e17 := ldu u (emb_u1_h7_0 r n)
  rw [e08, e18, e06, e16, e07, e17]
  rfl

theorem oZ1_apply (o : TK1) (u : TK8) (cw : TK6) (cb : TK7) (wd : TK5) (r : Fin 256) (d : Fin 2048) :
    oZ1 o u cw cb wd (ix2 r d) = GO o u cw cb 10 wd (ix2 ⟨256 + r.val, by omega⟩ d) := by
  unfold oZ1
  rw [payZ1_apply]
  have eo : View.ld o (Rect.unit _ _ inb_S512x2048_S256x2048_256_0) (ix2 r d) = o (ix2 ⟨256 + r.val, by omega⟩ d) := congrArg o (emb_x_256 r d)
  rw [eo]
  refine congrArg (fun q => o (ix2 ⟨256 + r.val, by omega⟩ d) + q) (Finset.sum_congr rfl fun n _ => ?_)
  have e08 := ldu u (emb_u0_h8_256 r n)
  have e06 := ldu u (emb_u0_h6_256 r n)
  have e07 := ldu u (emb_u0_h7_256 r n)
  have e18 := ldu u (emb_u1_h8_256 r n)
  have e16 := ldu u (emb_u1_h6_256 r n)
  have e17 := ldu u (emb_u1_h7_256 r n)
  rw [e08, e18, e06, e16, e07, e17]
  rfl

theorem oZ_eq (o : TK1) (u : TK8) (cw : TK6) (cb : TK7) (wd : TK5) :
    oZ o u cw cb wd = GO o u cw cb 10 wd := by
  funext y
  unfold oZ
  refine View.canon_apply_of_pieces (Val := Elt Ideal) (e := .f32) (GO o u cw cb 10 wd) _ ?_ y (View.cover_of_tiledL _ ![256, 2048] (by sl_kernel_rfl) y)
  intro p hp
  simp only [List.mem_cons, List.not_mem_nil, or_false] at hp
  rcases hp with rfl | rfl
  · intro z
    obtain ⟨r, n, rfl⟩ : ∃ (r : Fin 256) (n : Fin 2048), z = ix2 r n := ⟨z 0, z 1, eq_ix2 z⟩
    exact (oZ1_apply o u cw cb wd r n).trans (congrArg _ (emb_x_256 r n)).symm
  · intro z
    obtain ⟨r, n, rfl⟩ : ∃ (r : Fin 256) (n : Fin 2048), z = ix2 r n := ⟨z 0, z 1, eq_ix2 z⟩
    exact (oZ0_apply o u cw cb wd r n).trans (congrArg _ (emb_x_0 r n)).symm

/-! ## The blocks of the arguments -/

/-- The kernel's value, from its arguments: the normalized rows, their products, the convolution and the gated product,
row and column given as numbers. -/
def nx (X : UFk0) (g : S2048.Idx → EReal) (R : ℕ) (k : Fin 2048) : EReal :=
  if h : R < 32768 then nrm (fun k => X (ix2 ⟨R, h⟩ k)) (fun k => g (ix1 k)) k else 0
def xN (X : UFk0) (R : ℕ) (d : Fin 2048) : EReal := if h : R < 32768 then X (ix2 ⟨R, h⟩ d) else 0
def Ux (X : UFk0) (g : S2048.Idx → EReal) (W : S4x2048x11264.Idx → EReal) (R n : ℕ) : EReal :=
  if h : n < 11264 then ∑ k, nx X g R k * W (ix3 0 k ⟨n, h⟩) else 0
def cwN (CW : S3x11264.Idx → EReal) (a : Fin 3) (n : ℕ) : EReal := if h : n < 11264 then CW (ix2 a ⟨n, h⟩) else 0
def cbN (CB : S11264.Idx → EReal) (n : ℕ) : EReal := if h : n < 11264 then CB (ix1 ⟨n, h⟩) else 0
def wdN (WD : S4x5632x2048.Idx → EReal) (n : ℕ) (d : Fin 2048) : EReal := if h : n < 5632 then WD (ix3 0 ⟨n, h⟩ d) else 0

/-- The product `e` rows back, zero before the sequence starts. -/
def Px (X : UFk0) (g : S2048.Idx → EReal) (W : S4x2048x11264.Idx → EReal) (R e n : ℕ) : EReal :=
  if R % 4096 < e then 0 else Ux X g W (R - e) n
def Cx (X : UFk0) (g : S2048.Idx → EReal) (W : S4x2048x11264.Idx → EReal) (CW : S3x11264.Idx → EReal) (CB : S11264.Idx → EReal) (R n : ℕ) : EReal :=
  cv (cwN CW 0 n) (cwN CW 1 n) (cwN CW 2 n) (cbN CB n) (Ux X g W R n) (Px X g W R 2 n) (Px X g W R 1 n)
def Ax (X : UFk0) (g : S2048.Idx → EReal) (W : S4x2048x11264.Idx → EReal) (CW : S3x11264.Idx → EReal) (CB : S11264.Idx → EReal) (R n : ℕ) : EReal :=
  sil (Cx X g W CW CB R n) * Cx X g W CW CB R (5632 + n)

/-- The layer's result, entry by entry. -/
def spec (X : UFk0) (g : S2048.Idx → EReal) (W : S4x2048x11264.Idx → EReal) (CW : S3x11264.Idx → EReal) (CB : S11264.Idx → EReal)
    (WD : S4x5632x2048.Idx → EReal) : S32768x2048.Idx → EReal := fun y =>
  X (ix2 (y 0) (y 1)) + ∑ n : Fin 5632, Ax X g W CW CB (y 0).val n.val * WD (ix3 0 n (y 1))

variable (m : (ℓ : Loc nD τ sig) → Buf (Elt Ideal) ℓ)

/-- Where each window's block lies at each grid point. -/
theorem idx : ∀ t : Fin grid0.N,
    (win0_0.index t 0 = t.val / 12 ∧ win0_0.index t 1 = 0) ∧ (win0_1.index t 0 = 0 ∧ win0_1.index t 1 = 0)
    ∧ (win0_3.index t 0 = 0 ∧ win0_3.index t 1 = 0 ∧ win0_3.index t 2 = min (t.val % 12) 10)
    ∧ (win0_4.index t 0 = 0 ∧ win0_4.index t 1 = 0 ∧ win0_4.index t 2 = 11 + min (t.val % 12) 10)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = t.val % 12 - 1 ∧ win0_7.index t 2 = 0)
    ∧ (win0_8.index t 0 = t.val / 12 ∧ win0_8.index t 1 = 0) := by decide +kernel

theorem hfst : ∀ t : Fin cfg0.N, fst (grid0.coords t) = 1#1 ↔ t.val / 12 % 8 = 0 :=
  (by decide +kernel : ∀ t : Fin grid0.N, fst (grid0.coords t) = 1#1 ↔ t.val / 12 % 8 = 0)

theorem iblk0 (c : Dev nD) (t : Fin cfg0.N) (r : Fin 512) (k : Fin 2048) (h : 512 * (t.val / 12) + r.val < 32768) :
    (iblk m c 0 t : TK1) (ix2 r k) = m ((c : Thread nD τ).loc main_arg0) (ix2 ⟨512 * (t.val / 12) + r.val, h⟩ k) := by
  have e := (idx t).1
  unfold iblk
  rw [View.read_apply]
  show V m c main_arg0 _ = _
  rw [V_main_arg0]
  congr 1
  funext a
  apply Fin.ext
  match a with
  | ⟨0, _⟩ => show win0_0.index t 0 * 512 + 1 * r.val = 512 * (t.val / 12) + r.val; rw [e.1]; omega
  | ⟨1, _⟩ => show win0_0.index t 1 * 2048 + 1 * k.val = k.val; rw [e.2]; omega

theorem iblk1 (c : Dev nD) (t : Fin cfg0.N) (k : Fin 2048) :
    (iblk m c 1 t : TK3) (ix2 0 k) = m ((c : Thread nD τ).loc main_arg1) (ix1 k) := by
  have e := (idx t).2.1
  unfold iblk
  rw [View.read_apply]
  show V m c main_v3 _ = _
  have hV : (V m c main_v3 : TK3) = shapeCast S1x2048 (m ((c : Thread nD τ).loc main_arg1) : Vec Ideal S2048 .f32) shapeCasts_S2048_S1x2048 := by
    entry_read
    rfl
  have hi : ((cfg0.win 1).blk t).view.emb (ix2 0 k) = (ix2 0 k : S1x2048.Idx) := by
    funext a
    apply Fin.ext
    match a with
    | ⟨0, _⟩ => show win0_1.index t 0 * 1 + 1 * 0 = 0; rw [e.1]
    | ⟨1, _⟩ => show win0_1.index t 1 * 2048 + 1 * k.val = k.val; rw [e.2]; omega
  rw [hi, hV]
  pointwise

theorem iblk3 (c : Dev nD) (t : Fin cfg0.N) (k : Fin 2048) (n : Fin 512) (h : 512 * min (t.val % 12) 10 + n.val < 11264) :
    (iblk m c 3 t : TK0) (ix3 0 k n) = m ((c : Thread nD τ).loc main_arg3) (ix3 0 k ⟨512 * min (t.val % 12) 10 + n.val, h⟩) := by
  have e := (idx t).2.2.1
  unfold iblk
  rw [View.read_apply]
  show V m c main_arg3 _ = _
  rw [V_main_arg3]
  congr 1
  funext a
  apply Fin.ext
  match a with
  | ⟨0, _⟩ => show win0_3.index t 0 * 1 + 1 * 0 = 0; rw [e.1]
  | ⟨1, _⟩ => show win0_3.index t 1 * 2048 + 1 * k.val = k.val; rw [e.2.1]; omega
  | ⟨2, _⟩ => show win0_3.index t 2 * 512 + 1 * n.val = 512 * min (t.val % 12) 10 + n.val; rw [e.2.2]; omega

theorem iblk4 (c : Dev nD) (t : Fin cfg0.N) (k : Fin 2048) (n : Fin 512) (h : 5632 + 512 * min (t.val % 12) 10 + n.val < 11264) :
    (iblk m c 4 t : TK0) (ix3 0 k n) = m ((c : Thread nD τ).loc main_arg3) (ix3 0 k ⟨5632 + 512 * min (t.val % 12) 10 + n.val, h⟩) := by
  have e := (idx t).2.2.2.1
  unfold iblk
  rw [View.read_apply]
  show V m c main_arg3 _ = _
  rw [V_main_arg3]
  congr 1
  funext a
  apply Fin.ext
  match a with
  | ⟨0, _⟩ => show win0_4.index t 0 * 1 + 1 * 0 = 0; rw [e.1]
  | ⟨1, _⟩ => show win0_4.index t 1 * 2048 + 1 * k.val = k.val; rw [e.2.1]; omega
  | ⟨2, _⟩ => show win0_4.index t 2 * 512 + 1 * n.val = 5632 + 512 * min (t.val % 12) 10 + n.val; rw [e.2.2]; omega

theorem iblk5 (c : Dev nD) (t : Fin cfg0.N) (q : Fin 22) (a : Fin 3) (n : Fin 512) :
    (iblk m c 5 t : TK6) (ix3 q a n) = m ((c : Thread nD τ).loc main_arg4) (ix2 a ⟨512 * q.val + n.val, by omega⟩) := by
  have e := (idx t).2.2.2.2.1
  unfold iblk
  rw [View.read_apply]
  show V m c main_v1 _ = _
  have hV : (V m c main_v1 : TK6) = transpose S22x3x512 [1, 0, 2] (shapeCast S3x22x512 (m ((c : Thread nD τ).loc main_arg4) : Vec Ideal S3x11264 .f32) shapeCasts_S3x11264_S3x22x512) transposes_S3x22x512_S22x3x512_1_0_2 := by
    entry_read
    rfl
  have hi : ((cfg0.win 5).blk t).view.emb (ix3 q a n) = (ix3 q a n : S22x3x512.Idx) := by
    funext b
    apply Fin.ext
    match b with
    | ⟨0, _⟩ => show win0_5.index t 0 * 22 + 1 * q.val = q.val; rw [e.1]; omega
    | ⟨1, _⟩ => show win0_5.index t 1 * 3 + 1 * a.val = a.val; rw [e.2.1]; omega
    | ⟨2, _⟩ => show win0_5.index t 2 * 512 + 1 * n.val = n.val; rw [e.2.2]; omega
  rw [hi, hV]
  pointwise
  exact congrArg (fun z => m ((c : Thread nD τ).loc main_arg4) (ix2 a z)) (Fin.ext (by show q.val * 512 + n.val = 512 * q.val + n.val; omega))

theorem iblk6 (c : Dev nD) (t : Fin cfg0.N) (q : Fin 22) (n : Fin 512) :
    (iblk m c 6 t : TK7) (ix3 q 0 n) = m ((c : Thread nD τ).loc main_arg5) (ix1 ⟨512 * q.val + n.val, by omega⟩) := by
  have e := (idx t).2.2.2.2.2.1
  unfold iblk
  rw [View.read_apply]
  show V m c main_v2 _ = _
  have hV : (V m c main_v2 : TK7) = shapeCast S22x1x512 (m ((c : Thread nD τ).loc main_arg5) : Vec Ideal S11264 .f32) shapeCasts_S11264_S22x1x512 := by
    entry_read
    rfl
  have hi : ((cfg0.win 6).blk t).view.emb (ix3 q 0 n) = (ix3 q 0 n : S22x1x512.Idx) := by
    funext b
    apply Fin.ext
    match b with
    | ⟨0, _⟩ => show win0_6.index t 0 * 22 + 1 * q.val = q.val; rw [e.1]; omega
    | ⟨1, _⟩ => show win0_6.index t 1 * 1 + 1 * 0 = 0; rw [e.2.1]
    | ⟨2, _⟩ => show win0_6.index t 2 * 512 + 1 * n.val = n.val; rw [e.2.2]; omega
  rw [hi, hV]
  pointwise
  exact congrArg (fun z => m ((c : Thread nD τ).loc main_arg5) (ix1 z)) (Fin.ext (by show q.val * 512 + n.val = 512 * q.val + n.val; omega))

theorem iblk7 (c : Dev nD) (t : Fin cfg0.N) (n : Fin 512) (d : Fin 2048) (h : 512 * (t.val % 12 - 1) + n.val < 5632) :
    (iblk m c 7 t : TK5) (ix3 0 n d) = m ((c : Thread nD τ).loc main_arg6) (ix3 0 ⟨512 * (t.val % 12 - 1) + n.val, h⟩ d) := by
  have e := (idx t).2.2.2.2.2.2.1
  unfold iblk
  rw [View.read_apply]
  show V m c main_arg6 _ = _
  rw [V_main_arg6]
  congr 1
  funext a
  apply Fin.ext
  match a with
  | ⟨0, _⟩ => show win0_7.index t 0 * 1 + 1 * 0 = 0; rw [e.1]
  | ⟨1, _⟩ => show win0_7.index t 1 * 512 + 1 * n.val = 512 * (t.val % 12 - 1) + n.val; rw [e.2.1]; omega
  | ⟨2, _⟩ => show win0_7.index t 2 * 2048 + 1 * d.val = d.val; rw [e.2.2]; omega

/-! ## The buffers after every point -/

abbrev aX (c : Dev nD) : S32768x2048.Idx → EReal := m ((c : Thread nD τ).loc main_arg0)
abbrev aG (c : Dev nD) : S2048.Idx → EReal := m ((c : Thread nD τ).loc main_arg1)
abbrev aW (c : Dev nD) : S4x2048x11264.Idx → EReal := m ((c : Thread nD τ).loc main_arg3)
abbrev aCW (c : Dev nD) : S3x11264.Idx → EReal := m ((c : Thread nD τ).loc main_arg4)
abbrev aCB (c : Dev nD) : S11264.Idx → EReal := m ((c : Thread nD τ).loc main_arg5)
abbrev aWD (c : Dev nD) : S4x5632x2048.Idx → EReal := m ((c : Thread nD τ).loc main_arg6)
abbrev nxc (c : Dev nD) := nx (aX m c) (aG m c)
abbrev Uc (c : Dev nD) := Ux (aX m c) (aG m c) (aW m c)
abbrev Ac (c : Dev nD) := Ax (aX m c) (aG m c) (aW m c) (aCW m c) (aCB m c)

/-- A tile's products with the eight rows before it, zero where a sequence starts. -/
def UBc (c : Dev nD) (i j a q n : ℕ) : EReal := if q < 8 ∧ i % 8 = 0 then 0 else Uc m c (512 * i + q - 8) (5632 * a + 512 * j + n)

theorem Uc_congr (c : Dev nD) {R R' n n' : ℕ} (h : R = R') (h' : n = n') : Uc m c R n = Uc m c R' n' := by rw [h, h']

/-- What the buffers hold after point `t`. -/
structure Inv (c : Dev nD) (t : ℕ) (s : St Ideal) : Prop where
  hh : ∀ (r : Fin 512) (k : Fin 2048), (s.h (ix2 r k) : EReal) = nxc m c (512 * (t / 12) + r.val) k
  ho : ∀ (r : Fin 512) (d : Fin 2048), (s.o (ix2 r d) : EReal) = xN (aX m c) (512 * (t / 12) + r.val) d
    + ∑ n ∈ Finset.range (512 * (t % 12)), Ac m c (512 * (t / 12) + r.val) n * wdN (aWD m c) n d
  hu : t % 12 ≠ 11 → ∀ (a : Fin 2) (q : Fin 520) (n : Fin 512), ((if t % 2 = 0 then s.ua else s.ub) (ix3 a q n) : EReal) = UBc m c (t / 12) (t % 12) a.val q.val n.val
  ht : ∀ (a : Fin 2) (j : Fin 11) (q : Fin 8) (n : Fin 512), (j.val ≤ t % 12 ∨ t / 12 ≠ 0) →
    (s.tl (ix4 a j q n) : EReal) = Uc m c (512 * (if j.val ≤ t % 12 then t / 12 else t / 12 - 1) + 504 + q.val) (5632 * a.val + 512 * j.val + n.val)

theorem dot_eq (c : Dev nD) (t : Fin cfg0.N) (h11 : t.val % 12 ≠ 11) (h : TK2)
    (hh : ∀ (r : Fin 512) (k : Fin 2048), (h (ix2 r k) : EReal) = nxc m c (512 * (t.val / 12) + r.val) k) (a : Fin 2) (r n : Fin 512) :
    dotp h (if a.val = 0 then iblk m c 3 t else iblk m c 4 t) r n = Uc m c (512 * (t.val / 12) + r.val) (5632 * a.val + 512 * (t.val % 12) + n.val) := by
  have hj : t.val % 12 < 12 := Nat.mod_lt _ (by decide)
  have hb : 5632 * a.val + 512 * (t.val % 12) + n.val < 11264 := by have := a.isLt; omega
  unfold dotp Uc Ux
  rw [dif_pos hb]
  refine Finset.sum_congr rfl fun k _ => ?_
  rw [hh]
  refine congrArg (fun z => nxc m c (512 * (t.val / 12) + r.val) k * z) ?_
  fin_cases a
  · refine (iblk3 m c t k n (by omega)).trans (congrArg (fun z => m ((c : Thread nD τ).loc main_arg3) (ix3 0 k z)) (Fin.ext ?_))
    show 512 * min (t.val % 12) 10 + n.val = 5632 * 0 + 512 * (t.val % 12) + n.val
    omega
  · refine (iblk4 m c t k n (by omega)).trans (congrArg (fun z => m ((c : Thread nD τ).loc main_arg3) (ix3 0 k z)) (Fin.ext ?_))
    show 5632 + 512 * min (t.val % 12) 10 + n.val = 5632 * 1 + 512 * (t.val % 12) + n.val
    omega

theorem GU_eq (c : Dev nD) (t : Fin cfg0.N) (h11 : t.val % 12 ≠ 11) (h : TK2) (tl : TK4)
    (hh : ∀ (r : Fin 512) (k : Fin 2048), (h (ix2 r k) : EReal) = nxc m c (512 * (t.val / 12) + r.val) k)
    (htl : t.val / 12 % 8 ≠ 0 → ∀ (a : Fin 2) (q : Fin 8) (n : Fin 512), (tl (ix4 a (jj t) q n) : EReal) = Uc m c (512 * (t.val / 12) + q.val - 8) (5632 * a.val + 512 * (t.val % 12) + n.val))
    (a : Fin 2) (q : Fin 520) (n : Fin 512) :
    GU (fst (grid0.coords t)) h (iblk m c 3 t) (iblk m c 4 t) tl (jj t) (ix3 a q n) = UBc m c (t.val / 12) (t.val % 12) a.val q.val n.val := by
  unfold UBc
  by_cases hq : q.val < 8
  · refine (GU_top (fst (grid0.coords t)) h (iblk m c 3 t) (iblk m c 4 t) tl (jj t) a ⟨q.val, hq⟩ q.isLt n).trans ?_
    by_cases hi : t.val / 12 % 8 = 0
    · rw [if_pos ((hfst t).mpr hi), if_pos ⟨hq, hi⟩]
    · rw [if_neg (fun hc => hi ((hfst t).mp hc)), if_neg (fun hc => hi hc.2)]
      exact htl hi a ⟨q.val, hq⟩ n
  · have hr : q.val - 8 < 512 := by have := q.isLt; omega
    rw [if_neg (fun hc => hq hc.1), GU_main _ h (iblk m c 3 t) (iblk m c 4 t) tl (jj t) a ⟨q.val - 8, hr⟩ q (by show q.val = 8 + (q.val - 8); omega) n,
      dot_eq m c t h11 h hh a ⟨q.val - 8, hr⟩ n]
    exact Uc_congr m c (by show 512 * (t.val / 12) + (q.val - 8) = _; omega) rfl

theorem GT_eq (c : Dev nD) (t : Fin cfg0.N) (h11 : t.val % 12 ≠ 11) (h : TK2) (tl : TK4)
    (hh : ∀ (r : Fin 512) (k : Fin 2048), (h (ix2 r k) : EReal) = nxc m c (512 * (t.val / 12) + r.val) k)
    (a : Fin 2) (j : Fin 11) (q : Fin 8) (n : Fin 512)
    (htl : j.val ≠ t.val % 12 → (tl (ix4 a j q n) : EReal) = Uc m c (512 * (if j.val ≤ t.val % 12 then t.val / 12 else t.val / 12 - 1) + 504 + q.val) (5632 * a.val + 512 * j.val + n.val)) :
    GT h (iblk m c 3 t) (iblk m c 4 t) tl (jj t) a j q n = Uc m c (512 * (if j.val ≤ t.val % 12 then t.val / 12 else t.val / 12 - 1) + 504 + q.val) (5632 * a.val + 512 * j.val + n.val) := by
  have hjj : (jj t).val = t.val % 12 := by show t.val % 12 % 11 = _; omega
  unfold GT
  by_cases hj : j = jj t
  · have hj' : j.val = t.val % 12 := (congrArg Fin.val hj).trans hjj
    rw [if_pos hj, dot_eq m c t h11 h hh, if_pos (by omega)]
    exact Uc_congr m c (by show 512 * (t.val / 12) + (504 + q.val) = _; omega) (by omega)
  · rw [if_neg hj]
    exact htl fun h => hj (Fin.ext (h.trans hjj.symm))

theorem cvB_eq (c : Dev nD) (t : Fin cfg0.N) (j : ℕ) (hj : j < 11) (u : TK8)
    (hu : ∀ (a : Fin 2) (q : Fin 520) (n : Fin 512), (u (ix3 a q n) : EReal) = UBc m c (t.val / 12) j a.val q.val n.val)
    (k : Fin 22) (a : Fin 2) (hk : k.val = 11 * a.val + j) (r n : Fin 512) :
    cvB (iblk m c 5 t) (iblk m c 6 t) u k a r n
      = Cx (aX m c) (aG m c) (aW m c) (aCW m c) (aCB m c) (512 * (t.val / 12) + r.val) (5632 * a.val + 512 * j + n.val) := by
  have hb : 5632 * a.val + 512 * j + n.val < 11264 := by have := a.isLt; omega
  have e : (⟨512 * k.val + n.val, by omega⟩ : Fin 11264) = ⟨5632 * a.val + 512 * j + n.val, hb⟩ := Fin.ext (by show 512 * k.val + n.val = 5632 * a.val + 512 * j + n.val; omega)
  unfold cvB Cx cwN cbN
  rw [dif_pos hb, dif_pos hb, dif_pos hb, dif_pos hb, iblk5, iblk5, iblk5, iblk6, hu, hu, hu, e]
  have e8 : UBc m c (t.val / 12) j a.val (8 + r.val) n.val = Uc m c (512 * (t.val / 12) + r.val) (5632 * a.val + 512 * j + n.val) := by
    unfold UBc
    rw [if_neg (by omega)]
    exact Uc_congr m c (by omega) rfl
  have e6 : UBc m c (t.val / 12) j a.val (6 + r.val) n.val = Px (aX m c) (aG m c) (aW m c) (512 * (t.val / 12) + r.val) 2 (5632 * a.val + 512 * j + n.val) := by
    unfold UBc Px
    by_cases h : 6 + r.val < 8 ∧ t.val / 12 % 8 = 0
    · rw [if_pos h, if_pos (by omega)]
    · rw [if_neg h, if_neg (by omega)]
      exact Uc_congr m c (by omega) rfl
  have e7 : UBc m c (t.val / 12) j a.val (7 + r.val) n.val = Px (aX m c) (aG m c) (aW m c) (512 * (t.val / 12) + r.val) 1 (5632 * a.val + 512 * j + n.val) := by
    unfold UBc Px
    by_cases h : 7 + r.val < 8 ∧ t.val / 12 % 8 = 0
    · rw [if_pos h, if_pos (by omega)]
    · rw [if_neg h, if_neg (by omega)]
      exact Uc_congr m c (by omega) rfl
  exact congrArg₂ (fun x yz => cv _ _ _ _ x yz.1 yz.2) e8 (Prod.ext e6 e7 : (_, _) = (_, _))

theorem GO_eq (c : Dev nD) (t : Fin cfg0.N) (h0 : t.val % 12 ≠ 0) (o : TK1) (u : TK8)
    (ho : ∀ (r : Fin 512) (d : Fin 2048), (o (ix2 r d) : EReal) = xN (aX m c) (512 * (t.val / 12) + r.val) d
      + ∑ n ∈ Finset.range (512 * (t.val % 12 - 1)), Ac m c (512 * (t.val / 12) + r.val) n * wdN (aWD m c) n d)
    (hu : ∀ (a : Fin 2) (q : Fin 520) (n : Fin 512), (u (ix3 a q n) : EReal) = UBc m c (t.val / 12) (t.val % 12 - 1) a.val q.val n.val)
    (r : Fin 512) (d : Fin 2048) :
    GO o u (iblk m c 5 t) (iblk m c 6 t) (jp t) (iblk m c 7 t) (ix2 r d) = xN (aX m c) (512 * (t.val / 12) + r.val) d
      + ∑ n ∈ Finset.range (512 * (t.val % 12)), Ac m c (512 * (t.val / 12) + r.val) n * wdN (aWD m c) n d := by
  have hj : t.val % 12 < 12 := Nat.mod_lt _ (by decide)
  have hjp : (jp t).val = t.val % 12 - 1 := rfl
  have es : 512 * (t.val % 12) = 512 * (t.val % 12 - 1) + 512 := by omega
  rw [es, Finset.sum_range_add, ← add_assoc, ← ho]
  refine congrArg (fun z => (o (ix2 r d) : EReal) + z) ?_
  rw [Finset.sum_range]
  refine Finset.sum_congr rfl fun n _ => ?_
  have hb : 512 * (t.val % 12 - 1) + n.val < 5632 := by omega
  have e0 := cvB_eq m c t (t.val % 12 - 1) (by omega) u hu ⟨(jp t).val, by omega⟩ 0 (by show (jp t).val = 11 * 0 + (t.val % 12 - 1); omega) r n
  have e1 := cvB_eq m c t (t.val % 12 - 1) (by omega) u hu ⟨11 + (jp t).val, by omega⟩ 1 (by show 11 + (jp t).val = 11 * 1 + (t.val % 12 - 1); omega) r n
  have ew : (iblk m c 7 t : TK5) (ix3 0 n d) = wdN (aWD m c) (512 * (t.val % 12 - 1) + n.val) d := by
    unfold wdN
    rw [dif_pos hb]
    exact iblk7 m c t n d hb
  have ea : sil (cvB (iblk m c 5 t) (iblk m c 6 t) u ⟨(jp t).val, by omega⟩ 0 r n) * cvB (iblk m c 5 t) (iblk m c 6 t) u ⟨11 + (jp t).val, by omega⟩ 1 r n
      = Ac m c (512 * (t.val / 12) + r.val) (512 * (t.val % 12 - 1) + n.val) := by
    rw [e0, e1]
    unfold Ac Ax
    refine congrArg₂ (fun x y => sil (Cx (aX m c) (aG m c) (aW m c) (aCW m c) (aCB m c) (512 * (t.val / 12) + r.val) x) * Cx (aX m c) (aG m c) (aW m c) (aCW m c) (aCB m c) (512 * (t.val / 12) + r.val) y) ?_ ?_
    · show 5632 * 0 + 512 * (t.val % 12 - 1) + n.val = _; omega
    · show 5632 * 1 + 512 * (t.val % 12 - 1) + n.val = _; omega
  exact congrArg₂ (fun x y : EReal => x * y) ea ew

theorem GH_eq (c : Dev nD) (t : Fin cfg0.N) (r : Fin 512) (k : Fin 2048) :
    GH (iblk m c 0 t) (iblk m c 1 t) (ix2 r k) = nxc m c (512 * (t.val / 12) + r.val) k := by
  have hN : cfg0.N = 768 := N_0
  have ht := t.isLt
  have hb : 512 * (t.val / 12) + r.val < 32768 := by omega
  unfold nxc nx
  rw [dif_pos hb]
  exact congrArg₂ (fun x g => nrm x g k) (funext fun k => iblk0 m c t r k hb) (funext fun k => iblk1 m c t k)

theorem iblk0_x (c : Dev nD) (t : Fin cfg0.N) (r : Fin 512) (d : Fin 2048) :
    (iblk m c 0 t : TK1) (ix2 r d) = xN (aX m c) (512 * (t.val / 12) + r.val) d := by
  have hN : cfg0.N = 768 := N_0
  have ht := t.isLt
  have hb : 512 * (t.val / 12) + r.val < 32768 := by omega
  unfold xN
  rw [dif_pos hb]
  exact iblk0 m c t r d hb

/-- A tile's first point. -/
theorem inv_first (c : Dev nD) (t : Fin cfg0.N) (h0 : t.val % 12 = 0) (ih : t.val ≠ 0 → Inv m c (t.val - 1) (stAt m c t.val)) :
    Inv m c t.val (stAt m c (t.val + 1)) := by
  have hj0 : (0 : Fin 11) = jj t := Fin.ext (by show 0 = t.val % 12 % 11; omega)
  have hh : ∀ (r : Fin 512) (k : Fin 2048), (GH (iblk m c 0 t) (iblk m c 1 t) (ix2 r k) : EReal) = nxc m c (512 * (t.val / 12) + r.val) k := GH_eq m c t
  rw [stAt_first m c t h0]
  constructor
  · intro r k
    dsimp only
    rw [hA_eq]
    exact hh r k
  · intro r d
    dsimp only
    rw [oA_eq, h0, Nat.mul_zero, Finset.range_zero, Finset.sum_empty, add_zero]
    exact iblk0_x m c t r d
  · intro h11 a q n
    rw [if_pos (by omega)]
    dsimp only
    rw [uA_eq, hj0]
    refine GU_eq m c t h11 _ _ hh (fun hi a q n => ?_) a q n
    have hz : t.val ≠ 0 := by omega
    rw [if_neg hz]
    refine ((ih hz).ht a (jj t) q n (.inl (by rw [← hj0]; exact Nat.zero_le _))).trans (Uc_congr m c ?_ ?_)
    · rw [if_pos (by rw [← hj0]; exact Nat.zero_le _)]; omega
    · rw [← hj0, h0]; rfl
  · intro a j q n hc
    dsimp only
    rw [tA_apply, hj0]
    refine GT_eq m c t (by omega) _ _ hh a j q n fun hne => ?_
    have hz : t.val ≠ 0 := by omega
    rw [if_neg hz]
    refine ((ih hz).ht a j q n (.inl (by have := j.isLt; omega))).trans (Uc_congr m c ?_ rfl)
    rw [if_pos (by have := j.isLt; omega), if_neg (by omega)]; omega

/-- A tile's last point. -/
theorem inv_last (c : Dev nD) (t : Fin cfg0.N) (h : t.val % 12 = 11) (ih : Inv m c (t.val - 1) (stAt m c t.val)) :
    Inv m c t.val (stAt m c (t.val + 1)) := by
  have hd : (t.val - 1) / 12 = t.val / 12 := by omega
  have hm : (t.val - 1) % 12 = t.val % 12 - 1 := by omega
  have hj10 : (10 : Fin 11) = jp t := Fin.ext (by show 10 = t.val % 12 - 1; omega)
  obtain ⟨i1, i2, i3, i4⟩ := ih
  rw [hd] at i1 i2 i3 i4
  rw [hm] at i2 i3 i4
  rw [stAt_last m c t h]
  constructor
  · exact i1
  · intro r d
    dsimp only
    rw [oZ_eq, hj10]
    refine GO_eq m c t (by omega) _ _ i2 (fun a q n => ?_) r d
    have := i3 (by omega) a q n
    rwa [if_pos (by omega)] at this
  · intro h11; exact absurd h h11
  · intro a j q n hc
    have hj := j.isLt
    refine (i4 a j q n (.inl (by omega))).trans (Uc_congr m c ?_ rfl)
    rw [if_pos (by omega), if_pos (by omega)]

/-- A middle point. -/
theorem inv_mid (c : Dev nD) (t : Fin cfg0.N) (h0 : t.val % 12 ≠ 0) (h11 : t.val % 12 ≠ 11) (ih : Inv m c (t.val - 1) (stAt m c t.val)) :
    Inv m c t.val (stAt m c (t.val + 1)) := by
  have hd : (t.val - 1) / 12 = t.val / 12 := by omega
  have hm : (t.val - 1) % 12 = t.val % 12 - 1 := by omega
  have hjj : (jj t).val = t.val % 12 := by show t.val % 12 % 11 = _; omega
  obtain ⟨i1, i2, i3, i4⟩ := ih
  rw [hd] at i1 i2 i3 i4
  rw [hm] at i2 i3 i4
  have hU : ∀ (a : Fin 2) (q : Fin 520) (n : Fin 512), (GU (fst (grid0.coords t)) (stAt m c t.val).h (iblk m c 3 t) (iblk m c 4 t) (stAt m c t.val).tl (jj t) (ix3 a q n) : EReal)
      = UBc m c (t.val / 12) (t.val % 12) a.val q.val n.val := by
    refine GU_eq m c t h11 _ _ i1 fun hi a q n => ?_
    refine (i4 a (jj t) q n (.inr (by omega))).trans (Uc_congr m c ?_ (by rw [hjj]))
    rw [hjj, if_neg (by omega)]; omega
  have hT : ∀ (a : Fin 2) (j : Fin 11) (q : Fin 8) (n : Fin 512), (j.val ≤ t.val % 12 ∨ t.val / 12 ≠ 0) →
      (GT (stAt m c t.val).h (iblk m c 3 t) (iblk m c 4 t) (stAt m c t.val).tl (jj t) a j q n : EReal)
        = Uc m c (512 * (if j.val ≤ t.val % 12 then t.val / 12 else t.val / 12 - 1) + 504 + q.val) (5632 * a.val + 512 * j.val + n.val) := by
    intro a j q n hc
    refine GT_eq m c t h11 _ _ i1 a j q n fun hne => ?_
    refine (i4 a j q n (by omega)).trans (Uc_congr m c ?_ rfl)
    by_cases hl : j.val ≤ t.val % 12
    · rw [if_pos (by omega), if_pos hl]
    · rw [if_neg (by omega), if_neg hl]
  by_cases hp : t.val % 2 = 0
  · rw [stAt_even m c t h0 h11 hp]
    constructor
    · exact i1
    · intro r d
      dsimp only
      rw [oM_eq]
      refine GO_eq m c t h0 _ _ i2 (fun a q n => ?_) r d
      have := i3 (by omega) a q n
      rwa [if_neg (by omega)] at this
    · intro _ a q n
      rw [if_pos hp]
      dsimp only
      rw [uM_eq]
      exact hU a q n
    · intro a j q n hc
      dsimp only
      rw [tM_apply]
      exact hT a j q n hc
  · rw [stAt_odd m c t h0 h11 (by omega)]
    constructor
    · exact i1
    · intro r d
      dsimp only
      rw [oM_eq]
      refine GO_eq m c t h0 _ _ i2 (fun a q n => ?_) r d
      have := i3 (by omega) a q n
      rwa [if_pos (by omega)] at this
    · intro _ a q n
      rw [if_neg hp]
      dsimp only
      rw [uM_eq]
      exact hU a q n
    · intro a j q n hc
      dsimp only
      rw [tM_apply]
      exact hT a j q n hc

theorem inv (c : Dev nD) : ∀ (n : ℕ) (h : n < cfg0.N), Inv m c n (stAt m c (n + 1))
  | 0, h => inv_first m c ⟨0, h⟩ rfl fun hz => absurd rfl hz
  | n + 1, h => by
    have ih : Inv m c n (stAt m c (n + 1)) := inv c n (Nat.lt_of_succ_lt h)
    by_cases h0 : (n + 1) % 12 = 0
    · exact inv_first m c ⟨n + 1, h⟩ h0 fun _ => ih
    · by_cases h11 : (n + 1) % 12 = 11
      · exact inv_last m c ⟨n + 1, h⟩ h11 ih
      · exact inv_mid m c ⟨n + 1, h⟩ h0 h11 ih

/-! ## The result -/

abbrev GR (c : Dev nD) : Buf (Elt Ideal) ((c : Thread nD τ).loc main_v5) :=
  spec (aX m c) (aG m c) (aW m c) (aCW m c) (aCB m c) (aWD m c)

theorem emb8 (t : Fin cfg0.N) (r : Fin 512) (n : Fin 2048) (h : 512 * (t.val / 12) + r.val < 32768) :
    ((cfg0.win 8).blk t).view.emb (ix2 r n) = (ix2 ⟨512 * (t.val / 12) + r.val, h⟩ n : S32768x2048.Idx) := by
  have e := (idx t).2.2.2.2.2.2.2
  funext a
  apply Fin.ext
  match a with
  | ⟨0, _⟩ => show win0_8.index t 0 * 512 + 1 * r.val = 512 * (t.val / 12) + r.val; rw [e.1]; omega
  | ⟨1, _⟩ => show win0_8.index t 1 * 2048 + 1 * n.val = n.val; rw [e.2]; omega

theorem flushed8 (c : Dev nD) (t : Fin cfg0.N) (hf : (cfg0.win 8).flush t = true) :
    (dats m 0 c).flushed 8 t = ((cfg0.win 8).blk t).view.read (Elt Ideal) (GR m c) := by
  have hN : cfg0.N = 768 := N_0
  have ht := t.isLt
  have h11 : t.val % 12 = 11 := (flush0_8 t).mp hf
  funext (j : S512x2048.Idx)
  obtain ⟨r, d, rfl⟩ : ∃ (r : Fin 512) (d : Fin 2048), j = ix2 r d := ⟨j 0, j 1, eq_ix2 j⟩
  have h : 512 * (t.val / 12) + r.val < 32768 := by omega
  rw [View.read_apply, emb8 t r d h]
  show (dats m 0 c).after 8 t (ix2 r d) = spec _ _ _ _ _ _ (ix2 _ _)
  rw [after0_8]
  refine ((inv m c t.val t.isLt).ho r d).trans ?_
  unfold spec xN
  rw [dif_pos h, h11, Finset.sum_range]
  refine congrArg (fun z => aX m c (ix2 ⟨512 * (t.val / 12) + r.val, h⟩ d) + z) (Finset.sum_congr rfl fun n _ => ?_)
  refine congrArg (fun z => Ac m c (512 * (t.val / 12) + r.val) n.val * z) ?_
  unfold wdN
  exact dif_pos n.isLt

theorem cover8 (i : S32768x2048.Idx) :
    ∃ t : Fin cfg0.N, (cfg0.win 8).flush t = true ∧ i ∈ ((cfg0.win 8).blk t).view.set := by
  have h0 : (i 0 : Nat) < 32768 := (i 0).isLt
  have hN : cfg0.N = 768 := N_0
  let t : Fin cfg0.N := ⟨12 * ((i 0 : Nat) / 512) + 11, by omega⟩
  have ht : t.val / 12 = (i 0 : Nat) / 512 := by show (12 * ((i 0 : Nat) / 512) + 11) / 12 = _; omega
  refine ⟨t, (flush0_8 t).mpr (by show (12 * ((i 0 : Nat) / 512) + 11) % 12 = 11; omega), ?_⟩
  have hm : (i 0 : Nat) % 512 < 512 := by omega
  have hs : 512 * (t.val / 12) + (i 0 : Nat) % 512 < 32768 := by omega
  have hi : i = (ix2 ⟨512 * (t.val / 12) + (i 0 : Nat) % 512, hs⟩ (i 1) : S32768x2048.Idx) := by
    refine (eq_ix2 (n0 := 32768) (n1 := 2048) i).trans ?_
    refine congrArg (fun a => ix2 a (i 1)) (Fin.ext ?_)
    show (i 0 : Nat) = 512 * (t.val / 12) + (i 0 : Nat) % 512
    omega
  rw [hi, ← emb8 t ⟨(i 0 : Nat) % 512, hm⟩ (i 1) hs]
  exact View.emb_mem_set _ _

theorem final8 (c : Dev nD) : (dats m 0 c).arrAt 8 cfg0.N = GR m c :=
  (dats m 0 c).arrAt_eq_of_cover 8 (GR m c) (fun t h => flushed8 m c t h) cover8

/-- Every run ends with the result at its value and the arguments as they were. -/
theorem run (ρ : Dev nD → PrngReg) : θ_run defs (onTc (τ := τ) (main (F := Ideal))) ⟨m, fun _ => 0, ρ⟩ fun r => ∀ c : Dev nD,
      r.2.mem ((c : Thread nD τ).loc main_v5) = GR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 8).trans (final8 m c), h.2 c⟩)
    (θ_run_and (run_main m ρ) (frame_of m ρ (dats m) (A_eq m) (run_main m ρ)))

end Cert.FfnIdeal.Spec

end
-- ==== Proof.FfnVal.lean ====
module

public import proofs.«01_k».proof.Defs
public import proofs.«01_k».proof.Proof.Real
public import proofs.«01_k».proof.Proof.FfnKer
public import proofs.«01_k».proof.Proof.Gen.FfnRefIdeal.Run

@[expose] public section

set_option maxRecDepth 16384

noncomputable section

open Idealize.ShloMosaic Idealize.ShloMosaic.TcCoe Idealize.SL.Sem
open scoped BigOperators

namespace Cert.FfnRefIdeal.Spec

open Cert.FfnRefIdeal Cert.FfnRefIdeal.Gen Cert.Proof
open Cert.FfnIdeal.Spec (sil cv nx Ux cwN cbN Px Cx Ax spec)

/-! Short names for the types of the arrays. -/
abbrev TW0 := FVec Ideal S32768x2048 .f32

/-- The reference's normalized rows. -/
abbrev rows (x : TW0) (g : FVec Ideal S2048 .f32) : TW0 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))

/-- The reference's expanded rows, before the convolution. -/
abbrev up (x : TW0) (g : FVec Ideal S2048 .f32) (w : FVec Ideal S4x2048x11264 .bf16) : FVec Ideal S32768x11264 .f32 :=
  Host.dotGeneral dot_S32768x2048_S2048x11264_S32768x11264_1_0_0_1_n_n none (rows x g) (extf .f32 (shapeCast _ (extractStridedSlice S1x2048x11264 ![0, 0, 0] w slices_S4x2048x11264_S1x2048x11264_0_0_0) shapeCasts_S1x2048x11264_S2048x11264) bitsLt_bf16_f32)

/-- Every sequence with two rows of zeros before it. -/
abbrev padded (u : FVec Ideal S32768x11264 .f32) : FVec Ideal S8x4098x11264 .f32 :=
  pad S8x4098x11264 ![0, 2, 0] ![0, 0, 0] ![0, 0, 0] (shapeCast _ u shapeCasts_S32768x11264_S8x4096x11264) (sitofp .f32 (constantI S_ 32 0#32)) pads_S8x4096x11264_S8x4098x11264_000_200_000 h_S_

/-- The three-tap convolution along a sequence. -/
abbrev conv (p : FVec Ideal S8x4098x11264 .f32) (cw : FVec Ideal S3x11264 .f32) (cb : FVec Ideal S11264 .f32) : FVec Ideal S8x4096x11264 .f32 :=
  addf (addf (addf (broadcastInDim S8x4096x11264 ![0, 1, 2] bcast_S1x1x11264_S8x4096x11264_0_1_2 (broadcastInDim S1x1x11264 ![2] bcast_S11264_S1x1x11264_2 cb))
    (mulf (broadcastInDim S8x4096x11264 ![0, 1, 2] bcast_S1x1x11264_S8x4096x11264_0_1_2 (broadcastInDim S1x1x11264 ![2] bcast_S11264_S1x1x11264_2 (shapeCast _ (extractStridedSlice S1x11264 ![0, 0] cw slices_S3x11264_S1x11264_0_0) shapeCasts_S1x11264_S11264))) (extractStridedSlice S8x4096x11264 ![0, 0, 0] p slices_S8x4098x11264_S8x4096x11264_0_0_0)))
    (mulf (broadcastInDim S8x4096x11264 ![0, 1, 2] bcast_S1x1x11264_S8x4096x11264_0_1_2 (broadcastInDim S1x1x11264 ![2] bcast_S11264_S1x1x11264_2 (shapeCast _ (extractStridedSlice S1x11264 ![1, 0] cw slices_S3x11264_S1x11264_1_0) shapeCasts_S1x11264_S11264))) (extractStridedSlice S8x4096x11264 ![0, 1, 0] p slices_S8x4098x11264_S8x4096x11264_0_1_0)))
    (mulf (broadcastInDim S8x4096x11264 ![0, 1, 2] bcast_S1x1x11264_S8x4096x11264_0_1_2 (broadcastInDim S1x1x11264 ![2] bcast_S11264_S1x1x11264_2 (shapeCast _ (extractStridedSlice S1x11264 ![2, 0] cw slices_S3x11264_S1x11264_2_0) shapeCasts_S1x11264_S11264))) (extractStridedSlice S8x4096x11264 ![0, 2, 0] p slices_S8x4098x11264_S8x4096x11264_0_2_0))

/-- The gate times the value. -/
abbrev gated (c : FVec Ideal S8x4096x11264 .f32) : FVec Ideal S8x4096x5632 .f32 :=
  mulf (mulf (extractStridedSlice S8x4096x5632 ![0, 0, 0] c slices_S8x4096x11264_S8x4096x5632_0_0_0)
    (Host.divf (broadcastInDim S8x4096x5632 ![] bcast_S_S8x4096x5632 (constant S_ .f32 0x3F800000#32)) (addf (broadcastInDim S8x4096x5632 ![] bcast_S_S8x4096x5632 (constant S_ .f32 0x3F800000#32)) (Host.exp (Host.negf (extractStridedSlice S8x4096x5632 ![0, 0, 0] c slices_S8x4096x11264_S8x4096x5632_0_0_0))))))
    (extractStridedSlice S8x4096x5632 ![0, 0, 5632] c slices_S8x4096x11264_S8x4096x5632_0_0_5632)

/-- The rows plus the contraction back. -/
abbrev down (x : TW0) (a : FVec Ideal S8x4096x5632 .f32) (wd : FVec Ideal S4x5632x2048 .bf16) : TW0 :=
  addf x (Host.dotGeneral dot_S32768x5632_S5632x2048_S32768x2048_1_0_0_1_n_n none (shapeCast _ a shapeCasts_S8x4096x5632_S32768x5632) (extf .f32 (shapeCast _ (extractStridedSlice S1x5632x2048 ![0, 0, 0] wd slices_S4x5632x2048_S1x5632x2048_0_0_0) shapeCasts_S1x5632x2048_S5632x2048) bitsLt_bf16_f32))

theorem up_apply (x : TW0) (g : FVec Ideal S2048 .f32) (w : FVec Ideal S4x2048x11264 .bf16) (r : Fin 32768) (n : Fin 11264) :
    up x g w (ix2 r n) = Ux x g w r.val n.val := by
  have h : up x g w (ix2 r n) = ∑ k, nrm (fun k => x (ix2 r k)) (fun k => g (ix1 k)) k * w (ix3 0 k n) := by
    pointwise
    rfl
  rw [h]
  unfold Ux nx
  rw [dif_pos n.isLt]
  refine Finset.sum_congr rfl fun k _ => ?_
  rw [dif_pos r.isLt]

theorem padded_apply (u : FVec Ideal S32768x11264 .f32) (b : Fin 8) (s : Fin 4098) (n : Fin 11264) :
    padded u (ix3 b s n) = if h : 2 ≤ s.val then u (ix2 ⟨4096 * b.val + (s.val - 2), by omega⟩ n) else (0 : EReal) := by
  pointwise
  by_cases h : 2 ≤ s.val
  · rw [dif_pos h, dif_pos ⟨h, by omega⟩]
    exact congrArg (fun q => u (ix2 q n)) (Fin.ext (by show b.val * 4096 + (s.val - 2) = 4096 * b.val + (s.val - 2); omega))
  · rw [dif_neg h, dif_neg (fun q => h q.1)]
    show (((0#32 : BitVec 32).toInt : ℝ) : EReal) = 0
    simp

theorem conv_apply (p : FVec Ideal S8x4098x11264 .f32) (cw : FVec Ideal S3x11264 .f32) (cb : FVec Ideal S11264 .f32) (b : Fin 8) (s : Fin 4096) (n : Fin 11264) :
    conv p cw cb (ix3 b s n) = cb (ix1 n) + cw (ix2 0 n) * p (ix3 b ⟨s.val, by omega⟩ n) + cw (ix2 1 n) * p (ix3 b ⟨s.val + 1, by omega⟩ n) + cw (ix2 2 n) * p (ix3 b ⟨s.val + 2, by omega⟩ n) := by
  pointwise
  rw [show (⟨1 + s.val, by omega⟩ : Fin 4098) = ⟨s.val + 1, by omega⟩ from Fin.ext (Nat.add_comm _ _),
    show (⟨2 + s.val, by omega⟩ : Fin 4098) = ⟨s.val + 2, by omega⟩ from Fin.ext (Nat.add_comm _ _)]

theorem gated_apply (c : FVec Ideal S8x4096x11264 .f32) (b : Fin 8) (s : Fin 4096) (n : Fin 5632) :
    gated c (ix3 b s n) = sil (c (ix3 b s ⟨n.val, by omega⟩)) * c (ix3 b s ⟨5632 + n.val, by omega⟩) := by
  pointwise
  unfold sil
  rw [zero_sub]

theorem down_apply (x : TW0) (a : FVec Ideal S8x4096x5632 .f32) (wd : FVec Ideal S4x5632x2048 .bf16) (r : Fin 32768) (d : Fin 2048) :
    down x a wd (ix2 r d) = x (ix2 r d) + ∑ n : Fin 5632, a (ix3 ⟨r.val / 4096, by omega⟩ ⟨r.val % 4096, by omega⟩ n) * wd (ix3 0 n d) := by
  pointwise

theorem res_eq (x : TW0) (g : FVec Ideal S2048 .f32) (w : FVec Ideal S4x2048x11264 .bf16) (cw : FVec Ideal S3x11264 .f32) (cb : FVec Ideal S11264 .f32) (wd : FVec Ideal S4x5632x2048 .bf16) :
    down x (gated (conv (padded (up x g w)) cw cb)) wd = spec x g w cw cb wd := by
  have hp : ∀ (b : Fin 8) (s : Fin 4096) (n : Fin 11264) (e : ℕ) (he : e ≤ 2),
      padded (up x g w) (ix3 b ⟨s.val + (2 - e), by omega⟩ n) = Px x g w (4096 * b.val + s.val) e n.val := by
    intro b s n e he
    rw [padded_apply]
    unfold Px
    have e0 : (4096 * b.val + s.val) % 4096 = s.val := by omega
    rw [e0]
    by_cases h : s.val < e
    · rw [if_pos h, dif_neg (by show ¬ 2 ≤ s.val + (2 - e); omega)]
    · rw [if_neg h, dif_pos (by show 2 ≤ s.val + (2 - e); omega), up_apply]
      exact congrArg (fun q => Ux x g w q n.val) (by show 4096 * b.val + (s.val + (2 - e) - 2) = 4096 * b.val + s.val - e; omega)
  have hc : ∀ (b : Fin 8) (s : Fin 4096) (n : Fin 11264),
      conv (padded (up x g w)) cw cb (ix3 b s n) = Cx x g w cw cb (4096 * b.val + s.val) n.val := by
    intro b s n
    have h0 := hp b s n 2 (by omega)
    have h1 := hp b s n 1 (by omega)
    have h2 := hp b s n 0 (by omega)
    have h3 : Px x g w (4096 * b.val + s.val) 0 n.val = Ux x g w (4096 * b.val + s.val) n.val := by
      unfold Px
      rw [if_neg (by omega), Nat.sub_zero]
    rw [h3] at h2
    rw [conv_apply]
    unfold Cx cv cwN cbN
    rw [dif_pos n.isLt, dif_pos n.isLt, dif_pos n.isLt, dif_pos n.isLt, ← h0, ← h1, ← h2]
    show _ + _ + _ + _ = _ + _ + _ + _
    rw [add_right_comm _ (cw (ix2 2 n) * _), add_right_comm _ (cw (ix2 2 n) * _)]
    rfl
  funext j
  obtain ⟨r, d, rfl⟩ : ∃ (r : Fin 32768) (d : Fin 2048), j = ix2 r d := ⟨j 0, j 1, eq_ix2 j⟩
  rw [down_apply]
  show _ = x (ix2 r d) + ∑ n : Fin 5632, Ax x g w cw cb r.val n.val * wd (ix3 0 n d)
  refine congrArg (x (ix2 r d) + ·) (Finset.sum_congr rfl fun n _ => congrArg (· * wd (ix3 0 n d)) ?_)
  rw [gated_apply, hc, hc]
  have e : 4096 * (r.val / 4096) + r.val % 4096 = r.val := Nat.div_add_mod _ _
  unfold Ax
  show sil (Cx x g w cw cb (4096 * (r.val / 4096) + r.val % 4096) n.val) * Cx x g w cw cb (4096 * (r.val / 4096) + r.val % 4096) (5632 + n.val) = _
  rw [e]

end Cert.FfnRefIdeal.Spec

namespace Cert.Proof.FfnClaims

theorem algebraic : Cert.algebraic_FfnIdeal_FfnRefIdeal := fun m ρ m' ρ' _ hag =>
  ⟨fun c => FfnIdeal.Spec.GR m c,
   FfnIdeal.Spec.run m ρ,
   (θ_run _ _ _).mono (fun _ h c => ⟨(h c).1.trans (by
      obtain ⟨e0, e1, e2, e3, e4, e5, e6⟩ := hag c
      unfold FfnRefIdeal.Value.res_main_v51
      rw [e0, e1, e3, e4, e5, e6]
      exact FfnRefIdeal.Spec.res_eq _ _ _ _ _ _), (h c).2⟩) (FfnRefIdeal.Value.run m' ρ')⟩

end Cert.Proof.FfnClaims

end
-- ==== Proof.FfnHand.lean ====
module

public import proofs.«01_k».proof.Defs
public import proofs.«01_k».proof.Proof.Gen.Ffn
public import proofs.«01_k».proof.Proof.FfnIdealHand

@[expose] public section

/-! # The run of the gated feed-forward layer as printed

The two printings are the same program: every body and every statement is one term, over any floats.  So the run shown
for the one is a run of the other. -/

namespace Cert.Ffn.Hand

open Idealize.ShloMosaic Idealize.SL.Sem

attribute [local instance] Cert.Ffn.Gen.facts

set_option backward.isDefEq.respectTransparency false
set_option backward.isDefEq.respectTransparency.types false

theorem defs₀_eq : Cert.Ffn.defs₀ (F := Bits) = Cert.FfnIdeal.defs₀ (F := Bits) := by
  unfold Cert.Ffn.defs₀ Cert.FfnIdeal.defs₀
  refine congrArg (Defs.onTc (nD := Cert.Ffn.nD) (τ := Cert.Ffn.τ) (sig := Cert.Ffn.sig)) ?_
  funext l x
  match l, x with
  | 0, (t, s) => rfl

theorem defs_eq : Cert.Ffn.defs (F := Bits) = Cert.FfnIdeal.defs (F := Bits) :=
  congrArg (Pipeline.defs (Cert.FfnIdeal.pcfgs (F := Bits))) defs₀_eq

theorem frame : @Cert.quiescent_Ffn Cert.Ffn.Gen.facts := fun m ρ _ => by
  rw [defs_eq]
  exact Cert.FfnIdeal.Hand.frame (F := Bits) m ρ

end Cert.Ffn.Hand

end
-- ==== Proof.LastIdealHand.lean ====
module

public import proofs.«01_k».proof.Proof.Gen.LastIdeal.Frame
public import proofs.«01_k».proof.Proof.Gen.LastIdeal.Skeleton
public import Idealize.ShloMosaic.Lib.Claim
public import Idealize.ShloMosaic.Lib.Pipeline.Value
public import Idealize.ShloMosaic.Lib.VecWindow
public import Idealize.ShloMosaic.Lib.Pointwise

@[expose] public section

set_option maxRecDepth 16384

/-! # The run of the last gated feed-forward layer

The kernel runs over 64 row tiles and, within a tile, twelve steps.  The first step normalizes the tile's rows, starts
the result with the rows themselves, and multiplies the normalized rows by the first columns of the two weights; each
later step multiplies them by the next columns and, meanwhile, convolves, gates and folds into the result the columns
of the step before; the last step folds
and normalizes the result.  The products of a tile's last eight rows are kept for the next tile. -/

noncomputable section

namespace Cert.LastIdeal.Hand

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Short names for the types of the arrays. -/
abbrev TH0 (F : FTy → Type) := Vec F S512x2048 .f32
abbrev TH1 (F : FTy → Type) := Vec F S2x11x8x512 .f32
abbrev TH2 (F : FTy → Type) := Vec F S1x2048x512 .bf16
abbrev TH3 (F : FTy → Type) := Vec F S1x2048 .f32
abbrev TH4 (F : FTy → Type) := Vec F S2x520x512 .f32
abbrev TH5 (F : FTy → Type) := Vec F S22x3x512 .f32
abbrev TH6 (F : FTy → Type) := Vec F S22x1x512 .f32
abbrev TH7 (F : FTy → Type) := Vec F S1x512x2048 .bf16

variable {F : FTy → Type} [FloatOps F]

local notation "𝕄" => MT nD τ sig Unit (Elt F) ℕ (UR sig nD τ) ℕ

/-- A buffer held whole, with its contents. -/
abbrev ow (c : Dev nD) {sh : Shape} {e : EltTy} (a : Memref sig .tc .vmem sh e) (X : sh.Idx → Elt F e) : sProp 𝕄 := owns (c : Thread nD τ) a fullShare X

variable (m : (ℓ : Loc nD τ sig) → Buf (Elt F) ℓ) (ρ : Dev nD → PrngReg)

theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

/-! ## What one step leaves, as functions of what it finds -/

/-- The body's condition that the row tile is the first of all. -/
abbrev condI (i : grid0.Coords) : Prop := (Scalar.cmpi .ne (Scalar.extui (Scalar.cmpi .eq (BitVec.ofNat 32 (i 0).val) 0#32)) 0#32) = 1#1

/-- Whether the row tile starts a sequence. -/
def fst (i : grid0.Coords) : BitVec 1 :=
  let a0 : BitVec 32 := BitVec.ofNat 32 (i 0).val
  let v0 : BitVec 1 := Scalar.cmpi .eq 8#32 0#32
  let v1 : BitVec 32 := Scalar.select v0 1#32 8#32
  let v2 : BitVec 32 := Scalar.remsi a0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 0#32

/-- One slot of the kept products: eight rows of one of the two products, for one step. -/
def ldT (tl : TH1 F) (a : Fin 2) (jj : Fin 11) : Vec F S1x1x8x512 .f32 := fun y => tl (ix4 a jj (y 2) (y 3))
/-- One step's convolution weights. -/
def ldC (cw : TH5 F) (k : Fin 22) : Vec F S1x3x512 .f32 := fun y => cw (ix3 k (y 1) (y 2))
/-- One step's convolution bias. -/
def ldB (cb : TH6 F) (k : Fin 22) : Vec F S1x1x512 .f32 := fun y => cb (ix3 k (y 1) (y 2))

theorem ld4 (tl : TH1 F) (a : Fin 2) (jj : Fin 11) {off : Fin 4 → ℕ} (h : off = ![a.val, jj.val, 0, 0])
    {inb : ∀ a, off a + S1x1x8x512.size a ≤ S2x11x8x512.size a} :
    View.ld tl (Rect.unit (s := S2x11x8x512) off S1x1x8x512.size inb) = ldT tl a jj := by
  subst h
  funext y
  refine congrArg tl (funext fun b => Fin.ext ?_)
  have h0 : (y 0).val = 0 := Nat.lt_one_iff.mp (y 0).isLt
  have h1 : (y 1).val = 0 := Nat.lt_one_iff.mp (y 1).isLt
  fin_cases b
  · show a.val + 1 * (y 0).val = a.val; omega
  · show jj.val + 1 * (y 1).val = jj.val; omega
  · show 0 + 1 * (y 2).val = (y 2).val; omega
  · show 0 + 1 * (y 3).val = (y 3).val; omega

theorem ld3 (cw : TH5 F) (k : Fin 22) {off : Fin 3 → ℕ} (h : off = ![k.val, 0, 0])
    {inb : ∀ a, off a + S1x3x512.size a ≤ S22x3x512.size a} :
    View.ld cw (Rect.unit (s := S22x3x512) off S1x3x512.size inb) = ldC cw k := by
  subst h
  funext y
  refine congrArg cw (funext fun b => Fin.ext ?_)
  have h0 : (y 0).val = 0 := Nat.lt_one_iff.mp (y 0).isLt
  fin_cases b
  · show k.val + 1 * (y 0).val = k.val; omega
  · show 0 + 1 * (y 1).val = (y 1).val; omega
  · show 0 + 1 * (y 2).val = (y 2).val; omega

theorem ld3b (cb : TH6 F) (k : Fin 22) {off : Fin 3 → ℕ} (h : off = ![k.val, 0, 0])
    {inb : ∀ a, off a + S1x1x512.size a ≤ S22x1x512.size a} :
    View.ld cb (Rect.unit (s := S22x1x512) off S1x1x512.size inb) = ldB cb k := by
  subst h
  funext y
  refine congrArg cb (funext fun b => Fin.ext ?_)
  have h0 : (y 0).val = 0 := Nat.lt_one_iff.mp (y 0).isLt
  fin_cases b
  · show k.val + 1 * (y 0).val = k.val; omega
  · show 0 + 1 * (y 1).val = (y 1).val; omega
  · show 0 + 1 * (y 2).val = (y 2).val; omega

/-- The upper and the lower half of a tile's rows. -/
def x0 (x : TH0 F) : Vec F S256x2048 .f32 := View.ld x (Rect.unit _ _ inb_S512x2048_S256x2048_0_0)
def x1 (x : TH0 F) : Vec F S256x2048 .f32 := View.ld x (Rect.unit _ _ inb_S512x2048_S256x2048_256_0)
/-- The normalized rows, half by half. -/
def h0 (x : TH0 F) (g : TH3 F) : Vec F S256x2048 .bf16 := k0_pay4 (x0 x) g
def h1 (x : TH0 F) (g : TH3 F) : Vec F S256x2048 .bf16 := k0_pay13 (x1 x) (k0_pay11 g) (k0_pay12 (x1 x))

/-- After a tile's first step: the result's rows, the normalized rows, the two products and the kept products. -/
def oA (x : TH0 F) : TH0 F :=
  View.canon (Val := Elt F) (s := S512x2048) (e := .f32) [⟨(Rect.unit _ _ inb_S512x2048_S256x2048_256_0), x1 x⟩, ⟨(Rect.unit _ _ inb_S512x2048_S256x2048_0_0), x0 x⟩]
def hA (x : TH0 F) (g : TH3 F) : Vec F S512x2048 .bf16 :=
  View.canon (Val := Elt F) (s := S512x2048) (e := .bf16) [⟨(Rect.unit _ _ inb_S512x2048_S256x2048_256_0), h1 x g⟩, ⟨(Rect.unit _ _ inb_S512x2048_S256x2048_0_0), h0 x g⟩]
def uA (v : BitVec 1) (x : TH0 F) (g : TH3 F) (wg wu : TH2 F) (tl : TH1 F) : TH4 F :=
  View.canon (Val := Elt F) (s := S2x520x512) (e := .f32)
    [⟨(Rect.unit _ _ inb_S2x520x512_S1x256x512_1_264_0), k0_pay18 (h1 x g) wu⟩,
     ⟨(Rect.unit _ _ inb_S2x520x512_S1x256x512_0_264_0), k0_pay15 (h1 x g) wg⟩,
     ⟨(Rect.unit _ _ inb_S2x520x512_S1x256x512_1_8_0), k0_pay10 (h0 x g) wu⟩,
     ⟨(Rect.unit _ _ inb_S2x520x512_S1x8x512_1_0_0), k0_pay9 v (ldT tl 1 0)⟩,
     ⟨(Rect.unit _ _ inb_S2x520x512_S1x256x512_0_8_0), k0_pay8 (k0_pay5 (h0 x g) wg)⟩,
     ⟨(Rect.unit _ _ inb_S2x520x512_S1x8x512_0_0_0), k0_pay7 (k0_pay6 v (ldT tl 0 0))⟩]
def tA (x : TH0 F) (g : TH3 F) (wg wu : TH2 F) (tl : TH1 F) : TH1 F :=
  VecWindow.put (VecWindow.put tl ![0, 0, 0, 0] S1x1x8x512.size (k0_pay16 (h1 x g) wg)) ![1, 0, 0, 0] S1x1x8x512.size (k0_pay56 (k0_pay19 (h1 x g) wu))

/-- After a middle step: the two products, the kept products and the result's rows. -/
def uM (v : BitVec 1) (h : Vec F S512x2048 .bf16) (wg wu : TH2 F) (tl : TH1 F) (jj : Fin 11) : TH4 F :=
  View.canon (Val := Elt F) (s := S2x520x512) (e := .f32)
    [⟨(Rect.unit _ _ inb_S2x520x512_S1x512x512_1_8_0), k0_pay27 (k0_pay24 h wu)⟩,
     ⟨(Rect.unit _ _ inb_S2x520x512_S1x8x512_1_0_0), k0_pay26 (k0_pay25 v (ldT tl 1 jj))⟩,
     ⟨(Rect.unit _ _ inb_S2x520x512_S1x512x512_0_8_0), k0_pay22 h wg⟩,
     ⟨(Rect.unit _ _ inb_S2x520x512_S1x8x512_0_0_0), k0_pay21 v (ldT tl 0 jj)⟩]
def tM (h : Vec F S512x2048 .bf16) (wg wu : TH2 F) (tl : TH1 F) (jj : Fin 11) : TH1 F :=
  VecWindow.put (VecWindow.put tl ![0, jj.val, 0, 0] S1x1x8x512.size (k0_pay23 h wg)) ![1, jj.val, 0, 0] S1x1x8x512.size (k0_pay28 (k0_pay24 h wu))
def oM (o : TH0 F) (u : TH4 F) (cw : TH5 F) (cb : TH6 F) (jp : Fin 11) (wd : TH7 F) : TH0 F :=
  k0_pay57 (k0_pay32 (k0_pay30 (ldC cw ⟨jp.val, by omega⟩) (ldB cb ⟨jp.val, by omega⟩) (View.ld u (Rect.unit _ _ inb_S2x520x512_S1x512x512_0_8_0)) (View.ld u (Rect.unit _ _ inb_S2x520x512_S1x512x512_0_6_0)))
      (k0_pay31 (ldC cw ⟨jp.val, by omega⟩)) (View.ld u (Rect.unit _ _ inb_S2x520x512_S1x512x512_0_7_0)) (ldC cw ⟨11 + jp.val, by omega⟩) (ldB cb ⟨11 + jp.val, by omega⟩)
      (View.ld u (Rect.unit _ _ inb_S2x520x512_S1x512x512_1_8_0)) (View.ld u (Rect.unit _ _ inb_S2x520x512_S1x512x512_1_6_0)) (View.ld u (Rect.unit _ _ inb_S2x520x512_S1x512x512_1_7_0))) o wd

/-- After a tile's last step: the result's rows, half by half. -/
def oZ0 (o : TH0 F) (u : TH4 F) (cw : TH5 F) (cb : TH6 F) (wd : TH7 F) (fg : TH3 F) : Vec F S256x2048 .f32 :=
  k0_pay50 (k0_pay46 (ldC cw 10) (ldB cb 10) (View.ld u (Rect.unit _ _ inb_S2x520x512_S1x256x512_0_8_0)) (View.ld u (Rect.unit _ _ inb_S2x520x512_S1x256x512_0_6_0)) (View.ld u (Rect.unit _ _ inb_S2x520x512_S1x256x512_0_7_0)))
    (k0_pay47 (ldC cw 21)) (k0_pay48 (ldB cb 21)) (k0_pay49 (ldC cw 21))
    (View.ld u (Rect.unit _ _ inb_S2x520x512_S1x256x512_1_8_0)) (View.ld u (Rect.unit _ _ inb_S2x520x512_S1x256x512_1_6_0)) (View.ld u (Rect.unit _ _ inb_S2x520x512_S1x256x512_1_7_0))
    (View.ld o (Rect.unit _ _ inb_S512x2048_S256x2048_0_0)) wd fg
def oZ1 (o : TH0 F) (u : TH4 F) (cw : TH5 F) (cb : TH6 F) (wd : TH7 F) (fg : TH3 F) : Vec F S256x2048 .f32 :=
  k0_pay2 (k0_pay53 (k0_pay51 (ldC cw 10) (ldB cb 10) (View.ld u (Rect.unit _ _ inb_S2x520x512_S1x256x512_0_264_0)) (View.ld u (Rect.unit _ _ inb_S2x520x512_S1x256x512_0_262_0)) (View.ld u (Rect.unit _ _ inb_S2x520x512_S1x256x512_0_263_0)))
    (k0_pay52 (ldC cw 21)) (ldB cb 21) (View.ld u (Rect.unit _ _ inb_S2x520x512_S1x256x512_1_264_0)) (View.ld u (Rect.unit _ _ inb_S2x520x512_S1x256x512_1_262_0)) (View.ld u (Rect.unit _ _ inb_S2x520x512_S1x256x512_1_263_0))
    (View.ld o (Rect.unit _ _ inb_S512x2048_S256x2048_256_0)) wd)
    (k0_pay54 fg)
    (k0_pay55 (k0_pay51 (ldC cw 10) (ldB cb 10) (View.ld u (Rect.unit _ _ inb_S2x520x512_S1x256x512_0_264_0)) (View.ld u (Rect.unit _ _ inb_S2x520x512_S1x256x512_0_262_0)) (View.ld u (Rect.unit _ _ inb_S2x520x512_S1x256x512_0_263_0)))
    (k0_pay52 (ldC cw 21)) (ldB cb 21) (View.ld u (Rect.unit _ _ inb_S2x520x512_S1x256x512_1_264_0)) (View.ld u (Rect.unit _ _ inb_S2x520x512_S1x256x512_1_262_0)) (View.ld u (Rect.unit _ _ inb_S2x520x512_S1x256x512_1_263_0))
    (View.ld o (Rect.unit _ _ inb_S512x2048_S256x2048_256_0)) wd)
def oZ (o : TH0 F) (u : TH4 F) (cw : TH5 F) (cb : TH6 F) (wd : TH7 F) (fg : TH3 F) : TH0 F :=
  View.canon (Val := Elt F) (s := S512x2048) (e := .f32) [⟨(Rect.unit _ _ inb_S512x2048_S256x2048_256_0), oZ1 o u cw cb wd fg⟩, ⟨(Rect.unit _ _ inb_S512x2048_S256x2048_0_0), oZ0 o u cw cb wd fg⟩]

/-! ## The body on whole buffers, case by case -/

section
variable (c : Dev nD) (i : grid0.Coords) (a2 : Memref sig .tc .vmem S512x2048 .f32) (p2 : a2.IsWhole) (a3 : Memref sig .tc .vmem S1x2048 .f32) (p3 : a3.IsWhole) (a4 : Memref sig .tc .vmem S1x2048 .f32) (p4 : a4.IsWhole) (a5 : Memref sig .tc .vmem S1x2048x512 .bf16) (p5 : a5.IsWhole) (a6 : Memref sig .tc .vmem S1x2048x512 .bf16) (p6 : a6.IsWhole) (a7 : Memref sig .tc .vmem S22x3x512 .f32) (p7 : a7.IsWhole) (a8 : Memref sig .tc .vmem S22x1x512 .f32) (p8 : a8.IsWhole) (a9 : Memref sig .tc .vmem S1x512x2048 .bf16) (p9 : a9.IsWhole) (a10 : Memref sig .tc .vmem S512x2048 .f32) (p10 : a10.IsWhole) (a11 : Memref sig .tc .vmem S512x2048 .bf16) (p11 : a11.IsWhole) (a12 : Memref sig .tc .vmem S2x520x512 .f32) (p12 : a12.IsWhole) (a13 : Memref sig .tc .vmem S2x520x512 .f32) (p13 : a13.IsWhole) (a14 : Memref sig .tc .vmem S2x11x8x512 .f32) (p14 : a14.IsWhole)

set_option maxHeartbeats 1000000 in
/-- A middle step of even number: the step's columns into one buffer, and the other buffer's columns folded into the result. -/
theorem run_M0
    (hc1 : ¬ k0_cond1 i = 1#1) (hc3 : k0_cond3 i = 1#1) (hc4 : ¬ k0_cond4 i = 1#1) (hc5 : ¬ k0_cond5 i = 1#1)
    (jj : Fin 11) (jp : Fin 11) (ho1 : k0_off1 i = ![0, jj.val, 0, 0]) (ho2 : k0_off2 i = ![1, jj.val, 0, 0])
    (ho3 : k0_off3 i 0#32 = ![jp.val, 0, 0]) (ho3' : k0_off3 i 11#32 = ![11 + jp.val, 0, 0]) (ho4 : k0_off4 i 0#32 = ![jp.val, 0, 0]) (ho4' : k0_off4 i 11#32 = ![11 + jp.val, 0, 0])
    (wg : TH2 F) (wu : TH2 F) (cw : TH5 F) (cb : TH6 F) (wd : TH7 F) (o : TH0 F) (h : Vec F S512x2048 .bf16) (ub : TH4 F) (tl : TH1 F) (E : Set ℕ) (K : PUnit → sProp 𝕄) :
    iprop(ow c a5 wg
        ∗ ow c a6 wu
        ∗ ow c a7 cw
        ∗ ow c a8 cb
        ∗ ow c a9 wd
        ∗ ow c a10 o
        ∗ ow c a11 h
        ∗ (∃ d, ow c a12 d)
        ∗ ow c a13 ub
        ∗ ow c a14 tl
        ∗ (iprop(ow c a5 wg
        ∗ ow c a6 wu
        ∗ ow c a7 cw
        ∗ ow c a8 cb
        ∗ ow c a9 wd
        ∗ ow c a10 (oM o ub cw cb jp wd)
        ∗ ow c a11 h
        ∗ ow c a12 (uM (fst i) h wg wu tl jj)
        ∗ ow c a13 ub
        ∗ ow c a14 (tM h wg wu tl jj)) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part4_eq_skeleton, k0_part5_eq_skeleton, k0_part6_eq_skeleton]
  unfold ow owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, Hk⟩
  obtain rfl := p5.eq_unread hf5
  obtain rfl := p6.eq_unread hf6
  obtain rfl := p7.eq_unread hf7
  obtain rfl := p8.eq_unread hf8
  obtain rfl := p9.eq_unread hf9
  obtain rfl := p10.eq_unread hf10
  obtain rfl := p11.eq_unread hf11
  obtain rfl := p13.eq_unread hf13
  obtain rfl := p14.eq_unread hf14
  sl_exec (disch := first | sl_exact hc1 | sl_exact hc3 | sl_exact hc4 | sl_exact hc5)
  sl_step
  iapply Hk
  isplitl [H5]
  · iexists _; isplitr; · ipureintro; exact p5.read_unread _
    iexact H5
  isplitl [H6]
  · iexists _; isplitr; · ipureintro; exact p6.read_unread _
    iexact H6
  isplitl [H7]
  · iexists _; isplitr; · ipureintro; exact p7.read_unread _
    iexact H7
  isplitl [H8]
  · iexists _; isplitr; · ipureintro; exact p8.read_unread _
    iexact H8
  isplitl [H9]
  · iexists _; isplitr; · ipureintro; exact p9.read_unread _
    iexact H9
  isplitl [H10]
  · iexists _; isplitr
    swap; · iexact H10
    ipureintro
    rw [View.read_writes_eq_canon _ _ _ (View.cover_of_tiledL _ ![512, 2048] (by sl_kernel_rfl))]
    unfold oM
    rw [← ld3 cw (⟨jp.val, by omega⟩ : Fin 22) ho3 (inb := k0_off3_inb i hc3 0), ← ld3 cw (⟨11 + jp.val, by omega⟩ : Fin 22) ho3' (inb := k0_off3_inb i hc3 1), ← ld3b cb (⟨jp.val, by omega⟩ : Fin 22) ho4 (inb := k0_off4_inb i hc3 0), ← ld3b cb (⟨11 + jp.val, by omega⟩ : Fin 22) ho4' (inb := k0_off4_inb i hc3 1)]
    try sl_unfold_words
    rw [View.canon_unit_zero hz2]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H11]
  · iexists _; isplitr; · ipureintro; exact p11.read_unread _
    iexact H11
  isplitl [H12]
  · iexists _; isplitr
    swap; · iexact H12
    ipureintro
    rw [View.read_writes_eq_canon _ _ _ (View.cover_of_tiledBy _ ![1, 8, 512] (by sl_kernel_rfl))]
    unfold uM
    rw [← ld4 tl 0 jj ho1 (inb := k0_off1_inb i hc3), ← ld4 tl 1 jj ho2 (inb := k0_off2_inb i hc3)]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H13]
  · iexists _; isplitr; · ipureintro; exact p13.read_unread _
    iexact H13
  · iexists _; isplitr
    swap; · iexact H14
    ipureintro
    rw [View.read_writes_cons_put _ _ _ _ _ ho2, View.read_writes_cons_put _ _ _ _ _ ho1, View.writes_nil, p14.read_unread]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl

set_option maxHeartbeats 1000000 in
/-- A middle step of odd number: the step's columns into one buffer, and the other buffer's columns folded into the result. -/
theorem run_M1
    (hc1 : ¬ k0_cond1 i = 1#1) (hc3 : ¬ k0_cond3 i = 1#1) (hc4 : k0_cond4 i = 1#1) (hc5 : ¬ k0_cond5 i = 1#1)
    (jj : Fin 11) (jp : Fin 11) (ho1 : k0_off5 i = ![0, jj.val, 0, 0]) (ho2 : k0_off6 i = ![1, jj.val, 0, 0])
    (ho3 : k0_off7 i 0#32 = ![jp.val, 0, 0]) (ho3' : k0_off7 i 11#32 = ![11 + jp.val, 0, 0]) (ho4 : k0_off8 i 0#32 = ![jp.val, 0, 0]) (ho4' : k0_off8 i 11#32 = ![11 + jp.val, 0, 0])
    (wg : TH2 F) (wu : TH2 F) (cw : TH5 F) (cb : TH6 F) (wd : TH7 F) (o : TH0 F) (h : Vec F S512x2048 .bf16) (ua : TH4 F) (tl : TH1 F) (E : Set ℕ) (K : PUnit → sProp 𝕄) :
    iprop(ow c a5 wg
        ∗ ow c a6 wu
        ∗ ow c a7 cw
        ∗ ow c a8 cb
        ∗ ow c a9 wd
        ∗ ow c a10 o
        ∗ ow c a11 h
        ∗ ow c a12 ua
        ∗ (∃ d, ow c a13 d)
        ∗ ow c a14 tl
        ∗ (iprop(ow c a5 wg
        ∗ ow c a6 wu
        ∗ ow c a7 cw
        ∗ ow c a8 cb
        ∗ ow c a9 wd
        ∗ ow c a10 (oM o ua cw cb jp wd)
        ∗ ow c a11 h
        ∗ ow c a12 ua
        ∗ ow c a13 (uM (fst i) h wg wu tl jj)
        ∗ ow c a14 (tM h wg wu tl jj)) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part7_eq_skeleton, k0_part8_eq_skeleton, k0_part9_eq_skeleton]
  unfold ow owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  obtain rfl := p5.eq_unread hf5
  obtain rfl := p6.eq_unread hf6
  obtain rfl := p7.eq_unread hf7
  obtain rfl := p8.eq_unread hf8
  obtain rfl := p9.eq_unread hf9
  obtain rfl := p10.eq_unread hf10
  obtain rfl := p11.eq_unread hf11
  obtain rfl := p12.eq_unread hf12
  obtain rfl := p14.eq_unread hf14
  sl_exec (disch := first | sl_exact hc1 | sl_exact hc3 | sl_exact hc4 | sl_exact hc5)
  sl_step
  iapply Hk
  isplitl [H5]
  · iexists _; isplitr; · ipureintro; exact p5.read_unread _
    iexact H5
  isplitl [H6]
  · iexists _; isplitr; · ipureintro; exact p6.read_unread _
    iexact H6
  isplitl [H7]
  · iexists _; isplitr; · ipureintro; exact p7.read_unread _
    iexact H7
  isplitl [H8]
  · iexists _; isplitr; · ipureintro; exact p8.read_unread _
    iexact H8
  isplitl [H9]
  · iexists _; isplitr; · ipureintro; exact p9.read_unread _
    iexact H9
  isplitl [H10]
  · iexists _; isplitr
    swap; · iexact H10
    ipureintro
    rw [View.read_writes_eq_canon _ _ _ (View.cover_of_tiledL _ ![512, 2048] (by sl_kernel_rfl))]
    unfold oM
    rw [← ld3 cw (⟨jp.val, by omega⟩ : Fin 22) ho3 (inb := k0_off7_inb i hc4 0), ← ld3 cw (⟨11 + jp.val, by omega⟩ : Fin 22) ho3' (inb := k0_off7_inb i hc4 1), ← ld3b cb (⟨jp.val, by omega⟩ : Fin 22) ho4 (inb := k0_off8_inb i hc4 0), ← ld3b cb (⟨11 + jp.val, by omega⟩ : Fin 22) ho4' (inb := k0_off8_inb i hc4 1)]
    try sl_unfold_words
    rw [View.canon_unit_zero hz2]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H11]
  · iexists _; isplitr; · ipureintro; exact p11.read_unread _
    iexact H11
  isplitl [H12]
  · iexists _; isplitr; · ipureintro; exact p12.read_unread _
    iexact H12
  isplitl [H13]
  · iexists _; isplitr
    swap; · iexact H13
    ipureintro
    rw [View.read_writes_eq_canon _ _ _ (View.cover_of_tiledBy _ ![1, 8, 512] (by sl_kernel_rfl))]
    unfold uM
    rw [← ld4 tl 0 jj ho1 (inb := k0_off5_inb i hc4), ← ld4 tl 1 jj ho2 (inb := k0_off6_inb i hc4)]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  · iexists _; isplitr
    swap; · iexact H14
    ipureintro
    rw [View.read_writes_cons_put _ _ _ _ _ ho2, View.read_writes_cons_put _ _ _ _ _ ho1, View.writes_nil, p14.read_unread]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl

set_option maxHeartbeats 1000000 in
/-- A tile's first step, for the first tile: the kept products start at zero. -/
theorem run_A0
    (hcI : condI i) (hc1 : k0_cond1 i = 1#1) (hc3 : ¬ k0_cond3 i = 1#1) (hc4 : ¬ k0_cond4 i = 1#1) (hc5 : ¬ k0_cond5 i = 1#1)
    (x : TH0 F) (g : TH3 F) (wg : TH2 F) (wu : TH2 F) (E : Set ℕ) (K : PUnit → sProp 𝕄) :
    iprop(ow c a2 x
        ∗ ow c a3 g
        ∗ ow c a5 wg
        ∗ ow c a6 wu
        ∗ (∃ d, ow c a10 d)
        ∗ (∃ d, ow c a11 d)
        ∗ (∃ d, ow c a12 d)
        ∗ (∃ d, ow c a14 d)
        ∗ (iprop(ow c a2 x
        ∗ ow c a3 g
        ∗ ow c a5 wg
        ∗ ow c a6 wu
        ∗ ow c a10 (oA x)
        ∗ ow c a11 (hA x g)
        ∗ ow c a12 (uA (fst i) x g wg wu (k0_pay3 (F := F)))
        ∗ ow c a14 (tA x g wg wu (k0_pay3 (F := F)))) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part1_eq_skeleton, k0_part2_eq_skeleton, k0_part3_eq_skeleton]
  unfold ow owns
  iintro ⟨⟨%f2, %hf2, H2⟩, ⟨%f3, %hf3, H3⟩, ⟨%f5, %hf5, H5⟩, ⟨%f6, %hf6, H6⟩, ⟨%d10, %f10, -, H10⟩, ⟨%d11, %f11, -, H11⟩, ⟨%d12, %f12, -, H12⟩, ⟨%d14, %f14, -, H14⟩, Hk⟩
  obtain rfl := p2.eq_unread hf2
  obtain rfl := p3.eq_unread hf3
  obtain rfl := p5.eq_unread hf5
  obtain rfl := p6.eq_unread hf6
  sl_exec (disch := first | sl_exact hcI | sl_exact hc1 | sl_exact hc3 | sl_exact hc4 | sl_exact hc5)
  sl_step
  iapply Hk
  isplitl [H2]
  · iexists _; isplitr; · ipureintro; exact p2.read_unread _
    iexact H2
  isplitl [H3]
  · iexists _; isplitr; · ipureintro; exact p3.read_unread _
    iexact H3
  isplitl [H5]
  · iexists _; isplitr; · ipureintro; exact p5.read_unread _
    iexact H5
  isplitl [H6]
  · iexists _; isplitr; · ipureintro; exact p6.read_unread _
    iexact H6
  isplitl [H10]
  · iexists _; isplitr
    swap; · iexact H10
    ipureintro
    rw [View.read_writes_eq_canon _ _ _ (View.cover_of_tiledL _ ![256, 2048] (by sl_kernel_rfl))]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H11]
  · iexists _; isplitr
    swap; · iexact H11
    ipureintro
    rw [View.read_writes_eq_canon _ _ _ (View.cover_of_tiledL _ ![256, 2048] (by sl_kernel_rfl))]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H12]
  · iexists _; isplitr
    swap; · iexact H12
    ipureintro
    rw [View.read_writes_eq_canon _ _ _ (View.cover_of_tiledBy _ ![1, 8, 512] (by sl_kernel_rfl))]
    unfold uA
    rw [← ld4 (k0_pay3 (F := F)) 0 0 rfl (inb := inb_S2x11x8x512_S1x1x8x512_0_0_0_0), ← ld4 (k0_pay3 (F := F)) 1 0 rfl (inb := inb_S2x11x8x512_S1x1x8x512_1_0_0_0)]
    try sl_unfold_words
    simp only [View.readCov_cons_toLoadRect]
    simp only [View.readCov_eq_canon', View.canon_unit_zero (S := S2x11x8x512) hz4]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  · iexists _; isplitr
    swap; · iexact H14
    ipureintro
    rw [View.read_writes_cons_put _ _ _ _ _ rfl, View.read_writes_cons_put _ _ _ _ _ rfl]
    rw [View.read_writes_eq_canon _ _ _ (View.cover_of_tiledL _ S2x11x8x512.size (by sl_kernel_rfl))]
    try sl_unfold_words
    rw [View.canon_unit_zero (S := S2x11x8x512) hz4]
    simp only [View.readCov_cons_toLoadRect]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl

set_option maxHeartbeats 1000000 in
/-- A tile's first step (not the first tile's). -/
theorem run_A
    (hcI : ¬ condI i) (hc1 : k0_cond1 i = 1#1) (hc3 : ¬ k0_cond3 i = 1#1) (hc4 : ¬ k0_cond4 i = 1#1) (hc5 : ¬ k0_cond5 i = 1#1)
    (x : TH0 F) (g : TH3 F) (wg : TH2 F) (wu : TH2 F) (tl : TH1 F) (E : Set ℕ) (K : PUnit → sProp 𝕄) :
    iprop(ow c a2 x
        ∗ ow c a3 g
        ∗ ow c a5 wg
        ∗ ow c a6 wu
        ∗ (∃ d, ow c a10 d)
        ∗ (∃ d, ow c a11 d)
        ∗ (∃ d, ow c a12 d)
        ∗ ow c a14 tl
        ∗ (iprop(ow c a2 x
        ∗ ow c a3 g
        ∗ ow c a5 wg
        ∗ ow c a6 wu
        ∗ ow c a10 (oA x)
        ∗ ow c a11 (hA x g)
        ∗ ow c a12 (uA (fst i) x g wg wu tl)
        ∗ ow c a14 (tA x g wg wu tl)) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part1_eq_skeleton, k0_part2_eq_skeleton, k0_part3_eq_skeleton]
  unfold ow owns
  iintro ⟨⟨%f2, %hf2, H2⟩, ⟨%f3, %hf3, H3⟩, ⟨%f5, %hf5, H5⟩, ⟨%f6, %hf6, H6⟩, ⟨%d10, %f10, -, H10⟩, ⟨%d11, %f11, -, H11⟩, ⟨%d12, %f12, -, H12⟩, ⟨%f14, %hf14, H14⟩, Hk⟩
  obtain rfl := p2.eq_unread hf2
  obtain rfl := p3.eq_unread hf3
  obtain rfl := p5.eq_unread hf5
  obtain rfl := p6.eq_unread hf6
  obtain rfl := p14.eq_unread hf14
  sl_exec (disch := first | sl_exact hcI | sl_exact hc1 | sl_exact hc3 | sl_exact hc4 | sl_exact hc5)
  sl_step
  iapply Hk
  isplitl [H2]
  · iexists _; isplitr; · ipureintro; exact p2.read_unread _
    iexact H2
  isplitl [H3]
  · iexists _; isplitr; · ipureintro; exact p3.read_unread _
    iexact H3
  isplitl [H5]
  · iexists _; isplitr; · ipureintro; exact p5.read_unread _
    iexact H5
  isplitl [H6]
  · iexists _; isplitr; · ipureintro; exact p6.read_unread _
    iexact H6
  isplitl [H10]
  · iexists _; isplitr
    swap; · iexact H10
    ipureintro
    rw [View.read_writes_eq_canon _ _ _ (View.cover_of_tiledL _ ![256, 2048] (by sl_kernel_rfl))]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H11]
  · iexists _; isplitr
    swap; · iexact H11
    ipureintro
    rw [View.read_writes_eq_canon _ _ _ (View.cover_of_tiledL _ ![256, 2048] (by sl_kernel_rfl))]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  isplitl [H12]
  · iexists _; isplitr
    swap; · iexact H12
    ipureintro
    rw [View.read_writes_eq_canon _ _ _ (View.cover_of_tiledBy _ ![1, 8, 512] (by sl_kernel_rfl))]
    unfold uA
    rw [← ld4 tl 0 0 rfl (inb := inb_S2x11x8x512_S1x1x8x512_0_0_0_0), ← ld4 tl 1 0 rfl (inb := inb_S2x11x8x512_S1x1x8x512_1_0_0_0)]
    try sl_unfold_words
    simp only [View.readCov_cons_toLoadRect]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  · iexists _; isplitr
    swap; · iexact H14
    ipureintro
    rw [View.read_writes_cons_put _ _ _ _ _ rfl, View.read_writes_cons_put _ _ _ _ _ rfl]
    rw [View.writes_nil, p14.read_unread]
    try sl_unfold_words
    simp only [View.readCov_cons_toLoadRect]
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl

set_option maxHeartbeats 1000000 in
/-- A tile's last step: the last columns folded into the result. -/
theorem run_Z
    (hc1 : ¬ k0_cond1 i = 1#1) (hc3 : ¬ k0_cond3 i = 1#1) (hc4 : ¬ k0_cond4 i = 1#1) (hc5 : k0_cond5 i = 1#1)
    (fg : TH3 F) (cw : TH5 F) (cb : TH6 F) (wd : TH7 F) (o : TH0 F) (ua : TH4 F) (E : Set ℕ) (K : PUnit → sProp 𝕄) :
    iprop(ow c a4 fg
        ∗ ow c a7 cw
        ∗ ow c a8 cb
        ∗ ow c a9 wd
        ∗ ow c a10 o
        ∗ ow c a12 ua
        ∗ (iprop(ow c a4 fg
        ∗ ow c a7 cw
        ∗ ow c a8 cb
        ∗ ow c a9 wd
        ∗ ow c a10 (oZ o ua cw cb wd fg)
        ∗ ow c a12 ua) -∗ K ⟨⟩))
      ⊢ wp frame (wpE (defs₀ (F := F)) Variants.none c none) E (cc0_conv_glu_ffn i a2 p2 a3 p3 a4 p4 a5 p5 a6 p6 a7 p7 a8 p8 a9 p9 a10 p10 a11 p11 a12 p12 a13 p13 a14 p14) K := by
  simp only [cc0_conv_glu_ffn_eq_skeleton, k0_part13_eq_skeleton, k0_part10_eq_skeleton, k0_part11_eq_skeleton, k0_part12_eq_skeleton]
  unfold ow owns
  iintro ⟨⟨%f4, %hf4, H4⟩, ⟨%f7, %hf7, H7⟩, ⟨%f8, %hf8, H8⟩, ⟨%f9, %hf9, H9⟩, ⟨%f10, %hf10, H10⟩, ⟨%f12, %hf12, H12⟩, Hk⟩
  obtain rfl := p4.eq_unread hf4
  obtain rfl := p7.eq_unread hf7
  obtain rfl := p8.eq_unread hf8
  obtain rfl := p9.eq_unread hf9
  obtain rfl := p10.eq_unread hf10
  obtain rfl := p12.eq_unread hf12
  sl_exec (disch := first | sl_exact hc1 | sl_exact hc3 | sl_exact hc4 | sl_exact hc5)
  sl_step
  iapply Hk
  isplitl [H4]
  · iexists _; isplitr; · ipureintro; exact p4.read_unread _
    iexact H4
  isplitl [H7]
  · iexists _; isplitr; · ipureintro; exact p7.read_unread _
    iexact H7
  isplitl [H8]
  · iexists _; isplitr; · ipureintro; exact p8.read_unread _
    iexact H8
  isplitl [H9]
  · iexists _; isplitr; · ipureintro; exact p9.read_unread _
    iexact H9
  isplitl [H10]
  · iexists _; isplitr
    swap; · iexact H10
    ipureintro
    rw [View.read_writes_eq_canon _ _ _ (View.cover_of_tiledL _ ![256, 2048] (by sl_kernel_rfl))]
    unfold oZ oZ0 oZ1
    rw [← ld3 cw (10 : Fin 22) rfl (inb := inb_S22x3x512_S1x3x512_10_0_0), ← ld3 cw (21 : Fin 22) rfl (inb := inb_S22x3x512_S1x3x512_21_0_0), ← ld3b cb (10 : Fin 22) rfl (inb := inb_S22x1x512_S1x1x512_10_0_0), ← ld3b cb (21 : Fin 22) rfl (inb := inb_S22x1x512_S1x1x512_21_0_0)]
    try sl_unfold_words
    simp only [View.readAt_eq_ld, Memref.IsWhole.read_unread, View.ld_unit_zero (S := S512x2048) hz2, View.ld_unit_zero (S := S1x2048) hz2, View.ld_unit_zero (S := S1x2048x512) hz3, View.ld_unit_zero (S := S1x512x2048) hz3]
    all_goals try rfl
  · iexists _; isplitr; · ipureintro; exact p12.read_unread _
    iexact H12

end

/-! ## The step of a point -/

theorem coord0 (t : Fin cfg0.N) : (grid0.coords t 0).val = t.val / 12 := by
  have ht : t.val < 768 := Nat.lt_of_lt_of_eq t.isLt N_0
  have e1 : (grid0.coords t 0).val = t.val / 12 % 64 := Pipeline.Grid.coords_val t 0 (by decide) rfl
  rw [e1]; omega

theorem hcondI (t : Fin cfg0.N) : condI (grid0.coords t) ↔ t.val / 12 = 0 := by
  have ht : t.val < 768 := Nat.lt_of_lt_of_eq t.isLt N_0
  have e1 := coord0 t
  simp only [condI, e1]
  word_cmp

theorem hcond1 : ∀ t : Fin cfg0.N, k0_cond1 (grid0.coords t) = 1#1 ↔ t.val % 12 = 0 :=
  (by decide +kernel : ∀ t : Fin grid0.N, k0_cond1 (grid0.coords t) = 1#1 ↔ t.val % 12 = 0)
theorem hcond3 : ∀ t : Fin cfg0.N, k0_cond3 (grid0.coords t) = 1#1 ↔ (t.val % 12 ≠ 0 ∧ t.val % 12 ≠ 11 ∧ t.val % 2 = 0) :=
  (by decide +kernel : ∀ t : Fin grid0.N, k0_cond3 (grid0.coords t) = 1#1 ↔ (t.val % 12 ≠ 0 ∧ t.val % 12 ≠ 11 ∧ t.val % 2 = 0))
theorem hcond4 : ∀ t : Fin cfg0.N, k0_cond4 (grid0.coords t) = 1#1 ↔ (t.val % 12 ≠ 0 ∧ t.val % 12 ≠ 11 ∧ t.val % 2 = 1) :=
  (by decide +kernel : ∀ t : Fin grid0.N, k0_cond4 (grid0.coords t) = 1#1 ↔ (t.val % 12 ≠ 0 ∧ t.val % 12 ≠ 11 ∧ t.val % 2 = 1))
theorem hcond5 : ∀ t : Fin cfg0.N, k0_cond5 (grid0.coords t) = 1#1 ↔ t.val % 12 = 11 :=
  (by decide +kernel : ∀ t : Fin grid0.N, k0_cond5 (grid0.coords t) = 1#1 ↔ t.val % 12 = 11)

/-- The step's own columns, and the columns of the step before. -/
def jj (t : Fin cfg0.N) : Fin 11 := ⟨t.val % 12 % 11, Nat.mod_lt _ (by decide)⟩
def jp (t : Fin cfg0.N) : Fin 11 := ⟨t.val % 12 - 1, by have : t.val % 12 < 12 := Nat.mod_lt _ (by decide); omega⟩

theorem hoff1 : ∀ t : Fin cfg0.N, t.val % 12 ≠ 11 → k0_off1 (grid0.coords t) = ![0, (jj t).val, 0, 0] :=
  (by decide +kernel : ∀ t : Fin grid0.N, t.val % 12 ≠ 11 → k0_off1 (grid0.coords t) = ![0, t.val % 12 % 11, 0, 0])
theorem hoff2 : ∀ t : Fin cfg0.N, t.val % 12 ≠ 11 → k0_off2 (grid0.coords t) = ![1, (jj t).val, 0, 0] :=
  (by decide +kernel : ∀ t : Fin grid0.N, t.val % 12 ≠ 11 → k0_off2 (grid0.coords t) = ![1, t.val % 12 % 11, 0, 0])
theorem hoff3 : ∀ t : Fin cfg0.N, t.val % 12 ≠ 0 → k0_off3 (grid0.coords t) 0#32 = ![(jp t).val, 0, 0] :=
  (by decide +kernel : ∀ t : Fin grid0.N, t.val % 12 ≠ 0 → k0_off3 (grid0.coords t) 0#32 = ![t.val % 12 - 1, 0, 0])
theorem hoff3' : ∀ t : Fin cfg0.N, t.val % 12 ≠ 0 → k0_off3 (grid0.coords t) 11#32 = ![11 + (jp t).val, 0, 0] :=
  (by decide +kernel : ∀ t : Fin grid0.N, t.val % 12 ≠ 0 → k0_off3 (grid0.coords t) 11#32 = ![11 + (t.val % 12 - 1), 0, 0])
theorem hoff4 : ∀ t : Fin cfg0.N, t.val % 12 ≠ 0 → k0_off4 (grid0.coords t) 0#32 = ![(jp t).val, 0, 0] :=
  (by decide +kernel : ∀ t : Fin grid0.N, t.val % 12 ≠ 0 → k0_off4 (grid0.coords t) 0#32 = ![t.val % 12 - 1, 0, 0])
theorem hoff4' : ∀ t : Fin cfg0.N, t.val % 12 ≠ 0 → k0_off4 (grid0.coords t) 11#32 = ![11 + (jp t).val, 0, 0] :=
  (by decide +kernel : ∀ t : Fin grid0.N, t.val % 12 ≠ 0 → k0_off4 (grid0.coords t) 11#32 = ![11 + (t.val % 12 - 1), 0, 0])

/-! ## What the buffers hold after each point -/

/-- The result's rows, the normalized rows, the two buffers of products and the kept products. -/
structure St (F : FTy → Type) [FloatOps F] where
  o : TH0 F
  h : Vec F S512x2048 .bf16
  ua : TH4 F
  ub : TH4 F
  tl : TH1 F

/-- What a point makes of the buffers. -/
def step (c : Dev nD) (t : Fin cfg0.N) (s : St F) : St F :=
  if t.val % 12 = 0 then
    ⟨oA (iblk m c 0 t), hA (iblk m c 0 t) (iblk m c 1 t),
      uA (fst (grid0.coords t)) (iblk m c 0 t) (iblk m c 1 t) (iblk m c 3 t) (iblk m c 4 t) (if t.val = 0 then k0_pay3 (F := F) else s.tl), s.ub,
      tA (iblk m c 0 t) (iblk m c 1 t) (iblk m c 3 t) (iblk m c 4 t) (if t.val = 0 then k0_pay3 (F := F) else s.tl)⟩
  else if t.val % 12 = 11 then
    ⟨oZ s.o s.ua (iblk m c 5 t) (iblk m c 6 t) (iblk m c 7 t) (iblk m c 2 t), s.h, s.ua, s.ub, s.tl⟩
  else if t.val % 2 = 0 then
    ⟨oM s.o s.ub (iblk m c 5 t) (iblk m c 6 t) (jp t) (iblk m c 7 t), s.h,
      uM (fst (grid0.coords t)) s.h (iblk m c 3 t) (iblk m c 4 t) s.tl (jj t), s.ub,
      tM s.h (iblk m c 3 t) (iblk m c 4 t) s.tl (jj t)⟩
  else
    ⟨oM s.o s.ua (iblk m c 5 t) (iblk m c 6 t) (jp t) (iblk m c 7 t), s.h, s.ua,
      uM (fst (grid0.coords t)) s.h (iblk m c 3 t) (iblk m c 4 t) s.tl (jj t),
      tM s.h (iblk m c 3 t) (iblk m c 4 t) s.tl (jj t)⟩

/-- The buffers before point `n`. -/
def stAt (c : Dev nD) : ℕ → St F
  | 0 => ⟨constant S512x2048 .f32 0x00000000#32, constant S512x2048 .bf16 0x0000#16, constant S2x520x512 .f32 0x00000000#32, constant S2x520x512 .f32 0x00000000#32, constant S2x11x8x512 .f32 0x00000000#32⟩
  | n + 1 => if h : n < cfg0.N then step m c ⟨n, h⟩ (stAt c n) else stAt c n

theorem stAt_succ (c : Dev nD) (t : Fin cfg0.N) : stAt m c (t.val + 1) = step m c t (stAt m c t.val) := by
  show (if h : t.val < cfg0.N then step m c ⟨t.val, h⟩ (stAt m c t.val) else stAt m c t.val) = _
  rw [dif_pos t.isLt]

theorem stAt_first (c : Dev nD) (t : Fin cfg0.N) (h : t.val % 12 = 0) : stAt m c (t.val + 1) =
    ⟨oA (iblk m c 0 t), hA (iblk m c 0 t) (iblk m c 1 t),
      uA (fst (grid0.coords t)) (iblk m c 0 t) (iblk m c 1 t) (iblk m c 3 t) (iblk m c 4 t) (if t.val = 0 then k0_pay3 (F := F) else (stAt m c t.val).tl), (stAt m c t.val).ub,
      tA (iblk m c 0 t) (iblk m c 1 t) (iblk m c 3 t) (iblk m c 4 t) (if t.val = 0 then k0_pay3 (F := F) else (stAt m c t.val).tl)⟩ := by
  rw [stAt_succ]; unfold step; rw [if_pos h]

theorem stAt_last (c : Dev nD) (t : Fin cfg0.N) (h : t.val % 12 = 11) : stAt m c (t.val + 1) =
    ⟨oZ (stAt m c t.val).o (stAt m c t.val).ua (iblk m c 5 t) (iblk m c 6 t) (iblk m c 7 t) (iblk m c 2 t), (stAt m c t.val).h, (stAt m c t.val).ua, (stAt m c t.val).ub, (stAt m c t.val).tl⟩ := by
  rw [stAt_succ]; unfold step; rw [if_neg (by omega), if_pos h]

theorem stAt_even (c : Dev nD) (t : Fin cfg0.N) (h0 : t.val % 12 ≠ 0) (h11 : t.val % 12 ≠ 11) (h : t.val % 2 = 0) : stAt m c (t.val + 1) =
    ⟨oM (stAt m c t.val).o (stAt m c t.val).ub (iblk m c 5 t) (iblk m c 6 t) (jp t) (iblk m c 7 t), (stAt m c t.val).h,
      uM (fst (grid0.coords t)) (stAt m c t.val).h (iblk m c 3 t) (iblk m c 4 t) (stAt m c t.val).tl (jj t), (stAt m c t.val).ub,
      tM (stAt m c t.val).h (iblk m c 3 t) (iblk m c 4 t) (stAt m c t.val).tl (jj t)⟩ := by
  rw [stAt_succ]; unfold step; rw [if_neg h0, if_neg h11, if_pos h]

theorem stAt_odd (c : Dev nD) (t : Fin cfg0.N) (h0 : t.val % 12 ≠ 0) (h11 : t.val % 12 ≠ 11) (h : t.val % 2 = 1) : stAt m c (t.val + 1) =
    ⟨oM (stAt m c t.val).o (stAt m c t.val).ua (iblk m c 5 t) (iblk m c 6 t) (jp t) (iblk m c 7 t), (stAt m c t.val).h, (stAt m c t.val).ua,
      uM (fst (grid0.coords t)) (stAt m c t.val).h (iblk m c 3 t) (iblk m c 4 t) (stAt m c t.val).tl (jj t),
      tM (stAt m c t.val).h (iblk m c 3 t) (iblk m c 4 t) (stAt m c t.val).tl (jj t)⟩ := by
  rw [stAt_succ]; unfold step; rw [if_neg h0, if_neg h11, if_neg (by omega)]

/-! ## The pipeline's proof data -/

abbrev scM0_0 : Memref sig .tc .vmem S512x2048 .bf16 := Memref.whole cc0_scratch0
abbrev scM0_1 : Memref sig .tc .vmem S2x520x512 .f32 := Memref.whole cc0_scratch1
abbrev scM0_2 : Memref sig .tc .vmem S2x520x512 .f32 := Memref.whole cc0_scratch2
abbrev scM0_3 : Memref sig .tc .vmem S2x11x8x512 .f32 := Memref.whole cc0_scratch3

theorem PhiA0_eq (c : Dev nD) :
    (Pipeline.ΦA spec0 c : sProp 𝕄)
      = iprop(iprop((∃ d, ow c scM0_0 d) ∗ (∃ d, ow c scM0_1 d)
          ∗ (∃ d, ow c scM0_2 d) ∗ (∃ d, ow c scM0_3 d)) ∗ (∃ r, prngReg c r)) := by
  unfold Pipeline.ΦA; rw [scopedRest0_eq]; simp only [scM0_0, scM0_1, scM0_2, scM0_3, owns_whole]; try rfl

/-- The second buffer of products: nothing is known of it before the second point has run. -/
def UB (c : Dev nD) (n : ℕ) : sProp 𝕄 :=
  if n ≤ 1 then iprop(∃ d, ow c scM0_2 d) else ow c scM0_2 (stAt m c n).ub

theorem UB_early (c : Dev nD) (n : ℕ) (h : n ≤ 1) : UB m c n = iprop(∃ d, ow c scM0_2 d) := if_pos h
theorem UB_late (c : Dev nD) (n : ℕ) (h : ¬ n ≤ 1) : UB m c n = ow c scM0_2 (stAt m c n).ub := if_neg h
theorem UB_any (c : Dev nD) (n : ℕ) : UB m c n ⊢ iprop(∃ d, ow c scM0_2 d) := by
  by_cases h : n ≤ 1
  · rw [UB_early m c n h]; try exact Idealize.SL.BI.Entails.refl _
  · rw [UB_late m c n h]
    iintro H
    iexists _; iexact H

/-- Between points: before the first, anything; afterwards what the points so far have left. -/
def PhiS (c : Dev nD) : (n : ℕ) → n ≤ cfg0.N → sProp 𝕄
  | 0, _ => Pipeline.ΦA spec0 c
  | n + 1, _ => iprop(iprop(ow c scM0_0 (stAt m c (n + 1)).h ∗ ow c scM0_1 (stAt m c (n + 1)).ua
      ∗ UB m c (n + 1) ∗ ow c scM0_3 (stAt m c (n + 1)).tl) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(ow c scM0_0 (stAt m c n).h ∗ ow c scM0_1 (stAt m c n).ua
      ∗ UB m c n ∗ ow c scM0_3 (stAt m c n).tl) ∗ (∃ r, prngReg c r)) := by
  cases n with
  | zero => exact absurd rfl hz
  | succ n => rfl

theorem PhiS_any (c : Dev nD) (n : ℕ) (h : n ≤ cfg0.N) : PhiS m c n h ⊢ Pipeline.ΦA spec0 c := by
  by_cases hz : n = 0
  · rw [PhiS_zero m c n h hz]; try exact Idealize.SL.BI.Entails.refl _
  · rw [PhiS_pos m c n h hz, PhiA0_eq]
    iintro ⟨⟨H0, H1, H2, H3⟩, Hg⟩
    isplitr [Hg]
    · isplitl [H0]; · iexists _; iexact H0
      isplitl [H1]; · iexists _; iexact H1
      isplitl [H2]; · iapply (UB_any m c n); iexact H2
      iexists _; iexact H3
    iexact Hg

/-- The proof data of the pipeline: inputs stay at their blocks, the result's buffer as stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c (t.val + 1)).o
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (stAt m c (t.val + 1)).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Every point stores into the result's buffer. -/
theorem live8 : ∀ i : grid0.Coords, cfg0.idle 8 i = false :=
  (by decide +kernel : ∀ i : grid0.Coords, idle0 8 i = false)

theorem leaves0_8 (c : Dev nD) (t : Fin cfg0.N) :
    (dats m 0 c).leavesExact 8 t = ow c ((cfg0.win 8).stage (cfg0.slots t 8)) (stAt m c (t.val + 1)).o := by
  have hi : cfg0.idle 8 (cfg0.grid.coords t) = false := live8 _
  unfold Dat.leavesExact; rw [hi, after0_8]

/-- Past a tile's first step the result's buffer is found as the step before left it. -/
theorem before0_8 (c : Dev nD) (t : Fin cfg0.N) (h : t.val % 12 ≠ 0) (d) : (dats m 0 c).before 8 t d = (stAt m c t.val).o := by
  have hz : t.val ≠ 0 := by omega
  have hp : t.val - 1 < cfg0.N := lt_of_le_of_lt (Nat.sub_le _ _) t.isLt
  have hfl : (cfg0.win 8).flush ⟨t.val - 1, hp⟩ = false := by
    rw [Bool.eq_false_iff]; intro hf
    have := (flush0_8 ⟨t.val - 1, hp⟩).mp hf
    dsimp only at this
    omega
  rw [(dats m 0 c).before_out_kept 8 rfl t hz hfl live8 (fun _ _ => rfl) d, after0_8]
  dsimp only
  rw [Nat.sub_add_cancel (Nat.pos_of_ne_zero hz)]

/-! ## The body obligation -/

abbrev ms0_0 (t : Fin cfg0.N) : Memref sig .tc .vmem S512x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1x2048x512 .bf16 := win0_3.stage (cfg0.slots t 3)
abbrev ms0_4 (t : Fin cfg0.N) : Memref sig .tc .vmem S1x2048x512 .bf16 := win0_4.stage (cfg0.slots t 4)
abbrev ms0_5 (t : Fin cfg0.N) : Memref sig .tc .vmem S22x3x512 .f32 := win0_5.stage (cfg0.slots t 5)
abbrev ms0_6 (t : Fin cfg0.N) : Memref sig .tc .vmem S22x1x512 .f32 := win0_6.stage (cfg0.slots t 6)
abbrev ms0_7 (t : Fin cfg0.N) : Memref sig .tc .vmem S1x512x2048 .bf16 := win0_7.stage (cfg0.slots t 7)
abbrev ms0_8 (t : Fin cfg0.N) : Memref sig .tc .vmem S512x2048 .f32 := win0_8.stage (cfg0.slots t 8)

/-- What the body is called with at a point. -/
def bodyPre (c : Dev nD) (t : Fin cfg0.N) : sProp 𝕄 :=
  iprop((dats m 0 c).Φ t.castSucc ∗ (dats m 0 c).owesAt () t.castSucc
    ∗ (∃ d, ow c (ms0_0 t) ((dats m 0 c).before 0 t d))
    ∗ (∃ d, ow c (ms0_1 t) ((dats m 0 c).before 1 t d))
    ∗ (∃ d, ow c (ms0_2 t) ((dats m 0 c).before 2 t d))
    ∗ (∃ d, ow c (ms0_3 t) ((dats m 0 c).before 3 t d))
    ∗ (∃ d, ow c (ms0_4 t) ((dats m 0 c).before 4 t d))
    ∗ (∃ d, ow c (ms0_5 t) ((dats m 0 c).before 5 t d))
    ∗ (∃ d, ow c (ms0_6 t) ((dats m 0 c).before 6 t d))
    ∗ (∃ d, ow c (ms0_7 t) ((dats m 0 c).before 7 t d))
    ∗ (∃ d, ow c (ms0_8 t) ((dats m 0 c).before 8 t d)))

/-- What it returns. -/
def bodyPost (c : Dev nD) (t : Fin cfg0.N) : sProp 𝕄 :=
  iprop((dats m 0 c).Φ t.succ ∗ (dats m 0 c).owesAt () t.succ
    ∗ ow c (ms0_0 t) ((dats m 0 c).after 0 t)
    ∗ ow c (ms0_1 t) ((dats m 0 c).after 1 t)
    ∗ ow c (ms0_2 t) ((dats m 0 c).after 2 t)
    ∗ ow c (ms0_3 t) ((dats m 0 c).after 3 t)
    ∗ ow c (ms0_4 t) ((dats m 0 c).after 4 t)
    ∗ ow c (ms0_5 t) ((dats m 0 c).after 5 t)
    ∗ ow c (ms0_6 t) ((dats m 0 c).after 6 t)
    ∗ ow c (ms0_7 t) ((dats m 0 c).after 7 t)
    ∗ (dats m 0 c).leavesExact 8 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, leaves0_8]
  rw [show (dats m 0 c).Φ t.succ = PhiS m c (t.val + 1) t.isLt from rfl, PhiS_pos m c (t.val + 1) _ (Nat.succ_ne_zero _), PhiS_castSucc m c t]
  by_cases h0 : t.val % 12 = 0
  · by_cases hz : t.val = 0
    · rw [PhiS_zero m c _ _ hz, PhiA0_eq, UB_early m c (t.val + 1) (by omega), stAt_first m c t h0, if_pos hz]
      dsimp only
      iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_A0 c (grid0.coords t) _ _ _ _ _ _ _ _ _ _ _ _ _ _ _ _ _ _ _ _ _ _ _ _ _ _ ((hcondI t).mpr (by omega)) ((hcond1 t).mpr h0) (fun h => by have := (hcond3 t).mp h; omega) (fun h => by have := (hcond4 t).mp h; omega) (fun h => by have := (hcond5 t).mp h; omega) (iblk m c 0 t) (iblk m c 1 t) (iblk m c 3 t) (iblk m c 4 t) Set.univ _)
      isplitl [H0]; iexact H0; isplitl [H1]; iexact H1; isplitl [H3]; iexact H3; isplitl [H4]; iexact H4; isplitl [H8]; · iexists _; iexact H8
      isplitl [S0]; iexact S0; isplitl [S1]; iexact S1; isplitl [S3]; · iexact S3
      iintro ⟨H0, H1, H3, H4, H8, S0, S1, S3⟩
      isplitl [S0 S1 S2 S3 Hg]
      · isplitr [Hg]
        · isplitl [S0]; iexact S0; isplitl [S1]; iexact S1; isplitl [S2]; iexact S2; iexact S3
        iexact Hg
      isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8
    · rw [PhiS_pos m c _ _ hz, UB_late m c t.val (by omega), UB_late m c (t.val + 1) (by omega), stAt_first m c t h0, if_neg hz]
      dsimp only
      iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_A c (grid0.coords t) _ _ _ _ _ _ _ _ _ _ _ _ _ _ _ _ _ _ _ _ _ _ _ _ _ _ (fun h => by have := (hcondI t).mp h; omega) ((hcond1 t).mpr h0) (fun h => by have := (hcond3 t).mp h; omega) (fun h => by have := (hcond4 t).mp h; omega) (fun h => by have := (hcond5 t).mp h; omega) (iblk m c 0 t) (iblk m c 1 t) (iblk m c 3 t) (iblk m c 4 t) (stAt m c t.val).tl Set.univ _)
      isplitl [H0]; iexact H0; isplitl [H1]; iexact H1; isplitl [H3]; iexact H3; isplitl [H4]; iexact H4; isplitl [H8]; · iexists _; iexact H8
      isplitl [S0]; · iexists _; iexact S0
      isplitl [S1]; · iexists _; iexact S1
      isplitl [S3]; · iexact S3
      iintro ⟨H0, H1, H3, H4, H8, S0, S1, S3⟩
      isplitl [S0 S1 S2 S3 Hg]
      · isplitr [Hg]
        · isplitl [S0]; iexact S0; isplitl [S1]; iexact S1; isplitl [S2]; iexact S2; iexact S3
        iexact Hg
      isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8
  · simp only [before0_8 m c t h0]
    have hz : t.val ≠ 0 := by omega
    rw [PhiS_pos m c _ _ hz, UB_late m c (t.val + 1) (by omega)]
    by_cases h11 : t.val % 12 = 11
    · rw [UB_late m c t.val (by omega), stAt_last m c t h11]
      dsimp only
      iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_Z c (grid0.coords t) _ _ _ _ _ _ _ _ _ _ _ _ _ _ _ _ _ _ _ _ _ _ _ _ _ _ (fun h => h0 ((hcond1 t).mp h)) (fun h => by have := (hcond3 t).mp h; omega) (fun h => by have := (hcond4 t).mp h; omega) ((hcond5 t).mpr h11) (iblk m c 2 t) (iblk m c 5 t) (iblk m c 6 t) (iblk m c 7 t) (stAt m c t.val).o (stAt m c t.val).ua Set.univ _)
      isplitl [H2]; iexact H2; isplitl [H5]; iexact H5; isplitl [H6]; iexact H6; isplitl [H7]; iexact H7; isplitl [H8]; iexact H8; isplitl [S1]; · iexact S1
      iintro ⟨H2, H5, H6, H7, H8, S1⟩
      isplitl [S0 S1 S2 S3 Hg]
      · isplitr [Hg]
        · isplitl [S0]; iexact S0; isplitl [S1]; iexact S1; isplitl [S2]; iexact S2; iexact S3
        iexact Hg
      isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8
    · by_cases hp : t.val % 2 = 0
      · rw [UB_late m c t.val (by omega), stAt_even m c t h0 h11 hp]
        dsimp only
        iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_M0 c (grid0.coords t) _ _ _ _ _ _ _ _ _ _ _ _ _ _ _ _ _ _ _ _ _ _ _ _ _ _ (fun h => h0 ((hcond1 t).mp h)) ((hcond3 t).mpr ⟨h0, h11, hp⟩) (fun h => by have := (hcond4 t).mp h; omega) (fun h => h11 ((hcond5 t).mp h)) (jj t) (jp t) (hoff1 t h11) (hoff2 t h11) (hoff3 t h0) (hoff3' t h0) (hoff4 t h0) (hoff4' t h0) (iblk m c 3 t) (iblk m c 4 t) (iblk m c 5 t) (iblk m c 6 t) (iblk m c 7 t) (stAt m c t.val).o (stAt m c t.val).h (stAt m c t.val).ub (stAt m c t.val).tl Set.univ _)
        isplitl [H3]; iexact H3; isplitl [H4]; iexact H4; isplitl [H5]; iexact H5; isplitl [H6]; iexact H6; isplitl [H7]; iexact H7; isplitl [H8]; iexact H8; isplitl [S0]; iexact S0; isplitl [S1]; · iexists _; iexact S1
        isplitl [S2]; iexact S2; isplitl [S3]; · iexact S3
        iintro ⟨H3, H4, H5, H6, H7, H8, S0, S1, S2, S3⟩
        isplitl [S0 S1 S2 S3 Hg]
        · isplitr [Hg]
          · isplitl [S0]; iexact S0; isplitl [S1]; iexact S1; isplitl [S2]; iexact S2; iexact S3
          iexact Hg
        isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8
      · refine (sep_mono_left (sep_mono_left (sep_mono_right (sep_mono_right (sep_mono_left (UB_any m c t.val)))))).trans ?_
        rw [stAt_odd m c t h0 h11 (by omega)]
        dsimp only
        iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_M1 c (grid0.coords t) _ _ _ _ _ _ _ _ _ _ _ _ _ _ _ _ _ _ _ _ _ _ _ _ _ _ (fun h => h0 ((hcond1 t).mp h)) (fun h => by have := (hcond3 t).mp h; omega) ((hcond4 t).mpr ⟨h0, h11, by omega⟩) (fun h => h11 ((hcond5 t).mp h)) (jj t) (jp t) (hoff1 t h11) (hoff2 t h11) (hoff3 t h0) (hoff3' t h0) (hoff4 t h0) (hoff4' t h0) (iblk m c 3 t) (iblk m c 4 t) (iblk m c 5 t) (iblk m c 6 t) (iblk m c 7 t) (stAt m c t.val).o (stAt m c t.val).h (stAt m c t.val).ua (stAt m c t.val).tl Set.univ _)
        isplitl [H3]; iexact H3; isplitl [H4]; iexact H4; isplitl [H5]; iexact H5; isplitl [H6]; iexact H6; isplitl [H7]; iexact H7; isplitl [H8]; iexact H8; isplitl [S0]; iexact S0; isplitl [S1]; iexact S1; isplitl [S2]; iexact S2; isplitl [S3]; · iexact S3
        iintro ⟨H3, H4, H5, H6, H7, H8, S0, S1, S2, S3⟩
        isplitl [S0 S1 S2 S3 Hg]
        · isplitr [Hg]
          · isplitl [S0]; iexact S0; isplitl [S1]; iexact S1; isplitl [S2]; iexact S2; iexact S3
          iexact Hg
        isplitl [Ho]; iexact Ho; isplitl [H0]; iexact H0; isplitl [H1]; iexact H1; isplitl [H2]; iexact H2; isplitl [H3]; iexact H3; isplitl [H4]; iexact H4; isplitl [H5]; iexact H5; isplitl [H6]; iexact H6; isplitl [H7]; iexact H7; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.LastIdeal.Hand

end
-- ==== Proof.LastKer.lean ====
module

public import proofs.«01_k».proof.Defs
public import proofs.«01_k».proof.Proof.Real
public import proofs.«01_k».proof.Proof.LastIdealHand
public import proofs.«01_k».proof.Proof.Gen.LastRefIdeal.Run

@[expose] public section

set_option maxRecDepth 16384

noncomputable section

open Idealize.ShloMosaic Idealize.ShloMosaic.TcCoe Idealize.SL.Sem
open Idealize.ShloMosaic.Pipeline (Dat)
open scoped BigOperators

namespace Cert.LastIdeal.Spec

open Cert.LastIdeal Cert.LastIdeal.Gen Cert.LastIdeal.Hand Cert.Proof

/-! Short names for the types of the arrays as functions. -/
abbrev ULk0 := S32768x2048.Idx → EReal
abbrev ULk1 := S4x2048x11264.Idx → EReal

/-! Short names for the types of the arrays. -/
abbrev TL0 := Vec Ideal S1x2048x512 .bf16
abbrev TL1 := Vec Ideal S512x2048 .f32
abbrev TL2 := Vec Ideal S1x2048 .f32
abbrev TL3 := Vec Ideal S512x2048 .bf16
abbrev TL4 := Vec Ideal S1x512x2048 .bf16
abbrev TL5 := Vec Ideal S2x11x8x512 .f32
abbrev TL6 := Vec Ideal S22x3x512 .f32
abbrev TL7 := Vec Ideal S22x1x512 .f32
abbrev TL8 := Vec Ideal S2x520x512 .f32
abbrev TL9 := Vec Ideal S256x2048 .bf16
abbrev TL10 := Vec Ideal S256x2048 .f32
abbrev TL11 := Vec Ideal S1x1x8x512 .f32

/-! ## The body's operations, entry by entry -/

/-- The gate: `z / (1 + exp (-z))`. -/
def sil (z : EReal) : EReal := z * Ideal.div 1 (1 + Ideal.exp (0 - z))

theorem pay4_apply (x : TL10) (g : TL2) (r : Fin 256) (k : Fin 2048) :
    k0_pay4 x g (ix2 r k) = nrm (fun k => x (ix2 r k)) (fun k => g (ix2 0 k)) k := by
  unfold k0_pay4
  pointwise
  rfl

theorem pay13_apply (x : TL10) (g : TL2) (r : Fin 256) (k : Fin 2048) :
    k0_pay13 x (k0_pay11 g) (k0_pay12 x) (ix2 r k) = nrm (fun k => x (ix2 r k)) (fun k => g (ix2 0 k)) k := by
  unfold k0_pay13 k0_pay11 k0_pay12
  pointwise
  rfl

theorem pay8_apply (h : TL9) (w : TL0) (r : Fin 256) (n : Fin 512) :
    k0_pay8 (k0_pay5 h w) (ix3 0 r n) = ∑ k, h (ix2 r k) * w (ix3 0 k n) := by
  unfold k0_pay8 k0_pay5
  pointwise

theorem pay10_apply (h : TL9) (w : TL0) (r : Fin 256) (n : Fin 512) :
    k0_pay10 h w (ix3 0 r n) = ∑ k, h (ix2 r k) * w (ix3 0 k n) := by
  unfold k0_pay10
  pointwise

theorem pay15_apply (h : TL9) (w : TL0) (r : Fin 256) (n : Fin 512) :
    k0_pay15 h w (ix3 0 r n) = ∑ k, h (ix2 r k) * w (ix3 0 k n) := by
  unfold k0_pay15 k0_pay14
  pointwise

theorem pay18_apply (h : TL9) (w : TL0) (r : Fin 256) (n : Fin 512) :
    k0_pay18 h w (ix3 0 r n) = ∑ k, h (ix2 r k) * w (ix3 0 k n) := by
  unfold k0_pay18 k0_pay17
  pointwise

theorem pay16_apply (h : TL9) (w : TL0) (r : Fin 8) (n : Fin 512) :
    k0_pay16 h w (ix4 0 0 r n) = ∑ k, h (ix2 ⟨248 + r.val, by omega⟩ k) * w (ix3 0 k n) := by
  unfold k0_pay16 k0_pay14
  pointwise

theorem pay56_apply (h : TL9) (w : TL0) (r : Fin 8) (n : Fin 512) :
    k0_pay56 (k0_pay19 h w) (ix4 0 0 r n) = ∑ k, h (ix2 ⟨248 + r.val, by omega⟩ k) * w (ix3 0 k n) := by
  unfold k0_pay56 k0_pay19 k0_pay17
  pointwise

theorem pay22_apply (h : TL3) (w : TL0) (r : Fin 512) (n : Fin 512) :
    k0_pay22 h w (ix3 0 r n) = ∑ k, h (ix2 r k) * w (ix3 0 k n) := by
  unfold k0_pay22 k0_pay20
  pointwise

theorem pay27_apply (h : TL3) (w : TL0) (r : Fin 512) (n : Fin 512) :
    k0_pay27 (k0_pay24 h w) (ix3 0 r n) = ∑ k, h (ix2 r k) * w (ix3 0 k n) := by
  unfold k0_pay27 k0_pay24
  pointwise

theorem pay23_apply (h : TL3) (w : TL0) (r : Fin 8) (n : Fin 512) :
    k0_pay23 h w (ix4 0 0 r n) = ∑ k, h (ix2 ⟨504 + r.val, by omega⟩ k) * w (ix3 0 k n) := by
  unfold k0_pay23 k0_pay20
  pointwise

theorem pay28_apply (h : TL3) (w : TL0) (r : Fin 8) (n : Fin 512) :
    k0_pay28 (k0_pay24 h w) (ix4 0 0 r n) = ∑ k, h (ix2 ⟨504 + r.val, by omega⟩ k) * w (ix3 0 k n) := by
  unfold k0_pay28 k0_pay24
  pointwise

theorem pay7_apply (v : BitVec 1) (x : TL11) (s : Fin 8) (n : Fin 512) :
    k0_pay7 (k0_pay6 v x) (ix3 0 s n) = if v = 1#1 then 0 else x (ix4 0 0 s n) := by
  unfold k0_pay7 k0_pay6
  by_cases h : v = 1#1
  · subst h; rw [if_pos rfl]; simp only [Scalar.select]; pointwise; rfl
  · have h' : ¬ v = 1 := h
    simp only [Scalar.select, if_neg h, if_neg h']; pointwise

theorem pay9_apply (v : BitVec 1) (x : TL11) (s : Fin 8) (n : Fin 512) :
    k0_pay9 v x (ix3 0 s n) = if v = 1#1 then 0 else x (ix4 0 0 s n) := by
  unfold k0_pay9
  by_cases h : v = 1#1
  · subst h; rw [if_pos rfl]; simp only [Scalar.select]; pointwise; rfl
  · have h' : ¬ v = 1 := h
    simp only [Scalar.select, if_neg h, if_neg h']; pointwise

theorem pay21_apply (v : BitVec 1) (x : TL11) (s : Fin 8) (n : Fin 512) :
    k0_pay21 v x (ix3 0 s n) = if v = 1#1 then 0 else x (ix4 0 0 s n) := by
  unfold k0_pay21
  by_cases h : v = 1#1
  · subst h; rw [if_pos rfl]; simp only [Scalar.select]; pointwise; rfl
  · have h' : ¬ v = 1 := h
    simp only [Scalar.select, if_neg h, if_neg h']; pointwise

theorem pay26_apply (v : BitVec 1) (x : TL11) (s : Fin 8) (n : Fin 512) :
    k0_pay26 (k0_pay25 v x) (ix3 0 s n) = if v = 1#1 then 0 else x (ix4 0 0 s n) := by
  unfold k0_pay26 k0_pay25
  by_cases h : v = 1#1
  · subst h; rw [if_pos rfl]; simp only [Scalar.select]; pointwise; rfl
  · have h' : ¬ v = 1 := h
    simp only [Scalar.select, if_neg h, if_neg h']; pointwise

/-- One entry of the convolution: the bias and the three weighted rows. -/
def cv (w0 w1 w2 b p q s : EReal) : EReal := b + w2 * p + w0 * q + w1 * s

theorem payM_apply (w w' : Vec Ideal S1x3x512 .f32) (b b' : Vec Ideal S1x1x512 .f32) (p q s p' q' s' : Vec Ideal S1x512x512 .f32)
    (o : TL1) (wd : TL4) (r : Fin 512) (d : Fin 2048) :
    k0_pay57 (k0_pay32 (k0_pay30 w b p q) (k0_pay31 w) s w' b' p' q' s') o wd (ix2 r d)
      = o (ix2 r d) + ∑ k : Fin 512, (sil (cv (w (ix3 0 0 k)) (w (ix3 0 1 k)) (w (ix3 0 2 k)) (b (ix3 0 0 k)) (p (ix3 0 r k)) (q (ix3 0 r k)) (s (ix3 0 r k)))
          * cv (w' (ix3 0 0 k)) (w' (ix3 0 1 k)) (w' (ix3 0 2 k)) (b' (ix3 0 0 k)) (p' (ix3 0 r k)) (q' (ix3 0 r k)) (s' (ix3 0 r k))) * wd (ix3 0 k d) := by
  unfold k0_pay57 k0_pay32 k0_pay30 k0_pay31 k0_pay29
  pointwise
  rfl

/-- The row sum of a tile's last step, before the final norm. -/
theorem payZ_apply (w w' : Vec Ideal S1x3x512 .f32) (b b' : Vec Ideal S1x1x512 .f32) (p q s p' q' s' : Vec Ideal S1x256x512 .f32)
    (o : TL10) (wd : TL4) (r : Fin 256) (d : Fin 2048) :
    k0_pay53 (k0_pay51 w b p q s) (k0_pay52 w') b' p' q' s' o wd (ix2 r d)
      = o (ix2 r d) + ∑ k : Fin 512, (sil (cv (w (ix3 0 0 k)) (w (ix3 0 1 k)) (w (ix3 0 2 k)) (b (ix3 0 0 k)) (p (ix3 0 r k)) (q (ix3 0 r k)) (s (ix3 0 r k)))
          * cv (w' (ix3 0 0 k)) (w' (ix3 0 1 k)) (w' (ix3 0 2 k)) (b' (ix3 0 0 k)) (p' (ix3 0 r k)) (q' (ix3 0 r k)) (s' (ix3 0 r k))) * wd (ix3 0 k d) := by
  unfold k0_pay53 k0_pay51 k0_pay52
  pointwise
  rfl

/-- The final norm on half a tile. -/
def tail (y : FVec Ideal S256x2048 .f32) (fg : TL2) : FVec Ideal S256x2048 .f32 :=
  mulf (mulf y (broadcastTo S256x2048 (rsqrt (addf (divf (shapeCast S256x1 (multiReduction .add [1] S256 (mulf y y) 0x00000000#32 reduces_S256x2048_S256 (.inl rfl) rfl) shapeCasts_S256_S256x1)
    (broadcast S256x1 (Scalar.ofBits (F := Ideal) .f32 0x45000000#32))) (broadcast S256x1 (Scalar.ofBits (F := Ideal) .f32 0x358637BD#32)))) broadcasts_S256x1_S256x2048))
    (broadcastTo S256x2048 (shapeCast S1x2048 fg shapeCasts_S1x2048_S1x2048) broadcasts_S1x2048_S256x2048)

theorem tail_apply (y : FVec Ideal S256x2048 .f32) (fg : TL2) (r : Fin 256) (d : Fin 2048) :
    tail y fg (ix2 r d) = nrm (fun k => y (ix2 r k)) (fun k => fg (ix2 0 k)) d := by
  unfold tail
  pointwise
  rfl

theorem payZ0_eq (w w' : Vec Ideal S1x3x512 .f32) (b b' : Vec Ideal S1x1x512 .f32) (p q s p' q' s' : Vec Ideal S1x256x512 .f32)
    (o : TL10) (wd : TL4) (fg : TL2) :
    k0_pay50 (k0_pay46 w b p q s) (k0_pay47 w') (k0_pay48 b') (k0_pay49 w') p' q' s' o wd fg
      = tail (k0_pay53 (k0_pay51 w b p q s) (k0_pay52 w') b' p' q' s' o wd) fg := rfl

theorem payZ1_eq (w w' : Vec Ideal S1x3x512 .f32) (b b' : Vec Ideal S1x1x512 .f32) (p q s p' q' s' : Vec Ideal S1x256x512 .f32)
    (o : TL10) (wd : TL4) (fg : TL2) :
    k0_pay2 (k0_pay53 (k0_pay51 w b p q s) (k0_pay52 w') b' p' q' s' o wd) (k0_pay54 fg) (k0_pay55 (k0_pay51 w b p q s) (k0_pay52 w') b' p' q' s' o wd)
      = tail (k0_pay53 (k0_pay51 w b p q s) (k0_pay52 w') b' p' q' s' o wd) fg := rfl

/-! ## Where the body's rectangles lie -/

theorem ldu (u : Vec Ideal S2x520x512 .f32) {R : Rect S2x520x512} {z} {w : S2x520x512.Idx} (h : R.emb z = w) : View.ld u R z = u w := congrArg u h

theorem emb3 {K a o : ℕ} (inb : ∀ b, (![a, o, 0] : Fin 3 → ℕ) b + (![1, K, 512] : Fin 3 → ℕ) b ≤ S2x520x512.size b) (r : Fin K) (n : Fin 512) (a' : Fin 2) (z : Fin 520) (ha : a'.val = a) (hz : z.val = o + r.val) :
    (Rect.unit (s := S2x520x512) ![a, o, 0] ![1, K, 512] inb).emb (ix3 0 r n) = (ix3 a' z n : S2x520x512.Idx) := by
  funext b; apply Fin.ext
  fin_cases b
  · show a + 1 * 0 = a'.val; omega
  · show o + 1 * r.val = z.val; omega
  · show 0 + 1 * n.val = n.val; omega

theorem emb_u0_t (s : Fin 8) (n : Fin 512) :
    (Rect.unit _ _ inb_S2x520x512_S1x8x512_0_0_0).emb (ix3 0 s n) = (ix3 0 ⟨s.val, by omega⟩ n : S2x520x512.Idx) := emb3 _ s n _ _ rfl (by dsimp only <;> omega)

theorem emb_u0_m (r : Fin 512) (n : Fin 512) :
    (Rect.unit _ _ inb_S2x520x512_S1x512x512_0_8_0).emb (ix3 0 r n) = (ix3 0 ⟨8 + r.val, by omega⟩ n : S2x520x512.Idx) := emb3 _ r n _ _ rfl (by dsimp only <;> omega)

theorem emb_u0_h8_0 (r : Fin 256) (n : Fin 512) :
    (Rect.unit _ _ inb_S2x520x512_S1x256x512_0_8_0).emb (ix3 0 r n) = (ix3 0 ⟨8 + (0 + r.val), by omega⟩ n : S2x520x512.Idx) := emb3 _ r n _ _ rfl (by dsimp only <;> omega)

theorem emb_u0_h8_256 (r : Fin 256) (n : Fin 512) :
    (Rect.unit _ _ inb_S2x520x512_S1x256x512_0_264_0).emb (ix3 0 r n) = (ix3 0 ⟨8 + (256 + r.val), by omega⟩ n : S2x520x512.Idx) := emb3 _ r n _ _ rfl (by dsimp only <;> omega)

theorem emb_u0_m7 (r : Fin 512) (n : Fin 512) :
    (Rect.unit _ _ inb_S2x520x512_S1x512x512_0_7_0).emb (ix3 0 r n) = (ix3 0 ⟨7 + r.val, by omega⟩ n : S2x520x512.Idx) := emb3 _ r n _ _ rfl (by dsimp only <;> omega)

theorem emb_u0_h7_0 (r : Fin 256) (n : Fin 512) :
    (Rect.unit _ _ inb_S2x520x512_S1x256x512_0_7_0).emb (ix3 0 r n) = (ix3 0 ⟨7 + (0 + r.val), by omega⟩ n : S2x520x512.Idx) := emb3 _ r n _ _ rfl (by dsimp only <;> omega)

theorem emb_u0_h7_256 (r : Fin 256) (n : Fin 512) :
    (Rect.unit _ _ inb_S2x520x512_S1x256x512_0_263_0).emb (ix3 0 r n) = (ix3 0 ⟨7 + (256 + r.val), by omega⟩ n : S2x520x512.Idx) := emb3 _ r n _ _ rfl (by dsimp only <;> omega)

theorem emb_u0_m6 (r : Fin 512) (n : Fin 512) :
    (Rect.unit _ _ inb_S2x520x512_S1x512x512_0_6_0).emb (ix3 0 r n) = (ix3 0 ⟨6 + r.val, by omega⟩ n : S2x520x512.Idx) := emb3 _ r n _ _ rfl (by dsimp only <;> omega)

theorem emb_u0_h6_0 (r : Fin 256) (n : Fin 512) :
    (Rect.unit _ _ inb_S2x520x512_S1x256x512_0_6_0).emb (ix3 0 r n) = (ix3 0 ⟨6 + (0 + r.val), by omega⟩ n : S2x520x512.Idx) := emb3 _ r n _ _ rfl (by dsimp only <;> omega)

theorem emb_u0_h6_256 (r : Fin 256) (n : Fin 512) :
    (Rect.unit _ _ inb_S2x520x512_S1x256x512_0_262_0).emb (ix3 0 r n) = (ix3 0 ⟨6 + (256 + r.val), by omega⟩ n : S2x520x512.Idx) := emb3 _ r n _ _ rfl (by dsimp only <;> omega)

theorem emb_u1_t (s : Fin 8) (n : Fin 512) :
    (Rect.unit _ _ inb_S2x520x512_S1x8x512_1_0_0).emb (ix3 0 s n) = (ix3 1 ⟨s.val, by omega⟩ n : S2x520x512.Idx) := emb3 _ s n _ _ rfl (by dsimp only <;> omega)

theorem emb_u1_m (r : Fin 512) (n : Fin 512) :
    (Rect.unit _ _ inb_S2x520x512_S1x512x512_1_8_0).emb (ix3 0 r n) = (ix3 1 ⟨8 + r.val, by omega⟩ n : S2x520x512.Idx) := emb3 _ r n _ _ rfl (by dsimp only <;> omega)

theorem emb_u1_h8_0 (r : Fin 256) (n : Fin 512) :
    (Rect.unit _ _ inb_S2x520x512_S1x256x512_1_8_0).emb (ix3 0 r n) = (ix3 1 ⟨8 + (0 + r.val), by omega⟩ n : S2x520x512.Idx) := emb3 _ r n _ _ rfl (by dsimp only <;> omega)

theorem emb_u1_h8_256 (r : Fin 256) (n : Fin 512) :
    (Rect.unit _ _ inb_S2x520x512_S1x256x512_1_264_0).emb (ix3 0 r n) = (ix3 1 ⟨8 + (256 + r.val), by omega⟩ n : S2x520x512.Idx) := emb3 _ r n _ _ rfl (by dsimp only <;> omega)

theorem emb_u1_m7 (r : Fin 512) (n : Fin 512) :
    (Rect.unit _ _ inb_S2x520x512_S1x512x512_1_7_0).emb (ix3 0 r n) = (ix3 1 ⟨7 + r.val, by omega⟩ n : S2x520x512.Idx) := emb3 _ r n _ _ rfl (by dsimp only <;> omega)

theorem emb_u1_h7_0 (r : Fin 256) (n : Fin 512) :
    (Rect.unit _ _ inb_S2x520x512_S1x256x512_1_7_0).emb (ix3 0 r n) = (ix3 1 ⟨7 + (0 + r.val), by omega⟩ n : S2x520x512.Idx) := emb3 _ r n _ _ rfl (by dsimp only <;> omega)

theorem emb_u1_h7_256 (r : Fin 256) (n : Fin 512) :
    (Rect.unit _ _ inb_S2x520x512_S1x256x512_1_263_0).emb (ix3 0 r n) = (ix3 1 ⟨7 + (256 + r.val), by omega⟩ n : S2x520x512.Idx) := emb3 _ r n _ _ rfl (by dsimp only <;> omega)

theorem emb_u1_m6 (r : Fin 512) (n : Fin 512) :
    (Rect.unit _ _ inb_S2x520x512_S1x512x512_1_6_0).emb (ix3 0 r n) = (ix3 1 ⟨6 + r.val, by omega⟩ n : S2x520x512.Idx) := emb3 _ r n _ _ rfl (by dsimp only <;> omega)

theorem emb_u1_h6_0 (r : Fin 256) (n : Fin 512) :
    (Rect.unit _ _ inb_S2x520x512_S1x256x512_1_6_0).emb (ix3 0 r n) = (ix3 1 ⟨6 + (0 + r.val), by omega⟩ n : S2x520x512.Idx) := emb3 _ r n _ _ rfl (by dsimp only <;> omega)

theorem emb_u1_h6_256 (r : Fin 256) (n : Fin 512) :
    (Rect.unit _ _ inb_S2x520x512_S1x256x512_1_262_0).emb (ix3 0 r n) = (ix3 1 ⟨6 + (256 + r.val), by omega⟩ n : S2x520x512.Idx) := emb3 _ r n _ _ rfl (by dsimp only <;> omega)

theorem emb_x_0 (r : Fin 256) (n : Fin 2048) :
    (Rect.unit _ _ inb_S512x2048_S256x2048_0_0).emb (ix2 r n) = (ix2 ⟨0 + r.val, by omega⟩ n : S512x2048.Idx) := by
  funext b; apply Fin.ext
  fin_cases b
  · show 0 + 1 * (r.val) = 0 + r.val; omega
  · show 0 + 1 * (n.val) = n.val; omega

theorem emb_x_256 (r : Fin 256) (n : Fin 2048) :
    (Rect.unit _ _ inb_S512x2048_S256x2048_256_0).emb (ix2 r n) = (ix2 ⟨256 + r.val, by omega⟩ n : S512x2048.Idx) := by
  funext b; apply Fin.ext
  fin_cases b
  · show 256 + 1 * (r.val) = 256 + r.val; omega
  · show 0 + 1 * (n.val) = n.val; omega

theorem ix3_of (n1 n2 : ℕ) (y : (⟨3, ![1, n1, n2]⟩ : Shape).Idx) : ∃ (r : Fin n1) (n : Fin n2), y = ix3 0 r n :=
  ⟨y 1, y 2, (eq_ix3 y).trans (congrArg (fun a => ix3 a (y 1) (y 2)) (Subsingleton.elim (α := Fin 1) _ _))⟩

/-! ## The buffers after a step, entry by entry -/

/-- A normalized row times a column of a weight block. -/
def dotp (h : TL3) (w : TL0) (r : Fin 512) (n : Fin 512) : EReal :=
  ∑ k, h (ix2 r k) * w (ix3 0 k n)

/-- A step's two products, with the rows kept from the tile before on top. -/
def GU (v : BitVec 1) (h : TL3) (wg wu : TL0) (tl : TL5) (j : Fin 11) : S2x520x512.Idx → EReal := fun y =>
  if hs : (y 1).val < 8 then (if v = 1#1 then 0 else tl (ix4 (y 0) j ⟨(y 1).val, hs⟩ (y 2)))
  else dotp h (if (y 0).val = 0 then wg else wu) ⟨(y 1).val - 8, by have : (y 1).val < 520 := (y 1).isLt; omega⟩ (y 2)

theorem GU_top (v : BitVec 1) (h : TL3) (wg wu : TL0) (tl : TL5) (j : Fin 11)
    (a : Fin 2) (s : Fin 8) (hs : s.val < 520) (n : Fin 512) : GU v h wg wu tl j (ix3 a ⟨s.val, hs⟩ n) = if v = 1#1 then 0 else tl (ix4 a j s n) := by
  unfold GU
  exact dif_pos s.isLt

theorem GU_main (v : BitVec 1) (h : TL3) (wg wu : TL0) (tl : TL5) (j : Fin 11)
    (a : Fin 2) (r : Fin 512) (q : Fin 520) (hq : q.val = 8 + r.val) (n : Fin 512) :
    GU v h wg wu tl j (ix3 a q n) = dotp h (if a.val = 0 then wg else wu) r n := by
  unfold GU
  have hn : ¬ ((ix3 a q n : S2x520x512.Idx) 1).val < 8 := by show ¬ q.val < 8; omega
  rw [dif_neg hn]
  refine congrArg (fun r' => dotp h (if a.val = 0 then wg else wu) r' n) (Fin.ext ?_)
  show q.val - 8 = r.val
  omega

theorem uM_eq (v : BitVec 1) (h : TL3) (wg wu : TL0) (tl : TL5) (j : Fin 11) :
    uM v h wg wu tl j = GU v h wg wu tl j := by
  funext y
  unfold uM
  refine View.canon_apply_of_pieces (Val := Elt Ideal) (e := .f32) (GU v h wg wu tl j) _ ?_ y (View.cover_of_tiledBy _ ![1, 8, 512] (by sl_kernel_rfl) y)
  intro p hp
  simp only [List.mem_cons, List.not_mem_nil, or_false] at hp
  rcases hp with rfl | rfl | rfl | rfl
  · intro x
    obtain ⟨r, n, rfl⟩ := ix3_of 512 512 x
    exact (pay27_apply h wu r n).trans ((congrArg _ (emb_u1_m r n)).trans (GU_main v h wg wu tl j 1 r _ rfl n)).symm
  · intro x
    obtain ⟨r, n, rfl⟩ := ix3_of 8 512 x
    exact (pay26_apply v _ r n).trans ((congrArg _ (emb_u1_t r n)).trans (GU_top v h wg wu tl j 1 r _ n)).symm
  · intro x
    obtain ⟨r, n, rfl⟩ := ix3_of 512 512 x
    exact (pay22_apply h wg r n).trans ((congrArg _ (emb_u0_m r n)).trans (GU_main v h wg wu tl j 0 r _ rfl n)).symm
  · intro x
    obtain ⟨r, n, rfl⟩ := ix3_of 8 512 x
    exact (pay21_apply v _ r n).trans ((congrArg _ (emb_u0_t r n)).trans (GU_top v h wg wu tl j 0 r _ n)).symm

/-- The normalized rows of a tile. -/
def GH (x : TL1) (g : TL2) : S512x2048.Idx → EReal := fun y => nrm (fun k => x (ix2 (y 0) k)) (fun k => g (ix2 0 k)) (y 1)

theorem x0_apply (x : TL1) (r : Fin 256) (n : Fin 2048) : x0 x (ix2 r n) = x (ix2 ⟨0 + r.val, by omega⟩ n) := congrArg x (emb_x_0 r n)
theorem x1_apply (x : TL1) (r : Fin 256) (n : Fin 2048) : x1 x (ix2 r n) = x (ix2 ⟨256 + r.val, by omega⟩ n) := congrArg x (emb_x_256 r n)

theorem h0_apply (x : TL1) (g : TL2) (r : Fin 256) (n : Fin 2048) : h0 x g (ix2 r n) = GH x g (ix2 ⟨0 + r.val, by omega⟩ n) := by
  unfold h0
  rw [pay4_apply]
  simp only [x0_apply]
  rfl
theorem h1_apply (x : TL1) (g : TL2) (r : Fin 256) (n : Fin 2048) : h1 x g (ix2 r n) = GH x g (ix2 ⟨256 + r.val, by omega⟩ n) := by
  unfold h1
  rw [pay13_apply]
  simp only [x1_apply]
  rfl

theorem oA_eq (x : TL1) : oA x = x := by
  funext y
  unfold oA
  refine View.canon_apply_of_pieces (Val := Elt Ideal) (e := .f32) x _ ?_ y (View.cover_of_tiledL _ ![256, 2048] (by sl_kernel_rfl) y)
  intro p hp
  simp only [List.mem_cons, List.not_mem_nil, or_false] at hp
  rcases hp with rfl | rfl
  · intro z; rfl
  · intro z; rfl

theorem hA_eq (x : TL1) (g : TL2) : hA x g = GH x g := by
  funext y
  unfold hA
  refine View.canon_apply_of_pieces (Val := Elt Ideal) (e := .bf16) (GH x g) _ ?_ y (View.cover_of_tiledL _ ![256, 2048] (by sl_kernel_rfl) y)
  intro p hp
  simp only [List.mem_cons, List.not_mem_nil, or_false] at hp
  rcases hp with rfl | rfl
  · intro z
    obtain ⟨r, n, rfl⟩ : ∃ (r : Fin 256) (n : Fin 2048), z = ix2 r n := ⟨z 0, z 1, eq_ix2 z⟩
    exact (h1_apply x g r n).trans (congrArg _ (emb_x_256 r n)).symm
  · intro z
    obtain ⟨r, n, rfl⟩ : ∃ (r : Fin 256) (n : Fin 2048), z = ix2 r n := ⟨z 0, z 1, eq_ix2 z⟩
    exact (h0_apply x g r n).trans (congrArg _ (emb_x_0 r n)).symm

theorem dot0 (x : TL1) (g : TL2) (w : TL0) (r : Fin 256) (n : Fin 512) :
    (∑ k, h0 x g (ix2 r k) * w (ix3 0 k n)) = dotp (GH x g) w ⟨0 + r.val, by omega⟩ n := by
  simp only [h0_apply]; rfl
theorem dot1 (x : TL1) (g : TL2) (w : TL0) (r : Fin 256) (n : Fin 512) :
    (∑ k, h1 x g (ix2 r k) * w (ix3 0 k n)) = dotp (GH x g) w ⟨256 + r.val, by omega⟩ n := by
  simp only [h1_apply]; rfl

theorem uA_eq (v : BitVec 1) (x : TL1) (g : TL2) (wg wu : TL0) (tl : TL5) :
    uA v x g wg wu tl = GU v (GH x g) wg wu tl 0 := by
  funext y
  unfold uA
  refine View.canon_apply_of_pieces (Val := Elt Ideal) (e := .f32) (GU v (GH x g) wg wu tl 0) _ ?_ y (View.cover_of_tiledBy _ ![1, 8, 512] (by sl_kernel_rfl) y)
  intro p hp
  simp only [List.mem_cons, List.not_mem_nil, or_false] at hp
  rcases hp with rfl | rfl | rfl | rfl | rfl | rfl
  · intro z
    obtain ⟨r, n, rfl⟩ := ix3_of 256 512 z
    exact ((pay18_apply _ wu r n).trans (dot1 x g wu r n)).trans ((congrArg _ (emb_u1_h8_256 r n)).trans (GU_main v _ wg wu tl 0 1 ⟨256 + r.val, by omega⟩ _ rfl n)).symm
  · intro z
    obtain ⟨r, n, rfl⟩ := ix3_of 256 512 z
    exact ((pay15_apply _ wg r n).trans (dot1 x g wg r n)).trans ((congrArg _ (emb_u0_h8_256 r n)).trans (GU_main v _ wg wu tl 0 0 ⟨256 + r.val, by omega⟩ _ rfl n)).symm
  · intro z
    obtain ⟨r, n, rfl⟩ := ix3_of 256 512 z
    exact ((pay10_apply _ wu r n).trans (dot0 x g wu r n)).trans ((congrArg _ (emb_u1_h8_0 r n)).trans (GU_main v _ wg wu tl 0 1 ⟨0 + r.val, by omega⟩ _ rfl n)).symm
  · intro z
    obtain ⟨r, n, rfl⟩ := ix3_of 8 512 z
    exact (pay9_apply v _ r n).trans ((congrArg _ (emb_u1_t r n)).trans (GU_top v _ wg wu tl 0 1 r _ n)).symm
  · intro z
    obtain ⟨r, n, rfl⟩ := ix3_of 256 512 z
    exact ((pay8_apply _ wg r n).trans (dot0 x g wg r n)).trans ((congrArg _ (emb_u0_h8_0 r n)).trans (GU_main v _ wg wu tl 0 0 ⟨0 + r.val, by omega⟩ _ rfl n)).symm
  · intro z
    obtain ⟨r, n, rfl⟩ := ix3_of 8 512 z
    exact (pay7_apply v _ r n).trans ((congrArg _ (emb_u0_t r n)).trans (GU_top v _ wg wu tl 0 0 r _ n)).symm

/-- One slot of the kept products replaced. -/
theorem put_apply (tl : TL5) (a0 : Fin 2) (j0 : Fin 11) {off : Fin 4 → ℕ} (ho : off = ![a0.val, j0.val, 0, 0]) (w : TL11) (a : Fin 2) (j : Fin 11) (s : Fin 8) (n : Fin 512) :
    (VecWindow.put tl off S1x1x8x512.size w (ix4 a j s n) : EReal) = if a = a0 ∧ j = j0 then w (ix4 0 0 s n) else tl (ix4 a j s n) := by
  subst ho
  unfold VecWindow.put
  by_cases hc : a = a0 ∧ j = j0
  · rw [if_pos hc]
    obtain ⟨rfl, rfl⟩ := hc
    have hm : ∀ b, (![a.val, j.val, 0, 0] : Fin 4 → ℕ) b ≤ ((ix4 a j s n : S2x11x8x512.Idx) b).val ∧ ((ix4 a j s n : S2x11x8x512.Idx) b).val < (![a.val, j.val, 0, 0] : Fin 4 → ℕ) b + S1x1x8x512.size b := by
      intro b
      fin_cases b
      · show a.val ≤ a.val ∧ a.val < a.val + 1; omega
      · show j.val ≤ j.val ∧ j.val < j.val + 1; omega
      · show 0 ≤ s.val ∧ s.val < 0 + 8; omega
      · show 0 ≤ n.val ∧ n.val < 0 + 512; omega
    rw [dif_pos hm]
    refine congrArg w (funext fun b => Fin.ext ?_)
    fin_cases b
    · show a.val - a.val = 0; omega
    · show j.val - j.val = 0; omega
    · show s.val - 0 = s.val; omega
    · show n.val - 0 = n.val; omega
  · rw [if_neg hc, dif_neg]
    intro hm
    have h0 : a0.val ≤ a.val ∧ a.val < a0.val + 1 := hm 0
    have h1 : j0.val ≤ j.val ∧ j.val < j0.val + 1 := hm 1
    exact hc ⟨Fin.ext (by omega), Fin.ext (by omega)⟩

/-- The kept products with a step's own last rows put in. -/
def GT (h : TL3) (wg wu : TL0) (tl : TL5) (j0 : Fin 11) (a : Fin 2) (j : Fin 11) (s : Fin 8) (n : Fin 512) : EReal :=
  if j = j0 then dotp h (if a.val = 0 then wg else wu) ⟨504 + s.val, by omega⟩ n else tl (ix4 a j s n)

theorem tM_apply (h : TL3) (wg wu : TL0) (tl : TL5) (j0 : Fin 11) (a : Fin 2) (j : Fin 11) (s : Fin 8) (n : Fin 512) :
    tM h wg wu tl j0 (ix4 a j s n) = GT h wg wu tl j0 a j s n := by
  unfold tM GT
  refine (put_apply _ 1 j0 rfl _ a j s n).trans ?_
  rw [put_apply tl 0 j0 (off := ![0, j0.val, 0, 0]) rfl _ a j s n, pay28_apply, pay23_apply]
  by_cases hj : j = j0
  · rw [if_pos hj]
    fin_cases a
    · exact (if_neg (by simp)).trans (if_pos ⟨rfl, hj⟩)
    · exact if_pos ⟨rfl, hj⟩
  · rw [if_neg (fun h => hj h.2), if_neg (fun h => hj h.2), if_neg hj]

theorem tA_apply (x : TL1) (g : TL2) (wg wu : TL0) (tl : TL5) (a : Fin 2) (j : Fin 11) (s : Fin 8) (n : Fin 512) :
    tA x g wg wu tl (ix4 a j s n) = GT (GH x g) wg wu tl 0 a j s n := by
  unfold tA GT
  refine (put_apply _ 1 0 rfl _ a j s n).trans ?_
  rw [put_apply tl 0 0 (off := ![0, 0, 0, 0]) rfl _ a j s n, pay56_apply, pay16_apply, dot1, dot1]
  by_cases hj : j = 0
  · rw [if_pos hj]
    have e : (⟨256 + (⟨248 + s.val, by omega⟩ : Fin 256).val, by show 256 + (248 + s.val) < 512; omega⟩ : Fin 512) = ⟨504 + s.val, by omega⟩ := Fin.ext (by show 256 + (248 + s.val) = 504 + s.val; omega)
    rw [e]
    fin_cases a
    · exact (if_neg (by simp)).trans (if_pos ⟨rfl, hj⟩)
    · exact if_pos ⟨rfl, hj⟩
  · rw [if_neg (fun h => hj h.2), if_neg (fun h => hj h.2), if_neg hj]

/-- One entry of a step's convolution, from a buffer of products. -/
def cvB (cw : TL6) (cb : TL7) (u : TL8) (kk : Fin 22) (a : Fin 2) (r n : Fin 512) : EReal :=
  cv (cw (ix3 kk 0 n)) (cw (ix3 kk 1 n)) (cw (ix3 kk 2 n)) (cb (ix3 kk 0 n)) (u (ix3 a ⟨8 + r.val, by omega⟩ n)) (u (ix3 a ⟨6 + r.val, by omega⟩ n)) (u (ix3 a ⟨7 + r.val, by omega⟩ n))

/-- The result's rows with the columns of a step folded in. -/
def GO (o : TL1) (u : TL8) (cw : TL6) (cb : TL7) (j : Fin 11) (wd : TL4) : S512x2048.Idx → EReal := fun y =>
  o (ix2 (y 0) (y 1)) + ∑ n : Fin 512, (sil (cvB cw cb u ⟨j.val, by omega⟩ 0 (y 0) n) * cvB cw cb u ⟨11 + j.val, by omega⟩ 1 (y 0) n) * wd (ix3 0 n (y 1))

theorem oM_eq (o : TL1) (u : TL8) (cw : TL6) (cb : TL7) (j : Fin 11) (wd : TL4) :
    oM o u cw cb j wd = GO o u cw cb j wd := by
  funext y
  obtain ⟨r, d, rfl⟩ : ∃ (r : Fin 512) (d : Fin 2048), y = ix2 r d := ⟨y 0, y 1, eq_ix2 y⟩
  unfold oM
  rw [payM_apply]
  refine congrArg (fun z => o (ix2 r d) + z) (Finset.sum_congr rfl fun n _ => ?_)
  have e08 := ldu u (emb_u0_m r n)
  have e18 := ldu u (emb_u1_m r n)
  have e06 := ldu u (emb_u0_m6 r n)
  have e16 := ldu u (emb_u1_m6 r n)
  have e07 := ldu u (emb_u0_m7 r n)
  have e17 := ldu u (emb_u1_m7 r n)
  rw [e08, e18, e06, e16, e07, e17]
  rfl

/-- The tile's rows after its last step: the folded rows, normalized. -/
def GZ (o : TL1) (u : TL8) (cw : TL6) (cb : TL7) (wd : TL4) (fg : TL2) : S512x2048.Idx → EReal := fun y =>
  nrm (fun k => GO o u cw cb 10 wd (ix2 (y 0) k)) (fun k => fg (ix2 0 k)) (y 1)

theorem row0_apply (o : TL1) (u : TL8) (cw : TL6) (cb : TL7) (wd : TL4) (r : Fin 256) (d : Fin 2048) :
    k0_pay53 (k0_pay51 (ldC cw 10) (ldB cb 10) (View.ld u (Rect.unit _ _ inb_S2x520x512_S1x256x512_0_8_0)) (View.ld u (Rect.unit _ _ inb_S2x520x512_S1x256x512_0_6_0)) (View.ld u (Rect.unit _ _ inb_S2x520x512_S1x256x512_0_7_0)))
    (k0_pay52 (ldC cw 21)) (ldB cb 21) (View.ld u (Rect.unit _ _ inb_S2x520x512_S1x256x512_1_8_0)) (View.ld u (Rect.unit _ _ inb_S2x520x512_S1x256x512_1_6_0)) (View.ld u (Rect.unit _ _ inb_S2x520x512_S1x256x512_1_7_0))
    (View.ld o (Rect.unit _ _ inb_S512x2048_S256x2048_0_0)) wd (ix2 r d) = GO o u cw cb 10 wd (ix2 ⟨0 + r.val, by omega⟩ d) := by
  rw [payZ_apply]
  have eo : View.ld o (Rect.unit _ _ inb_S512x2048_S256x2048_0_0) (ix2 r d) = o (ix2 ⟨0 + r.val, by omega⟩ d) := congrArg o (emb_x_0 r d)
  rw [eo]
  refine congrArg (fun q => o (ix2 ⟨0 + r.val, by omega⟩ d) + q) (Finset.sum_congr rfl fun n _ => ?_)
  have e08 := ldu u (emb_u0_h8_0 r n)
  have e06 := ldu u (emb_u0_h6_0 r n)
  have e07 := ldu u (emb_u0_h7_0 r n)
  have e18 := ldu u (emb_u1_h8_0 r n)
  have e16 := ldu u (emb_u1_h6_0 r n)
  have e17 := ldu u (emb_u1_h7_0 r n)
  rw [e08, e18, e06, e16, e07, e17]
  rfl

theorem oZ0_apply (o : TL1) (u : TL8) (cw : TL6) (cb : TL7) (wd : TL4) (fg : TL2) (r : Fin 256) (d : Fin 2048) :
    oZ0 o u cw cb wd fg (ix2 r d) = GZ o u cw cb wd fg (ix2 ⟨0 + r.val, by omega⟩ d) := by
  unfold oZ0
  rw [payZ0_eq, tail_apply]
  exact congrArg (fun x => nrm x (fun k => fg (ix2 0 k)) d) (funext fun k => row0_apply o u cw cb wd r k)

theorem row1_apply (o : TL1) (u : TL8) (cw : TL6) (cb : TL7) (wd : TL4) (r : Fin 256) (d : Fin 2048) :
    k0_pay53 (k0_pay51 (ldC cw 10) (ldB cb 10) (View.ld u (Rect.unit _ _ inb_S2x520x512_S1x256x512_0_264_0)) (View.ld u (Rect.unit _ _ inb_S2x520x512_S1x256x512_0_262_0)) (View.ld u (Rect.unit _ _ inb_S2x520x512_S1x256x512_0_263_0)))
    (k0_pay52 (ldC cw 21)) (ldB cb 21) (View.ld u (Rect.unit _ _ inb_S2x520x512_S1x256x512_1_264_0)) (View.ld u (Rect.unit _ _ inb_S2x520x512_S1x256x512_1_262_0)) (View.ld u (Rect.unit _ _ inb_S2x520x512_S1x256x512_1_263_0))
    (View.ld o (Rect.unit _ _ inb_S512x2048_S256x2048_256_0)) wd (ix2 r d) = GO o u cw cb 10 wd (ix2 ⟨256 + r.val, by omega⟩ d) := by
  rw [payZ_apply]
  have eo : View.ld o (Rect.unit _ _ inb_S512x2048_S256x2048_256_0) (ix2 r d) = o (ix2 ⟨256 + r.val, by omega⟩ d) := congrArg o (emb_x_256 r d)
  rw [eo]
  refine congrArg (fun q => o (ix2 ⟨256 + r.val, by omega⟩ d) + q) (Finset.sum_congr rfl fun n _ => ?_)
  have e08 := ldu u (emb_u0_h8_256 r n)
  have e06 := ldu u (emb_u0_h6_256 r n)
  have e07 := ldu u (emb_u0_h7_256 r n)
  have e18 := ldu u (emb_u1_h8_256 r n)
  have e16 := ldu u (emb_u1_h6_256 r n)
  have e17 := ldu u (emb_u1_h7_256 r n)
  rw [e08, e18, e06, e16, e07, e17]
  rfl

theorem oZ1_apply (o : TL1) (u : TL8) (cw : TL6) (cb : TL7) (wd : TL4) (fg : TL2) (r : Fin 256) (d : Fin 2048) :
    oZ1 o u cw cb wd fg (ix2 r d) = GZ o u cw cb wd fg (ix2 ⟨256 + r.val, by omega⟩ d) := by
  unfold oZ1
  rw [payZ1_eq, tail_apply]
  exact congrArg (fun x => nrm x (fun k => fg (ix2 0 k)) d) (funext fun k => row1_apply o u cw cb wd r k)

theorem oZ_eq (o : TL1) (u : TL8) (cw : TL6) (cb : TL7) (wd : TL4) (fg : TL2) :
    oZ o u cw cb wd fg = GZ o u cw cb wd fg := by
  funext y
  unfold oZ
  refine View.canon_apply_of_pieces (Val := Elt Ideal) (e := .f32) (GZ o u cw cb wd fg) _ ?_ y (View.cover_of_tiledL _ ![256, 2048] (by sl_kernel_rfl) y)
  intro p hp
  simp only [List.mem_cons, List.not_mem_nil, or_false] at hp
  rcases hp with rfl | rfl
  · intro z
    obtain ⟨r, n, rfl⟩ : ∃ (r : Fin 256) (n : Fin 2048), z = ix2 r n := ⟨z 0, z 1, eq_ix2 z⟩
    exact (oZ1_apply o u cw cb wd fg r n).trans (congrArg _ (emb_x_256 r n)).symm
  · intro z
    obtain ⟨r, n, rfl⟩ : ∃ (r : Fin 256) (n : Fin 2048), z = ix2 r n := ⟨z 0, z 1, eq_ix2 z⟩
    exact (oZ0_apply o u cw cb wd fg r n).trans (congrArg _ (emb_x_0 r n)).symm

/-! ## The blocks of the arguments -/

/-- The kernel's value, from its arguments: the normalized rows, their products, the convolution and the gated product,
row and column given as numbers. -/
def nx (X : ULk0) (g : S2048.Idx → EReal) (R : ℕ) (k : Fin 2048) : EReal :=
  if h : R < 32768 then nrm (fun k => X (ix2 ⟨R, h⟩ k)) (fun k => g (ix1 k)) k else 0
def xN (X : ULk0) (R : ℕ) (d : Fin 2048) : EReal := if h : R < 32768 then X (ix2 ⟨R, h⟩ d) else 0
def Ux (X : ULk0) (g : S2048.Idx → EReal) (W : ULk1) (R n : ℕ) : EReal :=
  if h : n < 11264 then ∑ k, nx X g R k * W (ix3 3 k ⟨n, h⟩) else 0
def cwN (CW : S3x11264.Idx → EReal) (a : Fin 3) (n : ℕ) : EReal := if h : n < 11264 then CW (ix2 a ⟨n, h⟩) else 0
def cbN (CB : S11264.Idx → EReal) (n : ℕ) : EReal := if h : n < 11264 then CB (ix1 ⟨n, h⟩) else 0
def wdN (WD : S4x5632x2048.Idx → EReal) (n : ℕ) (d : Fin 2048) : EReal := if h : n < 5632 then WD (ix3 3 ⟨n, h⟩ d) else 0

/-- The product `e` rows back, zero before the sequence starts. -/
def Px (X : ULk0) (g : S2048.Idx → EReal) (W : ULk1) (R e n : ℕ) : EReal :=
  if R % 4096 < e then 0 else Ux X g W (R - e) n
def Cx (X : ULk0) (g : S2048.Idx → EReal) (W : ULk1) (CW : S3x11264.Idx → EReal) (CB : S11264.Idx → EReal) (R n : ℕ) : EReal :=
  cv (cwN CW 0 n) (cwN CW 1 n) (cwN CW 2 n) (cbN CB n) (Ux X g W R n) (Px X g W R 2 n) (Px X g W R 1 n)
def Ax (X : ULk0) (g : S2048.Idx → EReal) (W : ULk1) (CW : S3x11264.Idx → EReal) (CB : S11264.Idx → EReal) (R n : ℕ) : EReal :=
  sil (Cx X g W CW CB R n) * Cx X g W CW CB R (5632 + n)

/-- The layer's row, entry by entry, and the result: the row under the final norm. -/
def row (X : ULk0) (g : S2048.Idx → EReal) (W : ULk1) (CW : S3x11264.Idx → EReal) (CB : S11264.Idx → EReal)
    (WD : S4x5632x2048.Idx → EReal) (r : Fin 32768) (d : Fin 2048) : EReal :=
  X (ix2 r d) + ∑ n : Fin 5632, Ax X g W CW CB r.val n.val * WD (ix3 3 n d)
def spec (X : ULk0) (g fg : S2048.Idx → EReal) (W : ULk1) (CW : S3x11264.Idx → EReal) (CB : S11264.Idx → EReal)
    (WD : S4x5632x2048.Idx → EReal) : S32768x2048.Idx → EReal := fun y =>
  nrm (row X g W CW CB WD (y 0)) (fun k => fg (ix1 k)) (y 1)

variable (m : (ℓ : Loc nD τ sig) → Buf (Elt Ideal) ℓ)

/-- Where each window's block lies at each grid point. -/
theorem idx : ∀ t : Fin grid0.N,
    (win0_0.index t 0 = t.val / 12 ∧ win0_0.index t 1 = 0) ∧ (win0_1.index t 0 = 0 ∧ win0_1.index t 1 = 0)
    ∧ (win0_3.index t 0 = 3 ∧ win0_3.index t 1 = 0 ∧ win0_3.index t 2 = min (t.val % 12) 10)
    ∧ (win0_4.index t 0 = 3 ∧ win0_4.index t 1 = 0 ∧ win0_4.index t 2 = 11 + min (t.val % 12) 10)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 3 ∧ win0_7.index t 1 = t.val % 12 - 1 ∧ win0_7.index t 2 = 0)
    ∧ (win0_8.index t 0 = t.val / 12 ∧ win0_8.index t 1 = 0)
    ∧ (win0_2.index t 0 = 0 ∧ win0_2.index t 1 = 0) := by decide +kernel

theorem hfst : ∀ t : Fin cfg0.N, fst (grid0.coords t) = 1#1 ↔ t.val / 12 % 8 = 0 :=
  (by decide +kernel : ∀ t : Fin grid0.N, fst (grid0.coords t) = 1#1 ↔ t.val / 12 % 8 = 0)

theorem iblk0 (c : Dev nD) (t : Fin cfg0.N) (r : Fin 512) (k : Fin 2048) (h : 512 * (t.val / 12) + r.val < 32768) :
    (iblk m c 0 t : TL1) (ix2 r k) = m ((c : Thread nD τ).loc main_arg0) (ix2 ⟨512 * (t.val / 12) + r.val, h⟩ k) := by
  have e := (idx t).1
  unfold iblk
  rw [View.read_apply]
  show V m c main_arg0 _ = _
  rw [V_main_arg0]
  congr 1
  funext a
  apply Fin.ext
  match a with
  | ⟨0, _⟩ => show win0_0.index t 0 * 512 + 1 * r.val = 512 * (t.val / 12) + r.val; rw [e.1]; omega
  | ⟨1, _⟩ => show win0_0.index t 1 * 2048 + 1 * k.val = k.val; rw [e.2]; omega

theorem iblk1 (c : Dev nD) (t : Fin cfg0.N) (k : Fin 2048) :
    (iblk m c 1 t : TL2) (ix2 0 k) = m ((c : Thread nD τ).loc main_arg1) (ix1 k) := by
  have e := (idx t).2.1
  unfold iblk
  rw [View.read_apply]
  show V m c main_v3 _ = _
  have hV : (V m c main_v3 : TL2) = shapeCast S1x2048 (m ((c : Thread nD τ).loc main_arg1) : Vec Ideal S2048 .f32) shapeCasts_S2048_S1x2048 := by
    entry_read
    rfl
  have hi : ((cfg0.win 1).blk t).view.emb (ix2 0 k) = (ix2 0 k : S1x2048.Idx) := by
    funext a
    apply Fin.ext
    match a with
    | ⟨0, _⟩ => show win0_1.index t 0 * 1 + 1 * 0 = 0; rw [e.1]
    | ⟨1, _⟩ => show win0_1.index t 1 * 2048 + 1 * k.val = k.val; rw [e.2]; omega
  rw [hi, hV]
  pointwise

theorem iblk2 (c : Dev nD) (t : Fin cfg0.N) (k : Fin 2048) :
    (iblk m c 2 t : TL2) (ix2 0 k) = m ((c : Thread nD τ).loc main_arg2) (ix1 k) := by
  have e := (idx t).2.2.2.2.2.2.2.2
  unfold iblk
  rw [View.read_apply]
  show V m c main_v4 _ = _
  have hV : (V m c main_v4 : TL2) = shapeCast S1x2048 (m ((c : Thread nD τ).loc main_arg2) : Vec Ideal S2048 .f32) shapeCasts_S2048_S1x2048 := by
    entry_read
    rfl
  have hi : ((cfg0.win 2).blk t).view.emb (ix2 0 k) = (ix2 0 k : S1x2048.Idx) := by
    funext a
    apply Fin.ext
    match a with
    | ⟨0, _⟩ => show win0_2.index t 0 * 1 + 1 * 0 = 0; rw [e.1]
    | ⟨1, _⟩ => show win0_2.index t 1 * 2048 + 1 * k.val = k.val; rw [e.2]; omega
  rw [hi, hV]
  pointwise

theorem iblk3 (c : Dev nD) (t : Fin cfg0.N) (k : Fin 2048) (n : Fin 512) (h : 512 * min (t.val % 12) 10 + n.val < 11264) :
    (iblk m c 3 t : TL0) (ix3 0 k n) = m ((c : Thread nD τ).loc main_arg3) (ix3 3 k ⟨512 * min (t.val % 12) 10 + n.val, h⟩) := by
  have e := (idx t).2.2.1
  unfold iblk
  rw [View.read_apply]
  show V m c main_arg3 _ = _
  rw [V_main_arg3]
  congr 1
  funext a
  apply Fin.ext
  match a with
  | ⟨0, _⟩ => show win0_3.index t 0 * 1 + 1 * 0 = 3; rw [e.1]
  | ⟨1, _⟩ => show win0_3.index t 1 * 2048 + 1 * k.val = k.val; rw [e.2.1]; omega
  | ⟨2, _⟩ => show win0_3.index t 2 * 512 + 1 * n.val = 512 * min (t.val % 12) 10 + n.val; rw [e.2.2]; omega

theorem iblk4 (c : Dev nD) (t : Fin cfg0.N) (k : Fin 2048) (n : Fin 512) (h : 5632 + 512 * min (t.val % 12) 10 + n.val < 11264) :
    (iblk m c 4 t : TL0) (ix3 0 k n) = m ((c : Thread nD τ).loc main_arg3) (ix3 3 k ⟨5632 + 512 * min (t.val % 12) 10 + n.val, h⟩) := by
  have e := (idx t).2.2.2.1
  unfold iblk
  rw [View.read_apply]
  show V m c main_arg3 _ = _
  rw [V_main_arg3]
  congr 1
  funext a
  apply Fin.ext
  match a with
  | ⟨0, _⟩ => show win0_4.index t 0 * 1 + 1 * 0 = 3; rw [e.1]
  | ⟨1, _⟩ => show win0_4.index t 1 * 2048 + 1 * k.val = k.val; rw [e.2.1]; omega
  | ⟨2, _⟩ => show win0_4.index t 2 * 512 + 1 * n.val = 5632 + 512 * min (t.val % 12) 10 + n.val; rw [e.2.2]; omega

theorem iblk5 (c : Dev nD) (t : Fin cfg0.N) (q : Fin 22) (a : Fin 3) (n : Fin 512) :
    (iblk m c 5 t : TL6) (ix3 q a n) = m ((c : Thread nD τ).loc main_arg4) (ix2 a ⟨512 * q.val + n.val, by omega⟩) := by
  have e := (idx t).2.2.2.2.1
  unfold iblk
  rw [View.read_apply]
  show V m c main_v1 _ = _
  have hV : (V m c main_v1 : TL6) = transpose S22x3x512 [1, 0, 2] (shapeCast S3x22x512 (m ((c : Thread nD τ).loc main_arg4) : Vec Ideal S3x11264 .f32) shapeCasts_S3x11264_S3x22x512) transposes_S3x22x512_S22x3x512_1_0_2 := by
    entry_read
    rfl
  have hi : ((cfg0.win 5).blk t).view.emb (ix3 q a n) = (ix3 q a n : S22x3x512.Idx) := by
    funext b
    apply Fin.ext
    match b with
    | ⟨0, _⟩ => show win0_5.index t 0 * 22 + 1 * q.val = q.val; rw [e.1]; omega
    | ⟨1, _⟩ => show win0_5.index t 1 * 3 + 1 * a.val = a.val; rw [e.2.1]; omega
    | ⟨2, _⟩ => show win0_5.index t 2 * 512 + 1 * n.val = n.val; rw [e.2.2]; omega
  rw [hi, hV]
  pointwise
  exact congrArg (fun z => m ((c : Thread nD τ).loc main_arg4) (ix2 a z)) (Fin.ext (by show q.val * 512 + n.val = 512 * q.val + n.val; omega))

theorem iblk6 (c : Dev nD) (t : Fin cfg0.N) (q : Fin 22) (n : Fin 512) :
    (iblk m c 6 t : TL7) (ix3 q 0 n) = m ((c : Thread nD τ).loc main_arg5) (ix1 ⟨512 * q.val + n.val, by omega⟩) := by
  have e := (idx t).2.2.2.2.2.1
  unfold iblk
  rw [View.read_apply]
  show V m c main_v2 _ = _
  have hV : (V m c main_v2 : TL7) = shapeCast S22x1x512 (m ((c : Thread nD τ).loc main_arg5) : Vec Ideal S11264 .f32) shapeCasts_S11264_S22x1x512 := by
    entry_read
    rfl
  have hi : ((cfg0.win 6).blk t).view.emb (ix3 q 0 n) = (ix3 q 0 n : S22x1x512.Idx) := by
    funext b
    apply Fin.ext
    match b with
    | ⟨0, _⟩ => show win0_6.index t 0 * 22 + 1 * q.val = q.val; rw [e.1]; omega
    | ⟨1, _⟩ => show win0_6.index t 1 * 1 + 1 * 0 = 0; rw [e.2.1]
    | ⟨2, _⟩ => show win0_6.index t 2 * 512 + 1 * n.val = n.val; rw [e.2.2]; omega
  rw [hi, hV]
  pointwise
  exact congrArg (fun z => m ((c : Thread nD τ).loc main_arg5) (ix1 z)) (Fin.ext (by show q.val * 512 + n.val = 512 * q.val + n.val; omega))

theorem iblk7 (c : Dev nD) (t : Fin cfg0.N) (n : Fin 512) (d : Fin 2048) (h : 512 * (t.val % 12 - 1) + n.val < 5632) :
    (iblk m c 7 t : TL4) (ix3 0 n d) = m ((c : Thread nD τ).loc main_arg6) (ix3 3 ⟨512 * (t.val % 12 - 1) + n.val, h⟩ d) := by
  have e := (idx t).2.2.2.2.2.2.1
  unfold iblk
  rw [View.read_apply]
  show V m c main_arg6 _ = _
  rw [V_main_arg6]
  congr 1
  funext a
  apply Fin.ext
  match a with
  | ⟨0, _⟩ => show win0_7.index t 0 * 1 + 1 * 0 = 3; rw [e.1]
  | ⟨1, _⟩ => show win0_7.index t 1 * 512 + 1 * n.val = 512 * (t.val % 12 - 1) + n.val; rw [e.2.1]; omega
  | ⟨2, _⟩ => show win0_7.index t 2 * 2048 + 1 * d.val = d.val; rw [e.2.2]; omega

/-! ## The buffers after every point -/

abbrev aX (c : Dev nD) : S32768x2048.Idx → EReal := m ((c : Thread nD τ).loc main_arg0)
abbrev aG (c : Dev nD) : S2048.Idx → EReal := m ((c : Thread nD τ).loc main_arg1)
abbrev aFG (c : Dev nD) : S2048.Idx → EReal := m ((c : Thread nD τ).loc main_arg2)
abbrev aW (c : Dev nD) : S4x2048x11264.Idx → EReal := m ((c : Thread nD τ).loc main_arg3)
abbrev aCW (c : Dev nD) : S3x11264.Idx → EReal := m ((c : Thread nD τ).loc main_arg4)
abbrev aCB (c : Dev nD) : S11264.Idx → EReal := m ((c : Thread nD τ).loc main_arg5)
abbrev aWD (c : Dev nD) : S4x5632x2048.Idx → EReal := m ((c : Thread nD τ).loc main_arg6)
abbrev nxc (c : Dev nD) := nx (aX m c) (aG m c)
abbrev Uc (c : Dev nD) := Ux (aX m c) (aG m c) (aW m c)
abbrev Ac (c : Dev nD) := Ax (aX m c) (aG m c) (aW m c) (aCW m c) (aCB m c)

/-- A tile's products with the eight rows before it, zero where a sequence starts. -/
def UBc (c : Dev nD) (i j a q n : ℕ) : EReal := if q < 8 ∧ i % 8 = 0 then 0 else Uc m c (512 * i + q - 8) (5632 * a + 512 * j + n)

theorem Uc_congr (c : Dev nD) {R R' n n' : ℕ} (h : R = R') (h' : n = n') : Uc m c R n = Uc m c R' n' := by rw [h, h']

/-- What the buffers hold after point `t`. -/
structure Inv (c : Dev nD) (t : ℕ) (s : St Ideal) : Prop where
  hh : ∀ (r : Fin 512) (k : Fin 2048), (s.h (ix2 r k) : EReal) = nxc m c (512 * (t / 12) + r.val) k
  ho : t % 12 ≠ 11 → ∀ (r : Fin 512) (d : Fin 2048), (s.o (ix2 r d) : EReal) = xN (aX m c) (512 * (t / 12) + r.val) d
    + ∑ n ∈ Finset.range (512 * (t % 12)), Ac m c (512 * (t / 12) + r.val) n * wdN (aWD m c) n d
  hf : t % 12 = 11 → ∀ (r : Fin 512) (d : Fin 2048), (s.o (ix2 r d) : EReal) =
    nrm (fun d => xN (aX m c) (512 * (t / 12) + r.val) d + ∑ n ∈ Finset.range 5632, Ac m c (512 * (t / 12) + r.val) n * wdN (aWD m c) n d) (fun k => aFG m c (ix1 k)) d
  hu : t % 12 ≠ 11 → ∀ (a : Fin 2) (q : Fin 520) (n : Fin 512), ((if t % 2 = 0 then s.ua else s.ub) (ix3 a q n) : EReal) = UBc m c (t / 12) (t % 12) a.val q.val n.val
  ht : ∀ (a : Fin 2) (j : Fin 11) (q : Fin 8) (n : Fin 512), (j.val ≤ t % 12 ∨ t / 12 ≠ 0) →
    (s.tl (ix4 a j q n) : EReal) = Uc m c (512 * (if j.val ≤ t % 12 then t / 12 else t / 12 - 1) + 504 + q.val) (5632 * a.val + 512 * j.val + n.val)

theorem dot_eq (c : Dev nD) (t : Fin cfg0.N) (h11 : t.val % 12 ≠ 11) (h : TL3)
    (hh : ∀ (r : Fin 512) (k : Fin 2048), (h (ix2 r k) : EReal) = nxc m c (512 * (t.val / 12) + r.val) k) (a : Fin 2) (r n : Fin 512) :
    dotp h (if a.val = 0 then iblk m c 3 t else iblk m c 4 t) r n = Uc m c (512 * (t.val / 12) + r.val) (5632 * a.val + 512 * (t.val % 12) + n.val) := by
  have hj : t.val % 12 < 12 := Nat.mod_lt _ (by decide)
  have hb : 5632 * a.val + 512 * (t.val % 12) + n.val < 11264 := by have := a.isLt; omega
  unfold dotp Uc Ux
  rw [dif_pos hb]
  refine Finset.sum_congr rfl fun k _ => ?_
  rw [hh]
  refine congrArg (fun z => nxc m c (512 * (t.val / 12) + r.val) k * z) ?_
  fin_cases a
  · refine (iblk3 m c t k n (by omega)).trans (congrArg (fun z => m ((c : Thread nD τ).loc main_arg3) (ix3 3 k z)) (Fin.ext ?_))
    show 512 * min (t.val % 12) 10 + n.val = 5632 * 0 + 512 * (t.val % 12) + n.val
    omega
  · refine (iblk4 m c t k n (by omega)).trans (congrArg (fun z => m ((c : Thread nD τ).loc main_arg3) (ix3 3 k z)) (Fin.ext ?_))
    show 5632 + 512 * min (t.val % 12) 10 + n.val = 5632 * 1 + 512 * (t.val % 12) + n.val
    omega

theorem GU_eq (c : Dev nD) (t : Fin cfg0.N) (h11 : t.val % 12 ≠ 11) (h : TL3) (tl : TL5)
    (hh : ∀ (r : Fin 512) (k : Fin 2048), (h (ix2 r k) : EReal) = nxc m c (512 * (t.val / 12) + r.val) k)
    (htl : t.val / 12 % 8 ≠ 0 → ∀ (a : Fin 2) (q : Fin 8) (n : Fin 512), (tl (ix4 a (jj t) q n) : EReal) = Uc m c (512 * (t.val / 12) + q.val - 8) (5632 * a.val + 512 * (t.val % 12) + n.val))
    (a : Fin 2) (q : Fin 520) (n : Fin 512) :
    GU (fst (grid0.coords t)) h (iblk m c 3 t) (iblk m c 4 t) tl (jj t) (ix3 a q n) = UBc m c (t.val / 12) (t.val % 12) a.val q.val n.val := by
  unfold UBc
  by_cases hq : q.val < 8
  · refine (GU_top (fst (grid0.coords t)) h (iblk m c 3 t) (iblk m c 4 t) tl (jj t) a ⟨q.val, hq⟩ q.isLt n).trans ?_
    by_cases hi : t.val / 12 % 8 = 0
    · rw [if_pos ((hfst t).mpr hi), if_pos ⟨hq, hi⟩]
    · rw [if_neg (fun hc => hi ((hfst t).mp hc)), if_neg (fun hc => hi hc.2)]
      exact htl hi a ⟨q.val, hq⟩ n
  · have hr : q.val - 8 < 512 := by have := q.isLt; omega
    rw [if_neg (fun hc => hq hc.1), GU_main _ h (iblk m c 3 t) (iblk m c 4 t) tl (jj t) a ⟨q.val - 8, hr⟩ q (by show q.val = 8 + (q.val - 8); omega) n,
      dot_eq m c t h11 h hh a ⟨q.val - 8, hr⟩ n]
    exact Uc_congr m c (by show 512 * (t.val / 12) + (q.val - 8) = _; omega) rfl

theorem GT_eq (c : Dev nD) (t : Fin cfg0.N) (h11 : t.val % 12 ≠ 11) (h : TL3) (tl : TL5)
    (hh : ∀ (r : Fin 512) (k : Fin 2048), (h (ix2 r k) : EReal) = nxc m c (512 * (t.val / 12) + r.val) k)
    (a : Fin 2) (j : Fin 11) (q : Fin 8) (n : Fin 512)
    (htl : j.val ≠ t.val % 12 → (tl (ix4 a j q n) : EReal) = Uc m c (512 * (if j.val ≤ t.val % 12 then t.val / 12 else t.val / 12 - 1) + 504 + q.val) (5632 * a.val + 512 * j.val + n.val)) :
    GT h (iblk m c 3 t) (iblk m c 4 t) tl (jj t) a j q n = Uc m c (512 * (if j.val ≤ t.val % 12 then t.val / 12 else t.val / 12 - 1) + 504 + q.val) (5632 * a.val + 512 * j.val + n.val) := by
  have hjj : (jj t).val = t.val % 12 := by show t.val % 12 % 11 = _; omega
  unfold GT
  by_cases hj : j = jj t
  · have hj' : j.val = t.val % 12 := (congrArg Fin.val hj).trans hjj
    rw [if_pos hj, dot_eq m c t h11 h hh, if_pos (by omega)]
    exact Uc_congr m c (by show 512 * (t.val / 12) + (504 + q.val) = _; omega) (by omega)
  · rw [if_neg hj]
    exact htl fun h => hj (Fin.ext (h.trans hjj.symm))

theorem cvB_eq (c : Dev nD) (t : Fin cfg0.N) (j : ℕ) (hj : j < 11) (u : TL8)
    (hu : ∀ (a : Fin 2) (q : Fin 520) (n : Fin 512), (u (ix3 a q n) : EReal) = UBc m c (t.val / 12) j a.val q.val n.val)
    (k : Fin 22) (a : Fin 2) (hk : k.val = 11 * a.val + j) (r n : Fin 512) :
    cvB (iblk m c 5 t) (iblk m c 6 t) u k a r n
      = Cx (aX m c) (aG m c) (aW m c) (aCW m c) (aCB m c) (512 * (t.val / 12) + r.val) (5632 * a.val + 512 * j + n.val) := by
  have hb : 5632 * a.val + 512 * j + n.val < 11264 := by have := a.isLt; omega
  have e : (⟨512 * k.val + n.val, by omega⟩ : Fin 11264) = ⟨5632 * a.val + 512 * j + n.val, hb⟩ := Fin.ext (by show 512 * k.val + n.val = 5632 * a.val + 512 * j + n.val; omega)
  unfold cvB Cx cwN cbN
  rw [dif_pos hb, dif_pos hb, dif_pos hb, dif_pos hb, iblk5, iblk5, iblk5, iblk6, hu, hu, hu, e]
  have e8 : UBc m c (t.val / 12) j a.val (8 + r.val) n.val = Uc m c (512 * (t.val / 12) + r.val) (5632 * a.val + 512 * j + n.val) := by
    unfold UBc
    rw [if_neg (by omega)]
    exact Uc_congr m c (by omega) rfl
  have e6 : UBc m c (t.val / 12) j a.val (6 + r.val) n.val = Px (aX m c) (aG m c) (aW m c) (512 * (t.val / 12) + r.val) 2 (5632 * a.val + 512 * j + n.val) := by
    unfold UBc Px
    by_cases h : 6 + r.val < 8 ∧ t.val / 12 % 8 = 0
    · rw [if_pos h, if_pos (by omega)]
    · rw [if_neg h, if_neg (by omega)]
      exact Uc_congr m c (by omega) rfl
  have e7 : UBc m c (t.val / 12) j a.val (7 + r.val) n.val = Px (aX m c) (aG m c) (aW m c) (512 * (t.val / 12) + r.val) 1 (5632 * a.val + 512 * j + n.val) := by
    unfold UBc Px
    by_cases h : 7 + r.val < 8 ∧ t.val / 12 % 8 = 0
    · rw [if_pos h, if_pos (by omega)]
    · rw [if_neg h, if_neg (by omega)]
      exact Uc_congr m c (by omega) rfl
  exact congrArg₂ (fun x yz => cv _ _ _ _ x yz.1 yz.2) e8 (Prod.ext e6 e7 : (_, _) = (_, _))

theorem GO_eq (c : Dev nD) (t : Fin cfg0.N) (h0 : t.val % 12 ≠ 0) (o : TL1) (u : TL8)
    (ho : ∀ (r : Fin 512) (d : Fin 2048), (o (ix2 r d) : EReal) = xN (aX m c) (512 * (t.val / 12) + r.val) d
      + ∑ n ∈ Finset.range (512 * (t.val % 12 - 1)), Ac m c (512 * (t.val / 12) + r.val) n * wdN (aWD m c) n d)
    (hu : ∀ (a : Fin 2) (q : Fin 520) (n : Fin 512), (u (ix3 a q n) : EReal) = UBc m c (t.val / 12) (t.val % 12 - 1) a.val q.val n.val)
    (r : Fin 512) (d : Fin 2048) :
    GO o u (iblk m c 5 t) (iblk m c 6 t) (jp t) (iblk m c 7 t) (ix2 r d) = xN (aX m c) (512 * (t.val / 12) + r.val) d
      + ∑ n ∈ Finset.range (512 * (t.val % 12)), Ac m c (512 * (t.val / 12) + r.val) n * wdN (aWD m c) n d := by
  have hj : t.val % 12 < 12 := Nat.mod_lt _ (by decide)
  have hjp : (jp t).val = t.val % 12 - 1 := rfl
  have es : 512 * (t.val % 12) = 512 * (t.val % 12 - 1) + 512 := by omega
  rw [es, Finset.sum_range_add, ← add_assoc, ← ho]
  refine congrArg (fun z => (o (ix2 r d) : EReal) + z) ?_
  rw [Finset.sum_range]
  refine Finset.sum_congr rfl fun n _ => ?_
  have hb : 512 * (t.val % 12 - 1) + n.val < 5632 := by omega
  have e0 := cvB_eq m c t (t.val % 12 - 1) (by omega) u hu ⟨(jp t).val, by omega⟩ 0 (by show (jp t).val = 11 * 0 + (t.val % 12 - 1); omega) r n
  have e1 := cvB_eq m c t (t.val % 12 - 1) (by omega) u hu ⟨11 + (jp t).val, by omega⟩ 1 (by show 11 + (jp t).val = 11 * 1 + (t.val % 12 - 1); omega) r n
  have ew : (iblk m c 7 t : TL4) (ix3 0 n d) = wdN (aWD m c) (512 * (t.val % 12 - 1) + n.val) d := by
    unfold wdN
    rw [dif_pos hb]
    exact iblk7 m c t n d hb
  have ea : sil (cvB (iblk m c 5 t) (iblk m c 6 t) u ⟨(jp t).val, by omega⟩ 0 r n) * cvB (iblk m c 5 t) (iblk m c 6 t) u ⟨11 + (jp t).val, by omega⟩ 1 r n
      = Ac m c (512 * (t.val / 12) + r.val) (512 * (t.val % 12 - 1) + n.val) := by
    rw [e0, e1]
    unfold Ac Ax
    refine congrArg₂ (fun x y => sil (Cx (aX m c) (aG m c) (aW m c) (aCW m c) (aCB m c) (512 * (t.val / 12) + r.val) x) * Cx (aX m c) (aG m c) (aW m c) (aCW m c) (aCB m c) (512 * (t.val / 12) + r.val) y) ?_ ?_
    · show 5632 * 0 + 512 * (t.val % 12 - 1) + n.val = _; omega
    · show 5632 * 1 + 512 * (t.val % 12 - 1) + n.val = _; omega
  exact congrArg₂ (fun x y : EReal => x * y) ea ew

theorem GH_eq (c : Dev nD) (t : Fin cfg0.N) (r : Fin 512) (k : Fin 2048) :
    GH (iblk m c 0 t) (iblk m c 1 t) (ix2 r k) = nxc m c (512 * (t.val / 12) + r.val) k := by
  have hN : cfg0.N = 768 := N_0
  have ht := t.isLt
  have hb : 512 * (t.val / 12) + r.val < 32768 := by omega
  unfold nxc nx
  rw [dif_pos hb]
  exact congrArg₂ (fun x g => nrm x g k) (funext fun k => iblk0 m c t r k hb) (funext fun k => iblk1 m c t k)

theorem iblk0_x (c : Dev nD) (t : Fin cfg0.N) (r : Fin 512) (d : Fin 2048) :
    (iblk m c 0 t : TL1) (ix2 r d) = xN (aX m c) (512 * (t.val / 12) + r.val) d := by
  have hN : cfg0.N = 768 := N_0
  have ht := t.isLt
  have hb : 512 * (t.val / 12) + r.val < 32768 := by omega
  unfold xN
  rw [dif_pos hb]
  exact iblk0 m c t r d hb

/-- A tile's first point. -/
theorem inv_first (c : Dev nD) (t : Fin cfg0.N) (h0 : t.val % 12 = 0) (ih : t.val ≠ 0 → Inv m c (t.val - 1) (stAt m c t.val)) :
    Inv m c t.val (stAt m c (t.val + 1)) := by
  have hj0 : (0 : Fin 11) = jj t := Fin.ext (by show 0 = t.val % 12 % 11; omega)
  have hh : ∀ (r : Fin 512) (k : Fin 2048), (GH (iblk m c 0 t) (iblk m c 1 t) (ix2 r k) : EReal) = nxc m c (512 * (t.val / 12) + r.val) k := GH_eq m c t
  rw [stAt_first m c t h0]
  constructor
  · intro r k
    dsimp only
    rw [hA_eq]
    exact hh r k
  · intro _ r d
    dsimp only
    rw [oA_eq, h0, Nat.mul_zero, Finset.range_zero, Finset.sum_empty, add_zero]
    exact iblk0_x m c t r d
  · intro h11; omega
  · intro h11 a q n
    rw [if_pos (by omega)]
    dsimp only
    rw [uA_eq, hj0]
    refine GU_eq m c t h11 _ _ hh (fun hi a q n => ?_) a q n
    have hz : t.val ≠ 0 := by omega
    rw [if_neg hz]
    refine ((ih hz).ht a (jj t) q n (.inl (by rw [← hj0]; exact Nat.zero_le _))).trans (Uc_congr m c ?_ ?_)
    · rw [if_pos (by rw [← hj0]; exact Nat.zero_le _)]; omega
    · rw [← hj0, h0]; rfl
  · intro a j q n hc
    dsimp only
    rw [tA_apply, hj0]
    refine GT_eq m c t (by omega) _ _ hh a j q n fun hne => ?_
    have hz : t.val ≠ 0 := by omega
    rw [if_neg hz]
    refine ((ih hz).ht a j q n (.inl (by have := j.isLt; omega))).trans (Uc_congr m c ?_ rfl)
    rw [if_pos (by have := j.isLt; omega), if_neg (by omega)]; omega

/-- A tile's last point. -/
theorem inv_last (c : Dev nD) (t : Fin cfg0.N) (h : t.val % 12 = 11) (ih : Inv m c (t.val - 1) (stAt m c t.val)) :
    Inv m c t.val (stAt m c (t.val + 1)) := by
  have hd : (t.val - 1) / 12 = t.val / 12 := by omega
  have hm : (t.val - 1) % 12 = t.val % 12 - 1 := by omega
  have hj10 : (10 : Fin 11) = jp t := Fin.ext (by show 10 = t.val % 12 - 1; omega)
  obtain ⟨i1, i2, _, i3, i4⟩ := ih
  rw [hd] at i1 i2 i3 i4
  rw [hm] at i2 i3 i4
  rw [stAt_last m c t h]
  constructor
  · exact i1
  · intro h11; exact absurd h h11
  · intro _ r d
    dsimp only
    rw [oZ_eq]
    have hg : ∀ d : Fin 2048, GO (stAt m c t.val).o (stAt m c t.val).ua (iblk m c 5 t) (iblk m c 6 t) 10 (iblk m c 7 t) (ix2 r d)
        = xN (aX m c) (512 * (t.val / 12) + r.val) d + ∑ n ∈ Finset.range 5632, Ac m c (512 * (t.val / 12) + r.val) n * wdN (aWD m c) n d := by
      intro d
      rw [hj10]
      refine (GO_eq m c t (by omega) _ _ (i2 (by omega)) (fun a q n => ?_) r d).trans ?_
      · have := i3 (by omega) a q n
        rwa [if_pos (by omega)] at this
      · rw [h]
    exact congrArg₂ (fun x g => nrm x g d) (funext hg) (funext fun k => iblk2 m c t k)
  · intro h11; exact absurd h h11
  · intro a j q n hc
    have hj := j.isLt
    refine (i4 a j q n (.inl (by omega))).trans (Uc_congr m c ?_ rfl)
    rw [if_pos (by omega), if_pos (by omega)]

/-- A middle point. -/
theorem inv_mid (c : Dev nD) (t : Fin cfg0.N) (h0 : t.val % 12 ≠ 0) (h11 : t.val % 12 ≠ 11) (ih : Inv m c (t.val - 1) (stAt m c t.val)) :
    Inv m c t.val (stAt m c (t.val + 1)) := by
  have hd : (t.val - 1) / 12 = t.val / 12 := by omega
  have hm : (t.val - 1) % 12 = t.val % 12 - 1 := by omega
  have hjj : (jj t).val = t.val % 12 := by show t.val % 12 % 11 = _; omega
  obtain ⟨i1, i2, _, i3, i4⟩ := ih
  rw [hd] at i1 i2 i3 i4
  rw [hm] at i2 i3 i4
  have hU : ∀ (a : Fin 2) (q : Fin 520) (n : Fin 512), (GU (fst (grid0.coords t)) (stAt m c t.val).h (iblk m c 3 t) (iblk m c 4 t) (stAt m c t.val).tl (jj t) (ix3 a q n) : EReal)
      = UBc m c (t.val / 12) (t.val % 12) a.val q.val n.val := by
    refine GU_eq m c t h11 _ _ i1 fun hi a q n => ?_
    refine (i4 a (jj t) q n (.inr (by omega))).trans (Uc_congr m c ?_ (by rw [hjj]))
    rw [hjj, if_neg (by omega)]; omega
  have hT : ∀ (a : Fin 2) (j : Fin 11) (q : Fin 8) (n : Fin 512), (j.val ≤ t.val % 12 ∨ t.val / 12 ≠ 0) →
      (GT (stAt m c t.val).h (iblk m c 3 t) (iblk m c 4 t) (stAt m c t.val).tl (jj t) a j q n : EReal)
        = Uc m c (512 * (if j.val ≤ t.val % 12 then t.val / 12 else t.val / 12 - 1) + 504 + q.val) (5632 * a.val + 512 * j.val + n.val) := by
    intro a j q n hc
    refine GT_eq m c t h11 _ _ i1 a j q n fun hne => ?_
    refine (i4 a j q n (by omega)).trans (Uc_congr m c ?_ rfl)
    by_cases hl : j.val ≤ t.val % 12
    · rw [if_pos (by omega), if_pos hl]
    · rw [if_neg (by omega), if_neg hl]
  by_cases hp : t.val % 2 = 0
  · rw [stAt_even m c t h0 h11 hp]
    constructor
    · exact i1
    · intro _ r d
      dsimp only
      rw [oM_eq]
      refine GO_eq m c t h0 _ _ (i2 (by omega)) (fun a q n => ?_) r d
      have := i3 (by omega) a q n
      rwa [if_neg (by omega)] at this
    · intro h; exact absurd h h11
    · intro _ a q n
      rw [if_pos hp]
      dsimp only
      rw [uM_eq]
      exact hU a q n
    · intro a j q n hc
      dsimp only
      rw [tM_apply]
      exact hT a j q n hc
  · rw [stAt_odd m c t h0 h11 (by omega)]
    constructor
    · exact i1
    · intro _ r d
      dsimp only
      rw [oM_eq]
      refine GO_eq m c t h0 _ _ (i2 (by omega)) (fun a q n => ?_) r d
      have := i3 (by omega) a q n
      rwa [if_pos (by omega)] at this
    · intro h; exact absurd h h11
    · intro _ a q n
      rw [if_neg hp]
      dsimp only
      rw [uM_eq]
      exact hU a q n
    · intro a j q n hc
      dsimp only
      rw [tM_apply]
      exact hT a j q n hc

theorem inv (c : Dev nD) : ∀ (n : ℕ) (h : n < cfg0.N), Inv m c n (stAt m c (n + 1))
  | 0, h => inv_first m c ⟨0, h⟩ rfl fun hz => absurd rfl hz
  | n + 1, h => by
    have ih : Inv m c n (stAt m c (n + 1)) := inv c n (Nat.lt_of_succ_lt h)
    by_cases h0 : (n + 1) % 12 = 0
    · exact inv_first m c ⟨n + 1, h⟩ h0 fun _ => ih
    · by_cases h11 : (n + 1) % 12 = 11
      · exact inv_last m c ⟨n + 1, h⟩ h11 ih
      · exact inv_mid m c ⟨n + 1, h⟩ h0 h11 ih

/-! ## The result -/

abbrev GR (c : Dev nD) : Buf (Elt Ideal) ((c : Thread nD τ).loc main_v5) :=
  spec (aX m c) (aG m c) (aFG m c) (aW m c) (aCW m c) (aCB m c) (aWD m c)

theorem emb8 (t : Fin cfg0.N) (r : Fin 512) (n : Fin 2048) (h : 512 * (t.val / 12) + r.val < 32768) :
    ((cfg0.win 8).blk t).view.emb (ix2 r n) = (ix2 ⟨512 * (t.val / 12) + r.val, h⟩ n : S32768x2048.Idx) := by
  have e := (idx t).2.2.2.2.2.2.2.1
  funext a
  apply Fin.ext
  match a with
  | ⟨0, _⟩ => show win0_8.index t 0 * 512 + 1 * r.val = 512 * (t.val / 12) + r.val; rw [e.1]; omega
  | ⟨1, _⟩ => show win0_8.index t 1 * 2048 + 1 * n.val = n.val; rw [e.2]; omega

theorem flushed8 (c : Dev nD) (t : Fin cfg0.N) (hf : (cfg0.win 8).flush t = true) :
    (dats m 0 c).flushed 8 t = ((cfg0.win 8).blk t).view.read (Elt Ideal) (GR m c) := by
  have hN : cfg0.N = 768 := N_0
  have ht := t.isLt
  have h11 : t.val % 12 = 11 := (flush0_8 t).mp hf
  funext (j : S512x2048.Idx)
  obtain ⟨r, d, rfl⟩ : ∃ (r : Fin 512) (d : Fin 2048), j = ix2 r d := ⟨j 0, j 1, eq_ix2 j⟩
  have h : 512 * (t.val / 12) + r.val < 32768 := by omega
  rw [View.read_apply, emb8 t r d h]
  show (dats m 0 c).after 8 t (ix2 r d) = spec _ _ _ _ _ _ _ (ix2 _ _)
  rw [after0_8]
  refine ((inv m c t.val t.isLt).hf h11 r d).trans ?_
  refine congrArg (fun x => nrm x (fun k => aFG m c (ix1 k)) d) (funext fun d => ?_)
  show _ = row _ _ _ _ _ _ _ _
  unfold row xN
  rw [dif_pos h, Finset.sum_range]
  refine congrArg (fun z => aX m c (ix2 ⟨512 * (t.val / 12) + r.val, h⟩ d) + z) (Finset.sum_congr rfl fun n _ => ?_)
  refine congrArg (fun z => Ac m c (512 * (t.val / 12) + r.val) n.val * z) ?_
  unfold wdN
  exact dif_pos n.isLt

theorem cover8 (i : S32768x2048.Idx) :
    ∃ t : Fin cfg0.N, (cfg0.win 8).flush t = true ∧ i ∈ ((cfg0.win 8).blk t).view.set := by
  have h0 : (i 0 : Nat) < 32768 := (i 0).isLt
  have hN : cfg0.N = 768 := N_0
  let t : Fin cfg0.N := ⟨12 * ((i 0 : Nat) / 512) + 11, by omega⟩
  have ht : t.val / 12 = (i 0 : Nat) / 512 := by show (12 * ((i 0 : Nat) / 512) + 11) / 12 = _; omega
  refine ⟨t, (flush0_8 t).mpr (by show (12 * ((i 0 : Nat) / 512) + 11) % 12 = 11; omega), ?_⟩
  have hm : (i 0 : Nat) % 512 < 512 := by omega
  have hs : 512 * (t.val / 12) + (i 0 : Nat) % 512 < 32768 := by omega
  have hi : i = (ix2 ⟨512 * (t.val / 12) + (i 0 : Nat) % 512, hs⟩ (i 1) : S32768x2048.Idx) := by
    refine (eq_ix2 (n0 := 32768) (n1 := 2048) i).trans ?_
    refine congrArg (fun a => ix2 a (i 1)) (Fin.ext ?_)
    show (i 0 : Nat) = 512 * (t.val / 12) + (i 0 : Nat) % 512
    omega
  rw [hi, ← emb8 t ⟨(i 0 : Nat) % 512, hm⟩ (i 1) hs]
  exact View.emb_mem_set _ _

theorem final8 (c : Dev nD) : (dats m 0 c).arrAt 8 cfg0.N = GR m c :=
  (dats m 0 c).arrAt_eq_of_cover 8 (GR m c) (fun t h => flushed8 m c t h) cover8

/-- Every run ends with the result at its value and the arguments as they were. -/
theorem run (ρ : Dev nD → PrngReg) : θ_run defs (onTc (τ := τ) (main (F := Ideal))) ⟨m, fun _ => 0, ρ⟩ fun r => ∀ c : Dev nD,
      r.2.mem ((c : Thread nD τ).loc main_v5) = GR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 8).trans (final8 m c), h.2 c⟩)
    (θ_run_and (run_main m ρ) (frame_of m ρ (dats m) (A_eq m) (run_main m ρ)))

end Cert.LastIdeal.Spec

end
-- ==== Proof.LastVal.lean ====
module

public import proofs.«01_k».proof.Defs
public import proofs.«01_k».proof.Proof.Real
public import proofs.«01_k».proof.Proof.LastKer
public import proofs.«01_k».proof.Proof.Gen.LastRefIdeal.Run

@[expose] public section

set_option maxRecDepth 16384

noncomputable section

open Idealize.ShloMosaic Idealize.ShloMosaic.TcCoe Idealize.SL.Sem
open scoped BigOperators

namespace Cert.LastRefIdeal.Spec

open Cert.LastRefIdeal Cert.LastRefIdeal.Gen Cert.Proof
open Cert.LastIdeal.Spec (sil cv nx Ux cwN cbN Px Cx Ax row spec)

/-! Short names for the types of the arrays. -/
abbrev TW0 := FVec Ideal S32768x2048 .f32
abbrev TW1 := FVec Ideal S2048 .f32
abbrev TW2 := FVec Ideal S4x2048x11264 .bf16
abbrev TW3 := FVec Ideal S4x5632x2048 .bf16

/-- The reference's normalized rows. -/
abbrev rows (x : TW0) (g : TW1) : TW0 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))

/-- The reference's expanded rows, before the convolution. -/
abbrev up (x : TW0) (g : TW1) (w : TW2) : FVec Ideal S32768x11264 .f32 :=
  Host.dotGeneral dot_S32768x2048_S2048x11264_S32768x11264_1_0_0_1_n_n none (rows x g) (extf .f32 (shapeCast _ (extractStridedSlice S1x2048x11264 ![3, 0, 0] w slices_S4x2048x11264_S1x2048x11264_3_0_0) shapeCasts_S1x2048x11264_S2048x11264) bitsLt_bf16_f32)

/-- Every sequence with two rows of zeros before it. -/
abbrev padded (u : FVec Ideal S32768x11264 .f32) : FVec Ideal S8x4098x11264 .f32 :=
  pad S8x4098x11264 ![0, 2, 0] ![0, 0, 0] ![0, 0, 0] (shapeCast _ u shapeCasts_S32768x11264_S8x4096x11264) (sitofp .f32 (constantI S_ 32 0#32)) pads_S8x4096x11264_S8x4098x11264_000_200_000 h_S_

/-- The three-tap convolution along a sequence. -/
abbrev conv (p : FVec Ideal S8x4098x11264 .f32) (cw : FVec Ideal S3x11264 .f32) (cb : FVec Ideal S11264 .f32) : FVec Ideal S8x4096x11264 .f32 :=
  addf (addf (addf (broadcastInDim S8x4096x11264 ![0, 1, 2] bcast_S1x1x11264_S8x4096x11264_0_1_2 (broadcastInDim S1x1x11264 ![2] bcast_S11264_S1x1x11264_2 cb))
    (mulf (broadcastInDim S8x4096x11264 ![0, 1, 2] bcast_S1x1x11264_S8x4096x11264_0_1_2 (broadcastInDim S1x1x11264 ![2] bcast_S11264_S1x1x11264_2 (shapeCast _ (extractStridedSlice S1x11264 ![0, 0] cw slices_S3x11264_S1x11264_0_0) shapeCasts_S1x11264_S11264))) (extractStridedSlice S8x4096x11264 ![0, 0, 0] p slices_S8x4098x11264_S8x4096x11264_0_0_0)))
    (mulf (broadcastInDim S8x4096x11264 ![0, 1, 2] bcast_S1x1x11264_S8x4096x11264_0_1_2 (broadcastInDim S1x1x11264 ![2] bcast_S11264_S1x1x11264_2 (shapeCast _ (extractStridedSlice S1x11264 ![1, 0] cw slices_S3x11264_S1x11264_1_0) shapeCasts_S1x11264_S11264))) (extractStridedSlice S8x4096x11264 ![0, 1, 0] p slices_S8x4098x11264_S8x4096x11264_0_1_0)))
    (mulf (broadcastInDim S8x4096x11264 ![0, 1, 2] bcast_S1x1x11264_S8x4096x11264_0_1_2 (broadcastInDim S1x1x11264 ![2] bcast_S11264_S1x1x11264_2 (shapeCast _ (extractStridedSlice S1x11264 ![2, 0] cw slices_S3x11264_S1x11264_2_0) shapeCasts_S1x11264_S11264))) (extractStridedSlice S8x4096x11264 ![0, 2, 0] p slices_S8x4098x11264_S8x4096x11264_0_2_0))

/-- The gate times the value. -/
abbrev gated (c : FVec Ideal S8x4096x11264 .f32) : FVec Ideal S8x4096x5632 .f32 :=
  mulf (mulf (extractStridedSlice S8x4096x5632 ![0, 0, 0] c slices_S8x4096x11264_S8x4096x5632_0_0_0)
    (Host.divf (broadcastInDim S8x4096x5632 ![] bcast_S_S8x4096x5632 (constant S_ .f32 0x3F800000#32)) (addf (broadcastInDim S8x4096x5632 ![] bcast_S_S8x4096x5632 (constant S_ .f32 0x3F800000#32)) (Host.exp (Host.negf (extractStridedSlice S8x4096x5632 ![0, 0, 0] c slices_S8x4096x11264_S8x4096x5632_0_0_0))))))
    (extractStridedSlice S8x4096x5632 ![0, 0, 5632] c slices_S8x4096x11264_S8x4096x5632_0_0_5632)

/-- The rows plus the contraction back. -/
abbrev down (x : TW0) (a : FVec Ideal S8x4096x5632 .f32) (wd : TW3) : TW0 :=
  addf x (Host.dotGeneral dot_S32768x5632_S5632x2048_S32768x2048_1_0_0_1_n_n none (shapeCast _ a shapeCasts_S8x4096x5632_S32768x5632) (extf .f32 (shapeCast _ (extractStridedSlice S1x5632x2048 ![3, 0, 0] wd slices_S4x5632x2048_S1x5632x2048_3_0_0) shapeCasts_S1x5632x2048_S5632x2048) bitsLt_bf16_f32))

theorem up_apply (x : TW0) (g : TW1) (w : TW2) (r : Fin 32768) (n : Fin 11264) :
    up x g w (ix2 r n) = Ux x g w r.val n.val := by
  have h : up x g w (ix2 r n) = ∑ k, nrm (fun k => x (ix2 r k)) (fun k => g (ix1 k)) k * w (ix3 3 k n) := by
    pointwise
    rfl
  rw [h]
  unfold Ux nx
  rw [dif_pos n.isLt]
  refine Finset.sum_congr rfl fun k _ => ?_
  rw [dif_pos r.isLt]

theorem padded_apply (u : FVec Ideal S32768x11264 .f32) (b : Fin 8) (s : Fin 4098) (n : Fin 11264) :
    padded u (ix3 b s n) = if h : 2 ≤ s.val then u (ix2 ⟨4096 * b.val + (s.val - 2), by omega⟩ n) else (0 : EReal) := by
  pointwise
  by_cases h : 2 ≤ s.val
  · rw [dif_pos h, dif_pos ⟨h, by omega⟩]
    exact congrArg (fun q => u (ix2 q n)) (Fin.ext (by show b.val * 4096 + (s.val - 2) = 4096 * b.val + (s.val - 2); omega))
  · rw [dif_neg h, dif_neg (fun q => h q.1)]
    show (((0#32 : BitVec 32).toInt : ℝ) : EReal) = 0
    simp

theorem conv_apply (p : FVec Ideal S8x4098x11264 .f32) (cw : FVec Ideal S3x11264 .f32) (cb : FVec Ideal S11264 .f32) (b : Fin 8) (s : Fin 4096) (n : Fin 11264) :
    conv p cw cb (ix3 b s n) = cb (ix1 n) + cw (ix2 0 n) * p (ix3 b ⟨s.val, by omega⟩ n) + cw (ix2 1 n) * p (ix3 b ⟨s.val + 1, by omega⟩ n) + cw (ix2 2 n) * p (ix3 b ⟨s.val + 2, by omega⟩ n) := by
  pointwise
  rw [show (⟨1 + s.val, by omega⟩ : Fin 4098) = ⟨s.val + 1, by omega⟩ from Fin.ext (Nat.add_comm _ _),
    show (⟨2 + s.val, by omega⟩ : Fin 4098) = ⟨s.val + 2, by omega⟩ from Fin.ext (Nat.add_comm _ _)]

theorem gated_apply (c : FVec Ideal S8x4096x11264 .f32) (b : Fin 8) (s : Fin 4096) (n : Fin 5632) :
    gated c (ix3 b s n) = sil (c (ix3 b s ⟨n.val, by omega⟩)) * c (ix3 b s ⟨5632 + n.val, by omega⟩) := by
  pointwise
  unfold sil
  rw [zero_sub]

theorem down_apply (x : TW0) (a : FVec Ideal S8x4096x5632 .f32) (wd : TW3) (r : Fin 32768) (d : Fin 2048) :
    down x a wd (ix2 r d) = x (ix2 r d) + ∑ n : Fin 5632, a (ix3 ⟨r.val / 4096, by omega⟩ ⟨r.val % 4096, by omega⟩ n) * wd (ix3 3 n d) := by
  pointwise

theorem rows_apply (x : TW0) (g : TW1) (r : Fin 32768) (d : Fin 2048) :
    rows x g (ix2 r d) = nrm (fun k => x (ix2 r k)) (fun k => g (ix1 k)) d := by
  pointwise
  rfl

theorem row_eq (x : TW0) (g : TW1) (w : TW2) (cw : FVec Ideal S3x11264 .f32) (cb : FVec Ideal S11264 .f32) (wd : TW3) :
    ∀ (r : Fin 32768) (d : Fin 2048), down x (gated (conv (padded (up x g w)) cw cb)) wd (ix2 r d) = row x g w cw cb wd r d := by
  have hp : ∀ (b : Fin 8) (s : Fin 4096) (n : Fin 11264) (e : ℕ) (he : e ≤ 2),
      padded (up x g w) (ix3 b ⟨s.val + (2 - e), by omega⟩ n) = Px x g w (4096 * b.val + s.val) e n.val := by
    intro b s n e he
    rw [padded_apply]
    unfold Px
    have e0 : (4096 * b.val + s.val) % 4096 = s.val := by omega
    rw [e0]
    by_cases h : s.val < e
    · rw [if_pos h, dif_neg (by show ¬ 2 ≤ s.val + (2 - e); omega)]
    · rw [if_neg h, dif_pos (by show 2 ≤ s.val + (2 - e); omega), up_apply]
      exact congrArg (fun q => Ux x g w q n.val) (by show 4096 * b.val + (s.val + (2 - e) - 2) = 4096 * b.val + s.val - e; omega)
  have hc : ∀ (b : Fin 8) (s : Fin 4096) (n : Fin 11264),
      conv (padded (up x g w)) cw cb (ix3 b s n) = Cx x g w cw cb (4096 * b.val + s.val) n.val := by
    intro b s n
    have h0 := hp b s n 2 (by omega)
    have h1 := hp b s n 1 (by omega)
    have h2 := hp b s n 0 (by omega)
    have h3 : Px x g w (4096 * b.val + s.val) 0 n.val = Ux x g w (4096 * b.val + s.val) n.val := by
      unfold Px
      rw [if_neg (by omega), Nat.sub_zero]
    rw [h3] at h2
    rw [conv_apply]
    unfold Cx cv cwN cbN
    rw [dif_pos n.isLt, dif_pos n.isLt, dif_pos n.isLt, dif_pos n.isLt, ← h0, ← h1, ← h2]
    show _ + _ + _ + _ = _ + _ + _ + _
    rw [add_right_comm _ (cw (ix2 2 n) * _), add_right_comm _ (cw (ix2 2 n) * _)]
    rfl
  intro r d
  rw [down_apply]
  show _ = x (ix2 r d) + ∑ n : Fin 5632, Ax x g w cw cb r.val n.val * wd (ix3 3 n d)
  refine congrArg (x (ix2 r d) + ·) (Finset.sum_congr rfl fun n _ => congrArg (· * wd (ix3 3 n d)) ?_)
  rw [gated_apply, hc, hc]
  have e : 4096 * (r.val / 4096) + r.val % 4096 = r.val := Nat.div_add_mod _ _
  unfold Ax
  show sil (Cx x g w cw cb (4096 * (r.val / 4096) + r.val % 4096) n.val) * Cx x g w cw cb (4096 * (r.val / 4096) + r.val % 4096) (5632 + n.val) = _
  rw [e]

theorem res_eq (x : TW0) (g fg : TW1) (w : TW2) (cw : FVec Ideal S3x11264 .f32) (cb : FVec Ideal S11264 .f32) (wd : TW3) :
    rows (down x (gated (conv (padded (up x g w)) cw cb)) wd) fg = spec x g fg w cw cb wd := by
  funext j
  obtain ⟨r, d, rfl⟩ : ∃ (r : Fin 32768) (d : Fin 2048), j = ix2 r d := ⟨j 0, j 1, eq_ix2 j⟩
  rw [rows_apply]
  exact congrArg (fun y => nrm y (fun k => fg (ix1 k)) d) (funext fun k => row_eq x g w cw cb wd r k)

end Cert.LastRefIdeal.Spec

namespace Cert.Proof.LastClaims

theorem algebraic : Cert.algebraic_LastIdeal_LastRefIdeal := fun m ρ m' ρ' _ hag =>
  ⟨fun c => LastIdeal.Spec.GR m c,
   LastIdeal.Spec.run m ρ,
   (θ_run _ _ _).mono (fun _ h c => ⟨(h c).1.trans (by
      obtain ⟨e0, e1, e2, e3, e4, e5, e6⟩ := hag c
      unfold LastRefIdeal.Value.res_main_v64
      rw [e0, e1, e2, e3, e4, e5, e6]
      exact LastRefIdeal.Spec.res_eq _ _ _ _ _ _ _), (h c).2⟩) (LastRefIdeal.Value.run m' ρ')⟩

end Cert.Proof.LastClaims

end
-- ==== Proof.LastHand.lean ====
module

public import proofs.«01_k».proof.Defs
public import proofs.«01_k».proof.Proof.Gen.Last
public import proofs.«01_k».proof.Proof.LastIdealHand

@[expose] public section

/-! # The run of the last gated feed-forward layer as printed

The two printings are the same program: every body and every statement is one term, over any floats.  So the run shown
for the one is a run of the other. -/

namespace Cert.Last.Hand

open Idealize.ShloMosaic Idealize.SL.Sem

attribute [local instance] Cert.Last.Gen.facts

set_option backward.isDefEq.respectTransparency false
set_option backward.isDefEq.respectTransparency.types false

theorem defs₀_eq : Cert.Last.defs₀ (F := Bits) = Cert.LastIdeal.defs₀ (F := Bits) := by
  unfold Cert.Last.defs₀ Cert.LastIdeal.defs₀
  refine congrArg (Defs.onTc (nD := Cert.Last.nD) (τ := Cert.Last.τ) (sig := Cert.Last.sig)) ?_
  funext l x
  match l, x with
  | 0, (t, s) => rfl

theorem defs_eq : Cert.Last.defs (F := Bits) = Cert.LastIdeal.defs (F := Bits) :=
  congrArg (Pipeline.defs (Cert.LastIdeal.pcfgs (F := Bits))) defs₀_eq

theorem frame : @Cert.quiescent_Last Cert.Last.Gen.facts := fun m ρ _ => by
  rw [defs_eq]
  exact Cert.LastIdeal.Hand.frame (F := Bits) m ρ

end Cert.Last.Hand

end
-- ==== Proof.SsdPay.lean ====
module

public import proofs.«01_k».proof.Defs
public import proofs.«01_k».proof.Proof.Real
public import proofs.«01_k».proof.Proof.Gen.SsdIdeal.Skeleton

@[expose] public section

set_option maxRecDepth 16384

noncomputable section

open Idealize.ShloMosaic Idealize.ShloMosaic.TcCoe Idealize.SL.Sem
open Idealize.ShloMosaic.Pipeline (Dat)
open scoped BigOperators

namespace Cert.SsdIdeal.Spec

open Cert.SsdIdeal Cert.SsdIdeal.Gen Cert.Proof

/-! Short names for the types of the arrays. -/
abbrev TP0 := Vec Ideal S256x128 .f32
abbrev TP1 := FVec Ideal S256x256 .bf16
abbrev TP2 := FVec Ideal S256x128 .bf16
abbrev TP3 := FVec Ideal S256x128 .f32
abbrev TP4 := Vec Ideal S256x256 .f32
abbrev TP5 := Vec Ideal S1x128x256 .f32
abbrev TP6 := Vec Ideal S1x256 .f32

/-- A value kept as its rounding and the rest of the rounding. -/
def hl (e : EReal) : EReal := e + (e - e)

/-- The head of a column of a group. -/
def hd (g : Fin 4) (c : Fin 256) : Fin 128 := ⟨g.val * 4 + c.val / 64, by omega⟩
/-- The column of a group among all columns. -/
def c1 (g : Fin 4) (c : Fin 256) : Fin 1024 := ⟨g.val * 256 + c.val, by omega⟩

/-- The time step of a head. -/
def dtK (x2 : TP0) (x5 : Vec Ideal S1x128 .f32) (r : Fin 256) (l : Fin 128) : EReal :=
  max (x2 (ix2 r l) + x5 (ix2 0 l)) 0 + Ideal.log (1 + Ideal.exp (0 - FloatOps.absf (F := Ideal) (φ := .f32) (x2 (ix2 r l) + x5 (ix2 0 l))))

/-- The logarithm of a step's decay. -/
def laK (x2 : TP0) (x5 x6 : Vec Ideal S1x128 .f32) (r : Fin 256) (l : Fin 128) : EReal :=
  dtK x2 x5 r l * (0 - Ideal.exp (x6 (ix2 0 l)))

/-- The logarithm of the decay from the block's first row through row `r`. -/
def cuK (x2 : TP0) (x5 x6 : Vec Ideal S1x128 .f32) (r : Fin 256) (l : Fin 128) : EReal :=
  ∑ x : Fin 256, (if x.val ≤ r.val then 1 else 0) * laK x2 x5 x6 x l
    + ∑ x : Fin 256, (if x.val ≤ r.val then 1 else 0) * (laK x2 x5 x6 x l - laK x2 x5 x6 x l)

/-- A group's state after a block. -/
def SKf (cu dt : Fin 256 → Fin 128 → EReal) (X : Fin 256 → Fin 256 → EReal) (Bm : Fin 256 → Fin 128 → EReal) (S : Fin 128 → Fin 256 → EReal)
    (g : Fin 4) (k : Fin 128) (c : Fin 256) : EReal :=
  S k c * hl (Ideal.exp (cu 255 (hd g c)))
    + ∑ x : Fin 256, Bm x k * (X x c * hl (Ideal.exp (cu 255 (hd g c) - cu x (hd g c)) * dt x (hd g c)))

/-- What a block's own rows give. -/
def YKf (cu dt : Fin 256 → Fin 128 → EReal) (X : Fin 256 → Fin 256 → EReal) (Bm Cm : Fin 256 → Fin 128 → EReal)
    (g : Fin 4) (r : Fin 256) (c : Fin 256) : EReal :=
  ∑ s : Fin 256, (if s.val ≤ r.val then (∑ k : Fin 128, Cm r k * Bm s k) * Ideal.exp (cu r (hd g c) - (cu s (hd g c) - Ideal.log (dt s (hd g c)))) else 0) * X s c

/-- The gated row of a group. -/
def ZKf (cu dt : Fin 256 → Fin 128 → EReal) (X : Fin 256 → Fin 256 → EReal) (Bm Cm : Fin 256 → Fin 128 → EReal) (S : Fin 128 → Fin 256 → EReal)
    (D : Fin 256 → EReal) (Z : Fin 256 → Fin 256 → EReal) (g : Fin 4) (r : Fin 256) (c : Fin 256) : EReal :=
  (YKf cu dt X Bm Cm g r c + (∑ k : Fin 128, Cm r k * S k c) * hl (Ideal.exp (cu r (hd g c))) + D c * X r c)
    * (Z r c * Ideal.div 1 (1 + Ideal.exp (0 - Z r c)))

/-- The row, scaled by its root mean square and the gain. -/
def OKf (cu dt : Fin 256 → Fin 128 → EReal) (X : Fin 256 → Fin 256 → EReal) (Bm Cm : Fin 256 → Fin 128 → EReal) (S : Fin 128 → Fin 256 → EReal)
    (D : Fin 256 → EReal) (Z : Fin 256 → Fin 256 → EReal) (G : Fin 256 → EReal) (g : Fin 4) (r : Fin 256) (c : Fin 256) : EReal :=
  ZKf cu dt X Bm Cm S D Z g r c
    * Ideal.rsqrt (Ideal.div (∑ x, ZKf cu dt X Bm Cm S D Z g r x * ZKf cu dt X Bm Cm S D Z g r x) (Ideal.ofBits .f32 0x43800000#32) + Ideal.ofBits .f32 0x358637BD#32)
    * G c

theorem one_hot (p : Prop) [Decidable p] (b : BitVec 1) (h : b = if p then 1#1 else 0#1) :
    (FloatOps.sitofp (F := Ideal) .f32 (BitVec.setWidth 32 b) : EReal) = if p then 1 else 0 := by
  have e0 : (FloatOps.sitofp (F := Ideal) .f32 (BitVec.setWidth 32 0#1) : EReal) = 0 := by
    show (((BitVec.setWidth 32 0#1 : BitVec 32).toInt : ℝ) : EReal) = 0
    simp
  have e1 : (FloatOps.sitofp (F := Ideal) .f32 (BitVec.setWidth 32 1#1) : EReal) = 1 := by
    show (((BitVec.setWidth 32 1#1 : BitVec 32).toInt : ℝ) : EReal) = 1
    have : (BitVec.setWidth 32 1#1 : BitVec 32).toInt = 1 := by decide
    rw [this]; simp
  subst h
  split
  · exact e1
  · exact e0

theorem cmp_eq (a b : BitVec 32) : IntOp.cmpi CmpIPredicate.eq a b = if a = b then 1#1 else 0#1 := by
  show BitVec.ofBool (decide (a = b)) = _
  by_cases h : a = b <;> simp [h]

theorem ofNat_inj {a b : ℕ} (ha : a < 2 ^ 32) (hb : b < 2 ^ 32) : (BitVec.ofNat 32 a = BitVec.ofNat 32 b) ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem sub_ofNat (r s j : ℕ) (hr : r < 256) (hs : s < 256) (hj : j < 4) :
    (IntOp.subi (BitVec.ofNat 32 r) (BitVec.ofNat 32 s) = BitVec.ofNat 32 j) ↔ s + j = r := by
  show BitVec.ofNat 32 r - BitVec.ofNat 32 s = BitVec.ofNat 32 j ↔ _
  constructor
  · intro h
    have := congrArg BitVec.toNat h
    simp only [BitVec.toNat_sub, BitVec.toNat_ofNat] at this
    omega
  · intro h
    apply BitVec.eq_of_toNat_eq
    simp only [BitVec.toNat_sub, BitVec.toNat_ofNat]
    omega

theorem pay8_ix (r s : Fin 256) : (k0_pay8 (F := Ideal) (ix2 r s) : EReal) = if s.val + 1 = r.val then 1 else 0 := by
  unfold k0_pay8 k0_pay7
  pointwise
  refine one_hot _ _ ?_
  rw [cmp_eq]
  exact if_congr (sub_ofNat r.val s.val 1 r.isLt s.isLt (by omega)) rfl rfl

theorem pay9_ix (r s : Fin 256) : (k0_pay9 (F := Ideal) (ix2 r s) : EReal) = if s.val + 2 = r.val then 1 else 0 := by
  unfold k0_pay9 k0_pay7
  pointwise
  refine one_hot _ _ ?_
  rw [cmp_eq]
  exact if_congr (sub_ofNat r.val s.val 2 r.isLt s.isLt (by omega)) rfl rfl

theorem pay10_ix (r s : Fin 256) : (k0_pay10 (F := Ideal) (ix2 r s) : EReal) = if s.val + 3 = r.val then 1 else 0 := by
  unfold k0_pay10 k0_pay7
  pointwise
  refine one_hot _ _ ?_
  rw [cmp_eq]
  exact if_congr (sub_ofNat r.val s.val 3 r.isLt s.isLt (by omega)) rfl rfl

theorem sge_ix : ∀ r s : Fin 256, IntOp.cmpi CmpIPredicate.sge (BitVec.ofNat 32 r.val) (BitVec.ofNat 32 s.val) = if s.val ≤ r.val then 1#1 else 0#1 := by
  intro r s
  show BitVec.ofBool (BitVec.sle (BitVec.ofNat 32 s.val) (BitVec.ofNat 32 r.val)) = _
  have h : BitVec.sle (BitVec.ofNat 32 s.val) (BitVec.ofNat 32 r.val) = decide (s.val ≤ r.val) := by
    have e : ∀ n : Fin 256, (BitVec.ofNat 32 n.val).toInt = n.val := by decide +kernel
    unfold BitVec.sle
    rw [e, e]
    simp
  rw [h]
  by_cases hh : s.val ≤ r.val <;> simp [hh]

theorem pay35_ix (r s : Fin 256) : (k0_pay35 (F := Ideal) (ix2 r s) : EReal) = if s.val ≤ r.val then 1 else 0 := by
  unfold k0_pay35
  pointwise
  exact one_hot _ _ (sge_ix r s)

theorem sel45 (r s : Fin 256) (a : EReal) : Scalar.select (k0_pay45 (ix2 r s)) a 0 = if s.val ≤ r.val then a else 0 := by
  have h : k0_pay45 (ix2 r s) = if s.val ≤ r.val then 1#1 else 0#1 := by
    unfold k0_pay45
    pointwise
    exact sge_ix r s
  rw [h]
  split <;> rfl

/-- The whole quotient of a column's number. -/
def fdiv (n : BitVec 32) : BitVec 32 :=
  Scalar.select
    (IntOp.andi
      (IntOp.cmpi CmpIPredicate.ne
        (IntOp.subi (BitVec.setWidth 32 (IntOp.cmpi CmpIPredicate.sgt n 0#32)) (BitVec.setWidth 32 (IntOp.cmpi CmpIPredicate.slt n 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector n 64#32) 0#32))
    (IntOp.subi (IntOp.divsi ArithUnit.vector n 64#32) 1#32)
    (IntOp.divsi ArithUnit.vector n 64#32)

theorem fdiv_ix : ∀ n : Fin 1024, fdiv (BitVec.ofNat 32 n.val) = BitVec.ofNat 32 (n.val / 64) := by decide +kernel

theorem pay40_ix (l : Fin 128) (n : Fin 1024) : (k0_pay40 (F := Ideal) (ix2 l n) : EReal) = if n.val / 64 = l.val then 1 else 0 := by
  unfold k0_pay40
  pointwise
  refine one_hot _ _ ?_
  refine Eq.trans (congrArg (fun z => IntOp.cmpi CmpIPredicate.eq z (BitVec.ofNat 32 l.val)) (fdiv_ix n)) ?_
  rw [cmp_eq]
  exact if_congr (ofNat_inj (by omega) (by omega)) rfl rfl

theorem sel46 (s c : Fin 256) (q : ℕ) (hq : q < 4) (a : EReal) :
    Scalar.select (IntOp.cmpi CmpIPredicate.eq (k0_pay46 (ix2 s c)) (BitVec.ofNat 32 q)) a 0 = if c.val / 64 = q then a else 0 := by
  have h : k0_pay46 (ix2 s c) = BitVec.ofNat 32 (c.val / 64) := by
    unfold k0_pay46
    pointwise
    exact fdiv_ix ⟨c.val, by omega⟩
  rw [h, cmp_eq, if_congr (ofNat_inj (a := c.val / 64) (b := q) (by omega) (by omega)) rfl rfl]
  split <;> rfl

/-- A row times the one column of ones. -/
theorem selsum (f : Fin 128 → EReal) (n : Fin 1024) : ∑ x, f x * k0_pay40 (F := Ideal) (ix2 x n) = f ⟨n.val / 64, by omega⟩ := by
  rw [Finset.sum_eq_single_of_mem (⟨n.val / 64, by omega⟩ : Fin 128) (Finset.mem_univ _)]
  · rw [pay40_ix, if_pos rfl, mul_one]
  · intro x _ hx
    rw [pay40_ix, if_neg (fun h => hx (Fin.ext h.symm)), mul_zero]

theorem split4 (f : Fin 1024 → EReal) : ∑ x, f x = ∑ s : Fin 256, f ⟨s.val, by omega⟩ + ∑ s : Fin 256, f ⟨256 + s.val, by omega⟩
    + ∑ s : Fin 256, f ⟨512 + s.val, by omega⟩ + ∑ s : Fin 256, f ⟨768 + s.val, by omega⟩ := by
  have h1 := Fin.sum_univ_add (M := EReal) (a := 768) (b := 256) f
  have h2 := Fin.sum_univ_add (M := EReal) (a := 512) (b := 256) (fun i => f (Fin.castAdd 256 i))
  have h3 := Fin.sum_univ_add (M := EReal) (a := 256) (b := 256) (fun i => f (Fin.castAdd 256 (Fin.castAdd 256 i)))
  exact h1.trans (congrArg (· + _) (h2.trans (congrArg (· + _) h3)))

theorem lt0 (s : Fin 256) : (s.val < 256) = True := eq_true s.isLt
theorem ltF1 (s : Fin 256) : (256 + s.val < 256) = False := eq_false (by omega)
theorem ltF2 (s : Fin 256) : (512 + s.val < 256) = False := eq_false (by omega)
theorem ltF3 (s : Fin 256) : (768 + s.val < 256) = False := eq_false (by omega)
theorem ltG1 (s : Fin 256) : (256 + s.val - 256 < 256) = True := eq_true (by omega)
theorem ltG2 (s : Fin 256) : (512 + s.val - 256 < 256) = False := eq_false (by omega)
theorem ltG3 (s : Fin 256) : (768 + s.val - 256 < 256) = False := eq_false (by omega)
theorem ltH2 (s : Fin 256) : (512 + s.val - 256 - 256 < 256) = True := eq_true (by omega)
theorem ltH3 (s : Fin 256) : (768 + s.val - 256 - 256 < 256) = False := eq_false (by omega)
theorem ltK3 (s : Fin 256) : (768 + s.val - 256 - 256 - 256 < 256) = True := eq_true (by omega)
theorem f1 (s : Fin 256) (h) : (⟨s.val, h⟩ : Fin 256) = s := rfl
theorem f2 (s : Fin 256) (h) : (⟨256 + s.val - 256, h⟩ : Fin 256) = s := Fin.ext (by show 256 + s.val - 256 = s.val; omega)
theorem f3 (s : Fin 256) (h) : (⟨512 + s.val - 256 - 256, h⟩ : Fin 256) = s := Fin.ext (by show 512 + s.val - 256 - 256 = s.val; omega)
theorem f4 (s : Fin 256) (h) : (⟨768 + s.val - 256 - 256 - 256, h⟩ : Fin 256) = s := Fin.ext (by show 768 + s.val - 256 - 256 - 256 = s.val; omega)

theorem pay33_ix (x2 : TP0) (x5 : Vec Ideal S1x128 .f32) (r : Fin 256) (l : Fin 128) :
    (k0_pay33 (F := Ideal) x2 x5 (ix2 r l) : EReal) = dtK x2 x5 r l := by
  unfold k0_pay33
  pointwise
  rfl

theorem pay38_ix (x2 : TP0) (x5 x6 : Vec Ideal S1x128 .f32) (r : Fin 256) (l : Fin 128) :
    (k0_pay38 (F := Ideal) k0_pay35 (k0_pay36 x2 x5 x6) (k0_pay37 x2 x5 x6) (constant S256x128 .f32 0x00000000#32) (ix2 r l) : EReal) = cuK x2 x5 x6 r l := by
  have h34 : ∀ r l, (k0_pay34 (F := Ideal) x2 x5 x6 (ix2 r l) : EReal) = laK x2 x5 x6 r l := by
    intro r l
    unfold k0_pay34 k0_pay33
    pointwise
    rfl
  unfold k0_pay38 k0_pay37 k0_pay36
  pointwise
  simp only [h34, pay35_ix]
  rfl

/-- A factor that is a product with the columns of ones, kept in two parts. -/
theorem pay41_ix (v306 : TP1) (v307 v310 : TP2) (cst : TP3) (r : Fin 256) (n : Fin 1024) :
    (k0_pay41 (F := Ideal) v306 v307 v310 cst (ix2 r n) : EReal) = hl (Ideal.exp ((k0_pay38 (F := Ideal) v306 v307 v310 cst) (ix2 r ⟨n.val / 64, by omega⟩))) := by
  unfold k0_pay41
  pointwise
  rw [selsum, selsum]
  rfl

theorem pay44_ix (v306 : TP1) (v307 v310 : TP2) (cst v293 : TP3) (r : Fin 256) (n : Fin 1024) :
    (k0_pay44 (F := Ideal) k0_pay40 (k0_pay42 v293 v306 v307 v310 cst) (k0_pay43 v293 v306 v307 v310 cst) (ix2 r n) : EReal)
      = hl (Ideal.exp ((k0_pay38 (F := Ideal) v306 v307 v310 cst) (ix2 255 ⟨n.val / 64, by omega⟩) - (k0_pay38 (F := Ideal) v306 v307 v310 cst) (ix2 r ⟨n.val / 64, by omega⟩)) * v293 (ix2 r ⟨n.val / 64, by omega⟩)) := by
  unfold k0_pay44 k0_pay43 k0_pay42
  pointwise
  rw [selsum, selsum]
  rfl

theorem hd_c (g : Fin 4) (o : ℕ) (ho : o = g.val * 256) (c : Fin 256) (h) : (⟨(o + c.val) / 64, h⟩ : Fin 128) = hd g c :=
  Fin.ext (by subst ho; show (g.val * 256 + c.val) / 64 = g.val * 4 + c.val / 64; omega)
theorem hd_c0 (c : Fin 256) (h) : (⟨c.val / 64, h⟩ : Fin 128) = hd 0 c := Fin.ext (by show c.val / 64 = 0 * 4 + c.val / 64; omega)
theorem hd_c1 (c : Fin 256) (h) : (⟨(256 + c.val) / 64, h⟩ : Fin 128) = hd 1 c := hd_c 1 256 rfl c h
theorem hd_c2 (c : Fin 256) (h) : (⟨(512 + c.val) / 64, h⟩ : Fin 128) = hd 2 c := hd_c 2 512 rfl c h
theorem hd_c3 (c : Fin 256) (h) : (⟨(768 + c.val) / 64, h⟩ : Fin 128) = hd 3 c := hd_c 3 768 rfl c h

theorem st0_ix (v306 : TP1) (v307 v310 : TP2) (cst v293 : TP3) (Bm : TP0) (X : TP4) (S : TP5) (k : Fin 128) (c : Fin 256) :
    (k0_pay68 (F := Ideal) (k0_pay41 v306 v307 v310 cst) (k0_pay44 k0_pay40 (k0_pay42 v293 v306 v307 v310 cst) (k0_pay43 v293 v306 v307 v310 cst)) (k0_pay47 Bm) X (k0_pay59 S) (ix3 0 k c) : EReal)
      = SKf (fun r l => (k0_pay38 (F := Ideal) v306 v307 v310 cst) (ix2 r l)) (fun r l => v293 (ix2 r l)) (fun r c => X (ix2 r c)) (fun r c => Bm (ix2 r c)) (fun k c => S (ix3 0 k c)) 0 k c := by
  unfold k0_pay68 k0_pay47 k0_pay59
  pointwise
  simp only [pay41_ix, pay44_ix, hd_c0]
  rfl

theorem y0_ix (v306 : TP1) (v307 v310 : TP2) (cst v293 : TP3) (Bm Cm : TP0) (X : TP4) (r c : Fin 256) :
    (k0_pay79 (F := Ideal) k0_pay46 X (k0_pay73 (k0_pay38 (F := Ideal) v306 v307 v310 cst) (k0_pay39 v293 v306 v307 v310 cst) k0_pay45 (k0_pay55 (k0_pay47 Bm) Cm)) (k0_pay74 (k0_pay38 (F := Ideal) v306 v307 v310 cst) (k0_pay39 v293 v306 v307 v310 cst) k0_pay45 (k0_pay55 (k0_pay47 Bm) Cm)) (k0_pay75 (k0_pay38 (F := Ideal) v306 v307 v310 cst) (k0_pay39 v293 v306 v307 v310 cst) k0_pay45 (k0_pay55 (k0_pay47 Bm) Cm)) (k0_pay76 (k0_pay38 (F := Ideal) v306 v307 v310 cst) (k0_pay39 v293 v306 v307 v310 cst) k0_pay45 (k0_pay55 (k0_pay47 Bm) Cm)) (k0_pay77 k0_pay46) k0_pay78 (ix2 r c) : EReal) = YKf (fun r l => (k0_pay38 (F := Ideal) v306 v307 v310 cst) (ix2 r l)) (fun r l => v293 (ix2 r l)) (fun r c => X (ix2 r c)) (fun r c => Bm (ix2 r c)) (fun r c => Cm (ix2 r c)) 0 r c := by
  unfold k0_pay79 k0_pay73 k0_pay74 k0_pay75 k0_pay76 k0_pay77 k0_pay78 k0_pay55 k0_pay51 k0_pay47 k0_pay39
  pointwise
  rw [split4]
  simp only [lt0, ltF1, ltF2, ltF3, ltG1, ltG2, ltG3, ltH2, ltH3, ltK3, dite_true, dite_false, f1, f2, f3, f4]
  simp only [sel45, sel46 _ _ 0 (by omega), sel46 _ _ 1 (by omega), sel46 _ _ 2 (by omega), sel46 _ _ 3 (by omega)]
  unfold YKf
  have hq : c.val / 64 = 0 ∨ c.val / 64 = 1 ∨ c.val / 64 = 2 ∨ c.val / 64 = 3 := by omega
  rcases hq with hq | hq | hq | hq <;> [rw [show hd 0 c = (0 : Fin 128) from Fin.ext (by show 0 * 4 + c.val / 64 = 0; omega)]; rw [show hd 0 c = (1 : Fin 128) from Fin.ext (by show 0 * 4 + c.val / 64 = 1; omega)]; rw [show hd 0 c = (2 : Fin 128) from Fin.ext (by show 0 * 4 + c.val / 64 = 2; omega)]; rw [show hd 0 c = (3 : Fin 128) from Fin.ext (by show 0 * 4 + c.val / 64 = 3; omega)]] <;>
    simp only [hq, if_true, reduceIte, Nat.reduceEqDiff, OfNat.ofNat_ne_zero, OfNat.ofNat_ne_one, OfNat.zero_ne_ofNat, OfNat.one_ne_ofNat, zero_ne_one, one_ne_zero, if_false, mul_zero, Finset.sum_const_zero, add_zero, zero_add]

theorem o0_ix (v306 : TP1) (v307 v310 : TP2) (cst v293 : TP3) (Bm Cm : TP0) (X : TP4) (S : TP5) (D : TP6) (Z : Vec Ideal S256x256 .bf16) (G : TP6) (r c : Fin 256) :
    (k0_pay97 (F := Ideal) (k0_pay96 (k0_pay41 v306 v307 v310 cst) X (k0_pay63 Cm S) (k0_pay79 k0_pay46 X (k0_pay73 (k0_pay38 (F := Ideal) v306 v307 v310 cst) (k0_pay39 v293 v306 v307 v310 cst) k0_pay45 (k0_pay55 (k0_pay47 Bm) Cm)) (k0_pay74 (k0_pay38 (F := Ideal) v306 v307 v310 cst) (k0_pay39 v293 v306 v307 v310 cst) k0_pay45 (k0_pay55 (k0_pay47 Bm) Cm)) (k0_pay75 (k0_pay38 (F := Ideal) v306 v307 v310 cst) (k0_pay39 v293 v306 v307 v310 cst) k0_pay45 (k0_pay55 (k0_pay47 Bm) Cm)) (k0_pay76 (k0_pay38 (F := Ideal) v306 v307 v310 cst) (k0_pay39 v293 v306 v307 v310 cst) k0_pay45 (k0_pay55 (k0_pay47 Bm) Cm)) (k0_pay77 k0_pay46) k0_pay78) D Z G) (ix2 r c) : EReal)
      = OKf (fun r l => (k0_pay38 (F := Ideal) v306 v307 v310 cst) (ix2 r l)) (fun r l => v293 (ix2 r l)) (fun r c => X (ix2 r c)) (fun r c => Bm (ix2 r c)) (fun r c => Cm (ix2 r c)) (fun k c => S (ix3 0 k c)) (fun c => D (ix2 0 c)) (fun r c => Z (ix2 r c)) (fun c => G (ix2 0 c)) 0 r c := by
  unfold k0_pay97 k0_pay96 k0_pay63 k0_pay59 k0_pay51
  pointwise
  simp only [y0_ix, pay41_ix, hd_c0]

  rfl

theorem st1_ix (v306 : TP1) (v307 v310 : TP2) (cst v293 : TP3) (Bm : TP0) (X : TP4) (S : TP5) (k : Fin 128) (c : Fin 256) :
    (k0_pay69 (F := Ideal) (k0_pay41 v306 v307 v310 cst) (k0_pay44 k0_pay40 (k0_pay42 v293 v306 v307 v310 cst) (k0_pay43 v293 v306 v307 v310 cst)) (k0_pay48 Bm) X (k0_pay60 S) (ix3 0 k c) : EReal)
      = SKf (fun r l => (k0_pay38 (F := Ideal) v306 v307 v310 cst) (ix2 r l)) (fun r l => v293 (ix2 r l)) (fun r c => X (ix2 r c)) (fun r c => Bm (ix2 r c)) (fun k c => S (ix3 0 k c)) 1 k c := by
  unfold k0_pay69 k0_pay48 k0_pay60
  pointwise
  simp only [pay41_ix, pay44_ix, hd_c1]
  rfl

theorem y1_ix (v306 : TP1) (v307 v310 : TP2) (cst v293 : TP3) (Bm Cm : TP0) (X : TP4) (r c : Fin 256) :
    (k0_pay83 (F := Ideal) (k0_pay38 (F := Ideal) v306 v307 v310 cst) (k0_pay39 v293 v306 v307 v310 cst) k0_pay45 k0_pay46 X (k0_pay56 (k0_pay48 Bm) Cm) (k0_pay80 (k0_pay38 (F := Ideal) v306 v307 v310 cst) (k0_pay39 v293 v306 v307 v310 cst) k0_pay45 (k0_pay56 (k0_pay48 Bm) Cm)) (k0_pay81 (k0_pay38 (F := Ideal) v306 v307 v310 cst) (k0_pay39 v293 v306 v307 v310 cst) k0_pay45 (k0_pay56 (k0_pay48 Bm) Cm)) (k0_pay82 (k0_pay38 (F := Ideal) v306 v307 v310 cst) (k0_pay39 v293 v306 v307 v310 cst) k0_pay45 (k0_pay56 (k0_pay48 Bm) Cm)) (ix2 r c) : EReal) = YKf (fun r l => (k0_pay38 (F := Ideal) v306 v307 v310 cst) (ix2 r l)) (fun r l => v293 (ix2 r l)) (fun r c => X (ix2 r c)) (fun r c => Bm (ix2 r c)) (fun r c => Cm (ix2 r c)) 1 r c := by
  unfold k0_pay83 k0_pay80 k0_pay81 k0_pay82 k0_pay56 k0_pay52 k0_pay48 k0_pay39
  pointwise
  rw [split4]
  simp only [lt0, ltF1, ltF2, ltF3, ltG1, ltG2, ltG3, ltH2, ltH3, ltK3, dite_true, dite_false, f1, f2, f3, f4]
  simp only [sel45, sel46 _ _ 0 (by omega), sel46 _ _ 1 (by omega), sel46 _ _ 2 (by omega), sel46 _ _ 3 (by omega)]
  unfold YKf
  have hq : c.val / 64 = 0 ∨ c.val / 64 = 1 ∨ c.val / 64 = 2 ∨ c.val / 64 = 3 := by omega
  rcases hq with hq | hq | hq | hq <;> [rw [show hd 1 c = (4 : Fin 128) from Fin.ext (by show 1 * 4 + c.val / 64 = 4; omega)]; rw [show hd 1 c = (5 : Fin 128) from Fin.ext (by show 1 * 4 + c.val / 64 = 5; omega)]; rw [show hd 1 c = (6 : Fin 128) from Fin.ext (by show 1 * 4 + c.val / 64 = 6; omega)]; rw [show hd 1 c = (7 : Fin 128) from Fin.ext (by show 1 * 4 + c.val / 64 = 7; omega)]] <;>
    simp only [hq, if_true, reduceIte, Nat.reduceEqDiff, OfNat.ofNat_ne_zero, OfNat.ofNat_ne_one, OfNat.zero_ne_ofNat, OfNat.one_ne_ofNat, zero_ne_one, one_ne_zero, if_false, mul_zero, Finset.sum_const_zero, add_zero, zero_add]

theorem o1_ix (v306 : TP1) (v307 v310 : TP2) (cst v293 : TP3) (Bm Cm : TP0) (X : TP4) (S : TP5) (D : TP6) (Z : Vec Ideal S256x256 .bf16) (G : TP6) (r c : Fin 256) :
    (k0_pay98 (F := Ideal) (k0_pay41 v306 v307 v310 cst) X (k0_pay65 (k0_pay52 Cm) (k0_pay64 S) (constant S256x256 .f32 0x00000000#32)) (k0_pay83 (k0_pay38 (F := Ideal) v306 v307 v310 cst) (k0_pay39 v293 v306 v307 v310 cst) k0_pay45 k0_pay46 X (k0_pay56 (k0_pay48 Bm) Cm) (k0_pay80 (k0_pay38 (F := Ideal) v306 v307 v310 cst) (k0_pay39 v293 v306 v307 v310 cst) k0_pay45 (k0_pay56 (k0_pay48 Bm) Cm)) (k0_pay81 (k0_pay38 (F := Ideal) v306 v307 v310 cst) (k0_pay39 v293 v306 v307 v310 cst) k0_pay45 (k0_pay56 (k0_pay48 Bm) Cm)) (k0_pay82 (k0_pay38 (F := Ideal) v306 v307 v310 cst) (k0_pay39 v293 v306 v307 v310 cst) k0_pay45 (k0_pay56 (k0_pay48 Bm) Cm))) D Z G (ix2 r c) : EReal)
      = OKf (fun r l => (k0_pay38 (F := Ideal) v306 v307 v310 cst) (ix2 r l)) (fun r l => v293 (ix2 r l)) (fun r c => X (ix2 r c)) (fun r c => Bm (ix2 r c)) (fun r c => Cm (ix2 r c)) (fun k c => S (ix3 0 k c)) (fun c => D (ix2 0 c)) (fun r c => Z (ix2 r c)) (fun c => G (ix2 0 c)) 1 r c := by
  unfold k0_pay98 k0_pay65 k0_pay64 k0_pay60 k0_pay52
  pointwise
  simp only [y1_ix, pay41_ix, hd_c1]

  rfl

theorem st2_ix (v306 : TP1) (v307 v310 : TP2) (cst v293 : TP3) (Bm : TP0) (X : TP4) (S : TP5) (k : Fin 128) (c : Fin 256) :
    (k0_pay70 (F := Ideal) (k0_pay41 v306 v307 v310 cst) (k0_pay44 k0_pay40 (k0_pay42 v293 v306 v307 v310 cst) (k0_pay43 v293 v306 v307 v310 cst)) (k0_pay49 Bm) X (k0_pay61 S) (ix3 0 k c) : EReal)
      = SKf (fun r l => (k0_pay38 (F := Ideal) v306 v307 v310 cst) (ix2 r l)) (fun r l => v293 (ix2 r l)) (fun r c => X (ix2 r c)) (fun r c => Bm (ix2 r c)) (fun k c => S (ix3 0 k c)) 2 k c := by
  unfold k0_pay70 k0_pay49 k0_pay61
  pointwise
  simp only [pay41_ix, pay44_ix, hd_c2]
  rfl

theorem y2_ix (v306 : TP1) (v307 v310 : TP2) (cst v293 : TP3) (Bm Cm : TP0) (X : TP4) (r c : Fin 256) :
    (k0_pay86 (F := Ideal) (k0_pay38 (F := Ideal) v306 v307 v310 cst) (k0_pay39 v293 v306 v307 v310 cst) k0_pay45 k0_pay46 X (k0_pay57 (k0_pay49 Bm) Cm) (k0_pay84 (k0_pay38 (F := Ideal) v306 v307 v310 cst) (k0_pay39 v293 v306 v307 v310 cst) k0_pay45 (k0_pay57 (k0_pay49 Bm) Cm)) (k0_pay85 (k0_pay38 (F := Ideal) v306 v307 v310 cst) (k0_pay39 v293 v306 v307 v310 cst)) (ix2 r c) : EReal) = YKf (fun r l => (k0_pay38 (F := Ideal) v306 v307 v310 cst) (ix2 r l)) (fun r l => v293 (ix2 r l)) (fun r c => X (ix2 r c)) (fun r c => Bm (ix2 r c)) (fun r c => Cm (ix2 r c)) 2 r c := by
  unfold k0_pay86 k0_pay84 k0_pay85 k0_pay57 k0_pay53 k0_pay49 k0_pay39
  pointwise
  rw [split4]
  simp only [lt0, ltF1, ltF2, ltF3, ltG1, ltG2, ltG3, ltH2, ltH3, ltK3, dite_true, dite_false, f1, f2, f3, f4]
  simp only [sel45, sel46 _ _ 0 (by omega), sel46 _ _ 1 (by omega), sel46 _ _ 2 (by omega), sel46 _ _ 3 (by omega)]
  unfold YKf
  have hq : c.val / 64 = 0 ∨ c.val / 64 = 1 ∨ c.val / 64 = 2 ∨ c.val / 64 = 3 := by omega
  rcases hq with hq | hq | hq | hq <;> [rw [show hd 2 c = (8 : Fin 128) from Fin.ext (by show 2 * 4 + c.val / 64 = 8; omega)]; rw [show hd 2 c = (9 : Fin 128) from Fin.ext (by show 2 * 4 + c.val / 64 = 9; omega)]; rw [show hd 2 c = (10 : Fin 128) from Fin.ext (by show 2 * 4 + c.val / 64 = 10; omega)]; rw [show hd 2 c = (11 : Fin 128) from Fin.ext (by show 2 * 4 + c.val / 64 = 11; omega)]] <;>
    simp only [hq, if_true, reduceIte, Nat.reduceEqDiff, OfNat.ofNat_ne_zero, OfNat.ofNat_ne_one, OfNat.zero_ne_ofNat, OfNat.one_ne_ofNat, zero_ne_one, one_ne_zero, if_false, mul_zero, Finset.sum_const_zero, add_zero, zero_add]

theorem o2_ix (v306 : TP1) (v307 v310 : TP2) (cst v293 : TP3) (Bm Cm : TP0) (X : TP4) (S : TP5) (D : TP6) (Z : Vec Ideal S256x256 .bf16) (G : TP6) (r c : Fin 256) :
    (k0_pay100 (F := Ideal) X (k0_pay99 (k0_pay41 v306 v307 v310 cst) (k0_pay66 (k0_pay53 Cm) (k0_pay61 S)) (k0_pay86 (k0_pay38 (F := Ideal) v306 v307 v310 cst) (k0_pay39 v293 v306 v307 v310 cst) k0_pay45 k0_pay46 X (k0_pay57 (k0_pay49 Bm) Cm) (k0_pay84 (k0_pay38 (F := Ideal) v306 v307 v310 cst) (k0_pay39 v293 v306 v307 v310 cst) k0_pay45 (k0_pay57 (k0_pay49 Bm) Cm)) (k0_pay85 (k0_pay38 (F := Ideal) v306 v307 v310 cst) (k0_pay39 v293 v306 v307 v310 cst)))) D Z G (ix2 r c) : EReal)
      = OKf (fun r l => (k0_pay38 (F := Ideal) v306 v307 v310 cst) (ix2 r l)) (fun r l => v293 (ix2 r l)) (fun r c => X (ix2 r c)) (fun r c => Bm (ix2 r c)) (fun r c => Cm (ix2 r c)) (fun k c => S (ix3 0 k c)) (fun c => D (ix2 0 c)) (fun r c => Z (ix2 r c)) (fun c => G (ix2 0 c)) 2 r c := by
  unfold k0_pay100 k0_pay99 k0_pay66 k0_pay53 k0_pay61
  pointwise
  simp only [y2_ix, pay41_ix, hd_c2]

  rfl

theorem st3_ix (v306 : TP1) (v307 v310 : TP2) (cst v293 : TP3) (Bm : TP0) (X : TP4) (S : TP5) (k : Fin 128) (c : Fin 256) :
    (k0_pay72 (F := Ideal) (k0_pay41 v306 v307 v310 cst) (k0_pay62 S) (k0_pay71 (k0_pay44 k0_pay40 (k0_pay42 v293 v306 v307 v310 cst) (k0_pay43 v293 v306 v307 v310 cst)) (k0_pay50 Bm) X) (ix3 0 k c) : EReal)
      = SKf (fun r l => (k0_pay38 (F := Ideal) v306 v307 v310 cst) (ix2 r l)) (fun r l => v293 (ix2 r l)) (fun r c => X (ix2 r c)) (fun r c => Bm (ix2 r c)) (fun k c => S (ix3 0 k c)) 3 k c := by
  unfold k0_pay72 k0_pay71 k0_pay50 k0_pay62
  pointwise
  simp only [pay41_ix, pay44_ix, hd_c3]
  rfl

theorem y3_ix (v306 : TP1) (v307 v310 : TP2) (cst v293 : TP3) (Bm Cm : TP0) (X : TP4) (r c : Fin 256) :
    (k0_pay95 (F := Ideal) k0_pay46 X (k0_pay88 (k0_pay39 v293 v306 v307 v310 cst) k0_pay45 (k0_pay58 (k0_pay50 Bm) Cm) (k0_pay87 (k0_pay38 (F := Ideal) v306 v307 v310 cst))) (k0_pay89 (k0_pay38 (F := Ideal) v306 v307 v310 cst) (k0_pay39 v293 v306 v307 v310 cst) k0_pay45 (k0_pay58 (k0_pay50 Bm) Cm)) (k0_pay90 (k0_pay38 (F := Ideal) v306 v307 v310 cst) (k0_pay39 v293 v306 v307 v310 cst) k0_pay45 (k0_pay58 (k0_pay50 Bm) Cm)) (k0_pay91 (k0_pay38 (F := Ideal) v306 v307 v310 cst) (k0_pay39 v293 v306 v307 v310 cst) k0_pay45 (k0_pay58 (k0_pay50 Bm) Cm)) (k0_pay92 k0_pay46 X) (k0_pay93 k0_pay46 X) (k0_pay94 k0_pay46) (ix2 r c) : EReal) = YKf (fun r l => (k0_pay38 (F := Ideal) v306 v307 v310 cst) (ix2 r l)) (fun r l => v293 (ix2 r l)) (fun r c => X (ix2 r c)) (fun r c => Bm (ix2 r c)) (fun r c => Cm (ix2 r c)) 3 r c := by
  unfold k0_pay95 k0_pay88 k0_pay87 k0_pay89 k0_pay90 k0_pay91 k0_pay92 k0_pay93 k0_pay94 k0_pay58 k0_pay54 k0_pay50 k0_pay39
  pointwise
  rw [split4]
  simp only [lt0, ltF1, ltF2, ltF3, ltG1, ltG2, ltG3, ltH2, ltH3, ltK3, dite_true, dite_false, f1, f2, f3, f4]
  simp only [sel45, sel46 _ _ 0 (by omega), sel46 _ _ 1 (by omega), sel46 _ _ 2 (by omega), sel46 _ _ 3 (by omega)]
  unfold YKf
  have hq : c.val / 64 = 0 ∨ c.val / 64 = 1 ∨ c.val / 64 = 2 ∨ c.val / 64 = 3 := by omega
  rcases hq with hq | hq | hq | hq <;> [rw [show hd 3 c = (12 : Fin 128) from Fin.ext (by show 3 * 4 + c.val / 64 = 12; omega)]; rw [show hd 3 c = (13 : Fin 128) from Fin.ext (by show 3 * 4 + c.val / 64 = 13; omega)]; rw [show hd 3 c = (14 : Fin 128) from Fin.ext (by show 3 * 4 + c.val / 64 = 14; omega)]; rw [show hd 3 c = (15 : Fin 128) from Fin.ext (by show 3 * 4 + c.val / 64 = 15; omega)]] <;>
    simp only [hq, if_true, reduceIte, Nat.reduceEqDiff, OfNat.ofNat_ne_zero, OfNat.ofNat_ne_one, OfNat.zero_ne_ofNat, OfNat.one_ne_ofNat, zero_ne_one, one_ne_zero, if_false, mul_zero, Finset.sum_const_zero, add_zero, zero_add]

theorem o3_ix (v306 : TP1) (v307 v310 : TP2) (cst v293 : TP3) (Bm Cm : TP0) (X : TP4) (S : TP5) (D : TP6) (Z : Vec Ideal S256x256 .bf16) (G : TP6) (r c : Fin 256) :
    (k0_pay1 (F := Ideal) (k0_pay101 (k0_pay41 v306 v307 v310 cst) X (k0_pay67 (k0_pay54 Cm) (k0_pay62 S)) (k0_pay95 k0_pay46 X (k0_pay88 (k0_pay39 v293 v306 v307 v310 cst) k0_pay45 (k0_pay58 (k0_pay50 Bm) Cm) (k0_pay87 (k0_pay38 (F := Ideal) v306 v307 v310 cst))) (k0_pay89 (k0_pay38 (F := Ideal) v306 v307 v310 cst) (k0_pay39 v293 v306 v307 v310 cst) k0_pay45 (k0_pay58 (k0_pay50 Bm) Cm)) (k0_pay90 (k0_pay38 (F := Ideal) v306 v307 v310 cst) (k0_pay39 v293 v306 v307 v310 cst) k0_pay45 (k0_pay58 (k0_pay50 Bm) Cm)) (k0_pay91 (k0_pay38 (F := Ideal) v306 v307 v310 cst) (k0_pay39 v293 v306 v307 v310 cst) k0_pay45 (k0_pay58 (k0_pay50 Bm) Cm)) (k0_pay92 k0_pay46 X) (k0_pay93 k0_pay46 X) (k0_pay94 k0_pay46)) D) (k0_pay102 Z) (Scalar.ofBits .f32 0x00000000#32) G (ix2 r c) : EReal)
      = OKf (fun r l => (k0_pay38 (F := Ideal) v306 v307 v310 cst) (ix2 r l)) (fun r l => v293 (ix2 r l)) (fun r c => X (ix2 r c)) (fun r c => Bm (ix2 r c)) (fun r c => Cm (ix2 r c)) (fun k c => S (ix3 0 k c)) (fun c => D (ix2 0 c)) (fun r c => Z (ix2 r c)) (fun c => G (ix2 0 c)) 3 r c := by
  unfold k0_pay1 k0_pay101 k0_pay102 k0_pay67 k0_pay54 k0_pay62
  pointwise
  simp only [y3_ix, pay41_ix, hd_c3]

  rfl

end Cert.SsdIdeal.Spec
-- ==== Proof.SsdKer.lean ====
module

public import proofs.«01_k».proof.Defs
public import proofs.«01_k».proof.Proof.SsdPay
public import proofs.«01_k».proof.Proof.Gen.SsdIdeal.Value

@[expose] public section

set_option maxRecDepth 16384

noncomputable section

open Idealize.ShloMosaic Idealize.ShloMosaic.TcCoe Idealize.SL.Sem
open Idealize.ShloMosaic.Pipeline (Dat)
open scoped BigOperators

namespace Cert.SsdIdeal.Spec

open Cert.SsdIdeal Cert.SsdIdeal.Gen Cert.Proof

/-! Short names for the types of the arrays. -/
abbrev TE0 := Vec Ideal S256x512 .bf16
abbrev TE1 := Vec Ideal S1x512 .f32

/-- A value times its sigmoid. -/
def ksilu (a : EReal) : EReal := a * Ideal.div 1 (1 + Ideal.exp (0 - a))

/-- The row `j` rows above, nothing above the block's first. -/
def sh (j : ℕ) (X : Fin 256 → EReal) (r : Fin 256) : EReal := if _ : j ≤ r.val then X ⟨r.val - j, by omega⟩ else 0

/-- The row `j` rows above, from the eight rows before the block where needed. -/
def xm (j : ℕ) (X : Fin 256 → EReal) (tl : Fin 8 → EReal) (r : Fin 256) : EReal :=
  if _ : j ≤ r.val then X ⟨r.val - j, by omega⟩ else tl ⟨(8 + r.val - j) % 8, Nat.mod_lt _ (by decide)⟩

/-- The convolved and gated rows of a block. -/
def XA (x0 : Vec Ideal S256x2048 .bf16) (x3 : Vec Ideal S4x2048 .f32) (x4 : Vec Ideal S1x2048 .f32) (tl : Fin 8 → Fin 2048 → EReal) (r : Fin 256) (n : Fin 2048) : EReal :=
  ksilu (x4 (ix2 0 n) + x3 (ix2 3 n) * x0 (ix2 r n) + x3 (ix2 2 n) * xm 1 (fun s => x0 (ix2 s n)) (fun s => tl s n) r
    + x3 (ix2 1 n) * xm 2 (fun s => x0 (ix2 s n)) (fun s => tl s n) r + x3 (ix2 0 n) * xm 3 (fun s => x0 (ix2 s n)) (fun s => tl s n) r)

/-- What the first rows of a block are read from. -/
def ext (tl : Fin 8 → EReal) (i : ℕ) : EReal := if h : i < 8 then tl ⟨i, h⟩ else 0

theorem sh1 (f : Fin 256 → EReal) (r : Fin 256) : ∑ x, k0_pay8 (F := Ideal) (ix2 r x) * f x = sh 1 f r := by
  unfold sh
  split
  · rename_i h
    rw [Finset.sum_eq_single_of_mem (⟨r.val - 1, by omega⟩ : Fin 256) (Finset.mem_univ _)]
    · rw [pay8_ix, if_pos (by show r.val - 1 + 1 = r.val; omega), one_mul]
    · intro x _ hx
      rw [pay8_ix, if_neg (fun h' => hx (Fin.ext (by show x.val = r.val - 1; omega))), zero_mul]
  · rename_i h
    refine Finset.sum_eq_zero fun x _ => ?_
    rw [pay8_ix, if_neg (by omega), zero_mul]

theorem sh2 (f : Fin 256 → EReal) (r : Fin 256) : ∑ x, k0_pay9 (F := Ideal) (ix2 r x) * f x = sh 2 f r := by
  unfold sh
  split
  · rename_i h
    rw [Finset.sum_eq_single_of_mem (⟨r.val - 2, by omega⟩ : Fin 256) (Finset.mem_univ _)]
    · rw [pay9_ix, if_pos (by show r.val - 2 + 2 = r.val; omega), one_mul]
    · intro x _ hx
      rw [pay9_ix, if_neg (fun h' => hx (Fin.ext (by show x.val = r.val - 2; omega))), zero_mul]
  · rename_i h
    refine Finset.sum_eq_zero fun x _ => ?_
    rw [pay9_ix, if_neg (by omega), zero_mul]

theorem sh3 (f : Fin 256 → EReal) (r : Fin 256) : ∑ x, k0_pay10 (F := Ideal) (ix2 r x) * f x = sh 3 f r := by
  unfold sh
  split
  · rename_i h
    rw [Finset.sum_eq_single_of_mem (⟨r.val - 3, by omega⟩ : Fin 256) (Finset.mem_univ _)]
    · rw [pay10_ix, if_pos (by show r.val - 3 + 3 = r.val; omega), one_mul]
    · intro x _ hx
      rw [pay10_ix, if_neg (fun h' => hx (Fin.ext (by show x.val = r.val - 3; omega))), zero_mul]
  · rename_i h
    refine Finset.sum_eq_zero fun x _ => ?_
    rw [pay10_ix, if_neg (by omega), zero_mul]

theorem big0 (X : TE0) (B W3 W2 W1 W0 : TE1) (r : Fin 256) (n : Fin 512) :
    (k0_pay14 (F := Ideal) (k0_pay11 k0_pay8 k0_pay9 k0_pay10 X B W3 W2 W1 W0) (k0_pay13 k0_pay8 k0_pay9 k0_pay10 X B W3 W2 W1 W0) (ix2 r n) : EReal) = ksilu (B (ix2 0 n) + W3 (ix2 0 n) * X (ix2 r n) + W2 (ix2 0 n) * sh 1 (fun s => X (ix2 s n)) r + W1 (ix2 0 n) * sh 2 (fun s => X (ix2 s n)) r + W0 (ix2 0 n) * sh 3 (fun s => X (ix2 s n)) r) := by
  unfold k0_pay14 k0_pay13 k0_pay11
  pointwise
  simp only [sh1, sh2, sh3]
  rfl

theorem small0 (X : TE0) (B W3 W2 W1 W0 : TE1) (E7 E6 E5 : Vec Ideal S8x512 .f32) (r : Fin 8) (n : Fin 512) :
    (k0_pay15 (F := Ideal) (k0_pay11 k0_pay8 k0_pay9 k0_pay10 X B W3 W2 W1 W0) (k0_pay12 W2 E7 W1 E6 W0 E5) (ix2 r n) : EReal)
      = ksilu ((B (ix2 0 n) + W3 (ix2 0 n) * X (ix2 ⟨r.val, by omega⟩ n) + W2 (ix2 0 n) * sh 1 (fun s => X (ix2 s n)) ⟨r.val, by omega⟩ + W1 (ix2 0 n) * sh 2 (fun s => X (ix2 s n)) ⟨r.val, by omega⟩ + W0 (ix2 0 n) * sh 3 (fun s => X (ix2 s n)) ⟨r.val, by omega⟩) + (W2 (ix2 0 n) * E7 (ix2 r n) + W1 (ix2 0 n) * E6 (ix2 r n) + W0 (ix2 0 n) * E5 (ix2 r n))) := by
  unfold k0_pay15 k0_pay12 k0_pay11
  pointwise
  simp only [sh1, sh2, sh3]
  rfl

theorem big1 (X : TE0) (B W3 W2 W1 W0 : TE1) (r : Fin 256) (n : Fin 512) :
    (k0_pay19 (F := Ideal) k0_pay9 k0_pay10 X (k0_pay17 k0_pay8 X B W3 W2) W1 W0 (ix2 r n) : EReal) = ksilu (B (ix2 0 n) + W3 (ix2 0 n) * X (ix2 r n) + W2 (ix2 0 n) * sh 1 (fun s => X (ix2 s n)) r + W1 (ix2 0 n) * sh 2 (fun s => X (ix2 s n)) r + W0 (ix2 0 n) * sh 3 (fun s => X (ix2 s n)) r) := by
  unfold k0_pay19 k0_pay18 k0_pay17
  pointwise
  simp only [sh1, sh2, sh3]
  rfl

theorem small1 (X : TE0) (B W3 W2 W1 W0 : TE1) (E7 E6 E5 : Vec Ideal S8x512 .f32) (r : Fin 8) (n : Fin 512) :
    (k0_pay22 (F := Ideal) (k0_pay20 k0_pay9 k0_pay10 X k0_pay16 W2 (k0_pay17 k0_pay8 X B W3 W2) E7 W1 E6 W0 E5) (k0_pay21 k0_pay9 k0_pay10 X k0_pay16 W2 (k0_pay17 k0_pay8 X B W3 W2) E7 W1 E6 W0 E5) (ix2 r n) : EReal)
      = ksilu ((B (ix2 0 n) + W3 (ix2 0 n) * X (ix2 ⟨r.val, by omega⟩ n) + W2 (ix2 0 n) * sh 1 (fun s => X (ix2 s n)) ⟨r.val, by omega⟩ + W1 (ix2 0 n) * sh 2 (fun s => X (ix2 s n)) ⟨r.val, by omega⟩ + W0 (ix2 0 n) * sh 3 (fun s => X (ix2 s n)) ⟨r.val, by omega⟩) + (W2 (ix2 0 n) * E7 (ix2 r n) + W1 (ix2 0 n) * E6 (ix2 r n) + W0 (ix2 0 n) * E5 (ix2 r n))) := by
  unfold k0_pay22 k0_pay21 k0_pay20 k0_pay18 k0_pay17 k0_pay16
  pointwise
  simp only [sh1, sh2, sh3]
  rfl

theorem big2 (X : TE0) (B W3 W2 W1 W0 : TE1) (r : Fin 256) (n : Fin 512) :
    (k0_pay25 (F := Ideal) (k0_pay24 k0_pay8 k0_pay9 k0_pay10 X B W3 W2 W1 W0) (ix2 r n) : EReal) = ksilu (B (ix2 0 n) + W3 (ix2 0 n) * X (ix2 r n) + W2 (ix2 0 n) * sh 1 (fun s => X (ix2 s n)) r + W1 (ix2 0 n) * sh 2 (fun s => X (ix2 s n)) r + W0 (ix2 0 n) * sh 3 (fun s => X (ix2 s n)) r) := by
  unfold k0_pay25 k0_pay24
  pointwise
  simp only [sh1, sh2, sh3]
  rfl

theorem small2 (X : TE0) (B W3 W2 W1 W0 : TE1) (E7 E6 E5 : Vec Ideal S8x512 .f32) (r : Fin 8) (n : Fin 512) :
    (k0_pay26 (F := Ideal) (k0_pay23 W2 E7 W1 E6) W0 (k0_pay24 k0_pay8 k0_pay9 k0_pay10 X B W3 W2 W1 W0) E5 (ix2 r n) : EReal)
      = ksilu ((B (ix2 0 n) + W3 (ix2 0 n) * X (ix2 ⟨r.val, by omega⟩ n) + W2 (ix2 0 n) * sh 1 (fun s => X (ix2 s n)) ⟨r.val, by omega⟩ + W1 (ix2 0 n) * sh 2 (fun s => X (ix2 s n)) ⟨r.val, by omega⟩ + W0 (ix2 0 n) * sh 3 (fun s => X (ix2 s n)) ⟨r.val, by omega⟩) + (W2 (ix2 0 n) * E7 (ix2 r n) + W1 (ix2 0 n) * E6 (ix2 r n) + W0 (ix2 0 n) * E5 (ix2 r n))) := by
  unfold k0_pay26 k0_pay24 k0_pay23
  pointwise
  simp only [sh1, sh2, sh3]
  rfl

theorem big3 (X : TE0) (B W3 W2 W1 W0 : TE1) (r : Fin 256) (n : Fin 512) :
    (k0_pay30 (F := Ideal) k0_pay8 k0_pay9 k0_pay10 X (k0_pay27 X B W3) W2 W1 W0 (ix2 r n) : EReal) = ksilu (B (ix2 0 n) + W3 (ix2 0 n) * X (ix2 r n) + W2 (ix2 0 n) * sh 1 (fun s => X (ix2 s n)) r + W1 (ix2 0 n) * sh 2 (fun s => X (ix2 s n)) r + W0 (ix2 0 n) * sh 3 (fun s => X (ix2 s n)) r) := by
  unfold k0_pay30 k0_pay29 k0_pay27
  pointwise
  simp only [sh1, sh2, sh3]
  rfl

theorem small3 (X : TE0) (B W3 W2 W1 W0 : TE1) (E7 E6 E5 : Vec Ideal S8x512 .f32) (r : Fin 8) (n : Fin 512) :
    (k0_pay32 (F := Ideal) (k0_pay31 k0_pay8 k0_pay9 k0_pay10 X (k0_pay27 X B W3) k0_pay28 W2 E7 W1 E6 W0 E5) (ix2 r n) : EReal)
      = ksilu ((B (ix2 0 n) + W3 (ix2 0 n) * X (ix2 ⟨r.val, by omega⟩ n) + W2 (ix2 0 n) * sh 1 (fun s => X (ix2 s n)) ⟨r.val, by omega⟩ + W1 (ix2 0 n) * sh 2 (fun s => X (ix2 s n)) ⟨r.val, by omega⟩ + W0 (ix2 0 n) * sh 3 (fun s => X (ix2 s n)) ⟨r.val, by omega⟩) + (W2 (ix2 0 n) * E7 (ix2 r n) + W1 (ix2 0 n) * E6 (ix2 r n) + W0 (ix2 0 n) * E5 (ix2 r n))) := by
  unfold k0_pay32 k0_pay31 k0_pay29 k0_pay28 k0_pay27
  pointwise
  simp only [sh1, sh2, sh3]
  rfl

theorem sh_xm (j : ℕ) (X : Fin 256 → EReal) (tl : Fin 8 → EReal) (r : Fin 256) (h : 8 ≤ r.val) (hj : j ≤ 3) : sh j X r = xm j X tl r := by
  unfold sh xm
  rw [dif_pos (by omega), dif_pos (by omega)]

theorem sh_ext (j : ℕ) (w : EReal) (X : Fin 256 → EReal) (tl : Fin 8 → EReal) (r : Fin 8) (hj : 0 < j) (hj' : j ≤ 8) :
    w * sh j X ⟨r.val, by omega⟩ + w * ext tl (8 - j + r.val) = w * xm j X tl ⟨r.val, by omega⟩ := by
  unfold sh xm ext
  by_cases h : j ≤ r.val
  · rw [dif_pos h, dif_pos h, dif_neg (by omega), mul_zero, add_zero]
  · rw [dif_neg h, dif_neg h, dif_pos (by omega), mul_zero, zero_add]
    congr 2
    apply Fin.ext
    show 8 - j + r.val = (8 + r.val - j) % 8
    rw [Nat.mod_eq_of_lt (by omega)]
    omega

theorem join (b x w2 w1 w0 s1 s2 s3 e1 e2 e3 m1 m2 m3 : EReal) (h1 : w2 * s1 + w2 * e1 = w2 * m1) (h2 : w1 * s2 + w1 * e2 = w1 * m2) (h3 : w0 * s3 + w0 * e3 = w0 * m3) :
    b + x + w2 * s1 + w1 * s2 + w0 * s3 + (w2 * e1 + w1 * e2 + w0 * e3) = b + x + w2 * m1 + w1 * m2 + w0 * m3 := by
  rw [← h1, ← h2, ← h3]
  abel

theorem idx2 {R C a b : ℕ} (o p : ℕ) (inb : ∀ i, ![o, p] i + ![a, b] i ≤ ![R, C] i) (r : Fin a) (c : Fin b) :
    (Rect.unit (s := ⟨2, ![R, C]⟩) ![o, p] ![a, b] inb).idx (ix2 r c)
      = (ix2 ⟨o + r.val, Nat.lt_of_lt_of_le (Nat.add_lt_add_left r.isLt o) (inb 0)⟩ ⟨p + c.val, Nat.lt_of_lt_of_le (Nat.add_lt_add_left c.isLt p) (inb 1)⟩ : Shape.Idx ⟨2, ![R, C]⟩) := by
  funext i
  apply Fin.ext
  match i with
  | ⟨0, _⟩ => show o + 1 * r.val = o + r.val; omega
  | ⟨1, _⟩ => show p + 1 * c.val = p + c.val; omega

theorem ix2_eq {R C : ℕ} (a a' : Fin R) (b b' : Fin C) (h : a.val = a'.val) (h' : b.val = b'.val) : (ix2 a b : Shape.Idx ⟨2, ![R, C]⟩) = ix2 a' b' := by
  rw [Fin.ext h, Fin.ext h']

theorem canon_pair (G : Fin 256 → Fin 2048 → EReal) (o : ℕ) (i1 : ∀ a, ![0, o] a + S8x512.size a ≤ S256x2048.size a) (i2 : ∀ a, ![0, o] a + S256x512.size a ≤ S256x2048.size a)
    (ws : S8x512.Idx → EReal) (wb : S256x512.Idx → EReal) (L : List (View.Piece (Elt Ideal) S256x2048 .f32)) (ho : o + 512 ≤ 2048)
    (hs : ∀ (r : Fin 8) (n : Fin 512), ws (ix2 r n) = G ⟨r.val, by omega⟩ ⟨o + n.val, by omega⟩)
    (hb : ∀ (r : Fin 256) (n : Fin 512), 8 ≤ r.val → wb (ix2 r n) = G r ⟨o + n.val, by omega⟩)
    (r : Fin 256) (n : Fin 2048) (hL : (n.val < o ∨ o + 512 ≤ n.val) → View.canon L (ix2 r n) = G r n) :
    View.canon (⟨Rect.unit ![0, o] ![8, 512] i1, ws⟩ :: ⟨Rect.unit ![0, o] ![256, 512] i2, wb⟩ :: L) (ix2 r n) = G r n := by
  have nm1 : ¬((o ≤ n.val ∧ n.val < o + 512) ∧ r.val < 8) → (ix2 r n : S256x2048.Idx) ∉ (Rect.unit (s := S256x2048) ![0, o] ![8, 512] i1).set := fun h hm => by
    have h0 := (Rect.mem_set_unit.mp hm) 0
    have h1 := (Rect.mem_set_unit.mp hm) 1
    have h0' : r.val < 0 + 8 := h0.2
    have h1' : o ≤ n.val ∧ n.val < o + 512 := h1
    exact h ⟨h1', by omega⟩
  have nm2 : ¬(o ≤ n.val ∧ n.val < o + 512) → (ix2 r n : S256x2048.Idx) ∉ (Rect.unit (s := S256x2048) ![0, o] ![256, 512] i2).set := fun h hm => h ((Rect.mem_set_unit.mp hm) 1)
  by_cases hn : o ≤ n.val ∧ n.val < o + 512
  · by_cases hr : r.val < 8
    · have e : (ix2 r n : S256x2048.Idx) = (Rect.unit (s := S256x2048) ![0, o] ![8, 512] i1).emb (ix2 (⟨r.val, hr⟩ : Fin 8) (⟨n.val - o, by omega⟩ : Fin 512) : S8x512.Idx) :=
        (ix2_eq _ _ _ _ (by show r.val = 0 + r.val; omega) (by show n.val = o + (n.val - o); omega)).trans (idx2 0 o i1 (⟨r.val, hr⟩ : Fin 8) (⟨n.val - o, by omega⟩ : Fin 512)).symm
      rw [e]
      have en : (⟨o + (n.val - o), by omega⟩ : Fin 2048) = n := Fin.ext (by show o + (n.val - o) = n.val; omega)
      have h1 := hs ⟨r.val, hr⟩ ⟨n.val - o, by omega⟩
      have h2 := View.canon_cons_emb (Val := Elt Ideal) (e := .f32) (Rect.unit (s := S256x2048) ![0, o] ![8, 512] i1) ws (⟨Rect.unit ![0, o] ![256, 512] i2, wb⟩ :: L) (ix2 (⟨r.val, hr⟩ : Fin 8) (⟨n.val - o, by omega⟩ : Fin 512) : S8x512.Idx)
      exact h2.trans (h1.trans (congrArg (G r) en))
    · refine (View.canon_cons_of_not_mem (Val := Elt Ideal) (e := .f32) (s := S256x2048) ⟨Rect.unit ![0, o] ![8, 512] i1, ws⟩ (⟨Rect.unit ![0, o] ![256, 512] i2, wb⟩ :: L) (nm1 (fun h => hr h.2))).trans ?_
      have e : (ix2 r n : S256x2048.Idx) = (Rect.unit (s := S256x2048) ![0, o] ![256, 512] i2).emb (ix2 r (⟨n.val - o, by omega⟩ : Fin 512) : S256x512.Idx) :=
        (ix2_eq _ _ _ _ (by show r.val = 0 + r.val; omega) (by show n.val = o + (n.val - o); omega)).trans (idx2 0 o i2 r (⟨n.val - o, by omega⟩ : Fin 512)).symm
      rw [e]
      have en : (⟨o + (n.val - o), by omega⟩ : Fin 2048) = n := Fin.ext (by show o + (n.val - o) = n.val; omega)
      have h1 := hb r ⟨n.val - o, by omega⟩ (by omega)
      have h2 := View.canon_cons_emb (Val := Elt Ideal) (e := .f32) (Rect.unit (s := S256x2048) ![0, o] ![256, 512] i2) wb L (ix2 r (⟨n.val - o, by omega⟩ : Fin 512) : S256x512.Idx)
      exact h2.trans (h1.trans (congrArg (G r) en))
  · refine (View.canon_cons_of_not_mem (Val := Elt Ideal) (e := .f32) (s := S256x2048) ⟨Rect.unit ![0, o] ![8, 512] i1, ws⟩ (⟨Rect.unit ![0, o] ![256, 512] i2, wb⟩ :: L) (nm1 (fun h => hn h.1))).trans ?_
    refine (View.canon_cons_of_not_mem (Val := Elt Ideal) (e := .f32) (s := S256x2048) ⟨Rect.unit ![0, o] ![256, 512] i2, wb⟩ L (nm2 hn)).trans ?_
    exact hL (by omega)

theorem canon8 (G : Fin 256 → Fin 2048 → EReal) (s0 s1 s2 s3 : S8x512.Idx → EReal) (b0 b1 b2 b3 : S256x512.Idx → EReal)
    (i0 i1 i2 i3 j0 j1 j2 j3)
    (hs0 : ∀ (r : Fin 8) (n : Fin 512), s0 (ix2 r n) = G ⟨r.val, by omega⟩ ⟨0 + n.val, by omega⟩)
    (hb0 : ∀ (r : Fin 256) (n : Fin 512), 8 ≤ r.val → b0 (ix2 r n) = G r ⟨0 + n.val, by omega⟩)
    (hs1 : ∀ (r : Fin 8) (n : Fin 512), s1 (ix2 r n) = G ⟨r.val, by omega⟩ ⟨512 + n.val, by omega⟩)
    (hb1 : ∀ (r : Fin 256) (n : Fin 512), 8 ≤ r.val → b1 (ix2 r n) = G r ⟨512 + n.val, by omega⟩)
    (hs2 : ∀ (r : Fin 8) (n : Fin 512), s2 (ix2 r n) = G ⟨r.val, by omega⟩ ⟨1024 + n.val, by omega⟩)
    (hb2 : ∀ (r : Fin 256) (n : Fin 512), 8 ≤ r.val → b2 (ix2 r n) = G r ⟨1024 + n.val, by omega⟩)
    (hs3 : ∀ (r : Fin 8) (n : Fin 512), s3 (ix2 r n) = G ⟨r.val, by omega⟩ ⟨1536 + n.val, by omega⟩)
    (hb3 : ∀ (r : Fin 256) (n : Fin 512), 8 ≤ r.val → b3 (ix2 r n) = G r ⟨1536 + n.val, by omega⟩) :
    (View.canon ([⟨Rect.unit ![0, 1536] ![8, 512] i3, s3⟩, ⟨Rect.unit ![0, 1536] ![256, 512] j3, b3⟩,
      ⟨Rect.unit ![0, 1024] ![8, 512] i2, s2⟩, ⟨Rect.unit ![0, 1024] ![256, 512] j2, b2⟩,
      ⟨Rect.unit ![0, 512] ![8, 512] i1, s1⟩, ⟨Rect.unit ![0, 512] ![256, 512] j1, b1⟩,
      ⟨Rect.unit ![0, 0] ![8, 512] i0, s0⟩, ⟨Rect.unit ![0, 0] ![256, 512] j0, b0⟩] : List (View.Piece (Elt Ideal) S256x2048 .f32)) : S256x2048.Idx → EReal)
      = fun y => G (y 0) (y 1) := by
  funext y
  have hy : y = ix2 (y 0) (y 1) := by
    funext i
    match i with
    | ⟨0, _⟩ => rfl
    | ⟨1, _⟩ => rfl
  have hn : (y 1).val < 2048 := (y 1).isLt
  refine Eq.trans (congrArg _ hy) ?_
  refine canon_pair G 1536 i3 j3 s3 b3 _ (by omega) hs3 hb3 (y 0) (y 1) fun h3 => ?_
  refine canon_pair G 1024 i2 j2 s2 b2 _ (by omega) hs2 hb2 (y 0) (y 1) fun h2 => ?_
  refine canon_pair G 512 i1 j1 s1 b1 _ (by omega) hs1 hb1 (y 0) (y 1) fun h1 => ?_
  refine canon_pair G 0 i0 j0 s0 b0 _ (by omega) hs0 hb0 (y 0) (y 1) fun h0 => ?_
  omega

theorem canon_ext (T : Fin 8 → Fin 2048 → EReal) (w : S8x2048.Idx → EReal) (hw : ∀ r n, w (ix2 r n) = T r n) (i1 i2) (i : Fin 16) (n : Fin 2048) :
    View.canon ([⟨Rect.unit ![8, 0] ![8, 2048] i1, k0_pay5 (F := Ideal)⟩, ⟨Rect.unit ![0, 0] ![8, 2048] i2, w⟩] : List (View.Piece (Elt Ideal) S16x2048 .f32)) (ix2 i n)
      = ext (fun s => T s n) i.val := by
  by_cases hi : i.val < 8
  · have nm : (ix2 i n : S16x2048.Idx) ∉ (Rect.unit (s := S16x2048) ![8, 0] ![8, 2048] i1).set := fun hm => by
      have h0 : 8 ≤ i.val := ((Rect.mem_set_unit.mp hm) 0).1
      omega
    refine (View.canon_cons_of_not_mem (Val := Elt Ideal) (e := .f32) (s := S16x2048) ⟨Rect.unit ![8, 0] ![8, 2048] i1, k0_pay5 (F := Ideal)⟩ [⟨Rect.unit ![0, 0] ![8, 2048] i2, w⟩] nm).trans ?_
    have e : (ix2 i n : S16x2048.Idx) = (Rect.unit (s := S16x2048) ![0, 0] ![8, 2048] i2).emb (ix2 (⟨i.val, hi⟩ : Fin 8) n : S8x2048.Idx) :=
      (ix2_eq _ _ _ _ (by show i.val = 0 + i.val; omega) (by show n.val = 0 + n.val; omega)).trans (idx2 0 0 i2 (⟨i.val, hi⟩ : Fin 8) n).symm
    rw [e]
    have h2 := View.canon_cons_emb (Val := Elt Ideal) (e := .f32) (Rect.unit (s := S16x2048) ![0, 0] ![8, 2048] i2) w [] (ix2 (⟨i.val, hi⟩ : Fin 8) n : S8x2048.Idx)
    refine h2.trans ((hw ⟨i.val, hi⟩ n).trans ?_)
    unfold ext
    rw [dif_pos hi]
  · have e : (ix2 i n : S16x2048.Idx) = (Rect.unit (s := S16x2048) ![8, 0] ![8, 2048] i1).emb (ix2 (⟨i.val - 8, by omega⟩ : Fin 8) n : S8x2048.Idx) :=
      (ix2_eq _ _ _ _ (by show i.val = 8 + (i.val - 8); omega) (by show n.val = 0 + n.val; omega)).trans (idx2 8 0 i1 (⟨i.val - 8, by omega⟩ : Fin 8) n).symm
    rw [e]
    have h2 := View.canon_cons_emb (Val := Elt Ideal) (e := .f32) (Rect.unit (s := S16x2048) ![8, 0] ![8, 2048] i1) (k0_pay5 (F := Ideal)) [⟨Rect.unit ![0, 0] ![8, 2048] i2, w⟩] (ix2 (⟨i.val - 8, by omega⟩ : Fin 8) n : S8x2048.Idx)
    refine h2.trans ?_
    have h3 : (k0_pay5 (F := Ideal) (ix2 ⟨i.val - 8, by omega⟩ n) : EReal) = 0 := by
      unfold k0_pay5
      pointwise
    refine h3.trans ?_
    unfold ext
    rw [dif_neg hi]

end Cert.SsdIdeal.Spec
-- ==== Proof.SsdSide.lean ====
module

public import proofs.«01_k».proof.Defs
public import proofs.«01_k».proof.Proof.SsdKer
public import proofs.«01_k».proof.Proof.Gen.SsdIdeal.Value

@[expose] public section

set_option maxRecDepth 16384

noncomputable section

open Idealize.ShloMosaic Idealize.ShloMosaic.TcCoe Idealize.SL.Sem
open Idealize.ShloMosaic.Pipeline (Dat)
open scoped BigOperators

namespace Cert.SsdIdeal.Spec

open Cert.SsdIdeal Cert.SsdIdeal.Gen Cert.Proof

/-! Short names for the types of the arrays. -/
abbrev TD0 := Vec Ideal S256x2048 .bf16
abbrev TD1 := Vec Ideal S4x2048 .f32
abbrev TD2 := Vec Ideal S1x2048 .f32
abbrev TD3 := Vec Ideal S256x1024 .bf16
abbrev TD4 := Vec Ideal S1x1024 .f32
abbrev TD5 := Vec Ideal S256x128 .f32

theorem hz : (![0, 0] : Fin 2 → Nat) = fun _ => 0 := funext fun a => by fin_cases a <;> rfl
theorem hz3 : (![0, 0, 0] : Fin 3 → Nat) = fun _ => 0 := funext fun a => by fin_cases a <;> rfl

/-- The columns of a group's values, of its keys and of its queries. -/
def cx (g : Fin 4) (c : Fin 256) : Fin 2048 := ⟨g.val * 256 + c.val, by omega⟩
def cb (g : Fin 4) (k : Fin 128) : Fin 2048 := ⟨1024 + (g.val * 128 + k.val), by omega⟩
def cc (g : Fin 4) (k : Fin 128) : Fin 2048 := ⟨1536 + (g.val * 128 + k.val), by omega⟩

/-- A group's state after a block, from the block's windows. -/
def KSg (x0 : TD0) (x2 : TD5) (x3 : TD1) (x4 : TD2) (x5 x6 : Vec Ideal S1x128 .f32)
    (tl : Fin 8 → Fin 2048 → EReal) (S : Fin 4 → Fin 128 → Fin 256 → EReal) (g : Fin 4) : Fin 128 → Fin 256 → EReal :=
  SKf (cuK x2 x5 x6) (dtK x2 x5) (fun r c => XA x0 x3 x4 tl r (cx g c)) (fun r k => XA x0 x3 x4 tl r (cb g k)) (S g) g

def KS (x0 : TD0) (x2 : TD5) (x3 : TD1) (x4 : TD2) (x5 x6 : Vec Ideal S1x128 .f32)
    (tl : Fin 8 → Fin 2048 → EReal) (S : Fin 4 → Fin 128 → Fin 256 → EReal) : S4x128x256.Idx → EReal := fun y =>
  KSg x0 x2 x3 x4 x5 x6 tl S (y 0) (y 1) (y 2)

/-- A group's rows of the result, from the block's windows. -/
def KOg (x0 : TD0) (x1 : TD3) (x2 : TD5) (x3 : TD1) (x4 : TD2) (x5 x6 : Vec Ideal S1x128 .f32)
    (x7 x8 : TD4) (tl : Fin 8 → Fin 2048 → EReal) (S : Fin 4 → Fin 128 → Fin 256 → EReal) (g : Fin 4) : Fin 256 → Fin 256 → EReal :=
  OKf (cuK x2 x5 x6) (dtK x2 x5) (fun r c => XA x0 x3 x4 tl r (cx g c)) (fun r k => XA x0 x3 x4 tl r (cb g k)) (fun r k => XA x0 x3 x4 tl r (cc g k)) (S g)
    (fun c => x7 (ix2 0 (c1 g c))) (fun r c => x1 (ix2 r (c1 g c))) (fun c => x8 (ix2 0 (c1 g c))) g

def KO (x0 : TD0) (x1 : TD3) (x2 : TD5) (x3 : TD1) (x4 : TD2) (x5 x6 : Vec Ideal S1x128 .f32)
    (x7 x8 : TD4) (tl : Fin 8 → Fin 2048 → EReal) (S : Fin 4 → Fin 128 → Fin 256 → EReal) : S256x1024.Idx → EReal := fun y =>
  KOg x0 x1 x2 x3 x4 x5 x6 x7 x8 tl S ⟨(y 1).val / 256, by have h : (y 1).val < 1024 := (y 1).isLt; omega⟩ (y 0) ⟨(y 1).val % 256, Nat.mod_lt _ (by decide)⟩

theorem KO_col (x0 : TD0) (x1 : TD3) (x2 : TD5) (x3 : TD1) (x4 : TD2) (x5 x6 : Vec Ideal S1x128 .f32)
    (x7 x8 : TD4) (tl : Fin 8 → Fin 2048 → EReal) (S : Fin 4 → Fin 128 → Fin 256 → EReal) (g : Fin 4) (r c : Fin 256) :
    KO x0 x1 x2 x3 x4 x5 x6 x7 x8 tl S (ix2 r (c1 g c)) = KOg x0 x1 x2 x3 x4 x5 x6 x7 x8 tl S g r c := by
  have e1 : (⟨(g.val * 256 + c.val) / 256, by omega⟩ : Fin 4) = g := Fin.ext (by show (g.val * 256 + c.val) / 256 = g.val; omega)
  have e2 : (⟨(g.val * 256 + c.val) % 256, by omega⟩ : Fin 256) = c := Fin.ext (by show (g.val * 256 + c.val) % 256 = c.val; omega)
  show KOg x0 x1 x2 x3 x4 x5 x6 x7 x8 tl S ⟨(g.val * 256 + c.val) / 256, _⟩ r ⟨(g.val * 256 + c.val) % 256, _⟩ = _
  rw [e1, e2]

/-- The eight rows a block hands on. -/
def KT (x0 : TD0) : S8x2048.Idx → EReal := fun y => x0 (ix2 ⟨248 + (y 0).val, by have h : (y 0).val < 8 := (y 0).isLt; omega⟩ (y 1))

theorem idxo (g : Fin 4) (o : Nat) (ho : o = g.val * 256) (inb : ∀ a, ![0, o] a + S256x256.size a ≤ S256x1024.size a) (r : Fin 256) (d : Fin 256) :
    (Rect.unit (s := S256x1024) ![0, o] S256x256.size inb).emb (ix2 r d) = (ix2 r (c1 g d) : S256x1024.Idx) := by
  subst ho
  exact (idx2 0 _ inb r d).trans (ix2_eq _ _ _ _ (by show 0 + r.val = r.val; omega) rfl)

theorem idxs (g : Fin 4) (o : Nat) (ho : o = g.val) (inb : ∀ a, ![o, 0, 0] a + S1x128x256.size a ≤ S4x128x256.size a) (k : Fin 128) (d : Fin 256) :
    (Rect.unit (s := S4x128x256) ![o, 0, 0] S1x128x256.size inb).emb (ix3 0 k d) = (ix3 g k d : S4x128x256.Idx) := by
  subst ho
  funext a
  apply Fin.ext
  match a with
  | ⟨0, _⟩ => show g.val + 1 * 0 = g.val; omega
  | ⟨1, _⟩ => show 0 + 1 * k.val = k.val; omega
  | ⟨2, _⟩ => show 0 + 1 * d.val = d.val; omega

theorem ld0 (p : ℕ) (x : TD0) (inb) (r : Fin 256) (n : Fin 512) :
    (View.ld x (Rect.unit (s := S256x2048) ![0, p] ![256, 512] inb) : Vec Ideal S256x512 .bf16) (ix2 r n) = x (ix2 r ⟨p + n.val, Nat.lt_of_lt_of_le (Nat.add_lt_add_left n.isLt p) (inb 1)⟩) :=
  congrArg x ((idx2 0 p inb r n).trans (ix2_eq _ _ _ _ (Nat.zero_add _) rfl))
theorem ld3 (q p : ℕ) (x : TD1) (inb) (n : Fin 512) :
    (View.ld x (Rect.unit (s := S4x2048) ![q, p] ![1, 512] inb) : Vec Ideal S1x512 .f32) (ix2 0 n)
      = x (ix2 ⟨q, Nat.lt_of_lt_of_le (Nat.lt_succ_self q) (inb 0)⟩ ⟨p + n.val, Nat.lt_of_lt_of_le (Nat.add_lt_add_left n.isLt p) (inb 1)⟩) :=
  congrArg x ((idx2 q p inb (0 : Fin 1) n).trans (ix2_eq _ _ _ _ rfl rfl))
theorem ld4 (p : ℕ) (x : TD2) (inb) (n : Fin 512) :
    (View.ld x (Rect.unit (s := S1x2048) ![0, p] ![1, 512] inb) : Vec Ideal S1x512 .f32) (ix2 0 n) = x (ix2 0 ⟨p + n.val, Nat.lt_of_lt_of_le (Nat.add_lt_add_left n.isLt p) (inb 1)⟩) :=
  congrArg x ((idx2 0 p inb (0 : Fin 1) n).trans (ix2_eq _ _ _ _ rfl rfl))
theorem ext_ld (T : Fin 8 → Fin 2048 → EReal) (w : S8x2048.Idx → EReal) (hw : ∀ r n, w (ix2 r n) = T r n) (i1 i2) (o p : ℕ) (inb) (r : Fin 8) (n : Fin 512) :
    View.canon ([⟨Rect.unit ![8, 0] ![8, 2048] i1, k0_pay5 (F := Ideal)⟩, ⟨Rect.unit ![0, 0] ![8, 2048] i2, w⟩] : List (View.Piece (Elt Ideal) S16x2048 .f32))
      ((Rect.unit (s := S16x2048) ![o, p] ![8, 512] inb).idx (ix2 r n))
      = ext (fun s => T s ⟨p + n.val, Nat.lt_of_lt_of_le (Nat.add_lt_add_left n.isLt p) (inb 1)⟩) (o + r.val) :=
  (congrArg _ (idx2 o p inb r n)).trans (canon_ext T w hw i1 i2 _ _)

theorem sideB (x0 : TD0) (x3 : TD1) (x4 : TD2) (T : Fin 8 → Fin 2048 → EReal) (m : Fin 2048) (r : Fin 256) (h : 8 ≤ r.val) (b w3 w2 w1 w0 x : EReal) (X : Fin 256 → EReal)
    (hX : ∀ s, X s = x0 (ix2 s m)) (hx : x = x0 (ix2 r m)) (hB : b = x4 (ix2 0 m)) (h3 : w3 = x3 (ix2 3 m)) (h2 : w2 = x3 (ix2 2 m)) (h1 : w1 = x3 (ix2 1 m)) (h0 : w0 = x3 (ix2 0 m)) :
    ksilu (b + w3 * x + w2 * sh 1 X r + w1 * sh 2 X r + w0 * sh 3 X r) = XA x0 x3 x4 T r m := by
  obtain rfl : X = fun s => x0 (ix2 s m) := funext hX
  subst hx hB h3 h2 h1 h0
  rw [sh_xm 1 _ (fun s => T s m) r h (by omega), sh_xm 2 _ (fun s => T s m) r h (by omega), sh_xm 3 _ (fun s => T s m) r h (by omega)]
  rfl

theorem sideS (x0 : TD0) (x3 : TD1) (x4 : TD2) (T : Fin 8 → Fin 2048 → EReal) (m : Fin 2048) (r : Fin 8) (b w3 w2 w1 w0 x e7 e6 e5 : EReal) (X : Fin 256 → EReal)
    (hX : ∀ s, X s = x0 (ix2 s m)) (hx : x = x0 (ix2 ⟨r.val, by omega⟩ m)) (hB : b = x4 (ix2 0 m)) (h3 : w3 = x3 (ix2 3 m)) (h2 : w2 = x3 (ix2 2 m)) (h1 : w1 = x3 (ix2 1 m)) (h0 : w0 = x3 (ix2 0 m))
    (hE7 : e7 = ext (fun s => T s m) (7 + r.val)) (hE6 : e6 = ext (fun s => T s m) (6 + r.val)) (hE5 : e5 = ext (fun s => T s m) (5 + r.val)) :
    ksilu ((b + w3 * x + w2 * sh 1 X ⟨r.val, by omega⟩ + w1 * sh 2 X ⟨r.val, by omega⟩ + w0 * sh 3 X ⟨r.val, by omega⟩) + (w2 * e7 + w1 * e6 + w0 * e5)) = XA x0 x3 x4 T ⟨r.val, by omega⟩ m := by
  obtain rfl : X = fun s => x0 (ix2 s m) := funext hX
  subst hx hB h3 h2 h1 h0 hE7 hE6 hE5
  exact congrArg ksilu (join _ _ _ _ _ _ _ _ _ _ _ _ _ _ (sh_ext 1 _ _ _ r (by omega) (by omega)) (sh_ext 2 _ _ _ r (by omega) (by omega)) (sh_ext 3 _ _ _ r (by omega) (by omega)))

theorem SKf_congr {cu dt : Fin 256 → Fin 128 → EReal} {X : Fin 256 → Fin 256 → EReal} {B : Fin 256 → Fin 128 → EReal} {S S' : Fin 128 → Fin 256 → EReal} {g : Fin 4}
    (k : Fin 128) (c : Fin 256) (hS : ∀ k c, S k c = S' k c) : SKf cu dt X B S g k c = SKf cu dt X B S' g k c := by
  obtain rfl : S = S' := funext fun k => funext (hS k)
  rfl
theorem OKf_congr {cu dt : Fin 256 → Fin 128 → EReal} {X : Fin 256 → Fin 256 → EReal} {B C : Fin 256 → Fin 128 → EReal} {S S' : Fin 128 → Fin 256 → EReal}
    {D D' G G' : Fin 256 → EReal} {Z Z' : Fin 256 → Fin 256 → EReal} {g : Fin 4}
    (r c : Fin 256) (hS : ∀ k c, S k c = S' k c) (hD : ∀ c, D c = D' c) (hZ : ∀ r c, Z r c = Z' r c) (hG : ∀ c, G c = G' c) :
    OKf cu dt X B C S D Z G g r c = OKf cu dt X B C S' D' Z' G' g r c := by
  obtain rfl : S = S' := funext fun k => funext (hS k)
  obtain rfl : D = D' := funext hD
  obtain rfl : Z = Z' := funext fun k => funext (hZ k)
  obtain rfl : G = G' := funext hG
  rfl

theorem pay4_ix (x : Vec Ideal S8x2048 .f32) (r : Fin 8) (n : Fin 2048) : (k0_pay4 (F := Ideal) x (ix2 r n) : EReal) = x (ix2 r n) := by
  unfold k0_pay4
  pointwise
theorem pay2_ix (r : Fin 8) (n : Fin 2048) : (k0_pay2 (F := Ideal) (ix2 r n) : EReal) = 0 := by
  unfold k0_pay2
  pointwise
theorem pay3_ix (h : Fin 4) (k : Fin 128) (d : Fin 256) : (k0_pay3 (F := Ideal) (ix3 h k d) : EReal) = 0 := by
  unfold k0_pay3
  pointwise
theorem pay6_ix (x : Vec Ideal S16x2048 .bf16) (r : Fin 8) (n : Fin 2048) : (k0_pay6 (F := Ideal) x (ix2 r n) : EReal) = x (ix2 ⟨8 + r.val, by omega⟩ n) := by
  unfold k0_pay6
  pointwise

theorem z3 (y : S1x128x256.Idx) : ∃ (k : Fin 128) (d : Fin 256), y = ix3 0 k d :=
  ⟨y 1, y 2, (eq_ix3 y).trans (by rw [Fin.fin_one_eq_zero (y 0)])⟩

theorem hwA (r : Fin 8) (n : Fin 2048) :
    (k0_pay4 (F := Ideal) (fun j => k0_pay2 (F := Ideal) ((Rect.unit (s := S8x2048) ![0, 0] ![8, 2048] inb_S8x2048_S8x2048_0_0).idx j)) (ix2 r n) : EReal) = 0 := by
  rw [pay4_ix]
  exact (congrArg _ (idx2 0 0 inb_S8x2048_S8x2048_0_0 r n)).trans (pay2_ix _ _)

theorem ldT (x : TD0) (inb) (r : Fin 16) (n : Fin 2048) :
    (View.ld x (Rect.unit (s := S256x2048) ![240, 0] ![16, 2048] inb) : Vec Ideal S16x2048 .bf16) (ix2 r n) = x (ix2 ⟨240 + r.val, by omega⟩ n) :=
  congrArg x ((idx2 240 0 inb r n).trans (ix2_eq _ _ _ _ rfl (Nat.zero_add _)))

theorem ixx (g : Fin 4) (o : ℕ) (ho : o = g.val * 256) (inb) (r c : Fin 256) :
    (Rect.unit (s := S256x2048) ![0, o] ![256, 256] inb).idx (ix2 r c) = (ix2 r (cx g c) : S256x2048.Idx) := by
  subst ho
  exact (idx2 0 _ inb r c).trans (ix2_eq _ _ _ _ (Nat.zero_add _) rfl)
theorem ixb (g : Fin 4) (o : ℕ) (ho : o = 1024 + g.val * 128) (inb) (r : Fin 256) (c : Fin 128) :
    (Rect.unit (s := S256x2048) ![0, o] ![256, 128] inb).idx (ix2 r c) = (ix2 r (cb g c) : S256x2048.Idx) := by
  subst ho
  exact (idx2 0 _ inb r c).trans (ix2_eq _ _ _ _ (Nat.zero_add _) (Nat.add_assoc _ _ _))
theorem ixc (g : Fin 4) (o : ℕ) (ho : o = 1536 + g.val * 128) (inb) (r : Fin 256) (c : Fin 128) :
    (Rect.unit (s := S256x2048) ![0, o] ![256, 128] inb).idx (ix2 r c) = (ix2 r (cc g c) : S256x2048.Idx) := by
  subst ho
  exact (idx2 0 _ inb r c).trans (ix2_eq _ _ _ _ (Nat.zero_add _) (Nat.add_assoc _ _ _))
theorem ixw (g : Fin 4) (o : ℕ) (ho : o = g.val * 256) (inb) (c : Fin 256) :
    (Rect.unit (s := S1x1024) ![0, o] ![1, 256] inb).idx (ix2 0 c) = (ix2 0 (c1 g c) : S1x1024.Idx) := by
  subst ho
  exact (idx2 0 _ inb (0 : Fin 1) c).trans (ix2_eq _ _ _ _ (Nat.zero_add _) rfl)

theorem ldd0 (x : TD4) (inb) (c : Fin 256) :
    (View.ld x (Rect.unit (s := S1x1024) ![0, 0] ![1, 256] inb) : Vec Ideal S1x256 .f32) (ix2 0 c) = x (ix2 0 (c1 0 c)) := congrArg x (ixw 0 _ rfl inb c)
theorem ldz0 (x : TD3) (inb) (r c : Fin 256) :
    (View.ld x (Rect.unit (s := S256x1024) ![0, 0] ![256, 256] inb) : Vec Ideal S256x256 .bf16) (ix2 r c) = x (ix2 r (c1 0 c)) := congrArg x (idxo 0 _ rfl inb r c)
theorem lds0 (x : Vec Ideal S4x128x256 .f32) (inb) (k : Fin 128) (c : Fin 256) :
    (View.ld x (Rect.unit (s := S4x128x256) ![0, 0, 0] ![1, 128, 256] inb) : Vec Ideal S1x128x256 .f32) (ix3 0 k c) = x (ix3 0 k c) := congrArg x (idxs 0 _ rfl inb k c)
theorem lza0 (inb) (k : Fin 128) (c : Fin 256) :
    (k0_pay3 (F := Ideal) ((Rect.unit (s := S4x128x256) ![0, 0, 0] ![1, 128, 256] inb).idx (ix3 0 k c)) : EReal) = 0 :=
  (congrArg _ (idxs 0 _ rfl inb k c)).trans (pay3_ix _ _ _)

theorem ldd1 (x : TD4) (inb) (c : Fin 256) :
    (View.ld x (Rect.unit (s := S1x1024) ![0, 256] ![1, 256] inb) : Vec Ideal S1x256 .f32) (ix2 0 c) = x (ix2 0 (c1 1 c)) := congrArg x (ixw 1 _ rfl inb c)
theorem ldz1 (x : TD3) (inb) (r c : Fin 256) :
    (View.ld x (Rect.unit (s := S256x1024) ![0, 256] ![256, 256] inb) : Vec Ideal S256x256 .bf16) (ix2 r c) = x (ix2 r (c1 1 c)) := congrArg x (idxo 1 _ rfl inb r c)
theorem lds1 (x : Vec Ideal S4x128x256 .f32) (inb) (k : Fin 128) (c : Fin 256) :
    (View.ld x (Rect.unit (s := S4x128x256) ![1, 0, 0] ![1, 128, 256] inb) : Vec Ideal S1x128x256 .f32) (ix3 0 k c) = x (ix3 1 k c) := congrArg x (idxs 1 _ rfl inb k c)
theorem lza1 (inb) (k : Fin 128) (c : Fin 256) :
    (k0_pay3 (F := Ideal) ((Rect.unit (s := S4x128x256) ![1, 0, 0] ![1, 128, 256] inb).idx (ix3 0 k c)) : EReal) = 0 :=
  (congrArg _ (idxs 1 _ rfl inb k c)).trans (pay3_ix _ _ _)

theorem ldd2 (x : TD4) (inb) (c : Fin 256) :
    (View.ld x (Rect.unit (s := S1x1024) ![0, 512] ![1, 256] inb) : Vec Ideal S1x256 .f32) (ix2 0 c) = x (ix2 0 (c1 2 c)) := congrArg x (ixw 2 _ rfl inb c)
theorem ldz2 (x : TD3) (inb) (r c : Fin 256) :
    (View.ld x (Rect.unit (s := S256x1024) ![0, 512] ![256, 256] inb) : Vec Ideal S256x256 .bf16) (ix2 r c) = x (ix2 r (c1 2 c)) := congrArg x (idxo 2 _ rfl inb r c)
theorem lds2 (x : Vec Ideal S4x128x256 .f32) (inb) (k : Fin 128) (c : Fin 256) :
    (View.ld x (Rect.unit (s := S4x128x256) ![2, 0, 0] ![1, 128, 256] inb) : Vec Ideal S1x128x256 .f32) (ix3 0 k c) = x (ix3 2 k c) := congrArg x (idxs 2 _ rfl inb k c)
theorem lza2 (inb) (k : Fin 128) (c : Fin 256) :
    (k0_pay3 (F := Ideal) ((Rect.unit (s := S4x128x256) ![2, 0, 0] ![1, 128, 256] inb).idx (ix3 0 k c)) : EReal) = 0 :=
  (congrArg _ (idxs 2 _ rfl inb k c)).trans (pay3_ix _ _ _)

theorem ldd3 (x : TD4) (inb) (c : Fin 256) :
    (View.ld x (Rect.unit (s := S1x1024) ![0, 768] ![1, 256] inb) : Vec Ideal S1x256 .f32) (ix2 0 c) = x (ix2 0 (c1 3 c)) := congrArg x (ixw 3 _ rfl inb c)
theorem ldz3 (x : TD3) (inb) (r c : Fin 256) :
    (View.ld x (Rect.unit (s := S256x1024) ![0, 768] ![256, 256] inb) : Vec Ideal S256x256 .bf16) (ix2 r c) = x (ix2 r (c1 3 c)) := congrArg x (idxo 3 _ rfl inb r c)
theorem lds3 (x : Vec Ideal S4x128x256 .f32) (inb) (k : Fin 128) (c : Fin 256) :
    (View.ld x (Rect.unit (s := S4x128x256) ![3, 0, 0] ![1, 128, 256] inb) : Vec Ideal S1x128x256 .f32) (ix3 0 k c) = x (ix3 3 k c) := congrArg x (idxs 3 _ rfl inb k c)
theorem lza3 (inb) (k : Fin 128) (c : Fin 256) :
    (k0_pay3 (F := Ideal) ((Rect.unit (s := S4x128x256) ![3, 0, 0] ![1, 128, 256] inb).idx (ix3 0 k c)) : EReal) = 0 :=
  (congrArg _ (idxs 3 _ rfl inb k c)).trans (pay3_ix _ _ _)

end Cert.SsdIdeal.Spec
-- ==== Proof.SsdReal.lean ====
module

public import proofs.«01_k».proof.Defs
public import proofs.«01_k».proof.Proof.Real
public import proofs.«01_k».proof.Proof.SsdSide

@[expose] public section

set_option maxRecDepth 16384

noncomputable section

open Idealize.ShloMosaic Idealize.ShloMosaic.TcCoe Idealize.SL.Sem
open Idealize.ShloMosaic.Pipeline (Dat)
open scoped BigOperators

namespace Cert.Proof.Ssd

open Cert.Proof Cert.SsdIdeal.Spec

/-! ## The recurrence over the reals -/

/-- The logarithms of the decays before a position, added up. -/
def Lam (la : ℕ → ℝ) (n : ℕ) : ℝ := ∑ u ∈ Finset.range n, la u

/-- The state before block `n`. -/
def St (la x dt : ℕ → ℝ) (B : ℕ → Fin 128 → ℝ) (n : ℕ) (k : Fin 128) : ℝ :=
  ∑ s ∈ Finset.range (256 * n), B s k * (x s * dt s) * Real.exp (Lam la (256 * n) - Lam la (s + 1))

/-- What all positions up to `p` give. -/
def Oall (la x dt : ℕ → ℝ) (B C : ℕ → Fin 128 → ℝ) (p : ℕ) : ℝ :=
  ∑ s ∈ Finset.range 4096, if s ≤ p then (∑ k, C p k * B s k) * Real.exp (Lam la (p + 1) - Lam la (s + 1)) * (x s * dt s) else 0

theorem St_zero (la x dt : ℕ → ℝ) (B : ℕ → Fin 128 → ℝ) (k : Fin 128) : St la x dt B 0 k = 0 := by simp [St]

theorem St_succ (la x dt : ℕ → ℝ) (B : ℕ → Fin 128 → ℝ) (n : ℕ) (k : Fin 128) :
    St la x dt B (n + 1) k = St la x dt B n k * Real.exp (Lam la (256 * n + 255 + 1) - Lam la (256 * n))
      + ∑ s : Fin 256, B (256 * n + s.val) k * (x (256 * n + s.val) * (Real.exp (Lam la (256 * n + 255 + 1) - Lam la (256 * n) - (Lam la (256 * n + s.val + 1) - Lam la (256 * n))) * dt (256 * n + s.val))) := by
  unfold St
  rw [show 256 * (n + 1) = 256 * n + 256 by ring, Finset.sum_range_add, Finset.sum_mul,
    Fin.sum_univ_eq_sum_range (fun s => B (256 * n + s) k * (x (256 * n + s) * (Real.exp (Lam la (256 * n + 255 + 1) - Lam la (256 * n) - (Lam la (256 * n + s + 1) - Lam la (256 * n))) * dt (256 * n + s)))) 256]
  refine congrArg₂ (· + ·) (Finset.sum_congr rfl fun s _ => ?_) (Finset.sum_congr rfl fun s _ => ?_)
  · rw [show Lam la (256 * n + 256) - Lam la (s + 1) = (Lam la (256 * n) - Lam la (s + 1)) + (Lam la (256 * n + 255 + 1) - Lam la (256 * n)) by ring, Real.exp_add]
    ring
  · rw [show Lam la (256 * n + 255 + 1) - Lam la (256 * n) - (Lam la (256 * n + s + 1) - Lam la (256 * n)) = Lam la (256 * n + 256) - Lam la (256 * n + s + 1) by ring]
    ring

theorem O_split (la x dt : ℕ → ℝ) (B C : ℕ → Fin 128 → ℝ) (n r : ℕ) (hn : n < 16) (hr : r < 256) (hd : ∀ s < 4096, 0 < dt s) :
    (∑ s : Fin 256, (if s.val ≤ r then (∑ k, C (256 * n + r) k * B (256 * n + s.val) k) * Real.exp (Lam la (256 * n + r + 1) - Lam la (256 * n) - (Lam la (256 * n + s.val + 1) - Lam la (256 * n) - Real.log (dt (256 * n + s.val)))) else 0) * x (256 * n + s.val))
        + (∑ k, C (256 * n + r) k * St la x dt B n k) * Real.exp (Lam la (256 * n + r + 1) - Lam la (256 * n))
      = Oall la x dt B C (256 * n + r) := by
  unfold Oall
  rw [show (4096 : ℕ) = 256 * n + 256 + (4096 - (256 * n + 256)) by omega, Finset.sum_range_add, Finset.sum_range_add]
  have h3 : ∑ s ∈ Finset.range (4096 - (256 * n + 256)), (if 256 * n + 256 + s ≤ 256 * n + r then
      (∑ k, C (256 * n + r) k * B (256 * n + 256 + s) k) * Real.exp (Lam la (256 * n + r + 1) - Lam la (256 * n + 256 + s + 1)) * (x (256 * n + 256 + s) * dt (256 * n + 256 + s)) else 0) = 0 :=
    Finset.sum_eq_zero fun s _ => if_neg (by omega)
  rw [h3, add_zero, add_comm]
  refine congrArg₂ (· + ·) ?_ ?_
  · unfold St
    simp only [Finset.mul_sum, Finset.sum_mul]
    rw [Finset.sum_comm]
    refine Finset.sum_congr rfl fun s hs => ?_
    have hs' := Finset.mem_range.mp hs
    rw [if_pos (by omega)]
    refine Finset.sum_congr rfl fun k _ => ?_
    rw [show Lam la (256 * n + r + 1) - Lam la (s + 1) = (Lam la (256 * n) - Lam la (s + 1)) + (Lam la (256 * n + r + 1) - Lam la (256 * n)) by ring, Real.exp_add]
    ring
  · rw [Fin.sum_univ_eq_sum_range (fun s => (if s ≤ r then (∑ k, C (256 * n + r) k * B (256 * n + s) k) * Real.exp (Lam la (256 * n + r + 1) - Lam la (256 * n) - (Lam la (256 * n + s + 1) - Lam la (256 * n) - Real.log (dt (256 * n + s)))) else 0) * x (256 * n + s)) 256]
    refine Finset.sum_congr rfl fun s hs => ?_
    have hs' := Finset.mem_range.mp hs
    by_cases hx : s ≤ r
    · rw [if_pos hx, if_pos (by omega)]
      rw [show Lam la (256 * n + r + 1) - Lam la (256 * n) - (Lam la (256 * n + s + 1) - Lam la (256 * n) - Real.log (dt (256 * n + s))) = (Lam la (256 * n + r + 1) - Lam la (256 * n + s + 1)) + Real.log (dt (256 * n + s)) by ring,
        Real.exp_add, Real.exp_log (hd _ (by omega))]
      ring
    · rw [if_neg hx, if_neg (by omega), zero_mul]

/-- A masked sum is the sum over the first positions. -/
theorem sum_le (N r : ℕ) (hr : r < N) (f : ℕ → ℝ) : (∑ s : Fin N, if s.val ≤ r then f s.val else 0) = ∑ s ∈ Finset.range (r + 1), f s := by
  rw [Fin.sum_univ_eq_sum_range (fun s => if s ≤ r then f s else 0) N, show N = r + 1 + (N - (r + 1)) by omega, Finset.sum_range_add]
  rw [Finset.sum_eq_zero (s := Finset.range (N - (r + 1))) fun s _ => if_neg (by omega), add_zero]
  exact Finset.sum_congr rfl fun s hs => if_pos (by have := Finset.mem_range.mp hs; omega)

theorem Lam_block (la : ℕ → ℝ) (n r : ℕ) : (∑ s ∈ Finset.range (r + 1), la (256 * n + s)) = Lam la (256 * n + r + 1) - Lam la (256 * n) := by
  unfold Lam
  rw [add_assoc (256 * n) r 1, Finset.sum_range_add la (256 * n) (r + 1), add_sub_cancel_left]

/-! ## The operations on real numbers -/

theorem iexp (r : ℝ) : Ideal.exp (r : EReal) = ((Real.exp r : ℝ) : EReal) := rfl

theorem ilog (r : ℝ) (h : 0 < r) : Ideal.log (r : EReal) = ((Real.log r : ℝ) : EReal) := by
  show (if _ then _ else _) = _
  rw [if_neg (not_le.mpr h)]

theorem hl_coe (r : ℝ) : hl (r : EReal) = r := by
  unfold hl
  rw [← EReal.coe_sub, sub_self, EReal.coe_zero, add_zero]

/-- The time step. -/
def sp (a : ℝ) : ℝ := Real.log (1 + Real.exp a)

theorem sp_pos (a : ℝ) : 0 < sp a := Real.log_pos (by linarith [Real.exp_pos a])

theorem one_add (a : ℝ) : (1 + ((Real.exp a : ℝ) : EReal)) = ((1 + Real.exp a : ℝ) : EReal) := by
  rw [EReal.coe_add, EReal.coe_one]

theorem sp_ref (a : ℝ) : Ideal.log (1 + Ideal.exp (a : EReal)) = ((sp a : ℝ) : EReal) := by
  rw [iexp, one_add, ilog _ (by linarith [Real.exp_pos a])]
  rfl

theorem absf_coe (a : ℝ) : (FloatOps.absf (F := Ideal) (φ := .f32) (a : EReal) : EReal) = ((|a| : ℝ) : EReal) := by
  show max (a : EReal) (-(a : EReal)) = _
  rw [← EReal.coe_neg]
  exact (EReal.coe_strictMono.monotone.map_max).symm

theorem sp_ker (a : ℝ) : max (a : EReal) 0 + Ideal.log (1 + Ideal.exp (0 - FloatOps.absf (F := Ideal) (φ := .f32) (a : EReal))) = ((sp a : ℝ) : EReal) := by
  rw [absf_coe, zero_sub, ← EReal.coe_neg, sp_ref, ← EReal.coe_zero, ← EReal.coe_strictMono.monotone.map_max, ← EReal.coe_add]
  congr 1
  unfold sp
  rcases le_total 0 a with h | h
  · rw [max_eq_left h, abs_of_nonneg h]
    have e : (1 + Real.exp a) = Real.exp a * (1 + Real.exp (-a)) := by rw [mul_add, ← Real.exp_add]; simp [add_comm]
    rw [e, Real.log_mul (Real.exp_pos a).ne' (by linarith [Real.exp_pos (-a)]), Real.log_exp]
  · rw [max_eq_right h, abs_of_nonpos h, neg_neg, zero_add]

theorem ksilu_fin {a : EReal} (h : Fin1 a) : Fin1 (ksilu a) := by
  obtain ⟨r, rfl⟩ := h
  unfold ksilu
  rw [zero_sub, ← EReal.coe_neg, iexp, one_add, ← EReal.coe_one, Ideal.div_coe (by linarith [Real.exp_pos (-r)]), ← EReal.coe_mul]
  exact ⟨_, rfl⟩

/-! ## A block's terms on real numbers -/

/-- The head of a column of a group. -/
def hq (g : Fin 4) (c : Fin 256) : Fin 16 := ⟨g.val * 4 + c.val / 64, by omega⟩

theorem cu_real (x2 : Vec Ideal Cert.SsdIdeal.S256x128 .f32) (x5 x6 : Vec Ideal Cert.SsdIdeal.S1x128 .f32) (l : Fin 128) (u : ℕ → ℝ) (w a : ℝ) (n : ℕ)
    (h2 : ∀ r, x2 (ix2 r l) = ((u (256 * n + r.val) : ℝ) : EReal)) (h5 : x5 (ix2 0 l) = (w : EReal)) (h6 : x6 (ix2 0 l) = (a : EReal)) (r : Fin 256) :
    cuK x2 x5 x6 r l = ((Lam (fun s => sp (u s + w) * -Real.exp a) (256 * n + r.val + 1) - Lam (fun s => sp (u s + w) * -Real.exp a) (256 * n) : ℝ) : EReal) := by
  have hl : ∀ x, laK x2 x5 x6 x l = ((sp (u (256 * n + x.val) + w) * -Real.exp a : ℝ) : EReal) := fun x => by
    unfold laK dtK
    rw [h2, h5, h6, ← EReal.coe_add, sp_ker, zero_sub, iexp, ← EReal.coe_neg, ← EReal.coe_mul]
  have hi : ∀ (p : Prop) [Decidable p] (y : ℝ), (if p then (1 : EReal) else 0) * (y : EReal) = ((if p then y else 0 : ℝ) : EReal) := fun p _ y => by
    split
    · rw [one_mul]
    · rw [zero_mul, EReal.coe_zero]
  unfold cuK
  simp only [hl, hi, ← EReal.coe_sub, sub_self, EReal.coe_zero, mul_zero, Finset.sum_const_zero, add_zero]
  rw [← coe_sum, sum_le 256 r.val r.isLt (fun s => sp (u (256 * n + s) + w) * -Real.exp a), ← Lam_block]

theorem dt_real (x2 : Vec Ideal Cert.SsdIdeal.S256x128 .f32) (x5 : Vec Ideal Cert.SsdIdeal.S1x128 .f32) (l : Fin 128) (u : ℕ → ℝ) (w : ℝ) (n : ℕ)
    (h2 : ∀ r, x2 (ix2 r l) = ((u (256 * n + r.val) : ℝ) : EReal)) (h5 : x5 (ix2 0 l) = (w : EReal)) (r : Fin 256) :
    dtK x2 x5 r l = ((sp (u (256 * n + r.val) + w) : ℝ) : EReal) := by
  unfold dtK
  rw [h2, h5, ← EReal.coe_add, sp_ker]

section
variable (g : Fin 4) (cu dt : Fin 256 → Fin 128 → EReal) (X : Fin 256 → Fin 256 → EReal) (Bm Cm : Fin 256 → Fin 128 → EReal) (S : Fin 128 → Fin 256 → EReal)
  (LA DT : Fin 16 → ℕ → ℝ) (xr : ℕ → Fin 256 → ℝ) (br cr : ℕ → Fin 128 → ℝ) (n : ℕ)
  (hcu : ∀ r c, cu r (hd g c) = ((Lam (LA (hq g c)) (256 * n + r.val + 1) - Lam (LA (hq g c)) (256 * n) : ℝ) : EReal))
  (hdt : ∀ r c, dt r (hd g c) = ((DT (hq g c) (256 * n + r.val) : ℝ) : EReal))
  (hX : ∀ r c, X r c = ((xr (256 * n + r.val) c : ℝ) : EReal)) (hB : ∀ r k, Bm r k = ((br (256 * n + r.val) k : ℝ) : EReal))
  (hC : ∀ r k, Cm r k = ((cr (256 * n + r.val) k : ℝ) : EReal))
  (hS : ∀ k c, S k c = ((St (LA (hq g c)) (fun s => xr s c) (DT (hq g c)) br n k : ℝ) : EReal))

include hcu hdt hX hB hS in
theorem SK_real (k : Fin 128) (c : Fin 256) :
    SKf cu dt X Bm S g k c = ((St (LA (hq g c)) (fun s => xr s c) (DT (hq g c)) br (n + 1) k : ℝ) : EReal) := by
  unfold SKf
  simp only [hS, hcu, hdt, hX, hB, ← EReal.coe_sub, iexp, ← EReal.coe_mul, hl_coe]
  rw [← coe_sum, ← EReal.coe_add]
  exact congrArg (fun x : ℝ => (x : EReal)) (St_succ (LA (hq g c)) (fun s => xr s c) (DT (hq g c)) br n k).symm

include hcu hdt hX hB hC hS in
theorem Y_real (hn : n < 16) (hpos : ∀ h s, s < 4096 → 0 < DT h s) (r c : Fin 256) :
    YKf cu dt X Bm Cm g r c + (∑ k, Cm r k * S k c) * hl (Ideal.exp (cu r (hd g c)))
      = ((Oall (LA (hq g c)) (fun s => xr s c) (DT (hq g c)) br cr (256 * n + r.val) : ℝ) : EReal) := by
  have hlog : ∀ s : Fin 256, Ideal.log ((DT (hq g c) (256 * n + s.val) : ℝ) : EReal) = ((Real.log (DT (hq g c) (256 * n + s.val)) : ℝ) : EReal) := fun s =>
    ilog _ (hpos _ _ (by omega))
  have hi : ∀ (p : Prop) [Decidable p] (y z : ℝ), (if p then (y : EReal) else 0) * (z : EReal) = (((if p then y else 0) * z : ℝ) : EReal) := fun p _ y z => by
    split
    · rw [EReal.coe_mul]
    · rw [zero_mul, zero_mul, EReal.coe_zero]
  unfold YKf
  simp only [hS, hcu, hdt, hX, hB, hC, hlog, ← EReal.coe_sub, iexp, ← EReal.coe_mul, hl_coe, ← coe_sum, hi]
  rw [← EReal.coe_add]
  exact congrArg (fun x : ℝ => (x : EReal)) (O_split (LA (hq g c)) (fun s => xr s c) (DT (hq g c)) br cr n r.val hn r.isLt (hpos _))
end

end Cert.Proof.Ssd
-- ==== Proof.SsdOutA.lean ====
module

public import proofs.«01_k».proof.Defs
public import proofs.«01_k».proof.Proof.SsdSide
public import proofs.«01_k».proof.Proof.Gen.SsdIdeal.Value

@[expose] public section

set_option maxRecDepth 16384

noncomputable section

open Idealize.ShloMosaic Idealize.ShloMosaic.TcCoe Idealize.SL.Sem
open Idealize.ShloMosaic.Pipeline (Dat)
open scoped BigOperators

namespace Cert.SsdIdeal.Spec

open Cert.SsdIdeal Cert.SsdIdeal.Gen Cert.Proof

variable (c : Dev nD) (i : grid0.Coords) (a2 : Memref sig .tc .vmem S256x2048 .bf16) (h2 : a2.IsWhole) (a3 : Memref sig .tc .vmem S256x1024 .bf16) (h3 : a3.IsWhole) (a4 : Memref sig .tc .vmem S256x128 .f32) (h4 : a4.IsWhole) (a5 : Memref sig .tc .vmem S4x2048 .f32) (h5 : a5.IsWhole) (a6 : Memref sig .tc .vmem S1x2048 .f32) (h6 : a6.IsWhole) (a7 : Memref sig .tc .vmem S1x128 .f32) (h7 : a7.IsWhole) (a8 : Memref sig .tc .vmem S1x128 .f32) (h8 : a8.IsWhole) (a9 : Memref sig .tc .vmem S1x1024 .f32) (h9 : a9.IsWhole) (a10 : Memref sig .tc .vmem S1x1024 .f32) (h10 : a10.IsWhole) (a11 : Memref sig .tc .vmem S256x1024 .bf16) (h11 : a11.IsWhole) (a12 : Memref sig .tc .vmem S16x2048 .f32) (h12 : a12.IsWhole) (a13 : Memref sig .tc .vmem S8x2048 .f32) (h13 : a13.IsWhole) (a14 : Memref sig .tc .vmem S256x2048 .f32) (h14 : a14.IsWhole) (a15 : Memref sig .tc .vmem S4x128x256 .f32) (h15 : a15.IsWhole) (hc : cond0_0 i) (x0 : Vec Ideal S256x2048 .bf16) (x1 : Vec Ideal S256x1024 .bf16) (x2 : Vec Ideal S256x128 .f32) (x3 : Vec Ideal S4x2048 .f32) (x4 : Vec Ideal S1x2048 .f32) (x5 x6 : Vec Ideal S1x128 .f32) (x7 x8 : Vec Ideal S1x1024 .f32)

theorem sout_A_1 : sout0_A_1 c i a2 h2 a3 h3 a4 h4 a5 h5 a6 h6 a7 h7 a8 h8 a9 h9 a10 h10 a11 h11 a12 h12 a13 h13 a14 h14 a15 h15 hc x0 x1 x2 x3 x4 x5 x6 x7 x8 = KT x0 := by
  funext y
  unfold sout0_A_1
  rw [View.read_writes_eq_canon _ _ _ (fun _ => scover0_A_1 ..)]
  unfold kernelRun0_A
  dsimp only
  sl_unfold_words
  simp only [View.readAt_eq_ld, Memref.IsWhole.read_unread, View.ld_unit_zero (S := S256x128) hz, View.ld_unit_zero (S := S1x128) hz, View.ld_unit_zero (S := S8x2048) hz, View.readCov_eq_canon', View.canon_unit_zero (S := S8x2048) hz, View.canon_cons_unit_zero (S := S8x2048) hz, View.canon_unit_zero (S := S4x128x256) hz3]
  obtain ⟨r, n, rfl⟩ : ∃ (r : Fin 8) (n : Fin 2048), y = ix2 r n := ⟨y 0, y 1, eq_ix2 y⟩
  refine (pay6_ix _ r n).trans ((ldT x0 _ _ _).trans ?_)
  exact congrArg x0 (ix2_eq _ _ _ _ (by show 240 + (8 + r.val) = 248 + r.val; omega) rfl)

theorem sout_A_3 : sout0_A_3 c i a2 h2 a3 h3 a4 h4 a5 h5 a6 h6 a7 h7 a8 h8 a9 h9 a10 h10 a11 h11 a12 h12 a13 h13 a14 h14 a15 h15 hc x0 x1 x2 x3 x4 x5 x6 x7 x8 = KS x0 x2 x3 x4 x5 x6 (fun _ _ => 0) (fun _ _ _ => 0) := by
  funext y
  unfold sout0_A_3
  rw [View.read_writes_eq_canon _ _ _ (fun _ => scover0_A_3 ..)]
  unfold kernelRun0_A
  dsimp only
  sl_unfold_words
  simp only [View.readAt_eq_ld, Memref.IsWhole.read_unread, View.ld_unit_zero (S := S256x128) hz, View.ld_unit_zero (S := S1x128) hz, View.ld_unit_zero (S := S8x2048) hz, View.readCov_eq_canon', View.canon_unit_zero (S := S8x2048) hz, View.canon_cons_unit_zero (S := S8x2048) hz, View.canon_unit_zero (S := S4x128x256) hz3]
  rw [canon8 (XA x0 x3 x4 (fun _ _ => 0))]
  case hs0 =>
    intro r n
    exact (small0 _ _ _ _ _ _ _ _ _ r n).trans (sideS x0 x3 x4 (fun _ _ => 0) _ r _ _ _ _ _ _ _ _ _ _ (fun s => ld0 0 x0 _ s n) (ld0 0 x0 _ _ n) (ld4 0 x4 _ n) (ld3 3 0 x3 _ n) (ld3 2 0 x3 _ n) (ld3 1 0 x3 _ n) (ld3 0 0 x3 _ n) (ext_ld (fun _ _ => 0) _ hwA _ _ 7 0 _ r n) (ext_ld (fun _ _ => 0) _ hwA _ _ 6 0 _ r n) (ext_ld (fun _ _ => 0) _ hwA _ _ 5 0 _ r n))
  case hb0 =>
    intro r n h
    exact (big0 _ _ _ _ _ _ r n).trans (sideB x0 x3 x4 (fun _ _ => 0) _ r h _ _ _ _ _ _ _ (fun s => ld0 0 x0 _ s n) (ld0 0 x0 _ _ n) (ld4 0 x4 _ n) (ld3 3 0 x3 _ n) (ld3 2 0 x3 _ n) (ld3 1 0 x3 _ n) (ld3 0 0 x3 _ n))
  case hs1 =>
    intro r n
    exact (small1 _ _ _ _ _ _ _ _ _ r n).trans (sideS x0 x3 x4 (fun _ _ => 0) _ r _ _ _ _ _ _ _ _ _ _ (fun s => ld0 512 x0 _ s n) (ld0 512 x0 _ _ n) (ld4 512 x4 _ n) (ld3 3 512 x3 _ n) (ld3 2 512 x3 _ n) (ld3 1 512 x3 _ n) (ld3 0 512 x3 _ n) (ext_ld (fun _ _ => 0) _ hwA _ _ 7 512 _ r n) (ext_ld (fun _ _ => 0) _ hwA _ _ 6 512 _ r n) (ext_ld (fun _ _ => 0) _ hwA _ _ 5 512 _ r n))
  case hb1 =>
    intro r n h
    exact (big1 _ _ _ _ _ _ r n).trans (sideB x0 x3 x4 (fun _ _ => 0) _ r h _ _ _ _ _ _ _ (fun s => ld0 512 x0 _ s n) (ld0 512 x0 _ _ n) (ld4 512 x4 _ n) (ld3 3 512 x3 _ n) (ld3 2 512 x3 _ n) (ld3 1 512 x3 _ n) (ld3 0 512 x3 _ n))
  case hs2 =>
    intro r n
    exact (small2 _ _ _ _ _ _ _ _ _ r n).trans (sideS x0 x3 x4 (fun _ _ => 0) _ r _ _ _ _ _ _ _ _ _ _ (fun s => ld0 1024 x0 _ s n) (ld0 1024 x0 _ _ n) (ld4 1024 x4 _ n) (ld3 3 1024 x3 _ n) (ld3 2 1024 x3 _ n) (ld3 1 1024 x3 _ n) (ld3 0 1024 x3 _ n) (ext_ld (fun _ _ => 0) _ hwA _ _ 7 1024 _ r n) (ext_ld (fun _ _ => 0) _ hwA _ _ 6 1024 _ r n) (ext_ld (fun _ _ => 0) _ hwA _ _ 5 1024 _ r n))
  case hb2 =>
    intro r n h
    exact (big2 _ _ _ _ _ _ r n).trans (sideB x0 x3 x4 (fun _ _ => 0) _ r h _ _ _ _ _ _ _ (fun s => ld0 1024 x0 _ s n) (ld0 1024 x0 _ _ n) (ld4 1024 x4 _ n) (ld3 3 1024 x3 _ n) (ld3 2 1024 x3 _ n) (ld3 1 1024 x3 _ n) (ld3 0 1024 x3 _ n))
  case hs3 =>
    intro r n
    exact (small3 _ _ _ _ _ _ _ _ _ r n).trans (sideS x0 x3 x4 (fun _ _ => 0) _ r _ _ _ _ _ _ _ _ _ _ (fun s => ld0 1536 x0 _ s n) (ld0 1536 x0 _ _ n) (ld4 1536 x4 _ n) (ld3 3 1536 x3 _ n) (ld3 2 1536 x3 _ n) (ld3 1 1536 x3 _ n) (ld3 0 1536 x3 _ n) (ext_ld (fun _ _ => 0) _ hwA _ _ 7 1536 _ r n) (ext_ld (fun _ _ => 0) _ hwA _ _ 6 1536 _ r n) (ext_ld (fun _ _ => 0) _ hwA _ _ 5 1536 _ r n))
  case hb3 =>
    intro r n h
    exact (big3 _ _ _ _ _ _ r n).trans (sideB x0 x3 x4 (fun _ _ => 0) _ r h _ _ _ _ _ _ _ (fun s => ld0 1536 x0 _ s n) (ld0 1536 x0 _ _ n) (ld4 1536 x4 _ n) (ld3 3 1536 x3 _ n) (ld3 2 1536 x3 _ n) (ld3 1 1536 x3 _ n) (ld3 0 1536 x3 _ n))
  refine View.canon_append_of_pieces (Val := Elt Ideal) (e := .f32) (KS x0 x2 x3 x4 x5 x6 (fun _ _ => 0) (fun _ _ _ => 0)) _ [_, _, _, _] ?_ y (View.cover_of_tiledBy _ ![1, 128, 256] (by sl_kernel_rfl) y)
  intro p hp
  simp only [List.mem_cons, List.not_mem_nil, or_false] at hp
  rcases hp with rfl | rfl | rfl | rfl
  · intro z
    obtain ⟨k, d, rfl⟩ := z3 z
    refine Eq.trans ?_ ((congrArg _ (idxs 3 3 rfl inb_S4x128x256_S1x128x256_3_0_0 k d)).trans (rfl : _ = KSg x0 x2 x3 x4 x5 x6 (fun _ _ => 0) (fun _ _ _ => 0) 3 k d)).symm
    refine (st3_ix _ _ _ _ _ _ _ _ k d).trans ?_
    simp only [pay38_ix, pay33_ix, ixx 3 768 rfl, ixb 3 1408 rfl, ixc 3 1920 rfl, ldd3, ldz3, lds3, lza3]
    exact SKf_congr k d (fun _ _ => rfl)
  · intro z
    obtain ⟨k, d, rfl⟩ := z3 z
    refine Eq.trans ?_ ((congrArg _ (idxs 2 2 rfl inb_S4x128x256_S1x128x256_2_0_0 k d)).trans (rfl : _ = KSg x0 x2 x3 x4 x5 x6 (fun _ _ => 0) (fun _ _ _ => 0) 2 k d)).symm
    refine (st2_ix _ _ _ _ _ _ _ _ k d).trans ?_
    simp only [pay38_ix, pay33_ix, ixx 2 512 rfl, ixb 2 1280 rfl, ixc 2 1792 rfl, ldd2, ldz2, lds2, lza2]
    exact SKf_congr k d (fun _ _ => rfl)
  · intro z
    obtain ⟨k, d, rfl⟩ := z3 z
    refine Eq.trans ?_ ((congrArg _ (idxs 1 1 rfl inb_S4x128x256_S1x128x256_1_0_0 k d)).trans (rfl : _ = KSg x0 x2 x3 x4 x5 x6 (fun _ _ => 0) (fun _ _ _ => 0) 1 k d)).symm
    refine (st1_ix _ _ _ _ _ _ _ _ k d).trans ?_
    simp only [pay38_ix, pay33_ix, ixx 1 256 rfl, ixb 1 1152 rfl, ixc 1 1664 rfl, ldd1, ldz1, lds1, lza1]
    exact SKf_congr k d (fun _ _ => rfl)
  · intro z
    obtain ⟨k, d, rfl⟩ := z3 z
    refine Eq.trans ?_ ((congrArg _ (idxs 0 0 rfl inb_S4x128x256_S1x128x256_0_0_0 k d)).trans (rfl : _ = KSg x0 x2 x3 x4 x5 x6 (fun _ _ => 0) (fun _ _ _ => 0) 0 k d)).symm
    refine (st0_ix _ _ _ _ _ _ _ _ k d).trans ?_
    simp only [pay38_ix, pay33_ix, ixx 0 0 rfl, ixb 0 1024 rfl, ixc 0 1536 rfl, ldd0, ldz0, lds0, lza0]
    exact SKf_congr k d (fun _ _ => rfl)

theorem out_A : out0_A_9 c i a2 h2 a3 h3 a4 h4 a5 h5 a6 h6 a7 h7 a8 h8 a9 h9 a10 h10 a11 h11 a12 h12 a13 h13 a14 h14 a15 h15 hc x0 x1 x2 x3 x4 x5 x6 x7 x8 = KO x0 x1 x2 x3 x4 x5 x6 x7 x8 (fun _ _ => 0) (fun _ _ _ => 0) := by
  funext y
  unfold out0_A_9
  rw [View.read_writes_eq_canon _ _ _ (fun _ => cover0_A_9 ..)]
  unfold kernelRun0_A
  dsimp only
  sl_unfold_words
  simp only [View.readAt_eq_ld, Memref.IsWhole.read_unread, View.ld_unit_zero (S := S256x128) hz, View.ld_unit_zero (S := S1x128) hz, View.ld_unit_zero (S := S8x2048) hz, View.readCov_eq_canon', View.canon_unit_zero (S := S8x2048) hz, View.canon_cons_unit_zero (S := S8x2048) hz, View.canon_unit_zero (S := S4x128x256) hz3]
  rw [canon8 (XA x0 x3 x4 (fun _ _ => 0))]
  case hs0 =>
    intro r n
    exact (small0 _ _ _ _ _ _ _ _ _ r n).trans (sideS x0 x3 x4 (fun _ _ => 0) _ r _ _ _ _ _ _ _ _ _ _ (fun s => ld0 0 x0 _ s n) (ld0 0 x0 _ _ n) (ld4 0 x4 _ n) (ld3 3 0 x3 _ n) (ld3 2 0 x3 _ n) (ld3 1 0 x3 _ n) (ld3 0 0 x3 _ n) (ext_ld (fun _ _ => 0) _ hwA _ _ 7 0 _ r n) (ext_ld (fun _ _ => 0) _ hwA _ _ 6 0 _ r n) (ext_ld (fun _ _ => 0) _ hwA _ _ 5 0 _ r n))
  case hb0 =>
    intro r n h
    exact (big0 _ _ _ _ _ _ r n).trans (sideB x0 x3 x4 (fun _ _ => 0) _ r h _ _ _ _ _ _ _ (fun s => ld0 0 x0 _ s n) (ld0 0 x0 _ _ n) (ld4 0 x4 _ n) (ld3 3 0 x3 _ n) (ld3 2 0 x3 _ n) (ld3 1 0 x3 _ n) (ld3 0 0 x3 _ n))
  case hs1 =>
    intro r n
    exact (small1 _ _ _ _ _ _ _ _ _ r n).trans (sideS x0 x3 x4 (fun _ _ => 0) _ r _ _ _ _ _ _ _ _ _ _ (fun s => ld0 512 x0 _ s n) (ld0 512 x0 _ _ n) (ld4 512 x4 _ n) (ld3 3 512 x3 _ n) (ld3 2 512 x3 _ n) (ld3 1 512 x3 _ n) (ld3 0 512 x3 _ n) (ext_ld (fun _ _ => 0) _ hwA _ _ 7 512 _ r n) (ext_ld (fun _ _ => 0) _ hwA _ _ 6 512 _ r n) (ext_ld (fun _ _ => 0) _ hwA _ _ 5 512 _ r n))
  case hb1 =>
    intro r n h
    exact (big1 _ _ _ _ _ _ r n).trans (sideB x0 x3 x4 (fun _ _ => 0) _ r h _ _ _ _ _ _ _ (fun s => ld0 512 x0 _ s n) (ld0 512 x0 _ _ n) (ld4 512 x4 _ n) (ld3 3 512 x3 _ n) (ld3 2 512 x3 _ n) (ld3 1 512 x3 _ n) (ld3 0 512 x3 _ n))
  case hs2 =>
    intro r n
    exact (small2 _ _ _ _ _ _ _ _ _ r n).trans (sideS x0 x3 x4 (fun _ _ => 0) _ r _ _ _ _ _ _ _ _ _ _ (fun s => ld0 1024 x0 _ s n) (ld0 1024 x0 _ _ n) (ld4 1024 x4 _ n) (ld3 3 1024 x3 _ n) (ld3 2 1024 x3 _ n) (ld3 1 1024 x3 _ n) (ld3 0 1024 x3 _ n) (ext_ld (fun _ _ => 0) _ hwA _ _ 7 1024 _ r n) (ext_ld (fun _ _ => 0) _ hwA _ _ 6 1024 _ r n) (ext_ld (fun _ _ => 0) _ hwA _ _ 5 1024 _ r n))
  case hb2 =>
    intro r n h
    exact (big2 _ _ _ _ _ _ r n).trans (sideB x0 x3 x4 (fun _ _ => 0) _ r h _ _ _ _ _ _ _ (fun s => ld0 1024 x0 _ s n) (ld0 1024 x0 _ _ n) (ld4 1024 x4 _ n) (ld3 3 1024 x3 _ n) (ld3 2 1024 x3 _ n) (ld3 1 1024 x3 _ n) (ld3 0 1024 x3 _ n))
  case hs3 =>
    intro r n
    exact (small3 _ _ _ _ _ _ _ _ _ r n).trans (sideS x0 x3 x4 (fun _ _ => 0) _ r _ _ _ _ _ _ _ _ _ _ (fun s => ld0 1536 x0 _ s n) (ld0 1536 x0 _ _ n) (ld4 1536 x4 _ n) (ld3 3 1536 x3 _ n) (ld3 2 1536 x3 _ n) (ld3 1 1536 x3 _ n) (ld3 0 1536 x3 _ n) (ext_ld (fun _ _ => 0) _ hwA _ _ 7 1536 _ r n) (ext_ld (fun _ _ => 0) _ hwA _ _ 6 1536 _ r n) (ext_ld (fun _ _ => 0) _ hwA _ _ 5 1536 _ r n))
  case hb3 =>
    intro r n h
    exact (big3 _ _ _ _ _ _ r n).trans (sideB x0 x3 x4 (fun _ _ => 0) _ r h _ _ _ _ _ _ _ (fun s => ld0 1536 x0 _ s n) (ld0 1536 x0 _ _ n) (ld4 1536 x4 _ n) (ld3 3 1536 x3 _ n) (ld3 2 1536 x3 _ n) (ld3 1 1536 x3 _ n) (ld3 0 1536 x3 _ n))
  refine View.canon_append_of_pieces (Val := Elt Ideal) (e := .bf16) (KO x0 x1 x2 x3 x4 x5 x6 x7 x8 (fun _ _ => 0) (fun _ _ _ => 0)) _ [_, _, _, _] ?_ y (View.cover_of_tiledL _ ![256, 256] (by sl_kernel_rfl) y)
  intro p hp
  simp only [List.mem_cons, List.not_mem_nil, or_false] at hp
  rcases hp with rfl | rfl | rfl | rfl
  · intro z
    obtain ⟨r, d, rfl⟩ : ∃ (r : Fin 256) (d : Fin 256), z = ix2 r d := ⟨z 0, z 1, eq_ix2 z⟩
    refine Eq.trans ?_ ((congrArg _ (idxo 3 768 rfl inb_S256x1024_S256x256_0_768 r d)).trans (KO_col x0 x1 x2 x3 x4 x5 x6 x7 x8 (fun _ _ => 0) (fun _ _ _ => 0) 3 r d)).symm
    refine (o3_ix _ _ _ _ _ _ _ _ _ _ _ _ r d).trans ?_
    simp only [pay38_ix, pay33_ix, ixx 3 768 rfl, ixb 3 1408 rfl, ixc 3 1920 rfl, ldd3, ldz3, lds3, lza3]
    exact OKf_congr r d (fun _ _ => rfl) (fun c => ldd3 x7 _ c) (fun r c => ldz3 x1 _ r c) (fun c => ldd3 x8 _ c)
  · intro z
    obtain ⟨r, d, rfl⟩ : ∃ (r : Fin 256) (d : Fin 256), z = ix2 r d := ⟨z 0, z 1, eq_ix2 z⟩
    refine Eq.trans ?_ ((congrArg _ (idxo 2 512 rfl inb_S256x1024_S256x256_0_512 r d)).trans (KO_col x0 x1 x2 x3 x4 x5 x6 x7 x8 (fun _ _ => 0) (fun _ _ _ => 0) 2 r d)).symm
    refine (o2_ix _ _ _ _ _ _ _ _ _ _ _ _ r d).trans ?_
    simp only [pay38_ix, pay33_ix, ixx 2 512 rfl, ixb 2 1280 rfl, ixc 2 1792 rfl, ldd2, ldz2, lds2, lza2]
    exact OKf_congr r d (fun _ _ => rfl) (fun c => ldd2 x7 _ c) (fun r c => ldz2 x1 _ r c) (fun c => ldd2 x8 _ c)
  · intro z
    obtain ⟨r, d, rfl⟩ : ∃ (r : Fin 256) (d : Fin 256), z = ix2 r d := ⟨z 0, z 1, eq_ix2 z⟩
    refine Eq.trans ?_ ((congrArg _ (idxo 1 256 rfl inb_S256x1024_S256x256_0_256 r d)).trans (KO_col x0 x1 x2 x3 x4 x5 x6 x7 x8 (fun _ _ => 0) (fun _ _ _ => 0) 1 r d)).symm
    refine (o1_ix _ _ _ _ _ _ _ _ _ _ _ _ r d).trans ?_
    simp only [pay38_ix, pay33_ix, ixx 1 256 rfl, ixb 1 1152 rfl, ixc 1 1664 rfl, ldd1, ldz1, lds1, lza1]
    exact OKf_congr r d (fun _ _ => rfl) (fun c => ldd1 x7 _ c) (fun r c => ldz1 x1 _ r c) (fun c => ldd1 x8 _ c)
  · intro z
    obtain ⟨r, d, rfl⟩ : ∃ (r : Fin 256) (d : Fin 256), z = ix2 r d := ⟨z 0, z 1, eq_ix2 z⟩
    refine Eq.trans ?_ ((congrArg _ (idxo 0 0 rfl inb_S256x1024_S256x256_0_0 r d)).trans (KO_col x0 x1 x2 x3 x4 x5 x6 x7 x8 (fun _ _ => 0) (fun _ _ _ => 0) 0 r d)).symm
    refine (o0_ix _ _ _ _ _ _ _ _ _ _ _ _ r d).trans ?_
    simp only [pay38_ix, pay33_ix, ixx 0 0 rfl, ixb 0 1024 rfl, ixc 0 1536 rfl, ldd0, ldz0, lds0, lza0]
    exact OKf_congr r d (fun _ _ => rfl) (fun c => ldd0 x7 _ c) (fun r c => ldz0 x1 _ r c) (fun c => ldd0 x8 _ c)

end Cert.SsdIdeal.Spec
-- ==== Proof.SsdOutB.lean ====
module

public import proofs.«01_k».proof.Defs
public import proofs.«01_k».proof.Proof.SsdSide
public import proofs.«01_k».proof.Proof.Gen.SsdIdeal.Value

@[expose] public section

set_option maxRecDepth 16384

noncomputable section

open Idealize.ShloMosaic Idealize.ShloMosaic.TcCoe Idealize.SL.Sem
open Idealize.ShloMosaic.Pipeline (Dat)
open scoped BigOperators

namespace Cert.SsdIdeal.Spec

open Cert.SsdIdeal Cert.SsdIdeal.Gen Cert.Proof

variable (c : Dev nD) (i : grid0.Coords) (a2 : Memref sig .tc .vmem S256x2048 .bf16) (h2 : a2.IsWhole) (a3 : Memref sig .tc .vmem S256x1024 .bf16) (h3 : a3.IsWhole) (a4 : Memref sig .tc .vmem S256x128 .f32) (h4 : a4.IsWhole) (a5 : Memref sig .tc .vmem S4x2048 .f32) (h5 : a5.IsWhole) (a6 : Memref sig .tc .vmem S1x2048 .f32) (h6 : a6.IsWhole) (a7 : Memref sig .tc .vmem S1x128 .f32) (h7 : a7.IsWhole) (a8 : Memref sig .tc .vmem S1x128 .f32) (h8 : a8.IsWhole) (a9 : Memref sig .tc .vmem S1x1024 .f32) (h9 : a9.IsWhole) (a10 : Memref sig .tc .vmem S1x1024 .f32) (h10 : a10.IsWhole) (a11 : Memref sig .tc .vmem S256x1024 .bf16) (h11 : a11.IsWhole) (a12 : Memref sig .tc .vmem S16x2048 .f32) (h12 : a12.IsWhole) (a13 : Memref sig .tc .vmem S8x2048 .f32) (h13 : a13.IsWhole) (a14 : Memref sig .tc .vmem S256x2048 .f32) (h14 : a14.IsWhole) (a15 : Memref sig .tc .vmem S4x128x256 .f32) (h15 : a15.IsWhole) (hc : ¬cond0_0 i) (x0 : Vec Ideal S256x2048 .bf16) (x1 : Vec Ideal S256x1024 .bf16) (x2 : Vec Ideal S256x128 .f32) (x3 : Vec Ideal S4x2048 .f32) (x4 : Vec Ideal S1x2048 .f32) (x5 x6 : Vec Ideal S1x128 .f32) (x7 x8 : Vec Ideal S1x1024 .f32) (xs1 : Vec Ideal S8x2048 .f32) (xs3 : Vec Ideal S4x128x256 .f32)

theorem sout_B_1 : sout0_B_1 c i a2 h2 a3 h3 a4 h4 a5 h5 a6 h6 a7 h7 a8 h8 a9 h9 a10 h10 a11 h11 a12 h12 a13 h13 a14 h14 a15 h15 hc x0 x1 x2 x3 x4 x5 x6 x7 x8 xs1 xs3 = KT x0 := by
  funext y
  unfold sout0_B_1
  rw [View.read_writes_eq_canon _ _ _ (fun _ => scover0_B_1 ..)]
  unfold kernelRun0_B
  dsimp only
  sl_unfold_words
  simp only [View.readAt_eq_ld, Memref.IsWhole.read_unread, View.ld_unit_zero (S := S256x128) hz, View.ld_unit_zero (S := S1x128) hz, View.ld_unit_zero (S := S8x2048) hz, View.readCov_eq_canon', View.canon_unit_zero (S := S8x2048) hz, View.canon_cons_unit_zero (S := S8x2048) hz, View.canon_unit_zero (S := S4x128x256) hz3]
  obtain ⟨r, n, rfl⟩ : ∃ (r : Fin 8) (n : Fin 2048), y = ix2 r n := ⟨y 0, y 1, eq_ix2 y⟩
  refine (pay6_ix _ r n).trans ((ldT x0 _ _ _).trans ?_)
  exact congrArg x0 (ix2_eq _ _ _ _ (by show 240 + (8 + r.val) = 248 + r.val; omega) rfl)

theorem sout_B_3 : sout0_B_3 c i a2 h2 a3 h3 a4 h4 a5 h5 a6 h6 a7 h7 a8 h8 a9 h9 a10 h10 a11 h11 a12 h12 a13 h13 a14 h14 a15 h15 hc x0 x1 x2 x3 x4 x5 x6 x7 x8 xs1 xs3 = KS x0 x2 x3 x4 x5 x6 (fun s n => xs1 (ix2 s n)) (fun g k c => xs3 (ix3 g k c)) := by
  funext y
  unfold sout0_B_3
  rw [View.read_writes_eq_canon _ _ _ (fun _ => scover0_B_3 ..)]
  unfold kernelRun0_B
  dsimp only
  sl_unfold_words
  simp only [View.readAt_eq_ld, Memref.IsWhole.read_unread, View.ld_unit_zero (S := S256x128) hz, View.ld_unit_zero (S := S1x128) hz, View.ld_unit_zero (S := S8x2048) hz, View.readCov_eq_canon', View.canon_unit_zero (S := S8x2048) hz, View.canon_cons_unit_zero (S := S8x2048) hz, View.canon_unit_zero (S := S4x128x256) hz3]
  rw [canon8 (XA x0 x3 x4 (fun s n => xs1 (ix2 s n)))]
  case hs0 =>
    intro r n
    exact (small0 _ _ _ _ _ _ _ _ _ r n).trans (sideS x0 x3 x4 (fun s n => xs1 (ix2 s n)) _ r _ _ _ _ _ _ _ _ _ _ (fun s => ld0 0 x0 _ s n) (ld0 0 x0 _ _ n) (ld4 0 x4 _ n) (ld3 3 0 x3 _ n) (ld3 2 0 x3 _ n) (ld3 1 0 x3 _ n) (ld3 0 0 x3 _ n) (ext_ld (fun s n => xs1 (ix2 s n)) _ (pay4_ix xs1) _ _ 7 0 _ r n) (ext_ld (fun s n => xs1 (ix2 s n)) _ (pay4_ix xs1) _ _ 6 0 _ r n) (ext_ld (fun s n => xs1 (ix2 s n)) _ (pay4_ix xs1) _ _ 5 0 _ r n))
  case hb0 =>
    intro r n h
    exact (big0 _ _ _ _ _ _ r n).trans (sideB x0 x3 x4 (fun s n => xs1 (ix2 s n)) _ r h _ _ _ _ _ _ _ (fun s => ld0 0 x0 _ s n) (ld0 0 x0 _ _ n) (ld4 0 x4 _ n) (ld3 3 0 x3 _ n) (ld3 2 0 x3 _ n) (ld3 1 0 x3 _ n) (ld3 0 0 x3 _ n))
  case hs1 =>
    intro r n
    exact (small1 _ _ _ _ _ _ _ _ _ r n).trans (sideS x0 x3 x4 (fun s n => xs1 (ix2 s n)) _ r _ _ _ _ _ _ _ _ _ _ (fun s => ld0 512 x0 _ s n) (ld0 512 x0 _ _ n) (ld4 512 x4 _ n) (ld3 3 512 x3 _ n) (ld3 2 512 x3 _ n) (ld3 1 512 x3 _ n) (ld3 0 512 x3 _ n) (ext_ld (fun s n => xs1 (ix2 s n)) _ (pay4_ix xs1) _ _ 7 512 _ r n) (ext_ld (fun s n => xs1 (ix2 s n)) _ (pay4_ix xs1) _ _ 6 512 _ r n) (ext_ld (fun s n => xs1 (ix2 s n)) _ (pay4_ix xs1) _ _ 5 512 _ r n))
  case hb1 =>
    intro r n h
    exact (big1 _ _ _ _ _ _ r n).trans (sideB x0 x3 x4 (fun s n => xs1 (ix2 s n)) _ r h _ _ _ _ _ _ _ (fun s => ld0 512 x0 _ s n) (ld0 512 x0 _ _ n) (ld4 512 x4 _ n) (ld3 3 512 x3 _ n) (ld3 2 512 x3 _ n) (ld3 1 512 x3 _ n) (ld3 0 512 x3 _ n))
  case hs2 =>
    intro r n
    exact (small2 _ _ _ _ _ _ _ _ _ r n).trans (sideS x0 x3 x4 (fun s n => xs1 (ix2 s n)) _ r _ _ _ _ _ _ _ _ _ _ (fun s => ld0 1024 x0 _ s n) (ld0 1024 x0 _ _ n) (ld4 1024 x4 _ n) (ld3 3 1024 x3 _ n) (ld3 2 1024 x3 _ n) (ld3 1 1024 x3 _ n) (ld3 0 1024 x3 _ n) (ext_ld (fun s n => xs1 (ix2 s n)) _ (pay4_ix xs1) _ _ 7 1024 _ r n) (ext_ld (fun s n => xs1 (ix2 s n)) _ (pay4_ix xs1) _ _ 6 1024 _ r n) (ext_ld (fun s n => xs1 (ix2 s n)) _ (pay4_ix xs1) _ _ 5 1024 _ r n))
  case hb2 =>
    intro r n h
    exact (big2 _ _ _ _ _ _ r n).trans (sideB x0 x3 x4 (fun s n => xs1 (ix2 s n)) _ r h _ _ _ _ _ _ _ (fun s => ld0 1024 x0 _ s n) (ld0 1024 x0 _ _ n) (ld4 1024 x4 _ n) (ld3 3 1024 x3 _ n) (ld3 2 1024 x3 _ n) (ld3 1 1024 x3 _ n) (ld3 0 1024 x3 _ n))
  case hs3 =>
    intro r n
    exact (small3 _ _ _ _ _ _ _ _ _ r n).trans (sideS x0 x3 x4 (fun s n => xs1 (ix2 s n)) _ r _ _ _ _ _ _ _ _ _ _ (fun s => ld0 1536 x0 _ s n) (ld0 1536 x0 _ _ n) (ld4 1536 x4 _ n) (ld3 3 1536 x3 _ n) (ld3 2 1536 x3 _ n) (ld3 1 1536 x3 _ n) (ld3 0 1536 x3 _ n) (ext_ld (fun s n => xs1 (ix2 s n)) _ (pay4_ix xs1) _ _ 7 1536 _ r n) (ext_ld (fun s n => xs1 (ix2 s n)) _ (pay4_ix xs1) _ _ 6 1536 _ r n) (ext_ld (fun s n => xs1 (ix2 s n)) _ (pay4_ix xs1) _ _ 5 1536 _ r n))
  case hb3 =>
    intro r n h
    exact (big3 _ _ _ _ _ _ r n).trans (sideB x0 x3 x4 (fun s n => xs1 (ix2 s n)) _ r h _ _ _ _ _ _ _ (fun s => ld0 1536 x0 _ s n) (ld0 1536 x0 _ _ n) (ld4 1536 x4 _ n) (ld3 3 1536 x3 _ n) (ld3 2 1536 x3 _ n) (ld3 1 1536 x3 _ n) (ld3 0 1536 x3 _ n))
  refine View.canon_append_of_pieces (Val := Elt Ideal) (e := .f32) (KS x0 x2 x3 x4 x5 x6 (fun s n => xs1 (ix2 s n)) (fun g k c => xs3 (ix3 g k c))) _ [_, _, _, _] ?_ y (View.cover_of_tiledBy _ ![1, 128, 256] (by sl_kernel_rfl) y)
  intro p hp
  simp only [List.mem_cons, List.not_mem_nil, or_false] at hp
  rcases hp with rfl | rfl | rfl | rfl
  · intro z
    obtain ⟨k, d, rfl⟩ := z3 z
    refine Eq.trans ?_ ((congrArg _ (idxs 3 3 rfl inb_S4x128x256_S1x128x256_3_0_0 k d)).trans (rfl : _ = KSg x0 x2 x3 x4 x5 x6 (fun s n => xs1 (ix2 s n)) (fun g k c => xs3 (ix3 g k c)) 3 k d)).symm
    refine (st3_ix _ _ _ _ _ _ _ _ k d).trans ?_
    simp only [pay38_ix, pay33_ix, ixx 3 768 rfl, ixb 3 1408 rfl, ixc 3 1920 rfl, ldd3, ldz3, lds3, lza3]
    exact SKf_congr k d (fun k c => lds3 xs3 _ k c)
  · intro z
    obtain ⟨k, d, rfl⟩ := z3 z
    refine Eq.trans ?_ ((congrArg _ (idxs 2 2 rfl inb_S4x128x256_S1x128x256_2_0_0 k d)).trans (rfl : _ = KSg x0 x2 x3 x4 x5 x6 (fun s n => xs1 (ix2 s n)) (fun g k c => xs3 (ix3 g k c)) 2 k d)).symm
    refine (st2_ix _ _ _ _ _ _ _ _ k d).trans ?_
    simp only [pay38_ix, pay33_ix, ixx 2 512 rfl, ixb 2 1280 rfl, ixc 2 1792 rfl, ldd2, ldz2, lds2, lza2]
    exact SKf_congr k d (fun k c => lds2 xs3 _ k c)
  · intro z
    obtain ⟨k, d, rfl⟩ := z3 z
    refine Eq.trans ?_ ((congrArg _ (idxs 1 1 rfl inb_S4x128x256_S1x128x256_1_0_0 k d)).trans (rfl : _ = KSg x0 x2 x3 x4 x5 x6 (fun s n => xs1 (ix2 s n)) (fun g k c => xs3 (ix3 g k c)) 1 k d)).symm
    refine (st1_ix _ _ _ _ _ _ _ _ k d).trans ?_
    simp only [pay38_ix, pay33_ix, ixx 1 256 rfl, ixb 1 1152 rfl, ixc 1 1664 rfl, ldd1, ldz1, lds1, lza1]
    exact SKf_congr k d (fun k c => lds1 xs3 _ k c)
  · intro z
    obtain ⟨k, d, rfl⟩ := z3 z
    refine Eq.trans ?_ ((congrArg _ (idxs 0 0 rfl inb_S4x128x256_S1x128x256_0_0_0 k d)).trans (rfl : _ = KSg x0 x2 x3 x4 x5 x6 (fun s n => xs1 (ix2 s n)) (fun g k c => xs3 (ix3 g k c)) 0 k d)).symm
    refine (st0_ix _ _ _ _ _ _ _ _ k d).trans ?_
    simp only [pay38_ix, pay33_ix, ixx 0 0 rfl, ixb 0 1024 rfl, ixc 0 1536 rfl, ldd0, ldz0, lds0, lza0]
    exact SKf_congr k d (fun k c => lds0 xs3 _ k c)

theorem out_B : out0_B_9 c i a2 h2 a3 h3 a4 h4 a5 h5 a6 h6 a7 h7 a8 h8 a9 h9 a10 h10 a11 h11 a12 h12 a13 h13 a14 h14 a15 h15 hc x0 x1 x2 x3 x4 x5 x6 x7 x8 xs1 xs3 = KO x0 x1 x2 x3 x4 x5 x6 x7 x8 (fun s n => xs1 (ix2 s n)) (fun g k c => xs3 (ix3 g k c)) := by
  funext y
  unfold out0_B_9
  rw [View.read_writes_eq_canon _ _ _ (fun _ => cover0_B_9 ..)]
  unfold kernelRun0_B
  dsimp only
  sl_unfold_words
  simp only [View.readAt_eq_ld, Memref.IsWhole.read_unread, View.ld_unit_zero (S := S256x128) hz, View.ld_unit_zero (S := S1x128) hz, View.ld_unit_zero (S := S8x2048) hz, View.readCov_eq_canon', View.canon_unit_zero (S := S8x2048) hz, View.canon_cons_unit_zero (S := S8x2048) hz, View.canon_unit_zero (S := S4x128x256) hz3]
  rw [canon8 (XA x0 x3 x4 (fun s n => xs1 (ix2 s n)))]
  case hs0 =>
    intro r n
    exact (small0 _ _ _ _ _ _ _ _ _ r n).trans (sideS x0 x3 x4 (fun s n => xs1 (ix2 s n)) _ r _ _ _ _ _ _ _ _ _ _ (fun s => ld0 0 x0 _ s n) (ld0 0 x0 _ _ n) (ld4 0 x4 _ n) (ld3 3 0 x3 _ n) (ld3 2 0 x3 _ n) (ld3 1 0 x3 _ n) (ld3 0 0 x3 _ n) (ext_ld (fun s n => xs1 (ix2 s n)) _ (pay4_ix xs1) _ _ 7 0 _ r n) (ext_ld (fun s n => xs1 (ix2 s n)) _ (pay4_ix xs1) _ _ 6 0 _ r n) (ext_ld (fun s n => xs1 (ix2 s n)) _ (pay4_ix xs1) _ _ 5 0 _ r n))
  case hb0 =>
    intro r n h
    exact (big0 _ _ _ _ _ _ r n).trans (sideB x0 x3 x4 (fun s n => xs1 (ix2 s n)) _ r h _ _ _ _ _ _ _ (fun s => ld0 0 x0 _ s n) (ld0 0 x0 _ _ n) (ld4 0 x4 _ n) (ld3 3 0 x3 _ n) (ld3 2 0 x3 _ n) (ld3 1 0 x3 _ n) (ld3 0 0 x3 _ n))
  case hs1 =>
    intro r n
    exact (small1 _ _ _ _ _ _ _ _ _ r n).trans (sideS x0 x3 x4 (fun s n => xs1 (ix2 s n)) _ r _ _ _ _ _ _ _ _ _ _ (fun s => ld0 512 x0 _ s n) (ld0 512 x0 _ _ n) (ld4 512 x4 _ n) (ld3 3 512 x3 _ n) (ld3 2 512 x3 _ n) (ld3 1 512 x3 _ n) (ld3 0 512 x3 _ n) (ext_ld (fun s n => xs1 (ix2 s n)) _ (pay4_ix xs1) _ _ 7 512 _ r n) (ext_ld (fun s n => xs1 (ix2 s n)) _ (pay4_ix xs1) _ _ 6 512 _ r n) (ext_ld (fun s n => xs1 (ix2 s n)) _ (pay4_ix xs1) _ _ 5 512 _ r n))
  case hb1 =>
    intro r n h
    exact (big1 _ _ _ _ _ _ r n).trans (sideB x0 x3 x4 (fun s n => xs1 (ix2 s n)) _ r h _ _ _ _ _ _ _ (fun s => ld0 512 x0 _ s n) (ld0 512 x0 _ _ n) (ld4 512 x4 _ n) (ld3 3 512 x3 _ n) (ld3 2 512 x3 _ n) (ld3 1 512 x3 _ n) (ld3 0 512 x3 _ n))
  case hs2 =>
    intro r n
    exact (small2 _ _ _ _ _ _ _ _ _ r n).trans (sideS x0 x3 x4 (fun s n => xs1 (ix2 s n)) _ r _ _ _ _ _ _ _ _ _ _ (fun s => ld0 1024 x0 _ s n) (ld0 1024 x0 _ _ n) (ld4 1024 x4 _ n) (ld3 3 1024 x3 _ n) (ld3 2 1024 x3 _ n) (ld3 1 1024 x3 _ n) (ld3 0 1024 x3 _ n) (ext_ld (fun s n => xs1 (ix2 s n)) _ (pay4_ix xs1) _ _ 7 1024 _ r n) (ext_ld (fun s n => xs1 (ix2 s n)) _ (pay4_ix xs1) _ _ 6 1024 _ r n) (ext_ld (fun s n => xs1 (ix2 s n)) _ (pay4_ix xs1) _ _ 5 1024 _ r n))
  case hb2 =>
    intro r n h
    exact (big2 _ _ _ _ _ _ r n).trans (sideB x0 x3 x4 (fun s n => xs1 (ix2 s n)) _ r h _ _ _ _ _ _ _ (fun s => ld0 1024 x0 _ s n) (ld0 1024 x0 _ _ n) (ld4 1024 x4 _ n) (ld3 3 1024 x3 _ n) (ld3 2 1024 x3 _ n) (ld3 1 1024 x3 _ n) (ld3 0 1024 x3 _ n))
  case hs3 =>
    intro r n
    exact (small3 _ _ _ _ _ _ _ _ _ r n).trans (sideS x0 x3 x4 (fun s n => xs1 (ix2 s n)) _ r _ _ _ _ _ _ _ _ _ _ (fun s => ld0 1536 x0 _ s n) (ld0 1536 x0 _ _ n) (ld4 1536 x4 _ n) (ld3 3 1536 x3 _ n) (ld3 2 1536 x3 _ n) (ld3 1 1536 x3 _ n) (ld3 0 1536 x3 _ n) (ext_ld (fun s n => xs1 (ix2 s n)) _ (pay4_ix xs1) _ _ 7 1536 _ r n) (ext_ld (fun s n => xs1 (ix2 s n)) _ (pay4_ix xs1) _ _ 6 1536 _ r n) (ext_ld (fun s n => xs1 (ix2 s n)) _ (pay4_ix xs1) _ _ 5 1536 _ r n))
  case hb3 =>
    intro r n h
    exact (big3 _ _ _ _ _ _ r n).trans (sideB x0 x3 x4 (fun s n => xs1 (ix2 s n)) _ r h _ _ _ _ _ _ _ (fun s => ld0 1536 x0 _ s n) (ld0 1536 x0 _ _ n) (ld4 1536 x4 _ n) (ld3 3 1536 x3 _ n) (ld3 2 1536 x3 _ n) (ld3 1 1536 x3 _ n) (ld3 0 1536 x3 _ n))
  refine View.canon_append_of_pieces (Val := Elt Ideal) (e := .bf16) (KO x0 x1 x2 x3 x4 x5 x6 x7 x8 (fun s n => xs1 (ix2 s n)) (fun g k c => xs3 (ix3 g k c))) _ [_, _, _, _] ?_ y (View.cover_of_tiledL _ ![256, 256] (by sl_kernel_rfl) y)
  intro p hp
  simp only [List.mem_cons, List.not_mem_nil, or_false] at hp
  rcases hp with rfl | rfl | rfl | rfl
  · intro z
    obtain ⟨r, d, rfl⟩ : ∃ (r : Fin 256) (d : Fin 256), z = ix2 r d := ⟨z 0, z 1, eq_ix2 z⟩
    refine Eq.trans ?_ ((congrArg _ (idxo 3 768 rfl inb_S256x1024_S256x256_0_768 r d)).trans (KO_col x0 x1 x2 x3 x4 x5 x6 x7 x8 (fun s n => xs1 (ix2 s n)) (fun g k c => xs3 (ix3 g k c)) 3 r d)).symm
    refine (o3_ix _ _ _ _ _ _ _ _ _ _ _ _ r d).trans ?_
    simp only [pay38_ix, pay33_ix, ixx 3 768 rfl, ixb 3 1408 rfl, ixc 3 1920 rfl, ldd3, ldz3, lds3, lza3]
    exact OKf_congr r d (fun k c => lds3 xs3 _ k c) (fun c => ldd3 x7 _ c) (fun r c => ldz3 x1 _ r c) (fun c => ldd3 x8 _ c)
  · intro z
    obtain ⟨r, d, rfl⟩ : ∃ (r : Fin 256) (d : Fin 256), z = ix2 r d := ⟨z 0, z 1, eq_ix2 z⟩
    refine Eq.trans ?_ ((congrArg _ (idxo 2 512 rfl inb_S256x1024_S256x256_0_512 r d)).trans (KO_col x0 x1 x2 x3 x4 x5 x6 x7 x8 (fun s n => xs1 (ix2 s n)) (fun g k c => xs3 (ix3 g k c)) 2 r d)).symm
    refine (o2_ix _ _ _ _ _ _ _ _ _ _ _ _ r d).trans ?_
    simp only [pay38_ix, pay33_ix, ixx 2 512 rfl, ixb 2 1280 rfl, ixc 2 1792 rfl, ldd2, ldz2, lds2, lza2]
    exact OKf_congr r d (fun k c => lds2 xs3 _ k c) (fun c => ldd2 x7 _ c) (fun r c => ldz2 x1 _ r c) (fun c => ldd2 x8 _ c)
  · intro z
    obtain ⟨r, d, rfl⟩ : ∃ (r : Fin 256) (d : Fin 256), z = ix2 r d := ⟨z 0, z 1, eq_ix2 z⟩
    refine Eq.trans ?_ ((congrArg _ (idxo 1 256 rfl inb_S256x1024_S256x256_0_256 r d)).trans (KO_col x0 x1 x2 x3 x4 x5 x6 x7 x8 (fun s n => xs1 (ix2 s n)) (fun g k c => xs3 (ix3 g k c)) 1 r d)).symm
    refine (o1_ix _ _ _ _ _ _ _ _ _ _ _ _ r d).trans ?_
    simp only [pay38_ix, pay33_ix, ixx 1 256 rfl, ixb 1 1152 rfl, ixc 1 1664 rfl, ldd1, ldz1, lds1, lza1]
    exact OKf_congr r d (fun k c => lds1 xs3 _ k c) (fun c => ldd1 x7 _ c) (fun r c => ldz1 x1 _ r c) (fun c => ldd1 x8 _ c)
  · intro z
    obtain ⟨r, d, rfl⟩ : ∃ (r : Fin 256) (d : Fin 256), z = ix2 r d := ⟨z 0, z 1, eq_ix2 z⟩
    refine Eq.trans ?_ ((congrArg _ (idxo 0 0 rfl inb_S256x1024_S256x256_0_0 r d)).trans (KO_col x0 x1 x2 x3 x4 x5 x6 x7 x8 (fun s n => xs1 (ix2 s n)) (fun g k c => xs3 (ix3 g k c)) 0 r d)).symm
    refine (o0_ix _ _ _ _ _ _ _ _ _ _ _ _ r d).trans ?_
    simp only [pay38_ix, pay33_ix, ixx 0 0 rfl, ixb 0 1024 rfl, ixc 0 1536 rfl, ldd0, ldz0, lds0, lza0]
    exact OKf_congr r d (fun k c => lds0 xs3 _ k c) (fun c => ldd0 x7 _ c) (fun r c => ldz0 x1 _ r c) (fun c => ldd0 x8 _ c)

end Cert.SsdIdeal.Spec
-- ==== Proof.SsdWin.lean ====
module

public import proofs.«01_k».proof.Defs
public import proofs.«01_k».proof.Proof.Real
public import proofs.«01_k».proof.Proof.SsdReal
public import proofs.«01_k».proof.Proof.SsdOutA
public import proofs.«01_k».proof.Proof.SsdOutB
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.Proof.Ssd

open Cert.Proof Cert.SsdIdeal.Spec

/-- A position of a sequence as a row of the array. -/
def rowI (b : Fin 8) (p : Fin 4096) : Fin 32768 := ⟨b.val * 4096 + p.val, by omega⟩

/-- The columns of the array: the convolved ones, the gate's, and a head's time step. -/
def cX (n : Fin 2048) : Fin 6656 := ⟨n.val, by omega⟩
def cZ (n : Fin 1024) : Fin 6656 := ⟨2048 + n.val, by omega⟩
def cH (h : Fin 16) : Fin 640 := ⟨512 + h.val, by omega⟩

variable (A0 : (⟨2, ![32768, 6656]⟩ : Shape).Idx → EReal) (A1 : (⟨2, ![32768, 640]⟩ : Shape).Idx → EReal) (A2 : (⟨2, ![4, 2048]⟩ : Shape).Idx → EReal)
  (A3 : (⟨1, ![2048]⟩ : Shape).Idx → EReal) (A4 A5 A6 : (⟨1, ![16]⟩ : Shape).Idx → EReal) (A7 : (⟨1, ![1024]⟩ : Shape).Idx → EReal)

/-- The row `j` positions before, nothing before the sequence. -/
def bk (j : ℕ) (b : Fin 8) (p : Fin 4096) (n : Fin 2048) : EReal :=
  if _ : j ≤ p.val then A0 (ix2 (rowI b ⟨p.val - j, by omega⟩) (cX n)) else 0

/-- The convolved and gated rows. -/
def XC (b : Fin 8) (p : Fin 4096) (n : Fin 2048) : EReal :=
  ksilu (A3 (ix1 n) + A2 (ix2 3 n) * A0 (ix2 (rowI b p) (cX n)) + A2 (ix2 2 n) * bk A0 1 b p n + A2 (ix2 1 n) * bk A0 2 b p n + A2 (ix2 0 n) * bk A0 3 b p n)

/-- Rows by position as real numbers, zero past the sequence. -/
def lift1 (f : Fin 4096 → EReal) (p : ℕ) : ℝ := if hp : p < 4096 then (f ⟨p, hp⟩).toReal else 0

theorem lift1_coe (f : Fin 4096 → EReal) (hf : ∀ p, Fin1 (f p)) (p : ℕ) (hp : p < 4096) : f ⟨p, hp⟩ = ((lift1 f p : ℝ) : EReal) := by
  unfold lift1
  rw [dif_pos hp]
  obtain ⟨r, hr⟩ := hf ⟨p, hp⟩
  rw [hr]
  rfl

theorem toReal_coe' {a : EReal} (h : Fin1 a) : a = ((a.toReal : ℝ) : EReal) := by
  obtain ⟨r, rfl⟩ := h
  rfl

def xr (b : Fin 8) (n : Fin 2048) : ℕ → ℝ := lift1 fun p => XC A0 A2 A3 b p n
def ur (b : Fin 8) (h : Fin 16) : ℕ → ℝ := lift1 fun p => A1 (ix2 (rowI b p) (cH h))
/-- The time step of a head. -/
def DT (b : Fin 8) (h : Fin 16) (s : ℕ) : ℝ := sp (ur A1 b h s + (A4 (ix1 h)).toReal)
/-- The logarithm of a step's decay. -/
def LA (b : Fin 8) (h : Fin 16) (s : ℕ) : ℝ := sp (ur A1 b h s + (A4 (ix1 h)).toReal) * -Real.exp (A5 (ix1 h)).toReal

/-- What the positions up to `p` give, over the reals. -/
def OR (b : Fin 8) (p : ℕ) (g : Fin 4) (c : Fin 256) : ℝ :=
  Oall (LA A1 A4 A5 b (hq g c)) (xr A0 A2 A3 b (cx g c)) (DT A1 A4 b (hq g c)) (fun s k => xr A0 A2 A3 b (cb g k) s) (fun s k => xr A0 A2 A3 b (cc g k) s) p

/-- A gated row, and the row scaled by its root mean square and the gain. -/
def gz (O D X Z : Fin 256 → EReal) (c : Fin 256) : EReal := (O c + D c * X c) * (Z c * Ideal.div 1 (1 + Ideal.exp (0 - Z c)))
def fz (O D X Z G : Fin 256 → EReal) (c : Fin 256) : EReal :=
  gz O D X Z c * Ideal.rsqrt (Ideal.div (∑ x, gz O D X Z x * gz O D X Z x) (Ideal.ofBits .f32 0x43800000#32) + Ideal.ofBits .f32 0x358637BD#32) * G c

/-- A group's row of the result. -/
def resh (b : Fin 8) (p : Fin 4096) (g : Fin 4) (c : Fin 256) : EReal :=
  fz (fun c => ((OR A0 A1 A2 A3 A4 A5 b p.val g c : ℝ) : EReal)) (fun c => A6 (ix1 (hq g c))) (fun c => XC A0 A2 A3 b p (cx g c)) (fun c => A0 (ix2 (rowI b p) (cZ (c1 g c)))) (fun c => A7 (ix1 (c1 g c))) c

/-- The result. -/
def spec : (⟨2, ![32768, 1024]⟩ : Shape).Idx → EReal := fun i =>
  resh A0 A1 A2 A3 A4 A5 A6 A7 ⟨(i 0).val / 4096, by have h : (i 0).val < 32768 := (i 0).isLt; omega⟩ ⟨(i 0).val % 4096, Nat.mod_lt _ (by decide)⟩
    ⟨(i 1).val / 256, by have h : (i 1).val < 1024 := (i 1).isLt; omega⟩ ⟨(i 1).val % 256, Nat.mod_lt _ (by decide)⟩

theorem spec_ix (b : Fin 8) (p : Fin 4096) (g : Fin 4) (c : Fin 256) :
    spec A0 A1 A2 A3 A4 A5 A6 A7 (ix2 (rowI b p) (c1 g c)) = resh A0 A1 A2 A3 A4 A5 A6 A7 b p g c := by
  have e1 : (⟨(b.val * 4096 + p.val) / 4096, by omega⟩ : Fin 8) = b := Fin.ext (by show (b.val * 4096 + p.val) / 4096 = b.val; omega)
  have e2 : (⟨(b.val * 4096 + p.val) % 4096, by omega⟩ : Fin 4096) = p := Fin.ext (by show (b.val * 4096 + p.val) % 4096 = p.val; omega)
  have e3 : (⟨(g.val * 256 + c.val) / 256, by omega⟩ : Fin 4) = g := Fin.ext (by show (g.val * 256 + c.val) / 256 = g.val; omega)
  have e4 : (⟨(g.val * 256 + c.val) % 256, by omega⟩ : Fin 256) = c := Fin.ext (by show (g.val * 256 + c.val) % 256 = c.val; omega)
  show resh A0 A1 A2 A3 A4 A5 A6 A7 ⟨(b.val * 4096 + p.val) / 4096, _⟩ ⟨(b.val * 4096 + p.val) % 4096, _⟩ ⟨(g.val * 256 + c.val) / 256, _⟩ ⟨(g.val * 256 + c.val) % 256, _⟩ = _
  rw [e1, e2, e3, e4]

theorem col_of (n : Fin 1024) : ∃ (g : Fin 4) (c : Fin 256), n = c1 g c :=
  ⟨⟨n.val / 256, by omega⟩, ⟨n.val % 256, Nat.mod_lt _ (by decide)⟩, Fin.ext (by show n.val = n.val / 256 * 256 + n.val % 256; omega)⟩

theorem row_of (r : Fin 32768) : ∃ (b : Fin 8) (p : Fin 4096), r = rowI b p :=
  ⟨⟨r.val / 4096, by omega⟩, ⟨r.val % 4096, Nat.mod_lt _ (by decide)⟩, Fin.ext (by show r.val = r.val / 4096 * 4096 + r.val % 4096; omega)⟩

/-- The arguments the recurrence reads are real numbers. -/
structure FinX : Prop where
  a0 : ∀ r n, Fin1 (A0 (ix2 r (cX n)))
  a1 : ∀ r h, Fin1 (A1 (ix2 r (cH h)))
  a2 : ∀ j n, Fin1 (A2 (ix2 j n))
  a3 : ∀ n, Fin1 (A3 (ix1 n))
  a4 : ∀ h, Fin1 (A4 (ix1 h))
  a5 : ∀ h, Fin1 (A5 (ix1 h))

variable {A0 A1 A2 A3 A4 A5}

theorem bk_fin (hX : FinX A0 A1 A2 A3 A4 A5) (j : ℕ) (b : Fin 8) (p : Fin 4096) (n : Fin 2048) : Fin1 (bk A0 j b p n) := by
  unfold bk
  split
  · exact hX.a0 _ _
  · exact ⟨0, rfl⟩

theorem XC_fin (hX : FinX A0 A1 A2 A3 A4 A5) (b : Fin 8) (p : Fin 4096) (n : Fin 2048) : Fin1 (XC A0 A2 A3 b p n) :=
  ksilu_fin (((((hX.a3 n).add ((hX.a2 _ _).mul (hX.a0 _ _))).add ((hX.a2 _ _).mul (bk_fin hX _ _ _ _))).add ((hX.a2 _ _).mul (bk_fin hX _ _ _ _))).add ((hX.a2 _ _).mul (bk_fin hX _ _ _ _)))

theorem xr_coe (hX : FinX A0 A1 A2 A3 A4 A5) (b : Fin 8) (n : Fin 2048) (p : Fin 4096) : XC A0 A2 A3 b p n = ((xr A0 A2 A3 b n p.val : ℝ) : EReal) :=
  lift1_coe (fun p => XC A0 A2 A3 b p n) (fun p => XC_fin hX b p n) p.val p.isLt

theorem ur_coe (hX : FinX A0 A1 A2 A3 A4 A5) (b : Fin 8) (h : Fin 16) (p : Fin 4096) : A1 (ix2 (rowI b p) (cH h)) = ((ur A1 b h p.val : ℝ) : EReal) :=
  lift1_coe (fun p => A1 (ix2 (rowI b p) (cH h))) (fun p => hX.a1 _ _) p.val p.isLt

end Cert.Proof.Ssd

namespace Cert.SsdIdeal.Spec

open Cert.SsdIdeal Cert.SsdIdeal.Gen Cert.Proof Cert.Proof.Ssd

variable (m : (ℓ : Loc nD τ sig) → Buf (Elt Ideal) ℓ)

abbrev B0 (c : Dev nD) : (⟨2, ![32768, 6656]⟩ : Shape).Idx → EReal := m ((c : Thread nD τ).loc main_arg0)
abbrev B1 (c : Dev nD) : (⟨2, ![32768, 640]⟩ : Shape).Idx → EReal := m ((c : Thread nD τ).loc main_arg1)
abbrev B2 (c : Dev nD) : (⟨2, ![4, 2048]⟩ : Shape).Idx → EReal := m ((c : Thread nD τ).loc main_arg2)
abbrev B3 (c : Dev nD) : (⟨1, ![2048]⟩ : Shape).Idx → EReal := m ((c : Thread nD τ).loc main_arg3)
abbrev B4 (c : Dev nD) : (⟨1, ![16]⟩ : Shape).Idx → EReal := m ((c : Thread nD τ).loc main_arg4)
abbrev B5 (c : Dev nD) : (⟨1, ![16]⟩ : Shape).Idx → EReal := m ((c : Thread nD τ).loc main_arg5)
abbrev B6 (c : Dev nD) : (⟨1, ![16]⟩ : Shape).Idx → EReal := m ((c : Thread nD τ).loc main_arg6)
abbrev B7 (c : Dev nD) : (⟨1, ![1024]⟩ : Shape).Idx → EReal := m ((c : Thread nD τ).loc main_arg7)

theorem t0 (c : Dev nD) (n : Fin 2048) : ((V m c main_v0 : Vec Ideal S1x2048 .f32) (ix2 0 n) : EReal) = B3 m c (ix1 n) := by
  unfold V
  simp only [hostOps0, hostOps0_1, hostOps0_2, hostOps0_3, hostOps0_4, List.flatten_cons, List.flatten_nil, List.append_nil, List.cons_append, List.nil_append]
  after_reads_at

theorem t2 (c : Dev nD) (h : Fin 16) : ((V m c main_v2 : Vec Ideal S1x128 .f32) (ix2 0 ⟨h.val, by omega⟩) : EReal) = B4 m c (ix1 h) := by
  unfold V
  simp only [hostOps0, hostOps0_1, hostOps0_2, hostOps0_3, hostOps0_4, List.flatten_cons, List.flatten_nil, List.append_nil, List.cons_append, List.nil_append]
  after_reads_at

theorem t4 (c : Dev nD) (h : Fin 16) : ((V m c main_v4 : Vec Ideal S1x128 .f32) (ix2 0 ⟨h.val, by omega⟩) : EReal) = B5 m c (ix1 h) := by
  unfold V
  simp only [hostOps0, hostOps0_1, hostOps0_2, hostOps0_3, hostOps0_4, List.flatten_cons, List.flatten_nil, List.append_nil, List.cons_append, List.nil_append]
  after_reads_at

theorem t7 (c : Dev nD) (n : Fin 1024) : ((V m c main_v7 : Vec Ideal S1x1024 .f32) (ix2 0 n) : EReal) = B6 m c (ix1 ⟨n.val / 64, by omega⟩) := by
  unfold V
  simp only [hostOps0, hostOps0_1, hostOps0_2, hostOps0_3, hostOps0_4, List.flatten_cons, List.flatten_nil, List.append_nil, List.cons_append, List.nil_append]
  after_reads_at

theorem t8 (c : Dev nD) (n : Fin 1024) : ((V m c main_v8 : Vec Ideal S1x1024 .f32) (ix2 0 n) : EReal) = B7 m c (ix1 n) := by
  unfold V
  simp only [hostOps0, hostOps0_1, hostOps0_2, hostOps0_3, hostOps0_4, List.flatten_cons, List.flatten_nil, List.append_nil, List.cons_append, List.nil_append]
  after_reads_at

/-- Where each window's block lies at each grid point. -/
theorem idx : ∀ t : Fin grid0.N,
    (win0_0.index t 0 = t.val ∧ win0_0.index t 1 = 0) ∧ (win0_1.index t 0 = t.val ∧ win0_1.index t 1 = 2)
    ∧ (win0_2.index t 0 = t.val ∧ win0_2.index t 1 = 4) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0) := by decide +kernel

/-- The sequence of a grid point. -/
def bt (t : Fin cfg0.N) : Fin 8 := ⟨t.val / 16, by have h := t.isLt; have hN : cfg0.N = 128 := N_0; omega⟩

/-- The position of a block's row in its sequence. -/
def pt (t : Fin cfg0.N) (r : Fin 256) : Fin 4096 := ⟨256 * (t.val % 16) + r.val, by omega⟩

theorem iblk0 (c : Dev nD) (t : Fin cfg0.N) (r : Fin 256) (n : Fin 2048) :
    ((X0_0 m c t : Vec Ideal S256x2048 .bf16) (ix2 r n) : EReal) = B0 m c (ix2 (rowI (bt t) (pt t r)) (cX n)) := by
  have e := (idx t).1
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 256 + 1 * r.val = t.val / 16 * 4096 + (256 * (t.val % 16) + r.val); rw [e.1]; omega
  | ⟨1, _⟩ => show win0_0.index t 1 * 2048 + 1 * n.val = n.val; rw [e.2]; omega

theorem iblk1 (c : Dev nD) (t : Fin cfg0.N) (r : Fin 256) (n : Fin 1024) :
    ((X0_1 m c t : Vec Ideal S256x1024 .bf16) (ix2 r n) : EReal) = B0 m c (ix2 (rowI (bt t) (pt t r)) (cZ n)) := by
  have e := (idx t).2.1
  unfold X0_1 Pipeline.Window.fill
  rw [dif_pos (moved0_1 t _)]
  unfold iblk
  rw [View.read_apply]
  show V m c main_arg0 _ = _
  rw [V_main_arg0]
  congr 1
  funext a
  apply Fin.ext
  match a with
  | ⟨0, _⟩ => show win0_1.index t 0 * 256 + 1 * r.val = t.val / 16 * 4096 + (256 * (t.val % 16) + r.val); rw [e.1]; omega
  | ⟨1, _⟩ => show win0_1.index t 1 * 1024 + 1 * n.val = 2048 + n.val; rw [e.2]; omega

theorem iblk2 (c : Dev nD) (t : Fin cfg0.N) (r : Fin 256) (h : Fin 16) :
    ((iblk m c 2 t : Vec Ideal S256x128 .f32) (ix2 r ⟨h.val, by omega⟩) : EReal) = B1 m c (ix2 (rowI (bt t) (pt t r)) (cH h)) := by
  have e := (idx t).2.2.1
  unfold iblk
  rw [View.read_apply]
  show V m c main_arg1 _ = _
  rw [V_main_arg1]
  congr 1
  funext a
  apply Fin.ext
  match a with
  | ⟨0, _⟩ => show win0_2.index t 0 * 256 + 1 * r.val = t.val / 16 * 4096 + (256 * (t.val % 16) + r.val); rw [e.1]; omega
  | ⟨1, _⟩ => show win0_2.index t 1 * 128 + 1 * h.val = 512 + h.val; rw [e.2]; omega

theorem iblk3 (c : Dev nD) (t : Fin cfg0.N) (j : Fin 4) (n : Fin 2048) :
    ((iblk m c 3 t : Vec Ideal S4x2048 .f32) (ix2 j n) : EReal) = B2 m c (ix2 j n) := by
  have e := (idx t).2.2.2.1
  unfold iblk
  rw [View.read_apply]
  show V m c main_arg2 _ = _
  rw [V_main_arg2]
  congr 1
  funext a
  apply Fin.ext
  match a with
  | ⟨0, _⟩ => show win0_3.index t 0 * 4 + 1 * j.val = j.val; rw [e.1]; omega
  | ⟨1, _⟩ => show win0_3.index t 1 * 2048 + 1 * n.val = n.val; rw [e.2]; omega

theorem iblk4 (c : Dev nD) (t : Fin cfg0.N) (n : Fin 2048) :
    ((iblk m c 4 t : Vec Ideal S1x2048 .f32) (ix2 0 n) : EReal) = B3 m c (ix1 n) := by
  have e := (idx t).2.2.2.2.1
  unfold iblk
  rw [View.read_apply]
  show V m c main_v0 _ = _
  refine Eq.trans ?_ (t0 m c n)
  refine congrArg (V m c main_v0) ?_
  funext a
  apply Fin.ext
  match a with
  | ⟨0, _⟩ => show win0_4.index t 0 * 1 + 1 * 0 = 0; rw [e.1]
  | ⟨1, _⟩ => show win0_4.index t 1 * 2048 + 1 * n.val = n.val; rw [e.2]; omega

theorem iblk5 (c : Dev nD) (t : Fin cfg0.N) (h : Fin 16) :
    ((iblk m c 5 t : Vec Ideal S1x128 .f32) (ix2 0 ⟨h.val, by omega⟩) : EReal) = B4 m c (ix1 h) := by
  have e := (idx t).2.2.2.2.2.1
  unfold iblk
  rw [View.read_apply]
  show V m c main_v2 _ = _
  refine Eq.trans ?_ (t2 m c h)
  refine congrArg (V m c main_v2) ?_
  funext a
  apply Fin.ext
  match a with
  | ⟨0, _⟩ => show win0_5.index t 0 * 1 + 1 * 0 = 0; rw [e.1]
  | ⟨1, _⟩ => show win0_5.index t 1 * 128 + 1 * h.val = h.val; rw [e.2]; omega

theorem iblk6 (c : Dev nD) (t : Fin cfg0.N) (h : Fin 16) :
    ((iblk m c 6 t : Vec Ideal S1x128 .f32) (ix2 0 ⟨h.val, by omega⟩) : EReal) = B5 m c (ix1 h) := by
  have e := (idx t).2.2.2.2.2.2.1
  unfold iblk
  rw [View.read_apply]
  show V m c main_v4 _ = _
  refine Eq.trans ?_ (t4 m c h)
  refine congrArg (V m c main_v4) ?_
  funext a
  apply Fin.ext
  match a with
  | ⟨0, _⟩ => show win0_6.index t 0 * 1 + 1 * 0 = 0; rw [e.1]
  | ⟨1, _⟩ => show win0_6.index t 1 * 128 + 1 * h.val = h.val; rw [e.2]; omega

theorem iblk7 (c : Dev nD) (t : Fin cfg0.N) (n : Fin 1024) :
    ((iblk m c 7 t : Vec Ideal S1x1024 .f32) (ix2 0 n) : EReal) = B6 m c (ix1 ⟨n.val / 64, by omega⟩) := by
  have e := (idx t).2.2.2.2.2.2.2.1
  unfold iblk
  rw [View.read_apply]
  show V m c main_v7 _ = _
  refine Eq.trans ?_ (t7 m c n)
  refine congrArg (V m c main_v7) ?_
  funext a
  apply Fin.ext
  match a with
  | ⟨0, _⟩ => show win0_7.index t 0 * 1 + 1 * 0 = 0; rw [e.1]
  | ⟨1, _⟩ => show win0_7.index t 1 * 1024 + 1 * n.val = n.val; rw [e.2]; omega

theorem iblk8 (c : Dev nD) (t : Fin cfg0.N) (n : Fin 1024) :
    ((iblk m c 8 t : Vec Ideal S1x1024 .f32) (ix2 0 n) : EReal) = B7 m c (ix1 n) := by
  have e := (idx t).2.2.2.2.2.2.2.2.1
  unfold iblk
  rw [View.read_apply]
  show V m c main_v8 _ = _
  refine Eq.trans ?_ (t8 m c n)
  refine congrArg (V m c main_v8) ?_
  funext a
  apply Fin.ext
  match a with
  | ⟨0, _⟩ => show win0_8.index t 0 * 1 + 1 * 0 = 0; rw [e.1]
  | ⟨1, _⟩ => show win0_8.index t 1 * 1024 + 1 * n.val = n.val; rw [e.2]; omega

/-- Where block `t` of the result lies in the array. -/
theorem emb9 (t : Fin cfg0.N) (r : Fin 256) (n : Fin 1024) :
    ((cfg0.win 9).blk t).view.emb (ix2 r n) = (ix2 (rowI (bt t) (pt t r)) n : S32768x1024.Idx) := by
  have e := (idx t).2.2.2.2.2.2.2.2.2
  funext a
  apply Fin.ext
  match a with
  | ⟨0, _⟩ => show win0_9.index t 0 * 256 + 1 * r.val = t.val / 16 * 4096 + (256 * (t.val % 16) + r.val); rw [e.1]; omega
  | ⟨1, _⟩ => show win0_9.index t 1 * 1024 + 1 * n.val = n.val; rw [e.2]; omega

theorem cover (i : S32768x1024.Idx) :
    ∃ t : Fin cfg0.N, (cfg0.win 9).flush t = true ∧ i ∈ ((cfg0.win 9).blk t).view.set := by
  have h0 : (i 0 : Nat) < 32768 := (i 0).isLt
  have hN : cfg0.N = 128 := N_0
  let t : Fin cfg0.N := ⟨(i 0 : Nat) / 256, by omega⟩
  refine ⟨t, flush0_9 _, ?_⟩
  have hm : (i 0 : Nat) % 256 < 256 := by omega
  have hi : i = (ix2 (rowI (bt t) (pt t ⟨(i 0 : Nat) % 256, hm⟩)) (i 1) : S32768x1024.Idx) := by
    refine (eq_ix2 (n0 := 32768) (n1 := 1024) i).trans ?_
    refine congrArg (fun a => ix2 a (i 1)) (Fin.ext ?_)
    show (i 0 : Nat) = (i 0 : Nat) / 256 / 16 * 4096 + (256 * ((i 0 : Nat) / 256 % 16) + (i 0 : Nat) % 256)
    omega
  rw [hi, ← emb9 t ⟨(i 0 : Nat) % 256, hm⟩ (i 1)]
  exact View.emb_mem_set _ _

end Cert.SsdIdeal.Spec
-- ==== Proof.SsdMid.lean ====
module

public import proofs.«01_k».proof.Defs
public import proofs.«01_k».proof.Proof.Real
public import proofs.«01_k».proof.Proof.SsdWin

@[expose] public section

set_option maxRecDepth 16384

noncomputable section

open Idealize.ShloMosaic Idealize.ShloMosaic.TcCoe Idealize.SL.Sem
open Idealize.ShloMosaic.Pipeline (Dat)
open scoped BigOperators

namespace Cert.SsdIdeal.Spec

open Cert.SsdIdeal Cert.SsdIdeal.Gen Cert.Proof Cert.Proof.Ssd

variable (m : (ℓ : Loc nD τ sig) → Buf (Elt Ideal) ℓ)

/-- The eight rows before a block, nothing before the sequence. -/
def TL (c : Dev nD) (t : Fin cfg0.N) (s : Fin 8) (n : Fin 2048) : EReal :=
  if h : t.val % 16 = 0 then 0 else B0 m c (ix2 (rowI (bt t) ⟨256 * (t.val % 16) - 8 + s.val, by omega⟩) (cX n))

theorem xm_eq (c : Dev nD) (t : Fin cfg0.N) (j : ℕ) (h1 : 1 ≤ j) (h3 : j ≤ 3) (r : Fin 256) (n : Fin 2048) :
    xm j (fun s => (X0_0 m c t : Vec Ideal S256x2048 .bf16) (ix2 s n)) (fun s => TL m c t s n) r = bk (B0 m c) j (bt t) (pt t r) n := by
  have hp : (pt t r).val = 256 * (t.val % 16) + r.val := rfl
  unfold xm bk
  by_cases h : j ≤ r.val
  · rw [dif_pos h, dif_pos (by omega)]
    refine (iblk0 m c t ⟨r.val - j, by omega⟩ n).trans ?_
    exact congrArg (fun p => B0 m c (ix2 (rowI (bt t) p) (cX n))) (Fin.ext (by show 256 * (t.val % 16) + (r.val - j) = 256 * (t.val % 16) + r.val - j; omega))
  · rw [dif_neg h]
    show TL m c t _ n = _
    unfold TL
    by_cases h0 : t.val % 16 = 0
    · rw [dif_pos h0, dif_neg (by omega)]
    · rw [dif_neg h0, dif_pos (by omega)]
      exact congrArg (fun p => B0 m c (ix2 (rowI (bt t) p) (cX n))) (Fin.ext (by show 256 * (t.val % 16) - 8 + (8 + r.val - j) % 8 = 256 * (t.val % 16) + r.val - j; omega))

theorem XA_eq (c : Dev nD) (t : Fin cfg0.N) (r : Fin 256) (n : Fin 2048) :
    XA (X0_0 m c t) (iblk m c 3 t) (iblk m c 4 t) (TL m c t) r n = XC (B0 m c) (B2 m c) (B3 m c) (bt t) (pt t r) n := by
  unfold XA XC
  rw [xm_eq m c t 1 (by decide) (by decide), xm_eq m c t 2 (by decide) (by decide), xm_eq m c t 3 (by decide) (by decide), iblk0, iblk3, iblk3, iblk3, iblk3, iblk4]

/-- What the precondition gives of the launched arguments. -/
abbrev Fin0 (c : Dev nD) : Prop := FinX (B0 m c) (B1 m c) (B2 m c) (B3 m c) (B4 m c) (B5 m c)

abbrev LAm (c : Dev nD) (b : Fin 8) : Fin 16 → ℕ → ℝ := LA (B1 m c) (B4 m c) (B5 m c) b
abbrev DTm (c : Dev nD) (b : Fin 8) : Fin 16 → ℕ → ℝ := DT (B1 m c) (B4 m c) b
abbrev xrm (c : Dev nD) (b : Fin 8) (g : Fin 4) (s : ℕ) (x : Fin 256) : ℝ := xr (B0 m c) (B2 m c) (B3 m c) b (cx g x) s
abbrev brm (c : Dev nD) (b : Fin 8) (g : Fin 4) (s : ℕ) (k : Fin 128) : ℝ := xr (B0 m c) (B2 m c) (B3 m c) b (cb g k) s
abbrev crm (c : Dev nD) (b : Fin 8) (g : Fin 4) (s : ℕ) (k : Fin 128) : ℝ := xr (B0 m c) (B2 m c) (B3 m c) b (cc g k) s

/-- The state a sequence's blocks before `n` leave. -/
abbrev STn (c : Dev nD) (b : Fin 8) (n : ℕ) (g : Fin 4) (k : Fin 128) (x : Fin 256) : ℝ :=
  St (LAm m c b (hq g x)) (fun s => xrm m c b g s x) (DTm m c b (hq g x)) (brm m c b g) n k

variable {m}

theorem xa_real (c : Dev nD) (hX : Fin0 m c) (t : Fin cfg0.N) (r : Fin 256) (n : Fin 2048) :
    XA (X0_0 m c t) (iblk m c 3 t) (iblk m c 4 t) (TL m c t) r n = ((xr (B0 m c) (B2 m c) (B3 m c) (bt t) n (256 * (t.val % 16) + r.val) : ℝ) : EReal) :=
  (XA_eq m c t r n).trans (xr_coe hX (bt t) n (pt t r))

theorem h2 (c : Dev nD) (hX : Fin0 m c) (t : Fin cfg0.N) (h : Fin 16) (r : Fin 256) :
    ((iblk m c 2 t : Vec Ideal S256x128 .f32) (ix2 r ⟨h.val, by omega⟩) : EReal) = ((ur (B1 m c) (bt t) h (256 * (t.val % 16) + r.val) : ℝ) : EReal) :=
  (iblk2 m c t r h).trans (ur_coe hX (bt t) h (pt t r))

theorem hcu (c : Dev nD) (hX : Fin0 m c) (t : Fin cfg0.N) (g : Fin 4) (r x : Fin 256) :
    cuK (iblk m c 2 t) (iblk m c 5 t) (iblk m c 6 t) r (hd g x)
      = ((Lam (LAm m c (bt t) (hq g x)) (256 * (t.val % 16) + r.val + 1) - Lam (LAm m c (bt t) (hq g x)) (256 * (t.val % 16)) : ℝ) : EReal) :=
  cu_real _ _ _ (hd g x) (ur (B1 m c) (bt t) (hq g x)) (B4 m c (ix1 (hq g x))).toReal (B5 m c (ix1 (hq g x))).toReal (t.val % 16)
    (fun r => h2 c hX t (hq g x) r) ((iblk5 m c t (hq g x)).trans (toReal_coe' (hX.a4 _))) ((iblk6 m c t (hq g x)).trans (toReal_coe' (hX.a5 _))) r

theorem hdt (c : Dev nD) (hX : Fin0 m c) (t : Fin cfg0.N) (g : Fin 4) (r x : Fin 256) :
    dtK (iblk m c 2 t) (iblk m c 5 t) r (hd g x) = ((DTm m c (bt t) (hq g x) (256 * (t.val % 16) + r.val) : ℝ) : EReal) :=
  dt_real _ _ (hd g x) (ur (B1 m c) (bt t) (hq g x)) (B4 m c (ix1 (hq g x))).toReal (t.val % 16)
    (fun r => h2 c hX t (hq g x) r) ((iblk5 m c t (hq g x)).trans (toReal_coe' (hX.a4 _))) r

theorem KSg_real (c : Dev nD) (hX : Fin0 m c) (t : Fin cfg0.N) (S : Fin 4 → Fin 128 → Fin 256 → EReal)
    (hS : ∀ g k x, S g k x = ((STn m c (bt t) (t.val % 16) g k x : ℝ) : EReal)) (g : Fin 4) (k : Fin 128) (x : Fin 256) :
    KSg (X0_0 m c t) (iblk m c 2 t) (iblk m c 3 t) (iblk m c 4 t) (iblk m c 5 t) (iblk m c 6 t) (TL m c t) S g k x = ((STn m c (bt t) (t.val % 16 + 1) g k x : ℝ) : EReal) :=
  SK_real g (cuK (iblk m c 2 t) (iblk m c 5 t) (iblk m c 6 t)) (dtK (iblk m c 2 t) (iblk m c 5 t))
    (fun r x => XA (X0_0 m c t) (iblk m c 3 t) (iblk m c 4 t) (TL m c t) r (cx g x)) (fun r k => XA (X0_0 m c t) (iblk m c 3 t) (iblk m c 4 t) (TL m c t) r (cb g k)) (S g)
    (LAm m c (bt t)) (DTm m c (bt t)) (xrm m c (bt t) g) (brm m c (bt t) g) (t.val % 16) (hcu c hX t g) (hdt c hX t g) (fun r x => xa_real c hX t r (cx g x)) (fun r k => xa_real c hX t r (cb g k)) (hS g) k x

theorem TL_zero (c : Dev nD) (t : Fin cfg0.N) (h0 : t.val % 16 = 0) : (fun _ _ => 0 : Fin 8 → Fin 2048 → EReal) = TL m c t := by
  funext s n
  unfold TL
  rw [dif_pos h0]

/-- The eight rows each grid point hands on. -/
theorem tail_eq (c : Dev nD) (t : Fin cfg0.N) (s : Fin 8) (n : Fin 2048) :
    ((outsAt0 m c t.val t.isLt).2.1 (ix2 s n) : EReal) = B0 m c (ix2 (rowI (bt t) (pt t ⟨248 + s.val, by omega⟩)) (cX n)) := by
  refine Eq.trans ?_ (iblk0 m c t ⟨248 + s.val, by omega⟩ n)
  by_cases h0 : t.val % 16 = 0
  · rw [outsAt0_A m c t h0]
    dsimp only
    rw [sout_A_1]
    rfl
  · rw [outsAt0_B m c t h0]
    dsimp only
    rw [sout_B_1]
    rfl

theorem TL_tail (c : Dev nD) (t : Fin cfg0.N) (h0 : ¬t.val % 16 = 0) (hlt : t.val - 1 < cfg0.N) :
    (fun s n => (outsAt0 m c (t.val - 1) hlt).2.1 (ix2 s n) : Fin 8 → Fin 2048 → EReal) = TL m c t := by
  funext s n
  refine (tail_eq c ⟨t.val - 1, hlt⟩ s n).trans ?_
  unfold TL
  rw [dif_neg h0]
  refine congrArg (fun r => B0 m c (ix2 r (cX n))) (Fin.ext ?_)
  show (t.val - 1) / 16 * 4096 + (256 * ((t.val - 1) % 16) + (248 + s.val)) = t.val / 16 * 4096 + (256 * (t.val % 16) - 8 + s.val)
  omega

/-- The kept state after each grid point. -/
theorem state_eq (c : Dev nD) (hX : Fin0 m c) : ∀ (n : ℕ) (hn : n < cfg0.N) (g : Fin 4) (k : Fin 128) (x : Fin 256),
    ((outsAt0 m c n hn).2.2 (ix3 g k x) : EReal) = ((STn m c (bt ⟨n, hn⟩) (n % 16 + 1) g k x : ℝ) : EReal) := by
  intro n
  induction n with
  | zero =>
    intro hn g k x
    have e := outsAt0_A m c ⟨0, hn⟩ rfl
    rw [show outsAt0 m c 0 hn = _ from e]
    dsimp only
    rw [sout_A_3, TL_zero c ⟨0, hn⟩ rfl]
    refine KSg_real c hX ⟨0, hn⟩ _ (fun g k x => ?_) g k x
    exact congrArg (fun x : ℝ => (x : EReal)) (St_zero _ _ _ _ _).symm
  | succ n ih =>
    intro hn g k x
    by_cases h0 : (n + 1) % 16 = 0
    · have e := outsAt0_A m c ⟨n + 1, hn⟩ h0
      rw [show outsAt0 m c (n + 1) hn = _ from e]
      dsimp only
      rw [sout_A_3, TL_zero c ⟨n + 1, hn⟩ h0]
      refine KSg_real c hX ⟨n + 1, hn⟩ _ (fun g k x => ?_) g k x
      show 0 = ((STn m c (bt ⟨n + 1, hn⟩) ((n + 1) % 16) g k x : ℝ) : EReal)
      rw [h0]
      exact congrArg (fun x : ℝ => (x : EReal)) (St_zero _ _ _ _ _).symm
    · have e := outsAt0_B m c ⟨n + 1, hn⟩ h0
      rw [show outsAt0 m c (n + 1) hn = _ from e]
      dsimp only
      rw [sout_B_3]
      have et := TL_tail (m := m) c ⟨n + 1, hn⟩ h0 (Nat.lt_of_le_of_lt (Nat.sub_le _ _) hn)
      dsimp only at et
      rw [et]
      refine KSg_real c hX ⟨n + 1, hn⟩ _ (fun g k x => ?_) g k x
      refine (ih (by omega) g k x).trans ?_
      have eb : bt ⟨n, by omega⟩ = bt ⟨n + 1, hn⟩ := Fin.ext (by show n / 16 = (n + 1) / 16; omega)
      rw [eb, show n % 16 + 1 = (n + 1) % 16 by omega]

/-- The result as a function of the launched arguments. -/
abbrev G (m : (ℓ : Loc nD τ sig) → Buf (Elt Ideal) ℓ) (c : Dev nD) : Buf (Elt Ideal) ((c : Thread nD τ).loc main_v9) :=
  spec (B0 m c) (B1 m c) (B2 m c) (B3 m c) (B4 m c) (B5 m c) (B6 m c) (B7 m c)

theorem KO_real (c : Dev nD) (hX : Fin0 m c) (t : Fin cfg0.N) (S : Fin 4 → Fin 128 → Fin 256 → EReal)
    (hS : ∀ g k x, S g k x = ((STn m c (bt t) (t.val % 16) g k x : ℝ) : EReal)) (r : Fin 256) (g : Fin 4) (x : Fin 256) :
    KO (X0_0 m c t) (X0_1 m c t) (iblk m c 2 t) (iblk m c 3 t) (iblk m c 4 t) (iblk m c 5 t) (iblk m c 6 t) (iblk m c 7 t) (iblk m c 8 t) (TL m c t) S (ix2 r (c1 g x))
      = resh (B0 m c) (B1 m c) (B2 m c) (B3 m c) (B4 m c) (B5 m c) (B6 m c) (B7 m c) (bt t) (pt t r) g x := by
  rw [KO_col]
  have hz : ∀ x, ZKf (cuK (iblk m c 2 t) (iblk m c 5 t) (iblk m c 6 t)) (dtK (iblk m c 2 t) (iblk m c 5 t)) (fun r x => XA (X0_0 m c t) (iblk m c 3 t) (iblk m c 4 t) (TL m c t) r (cx g x))
        (fun r k => XA (X0_0 m c t) (iblk m c 3 t) (iblk m c 4 t) (TL m c t) r (cb g k)) (fun r k => XA (X0_0 m c t) (iblk m c 3 t) (iblk m c 4 t) (TL m c t) r (cc g k)) (S g)
        (fun x => (iblk m c 7 t : Vec Ideal S1x1024 .f32) (ix2 0 (c1 g x))) (fun r x => (X0_1 m c t : Vec Ideal S256x1024 .bf16) (ix2 r (c1 g x))) g r x
      = gz (fun x => ((OR (B0 m c) (B1 m c) (B2 m c) (B3 m c) (B4 m c) (B5 m c) (bt t) (pt t r).val g x : ℝ) : EReal)) (fun x => B6 m c (ix1 (hq g x))) (fun x => XC (B0 m c) (B2 m c) (B3 m c) (bt t) (pt t r) (cx g x))
          (fun x => B0 m c (ix2 (rowI (bt t) (pt t r)) (cZ (c1 g x)))) x := fun x => by
    unfold ZKf gz
    have e7 : (⟨(c1 g x).val / 64, by have := (c1 g x).isLt; omega⟩ : Fin 16) = hq g x := Fin.ext (by show (g.val * 256 + x.val) / 64 = g.val * 4 + x.val / 64; omega)
    rw [Y_real g (cuK (iblk m c 2 t) (iblk m c 5 t) (iblk m c 6 t)) (dtK (iblk m c 2 t) (iblk m c 5 t))
      (fun r x => XA (X0_0 m c t) (iblk m c 3 t) (iblk m c 4 t) (TL m c t) r (cx g x)) (fun r k => XA (X0_0 m c t) (iblk m c 3 t) (iblk m c 4 t) (TL m c t) r (cb g k))
      (fun r k => XA (X0_0 m c t) (iblk m c 3 t) (iblk m c 4 t) (TL m c t) r (cc g k)) (S g)
      (LAm m c (bt t)) (DTm m c (bt t)) (xrm m c (bt t) g) (brm m c (bt t) g) (crm m c (bt t) g) (t.val % 16) (hcu c hX t g) (hdt c hX t g) (fun r x => xa_real c hX t r (cx g x)) (fun r k => xa_real c hX t r (cb g k))
      (fun r k => xa_real c hX t r (cc g k)) (hS g) (Nat.mod_lt _ (by decide)) (fun h s _ => sp_pos _) r x]
    dsimp only
    rw [iblk7, e7, iblk1, XA_eq]
    rfl
  unfold KOg OKf resh fz
  simp only [hz]
  exact congrArg (fun y => _ * y) (iblk8 m c t (c1 g x))

theorem flushed_eq (c : Dev nD) (hX : Fin0 m c) (t : Fin cfg0.N) :
    (dats m 0 c).flushed 9 t = ((cfg0.win 9).blk t).view.read (Elt Ideal) (G m c) := by
  funext (j : S256x1024.Idx)
  obtain ⟨r, n, rfl⟩ : ∃ (r : Fin 256) (n : Fin 1024), j = ix2 r n := ⟨j 0, j 1, eq_ix2 j⟩
  obtain ⟨g, x, rfl⟩ := Cert.Proof.Ssd.col_of n
  rw [View.read_apply]
  rw [emb9 t r (c1 g x)]
  refine Eq.trans ?_ (spec_ix (B0 m c) (B1 m c) (B2 m c) (B3 m c) (B4 m c) (B5 m c) (B6 m c) (B7 m c) (bt t) (pt t r) g x).symm
  by_cases h0 : t.val % 16 = 0
  · rw [Value.flushed9_A m c t h0, out_A, TL_zero c t h0]
    refine KO_real c hX t _ (fun g k x => ?_) r g x
    rw [h0]
    exact congrArg (fun x : ℝ => (x : EReal)) (St_zero _ _ _ _ _).symm
  · have hlt := t.isLt
    rw [Value.flushed9_B m c t h0, out_B, TL_tail c t h0 (by omega)]
    refine KO_real c hX t _ (fun g k x => ?_) r g x
    refine (state_eq c hX (t.val - 1) (by omega) g k x).trans ?_
    have eb : bt ⟨t.val - 1, by omega⟩ = bt t := Fin.ext (by show (t.val - 1) / 16 = t.val / 16; omega)
    rw [eb, show (t.val - 1) % 16 + 1 = t.val % 16 by omega]

theorem final (c : Dev nD) (hX : Fin0 m c) : (dats m 0 c).arrAt 9 cfg0.N = G m c :=
  (dats m 0 c).arrAt_eq_of_cover 9 (G m c) (fun t _ => flushed_eq c hX t) cover

end Cert.SsdIdeal.Spec
-- ==== Proof.SsdRef.lean ====
module

public import proofs.«01_k».proof.Defs
public import proofs.«01_k».proof.Proof.Real
public import proofs.«01_k».proof.Proof.SsdWin
public import proofs.«01_k».proof.Proof.Gen.SsdRefIdeal.Run

@[expose] public section

set_option maxRecDepth 16384

noncomputable section

open Idealize.ShloMosaic Idealize.ShloMosaic.TcCoe Idealize.SL.Sem
open Idealize.ShloMosaic.Pipeline (Dat)
open scoped BigOperators

namespace Cert.SsdRefIdeal.Spec

open Cert.SsdRefIdeal Cert.SsdRefIdeal.Gen Cert.Proof Cert.Proof.Ssd Cert.SsdIdeal.Spec

/-! Short names for the types of the arrays. -/
abbrev TQ0 := FVec Ideal S8x4096x2048 .f32
abbrev TQ1 := FVec Ideal S8x4096x4x4x64 .f32
abbrev TQ2 := FVec Ideal S8x4096x4x4 .f32
abbrev TQ3 := FVec Ideal S16 .f32
abbrev TQ4 := FVec Ideal S8x4x4x4096x4096 .f32
abbrev TQ5 := FVec Ideal S8x4096x4x128 .f32

/-- A head of a group, and a column of a group from its head and its place there. -/
def he (g e : Fin 4) : Fin 16 := ⟨g.val * 4 + e.val, by omega⟩
def ce (e : Fin 4) (d : Fin 64) : Fin 256 := ⟨e.val * 64 + d.val, by omega⟩

theorem he_eq (g e : Fin 4) (d : Fin 64) : hq g (ce e d) = he g e := Fin.ext (by show g.val * 4 + (e.val * 64 + d.val) / 64 = g.val * 4 + e.val; omega)

theorem toInt_small (n : ℕ) (h : n < 2 ^ 31) : (BitVec.ofNat 32 n).toInt = n := by
  rw [BitVec.toInt_eq_toNat_of_lt (by rw [BitVec.toNat_ofNat]; omega), BitVec.toNat_ofNat]
  omega

theorem sge_le (a b : Fin 4096) : IntOp.cmpi .sge (BitVec.ofNat 32 a.val) (BitVec.ofNat 32 b.val) = if b.val ≤ a.val then 1#1 else 0#1 := by
  show BitVec.ofBool ((BitVec.ofNat 32 b.val).sle (BitVec.ofNat 32 a.val)) = _
  rw [BitVec.sle_eq_decide, toInt_small a.val (by omega), toInt_small b.val (by omega)]
  by_cases h : b.val ≤ a.val <;> simp [h]

/-- The convolved columns, with three rows of zeros before each sequence. -/
def refP (A0 : FVec Ideal S32768x6656 .bf16) : FVec Ideal S8x4099x2048 .f32 :=
  pad S8x4099x2048 ![0, 3, 0] ![0, 0, 0] ![0, 0, 0] (shapeCast _ (extf .f32 (extractStridedSlice S32768x2048 ![0, 0] A0 slices_S32768x6656_S32768x2048_0_0) bitsLt_bf16_f32) shapeCasts_S32768x2048_S8x4096x2048) (sitofp .f32 (constantI S_ 32 0#32)) pads_S8x4096x2048_S8x4099x2048_000_300_000 h_S_

theorem refP_apply (A0 : FVec Ideal S32768x6656 .bf16) (b : Fin 8) (q : Fin 4099) (n : Fin 2048) :
    (refP A0 (ix3 b q n) : EReal) = if h : 3 ≤ q.val then A0 (ix2 (rowI b ⟨q.val - 3, by omega⟩) (cX n)) else 0 := by
  unfold refP
  pointwise
  by_cases h : 3 ≤ q.val
  · rw [dif_pos ⟨h, by omega⟩, dif_pos h]
    rfl
  · rw [dif_neg (fun h' => h h'.1), dif_neg h]
    show (((0#32 : BitVec 32).toInt : ℝ) : EReal) = 0
    simp

def refA (P : FVec Ideal S8x4099x2048 .f32) (A2 : FVec Ideal S4x2048 .f32) (A3 : FVec Ideal S2048 .f32) : TQ0 :=
  addf (broadcastInDim S8x4096x2048 ![0, 1, 2] bcast_S1x1x2048_S8x4096x2048_0_1_2 (broadcastInDim S1x1x2048 ![2] bcast_S2048_S1x1x2048_2 A3)) (addf (addf (addf (addf (broadcastInDim S8x4096x2048 ![] bcast_S_S8x4096x2048 (constant S_ .f32 0x00000000#32)) (mulf (broadcastInDim S8x4096x2048 ![0, 1, 2] bcast_S1x1x2048_S8x4096x2048_0_1_2 (broadcastInDim S1x1x2048 ![2] bcast_S2048_S1x1x2048_2 (shapeCast _ (extractStridedSlice S1x2048 ![0, 0] A2 slices_S4x2048_S1x2048_0_0) shapeCasts_S1x2048_S2048))) (extractStridedSlice S8x4096x2048 ![0, 0, 0] P slices_S8x4099x2048_S8x4096x2048_0_0_0))) (mulf (broadcastInDim S8x4096x2048 ![0, 1, 2] bcast_S1x1x2048_S8x4096x2048_0_1_2 (broadcastInDim S1x1x2048 ![2] bcast_S2048_S1x1x2048_2 (shapeCast _ (extractStridedSlice S1x2048 ![1, 0] A2 slices_S4x2048_S1x2048_1_0) shapeCasts_S1x2048_S2048))) (extractStridedSlice S8x4096x2048 ![0, 1, 0] P slices_S8x4099x2048_S8x4096x2048_0_1_0))) (mulf (broadcastInDim S8x4096x2048 ![0, 1, 2] bcast_S1x1x2048_S8x4096x2048_0_1_2 (broadcastInDim S1x1x2048 ![2] bcast_S2048_S1x1x2048_2 (shapeCast _ (extractStridedSlice S1x2048 ![2, 0] A2 slices_S4x2048_S1x2048_2_0) shapeCasts_S1x2048_S2048))) (extractStridedSlice S8x4096x2048 ![0, 2, 0] P slices_S8x4099x2048_S8x4096x2048_0_2_0))) (mulf (broadcastInDim S8x4096x2048 ![0, 1, 2] bcast_S1x1x2048_S8x4096x2048_0_1_2 (broadcastInDim S1x1x2048 ![2] bcast_S2048_S1x1x2048_2 (shapeCast _ (extractStridedSlice S1x2048 ![3, 0] A2 slices_S4x2048_S1x2048_3_0) shapeCasts_S1x2048_S2048))) (extractStridedSlice S8x4096x2048 ![0, 3, 0] P slices_S8x4099x2048_S8x4096x2048_0_3_0)))

theorem refA_apply (P : FVec Ideal S8x4099x2048 .f32) (A2 : FVec Ideal S4x2048 .f32) (A3 : FVec Ideal S2048 .f32) (b : Fin 8) (p : Fin 4096) (n : Fin 2048) :
    (refA P A2 A3 (ix3 b p n) : EReal) = A3 (ix1 n) + (A2 (ix2 0 n) * P (ix3 b ⟨p.val, by omega⟩ n) + A2 (ix2 1 n) * P (ix3 b ⟨1 + p.val, by omega⟩ n)
      + A2 (ix2 2 n) * P (ix3 b ⟨2 + p.val, by omega⟩ n) + A2 (ix2 3 n) * P (ix3 b ⟨3 + p.val, by omega⟩ n)) := by
  unfold refA
  pointwise

def refS (X : TQ0) : TQ0 :=
  mulf X (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf X))))

theorem refS_apply (X : TQ0) (b : Fin 8) (p : Fin 4096) (n : Fin 2048) :
    (refS X (ix3 b p n) : EReal) = ksilu (X (ix3 b p n)) := by
  unfold refS ksilu
  pointwise
  rw [zero_sub]

def refX (Y : TQ0) : TQ1 :=
  shapeCast _ (extractStridedSlice S8x4096x1024 ![0, 0, 0] Y slices_S8x4096x2048_S8x4096x1024_0_0_0) shapeCasts_S8x4096x1024_S8x4096x4x4x64

theorem refX_apply (Y : TQ0) (b : Fin 8) (p : Fin 4096) (g e : Fin 4) (d : Fin 64) :
    (refX Y (ix5 b p g e d) : EReal) = Y (ix3 b p (cx g (ce e d))) := by
  unfold refX
  pointwise
  exact congrArg (fun n => Y (ix3 b p n)) (Fin.ext (by show g.val * 256 + e.val * 64 + d.val = g.val * 256 + (e.val * 64 + d.val); omega))

def refB (Y : TQ0) : TQ5 :=
  shapeCast _ (extractStridedSlice S8x4096x512 ![0, 0, 1024] Y slices_S8x4096x2048_S8x4096x512_0_0_1024) shapeCasts_S8x4096x512_S8x4096x4x128

theorem refB_apply (Y : TQ0) (b : Fin 8) (p : Fin 4096) (g : Fin 4) (k : Fin 128) :
    (refB Y (ix4 b p g k) : EReal) = Y (ix3 b p (cb g k)) := by
  unfold refB
  pointwise
  rfl

def refC (Y : TQ0) : TQ5 :=
  shapeCast _ (extractStridedSlice S8x4096x512 ![0, 0, 1536] Y slices_S8x4096x2048_S8x4096x512_0_0_1536) shapeCasts_S8x4096x512_S8x4096x4x128

theorem refC_apply (Y : TQ0) (b : Fin 8) (p : Fin 4096) (g : Fin 4) (k : Fin 128) :
    (refC Y (ix4 b p g k) : EReal) = Y (ix3 b p (cc g k)) := by
  unfold refC
  pointwise
  rfl

def refT (A1 : FVec Ideal S32768x640 .f32) (A4 : TQ3) : TQ2 :=
  shapeCast _ (Host.log (addf (broadcastInDim S32768x16 ![] bcast_S_S32768x16 (constant S_ .f32 0x3F800000#32)) (Host.exp (addf (extractStridedSlice S32768x16 ![0, 512] A1 slices_S32768x640_S32768x16_0_512) (broadcastInDim S32768x16 ![0, 1] bcast_S1x16_S32768x16_0_1 (broadcastInDim S1x16 ![1] bcast_S16_S1x16_1 A4)))))) shapeCasts_S32768x16_S8x4096x4x4

theorem refT_apply (A1 : FVec Ideal S32768x640 .f32) (A4 : TQ3) (b : Fin 8) (p : Fin 4096) (g e : Fin 4) :
    (refT A1 A4 (ix4 b p g e) : EReal) = Ideal.log (1 + Ideal.exp (A1 (ix2 (rowI b p) (cH (he g e))) + A4 (ix1 (he g e)))) := by
  unfold refT
  pointwise
  rfl

def refL (T : TQ2) (A5 : TQ3) : TQ2 :=
  mulf T (broadcastInDim S8x4096x4x4 ![0, 1, 2, 3] bcast_S1x1x4x4_S8x4096x4x4_0_1_2_3 (broadcastInDim S1x1x4x4 ![2, 3] bcast_S4x4_S1x1x4x4_2_3 (Host.negf (shapeCast _ (Host.exp A5) shapeCasts_S16_S4x4))))

theorem refL_apply (T : TQ2) (A5 : TQ3) (b : Fin 8) (p : Fin 4096) (g e : Fin 4) :
    (refL T A5 (ix4 b p g e) : EReal) = T (ix4 b p g e) * -Ideal.exp (A5 (ix1 (he g e))) := by
  unfold refL
  pointwise
  rfl

def refU (L : TQ2) : FVec Ideal S8x4x4x4096 .f32 :=
  Host.dotGeneral dot_S8x4096x4x4_S4096x4096_S8x4x4x4096_1_1_023_0_n_n none L (uitofp .f32 (cmpi .sge (iotaInDim S4096x4096 32 0) (iotaInDim S4096x4096 32 1)))

theorem refU_apply (L : TQ2) (b : Fin 8) (g e : Fin 4) (p : Fin 4096) :
    (refU L (ix4 b g e p) : EReal) = ∑ s : Fin 4096, L (ix4 b s g e) * (if s.val ≤ p.val then 1 else 0) := by
  unfold refU
  pointwise
  refine Finset.sum_congr rfl fun s _ => congrArg (fun y => L (ix4 b s g e) * y) ?_
  rw [sge_le]
  split
  · show ((((1#1 : BitVec 1).toNat : ℕ) : ℝ) : EReal) = 1
    simp
  · show ((((0#1 : BitVec 1).toNat : ℕ) : ℝ) : EReal) = 0
    simp

def refE (U : FVec Ideal S8x4x4x4096 .f32) : TQ4 :=
  select (broadcastInDim S8x4x4x4096x4096 ![3, 4] bcast_S4096x4096_S8x4x4x4096x4096_3_4 (cmpi .sge (iotaInDim S4096x4096 32 0) (iotaInDim S4096x4096 32 1))) (Host.exp (subf (broadcastInDim S8x4x4x4096x4096 ![0, 1, 2, 3, 4] bcast_S8x4x4x4096x1_S8x4x4x4096x4096_0_1_2_3_4 (broadcastInDim S8x4x4x4096x1 ![0, 1, 2, 3] bcast_S8x4x4x4096_S8x4x4x4096x1_0_1_2_3 U)) (broadcastInDim S8x4x4x4096x4096 ![0, 1, 2, 3, 4] bcast_S8x4x4x1x4096_S8x4x4x4096x4096_0_1_2_3_4 (broadcastInDim S8x4x4x1x4096 ![0, 1, 2, 4] bcast_S8x4x4x4096_S8x4x4x1x4096_0_1_2_4 U)))) (broadcastInDim S8x4x4x4096x4096 ![] bcast_S_S8x4x4x4096x4096 (id (constant S_ .f32 0x00000000#32)))

theorem refE_apply (U : FVec Ideal S8x4x4x4096 .f32) (b : Fin 8) (g e : Fin 4) (p s : Fin 4096) :
    (refE U (ix5 b g e p s) : EReal) = if s.val ≤ p.val then Ideal.exp (U (ix4 b g e p) - U (ix4 b g e s)) else 0 := by
  unfold refE
  pointwise
  rw [sge_le]
  split
  · rfl
  · show Ideal.ofBits .f32 0x00000000#32 = 0
    simp [Ideal.ofBits, Ideal.ieee]

def refW (C B : TQ5) (E : TQ4) : TQ4 :=
  mulf (broadcastInDim S8x4x4x4096x4096 ![0, 1, 2, 3, 4] bcast_S8x4x1x4096x4096_S8x4x4x4096x4096_0_1_2_3_4 (broadcastInDim S8x4x1x4096x4096 ![0, 1, 3, 4] bcast_S8x4x4096x4096_S8x4x1x4096x4096_0_1_3_4 (Host.dotGeneral dot_S8x4096x4x128_S8x4096x4x128_S8x4x4096x4096_3_3_1_1_02_02 none C B))) E

theorem refW_apply (C B : TQ5) (E : TQ4) (b : Fin 8) (g e : Fin 4) (p s : Fin 4096) :
    (refW C B E (ix5 b g e p s) : EReal) = (∑ k : Fin 128, C (ix4 b p g k) * B (ix4 b s g k)) * E (ix5 b g e p s) := by
  unfold refW
  pointwise

def refO (X : TQ1) (T : TQ2) (W : TQ4) : TQ1 :=
  transpose S8x4096x4x4x64 [0, 4, 1, 2, 3] (Host.dotGeneral dot_S8x4096x4x4x64_S8x4x4x4096x4096_S8x4x4x64x4096_1_4_4_3_023_012 none (mulf X (broadcastInDim S8x4096x4x4x64 ![0, 1, 2, 3, 4] bcast_S8x4096x4x4x1_S8x4096x4x4x64_0_1_2_3_4 (broadcastInDim S8x4096x4x4x1 ![0, 1, 2, 3] bcast_S8x4096x4x4_S8x4096x4x4x1_0_1_2_3 T))) W) transposes_S8x4x4x64x4096_S8x4096x4x4x64_0_4_1_2_3

theorem refO_apply (X : TQ1) (T : TQ2) (W : TQ4) (b : Fin 8) (p : Fin 4096) (g e : Fin 4) (d : Fin 64) :
    (refO X T W (ix5 b p g e d) : EReal) = ∑ s : Fin 4096, X (ix5 b s g e d) * T (ix4 b s g e) * W (ix5 b g e p s) := by
  unfold refO
  pointwise

def refF (O X : TQ1) (A6 : TQ3) : TQ1 :=
  addf O (mulf (broadcastInDim S8x4096x4x4x64 ![0, 1, 2, 3, 4] bcast_S1x1x4x4x1_S8x4096x4x4x64_0_1_2_3_4 (broadcastInDim S1x1x4x4x1 ![2, 3, 4] bcast_S4x4x1_S1x1x4x4x1_2_3_4 (shapeCast _ A6 shapeCasts_S16_S4x4x1))) X)

theorem refF_apply (O X : TQ1) (A6 : TQ3) (b : Fin 8) (p : Fin 4096) (g e : Fin 4) (d : Fin 64) :
    (refF O X A6 (ix5 b p g e d) : EReal) = O (ix5 b p g e d) + A6 (ix1 (he g e)) * X (ix5 b p g e d) := by
  unfold refF
  pointwise
  rfl

def refZ (A0 : FVec Ideal S32768x6656 .bf16) : FVec Ideal S32768x1024 .f32 :=
  mulf (extf .f32 (extractStridedSlice S32768x1024 ![0, 2048] A0 slices_S32768x6656_S32768x1024_0_2048) bitsLt_bf16_f32) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 2048] A0 slices_S32768x6656_S32768x1024_0_2048) bitsLt_bf16_f32)))))

theorem refZ_apply (A0 : FVec Ideal S32768x6656 .bf16) (r : Fin 32768) (n : Fin 1024) :
    (refZ A0 (ix2 r n) : EReal) = A0 (ix2 r (cZ n)) * Ideal.div 1 (1 + Ideal.exp (0 - A0 (ix2 r (cZ n)))) := by
  unfold refZ
  pointwise
  simp only [zero_sub]
  rfl

def refG (F : TQ1) (Z : FVec Ideal S32768x1024 .f32) : FVec Ideal S32768x4x256 .f32 :=
  shapeCast _ (mulf (shapeCast _ F shapeCasts_S8x4096x4x4x64_S32768x1024) Z) shapeCasts_S32768x1024_S32768x4x256

theorem refG_apply (F : TQ1) (Z : FVec Ideal S32768x1024 .f32) (b : Fin 8) (p : Fin 4096) (g : Fin 4) (x : Fin 256) :
    (refG F Z (ix3 (rowI b p) g x) : EReal) = F (ix5 b p g ⟨x.val / 64, by omega⟩ ⟨x.val % 64, Nat.mod_lt _ (by decide)⟩) * Z (ix2 (rowI b p) (c1 g x)) := by
  unfold refG
  pointwise
  have e1 : ∀ H, (⟨(rowI b p).val / 4096, H⟩ : Fin 8) = b := fun _ => Fin.ext (by show (b.val * 4096 + p.val) / 4096 = b.val; omega)
  have e2 : ∀ H, (⟨(rowI b p).val % 4096, H⟩ : Fin 4096) = p := fun _ => Fin.ext (by show (b.val * 4096 + p.val) % 4096 = p.val; omega)
  have e3 : ∀ H, (⟨(g.val * 256 + x.val) / 64 % 4, H⟩ : Fin 4) = ⟨x.val / 64, by omega⟩ := fun _ => Fin.ext (by show (g.val * 256 + x.val) / 64 % 4 = x.val / 64; omega)
  have e4 : ∀ H, (⟨(g.val * 256 + x.val) % 64, H⟩ : Fin 64) = ⟨x.val % 64, Nat.mod_lt _ (by decide)⟩ := fun _ => Fin.ext (by show (g.val * 256 + x.val) % 64 = x.val % 64; omega)
  simp only [e1, e2, e3, e4]
  rfl

def refY (Y : FVec Ideal S32768x4x256 .f32) (A7 : FVec Ideal S1024 .f32) : FVec Ideal S32768x1024 .bf16 :=
  truncf .bf16 (shapeCast _ (mulf (mulf Y (broadcastInDim S32768x4x256 ![0, 1, 2] bcast_S32768x4x1_S32768x4x256_0_1_2 (Host.rsqrt (addf (Host.divf (broadcastInDim S32768x4x1 ![0, 1] bcast_S32768x4_S32768x4x1_0_1 (Host.reduceAdd (mulf Y Y) (constant S_ .f32 0x00000000#32) reducesTo_S32768x4x256_S32768x4_d2 h_S_)) (broadcastInDim S32768x4x1 ![] bcast_S_S32768x4x1 (constant S_ .f32 0x43800000#32))) (broadcastInDim S32768x4x1 ![] bcast_S_S32768x4x1 (constant S_ .f32 0x358637BD#32)))))) (broadcastInDim S32768x4x256 ![0, 1, 2] bcast_S1x4x256_S32768x4x256_0_1_2 (broadcastInDim S1x4x256 ![1, 2] bcast_S4x256_S1x4x256_1_2 (shapeCast _ A7 shapeCasts_S1024_S4x256)))) shapeCasts_S32768x4x256_S32768x1024) bitsLt_bf16_f32

theorem refY_apply (Y : FVec Ideal S32768x4x256 .f32) (A7 : FVec Ideal S1024 .f32) (r : Fin 32768) (g : Fin 4) (x : Fin 256) :
    (refY Y A7 (ix2 r (c1 g x)) : EReal) = Y (ix3 r g x) * Ideal.rsqrt (Ideal.div (∑ y : Fin 256, Y (ix3 r g y) * Y (ix3 r g y)) (Ideal.ofBits .f32 0x43800000#32) + Ideal.ofBits .f32 0x358637BD#32) * A7 (ix1 (c1 g x)) := by
  unfold refY
  pointwise
  have e1 : ∀ H, (⟨(c1 g x).val / 256, H⟩ : Fin 4) = g := fun _ => Fin.ext (by show (g.val * 256 + x.val) / 256 = g.val; omega)
  have e2 : ∀ H, (⟨(c1 g x).val % 256, H⟩ : Fin 256) = x := fun _ => Fin.ext (by show (g.val * 256 + x.val) % 256 = x.val; omega)
  simp only [e1, e2]

end Cert.SsdRefIdeal.Spec
-- ==== Proof.SsdVal.lean ====
module

public import proofs.«01_k».proof.Defs
public import proofs.«01_k».proof.Proof.Real
public import proofs.«01_k».proof.Proof.SsdMid
public import proofs.«01_k».proof.Proof.SsdRef
public import proofs.«01_k».proof.Proof.Gen.Pre_finite_ssd
public import proofs.«01_k».proof.Proof.Gen.SsdRefIdeal.Run

@[expose] public section

set_option maxRecDepth 16384

noncomputable section

open Idealize.ShloMosaic Idealize.ShloMosaic.TcCoe Idealize.SL.Sem
open Idealize.ShloMosaic.Pipeline (Dat)
open scoped BigOperators

namespace Cert.SsdRefIdeal.Spec

open Cert.SsdRefIdeal Cert.SsdRefIdeal.Gen Cert.Proof Cert.Proof.Ssd Cert.SsdIdeal.Spec

section
variable (A0 : FVec Ideal S32768x6656 .bf16) (A1 : FVec Ideal S32768x640 .f32) (A2 : FVec Ideal S4x2048 .f32) (A3 : FVec Ideal S2048 .f32)
  (A4 A5 A6 : FVec Ideal S16 .f32) (A7 : FVec Ideal S1024 .f32)

/-- The convolved and gated columns of the reference. -/
def refQ : FVec Ideal S8x4096x2048 .f32 := refS (refA (refP A0) A2 A3)

/-- What the positions give, in the reference. -/
def refR : FVec Ideal S8x4096x4x4x64 .f32 :=
  refO (refX (refQ A0 A2 A3)) (refT A1 A4) (refW (refC (refQ A0 A2 A3)) (refB (refQ A0 A2 A3)) (refE (refU (refL (refT A1 A4) A5))))

/-- The reference's result. -/
def refAll : FVec Ideal S32768x1024 .bf16 :=
  refY (refG (refF (refR A0 A1 A2 A3 A4 A5) (refX (refQ A0 A2 A3)) A6) (refZ A0)) A7

theorem bk_eq (b : Fin 8) (p : Fin 4096) (n : Fin 2048) (j : ℕ) (q : Fin 4099) (hq : q.val + j = 3 + p.val) (hj : j ≤ 3) :
    (refP A0 (ix3 b q n) : EReal) = bk A0 j b p n := by
  rw [refP_apply]
  unfold bk
  by_cases h : j ≤ p.val
  · rw [dif_pos h, dif_pos (by omega)]
    exact congrArg (fun p => A0 (ix2 (rowI b p) (cX n))) (Fin.ext (by show q.val - 3 = p.val - j; omega))
  · rw [dif_neg h, dif_neg (by omega)]

theorem refQ_apply (b : Fin 8) (p : Fin 4096) (n : Fin 2048) : (refQ A0 A2 A3 (ix3 b p n) : EReal) = XC A0 A2 A3 b p n := by
  unfold refQ XC
  rw [refS_apply, refA_apply, bk_eq A0 b p n 3 ⟨p.val, by omega⟩ (by show p.val + 3 = 3 + p.val; omega) (by decide),
    bk_eq A0 b p n 2 ⟨1 + p.val, by omega⟩ (by show 1 + p.val + 2 = 3 + p.val; omega) (by decide),
    bk_eq A0 b p n 1 ⟨2 + p.val, by omega⟩ (by show 2 + p.val + 1 = 3 + p.val; omega) (by decide), refP_apply, dif_pos (by show 3 ≤ 3 + p.val; omega)]
  have e : ∀ H, (⟨3 + p.val - 3, H⟩ : Fin 4096) = p := fun _ => Fin.ext (by show 3 + p.val - 3 = p.val; omega)
  simp only [e]
  refine congrArg ksilu ?_
  generalize A2 (ix2 0 n) * bk A0 3 b p n = a0
  generalize A2 (ix2 1 n) * bk A0 2 b p n = a1
  generalize A2 (ix2 2 n) * bk A0 1 b p n = a2
  generalize A2 (ix2 3 n) * A0 (ix2 (rowI b p) (cX n)) = a3
  abel

variable {A0 A1 A2 A3 A4 A5}
variable (hX : FinX A0 A1 A2 A3 A4 A5)
include hX

theorem q_eq (b : Fin 8) (p : Fin 4096) (n : Fin 2048) : (refQ A0 A2 A3 (ix3 b p n) : EReal) = ((xr A0 A2 A3 b n p.val : ℝ) : EReal) :=
  (refQ_apply A0 A2 A3 b p n).trans (xr_coe hX b n p)

theorem t_eq (b : Fin 8) (p : Fin 4096) (g e : Fin 4) : (refT A1 A4 (ix4 b p g e) : EReal) = ((DT A1 A4 b (he g e) p.val : ℝ) : EReal) := by
  rw [refT_apply, ur_coe hX b (he g e) p, toReal_coe' (hX.a4 (he g e)), ← EReal.coe_add, sp_ref]
  rfl

theorem l_eq (b : Fin 8) (p : Fin 4096) (g e : Fin 4) : (refL (refT A1 A4) A5 (ix4 b p g e) : EReal) = ((LA A1 A4 A5 b (he g e) p.val : ℝ) : EReal) := by
  rw [refL_apply, t_eq hX, toReal_coe' (hX.a5 (he g e)), iexp, ← EReal.coe_neg, ← EReal.coe_mul]
  rfl

theorem u_eq (b : Fin 8) (g e : Fin 4) (p : Fin 4096) :
    (refU (refL (refT A1 A4) A5) (ix4 b g e p) : EReal) = ((Lam (LA A1 A4 A5 b (he g e)) (p.val + 1) : ℝ) : EReal) := by
  have hi : ∀ (q : Prop) [Decidable q] (y : ℝ), (y : EReal) * (if q then (1 : EReal) else 0) = ((if q then y else 0 : ℝ) : EReal) := fun q _ y => by
    split
    · rw [mul_one]
    · rw [mul_zero, EReal.coe_zero]
  rw [refU_apply]
  simp only [l_eq hX, hi]
  rw [← coe_sum, sum_le 4096 p.val p.isLt (fun s => LA A1 A4 A5 b (he g e) s)]
  rfl

/-- What the positions give in the reference is the real sum over the positions before. -/
theorem o_eq (b : Fin 8) (p : Fin 4096) (g e : Fin 4) (d : Fin 64) :
    (refR A0 A1 A2 A3 A4 A5 (ix5 b p g e d) : EReal) = ((OR A0 A1 A2 A3 A4 A5 b p.val g (ce e d) : ℝ) : EReal) := by
  unfold refR
  rw [refO_apply]
  unfold OR Oall
  rw [he_eq, ← Fin.sum_univ_eq_sum_range (fun s => if s ≤ p.val then (∑ k, xr A0 A2 A3 b (cc g k) p.val * xr A0 A2 A3 b (cb g k) s)
    * Real.exp (Lam (LA A1 A4 A5 b (he g e)) (p.val + 1) - Lam (LA A1 A4 A5 b (he g e)) (s + 1)) * (xr A0 A2 A3 b (cx g (ce e d)) s * DT A1 A4 b (he g e) s) else 0) 4096, coe_sum]
  refine Finset.sum_congr rfl fun s _ => ?_
  rw [refW_apply, refE_apply, refX_apply, q_eq hX, t_eq hX, u_eq hX, u_eq hX]
  simp only [refC_apply, refB_apply, q_eq hX, ← EReal.coe_mul]
  rw [← coe_sum]
  split
  · rw [← EReal.coe_sub, iexp, ← EReal.coe_mul, ← EReal.coe_mul, mul_comm]
  · rw [mul_zero, mul_zero, EReal.coe_zero]

theorem ref_eq : refAll A0 A1 A2 A3 A4 A5 A6 A7 = spec A0 A1 A2 A3 A4 A5 A6 A7 := by
  funext (i : S32768x1024.Idx)
  obtain ⟨r, n, rfl⟩ : ∃ (r : Fin 32768) (n : Fin 1024), i = ix2 r n := ⟨i 0, i 1, eq_ix2 i⟩
  obtain ⟨b, p, rfl⟩ := row_of r
  obtain ⟨g, x, rfl⟩ := Cert.Proof.Ssd.col_of n
  have hg : ∀ x, (refG (refF (refR A0 A1 A2 A3 A4 A5) (refX (refQ A0 A2 A3)) A6) (refZ A0) (ix3 (rowI b p) g x) : EReal)
      = gz (fun x => ((OR A0 A1 A2 A3 A4 A5 b p.val g x : ℝ) : EReal)) (fun x => A6 (ix1 (hq g x))) (fun x => XC A0 A2 A3 b p (cx g x)) (fun x => A0 (ix2 (rowI b p) (cZ (c1 g x)))) x := fun x => by
    have e : ce ⟨x.val / 64, by omega⟩ ⟨x.val % 64, Nat.mod_lt _ (by decide)⟩ = x := Fin.ext (by show x.val / 64 * 64 + x.val % 64 = x.val; omega)
    rw [refG_apply, refF_apply, refZ_apply, o_eq hX, refX_apply, refQ_apply, e]
    rfl
  refine (refY_apply _ A7 (rowI b p) g x).trans (Eq.trans ?_ (spec_ix A0 A1 A2 A3 A4 A5 A6 A7 b p g x).symm)
  unfold resh fz
  simp only [hg]
end

theorem res_eq (m : (ℓ : Loc nD τ sig) → Buf (Elt Ideal) ℓ) (c : Dev nD) :
    Value.res_main_v106 m c = refAll (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold Value.res_main_v106 refAll refR refQ refY refG refZ refF refO refW refE refU refL refT refC refB refX refS refA refP
  rfl

theorem lt_of {a c : EReal} (h : BitVec.ofBool (decide (a < c)) = 1#1) : a < c := by
  by_contra hn
  rw [decide_eq_false hn] at h
  exact absurd h (by decide)

theorem fin_lt {a : EReal} (h : (FloatOps.absf (F := Ideal) (φ := .f32) a : EReal) < Ideal.ofBits .f32 0x7F800000#32) : Fin1 a :=
  fin_of_lt (by rw [decide_eq_true h]; rfl)

/-- The precondition says that the entries the state depends on are numbers. -/
theorem pre_of (A0 : FVec Ideal S32768x6656 .bf16) (A1 : FVec Ideal S32768x640 .f32) (A2 : FVec Ideal S4x2048 .f32) (A3 : FVec Ideal S2048 .f32)
    (A4 A5 A6 : FVec Ideal S16 .f32) (A7 : FVec Ideal S1024 .f32)
    (h : Cert.Pre_finite_ssd.fn (F := Ideal) A0 A1 A2 A3 A4 A5 A6 A7 = fun _ => 1#1) : FinX A0 A1 A2 A3 A4 A5 := by
  have hp : ∀ (r : Fin 32768) (n : Fin 2048), Fin1 (A0 (ix2 r (cX n))) ∧ (∀ j, Fin1 (A2 (ix2 j n))) ∧ Fin1 (A3 (ix1 n))
      ∧ ∀ h : n.val < 16, Fin1 (A1 (ix2 r (cH ⟨n.val, h⟩))) ∧ Fin1 (A4 (ix1 ⟨n.val, h⟩)) ∧ Fin1 (A5 (ix1 ⟨n.val, h⟩)) := fun r n => by
    have h' := congrFun h (ix2 r n)
    unfold Cert.Pre_finite_ssd.fn Cert.Pre_finite_ssd.fn_part1 Cert.Pre_finite_ssd.fn_pad Cert.Pre_finite_ssd.fn_pad_0 at h'
    pointwise at h'
    obtain ⟨h01, h2⟩ := and_one _ _ h'
    obtain ⟨h0, h1⟩ := and_one _ _ h01
    have g1 := lt_of h1
    obtain ⟨g5, g4⟩ := (max_lt_iff (α := EReal)).1 (lt_of h2)
    obtain ⟨g2, g3⟩ := (max_lt_iff (α := EReal)).1 g5
    obtain ⟨g20, g21⟩ := (max_lt_iff (α := EReal)).1 g2
    obtain ⟨k0, k1⟩ := (max_lt_iff (α := EReal)).1 g20
    obtain ⟨k2, k3⟩ := (max_lt_iff (α := EReal)).1 g21
    refine ⟨fin_of_lt h0, fun j => ?_, fin_lt g3, fun hn => ?_⟩
    · fin_cases j
      · exact fin_lt k0
      · exact fin_lt k1
      · exact fin_lt k2
      · exact fin_lt k3
    · rw [dif_pos hn] at g1 g4
      obtain ⟨q4, q5⟩ := (max_lt_iff (α := EReal)).1 g4
      exact ⟨fin_lt g1, fin_lt q4, fin_lt q5⟩
  exact ⟨fun r n => (hp r n).1, fun r h => ((hp r ⟨h.val, by omega⟩).2.2.2 h.isLt).1, fun j n => (hp 0 n).2.1 j, fun n => (hp 0 n).2.2.1,
    fun h => ((hp 0 ⟨h.val, by omega⟩).2.2.2 h.isLt).2.1, fun h => ((hp 0 ⟨h.val, by omega⟩).2.2.2 h.isLt).2.2⟩

end Cert.SsdRefIdeal.Spec

namespace Cert.Proof.SsdClaims

open Cert.SsdIdeal.Gen

/-- Where the entries are numbers, the program and the reference return the same array over the reals. -/
theorem algebraic : Cert.algebraic_SsdIdeal_SsdRefIdeal_pre_finite_ssd := fun m ρ m' ρ' hpre hag =>
  ⟨fun c => SsdIdeal.Spec.G m c,
    (θ_run _ _ _).mono (fun _ h c => ⟨(h c).1.trans (SsdIdeal.Spec.final c (SsdRefIdeal.Spec.pre_of _ _ _ _ _ _ _ _ (hpre c))), (h c).2⟩) (SsdIdeal.Value.run_blocks m ρ),
    (θ_run _ _ _).mono (fun _ h c => ⟨(h c).1.trans (by
      rw [SsdRefIdeal.Spec.res_eq m' c]
      obtain ⟨e0, e1, e2, e3, e4, e5, e6, e7⟩ := hag c
      rw [e0, e1, e2, e3, e4, e5, e6, e7]
      exact SsdRefIdeal.Spec.ref_eq _ _ (SsdRefIdeal.Spec.pre_of _ _ _ _ _ _ _ _ (hpre c))), (h c).2⟩) (SsdRefIdeal.Value.run m' ρ')⟩

end Cert.Proof.SsdClaims
-- ==== Proof.lean ====
module

public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetIdeal.Value
public import proofs.«01_k».proof.Proof.Gen.RetRefIdeal
public import proofs.«01_k».proof.Proof.Gen.RetRefIdeal.Run
public import proofs.«01_k».proof.Proof.Gen.Xa
public import proofs.«01_k».proof.Proof.Gen.Xa.Skeleton
public import proofs.«01_k».proof.Proof.Gen.Xa.Launch
public import proofs.«01_k».proof.Proof.Gen.Xa.Points
public import proofs.«01_k».proof.Proof.Gen.Xa.Frame
public import proofs.«01_k».proof.Proof.Gen.XaIdeal
public import proofs.«01_k».proof.Proof.Gen.XaIdeal.Skeleton
public import proofs.«01_k».proof.Proof.Gen.XaIdeal.Launch
public import proofs.«01_k».proof.Proof.Gen.XaIdeal.Points
public import proofs.«01_k».proof.Proof.Gen.XaIdeal.Frame
public import proofs.«01_k».proof.Proof.Gen.XaIdeal.Value
public import proofs.«01_k».proof.Proof.Gen.XaRefIdeal
public import proofs.«01_k».proof.Proof.Gen.XaRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.LastRefIdeal.Run
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdIdeal.Value
public import proofs.«01_k».proof.Proof.Gen.SsdRefIdeal
public import proofs.«01_k».proof.Proof.Gen.SsdRefIdeal.Run
public import proofs.«01_k».proof.Proof.Gen.Pre_finite_qkv
public import proofs.«01_k».proof.Proof.Gen.Pre_finite_scores
public import proofs.«01_k».proof.Proof.Gen.Pre_finite_ssd
public import proofs.«01_k».proof.Proof.RetVal
public import proofs.«01_k».proof.Proof.XaVal
public import proofs.«01_k».proof.Proof.OutVal
public import proofs.«01_k».proof.Proof.KvVal
public import proofs.«01_k».proof.Proof.InVal
public import proofs.«01_k».proof.Proof.InHand
public import proofs.«01_k».proof.Proof.InIdealHand
public import proofs.«01_k».proof.Proof.FfnVal
public import proofs.«01_k».proof.Proof.FfnHand
public import proofs.«01_k».proof.Proof.FfnIdealHand
public import proofs.«01_k».proof.Proof.LastVal
public import proofs.«01_k».proof.Proof.LastHand
public import proofs.«01_k».proof.Proof.LastIdealHand
public import proofs.«01_k».proof.Proof.SsdVal
public import Idealize.ShloMosaic.Adequacy
public import Idealize.ShloMosaic.Init

@[expose] public section

noncomputable section

namespace Cert.Proof

open Idealize.ShloMosaic Idealize.SL.Sem

theorem claim : Cert.Claim :=
  ⟨Cert.Ret.Gen.facts,
    Cert.RetIdeal.Gen.facts,
    Cert.RetRefIdeal.Gen.facts,
    Cert.Xa.Gen.facts,
    Cert.XaIdeal.Gen.facts,
    Cert.XaRefIdeal.Gen.facts,
    Cert.Out.Gen.facts,
    Cert.OutIdeal.Gen.facts,
    Cert.OutRefIdeal.Gen.facts,
    Cert.Kv.Gen.facts,
    Cert.KvIdeal.Gen.facts,
    Cert.KvRefIdeal.Gen.facts,
    Cert.In.Gen.facts,
    Cert.InIdeal.Gen.facts,
    Cert.InRefIdeal.Gen.facts,
    Cert.Ffn.Gen.facts,
    Cert.FfnIdeal.Gen.facts,
    Cert.FfnRefIdeal.Gen.facts,
    Cert.Last.Gen.facts,
    Cert.LastIdeal.Gen.facts,
    Cert.LastRefIdeal.Gen.facts,
    Cert.Ssd.Gen.facts,
    Cert.SsdIdeal.Gen.facts,
    Cert.SsdRefIdeal.Gen.facts,
    Cert.Pre_finite_qkv.Gen.facts,
    Cert.Pre_finite_scores.Gen.facts,
    Cert.Pre_finite_ssd.Gen.facts,
    fun m ρ _ => Cert.Ret.Gen.frame m ρ,
    fun m ρ _ => Cert.RetIdeal.Gen.frame m ρ,
    fun m ρ _ => Cert.RetIdeal.Gen.frame m ρ,
    fun m ρ _ => (θ_run Cert.RetRefIdeal.defs _ _).mono (fun r h => ⟨fun c => (h c).2, Idealize.ShloMosaic.sem_eq_zero_of_no_sems (by decide) r.2⟩) (Cert.RetRefIdeal.Value.run (F := Ideal) m ρ),
    fun m ρ _ => (θ_run Cert.RetRefIdeal.defs _ _).mono (fun r h => ⟨fun c => (h c).2, Idealize.ShloMosaic.sem_eq_zero_of_no_sems (by decide) r.2⟩) (Cert.RetRefIdeal.Value.run (F := Ideal) m ρ),
    fun m ρ _ => Cert.Xa.Gen.frame m ρ,
    fun m ρ _ => Cert.XaIdeal.Gen.frame m ρ,
    fun m ρ _ => Cert.XaIdeal.Gen.frame m ρ,
    fun m ρ _ => (θ_run Cert.XaRefIdeal.defs _ _).mono (fun r h => ⟨fun c => (h c).2, Idealize.ShloMosaic.sem_eq_zero_of_no_sems (by decide) r.2⟩) (Cert.XaRefIdeal.Value.run (F := Ideal) m ρ),
    fun m ρ _ => (θ_run Cert.XaRefIdeal.defs _ _).mono (fun r h => ⟨fun c => (h c).2, Idealize.ShloMosaic.sem_eq_zero_of_no_sems (by decide) r.2⟩) (Cert.XaRefIdeal.Value.run (F := Ideal) m ρ),
    fun m ρ _ => Cert.Out.Gen.frame m ρ,
    fun m ρ _ => Cert.OutIdeal.Gen.frame m ρ,
    fun m ρ _ => (θ_run Cert.OutRefIdeal.defs _ _).mono (fun r h => ⟨fun c => (h c).2, Idealize.ShloMosaic.sem_eq_zero_of_no_sems (by decide) r.2⟩) (Cert.OutRefIdeal.Value.run (F := Ideal) m ρ),
    fun m ρ _ => Cert.Kv.Gen.frame m ρ,
    fun m ρ _ => Cert.KvIdeal.Gen.frame m ρ,
    fun m ρ _ => (θ_run Cert.KvRefIdeal.defs _ _).mono (fun r h => ⟨fun c => (h c).2, Idealize.ShloMosaic.sem_eq_zero_of_no_sems (by decide) r.2⟩) (Cert.KvRefIdeal.Value.run (F := Ideal) m ρ),
    Cert.In.Hand.frame,
    fun m ρ _ => Cert.InIdeal.Hand.frame m ρ,
    fun m ρ _ => (θ_run Cert.InRefIdeal.defs _ _).mono (fun r h => ⟨fun c => (h c).2.2, Idealize.ShloMosaic.sem_eq_zero_of_no_sems (by decide) r.2⟩) (Cert.InRefIdeal.Value.run (F := Ideal) m ρ),
    Cert.Ffn.Hand.frame,
    fun m ρ _ => Cert.FfnIdeal.Hand.frame m ρ,
    fun m ρ _ => (θ_run Cert.FfnRefIdeal.defs _ _).mono (fun r h => ⟨fun c => (h c).2, Idealize.ShloMosaic.sem_eq_zero_of_no_sems (by decide) r.2⟩) (Cert.FfnRefIdeal.Value.run (F := Ideal) m ρ),
    Cert.Last.Hand.frame,
    fun m ρ _ => Cert.LastIdeal.Hand.frame m ρ,
    fun m ρ _ => (θ_run Cert.LastRefIdeal.defs _ _).mono (fun r h => ⟨fun c => (h c).2, Idealize.ShloMosaic.sem_eq_zero_of_no_sems (by decide) r.2⟩) (Cert.LastRefIdeal.Value.run (F := Ideal) m ρ),
    fun m ρ _ => Cert.Ssd.Gen.frame m ρ,
    fun m ρ _ => Cert.SsdIdeal.Gen.frame m ρ,
    fun m ρ _ => Cert.SsdIdeal.Gen.frame m ρ,
    fun m ρ _ => (θ_run Cert.SsdRefIdeal.defs _ _).mono (fun r h => ⟨fun c => (h c).2, Idealize.ShloMosaic.sem_eq_zero_of_no_sems (by decide) r.2⟩) (Cert.SsdRefIdeal.Value.run (F := Ideal) m ρ),
    fun m ρ _ => (θ_run Cert.SsdRefIdeal.defs _ _).mono (fun r h => ⟨fun c => (h c).2, Idealize.ShloMosaic.sem_eq_zero_of_no_sems (by decide) r.2⟩) (Cert.SsdRefIdeal.Value.run (F := Ideal) m ρ),
    RetClaims.preserves,
    RetClaims.algebraic,
    trivial,
    XaClaims.algebraic,
    trivial,
    OutClaims.algebraic,
    trivial,
    KvClaims.algebraic,
    trivial,
    InClaims.algebraic,
    trivial,
    FfnClaims.algebraic,
    trivial,
    LastClaims.algebraic,
    trivial,
    SsdClaims.algebraic⟩

end Cert.Proof

end
